-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_cotangent [hPre_finite_cotangent : Cert.Pre_finite_cotangent.Facts] (m : (ℓ : Loc Cert.KernelIdeal.nD Cert.KernelIdeal.τ Cert.KernelIdeal.sig) → Buf (Elt Ideal) ℓ) : Prop :=
  ∀ c : Dev Cert.KernelIdeal.nD,
    (Cert.Pre_finite_cotangent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_cotangent [hPre_finite_cotangent : Cert.Pre_finite_cotangent.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_cotangent.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_head [hPre_finite_head : Cert.Pre_finite_head.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_head.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_head [hPre_finite_head : Cert.Pre_finite_head.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_head.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn [hPre_finite_ffn : Cert.Pre_finite_ffn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn [hPre_finite_ffn : Cert.Pre_finite_ffn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_bounded_decays [hPre_bounded_decays : Cert.Pre_bounded_decays.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_bounded_decays.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_bounded_decays [hPre_bounded_decays : Cert.Pre_bounded_decays.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_bounded_decays.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_cotangent [hKernelIdeal : Cert.KernelIdeal.Facts] [hPre_finite_cotangent : Cert.Pre_finite_cotangent.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_cotangent m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_cotangent [hReferenceIdeal : Cert.ReferenceIdeal.Facts] [hPre_finite_cotangent : Cert.Pre_finite_cotangent.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_cotangent m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_head [hKernel2Ideal : Cert.Kernel2Ideal.Facts] [hPre_finite_head : Cert.Pre_finite_head.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_head m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_head [hReference2Ideal : Cert.Reference2Ideal.Facts] [hPre_finite_head : Cert.Pre_finite_head.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_head m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_ffn [hKernel3Ideal : Cert.Kernel3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_ffn [hReference3Ideal : Cert.Reference3Ideal.Facts] [hPre_finite_ffn : Cert.Pre_finite_ffn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_bounded_decays [hKernel11Ideal : Cert.Kernel11Ideal.Facts] [hPre_bounded_decays : Cert.Pre_bounded_decays.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_bounded_decays m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_bounded_decays [hReference11Ideal : Cert.Reference11Ideal.Facts] [hPre_bounded_decays : Cert.Pre_bounded_decays.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_bounded_decays m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12)
      ∧ r.2.mem ((c.tc : Thread Cert.Kernel12.nD Cert.Kernel12.τ).loc Cert.Kernel12.main_arg13) = m ((c.tc : Thread Cert.Kernel12.nD Cert.Kernel12.τ).loc Cert.Kernel12.main_arg13)
      ∧ r.2.mem ((c.tc : Thread Cert.Kernel12.nD Cert.Kernel12.τ).loc Cert.Kernel12.main_arg14) = m ((c.tc : Thread Cert.Kernel12.nD Cert.Kernel12.τ).loc Cert.Kernel12.main_arg14)
      ∧ r.2.mem ((c.tc : Thread Cert.Kernel12.nD Cert.Kernel12.τ).loc Cert.Kernel12.main_arg15) = m ((c.tc : Thread Cert.Kernel12.nD Cert.Kernel12.τ).loc Cert.Kernel12.main_arg15)
      ∧ r.2.mem ((c.tc : Thread Cert.Kernel12.nD Cert.Kernel12.τ).loc Cert.Kernel12.main_arg16) = m ((c.tc : Thread Cert.Kernel12.nD Cert.Kernel12.τ).loc Cert.Kernel12.main_arg16)
      ∧ r.2.mem ((c.tc : Thread Cert.Kernel12.nD Cert.Kernel12.τ).loc Cert.Kernel12.main_arg17) = m ((c.tc : Thread Cert.Kernel12.nD Cert.Kernel12.τ).loc Cert.Kernel12.main_arg17)
      ∧ r.2.mem ((c.tc : Thread Cert.Kernel12.nD Cert.Kernel12.τ).loc Cert.Kernel12.main_arg18) = m ((c.tc : Thread Cert.Kernel12.nD Cert.Kernel12.τ).loc Cert.Kernel12.main_arg18)
      ∧ r.2.mem ((c.tc : Thread Cert.Kernel12.nD Cert.Kernel12.τ).loc Cert.Kernel12.main_arg19) = m ((c.tc : Thread Cert.Kernel12.nD Cert.Kernel12.τ).loc Cert.Kernel12.main_arg19)
      ∧ r.2.mem ((c.tc : Thread Cert.Kernel12.nD Cert.Kernel12.τ).loc Cert.Kernel12.main_arg20) = m ((c.tc : Thread Cert.Kernel12.nD Cert.Kernel12.τ).loc Cert.Kernel12.main_arg20)
      ∧ r.2.mem ((c.tc : Thread Cert.Kernel12.nD Cert.Kernel12.τ).loc Cert.Kernel12.main_arg21) = m ((c.tc : Thread Cert.Kernel12.nD Cert.Kernel12.τ).loc Cert.Kernel12.main_arg21)
      ∧ r.2.mem ((c.tc : Thread Cert.Kernel12.nD Cert.Kernel12.τ).loc Cert.Kernel12.main_arg22) = m ((c.tc : Thread Cert.Kernel12.nD Cert.Kernel12.τ).loc Cert.Kernel12.main_arg22)
      ∧ r.2.mem ((c.tc : Thread Cert.Kernel12.nD Cert.Kernel12.τ).loc Cert.Kernel12.main_arg23) = m ((c.tc : Thread Cert.Kernel12.nD Cert.Kernel12.τ).loc Cert.Kernel12.main_arg23)
      ∧ r.2.mem ((c.tc : Thread Cert.Kernel12.nD Cert.Kernel12.τ).loc Cert.Kernel12.main_arg24) = m ((c.tc : Thread Cert.Kernel12.nD Cert.Kernel12.τ).loc Cert.Kernel12.main_arg24)
      ∧ r.2.mem ((c.tc : Thread Cert.Kernel12.nD Cert.Kernel12.τ).loc Cert.Kernel12.main_arg25) = m ((c.tc : Thread Cert.Kernel12.nD Cert.Kernel12.τ).loc Cert.Kernel12.main_arg25)
      ∧ r.2.mem ((c.tc : Thread Cert.Kernel12.nD Cert.Kernel12.τ).loc Cert.Kernel12.main_arg26) = m ((c.tc : Thread Cert.Kernel12.nD Cert.Kernel12.τ).loc Cert.Kernel12.main_arg26)
      ∧ r.2.mem ((c.tc : Thread Cert.Kernel12.nD Cert.Kernel12.τ).loc Cert.Kernel12.main_arg27) = m ((c.tc : Thread Cert.Kernel12.nD Cert.Kernel12.τ).loc Cert.Kernel12.main_arg27)
      ∧ r.2.mem ((c.tc : Thread Cert.Kernel12.nD Cert.Kernel12.τ).loc Cert.Kernel12.main_arg28) = m ((c.tc : Thread Cert.Kernel12.nD Cert.Kernel12.τ).loc Cert.Kernel12.main_arg28)
      ∧ r.2.mem ((c.tc : Thread Cert.Kernel12.nD Cert.Kernel12.τ).loc Cert.Kernel12.main_arg29) = m ((c.tc : Thread Cert.Kernel12.nD Cert.Kernel12.τ).loc Cert.Kernel12.main_arg29)
      ∧ r.2.mem ((c.tc : Thread Cert.Kernel12.nD Cert.Kernel12.τ).loc Cert.Kernel12.main_arg30) = m ((c.tc : Thread Cert.Kernel12.nD Cert.Kernel12.τ).loc Cert.Kernel12.main_arg30)
      ∧ r.2.mem ((c.tc : Thread Cert.Kernel12.nD Cert.Kernel12.τ).loc Cert.Kernel12.main_arg31) = m ((c.tc : Thread Cert.Kernel12.nD Cert.Kernel12.τ).loc Cert.Kernel12.main_arg31)
      ∧ r.2.mem ((c.tc : Thread Cert.Kernel12.nD Cert.Kernel12.τ).loc Cert.Kernel12.main_arg32) = m ((c.tc : Thread Cert.Kernel12.nD Cert.Kernel12.τ).loc Cert.Kernel12.main_arg32)
      ∧ r.2.mem ((c.tc : Thread Cert.Kernel12.nD Cert.Kernel12.τ).loc Cert.Kernel12.main_arg33) = m ((c.tc : Thread Cert.Kernel12.nD Cert.Kernel12.τ).loc Cert.Kernel12.main_arg33)
      ∧ r.2.mem ((c.tc : Thread Cert.Kernel12.nD Cert.Kernel12.τ).loc Cert.Kernel12.main_arg34) = m ((c.tc : Thread Cert.Kernel12.nD Cert.Kernel12.τ).loc Cert.Kernel12.main_arg34)
      ∧ r.2.mem ((c.tc : Thread Cert.Kernel12.nD Cert.Kernel12.τ).loc Cert.Kernel12.main_arg35) = m ((c.tc : Thread Cert.Kernel12.nD Cert.Kernel12.τ).loc Cert.Kernel12.main_arg35)
      ∧ r.2.mem ((c.tc : Thread Cert.Kernel12.nD Cert.Kernel12.τ).loc Cert.Kernel12.main_arg36) = m ((c.tc : Thread Cert.Kernel12.nD Cert.Kernel12.τ).loc Cert.Kernel12.main_arg36)
      ∧ r.2.mem ((c.tc : Thread Cert.Kernel12.nD Cert.Kernel12.τ).loc Cert.Kernel12.main_arg37) = m ((c.tc : Thread Cert.Kernel12.nD Cert.Kernel12.τ).loc Cert.Kernel12.main_arg37)
      ∧ r.2.mem ((c.tc : Thread Cert.Kernel12.nD Cert.Kernel12.τ).loc Cert.Kernel12.main_arg38) = m ((c.tc : Thread Cert.Kernel12.nD Cert.Kernel12.τ).loc Cert.Kernel12.main_arg38)
      ∧ r.2.mem ((c.tc : Thread Cert.Kernel12.nD Cert.Kernel12.τ).loc Cert.Kernel12.main_arg39) = m ((c.tc : Thread Cert.Kernel12.nD Cert.Kernel12.τ).loc Cert.Kernel12.main_arg39)
      ∧ r.2.mem ((c.tc : Thread Cert.Kernel12.nD Cert.Kernel12.τ).loc Cert.Kernel12.main_arg40) = m ((c.tc : Thread Cert.Kernel12.nD Cert.Kernel12.τ).loc Cert.Kernel12.main_arg40)
      ∧ r.2.mem ((c.tc : Thread Cert.Kernel12.nD Cert.Kernel12.τ).loc Cert.Kernel12.main_arg41) = m ((c.tc : Thread Cert.Kernel12.nD Cert.Kernel12.τ).loc Cert.Kernel12.main_arg41)
      ∧ r.2.mem ((c.tc : Thread Cert.Kernel12.nD Cert.Kernel12.τ).loc Cert.Kernel12.main_arg42) = m ((c.tc : Thread Cert.Kernel12.nD Cert.Kernel12.τ).loc Cert.Kernel12.main_arg42)
      ∧ r.2.mem ((c.tc : Thread Cert.Kernel12.nD Cert.Kernel12.τ).loc Cert.Kernel12.main_arg43) = m ((c.tc : Thread Cert.Kernel12.nD Cert.Kernel12.τ).loc Cert.Kernel12.main_arg43))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
      ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
      ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
      ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
      ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
      ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19)
      ∧ r.2.mem ((c.tc : Thread Cert.Kernel12Ideal.nD Cert.Kernel12Ideal.τ).loc Cert.Kernel12Ideal.main_arg20) = m ((c.tc : Thread Cert.Kernel12Ideal.nD Cert.Kernel12Ideal.τ).loc Cert.Kernel12Ideal.main_arg20)
      ∧ r.2.mem ((c.tc : Thread Cert.Kernel12Ideal.nD Cert.Kernel12Ideal.τ).loc Cert.Kernel12Ideal.main_arg21) = m ((c.tc : Thread Cert.Kernel12Ideal.nD Cert.Kernel12Ideal.τ).loc Cert.Kernel12Ideal.main_arg21)
      ∧ r.2.mem ((c.tc : Thread Cert.Kernel12Ideal.nD Cert.Kernel12Ideal.τ).loc Cert.Kernel12Ideal.main_arg22) = m ((c.tc : Thread Cert.Kernel12Ideal.nD Cert.Kernel12Ideal.τ).loc Cert.Kernel12Ideal.main_arg22)
      ∧ r.2.mem ((c.tc : Thread Cert.Kernel12Ideal.nD Cert.Kernel12Ideal.τ).loc Cert.Kernel12Ideal.main_arg23) = m ((c.tc : Thread Cert.Kernel12Ideal.nD Cert.Kernel12Ideal.τ).loc Cert.Kernel12Ideal.main_arg23)
      ∧ r.2.mem ((c.tc : Thread Cert.Kernel12Ideal.nD Cert.Kernel12Ideal.τ).loc Cert.Kernel12Ideal.main_arg24) = m ((c.tc : Thread Cert.Kernel12Ideal.nD Cert.Kernel12Ideal.τ).loc Cert.Kernel12Ideal.main_arg24)
      ∧ r.2.mem ((c.tc : Thread Cert.Kernel12Ideal.nD Cert.Kernel12Ideal.τ).loc Cert.Kernel12Ideal.main_arg25) = m ((c.tc : Thread Cert.Kernel12Ideal.nD Cert.Kernel12Ideal.τ).loc Cert.Kernel12Ideal.main_arg25)
      ∧ r.2.mem ((c.tc : Thread Cert.Kernel12Ideal.nD Cert.Kernel12Ideal.τ).loc Cert.Kernel12Ideal.main_arg26) = m ((c.tc : Thread Cert.Kernel12Ideal.nD Cert.Kernel12Ideal.τ).loc Cert.Kernel12Ideal.main_arg26)
      ∧ r.2.mem ((c.tc : Thread Cert.Kernel12Ideal.nD Cert.Kernel12Ideal.τ).loc Cert.Kernel12Ideal.main_arg27) = m ((c.tc : Thread Cert.Kernel12Ideal.nD Cert.Kernel12Ideal.τ).loc Cert.Kernel12Ideal.main_arg27)
      ∧ r.2.mem ((c.tc : Thread Cert.Kernel12Ideal.nD Cert.Kernel12Ideal.τ).loc Cert.Kernel12Ideal.main_arg28) = m ((c.tc : Thread Cert.Kernel12Ideal.nD Cert.Kernel12Ideal.τ).loc Cert.Kernel12Ideal.main_arg28)
      ∧ r.2.mem ((c.tc : Thread Cert.Kernel12Ideal.nD Cert.Kernel12Ideal.τ).loc Cert.Kernel12Ideal.main_arg29) = m ((c.tc : Thread Cert.Kernel12Ideal.nD Cert.Kernel12Ideal.τ).loc Cert.Kernel12Ideal.main_arg29)
      ∧ r.2.mem ((c.tc : Thread Cert.Kernel12Ideal.nD Cert.Kernel12Ideal.τ).loc Cert.Kernel12Ideal.main_arg30) = m ((c.tc : Thread Cert.Kernel12Ideal.nD Cert.Kernel12Ideal.τ).loc Cert.Kernel12Ideal.main_arg30)
      ∧ r.2.mem ((c.tc : Thread Cert.Kernel12Ideal.nD Cert.Kernel12Ideal.τ).loc Cert.Kernel12Ideal.main_arg31) = m ((c.tc : Thread Cert.Kernel12Ideal.nD Cert.Kernel12Ideal.τ).loc Cert.Kernel12Ideal.main_arg31)
      ∧ r.2.mem ((c.tc : Thread Cert.Kernel12Ideal.nD Cert.Kernel12Ideal.τ).loc Cert.Kernel12Ideal.main_arg32) = m ((c.tc : Thread Cert.Kernel12Ideal.nD Cert.Kernel12Ideal.τ).loc Cert.Kernel12Ideal.main_arg32)
      ∧ r.2.mem ((c.tc : Thread Cert.Kernel12Ideal.nD Cert.Kernel12Ideal.τ).loc Cert.Kernel12Ideal.main_arg33) = m ((c.tc : Thread Cert.Kernel12Ideal.nD Cert.Kernel12Ideal.τ).loc Cert.Kernel12Ideal.main_arg33)
      ∧ r.2.mem ((c.tc : Thread Cert.Kernel12Ideal.nD Cert.Kernel12Ideal.τ).loc Cert.Kernel12Ideal.main_arg34) = m ((c.tc : Thread Cert.Kernel12Ideal.nD Cert.Kernel12Ideal.τ).loc Cert.Kernel12Ideal.main_arg34)
      ∧ r.2.mem ((c.tc : Thread Cert.Kernel12Ideal.nD Cert.Kernel12Ideal.τ).loc Cert.Kernel12Ideal.main_arg35) = m ((c.tc : Thread Cert.Kernel12Ideal.nD Cert.Kernel12Ideal.τ).loc Cert.Kernel12Ideal.main_arg35)
      ∧ r.2.mem ((c.tc : Thread Cert.Kernel12Ideal.nD Cert.Kernel12Ideal.τ).loc Cert.Kernel12Ideal.main_arg36) = m ((c.tc : Thread Cert.Kernel12Ideal.nD Cert.Kernel12Ideal.τ).loc Cert.Kernel12Ideal.main_arg36)
      ∧ r.2.mem ((c.tc : Thread Cert.Kernel12Ideal.nD Cert.Kernel12Ideal.τ).loc Cert.Kernel12Ideal.main_arg37) = m ((c.tc : Thread Cert.Kernel12Ideal.nD Cert.Kernel12Ideal.τ).loc Cert.Kernel12Ideal.main_arg37)
      ∧ r.2.mem ((c.tc : Thread Cert.Kernel12Ideal.nD Cert.Kernel12Ideal.τ).loc Cert.Kernel12Ideal.main_arg38) = m ((c.tc : Thread Cert.Kernel12Ideal.nD Cert.Kernel12Ideal.τ).loc Cert.Kernel12Ideal.main_arg38)
      ∧ r.2.mem ((c.tc : Thread Cert.Kernel12Ideal.nD Cert.Kernel12Ideal.τ).loc Cert.Kernel12Ideal.main_arg39) = m ((c.tc : Thread Cert.Kernel12Ideal.nD Cert.Kernel12Ideal.τ).loc Cert.Kernel12Ideal.main_arg39)
      ∧ r.2.mem ((c.tc : Thread Cert.Kernel12Ideal.nD Cert.Kernel12Ideal.τ).loc Cert.Kernel12Ideal.main_arg40) = m ((c.tc : Thread Cert.Kernel12Ideal.nD Cert.Kernel12Ideal.τ).loc Cert.Kernel12Ideal.main_arg40)
      ∧ r.2.mem ((c.tc : Thread Cert.Kernel12Ideal.nD Cert.Kernel12Ideal.τ).loc Cert.Kernel12Ideal.main_arg41) = m ((c.tc : Thread Cert.Kernel12Ideal.nD Cert.Kernel12Ideal.τ).loc Cert.Kernel12Ideal.main_arg41)
      ∧ r.2.mem ((c.tc : Thread Cert.Kernel12Ideal.nD Cert.Kernel12Ideal.τ).loc Cert.Kernel12Ideal.main_arg42) = m ((c.tc : Thread Cert.Kernel12Ideal.nD Cert.Kernel12Ideal.τ).loc Cert.Kernel12Ideal.main_arg42)
      ∧ r.2.mem ((c.tc : Thread Cert.Kernel12Ideal.nD Cert.Kernel12Ideal.τ).loc Cert.Kernel12Ideal.main_arg43) = m ((c.tc : Thread Cert.Kernel12Ideal.nD Cert.Kernel12Ideal.τ).loc Cert.Kernel12Ideal.main_arg43))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12)
      ∧ r.2.mem ((c.tc : Thread Cert.Reference12Ideal.nD Cert.Reference12Ideal.τ).loc Cert.Reference12Ideal.main_arg13) = m ((c.tc : Thread Cert.Reference12Ideal.nD Cert.Reference12Ideal.τ).loc Cert.Reference12Ideal.main_arg13)
      ∧ r.2.mem ((c.tc : Thread Cert.Reference12Ideal.nD Cert.Reference12Ideal.τ).loc Cert.Reference12Ideal.main_arg14) = m ((c.tc : Thread Cert.Reference12Ideal.nD Cert.Reference12Ideal.τ).loc Cert.Reference12Ideal.main_arg14)
      ∧ r.2.mem ((c.tc : Thread Cert.Reference12Ideal.nD Cert.Reference12Ideal.τ).loc Cert.Reference12Ideal.main_arg15) = m ((c.tc : Thread Cert.Reference12Ideal.nD Cert.Reference12Ideal.τ).loc Cert.Reference12Ideal.main_arg15)
      ∧ r.2.mem ((c.tc : Thread Cert.Reference12Ideal.nD Cert.Reference12Ideal.τ).loc Cert.Reference12Ideal.main_arg16) = m ((c.tc : Thread Cert.Reference12Ideal.nD Cert.Reference12Ideal.τ).loc Cert.Reference12Ideal.main_arg16)
      ∧ r.2.mem ((c.tc : Thread Cert.Reference12Ideal.nD Cert.Reference12Ideal.τ).loc Cert.Reference12Ideal.main_arg17) = m ((c.tc : Thread Cert.Reference12Ideal.nD Cert.Reference12Ideal.τ).loc Cert.Reference12Ideal.main_arg17)
      ∧ r.2.mem ((c.tc : Thread Cert.Reference12Ideal.nD Cert.Reference12Ideal.τ).loc Cert.Reference12Ideal.main_arg18) = m ((c.tc : Thread Cert.Reference12Ideal.nD Cert.Reference12Ideal.τ).loc Cert.Reference12Ideal.main_arg18)
      ∧ r.2.mem ((c.tc : Thread Cert.Reference12Ideal.nD Cert.Reference12Ideal.τ).loc Cert.Reference12Ideal.main_arg19) = m ((c.tc : Thread Cert.Reference12Ideal.nD Cert.Reference12Ideal.τ).loc Cert.Reference12Ideal.main_arg19)
      ∧ r.2.mem ((c.tc : Thread Cert.Reference12Ideal.nD Cert.Reference12Ideal.τ).loc Cert.Reference12Ideal.main_arg20) = m ((c.tc : Thread Cert.Reference12Ideal.nD Cert.Reference12Ideal.τ).loc Cert.Reference12Ideal.main_arg20)
      ∧ r.2.mem ((c.tc : Thread Cert.Reference12Ideal.nD Cert.Reference12Ideal.τ).loc Cert.Reference12Ideal.main_arg21) = m ((c.tc : Thread Cert.Reference12Ideal.nD Cert.Reference12Ideal.τ).loc Cert.Reference12Ideal.main_arg21)
      ∧ r.2.mem ((c.tc : Thread Cert.Reference12Ideal.nD Cert.Reference12Ideal.τ).loc Cert.Reference12Ideal.main_arg22) = m ((c.tc : Thread Cert.Reference12Ideal.nD Cert.Reference12Ideal.τ).loc Cert.Reference12Ideal.main_arg22)
      ∧ r.2.mem ((c.tc : Thread Cert.Reference12Ideal.nD Cert.Reference12Ideal.τ).loc Cert.Reference12Ideal.main_arg23) = m ((c.tc : Thread Cert.Reference12Ideal.nD Cert.Reference12Ideal.τ).loc Cert.Reference12Ideal.main_arg23)
      ∧ r.2.mem ((c.tc : Thread Cert.Reference12Ideal.nD Cert.Reference12Ideal.τ).loc Cert.Reference12Ideal.main_arg24) = m ((c.tc : Thread Cert.Reference12Ideal.nD Cert.Reference12Ideal.τ).loc Cert.Reference12Ideal.main_arg24)
      ∧ r.2.mem ((c.tc : Thread Cert.Reference12Ideal.nD Cert.Reference12Ideal.τ).loc Cert.Reference12Ideal.main_arg25) = m ((c.tc : Thread Cert.Reference12Ideal.nD Cert.Reference12Ideal.τ).loc Cert.Reference12Ideal.main_arg25)
      ∧ r.2.mem ((c.tc : Thread Cert.Reference12Ideal.nD Cert.Reference12Ideal.τ).loc Cert.Reference12Ideal.main_arg26) = m ((c.tc : Thread Cert.Reference12Ideal.nD Cert.Reference12Ideal.τ).loc Cert.Reference12Ideal.main_arg26)
      ∧ r.2.mem ((c.tc : Thread Cert.Reference12Ideal.nD Cert.Reference12Ideal.τ).loc Cert.Reference12Ideal.main_arg27) = m ((c.tc : Thread Cert.Reference12Ideal.nD Cert.Reference12Ideal.τ).loc Cert.Reference12Ideal.main_arg27)
      ∧ r.2.mem ((c.tc : Thread Cert.Reference12Ideal.nD Cert.Reference12Ideal.τ).loc Cert.Reference12Ideal.main_arg28) = m ((c.tc : Thread Cert.Reference12Ideal.nD Cert.Reference12Ideal.τ).loc Cert.Reference12Ideal.main_arg28)
      ∧ r.2.mem ((c.tc : Thread Cert.Reference12Ideal.nD Cert.Reference12Ideal.τ).loc Cert.Reference12Ideal.main_arg29) = m ((c.tc : Thread Cert.Reference12Ideal.nD Cert.Reference12Ideal.τ).loc Cert.Reference12Ideal.main_arg29)
      ∧ r.2.mem ((c.tc : Thread Cert.Reference12Ideal.nD Cert.Reference12Ideal.τ).loc Cert.Reference12Ideal.main_arg30) = m ((c.tc : Thread Cert.Reference12Ideal.nD Cert.Reference12Ideal.τ).loc Cert.Reference12Ideal.main_arg30)
      ∧ r.2.mem ((c.tc : Thread Cert.Reference12Ideal.nD Cert.Reference12Ideal.τ).loc Cert.Reference12Ideal.main_arg31) = m ((c.tc : Thread Cert.Reference12Ideal.nD Cert.Reference12Ideal.τ).loc Cert.Reference12Ideal.main_arg31)
      ∧ r.2.mem ((c.tc : Thread Cert.Reference12Ideal.nD Cert.Reference12Ideal.τ).loc Cert.Reference12Ideal.main_arg32) = m ((c.tc : Thread Cert.Reference12Ideal.nD Cert.Reference12Ideal.τ).loc Cert.Reference12Ideal.main_arg32)
      ∧ r.2.mem ((c.tc : Thread Cert.Reference12Ideal.nD Cert.Reference12Ideal.τ).loc Cert.Reference12Ideal.main_arg33) = m ((c.tc : Thread Cert.Reference12Ideal.nD Cert.Reference12Ideal.τ).loc Cert.Reference12Ideal.main_arg33)
      ∧ r.2.mem ((c.tc : Thread Cert.Reference12Ideal.nD Cert.Reference12Ideal.τ).loc Cert.Reference12Ideal.main_arg34) = m ((c.tc : Thread Cert.Reference12Ideal.nD Cert.Reference12Ideal.τ).loc Cert.Reference12Ideal.main_arg34)
      ∧ r.2.mem ((c.tc : Thread Cert.Reference12Ideal.nD Cert.Reference12Ideal.τ).loc Cert.Reference12Ideal.main_arg35) = m ((c.tc : Thread Cert.Reference12Ideal.nD Cert.Reference12Ideal.τ).loc Cert.Reference12Ideal.main_arg35)
      ∧ r.2.mem ((c.tc : Thread Cert.Reference12Ideal.nD Cert.Reference12Ideal.τ).loc Cert.Reference12Ideal.main_arg36) = m ((c.tc : Thread Cert.Reference12Ideal.nD Cert.Reference12Ideal.τ).loc Cert.Reference12Ideal.main_arg36)
      ∧ r.2.mem ((c.tc : Thread Cert.Reference12Ideal.nD Cert.Reference12Ideal.τ).loc Cert.Reference12Ideal.main_arg37) = m ((c.tc : Thread Cert.Reference12Ideal.nD Cert.Reference12Ideal.τ).loc Cert.Reference12Ideal.main_arg37)
      ∧ r.2.mem ((c.tc : Thread Cert.Reference12Ideal.nD Cert.Reference12Ideal.τ).loc Cert.Reference12Ideal.main_arg38) = m ((c.tc : Thread Cert.Reference12Ideal.nD Cert.Reference12Ideal.τ).loc Cert.Reference12Ideal.main_arg38)
      ∧ r.2.mem ((c.tc : Thread Cert.Reference12Ideal.nD Cert.Reference12Ideal.τ).loc Cert.Reference12Ideal.main_arg39) = m ((c.tc : Thread Cert.Reference12Ideal.nD Cert.Reference12Ideal.τ).loc Cert.Reference12Ideal.main_arg39)
      ∧ r.2.mem ((c.tc : Thread Cert.Reference12Ideal.nD Cert.Reference12Ideal.τ).loc Cert.Reference12Ideal.main_arg40) = m ((c.tc : Thread Cert.Reference12Ideal.nD Cert.Reference12Ideal.τ).loc Cert.Reference12Ideal.main_arg40)
      ∧ r.2.mem ((c.tc : Thread Cert.Reference12Ideal.nD Cert.Reference12Ideal.τ).loc Cert.Reference12Ideal.main_arg41) = m ((c.tc : Thread Cert.Reference12Ideal.nD Cert.Reference12Ideal.τ).loc Cert.Reference12Ideal.main_arg41)
      ∧ r.2.mem ((c.tc : Thread Cert.Reference12Ideal.nD Cert.Reference12Ideal.τ).loc Cert.Reference12Ideal.main_arg42) = m ((c.tc : Thread Cert.Reference12Ideal.nD Cert.Reference12Ideal.τ).loc Cert.Reference12Ideal.main_arg42)
      ∧ r.2.mem ((c.tc : Thread Cert.Reference12Ideal.nD Cert.Reference12Ideal.τ).loc Cert.Reference12Ideal.main_arg43) = m ((c.tc : Thread Cert.Reference12Ideal.nD Cert.Reference12Ideal.τ).loc Cert.Reference12Ideal.main_arg43))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11))
      ∧ r.2.sem = fun _ => 0)

def preserves_Kernel_KernelIdeal : Prop :=
  True

def algebraic_KernelIdeal_ReferenceIdeal_pre_finite_cotangent [hKernelIdeal : Cert.KernelIdeal.Facts] [hReferenceIdeal : Cert.ReferenceIdeal.Facts] [hPre_finite_cotangent : Cert.Pre_finite_cotangent.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_cotangent m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_head [hKernel2Ideal : Cert.Kernel2Ideal.Facts] [hReference2Ideal : Cert.Reference2Ideal.Facts] [hPre_finite_head : Cert.Pre_finite_head.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_head m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)) (v6 : (c : Dev Cert.Kernel2Ideal.nD) → Buf (Elt Ideal) ((c.tc : Thread Cert.Kernel2Ideal.nD Cert.Kernel2Ideal.τ).loc Cert.Kernel2Ideal.main_v8_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_v8_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v114) = v0 c
          ∧ r.2.mem ((c.tc : Thread Cert.Reference2Ideal.nD Cert.Reference2Ideal.τ).loc Cert.Reference2Ideal.main_v117) = v1 c
          ∧ r.2.mem ((c.tc : Thread Cert.Reference2Ideal.nD Cert.Reference2Ideal.τ).loc Cert.Reference2Ideal.main_v118) = v2 c
          ∧ r.2.mem ((c.tc : Thread Cert.Reference2Ideal.nD Cert.Reference2Ideal.τ).loc Cert.Reference2Ideal.main_v119) = v3 c
          ∧ r.2.mem ((c.tc : Thread Cert.Reference2Ideal.nD Cert.Reference2Ideal.τ).loc Cert.Reference2Ideal.main_v79) = v4 c
          ∧ r.2.mem ((c.tc : Thread Cert.Reference2Ideal.nD Cert.Reference2Ideal.τ).loc Cert.Reference2Ideal.main_v116) = v5 c
          ∧ r.2.mem ((c.tc : Thread Cert.Reference2Ideal.nD Cert.Reference2Ideal.τ).loc Cert.Reference2Ideal.main_v115) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite_ffn [hKernel3Ideal : Cert.Kernel3Ideal.Facts] [hReference3Ideal : Cert.Reference3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)) (v5 : (c : Dev Cert.Kernel3Ideal.nD) → Buf (Elt Ideal) ((c.tc : Thread Cert.Kernel3Ideal.nD Cert.Kernel3Ideal.τ).loc Cert.Kernel3Ideal.main_v15_5)) (v6 : (c : Dev Cert.Kernel3Ideal.nD) → Buf (Elt Ideal) ((c.tc : Thread Cert.Kernel3Ideal.nD Cert.Kernel3Ideal.τ).loc Cert.Kernel3Ideal.main_v15_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_v15_5) = v5 c
          ∧ r.2.mem ((c.tc : Thread Cert.Kernel3Ideal.nD Cert.Kernel3Ideal.τ).loc Cert.Kernel3Ideal.main_v15_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v96) = v0 c
          ∧ r.2.mem ((c.tc : Thread Cert.Reference3Ideal.nD Cert.Reference3Ideal.τ).loc Cert.Reference3Ideal.main_v100) = v1 c
          ∧ r.2.mem ((c.tc : Thread Cert.Reference3Ideal.nD Cert.Reference3Ideal.τ).loc Cert.Reference3Ideal.main_v101) = v2 c
          ∧ r.2.mem ((c.tc : Thread Cert.Reference3Ideal.nD Cert.Reference3Ideal.τ).loc Cert.Reference3Ideal.main_v98) = v3 c
          ∧ r.2.mem ((c.tc : Thread Cert.Reference3Ideal.nD Cert.Reference3Ideal.τ).loc Cert.Reference3Ideal.main_v97) = v4 c
          ∧ r.2.mem ((c.tc : Thread Cert.Reference3Ideal.nD Cert.Reference3Ideal.τ).loc Cert.Reference3Ideal.main_v102) = v5 c
          ∧ r.2.mem ((c.tc : Thread Cert.Reference3Ideal.nD Cert.Reference3Ideal.τ).loc Cert.Reference3Ideal.main_v103) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v20) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)) (v2 : (c : Dev Cert.Kernel6Ideal.nD) → Buf (Elt Ideal) ((c.tc : Thread Cert.Kernel6Ideal.nD Cert.Kernel6Ideal.τ).loc Cert.Kernel6Ideal.main_v7_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_v7_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_v8) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_v20) = v2 c
          ∧ r.2.mem ((c.tc : Thread Cert.Reference7Ideal.nD Cert.Reference7Ideal.τ).loc Cert.Reference7Ideal.main_v32) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v9_0)) (v1 : (c : Dev Cert.Kernel8Ideal.nD) → Buf (Elt Ideal) ((c.tc : Thread Cert.Kernel8Ideal.nD Cert.Kernel8Ideal.τ).loc Cert.Kernel8Ideal.main_v9_1)) (v2 : (c : Dev Cert.Kernel8Ideal.nD) → Buf (Elt Ideal) ((c.tc : Thread Cert.Kernel8Ideal.nD Cert.Kernel8Ideal.τ).loc Cert.Kernel8Ideal.main_v9_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v9_0) = v0 c
          ∧ r.2.mem ((c.tc : Thread Cert.Kernel8Ideal.nD Cert.Kernel8Ideal.τ).loc Cert.Kernel8Ideal.main_v9_1) = v1 c
          ∧ r.2.mem ((c.tc : Thread Cert.Kernel8Ideal.nD Cert.Kernel8Ideal.τ).loc Cert.Kernel8Ideal.main_v9_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v9) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v13_0)) (v1 : (c : Dev Cert.Kernel9Ideal.nD) → Buf (Elt Ideal) ((c.tc : Thread Cert.Kernel9Ideal.nD Cert.Kernel9Ideal.τ).loc Cert.Kernel9Ideal.main_v13_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v13_0) = v0 c
          ∧ r.2.mem ((c.tc : Thread Cert.Kernel9Ideal.nD Cert.Kernel9Ideal.τ).loc Cert.Kernel9Ideal.main_v13_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v12) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_bounded_decays [hKernel11Ideal : Cert.Kernel11Ideal.Facts] [hReference11Ideal : Cert.Reference11Ideal.Facts] [hPre_bounded_decays : Cert.Pre_bounded_decays.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_bounded_decays m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_4) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v62) = v0 c
          ∧ r.2.mem ((c.tc : Thread Cert.Reference11Ideal.nD Cert.Reference11Ideal.τ).loc Cert.Reference11Ideal.main_v63) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)
      ∧ m' ((c.tc : Thread Cert.Reference12Ideal.nD Cert.Reference12Ideal.τ).loc Cert.Reference12Ideal.main_arg12) = m ((c.tc : Thread Cert.Kernel12Ideal.nD Cert.Kernel12Ideal.τ).loc Cert.Kernel12Ideal.main_arg12)
      ∧ m' ((c.tc : Thread Cert.Reference12Ideal.nD Cert.Reference12Ideal.τ).loc Cert.Reference12Ideal.main_arg13) = m ((c.tc : Thread Cert.Kernel12Ideal.nD Cert.Kernel12Ideal.τ).loc Cert.Kernel12Ideal.main_arg13)
      ∧ m' ((c.tc : Thread Cert.Reference12Ideal.nD Cert.Reference12Ideal.τ).loc Cert.Reference12Ideal.main_arg14) = m ((c.tc : Thread Cert.Kernel12Ideal.nD Cert.Kernel12Ideal.τ).loc Cert.Kernel12Ideal.main_arg14)
      ∧ m' ((c.tc : Thread Cert.Reference12Ideal.nD Cert.Reference12Ideal.τ).loc Cert.Reference12Ideal.main_arg15) = m ((c.tc : Thread Cert.Kernel12Ideal.nD Cert.Kernel12Ideal.τ).loc Cert.Kernel12Ideal.main_arg15)
      ∧ m' ((c.tc : Thread Cert.Reference12Ideal.nD Cert.Reference12Ideal.τ).loc Cert.Reference12Ideal.main_arg16) = m ((c.tc : Thread Cert.Kernel12Ideal.nD Cert.Kernel12Ideal.τ).loc Cert.Kernel12Ideal.main_arg16)
      ∧ m' ((c.tc : Thread Cert.Reference12Ideal.nD Cert.Reference12Ideal.τ).loc Cert.Reference12Ideal.main_arg17) = m ((c.tc : Thread Cert.Kernel12Ideal.nD Cert.Kernel12Ideal.τ).loc Cert.Kernel12Ideal.main_arg17)
      ∧ m' ((c.tc : Thread Cert.Reference12Ideal.nD Cert.Reference12Ideal.τ).loc Cert.Reference12Ideal.main_arg18) = m ((c.tc : Thread Cert.Kernel12Ideal.nD Cert.Kernel12Ideal.τ).loc Cert.Kernel12Ideal.main_arg18)
      ∧ m' ((c.tc : Thread Cert.Reference12Ideal.nD Cert.Reference12Ideal.τ).loc Cert.Reference12Ideal.main_arg19) = m ((c.tc : Thread Cert.Kernel12Ideal.nD Cert.Kernel12Ideal.τ).loc Cert.Kernel12Ideal.main_arg19)
      ∧ m' ((c.tc : Thread Cert.Reference12Ideal.nD Cert.Reference12Ideal.τ).loc Cert.Reference12Ideal.main_arg20) = m ((c.tc : Thread Cert.Kernel12Ideal.nD Cert.Kernel12Ideal.τ).loc Cert.Kernel12Ideal.main_arg20)
      ∧ m' ((c.tc : Thread Cert.Reference12Ideal.nD Cert.Reference12Ideal.τ).loc Cert.Reference12Ideal.main_arg21) = m ((c.tc : Thread Cert.Kernel12Ideal.nD Cert.Kernel12Ideal.τ).loc Cert.Kernel12Ideal.main_arg21)
      ∧ m' ((c.tc : Thread Cert.Reference12Ideal.nD Cert.Reference12Ideal.τ).loc Cert.Reference12Ideal.main_arg22) = m ((c.tc : Thread Cert.Kernel12Ideal.nD Cert.Kernel12Ideal.τ).loc Cert.Kernel12Ideal.main_arg22)
      ∧ m' ((c.tc : Thread Cert.Reference12Ideal.nD Cert.Reference12Ideal.τ).loc Cert.Reference12Ideal.main_arg23) = m ((c.tc : Thread Cert.Kernel12Ideal.nD Cert.Kernel12Ideal.τ).loc Cert.Kernel12Ideal.main_arg23)
      ∧ m' ((c.tc : Thread Cert.Reference12Ideal.nD Cert.Reference12Ideal.τ).loc Cert.Reference12Ideal.main_arg24) = m ((c.tc : Thread Cert.Kernel12Ideal.nD Cert.Kernel12Ideal.τ).loc Cert.Kernel12Ideal.main_arg24)
      ∧ m' ((c.tc : Thread Cert.Reference12Ideal.nD Cert.Reference12Ideal.τ).loc Cert.Reference12Ideal.main_arg25) = m ((c.tc : Thread Cert.Kernel12Ideal.nD Cert.Kernel12Ideal.τ).loc Cert.Kernel12Ideal.main_arg25)
      ∧ m' ((c.tc : Thread Cert.Reference12Ideal.nD Cert.Reference12Ideal.τ).loc Cert.Reference12Ideal.main_arg26) = m ((c.tc : Thread Cert.Kernel12Ideal.nD Cert.Kernel12Ideal.τ).loc Cert.Kernel12Ideal.main_arg26)
      ∧ m' ((c.tc : Thread Cert.Reference12Ideal.nD Cert.Reference12Ideal.τ).loc Cert.Reference12Ideal.main_arg27) = m ((c.tc : Thread Cert.Kernel12Ideal.nD Cert.Kernel12Ideal.τ).loc Cert.Kernel12Ideal.main_arg27)
      ∧ m' ((c.tc : Thread Cert.Reference12Ideal.nD Cert.Reference12Ideal.τ).loc Cert.Reference12Ideal.main_arg28) = m ((c.tc : Thread Cert.Kernel12Ideal.nD Cert.Kernel12Ideal.τ).loc Cert.Kernel12Ideal.main_arg28)
      ∧ m' ((c.tc : Thread Cert.Reference12Ideal.nD Cert.Reference12Ideal.τ).loc Cert.Reference12Ideal.main_arg29) = m ((c.tc : Thread Cert.Kernel12Ideal.nD Cert.Kernel12Ideal.τ).loc Cert.Kernel12Ideal.main_arg29)
      ∧ m' ((c.tc : Thread Cert.Reference12Ideal.nD Cert.Reference12Ideal.τ).loc Cert.Reference12Ideal.main_arg30) = m ((c.tc : Thread Cert.Kernel12Ideal.nD Cert.Kernel12Ideal.τ).loc Cert.Kernel12Ideal.main_arg30)
      ∧ m' ((c.tc : Thread Cert.Reference12Ideal.nD Cert.Reference12Ideal.τ).loc Cert.Reference12Ideal.main_arg31) = m ((c.tc : Thread Cert.Kernel12Ideal.nD Cert.Kernel12Ideal.τ).loc Cert.Kernel12Ideal.main_arg31)
      ∧ m' ((c.tc : Thread Cert.Reference12Ideal.nD Cert.Reference12Ideal.τ).loc Cert.Reference12Ideal.main_arg32) = m ((c.tc : Thread Cert.Kernel12Ideal.nD Cert.Kernel12Ideal.τ).loc Cert.Kernel12Ideal.main_arg32)
      ∧ m' ((c.tc : Thread Cert.Reference12Ideal.nD Cert.Reference12Ideal.τ).loc Cert.Reference12Ideal.main_arg33) = m ((c.tc : Thread Cert.Kernel12Ideal.nD Cert.Kernel12Ideal.τ).loc Cert.Kernel12Ideal.main_arg33)
      ∧ m' ((c.tc : Thread Cert.Reference12Ideal.nD Cert.Reference12Ideal.τ).loc Cert.Reference12Ideal.main_arg34) = m ((c.tc : Thread Cert.Kernel12Ideal.nD Cert.Kernel12Ideal.τ).loc Cert.Kernel12Ideal.main_arg34)
      ∧ m' ((c.tc : Thread Cert.Reference12Ideal.nD Cert.Reference12Ideal.τ).loc Cert.Reference12Ideal.main_arg35) = m ((c.tc : Thread Cert.Kernel12Ideal.nD Cert.Kernel12Ideal.τ).loc Cert.Kernel12Ideal.main_arg35)
      ∧ m' ((c.tc : Thread Cert.Reference12Ideal.nD Cert.Reference12Ideal.τ).loc Cert.Reference12Ideal.main_arg36) = m ((c.tc : Thread Cert.Kernel12Ideal.nD Cert.Kernel12Ideal.τ).loc Cert.Kernel12Ideal.main_arg36)
      ∧ m' ((c.tc : Thread Cert.Reference12Ideal.nD Cert.Reference12Ideal.τ).loc Cert.Reference12Ideal.main_arg37) = m ((c.tc : Thread Cert.Kernel12Ideal.nD Cert.Kernel12Ideal.τ).loc Cert.Kernel12Ideal.main_arg37)
      ∧ m' ((c.tc : Thread Cert.Reference12Ideal.nD Cert.Reference12Ideal.τ).loc Cert.Reference12Ideal.main_arg38) = m ((c.tc : Thread Cert.Kernel12Ideal.nD Cert.Kernel12Ideal.τ).loc Cert.Kernel12Ideal.main_arg38)
      ∧ m' ((c.tc : Thread Cert.Reference12Ideal.nD Cert.Reference12Ideal.τ).loc Cert.Reference12Ideal.main_arg39) = m ((c.tc : Thread Cert.Kernel12Ideal.nD Cert.Kernel12Ideal.τ).loc Cert.Kernel12Ideal.main_arg39)
      ∧ m' ((c.tc : Thread Cert.Reference12Ideal.nD Cert.Reference12Ideal.τ).loc Cert.Reference12Ideal.main_arg40) = m ((c.tc : Thread Cert.Kernel12Ideal.nD Cert.Kernel12Ideal.τ).loc Cert.Kernel12Ideal.main_arg40)
      ∧ m' ((c.tc : Thread Cert.Reference12Ideal.nD Cert.Reference12Ideal.τ).loc Cert.Reference12Ideal.main_arg41) = m ((c.tc : Thread Cert.Kernel12Ideal.nD Cert.Kernel12Ideal.τ).loc Cert.Kernel12Ideal.main_arg41)
      ∧ m' ((c.tc : Thread Cert.Reference12Ideal.nD Cert.Reference12Ideal.τ).loc Cert.Reference12Ideal.main_arg42) = m ((c.tc : Thread Cert.Kernel12Ideal.nD Cert.Kernel12Ideal.τ).loc Cert.Kernel12Ideal.main_arg42)
      ∧ m' ((c.tc : Thread Cert.Reference12Ideal.nD Cert.Reference12Ideal.τ).loc Cert.Reference12Ideal.main_arg43) = m ((c.tc : Thread Cert.Kernel12Ideal.nD Cert.Kernel12Ideal.τ).loc Cert.Kernel12Ideal.main_arg43)) →
    ∃ (v0 : (c : Dev Cert.Kernel12Ideal.nD) → Buf (Elt Ideal) ((c.tc : Thread Cert.Kernel12Ideal.nD Cert.Kernel12Ideal.τ).loc Cert.Kernel12Ideal.main_v60)) (v1 : (c : Dev Cert.Kernel12Ideal.nD) → Buf (Elt Ideal) ((c.tc : Thread Cert.Kernel12Ideal.nD Cert.Kernel12Ideal.τ).loc Cert.Kernel12Ideal.main_v62)) (v2 : (c : Dev Cert.Kernel12Ideal.nD) → Buf (Elt Ideal) ((c.tc : Thread Cert.Kernel12Ideal.nD Cert.Kernel12Ideal.τ).loc Cert.Kernel12Ideal.main_v64)) (v3 : (c : Dev Cert.Kernel12Ideal.nD) → Buf (Elt Ideal) ((c.tc : Thread Cert.Kernel12Ideal.nD Cert.Kernel12Ideal.τ).loc Cert.Kernel12Ideal.main_v66)) (v4 : (c : Dev Cert.Kernel12Ideal.nD) → Buf (Elt Ideal) ((c.tc : Thread Cert.Kernel12Ideal.nD Cert.Kernel12Ideal.τ).loc Cert.Kernel12Ideal.main_v68)) (v5 : (c : Dev Cert.Kernel12Ideal.nD) → Buf (Elt Ideal) ((c.tc : Thread Cert.Kernel12Ideal.nD Cert.Kernel12Ideal.τ).loc Cert.Kernel12Ideal.main_v70)) (v6 : (c : Dev Cert.Kernel12Ideal.nD) → Buf (Elt Ideal) ((c.tc : Thread Cert.Kernel12Ideal.nD Cert.Kernel12Ideal.τ).loc Cert.Kernel12Ideal.main_v72)) (v7 : (c : Dev Cert.Kernel12Ideal.nD) → Buf (Elt Ideal) ((c.tc : Thread Cert.Kernel12Ideal.nD Cert.Kernel12Ideal.τ).loc Cert.Kernel12Ideal.main_v74)) (v8 : (c : Dev Cert.Kernel12Ideal.nD) → Buf (Elt Ideal) ((c.tc : Thread Cert.Kernel12Ideal.nD Cert.Kernel12Ideal.τ).loc Cert.Kernel12Ideal.main_v76)) (v9 : (c : Dev Cert.Kernel12Ideal.nD) → Buf (Elt Ideal) ((c.tc : Thread Cert.Kernel12Ideal.nD Cert.Kernel12Ideal.τ).loc Cert.Kernel12Ideal.main_v78)) (v10 : (c : Dev Cert.Kernel12Ideal.nD) → Buf (Elt Ideal) ((c.tc : Thread Cert.Kernel12Ideal.nD Cert.Kernel12Ideal.τ).loc Cert.Kernel12Ideal.main_v80)) (v11 : (c : Dev Cert.Kernel12Ideal.nD) → Buf (Elt Ideal) ((c.tc : Thread Cert.Kernel12Ideal.nD Cert.Kernel12Ideal.τ).loc Cert.Kernel12Ideal.main_v83)) (v12 : (c : Dev Cert.Kernel12Ideal.nD) → Buf (Elt Ideal) ((c.tc : Thread Cert.Kernel12Ideal.nD Cert.Kernel12Ideal.τ).loc Cert.Kernel12Ideal.main_v85)) (v13 : (c : Dev Cert.Kernel12Ideal.nD) → Buf (Elt Ideal) ((c.tc : Thread Cert.Kernel12Ideal.nD Cert.Kernel12Ideal.τ).loc Cert.Kernel12Ideal.main_v87)) (v14 : (c : Dev Cert.Kernel12Ideal.nD) → Buf (Elt Ideal) ((c.tc : Thread Cert.Kernel12Ideal.nD Cert.Kernel12Ideal.τ).loc Cert.Kernel12Ideal.main_v89)) (v15 : (c : Dev Cert.Kernel12Ideal.nD) → Buf (Elt Ideal) ((c.tc : Thread Cert.Kernel12Ideal.nD Cert.Kernel12Ideal.τ).loc Cert.Kernel12Ideal.main_v91)) (v16 : (c : Dev Cert.Kernel12Ideal.nD) → Buf (Elt Ideal) ((c.tc : Thread Cert.Kernel12Ideal.nD Cert.Kernel12Ideal.τ).loc Cert.Kernel12Ideal.main_v93)) (v17 : (c : Dev Cert.Kernel12Ideal.nD) → Buf (Elt Ideal) ((c.tc : Thread Cert.Kernel12Ideal.nD Cert.Kernel12Ideal.τ).loc Cert.Kernel12Ideal.main_v95)) (v18 : (c : Dev Cert.Kernel12Ideal.nD) → Buf (Elt Ideal) ((c.tc : Thread Cert.Kernel12Ideal.nD Cert.Kernel12Ideal.τ).loc Cert.Kernel12Ideal.main_v97)) (v19 : (c : Dev Cert.Kernel12Ideal.nD) → Buf (Elt Ideal) ((c.tc : Thread Cert.Kernel12Ideal.nD Cert.Kernel12Ideal.τ).loc Cert.Kernel12Ideal.main_v99)) (v20 : (c : Dev Cert.Kernel12Ideal.nD) → Buf (Elt Ideal) ((c.tc : Thread Cert.Kernel12Ideal.nD Cert.Kernel12Ideal.τ).loc Cert.Kernel12Ideal.main_v101)) (v21 : (c : Dev Cert.Kernel12Ideal.nD) → Buf (Elt Ideal) ((c.tc : Thread Cert.Kernel12Ideal.nD Cert.Kernel12Ideal.τ).loc Cert.Kernel12Ideal.main_v103)) (v22 : (c : Dev Cert.Kernel12Ideal.nD) → Buf (Elt Ideal) ((c.tc : Thread Cert.Kernel12Ideal.nD Cert.Kernel12Ideal.τ).loc Cert.Kernel12Ideal.main_v106)) (v23 : (c : Dev Cert.Kernel12Ideal.nD) → Buf (Elt Ideal) ((c.tc : Thread Cert.Kernel12Ideal.nD Cert.Kernel12Ideal.τ).loc Cert.Kernel12Ideal.main_v108)) (v24 : (c : Dev Cert.Kernel12Ideal.nD) → Buf (Elt Ideal) ((c.tc : Thread Cert.Kernel12Ideal.nD Cert.Kernel12Ideal.τ).loc Cert.Kernel12Ideal.main_v110)) (v25 : (c : Dev Cert.Kernel12Ideal.nD) → Buf (Elt Ideal) ((c.tc : Thread Cert.Kernel12Ideal.nD Cert.Kernel12Ideal.τ).loc Cert.Kernel12Ideal.main_v112)) (v26 : (c : Dev Cert.Kernel12Ideal.nD) → Buf (Elt Ideal) ((c.tc : Thread Cert.Kernel12Ideal.nD Cert.Kernel12Ideal.τ).loc Cert.Kernel12Ideal.main_v114)) (v27 : (c : Dev Cert.Kernel12Ideal.nD) → Buf (Elt Ideal) ((c.tc : Thread Cert.Kernel12Ideal.nD Cert.Kernel12Ideal.τ).loc Cert.Kernel12Ideal.main_v116)) (v28 : (c : Dev Cert.Kernel12Ideal.nD) → Buf (Elt Ideal) ((c.tc : Thread Cert.Kernel12Ideal.nD Cert.Kernel12Ideal.τ).loc Cert.Kernel12Ideal.main_v118)) (v29 : (c : Dev Cert.Kernel12Ideal.nD) → Buf (Elt Ideal) ((c.tc : Thread Cert.Kernel12Ideal.nD Cert.Kernel12Ideal.τ).loc Cert.Kernel12Ideal.main_v120)) (v30 : (c : Dev Cert.Kernel12Ideal.nD) → Buf (Elt Ideal) ((c.tc : Thread Cert.Kernel12Ideal.nD Cert.Kernel12Ideal.τ).loc Cert.Kernel12Ideal.main_v122)) (v31 : (c : Dev Cert.Kernel12Ideal.nD) → Buf (Elt Ideal) ((c.tc : Thread Cert.Kernel12Ideal.nD Cert.Kernel12Ideal.τ).loc Cert.Kernel12Ideal.main_v124)) (v32 : (c : Dev Cert.Kernel12Ideal.nD) → Buf (Elt Ideal) ((c.tc : Thread Cert.Kernel12Ideal.nD Cert.Kernel12Ideal.τ).loc Cert.Kernel12Ideal.main_v126)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v60) = v0 c
          ∧ r.2.mem ((c.tc : Thread Cert.Kernel12Ideal.nD Cert.Kernel12Ideal.τ).loc Cert.Kernel12Ideal.main_v62) = v1 c
          ∧ r.2.mem ((c.tc : Thread Cert.Kernel12Ideal.nD Cert.Kernel12Ideal.τ).loc Cert.Kernel12Ideal.main_v64) = v2 c
          ∧ r.2.mem ((c.tc : Thread Cert.Kernel12Ideal.nD Cert.Kernel12Ideal.τ).loc Cert.Kernel12Ideal.main_v66) = v3 c
          ∧ r.2.mem ((c.tc : Thread Cert.Kernel12Ideal.nD Cert.Kernel12Ideal.τ).loc Cert.Kernel12Ideal.main_v68) = v4 c
          ∧ r.2.mem ((c.tc : Thread Cert.Kernel12Ideal.nD Cert.Kernel12Ideal.τ).loc Cert.Kernel12Ideal.main_v70) = v5 c
          ∧ r.2.mem ((c.tc : Thread Cert.Kernel12Ideal.nD Cert.Kernel12Ideal.τ).loc Cert.Kernel12Ideal.main_v72) = v6 c
          ∧ r.2.mem ((c.tc : Thread Cert.Kernel12Ideal.nD Cert.Kernel12Ideal.τ).loc Cert.Kernel12Ideal.main_v74) = v7 c
          ∧ r.2.mem ((c.tc : Thread Cert.Kernel12Ideal.nD Cert.Kernel12Ideal.τ).loc Cert.Kernel12Ideal.main_v76) = v8 c
          ∧ r.2.mem ((c.tc : Thread Cert.Kernel12Ideal.nD Cert.Kernel12Ideal.τ).loc Cert.Kernel12Ideal.main_v78) = v9 c
          ∧ r.2.mem ((c.tc : Thread Cert.Kernel12Ideal.nD Cert.Kernel12Ideal.τ).loc Cert.Kernel12Ideal.main_v80) = v10 c
          ∧ r.2.mem ((c.tc : Thread Cert.Kernel12Ideal.nD Cert.Kernel12Ideal.τ).loc Cert.Kernel12Ideal.main_v83) = v11 c
          ∧ r.2.mem ((c.tc : Thread Cert.Kernel12Ideal.nD Cert.Kernel12Ideal.τ).loc Cert.Kernel12Ideal.main_v85) = v12 c
          ∧ r.2.mem ((c.tc : Thread Cert.Kernel12Ideal.nD Cert.Kernel12Ideal.τ).loc Cert.Kernel12Ideal.main_v87) = v13 c
          ∧ r.2.mem ((c.tc : Thread Cert.Kernel12Ideal.nD Cert.Kernel12Ideal.τ).loc Cert.Kernel12Ideal.main_v89) = v14 c
          ∧ r.2.mem ((c.tc : Thread Cert.Kernel12Ideal.nD Cert.Kernel12Ideal.τ).loc Cert.Kernel12Ideal.main_v91) = v15 c
          ∧ r.2.mem ((c.tc : Thread Cert.Kernel12Ideal.nD Cert.Kernel12Ideal.τ).loc Cert.Kernel12Ideal.main_v93) = v16 c
          ∧ r.2.mem ((c.tc : Thread Cert.Kernel12Ideal.nD Cert.Kernel12Ideal.τ).loc Cert.Kernel12Ideal.main_v95) = v17 c
          ∧ r.2.mem ((c.tc : Thread Cert.Kernel12Ideal.nD Cert.Kernel12Ideal.τ).loc Cert.Kernel12Ideal.main_v97) = v18 c
          ∧ r.2.mem ((c.tc : Thread Cert.Kernel12Ideal.nD Cert.Kernel12Ideal.τ).loc Cert.Kernel12Ideal.main_v99) = v19 c
          ∧ r.2.mem ((c.tc : Thread Cert.Kernel12Ideal.nD Cert.Kernel12Ideal.τ).loc Cert.Kernel12Ideal.main_v101) = v20 c
          ∧ r.2.mem ((c.tc : Thread Cert.Kernel12Ideal.nD Cert.Kernel12Ideal.τ).loc Cert.Kernel12Ideal.main_v103) = v21 c
          ∧ r.2.mem ((c.tc : Thread Cert.Kernel12Ideal.nD Cert.Kernel12Ideal.τ).loc Cert.Kernel12Ideal.main_v106) = v22 c
          ∧ r.2.mem ((c.tc : Thread Cert.Kernel12Ideal.nD Cert.Kernel12Ideal.τ).loc Cert.Kernel12Ideal.main_v108) = v23 c
          ∧ r.2.mem ((c.tc : Thread Cert.Kernel12Ideal.nD Cert.Kernel12Ideal.τ).loc Cert.Kernel12Ideal.main_v110) = v24 c
          ∧ r.2.mem ((c.tc : Thread Cert.Kernel12Ideal.nD Cert.Kernel12Ideal.τ).loc Cert.Kernel12Ideal.main_v112) = v25 c
          ∧ r.2.mem ((c.tc : Thread Cert.Kernel12Ideal.nD Cert.Kernel12Ideal.τ).loc Cert.Kernel12Ideal.main_v114) = v26 c
          ∧ r.2.mem ((c.tc : Thread Cert.Kernel12Ideal.nD Cert.Kernel12Ideal.τ).loc Cert.Kernel12Ideal.main_v116) = v27 c
          ∧ r.2.mem ((c.tc : Thread Cert.Kernel12Ideal.nD Cert.Kernel12Ideal.τ).loc Cert.Kernel12Ideal.main_v118) = v28 c
          ∧ r.2.mem ((c.tc : Thread Cert.Kernel12Ideal.nD Cert.Kernel12Ideal.τ).loc Cert.Kernel12Ideal.main_v120) = v29 c
          ∧ r.2.mem ((c.tc : Thread Cert.Kernel12Ideal.nD Cert.Kernel12Ideal.τ).loc Cert.Kernel12Ideal.main_v122) = v30 c
          ∧ r.2.mem ((c.tc : Thread Cert.Kernel12Ideal.nD Cert.Kernel12Ideal.τ).loc Cert.Kernel12Ideal.main_v124) = v31 c
          ∧ r.2.mem ((c.tc : Thread Cert.Kernel12Ideal.nD Cert.Kernel12Ideal.τ).loc Cert.Kernel12Ideal.main_v126) = v32 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
          ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
          ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
          ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
          ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
          ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
          ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
          ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
          ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19)
          ∧ r.2.mem ((c.tc : Thread Cert.Kernel12Ideal.nD Cert.Kernel12Ideal.τ).loc Cert.Kernel12Ideal.main_arg20) = m ((c.tc : Thread Cert.Kernel12Ideal.nD Cert.Kernel12Ideal.τ).loc Cert.Kernel12Ideal.main_arg20)
          ∧ r.2.mem ((c.tc : Thread Cert.Kernel12Ideal.nD Cert.Kernel12Ideal.τ).loc Cert.Kernel12Ideal.main_arg21) = m ((c.tc : Thread Cert.Kernel12Ideal.nD Cert.Kernel12Ideal.τ).loc Cert.Kernel12Ideal.main_arg21)
          ∧ r.2.mem ((c.tc : Thread Cert.Kernel12Ideal.nD Cert.Kernel12Ideal.τ).loc Cert.Kernel12Ideal.main_arg22) = m ((c.tc : Thread Cert.Kernel12Ideal.nD Cert.Kernel12Ideal.τ).loc Cert.Kernel12Ideal.main_arg22)
          ∧ r.2.mem ((c.tc : Thread Cert.Kernel12Ideal.nD Cert.Kernel12Ideal.τ).loc Cert.Kernel12Ideal.main_arg23) = m ((c.tc : Thread Cert.Kernel12Ideal.nD Cert.Kernel12Ideal.τ).loc Cert.Kernel12Ideal.main_arg23)
          ∧ r.2.mem ((c.tc : Thread Cert.Kernel12Ideal.nD Cert.Kernel12Ideal.τ).loc Cert.Kernel12Ideal.main_arg24) = m ((c.tc : Thread Cert.Kernel12Ideal.nD Cert.Kernel12Ideal.τ).loc Cert.Kernel12Ideal.main_arg24)
          ∧ r.2.mem ((c.tc : Thread Cert.Kernel12Ideal.nD Cert.Kernel12Ideal.τ).loc Cert.Kernel12Ideal.main_arg25) = m ((c.tc : Thread Cert.Kernel12Ideal.nD Cert.Kernel12Ideal.τ).loc Cert.Kernel12Ideal.main_arg25)
          ∧ r.2.mem ((c.tc : Thread Cert.Kernel12Ideal.nD Cert.Kernel12Ideal.τ).loc Cert.Kernel12Ideal.main_arg26) = m ((c.tc : Thread Cert.Kernel12Ideal.nD Cert.Kernel12Ideal.τ).loc Cert.Kernel12Ideal.main_arg26)
          ∧ r.2.mem ((c.tc : Thread Cert.Kernel12Ideal.nD Cert.Kernel12Ideal.τ).loc Cert.Kernel12Ideal.main_arg27) = m ((c.tc : Thread Cert.Kernel12Ideal.nD Cert.Kernel12Ideal.τ).loc Cert.Kernel12Ideal.main_arg27)
          ∧ r.2.mem ((c.tc : Thread Cert.Kernel12Ideal.nD Cert.Kernel12Ideal.τ).loc Cert.Kernel12Ideal.main_arg28) = m ((c.tc : Thread Cert.Kernel12Ideal.nD Cert.Kernel12Ideal.τ).loc Cert.Kernel12Ideal.main_arg28)
          ∧ r.2.mem ((c.tc : Thread Cert.Kernel12Ideal.nD Cert.Kernel12Ideal.τ).loc Cert.Kernel12Ideal.main_arg29) = m ((c.tc : Thread Cert.Kernel12Ideal.nD Cert.Kernel12Ideal.τ).loc Cert.Kernel12Ideal.main_arg29)
          ∧ r.2.mem ((c.tc : Thread Cert.Kernel12Ideal.nD Cert.Kernel12Ideal.τ).loc Cert.Kernel12Ideal.main_arg30) = m ((c.tc : Thread Cert.Kernel12Ideal.nD Cert.Kernel12Ideal.τ).loc Cert.Kernel12Ideal.main_arg30)
          ∧ r.2.mem ((c.tc : Thread Cert.Kernel12Ideal.nD Cert.Kernel12Ideal.τ).loc Cert.Kernel12Ideal.main_arg31) = m ((c.tc : Thread Cert.Kernel12Ideal.nD Cert.Kernel12Ideal.τ).loc Cert.Kernel12Ideal.main_arg31)
          ∧ r.2.mem ((c.tc : Thread Cert.Kernel12Ideal.nD Cert.Kernel12Ideal.τ).loc Cert.Kernel12Ideal.main_arg32) = m ((c.tc : Thread Cert.Kernel12Ideal.nD Cert.Kernel12Ideal.τ).loc Cert.Kernel12Ideal.main_arg32)
          ∧ r.2.mem ((c.tc : Thread Cert.Kernel12Ideal.nD Cert.Kernel12Ideal.τ).loc Cert.Kernel12Ideal.main_arg33) = m ((c.tc : Thread Cert.Kernel12Ideal.nD Cert.Kernel12Ideal.τ).loc Cert.Kernel12Ideal.main_arg33)
          ∧ r.2.mem ((c.tc : Thread Cert.Kernel12Ideal.nD Cert.Kernel12Ideal.τ).loc Cert.Kernel12Ideal.main_arg34) = m ((c.tc : Thread Cert.Kernel12Ideal.nD Cert.Kernel12Ideal.τ).loc Cert.Kernel12Ideal.main_arg34)
          ∧ r.2.mem ((c.tc : Thread Cert.Kernel12Ideal.nD Cert.Kernel12Ideal.τ).loc Cert.Kernel12Ideal.main_arg35) = m ((c.tc : Thread Cert.Kernel12Ideal.nD Cert.Kernel12Ideal.τ).loc Cert.Kernel12Ideal.main_arg35)
          ∧ r.2.mem ((c.tc : Thread Cert.Kernel12Ideal.nD Cert.Kernel12Ideal.τ).loc Cert.Kernel12Ideal.main_arg36) = m ((c.tc : Thread Cert.Kernel12Ideal.nD Cert.Kernel12Ideal.τ).loc Cert.Kernel12Ideal.main_arg36)
          ∧ r.2.mem ((c.tc : Thread Cert.Kernel12Ideal.nD Cert.Kernel12Ideal.τ).loc Cert.Kernel12Ideal.main_arg37) = m ((c.tc : Thread Cert.Kernel12Ideal.nD Cert.Kernel12Ideal.τ).loc Cert.Kernel12Ideal.main_arg37)
          ∧ r.2.mem ((c.tc : Thread Cert.Kernel12Ideal.nD Cert.Kernel12Ideal.τ).loc Cert.Kernel12Ideal.main_arg38) = m ((c.tc : Thread Cert.Kernel12Ideal.nD Cert.Kernel12Ideal.τ).loc Cert.Kernel12Ideal.main_arg38)
          ∧ r.2.mem ((c.tc : Thread Cert.Kernel12Ideal.nD Cert.Kernel12Ideal.τ).loc Cert.Kernel12Ideal.main_arg39) = m ((c.tc : Thread Cert.Kernel12Ideal.nD Cert.Kernel12Ideal.τ).loc Cert.Kernel12Ideal.main_arg39)
          ∧ r.2.mem ((c.tc : Thread Cert.Kernel12Ideal.nD Cert.Kernel12Ideal.τ).loc Cert.Kernel12Ideal.main_arg40) = m ((c.tc : Thread Cert.Kernel12Ideal.nD Cert.Kernel12Ideal.τ).loc Cert.Kernel12Ideal.main_arg40)
          ∧ r.2.mem ((c.tc : Thread Cert.Kernel12Ideal.nD Cert.Kernel12Ideal.τ).loc Cert.Kernel12Ideal.main_arg41) = m ((c.tc : Thread Cert.Kernel12Ideal.nD Cert.Kernel12Ideal.τ).loc Cert.Kernel12Ideal.main_arg41)
          ∧ r.2.mem ((c.tc : Thread Cert.Kernel12Ideal.nD Cert.Kernel12Ideal.τ).loc Cert.Kernel12Ideal.main_arg42) = m ((c.tc : Thread Cert.Kernel12Ideal.nD Cert.Kernel12Ideal.τ).loc Cert.Kernel12Ideal.main_arg42)
          ∧ r.2.mem ((c.tc : Thread Cert.Kernel12Ideal.nD Cert.Kernel12Ideal.τ).loc Cert.Kernel12Ideal.main_arg43) = m ((c.tc : Thread Cert.Kernel12Ideal.nD Cert.Kernel12Ideal.τ).loc Cert.Kernel12Ideal.main_arg43))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v47) = v1 c
          ∧ r.2.mem ((c.tc : Thread Cert.Reference12Ideal.nD Cert.Reference12Ideal.τ).loc Cert.Reference12Ideal.main_v71) = v2 c
          ∧ r.2.mem ((c.tc : Thread Cert.Reference12Ideal.nD Cert.Reference12Ideal.τ).loc Cert.Reference12Ideal.main_v95) = v3 c
          ∧ r.2.mem ((c.tc : Thread Cert.Reference12Ideal.nD Cert.Reference12Ideal.τ).loc Cert.Reference12Ideal.main_v119) = v4 c
          ∧ r.2.mem ((c.tc : Thread Cert.Reference12Ideal.nD Cert.Reference12Ideal.τ).loc Cert.Reference12Ideal.main_v143) = v5 c
          ∧ r.2.mem ((c.tc : Thread Cert.Reference12Ideal.nD Cert.Reference12Ideal.τ).loc Cert.Reference12Ideal.main_v167) = v6 c
          ∧ r.2.mem ((c.tc : Thread Cert.Reference12Ideal.nD Cert.Reference12Ideal.τ).loc Cert.Reference12Ideal.main_v191) = v7 c
          ∧ r.2.mem ((c.tc : Thread Cert.Reference12Ideal.nD Cert.Reference12Ideal.τ).loc Cert.Reference12Ideal.main_v215) = v8 c
          ∧ r.2.mem ((c.tc : Thread Cert.Reference12Ideal.nD Cert.Reference12Ideal.τ).loc Cert.Reference12Ideal.main_v239) = v9 c
          ∧ r.2.mem ((c.tc : Thread Cert.Reference12Ideal.nD Cert.Reference12Ideal.τ).loc Cert.Reference12Ideal.main_v263) = v10 c
          ∧ r.2.mem ((c.tc : Thread Cert.Reference12Ideal.nD Cert.Reference12Ideal.τ).loc Cert.Reference12Ideal.main_v4) = v11 c
          ∧ r.2.mem ((c.tc : Thread Cert.Reference12Ideal.nD Cert.Reference12Ideal.τ).loc Cert.Reference12Ideal.main_v28) = v12 c
          ∧ r.2.mem ((c.tc : Thread Cert.Reference12Ideal.nD Cert.Reference12Ideal.τ).loc Cert.Reference12Ideal.main_v52) = v13 c
          ∧ r.2.mem ((c.tc : Thread Cert.Reference12Ideal.nD Cert.Reference12Ideal.τ).loc Cert.Reference12Ideal.main_v76) = v14 c
          ∧ r.2.mem ((c.tc : Thread Cert.Reference12Ideal.nD Cert.Reference12Ideal.τ).loc Cert.Reference12Ideal.main_v100) = v15 c
          ∧ r.2.mem ((c.tc : Thread Cert.Reference12Ideal.nD Cert.Reference12Ideal.τ).loc Cert.Reference12Ideal.main_v124) = v16 c
          ∧ r.2.mem ((c.tc : Thread Cert.Reference12Ideal.nD Cert.Reference12Ideal.τ).loc Cert.Reference12Ideal.main_v148) = v17 c
          ∧ r.2.mem ((c.tc : Thread Cert.Reference12Ideal.nD Cert.Reference12Ideal.τ).loc Cert.Reference12Ideal.main_v172) = v18 c
          ∧ r.2.mem ((c.tc : Thread Cert.Reference12Ideal.nD Cert.Reference12Ideal.τ).loc Cert.Reference12Ideal.main_v196) = v19 c
          ∧ r.2.mem ((c.tc : Thread Cert.Reference12Ideal.nD Cert.Reference12Ideal.τ).loc Cert.Reference12Ideal.main_v220) = v20 c
          ∧ r.2.mem ((c.tc : Thread Cert.Reference12Ideal.nD Cert.Reference12Ideal.τ).loc Cert.Reference12Ideal.main_v244) = v21 c
          ∧ r.2.mem ((c.tc : Thread Cert.Reference12Ideal.nD Cert.Reference12Ideal.τ).loc Cert.Reference12Ideal.main_v10) = v22 c
          ∧ r.2.mem ((c.tc : Thread Cert.Reference12Ideal.nD Cert.Reference12Ideal.τ).loc Cert.Reference12Ideal.main_v34) = v23 c
          ∧ r.2.mem ((c.tc : Thread Cert.Reference12Ideal.nD Cert.Reference12Ideal.τ).loc Cert.Reference12Ideal.main_v58) = v24 c
          ∧ r.2.mem ((c.tc : Thread Cert.Reference12Ideal.nD Cert.Reference12Ideal.τ).loc Cert.Reference12Ideal.main_v82) = v25 c
          ∧ r.2.mem ((c.tc : Thread Cert.Reference12Ideal.nD Cert.Reference12Ideal.τ).loc Cert.Reference12Ideal.main_v106) = v26 c
          ∧ r.2.mem ((c.tc : Thread Cert.Reference12Ideal.nD Cert.Reference12Ideal.τ).loc Cert.Reference12Ideal.main_v130) = v27 c
          ∧ r.2.mem ((c.tc : Thread Cert.Reference12Ideal.nD Cert.Reference12Ideal.τ).loc Cert.Reference12Ideal.main_v154) = v28 c
          ∧ r.2.mem ((c.tc : Thread Cert.Reference12Ideal.nD Cert.Reference12Ideal.τ).loc Cert.Reference12Ideal.main_v178) = v29 c
          ∧ r.2.mem ((c.tc : Thread Cert.Reference12Ideal.nD Cert.Reference12Ideal.τ).loc Cert.Reference12Ideal.main_v202) = v30 c
          ∧ r.2.mem ((c.tc : Thread Cert.Reference12Ideal.nD Cert.Reference12Ideal.τ).loc Cert.Reference12Ideal.main_v226) = v31 c
          ∧ r.2.mem ((c.tc : Thread Cert.Reference12Ideal.nD Cert.Reference12Ideal.τ).loc Cert.Reference12Ideal.main_v250) = v32 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11)
          ∧ r.2.mem ((c.tc : Thread Cert.Reference12Ideal.nD Cert.Reference12Ideal.τ).loc Cert.Reference12Ideal.main_arg12) = m' ((c.tc : Thread Cert.Reference12Ideal.nD Cert.Reference12Ideal.τ).loc Cert.Reference12Ideal.main_arg12)
          ∧ r.2.mem ((c.tc : Thread Cert.Reference12Ideal.nD Cert.Reference12Ideal.τ).loc Cert.Reference12Ideal.main_arg13) = m' ((c.tc : Thread Cert.Reference12Ideal.nD Cert.Reference12Ideal.τ).loc Cert.Reference12Ideal.main_arg13)
          ∧ r.2.mem ((c.tc : Thread Cert.Reference12Ideal.nD Cert.Reference12Ideal.τ).loc Cert.Reference12Ideal.main_arg14) = m' ((c.tc : Thread Cert.Reference12Ideal.nD Cert.Reference12Ideal.τ).loc Cert.Reference12Ideal.main_arg14)
          ∧ r.2.mem ((c.tc : Thread Cert.Reference12Ideal.nD Cert.Reference12Ideal.τ).loc Cert.Reference12Ideal.main_arg15) = m' ((c.tc : Thread Cert.Reference12Ideal.nD Cert.Reference12Ideal.τ).loc Cert.Reference12Ideal.main_arg15)
          ∧ r.2.mem ((c.tc : Thread Cert.Reference12Ideal.nD Cert.Reference12Ideal.τ).loc Cert.Reference12Ideal.main_arg16) = m' ((c.tc : Thread Cert.Reference12Ideal.nD Cert.Reference12Ideal.τ).loc Cert.Reference12Ideal.main_arg16)
          ∧ r.2.mem ((c.tc : Thread Cert.Reference12Ideal.nD Cert.Reference12Ideal.τ).loc Cert.Reference12Ideal.main_arg17) = m' ((c.tc : Thread Cert.Reference12Ideal.nD Cert.Reference12Ideal.τ).loc Cert.Reference12Ideal.main_arg17)
          ∧ r.2.mem ((c.tc : Thread Cert.Reference12Ideal.nD Cert.Reference12Ideal.τ).loc Cert.Reference12Ideal.main_arg18) = m' ((c.tc : Thread Cert.Reference12Ideal.nD Cert.Reference12Ideal.τ).loc Cert.Reference12Ideal.main_arg18)
          ∧ r.2.mem ((c.tc : Thread Cert.Reference12Ideal.nD Cert.Reference12Ideal.τ).loc Cert.Reference12Ideal.main_arg19) = m' ((c.tc : Thread Cert.Reference12Ideal.nD Cert.Reference12Ideal.τ).loc Cert.Reference12Ideal.main_arg19)
          ∧ r.2.mem ((c.tc : Thread Cert.Reference12Ideal.nD Cert.Reference12Ideal.τ).loc Cert.Reference12Ideal.main_arg20) = m' ((c.tc : Thread Cert.Reference12Ideal.nD Cert.Reference12Ideal.τ).loc Cert.Reference12Ideal.main_arg20)
          ∧ r.2.mem ((c.tc : Thread Cert.Reference12Ideal.nD Cert.Reference12Ideal.τ).loc Cert.Reference12Ideal.main_arg21) = m' ((c.tc : Thread Cert.Reference12Ideal.nD Cert.Reference12Ideal.τ).loc Cert.Reference12Ideal.main_arg21)
          ∧ r.2.mem ((c.tc : Thread Cert.Reference12Ideal.nD Cert.Reference12Ideal.τ).loc Cert.Reference12Ideal.main_arg22) = m' ((c.tc : Thread Cert.Reference12Ideal.nD Cert.Reference12Ideal.τ).loc Cert.Reference12Ideal.main_arg22)
          ∧ r.2.mem ((c.tc : Thread Cert.Reference12Ideal.nD Cert.Reference12Ideal.τ).loc Cert.Reference12Ideal.main_arg23) = m' ((c.tc : Thread Cert.Reference12Ideal.nD Cert.Reference12Ideal.τ).loc Cert.Reference12Ideal.main_arg23)
          ∧ r.2.mem ((c.tc : Thread Cert.Reference12Ideal.nD Cert.Reference12Ideal.τ).loc Cert.Reference12Ideal.main_arg24) = m' ((c.tc : Thread Cert.Reference12Ideal.nD Cert.Reference12Ideal.τ).loc Cert.Reference12Ideal.main_arg24)
          ∧ r.2.mem ((c.tc : Thread Cert.Reference12Ideal.nD Cert.Reference12Ideal.τ).loc Cert.Reference12Ideal.main_arg25) = m' ((c.tc : Thread Cert.Reference12Ideal.nD Cert.Reference12Ideal.τ).loc Cert.Reference12Ideal.main_arg25)
          ∧ r.2.mem ((c.tc : Thread Cert.Reference12Ideal.nD Cert.Reference12Ideal.τ).loc Cert.Reference12Ideal.main_arg26) = m' ((c.tc : Thread Cert.Reference12Ideal.nD Cert.Reference12Ideal.τ).loc Cert.Reference12Ideal.main_arg26)
          ∧ r.2.mem ((c.tc : Thread Cert.Reference12Ideal.nD Cert.Reference12Ideal.τ).loc Cert.Reference12Ideal.main_arg27) = m' ((c.tc : Thread Cert.Reference12Ideal.nD Cert.Reference12Ideal.τ).loc Cert.Reference12Ideal.main_arg27)
          ∧ r.2.mem ((c.tc : Thread Cert.Reference12Ideal.nD Cert.Reference12Ideal.τ).loc Cert.Reference12Ideal.main_arg28) = m' ((c.tc : Thread Cert.Reference12Ideal.nD Cert.Reference12Ideal.τ).loc Cert.Reference12Ideal.main_arg28)
          ∧ r.2.mem ((c.tc : Thread Cert.Reference12Ideal.nD Cert.Reference12Ideal.τ).loc Cert.Reference12Ideal.main_arg29) = m' ((c.tc : Thread Cert.Reference12Ideal.nD Cert.Reference12Ideal.τ).loc Cert.Reference12Ideal.main_arg29)
          ∧ r.2.mem ((c.tc : Thread Cert.Reference12Ideal.nD Cert.Reference12Ideal.τ).loc Cert.Reference12Ideal.main_arg30) = m' ((c.tc : Thread Cert.Reference12Ideal.nD Cert.Reference12Ideal.τ).loc Cert.Reference12Ideal.main_arg30)
          ∧ r.2.mem ((c.tc : Thread Cert.Reference12Ideal.nD Cert.Reference12Ideal.τ).loc Cert.Reference12Ideal.main_arg31) = m' ((c.tc : Thread Cert.Reference12Ideal.nD Cert.Reference12Ideal.τ).loc Cert.Reference12Ideal.main_arg31)
          ∧ r.2.mem ((c.tc : Thread Cert.Reference12Ideal.nD Cert.Reference12Ideal.τ).loc Cert.Reference12Ideal.main_arg32) = m' ((c.tc : Thread Cert.Reference12Ideal.nD Cert.Reference12Ideal.τ).loc Cert.Reference12Ideal.main_arg32)
          ∧ r.2.mem ((c.tc : Thread Cert.Reference12Ideal.nD Cert.Reference12Ideal.τ).loc Cert.Reference12Ideal.main_arg33) = m' ((c.tc : Thread Cert.Reference12Ideal.nD Cert.Reference12Ideal.τ).loc Cert.Reference12Ideal.main_arg33)
          ∧ r.2.mem ((c.tc : Thread Cert.Reference12Ideal.nD Cert.Reference12Ideal.τ).loc Cert.Reference12Ideal.main_arg34) = m' ((c.tc : Thread Cert.Reference12Ideal.nD Cert.Reference12Ideal.τ).loc Cert.Reference12Ideal.main_arg34)
          ∧ r.2.mem ((c.tc : Thread Cert.Reference12Ideal.nD Cert.Reference12Ideal.τ).loc Cert.Reference12Ideal.main_arg35) = m' ((c.tc : Thread Cert.Reference12Ideal.nD Cert.Reference12Ideal.τ).loc Cert.Reference12Ideal.main_arg35)
          ∧ r.2.mem ((c.tc : Thread Cert.Reference12Ideal.nD Cert.Reference12Ideal.τ).loc Cert.Reference12Ideal.main_arg36) = m' ((c.tc : Thread Cert.Reference12Ideal.nD Cert.Reference12Ideal.τ).loc Cert.Reference12Ideal.main_arg36)
          ∧ r.2.mem ((c.tc : Thread Cert.Reference12Ideal.nD Cert.Reference12Ideal.τ).loc Cert.Reference12Ideal.main_arg37) = m' ((c.tc : Thread Cert.Reference12Ideal.nD Cert.Reference12Ideal.τ).loc Cert.Reference12Ideal.main_arg37)
          ∧ r.2.mem ((c.tc : Thread Cert.Reference12Ideal.nD Cert.Reference12Ideal.τ).loc Cert.Reference12Ideal.main_arg38) = m' ((c.tc : Thread Cert.Reference12Ideal.nD Cert.Reference12Ideal.τ).loc Cert.Reference12Ideal.main_arg38)
          ∧ r.2.mem ((c.tc : Thread Cert.Reference12Ideal.nD Cert.Reference12Ideal.τ).loc Cert.Reference12Ideal.main_arg39) = m' ((c.tc : Thread Cert.Reference12Ideal.nD Cert.Reference12Ideal.τ).loc Cert.Reference12Ideal.main_arg39)
          ∧ r.2.mem ((c.tc : Thread Cert.Reference12Ideal.nD Cert.Reference12Ideal.τ).loc Cert.Reference12Ideal.main_arg40) = m' ((c.tc : Thread Cert.Reference12Ideal.nD Cert.Reference12Ideal.τ).loc Cert.Reference12Ideal.main_arg40)
          ∧ r.2.mem ((c.tc : Thread Cert.Reference12Ideal.nD Cert.Reference12Ideal.τ).loc Cert.Reference12Ideal.main_arg41) = m' ((c.tc : Thread Cert.Reference12Ideal.nD Cert.Reference12Ideal.τ).loc Cert.Reference12Ideal.main_arg41)
          ∧ r.2.mem ((c.tc : Thread Cert.Reference12Ideal.nD Cert.Reference12Ideal.τ).loc Cert.Reference12Ideal.main_arg42) = m' ((c.tc : Thread Cert.Reference12Ideal.nD Cert.Reference12Ideal.τ).loc Cert.Reference12Ideal.main_arg42)
          ∧ r.2.mem ((c.tc : Thread Cert.Reference12Ideal.nD Cert.Reference12Ideal.τ).loc Cert.Reference12Ideal.main_arg43) = m' ((c.tc : Thread Cert.Reference12Ideal.nD Cert.Reference12Ideal.τ).loc Cert.Reference12Ideal.main_arg43))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)) →
    ∃ (v0 : (c : Dev Cert.Kernel13Ideal.nD) → Buf (Elt Ideal) ((c.tc : Thread Cert.Kernel13Ideal.nD Cert.Kernel13Ideal.τ).loc Cert.Kernel13Ideal.main_v18)) (v1 : (c : Dev Cert.Kernel13Ideal.nD) → Buf (Elt Ideal) ((c.tc : Thread Cert.Kernel13Ideal.nD Cert.Kernel13Ideal.τ).loc Cert.Kernel13Ideal.main_v20)) (v2 : (c : Dev Cert.Kernel13Ideal.nD) → Buf (Elt Ideal) ((c.tc : Thread Cert.Kernel13Ideal.nD Cert.Kernel13Ideal.τ).loc Cert.Kernel13Ideal.main_v22)) (v3 : (c : Dev Cert.Kernel13Ideal.nD) → Buf (Elt Ideal) ((c.tc : Thread Cert.Kernel13Ideal.nD Cert.Kernel13Ideal.τ).loc Cert.Kernel13Ideal.main_v24)) (v4 : (c : Dev Cert.Kernel13Ideal.nD) → Buf (Elt Ideal) ((c.tc : Thread Cert.Kernel13Ideal.nD Cert.Kernel13Ideal.τ).loc Cert.Kernel13Ideal.main_v26)) (v5 : (c : Dev Cert.Kernel13Ideal.nD) → Buf (Elt Ideal) ((c.tc : Thread Cert.Kernel13Ideal.nD Cert.Kernel13Ideal.τ).loc Cert.Kernel13Ideal.main_v28)) (v6 : (c : Dev Cert.Kernel13Ideal.nD) → Buf (Elt Ideal) ((c.tc : Thread Cert.Kernel13Ideal.nD Cert.Kernel13Ideal.τ).loc Cert.Kernel13Ideal.main_v30)) (v7 : (c : Dev Cert.Kernel13Ideal.nD) → Buf (Elt Ideal) ((c.tc : Thread Cert.Kernel13Ideal.nD Cert.Kernel13Ideal.τ).loc Cert.Kernel13Ideal.main_v32)) (v8 : (c : Dev Cert.Kernel13Ideal.nD) → Buf (Elt Ideal) ((c.tc : Thread Cert.Kernel13Ideal.nD Cert.Kernel13Ideal.τ).loc Cert.Kernel13Ideal.main_v34)) (v9 : (c : Dev Cert.Kernel13Ideal.nD) → Buf (Elt Ideal) ((c.tc : Thread Cert.Kernel13Ideal.nD Cert.Kernel13Ideal.τ).loc Cert.Kernel13Ideal.main_v36)) (v10 : (c : Dev Cert.Kernel13Ideal.nD) → Buf (Elt Ideal) ((c.tc : Thread Cert.Kernel13Ideal.nD Cert.Kernel13Ideal.τ).loc Cert.Kernel13Ideal.main_v38)) (v11 : (c : Dev Cert.Kernel13Ideal.nD) → Buf (Elt Ideal) ((c.tc : Thread Cert.Kernel13Ideal.nD Cert.Kernel13Ideal.τ).loc Cert.Kernel13Ideal.main_v40)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v18) = v0 c
          ∧ r.2.mem ((c.tc : Thread Cert.Kernel13Ideal.nD Cert.Kernel13Ideal.τ).loc Cert.Kernel13Ideal.main_v20) = v1 c
          ∧ r.2.mem ((c.tc : Thread Cert.Kernel13Ideal.nD Cert.Kernel13Ideal.τ).loc Cert.Kernel13Ideal.main_v22) = v2 c
          ∧ r.2.mem ((c.tc : Thread Cert.Kernel13Ideal.nD Cert.Kernel13Ideal.τ).loc Cert.Kernel13Ideal.main_v24) = v3 c
          ∧ r.2.mem ((c.tc : Thread Cert.Kernel13Ideal.nD Cert.Kernel13Ideal.τ).loc Cert.Kernel13Ideal.main_v26) = v4 c
          ∧ r.2.mem ((c.tc : Thread Cert.Kernel13Ideal.nD Cert.Kernel13Ideal.τ).loc Cert.Kernel13Ideal.main_v28) = v5 c
          ∧ r.2.mem ((c.tc : Thread Cert.Kernel13Ideal.nD Cert.Kernel13Ideal.τ).loc Cert.Kernel13Ideal.main_v30) = v6 c
          ∧ r.2.mem ((c.tc : Thread Cert.Kernel13Ideal.nD Cert.Kernel13Ideal.τ).loc Cert.Kernel13Ideal.main_v32) = v7 c
          ∧ r.2.mem ((c.tc : Thread Cert.Kernel13Ideal.nD Cert.Kernel13Ideal.τ).loc Cert.Kernel13Ideal.main_v34) = v8 c
          ∧ r.2.mem ((c.tc : Thread Cert.Kernel13Ideal.nD Cert.Kernel13Ideal.τ).loc Cert.Kernel13Ideal.main_v36) = v9 c
          ∧ r.2.mem ((c.tc : Thread Cert.Kernel13Ideal.nD Cert.Kernel13Ideal.τ).loc Cert.Kernel13Ideal.main_v38) = v10 c
          ∧ r.2.mem ((c.tc : Thread Cert.Kernel13Ideal.nD Cert.Kernel13Ideal.τ).loc Cert.Kernel13Ideal.main_v40) = v11 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v1) = v1 c
          ∧ r.2.mem ((c.tc : Thread Cert.Reference13Ideal.nD Cert.Reference13Ideal.τ).loc Cert.Reference13Ideal.main_v2) = v2 c
          ∧ r.2.mem ((c.tc : Thread Cert.Reference13Ideal.nD Cert.Reference13Ideal.τ).loc Cert.Reference13Ideal.main_v3) = v3 c
          ∧ r.2.mem ((c.tc : Thread Cert.Reference13Ideal.nD Cert.Reference13Ideal.τ).loc Cert.Reference13Ideal.main_v4) = v4 c
          ∧ r.2.mem ((c.tc : Thread Cert.Reference13Ideal.nD Cert.Reference13Ideal.τ).loc Cert.Reference13Ideal.main_v5) = v5 c
          ∧ r.2.mem ((c.tc : Thread Cert.Reference13Ideal.nD Cert.Reference13Ideal.τ).loc Cert.Reference13Ideal.main_v6) = v6 c
          ∧ r.2.mem ((c.tc : Thread Cert.Reference13Ideal.nD Cert.Reference13Ideal.τ).loc Cert.Reference13Ideal.main_v7) = v7 c
          ∧ r.2.mem ((c.tc : Thread Cert.Reference13Ideal.nD Cert.Reference13Ideal.τ).loc Cert.Reference13Ideal.main_v8) = v8 c
          ∧ r.2.mem ((c.tc : Thread Cert.Reference13Ideal.nD Cert.Reference13Ideal.τ).loc Cert.Reference13Ideal.main_v9) = v9 c
          ∧ r.2.mem ((c.tc : Thread Cert.Reference13Ideal.nD Cert.Reference13Ideal.τ).loc Cert.Reference13Ideal.main_v10) = v10 c
          ∧ r.2.mem ((c.tc : Thread Cert.Reference13Ideal.nD Cert.Reference13Ideal.τ).loc Cert.Reference13Ideal.main_v11) = v11 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_cotangent : Cert.Pre_finite_cotangent.Facts) (hPre_finite_head : Cert.Pre_finite_head.Facts) (hPre_finite_ffn : Cert.Pre_finite_ffn.Facts) (hPre_bounded_decays : Cert.Pre_bounded_decays.Facts),
    quiescent_Kernel (hKernel := hKernel)
    ∧ quiescent_KernelIdeal (hKernelIdeal := hKernelIdeal)
    ∧ quiescent_KernelIdeal_pre_finite_cotangent (hKernelIdeal := hKernelIdeal) (hPre_finite_cotangent := hPre_finite_cotangent)
    ∧ quiescent_ReferenceIdeal (hReferenceIdeal := hReferenceIdeal)
    ∧ quiescent_ReferenceIdeal_pre_finite_cotangent (hReferenceIdeal := hReferenceIdeal) (hPre_finite_cotangent := hPre_finite_cotangent)
    ∧ quiescent_Kernel2 (hKernel2 := hKernel2)
    ∧ quiescent_Kernel2Ideal (hKernel2Ideal := hKernel2Ideal)
    ∧ quiescent_Kernel2Ideal_pre_finite_head (hKernel2Ideal := hKernel2Ideal) (hPre_finite_head := hPre_finite_head)
    ∧ quiescent_Reference2Ideal (hReference2Ideal := hReference2Ideal)
    ∧ quiescent_Reference2Ideal_pre_finite_head (hReference2Ideal := hReference2Ideal) (hPre_finite_head := hPre_finite_head)
    ∧ quiescent_Kernel3 (hKernel3 := hKernel3)
    ∧ quiescent_Kernel3Ideal (hKernel3Ideal := hKernel3Ideal)
    ∧ quiescent_Kernel3Ideal_pre_finite_ffn (hKernel3Ideal := hKernel3Ideal) (hPre_finite_ffn := hPre_finite_ffn)
    ∧ quiescent_Reference3Ideal (hReference3Ideal := hReference3Ideal)
    ∧ quiescent_Reference3Ideal_pre_finite_ffn (hReference3Ideal := hReference3Ideal) (hPre_finite_ffn := hPre_finite_ffn)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_bounded_decays (hKernel11Ideal := hKernel11Ideal) (hPre_bounded_decays := hPre_bounded_decays)
    ∧ quiescent_Reference11Ideal (hReference11Ideal := hReference11Ideal)
    ∧ quiescent_Reference11Ideal_pre_bounded_decays (hReference11Ideal := hReference11Ideal) (hPre_bounded_decays := hPre_bounded_decays)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_cotangent (hKernelIdeal := hKernelIdeal) (hReferenceIdeal := hReferenceIdeal) (hPre_finite_cotangent := hPre_finite_cotangent)
    ∧ preserves_Kernel2_Kernel2Ideal
    ∧ algebraic_Kernel2Ideal_Reference2Ideal_pre_finite_head (hKernel2Ideal := hKernel2Ideal) (hReference2Ideal := hReference2Ideal) (hPre_finite_head := hPre_finite_head)
    ∧ preserves_Kernel3_Kernel3Ideal
    ∧ algebraic_Kernel3Ideal_Reference3Ideal_pre_finite_ffn (hKernel3Ideal := hKernel3Ideal) (hReference3Ideal := hReference3Ideal) (hPre_finite_ffn := hPre_finite_ffn)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_bounded_decays (hKernel11Ideal := hKernel11Ideal) (hReference11Ideal := hReference11Ideal) (hPre_bounded_decays := hPre_bounded_decays)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_bounded_decays.lean ====
abbrev S1x8192x3592 : Shape := ⟨3, ![1, 8192, 3592]⟩
abbrev S2x512 : Shape := ⟨2, ![2, 512]⟩
abbrev S1x512 : Shape := ⟨2, ![1, 512]⟩
abbrev S1x8192x1536 : Shape := ⟨3, ![1, 8192, 1536]⟩
abbrev S8192x1536 : Shape := ⟨2, ![8192, 1536]⟩
abbrev S_ : Shape := ⟨0, ![]⟩
abbrev S512 : Shape := ⟨1, ![512]⟩

class Facts : Prop where
  slices_S1x8192x3592_S1x8192x1536_0_0_0 : S1x8192x3592.Slices ![0, 0, 0] S1x8192x1536
  shapeCasts_S1x8192x1536_S8192x1536 : S1x8192x1536.ShapeCasts S8192x1536
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  slices_S2x512_S1x512_1_0 : S2x512.Slices ![1, 0] S1x512
  shapeCasts_S1x512_S512 : S1x512.ShapeCasts S512
  slices_S2x512_S1x512_0_0 : S2x512.Slices ![0, 0] S1x512
  bcast_S_S512 : S_.BroadcastsInDim S512 (![] : Fin 0 → Fin S512.rank)
  reducesTo_S512_S_d0 : S512.ReducesTo [0] S_

variable [Facts]

def fn_part1 {F : FTy → Type} [FloatOps F] (main_v10 : IVec S_ 1) (main_v17 : IVec S512 1) (main_c_3 : IVec S_ 1) : IVec S_ 1 :=
  let main_v18 : IVec S_ 1 := (fun x v => Host.reduce IntOp.andi x v reducesTo_S512_S_d0 h_S_) main_v17 main_c_3
  let main_v19 : IVec S_ 1 := andi main_v10 main_v18
  main_v19

def fn {F : FTy → Type} [FloatOps F] (main_arg0 : FVec F S1x8192x3592 .f32) (main_arg1 : FVec F S2x512 .f32) (main_arg2 : FVec F S1x512 .f32) : IVec S_ 1 :=
  let main_v0 : FVec F S1x8192x1536 .f32 := (extractStridedSlice S1x8192x1536 ![0, 0, 0] · slices_S1x8192x3592_S1x8192x1536_0_0_0) main_arg0
  let main_v1 : FVec F S8192x1536 .f32 := shapeCast S8192x1536 main_v0 shapeCasts_S1x8192x1536_S8192x1536
  let main_v2 : FVec F S8192x1536 .f32 := Host.absf main_v1
  let main_cst : FVec F S_ .f32 := constant S_ .f32 0x7F800000#32
  let main_v3 : FVec F S8192x1536 .f32 := broadcastInDim S8192x1536 ![] bcast_S_S8192x1536 main_cst
  let main_v4 : IVec S8192x1536 1 := cmpf .olt main_v2 main_v3
  let main_c : IVec S_ 1 := constantI S_ 1 1#1
  let main_v5 : IVec S_ 1 := (fun x v => Host.reduce IntOp.andi x v reducesTo_S8192x1536_S_d0_1 h_S_) main_v4 main_c
  let main_v6 : FVec F S2x512 .f32 := Host.absf main_arg1
  let main_cst_0 : FVec F S_ .f32 := constant S_ .f32 0x7F800000#32
  let main_v7 : FVec F S2x512 .f32 := broadcastInDim S2x512 ![] bcast_S_S2x512 main_cst_0
  let main_v8 : IVec S2x512 1 := cmpf .olt main_v6 main_v7
  let main_c_1 : IVec S_ 1 := constantI S_ 1 1#1
  let main_v9 : IVec S_ 1 := (fun x v => Host.reduce IntOp.andi x v reducesTo_S2x512_S_d0_1 h_S_) main_v8 main_c_1
  let main_v10 : IVec S_ 1 := andi main_v5 main_v9
  let main_v11 : FVec F S1x512 .f32 := (extractStridedSlice S1x512 ![1, 0] · slices_S2x512_S1x512_1_0) main_arg1
  let main_v12 : FVec F S512 .f32 := shapeCast S512 main_v11 shapeCasts_S1x512_S512
  let main_v13 : FVec F S1x512 .f32 := (extractStridedSlice S1x512 ![0, 0] · slices_S2x512_S1x512_0_0) main_arg1
  let main_v14 : FVec F S512 .f32 := shapeCast S512 main_v13 shapeCasts_S1x512_S512
  let main_v15 : FVec F S512 .f32 := subf main_v12 main_v14
  let main_cst_2 : FVec F S_ .f32 := constant S_ .f32 0x409C0000#32
  let main_v16 : FVec F S512 .f32 := broadcastInDim S512 ![] bcast_S_S512 main_cst_2
  let main_v17 : IVec S512 1 := cmpf .ole main_v15 main_v16
  let main_c_3 : IVec S_ 1 := constantI S_ 1 1#1
  fn_part1 (F := F) main_v10 main_v17 main_c_3
-- ==== Pre_finite_cotangent.lean ====
abbrev S1x8192x3592 : Shape := ⟨3, ![1, 8192, 3592]⟩
abbrev S1x4x512 : Shape := ⟨3, ![1, 4, 512]⟩
abbrev S1x512 : Shape := ⟨2, ![1, 512]⟩
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S1x8192x3592 .f32) (main_arg1 : FVec F S1x4x512 .f32) (main_arg2 : FVec F S1x512 .f32) (main_arg3 : FVec F S8192x512 .f32) : IVec S_ 1 :=
  let main_v0 : FVec F S8192x512 .f32 := Host.absf main_arg3
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Pre_finite_ffn.lean ====
abbrev S8192x1024 : Shape := ⟨2, ![8192, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part2 {F : FTy → Type} [FloatOps F] (main_arg7 : FVec F S1x2816x1024 .f32) (main_arg8 : FVec F S8192x1024 .f32) (main_v33 : IVec S_ 1) : IVec S_ 1 :=
  let main_v34 : FVec F S1x2816x1024 .f32 := Host.absf main_arg7
  let main_cst_12 : FVec F S_ .f32 := constant S_ .f32 0x7F800000#32
  let main_v35 : FVec F S1x2816x1024 .f32 := broadcastInDim S1x2816x1024 ![] bcast_S_S1x2816x1024 main_cst_12
  let main_v36 : IVec S1x2816x1024 1 := cmpf .olt main_v34 main_v35
  let main_c_13 : IVec S_ 1 := constantI S_ 1 1#1
  let main_v37 : IVec S_ 1 := (fun x v => Host.reduce IntOp.andi x v reducesTo_S1x2816x1024_S_d0_1_2 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  main_v43

def fn_part1 {F : FTy → Type} [FloatOps F] (main_arg4 : FVec F S1x1024 .f32) (main_arg5 : FVec F S1x1024x2816 .f32) (main_arg6 : FVec F S1x1024x2816 .f32) (main_arg7 : FVec F S1x2816x1024 .f32) (main_arg8 : FVec F S8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024x2816 .f32 := Host.absf main_arg5
  let main_cst_8 : FVec F S_ .f32 := constant S_ .f32 0x7F800000#32
  let main_v25 : FVec F S1x1024x2816 .f32 := broadcastInDim S1x1024x2816 ![] bcast_S_S1x1024x2816 main_cst_8
  let main_v26 : IVec S1x1024x2816 1 := cmpf .olt main_v24 main_v25
  let main_c_9 : IVec S_ 1 := constantI S_ 1 1#1
  let main_v27 : IVec S_ 1 := (fun x v => Host.reduce IntOp.andi x v reducesTo_S1x1024x2816_S_d0_1_2 h_S_) main_v26 main_c_9
  let main_v28 : IVec S_ 1 := andi main_v23 main_v27
  let main_v29 : FVec F S1x1024x2816 .f32 := Host.absf main_arg6
  let main_cst_10 : FVec F S_ .f32 := constant S_ .f32 0x7F800000#32
  let main_v30 : FVec F S1x1024x2816 .f32 := broadcastInDim S1x1024x2816 ![] bcast_S_S1x1024x2816 main_cst_10
  let main_v31 : IVec S1x1024x2816 1 := cmpf .olt main_v29 main_v30
  let main_c_11 : IVec S_ 1 := constantI S_ 1 1#1
  let main_v32 : IVec S_ 1 := (fun x v => Host.reduce IntOp.andi x v reducesTo_S1x1024x2816_S_d0_1_2 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x1024 .f32) (main_arg2 : FVec F S1x1024x1024 .f32) (main_arg3 : FVec F S1x1024 .f32) (main_arg4 : FVec F S1x1024 .f32) (main_arg5 : FVec F S1x1024x2816 .f32) (main_arg6 : FVec F S1x1024x2816 .f32) (main_arg7 : FVec F S1x2816x1024 .f32) (main_arg8 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024x1024 .f32 := Host.absf main_arg2
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_v13 main_v16
-- ==== Pre_finite_head.lean ====
abbrev S8192x1024 : Shape := ⟨2, ![8192, 1024]⟩
abbrev S8192x2816 : Shape := ⟨2, ![8192, 2816]⟩
abbrev S1x2816x1024 : Shape := ⟨3, ![1, 2816, 1024]⟩
abbrev S1x1024 : Shape := ⟨2, ![1, 1024]⟩
abbrev S8192x256 : Shape := ⟨2, ![8192, 256]⟩
abbrev S1x1024x1024 : Shape := ⟨3, ![1, 1024, 1024]⟩
abbrev S1x256x1024 : Shape := ⟨3, ![1, 256, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn_part2 {F : FTy → Type} [FloatOps F] (main_arg7 : FVec F S1x1024x1024 .f32) (main_arg9 : FVec F S1x256x1024 .f32) (main_v33 : IVec S_ 1) : IVec S_ 1 :=
  let main_v34 : FVec F S1x1024x1024 .f32 := Host.absf main_arg7
  let main_cst_12 : FVec F S_ .f32 := constant S_ .f32 0x7F800000#32
  let main_v35 : FVec F S1x1024x1024 .f32 := broadcastInDim S1x1024x1024 ![] bcast_S_S1x1024x1024 main_cst_12
  let main_v36 : IVec S1x1024x1024 1 := cmpf .olt main_v34 main_v35
  let main_c_13 : IVec S_ 1 := constantI S_ 1 1#1
  let main_v37 : IVec S_ 1 := (fun x v => Host.reduce IntOp.andi x v reducesTo_S1x1024x1024_S_d0_1_2 h_S_) main_v36 main_c_13
  let main_v38 : IVec S_ 1 := andi main_v33 main_v37
  let main_v39 : FVec F S1x256x1024 .f32 := Host.absf main_arg9
  let main_cst_14 : FVec F S_ .f32 := constant S_ .f32 0x7F800000#32
  let main_v40 : FVec F S1x256x1024 .f32 := broadcastInDim S1x256x1024 ![] bcast_S_S1x256x1024 main_cst_14
  let main_v41 : IVec S1x256x1024 1 := cmpf .olt main_v39 main_v40
  let main_c_15 : IVec S_ 1 := constantI S_ 1 1#1
  let main_v42 : IVec S_ 1 := (fun x v => Host.reduce IntOp.andi x v reducesTo_S1x256x1024_S_d0_1_2 h_S_) main_v41 main_c_15
  let main_v43 : IVec S_ 1 := andi main_v38 main_v42
  main_v43

def fn_part1 {F : FTy → Type} [FloatOps F] (main_arg4 : FVec F S1x1024 .f32) (main_arg5 : FVec F S8192x256 .f32) (main_arg6 : FVec F S8192x1024 .f32) (main_arg7 : FVec F S1x1024x1024 .f32) (main_arg9 : FVec F S1x256x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S8192x256 .f32 := Host.absf main_arg5
  let main_cst_8 : FVec F S_ .f32 := constant S_ .f32 0x7F800000#32
  let main_v25 : FVec F S8192x256 .f32 := broadcastInDim S8192x256 ![] bcast_S_S8192x256 main_cst_8
  let main_v26 : IVec S8192x256 1 := cmpf .olt main_v24 main_v25
  let main_c_9 : IVec S_ 1 := constantI S_ 1 1#1
  let main_v27 : IVec S_ 1 := (fun x v => Host.reduce IntOp.andi x v reducesTo_S8192x256_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_arg9 main_v33

def fn {F : FTy → Type} [FloatOps F] (main_arg0 : FVec F S8192x1024 .f32) (main_arg1 : FVec F S8192x2816 .f32) (main_arg2 : FVec F S1x2816x1024 .f32) (main_arg3 : FVec F S1x1024 .f32) (main_arg4 : FVec F S1x1024 .f32) (main_arg5 : FVec F S8192x256 .f32) (main_arg6 : FVec F S8192x1024 .f32) (main_arg7 : FVec F S1x1024x1024 .f32) (main_arg8 : FVec F S1x1024 .f32) (main_arg9 : FVec F S1x256x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2816 .f32 := Host.absf main_arg1
  let main_cst_0 : FVec F S_ .f32 := constant S_ .f32 0x7F800000#32
  let main_v5 : FVec F S8192x2816 .f32 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  let main_v9 : FVec F S1x2816x1024 .f32 := Host.absf main_arg2
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_c_3 : IVec S_ 1 := constantI S_ 1 1#1
  let main_v12 : IVec S_ 1 := (fun x v => Host.reduce IntOp.andi x v reducesTo_S1x2816x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg9 main_v13 main_v16
-- ==== Kernel.lean ====
abbrev S1x8192x3592 : Shape := ⟨3, ![1, 8192, 3592]⟩
abbrev S1x4x512 : Shape := ⟨3, ![1, 4, 512]⟩
abbrev S1x512 : Shape := ⟨2, ![1, 512]⟩
abbrev S8192x512 : Shape := ⟨2, ![8192, 512]⟩
abbrev S1x8192x1544 : Shape := ⟨3, ![1, 8192, 1544]⟩
abbrev S8192x1544 : Shape := ⟨2, ![8192, 1544]⟩
abbrev S_ : Shape := ⟨0, ![]⟩
abbrev S8192x120 : Shape := ⟨2, ![8192, 120]⟩
abbrev S8192x1664 : Shape := ⟨2, ![8192, 1664]⟩
abbrev S1x8192x512 : Shape := ⟨3, ![1, 8192, 512]⟩
abbrev S4x512 : Shape := ⟨2, ![4, 512]⟩
abbrev S512 : Shape := ⟨1, ![512]⟩
abbrev S3x512 : Shape := ⟨2, ![3, 512]⟩
abbrev S8195x512 : Shape := ⟨2, ![8195, 512]⟩
abbrev S1024x512 : Shape := ⟨2, ![1024, 512]⟩
abbrev S8x512 : Shape := ⟨2, ![8, 512]⟩
abbrev S1032x512 : Shape := ⟨2, ![1032, 512]⟩

abbrev nBuf : Space → Nat
  | .hbm => 50
  | .vmem => 15
  | .smem => 0
  | _ => 0

abbrev bufTy : (tb : Table) → Fin (tcTables nBuf tb) → BufTy
  | .hbm, ⟨0, _⟩ => ⟨S1x8192x3592, .f32⟩
  | .hbm, ⟨1, _⟩ => ⟨S1x4x512, .f32⟩
  | .hbm, ⟨2, _⟩ => ⟨S1x512, .f32⟩
  | .hbm, ⟨3, _⟩ => ⟨S8192x512, .f32⟩
  | .hbm, ⟨4, _⟩ => ⟨S1x8192x1544, .f32⟩
  | .hbm, ⟨5, _⟩ => ⟨S8192x1544, .f32⟩
  | .hbm, ⟨6, _⟩ => ⟨S_, .f32⟩
  | .hbm, ⟨7, _⟩ => ⟨S8192x120, .f32⟩
  | .hbm, ⟨8, _⟩ => ⟨S8192x1664, .f32⟩
  | .hbm, ⟨9, _⟩ => ⟨S1x8192x512, .f32⟩
  | .hbm, ⟨10, _⟩ => ⟨S8192x512, .f32⟩
  | .hbm, ⟨11, _⟩ => ⟨S4x512, .f32⟩
  | .hbm, ⟨12, _⟩ => ⟨S512, .f32⟩
  | .hbm, ⟨13, _⟩ => ⟨S_, .f32⟩
  | .hbm, ⟨14, _⟩ => ⟨S3x512, .f32⟩
  | .hbm, ⟨15, _⟩ => ⟨S8195x512, .f32⟩
  | .hbm, ⟨16, _⟩ => ⟨S8192x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x512, .f32⟩
  | .hbm, ⟨30, _⟩ => ⟨S1x512, .f32⟩
  | .hbm, ⟨31, _⟩ => ⟨S512, .f32⟩
  | .hbm, ⟨32, _⟩ => ⟨S1x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S1x512, .f32⟩
  | .hbm, ⟨38, _⟩ => ⟨S512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S4x512, .f32⟩
  | .hbm, ⟨47, _⟩ => ⟨S8192x512, .bf16⟩
  | .hbm, ⟨48, _⟩ => ⟨S4x512, .f32⟩
  | .hbm, ⟨49, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S4x512, .f32⟩
  | .local _ .vmem, ⟨12, _⟩ => ⟨S1x512, .f32⟩
  | .local _ .vmem, ⟨13, _⟩ => ⟨S1032x512, .f32⟩
  | .local _ .vmem, ⟨14, _⟩ => ⟨S1032x512, .f32⟩
  | _, _ => ⟨S1x8192x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41_0 : Ref sig .tc := ⟨.hbm, 47, rfl⟩
abbrev main_v41_1 : Ref sig .tc := ⟨.hbm, 48, rfl⟩
abbrev main_v41_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x8192x3592 : Shape := ⟨3, ![1, 8192, 3592]⟩
abbrev S1x4x512 : Shape := ⟨3, ![1, 4, 512]⟩
abbrev S1x512 : Shape := ⟨2, ![1, 512]⟩
abbrev S8192x512 : Shape := ⟨2, ![8192, 512]⟩
abbrev S1x8192x256 : Shape := ⟨3, ![1, 8192, 256]⟩
abbrev S8192x256 : Shape := ⟨2, ![8192, 256]⟩
abbrev S4x512 : Shape := ⟨2, ![4, 512]⟩
abbrev S512 : Shape := ⟨1, ![512]⟩
abbrev S_ : Shape := ⟨0, ![]⟩
abbrev S3x512 : Shape := ⟨2, ![3, 512]⟩
abbrev S8195x512 : Shape := ⟨2, ![8195, 512]⟩

abbrev nBuf : Space → Nat
  | .hbm => 130
  | .vmem => 0
  | .smem => 0
  | _ => 0

abbrev hbmTy0_0 (i : Nat) : BufTy := match i % 128 with
  | 0 => ⟨S1x8192x3592, .f32⟩
  | 1 => ⟨S1x4x512, .f32⟩
  | 2 => ⟨S1x512, .f32⟩
  | 3 => ⟨S8192x512, .f32⟩
  | 4 => ⟨S1x8192x256, .f32⟩
  | 5 => ⟨S8192x256, .f32⟩
  | 6 => ⟨S1x8192x256, .f32⟩
  | 7 => ⟨S8192x256, .f32⟩
  | 8 => ⟨S8192x512, .f32⟩
  | 9 => ⟨S4x512, .f32⟩
  | 10 => ⟨S512, .f32⟩
  | 11 => ⟨S_, .f32⟩
  | 12 => ⟨S3x512, .f32⟩
  | 13 => ⟨S8195x512, .f32⟩
  | 14 => ⟨S_, .f32⟩
  | 15 => ⟨S3x512, .f32⟩
  | 16 => ⟨S8192x512, .f32⟩
  | 17 => ⟨S1x512, .f32⟩
  | 18 => ⟨S512, .f32⟩
  | 19 => ⟨S1x512, .f32⟩
  | 20 => ⟨S8192x512, .f32⟩
  | 21 => ⟨S8192x512, .f32⟩
  | 22 => ⟨S8192x512, .f32⟩
  | 23 => ⟨S1x512, .f32⟩
  | 24 => ⟨S512, .f32⟩
  | 25 => ⟨S1x512, .f32⟩
  | 26 => ⟨S8192x512, .f32⟩
  | 27 => ⟨S8192x512, .f32⟩
  | 28 => ⟨S8192x512, .f32⟩
  | 29 => ⟨S8192x512, .f32⟩
  | 30 => ⟨S1x512, .f32⟩
  | 31 => ⟨S512, .f32⟩
  | 32 => ⟨S1x512, .f32⟩
  | 33 => ⟨S8192x512, .f32⟩
  | 34 => ⟨S8192x512, .f32⟩
  | 35 => ⟨S8192x512, .f32⟩
  | 36 => ⟨S8192x512, .f32⟩
  | 37 => ⟨S1x512, .f32⟩
  | 38 => ⟨S512, .f32⟩
  | 39 => ⟨S1x512, .f32⟩
  | 40 => ⟨S8192x512, .f32⟩
  | 41 => ⟨S8192x512, .f32⟩
  | 42 => ⟨S8192x512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S_, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S8192x512, .f32⟩
  | 63 => ⟨S_, .f32⟩
  | 64 => ⟨S512, .f32⟩
  | 65 => ⟨S1x512, .f32⟩
  | 66 => ⟨S_, .f32⟩
  | 67 => ⟨S512, .f32⟩
  | 68 => ⟨S8192x512, .f32⟩
  | 69 => ⟨S_, .f32⟩
  | 70 => ⟨S512, .f32⟩
  | 71 => ⟨S1x512, .f32⟩
  | 72 => ⟨S8192x512, .f32⟩
  | 73 => ⟨S8192x512, .f32⟩
  | 74 => ⟨S_, .f32⟩
  | 75 => ⟨S512, .f32⟩
  | 76 => ⟨S1x512, .f32⟩
  | 77 => ⟨S_, .f32⟩
  | 78 => ⟨S4x512, .f32⟩
  | 79 => ⟨S_, .f32⟩
  | 80 => ⟨S8195x512, .f32⟩
  | 81 => ⟨S8192x512, .f32⟩
  | 82 => ⟨S_, .f32⟩
  | 83 => ⟨S512, .f32⟩
  | 84 => ⟨S1x512, .f32⟩
  | 85 => ⟨S8192x512, .f32⟩
  | 86 => ⟨S8192x512, .f32⟩
  | 87 => ⟨S_, .f32⟩
  | 88 => ⟨S512, .f32⟩
  | 89 => ⟨S1x512, .f32⟩
  | 90 => ⟨S_, .f32⟩
  | 91 => ⟨S4x512, .f32⟩
  | 92 => ⟨S4x512, .f32⟩
  | 93 => ⟨S_, .f32⟩
  | 94 => ⟨S8195x512, .f32⟩
  | 95 => ⟨S8195x512, .f32⟩
  | 96 => ⟨S8192x512, .f32⟩
  | 97 => ⟨S_, .f32⟩
  | 98 => ⟨S512, .f32⟩
  | 99 => ⟨S1x512, .f32⟩
  | 100 => ⟨S8192x512, .f32⟩
  | 101 => ⟨S8192x512, .f32⟩
  | 102 => ⟨S_, .f32⟩
  | 103 => ⟨S512, .f32⟩
  | 104 => ⟨S1x512, .f32⟩
  | 105 => ⟨S_, .f32⟩
  | 106 => ⟨S4x512, .f32⟩
  | 107 => ⟨S4x512, .f32⟩
  | 108 => ⟨S_, .f32⟩
  | 109 => ⟨S8195x512, .f32⟩
  | 110 => ⟨S8195x512, .f32⟩
  | 111 => ⟨S8192x512, .f32⟩
  | 112 => ⟨S_, .f32⟩
  | 113 => ⟨S512, .f32⟩
  | 114 => ⟨S1x512, .f32⟩
  | 115 => ⟨S8192x512, .f32⟩
  | 116 => ⟨S8192x512, .f32⟩
  | 117 => ⟨S_, .f32⟩
  | 118 => ⟨S512, .f32⟩
  | 119 => ⟨S1x512, .f32⟩
  | 120 => ⟨S_, .f32⟩
  | 121 => ⟨S4x512, .f32⟩
  | 122 => ⟨S4x512, .f32⟩
  | 123 => ⟨S_, .f32⟩
  | 124 => ⟨S8195x512, .f32⟩
  | 125 => ⟨S8195x512, .f32⟩
  | 126 => ⟨S3x512, .f32⟩
  | 127 => ⟨S8192x512, .f32⟩
  | _ => ⟨S1x8192x3592, .f32⟩

abbrev hbmTy0_1 (i : Nat) : BufTy := match i % 128 with
  | 0 => ⟨S8192x512, .bf16⟩
  | 1 => ⟨S1x512, .f32⟩
  | _ => ⟨S1x8192x3592, .f32⟩

abbrev hbmTy (i : Nat) : BufTy := match i / 128 with
  | 0 => hbmTy0_0 i
  | 1 => hbmTy0_1 i
  | _ => ⟨S1x8192x3592, .f32⟩

abbrev bufTy : (tb : Table) → Fin (tcTables nBuf tb) → BufTy
  | .hbm, ⟨i, _⟩ => hbmTy i
  | _, _ => ⟨S1x8192x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_v40_2 : Ref sig .tc := ⟨.hbm, 53, rfl⟩
abbrev main_call0_cst_1 : Ref sig .tc := ⟨.hbm, 54, rfl⟩
abbrev main_call0_v6 : Ref sig .tc := ⟨.hbm, 55, rfl⟩
abbrev main_call0_v7 : Ref sig .tc := ⟨.hbm, 56, rfl⟩
abbrev main_v40_1 : Ref sig .tc := ⟨.hbm, 57, rfl⟩
abbrev main_v40_0 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_cst_1 : Ref sig .tc := ⟨.hbm, 63, rfl⟩
abbrev main_v42 : Ref sig .tc := ⟨.hbm, 64, rfl⟩
abbrev main_v43 : Ref sig .tc := ⟨.hbm, 65, rfl⟩
abbrev main_cst_2 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_4 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_8 : Ref sig .tc := ⟨.hbm, 87, rfl⟩
abbrev main_v59 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_v62 : Ref sig .tc := ⟨.hbm, 92, rfl⟩
abbrev main_cst_10 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_cst_14 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_cst_17 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]
-- ==== Kernel2.lean ====
abbrev S8192x1024 : Shape := ⟨2, ![8192, 1024]⟩
abbrev S8192x2816 : Shape := ⟨2, ![8192, 2816]⟩
abbrev S1x2816x1024 : Shape := ⟨3, ![1, 2816, 1024]⟩
abbrev S1x1024 : Shape := ⟨2, ![1, 1024]⟩
abbrev S8192x256 : Shape := ⟨2, ![8192, 256]⟩
abbrev S1x1024x1024 : Shape := ⟨3, ![1, 1024, 1024]⟩
abbrev S1x256x1024 : Shape := ⟨3, ![1, 256, 1024]⟩
abbrev S2816x1024 : Shape := ⟨2, ![2816, 1024]⟩
abbrev S8192x1 : Shape := ⟨2, ![8192, 1]⟩
abbrev S1024x2816 : Shape := ⟨2, ![1024, 2816]⟩
abbrev S1024x1024 : Shape := ⟨2, ![1024, 1024]⟩
abbrev S1024x1 : Shape := ⟨2, ![1024, 1]⟩
abbrev S1024 : Shape := ⟨1, ![1024]⟩
abbrev S256x1024 : Shape := ⟨2, ![256, 1024]⟩
abbrev S1x1 : Shape := ⟨2, ![1, 1]⟩
abbrev S1024x256 : Shape := ⟨2, ![1024, 256]⟩
abbrev S1 : Shape := ⟨1, ![1]⟩

abbrev nBuf : Space → Nat
  | .hbm => 28
  | .vmem => 39
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S8192x256, .f32⟩
  | .hbm, ⟨6, _⟩ => ⟨S8192x1024, .f32⟩
  | .hbm, ⟨7, _⟩ => ⟨S1x1024x1024, .f32⟩
  | .hbm, ⟨8, _⟩ => ⟨S1x1024, .f32⟩
  | .hbm, ⟨9, _⟩ => ⟨S1x256x1024, .f32⟩
  | .hbm, ⟨10, _⟩ => ⟨S8192x2816, .bf16⟩
  | .hbm, ⟨11, _⟩ => ⟨S2816x1024, .f32⟩
  | .hbm, ⟨12, _⟩ => ⟨S2816x1024, .bf16⟩
  | .hbm, ⟨13, _⟩ => ⟨S8192x1024, .f32⟩
  | .hbm, ⟨14, _⟩ => ⟨S8192x1024, .bf16⟩
  | .hbm, ⟨15, _⟩ => ⟨S8192x1, .f32⟩
  | .hbm, ⟨16, _⟩ => ⟨S8192x1024, .bf16⟩
  | .hbm, ⟨17, _⟩ => ⟨S1024x1024, .f32⟩
  | .hbm, ⟨18, _⟩ => ⟨S1024x1024, .bf16⟩
  | .hbm, ⟨19, _⟩ => ⟨S256x1024, .f32⟩
  | .hbm, ⟨20, _⟩ => ⟨S256x1024, .bf16⟩
  | .hbm, ⟨21, _⟩ => ⟨S8192x1024, .f32⟩
  | .hbm, ⟨22, _⟩ => ⟨S8192x1024, .bf16⟩
  | .hbm, ⟨23, _⟩ => ⟨S8192x1024, .bf16⟩
  | .hbm, ⟨24, _⟩ => ⟨S1x1, .f32⟩
  | .hbm, ⟨25, _⟩ => ⟨S1x1024, .f32⟩
  | .hbm, ⟨26, _⟩ => ⟨S1x1024, .f32⟩
  | .hbm, ⟨27, _⟩ => ⟨S1x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1, .f32⟩
  | .local _ .vmem, ⟨12, _⟩ => ⟨S1024x1, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1, .f32⟩
  | .local _ .vmem, ⟨20, _⟩ => ⟨S1024x1, .f32⟩
  | .local _ .vmem, ⟨21, _⟩ => ⟨S1024x256, .f32⟩
  | .local _ .vmem, ⟨22, _⟩ => ⟨S1024x256, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .bf16⟩
  | .local _ .vmem, ⟨26, _⟩ => ⟨S1x1024, .f32⟩
  | .local _ .vmem, ⟨27, _⟩ => ⟨S256x1024, .bf16⟩
  | .local _ .vmem, ⟨28, _⟩ => ⟨S1x1024, .f32⟩
  | .local _ .vmem, ⟨29, _⟩ => ⟨S1024x1024, .f32⟩
  | .local _ .vmem, ⟨30, _⟩ => ⟨S1024x1024, .f32⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1x1, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc1_stg13_0 : Ref sig .tc := ⟨.vmem, 36, rfl⟩
abbrev cc1_stg14_0 : Ref sig .tc := ⟨.vmem, 37, rfl⟩
abbrev cc1_stg15_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34
abbrev cc1_sem12_0 : DmaSem sig := 35
abbrev cc1_sem13_0 : DmaSem sig := 36
abbrev cc1_sem14_0 : DmaSem sig := 37
abbrev cc1_sem15_0 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1024x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== Reference2Ideal.lean ====
abbrev S8192x1024 : Shape := ⟨2, ![8192, 1024]⟩
abbrev S8192x2816 : Shape := ⟨2, ![8192, 2816]⟩
abbrev S1x2816x1024 : Shape := ⟨3, ![1, 2816, 1024]⟩
abbrev S1x1024 : Shape := ⟨2, ![1, 1024]⟩
abbrev S8192x256 : Shape := ⟨2, ![8192, 256]⟩
abbrev S1x1024x1024 : Shape := ⟨3, ![1, 1024, 1024]⟩
abbrev S1x256x1024 : Shape := ⟨3, ![1, 256, 1024]⟩
abbrev S2816x1024 : Shape := ⟨2, ![2816, 1024]⟩
abbrev S_ : Shape := ⟨0, ![]⟩
abbrev S1024 : Shape := ⟨1, ![1024]⟩
abbrev S8192 : Shape := ⟨1, ![8192]⟩
abbrev S8192x1 : Shape := ⟨2, ![8192, 1]⟩
abbrev S1024x1024 : Shape := ⟨2, ![1024, 1024]⟩
abbrev S256x1024 : Shape := ⟨2, ![256, 1024]⟩
abbrev S1x1 : Shape := ⟨2, ![1, 1]⟩

abbrev nBuf : Space → Nat
  | .hbm => 163
  | .vmem => 0
  | .smem => 0
  | _ => 0

abbrev hbmTy0_0 (i : Nat) : BufTy := match i % 128 with
  | 0 => ⟨S8192x1024, .f32⟩
  | 1 => ⟨S8192x2816, .f32⟩
  | 2 => ⟨S1x2816x1024, .f32⟩
  | 3 => ⟨S1x1024, .f32⟩
  | 4 => ⟨S1x1024, .f32⟩
  | 5 => ⟨S8192x256, .f32⟩
  | 6 => ⟨S8192x1024, .f32⟩
  | 7 => ⟨S1x1024x1024, .f32⟩
  | 8 => ⟨S1x1024, .f32⟩
  | 9 => ⟨S1x256x1024, .f32⟩
  | 10 => ⟨S2816x1024, .f32⟩
  | 11 => ⟨S8192x1024, .f32⟩
  | 12 => ⟨S_, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S1024, .f32⟩
  | 19 => ⟨S1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S_, .f32⟩
  | 41 => ⟨S8192x1, .f32⟩
  | 42 => ⟨S8192x1, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S1x1024, .f32⟩
  | 54 => ⟨S8192x1024, .f32⟩
  | 55 => ⟨S8192x1024, .f32⟩
  | 56 => ⟨S1024x1024, .f32⟩
  | 57 => ⟨S8192x1024, .f32⟩
  | 58 => ⟨S1024, .f32⟩
  | 59 => ⟨S1x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S256x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192, .f32⟩
  | 87 => ⟨S_, .f32⟩
  | 88 => ⟨S8192, .f32⟩
  | 89 => ⟨S8192, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S8192, .f32⟩
  | 98 => ⟨S_, .f32⟩
  | 99 => ⟨S8192, .f32⟩
  | 100 => ⟨S8192, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S_, .f32⟩
  | 107 => ⟨S1024, .f32⟩
  | 108 => ⟨S1x1024, .f32⟩
  | 109 => ⟨S_, .f32⟩
  | 110 => ⟨S1024, .f32⟩
  | 111 => ⟨S1x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S_, .f32⟩
  | 118 => ⟨S1024, .f32⟩
  | 119 => ⟨S8192x1024, .f32⟩
  | 120 => ⟨S_, .f32⟩
  | 121 => ⟨S1024, .f32⟩
  | 122 => ⟨S1x1024, .f32⟩
  | 123 => ⟨S8192x1024, .f32⟩
  | 124 => ⟨S8192x1024, .f32⟩
  | 125 => ⟨S_, .f32⟩
  | 126 => ⟨S1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1024, .f32⟩
  | 5 => ⟨S8192x1, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x1024, .f32⟩
  | 29 => ⟨S8192x1024, .f32⟩
  | 30 => ⟨S1x1024, .f32⟩
  | 31 => ⟨S1x1024, .f32⟩
  | 32 => ⟨S8192x1024, .bf16⟩
  | 33 => ⟨S8192x1024, .bf16⟩
  | 34 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_cst_16 : Ref sig .tc := ⟨.hbm, 94, rfl⟩
abbrev main_cst_17 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_v77 : Ref sig .tc := ⟨.hbm, 108, rfl⟩
abbrev main_cst_20 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_21 : Ref sig .tc := ⟨.hbm, 114, rfl⟩
abbrev main_v82 : Ref sig .tc := ⟨.hbm, 115, rfl⟩
abbrev main_v83 : Ref sig .tc := ⟨.hbm, 116, rfl⟩
abbrev main_cst_22 : Ref sig .tc := ⟨.hbm, 117, rfl⟩
abbrev main_v84 : Ref sig .tc := ⟨.hbm, 118, rfl⟩
abbrev main_v85 : Ref sig .tc := ⟨.hbm, 119, rfl⟩
abbrev main_cst_23 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_24 : Ref sig .tc := ⟨.hbm, 125, rfl⟩
abbrev main_v90 : Ref sig .tc := ⟨.hbm, 126, rfl⟩
abbrev main_v91 : Ref sig .tc := ⟨.hbm, 127, rfl⟩
abbrev main_cst_25 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_26 : Ref sig .tc := ⟨.hbm, 135, rfl⟩
abbrev main_v98 : Ref sig .tc := ⟨.hbm, 136, rfl⟩
abbrev main_v99 : Ref sig .tc := ⟨.hbm, 137, rfl⟩
abbrev main_cst_27 : Ref sig .tc := ⟨.hbm, 138, rfl⟩
abbrev main_v100 : Ref sig .tc := ⟨.hbm, 139, rfl⟩
abbrev main_v101 : Ref sig .tc := ⟨.hbm, 140, rfl⟩
abbrev main_cst_28 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_29 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_30 : Ref sig .tc := ⟨.hbm, 151, rfl⟩
abbrev main_v110 : Ref sig .tc := ⟨.hbm, 152, rfl⟩
abbrev main_v111 : Ref sig .tc := ⟨.hbm, 153, rfl⟩
abbrev main_cst_31 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩

abbrev nD : Nat := 1
abbrev τ : Topo := Topo.v7x

variable {F : FTy → Type} [FloatOps F]
-- ==== Kernel3.lean ====
abbrev S8192x1024 : Shape := ⟨2, ![8192, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024x2816 : Shape := ⟨2, ![1024, 2816]⟩
abbrev S2816x1024 : Shape := ⟨2, ![2816, 1024]⟩
abbrev S8192x512 : Shape := ⟨2, ![8192, 512]⟩
abbrev S8192x1 : Shape := ⟨2, ![8192, 1]⟩
abbrev S1024x512 : Shape := ⟨2, ![1024, 512]⟩
abbrev S1024x1 : Shape := ⟨2, ![1024, 1]⟩
abbrev S512x1024 : Shape := ⟨2, ![512, 1024]⟩
abbrev S1024 : Shape := ⟨1, ![1024]⟩
abbrev S8192x2816 : Shape := ⟨2, ![8192, 2816]⟩
abbrev S512x2816 : Shape := ⟨2, ![512, 2816]⟩
abbrev S256x1024 : Shape := ⟨2, ![256, 1024]⟩
abbrev S256x2816 : Shape := ⟨2, ![256, 2816]⟩
abbrev S256x1 : Shape := ⟨2, ![256, 1]⟩
abbrev S256x512 : Shape := ⟨2, ![256, 512]⟩
abbrev S256 : Shape := ⟨1, ![256]⟩

abbrev nBuf : Space → Nat
  | .hbm => 36
  | .vmem => 54
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S8192x1024, .f32⟩
  | .hbm, ⟨9, _⟩ => ⟨S8192x1024, .bf16⟩
  | .hbm, ⟨10, _⟩ => ⟨S1024x1024, .f32⟩
  | .hbm, ⟨11, _⟩ => ⟨S1024x1024, .bf16⟩
  | .hbm, ⟨12, _⟩ => ⟨S1024x2816, .f32⟩
  | .hbm, ⟨13, _⟩ => ⟨S2816x1024, .f32⟩
  | .hbm, ⟨14, _⟩ => ⟨S2816x1024, .bf16⟩
  | .hbm, ⟨15, _⟩ => ⟨S1024x2816, .f32⟩
  | .hbm, ⟨16, _⟩ => ⟨S2816x1024, .f32⟩
  | .hbm, ⟨17, _⟩ => ⟨S2816x1024, .bf16⟩
  | .hbm, ⟨18, _⟩ => ⟨S2816x1024, .f32⟩
  | .hbm, ⟨19, _⟩ => ⟨S2816x1024, .bf16⟩
  | .hbm, ⟨20, _⟩ => ⟨S8192x512, .bf16⟩
  | .hbm, ⟨21, _⟩ => ⟨S8192x512, .bf16⟩
  | .hbm, ⟨22, _⟩ => ⟨S8192x1024, .f32⟩
  | .hbm, ⟨23, _⟩ => ⟨S8192x1024, .bf16⟩
  | .hbm, ⟨24, _⟩ => ⟨S8192x1, .f32⟩
  | .hbm, ⟨25, _⟩ => ⟨S8192x1024, .bf16⟩
  | .hbm, ⟨26, _⟩ => ⟨S8192x2816, .bf16⟩
  | .hbm, ⟨27, _⟩ => ⟨S8192x2816, .bf16⟩
  | .hbm, ⟨28, _⟩ => ⟨S8192x2816, .bf16⟩
  | .hbm, ⟨29, _⟩ => ⟨S8192x1024, .f32⟩
  | .hbm, ⟨30, _⟩ => ⟨S8192x2816, .bf16⟩
  | .hbm, ⟨31, _⟩ => ⟨S8192x2816, .bf16⟩
  | .hbm, ⟨32, _⟩ => ⟨S1x1024, .f32⟩
  | .hbm, ⟨33, _⟩ => ⟨S1x1024, .f32⟩
  | .hbm, ⟨34, _⟩ => ⟨S8192x512, .f32⟩
  | .hbm, ⟨35, _⟩ => ⟨S8192x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1, .f32⟩
  | .local _ .vmem, ⟨14, _⟩ => ⟨S1024x1, .f32⟩
  | .local _ .vmem, ⟨15, _⟩ => ⟨S1024x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S2816x1024, .bf16⟩
  | .local _ .vmem, ⟨20, _⟩ => ⟨S2816x1024, .bf16⟩
  | .local _ .vmem, ⟨21, _⟩ => ⟨S512x2816, .bf16⟩
  | .local _ .vmem, ⟨22, _⟩ => ⟨S512x2816, .bf16⟩
  | .local _ .vmem, ⟨23, _⟩ => ⟨S512x2816, .bf16⟩
  | .local _ .vmem, ⟨24, _⟩ => ⟨S512x2816, .bf16⟩
  | .local _ .vmem, ⟨25, _⟩ => ⟨S512x2816, .bf16⟩
  | .local _ .vmem, ⟨26, _⟩ => ⟨S512x2816, .bf16⟩
  | .local _ .vmem, ⟨27, _⟩ => ⟨S256x1024, .f32⟩
  | .local _ .vmem, ⟨28, _⟩ => ⟨S256x1024, .f32⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x1024, .bf16⟩
  | .local _ .vmem, ⟨34, _⟩ => ⟨S256x1024, .bf16⟩
  | .local _ .vmem, ⟨35, _⟩ => ⟨S256x1, .f32⟩
  | .local _ .vmem, ⟨36, _⟩ => ⟨S256x1, .f32⟩
  | .local _ .vmem, ⟨37, _⟩ => ⟨S2816x1024, .bf16⟩
  | .local _ .vmem, ⟨38, _⟩ => ⟨S2816x1024, .bf16⟩
  | .local _ .vmem, ⟨39, _⟩ => ⟨S2816x1024, .bf16⟩
  | .local _ .vmem, ⟨40, _⟩ => ⟨S1x1024, .f32⟩
  | .local _ .vmem, ⟨41, _⟩ => ⟨S1024x1024, .bf16⟩
  | .local _ .vmem, ⟨42, _⟩ => ⟨S256x1024, .f32⟩
  | .local _ .vmem, ⟨43, _⟩ => ⟨S256x1024, .f32⟩
  | .local _ .vmem, ⟨44, _⟩ => ⟨S256x2816, .bf16⟩
  | .local _ .vmem, ⟨45, _⟩ => ⟨S256x2816, .bf16⟩
  | .local _ .vmem, ⟨46, _⟩ => ⟨S256x2816, .bf16⟩
  | .local _ .vmem, ⟨47, _⟩ => ⟨S256x2816, .bf16⟩
  | .local _ .vmem, ⟨48, _⟩ => ⟨S1x1024, .f32⟩
  | .local _ .vmem, ⟨49, _⟩ => ⟨S1x1024, .f32⟩
  | .local _ .vmem, ⟨50, _⟩ => ⟨S256x512, .f32⟩
  | .local _ .vmem, ⟨51, _⟩ => ⟨S256x512, .f32⟩
  | .local _ .vmem, ⟨52, _⟩ => ⟨S256x512, .f32⟩
  | .local _ .vmem, ⟨53, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev main_v15_5 : Ref sig .tc := ⟨.hbm, 34, rfl⟩
abbrev main_v15_6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg10_1 : Ref sig .tc := ⟨.vmem, 43, rfl⟩
abbrev cc2_stg11_0 : Ref sig .tc := ⟨.vmem, 44, rfl⟩
abbrev cc2_stg11_1 : Ref sig .tc := ⟨.vmem, 45, rfl⟩
abbrev cc2_stg12_0 : Ref sig .tc := ⟨.vmem, 46, rfl⟩
abbrev cc2_stg12_1 : Ref sig .tc := ⟨.vmem, 47, rfl⟩
abbrev cc2_stg13_0 : Ref sig .tc := ⟨.vmem, 48, rfl⟩
abbrev cc2_stg14_0 : Ref sig .tc := ⟨.vmem, 49, rfl⟩
abbrev cc2_stg15_0 : Ref sig .tc := ⟨.vmem, 50, rfl⟩
abbrev cc2_stg15_1 : Ref sig .tc := ⟨.vmem, 51, rfl⟩
abbrev cc2_stg16_0 : Ref sig .tc := ⟨.vmem, 52, rfl⟩
abbrev cc2_stg16_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem10_1 : DmaSem sig := 43
abbrev cc2_sem11_0 : DmaSem sig := 44
abbrev cc2_sem11_1 : DmaSem sig := 45
abbrev cc2_sem12_0 : DmaSem sig := 46
abbrev cc2_sem12_1 : DmaSem sig := 47
abbrev cc2_sem13_0 : DmaSem sig := 48
abbrev cc2_sem14_0 : DmaSem sig := 49
abbrev cc2_sem15_0 : DmaSem sig := 50
abbrev cc2_sem15_1 : DmaSem sig := 51
abbrev cc2_sem16_0 : DmaSem sig := 52
abbrev cc2_sem16_1 : DmaSem sig := 53

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2816x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2816 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S2816x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2816x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2816x1024 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1024x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S256x1024 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S256x2816 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S256x2816 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 1 → Memref sig .tc .vmem S1x1024 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 2 → Memref sig .tc .vmem S256x512 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S256x512 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]
-- ==== Reference3Ideal.lean ====
abbrev S8192x1024 : Shape := ⟨2, ![8192, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S8192x2816 : Shape := ⟨2, ![8192, 2816]⟩
abbrev S1024x1024 : Shape := ⟨2, ![1024, 1024]⟩
abbrev S1024 : Shape := ⟨1, ![1024]⟩
abbrev S8192 : Shape := ⟨1, ![8192]⟩
abbrev S8192x1 : Shape := ⟨2, ![8192, 1]⟩
abbrev S1024x2816 : Shape := ⟨2, ![1024, 2816]⟩
abbrev S2816x1024 : Shape := ⟨2, ![2816, 1024]⟩
abbrev S8192x512 : Shape := ⟨2, ![8192, 512]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024x1024, .f32⟩
  | 3 => ⟨S1x1024, .f32⟩
  | 4 => ⟨S1x1024, .f32⟩
  | 5 => ⟨S1x1024x2816, .f32⟩
  | 6 => ⟨S1x1024x2816, .f32⟩
  | 7 => ⟨S1x2816x1024, .f32⟩
  | 8 => ⟨S8192x1024, .f32⟩
  | 9 => ⟨S_, .f32⟩
  | 10 => ⟨S8192x1024, .f32⟩
  | 11 => ⟨S_, .f32⟩
  | 12 => ⟨S8192x2816, .f32⟩
  | 13 => ⟨S_, .f32⟩
  | 14 => ⟨S8192x1024, .f32⟩
  | 15 => ⟨S8192x1024, .f32⟩
  | 16 => ⟨S1024x1024, .f32⟩
  | 17 => ⟨S8192x1024, .f32⟩
  | 18 => ⟨S8192x1024, .f32⟩
  | 19 => ⟨S8192x1024, .f32⟩
  | 20 => ⟨S1024, .f32⟩
  | 21 => ⟨S1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S8192x1024, .f32⟩
  | 41 => ⟨S8192x1024, .f32⟩
  | 42 => ⟨S_, .f32⟩
  | 43 => ⟨S8192x1, .f32⟩
  | 44 => ⟨S8192x1, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S1024x2816, .f32⟩
  | 62 => ⟨S8192x2816, .f32⟩
  | 63 => ⟨S8192x2816, .f32⟩
  | 64 => ⟨S8192x2816, .f32⟩
  | 65 => ⟨S8192x2816, .f32⟩
  | 66 => ⟨S_, .f32⟩
  | 67 => ⟨S8192x2816, .f32⟩
  | 68 => ⟨S8192x2816, .f32⟩
  | 69 => ⟨S_, .f32⟩
  | 70 => ⟨S8192x2816, .f32⟩
  | 71 => ⟨S8192x2816, .f32⟩
  | 72 => ⟨S_, .f32⟩
  | 73 => ⟨S8192x2816, .f32⟩
  | 74 => ⟨S8192x2816, .f32⟩
  | 75 => ⟨S8192x2816, .f32⟩
  | 76 => ⟨S8192x2816, .f32⟩
  | 77 => ⟨S1024x2816, .f32⟩
  | 78 => ⟨S8192x2816, .f32⟩
  | 79 => ⟨S8192x2816, .f32⟩
  | 80 => ⟨S8192x2816, .f32⟩
  | 81 => ⟨S2816x1024, .f32⟩
  | 82 => ⟨S8192x1024, .f32⟩
  | 83 => ⟨S8192x1024, .f32⟩
  | 84 => ⟨S8192x1024, .f32⟩
  | 85 => ⟨S8192x1024, .f32⟩
  | 86 => ⟨S8192x2816, .f32⟩
  | 87 => ⟨S8192x2816, .f32⟩
  | 88 => ⟨S8192x2816, .f32⟩
  | 89 => ⟨S8192x1024, .f32⟩
  | 90 => ⟨S8192x2816, .f32⟩
  | 91 => ⟨S8192x2816, .f32⟩
  | 92 => ⟨S8192x2816, .f32⟩
  | 93 => ⟨S8192x2816, .f32⟩
  | 94 => ⟨S8192x1024, .f32⟩
  | 95 => ⟨S8192x1024, .f32⟩
  | 96 => ⟨S_, .f32⟩
  | 97 => ⟨S8192x1024, .f32⟩
  | 98 => ⟨S8192x1024, .f32⟩
  | 99 => ⟨S8192x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S8192x1024, .f32⟩
  | 106 => ⟨S_, .f32⟩
  | 107 => ⟨S1024, .f32⟩
  | 108 => ⟨S1x1024, .f32⟩
  | 109 => ⟨S8192x1024, .f32⟩
  | 110 => ⟨S8192x1024, .f32⟩
  | 111 => ⟨S_, .f32⟩
  | 112 => ⟨S1024, .f32⟩
  | 113 => ⟨S8192x1024, .f32⟩
  | 114 => ⟨S_, .f32⟩
  | 115 => ⟨S8192, .f32⟩
  | 116 => ⟨S8192x1, .f32⟩
  | 117 => ⟨S8192x1024, .f32⟩
  | 118 => ⟨S8192x1024, .f32⟩
  | 119 => ⟨S8192x1, .f32⟩
  | 120 => ⟨S8192x1024, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_1 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S_, .f32⟩
  | 5 => ⟨S8192, .f32⟩
  | 6 => ⟨S8192x1, .f32⟩
  | 7 => ⟨S8192x1024, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x1024, .f32⟩
  | 15 => ⟨S8192x1024, .f32⟩
  | 16 => ⟨S1x1024, .f32⟩
  | 17 => ⟨S1x1024, .f32⟩
  | 18 => ⟨S8192x1024, .f32⟩
  | 19 => ⟨S8192x2816, .bf16⟩
  | 20 => ⟨S8192x2816, .bf16⟩
  | 21 => ⟨S8192x512, .f32⟩
  | 22 => ⟨S8192x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_v44_2 : Ref sig .tc := ⟨.hbm, 71, rfl⟩
abbrev main_call0_cst_1 : Ref sig .tc := ⟨.hbm, 72, rfl⟩
abbrev main_call0_v6 : Ref sig .tc := ⟨.hbm, 73, rfl⟩
abbrev main_call0_v7 : Ref sig .tc := ⟨.hbm, 74, rfl⟩
abbrev main_v44_1 : Ref sig .tc := ⟨.hbm, 75, rfl⟩
abbrev main_v44_0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_11 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_v66 : Ref sig .tc := ⟨.hbm, 104, rfl⟩
abbrev main_v67 : Ref sig .tc := ⟨.hbm, 105, rfl⟩
abbrev main_cst_13 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_14 : Ref sig .tc := ⟨.hbm, 111, rfl⟩
abbrev main_v72 : Ref sig .tc := ⟨.hbm, 112, rfl⟩
abbrev main_v73 : Ref sig .tc := ⟨.hbm, 113, rfl⟩
abbrev main_cst_15 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_16 : Ref sig .tc := ⟨.hbm, 121, rfl⟩
abbrev main_v80 : Ref sig .tc := ⟨.hbm, 122, rfl⟩
abbrev main_v81 : Ref sig .tc := ⟨.hbm, 123, rfl⟩
abbrev main_cst_17 : Ref sig .tc := ⟨.hbm, 124, rfl⟩
abbrev main_v82 : Ref sig .tc := ⟨.hbm, 125, rfl⟩
abbrev main_v83 : Ref sig .tc := ⟨.hbm, 126, rfl⟩
abbrev main_cst_18 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_19 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_20 : Ref sig .tc := ⟨.hbm, 137, rfl⟩
abbrev main_v92 : Ref sig .tc := ⟨.hbm, 138, rfl⟩
abbrev main_v93 : Ref sig .tc := ⟨.hbm, 139, rfl⟩
abbrev main_cst_21 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩

abbrev nD : Nat := 1
abbrev τ : Topo := Topo.v7x

variable {F : FTy → Type} [FloatOps F]
-- ==== Kernel4.lean ====
abbrev S1x8192x3592 : Shape := ⟨3, ![1, 8192, 3592]⟩
abbrev S1x4x512 : Shape := ⟨3, ![1, 4, 512]⟩
abbrev S1x512 : Shape := ⟨2, ![1, 512]⟩
abbrev S1x8192x1544 : Shape := ⟨3, ![1, 8192, 1544]⟩
abbrev S8192x1544 : Shape := ⟨2, ![8192, 1544]⟩
abbrev S_ : Shape := ⟨0, ![]⟩
abbrev S8192x120 : Shape := ⟨2, ![8192, 120]⟩
abbrev S8192x1664 : Shape := ⟨2, ![8192, 1664]⟩
abbrev S4x512 : Shape := ⟨2, ![4, 512]⟩
abbrev S8192x512 : Shape := ⟨2, ![8192, 512]⟩
abbrev S1024x512 : Shape := ⟨2, ![1024, 512]⟩
abbrev S1032x512 : Shape := ⟨2, ![1032, 512]⟩
abbrev S8x512 : Shape := ⟨2, ![8, 512]⟩

abbrev nBuf : Space → Nat
  | .hbm => 11
  | .vmem => 9
  | .smem => 0
  | _ => 0

abbrev bufTy : (tb : Table) → Fin (tcTables nBuf tb) → BufTy
  | .hbm, ⟨0, _⟩ => ⟨S1x8192x3592, .f32⟩
  | .hbm, ⟨1, _⟩ => ⟨S1x4x512, .f32⟩
  | .hbm, ⟨2, _⟩ => ⟨S1x512, .f32⟩
  | .hbm, ⟨3, _⟩ => ⟨S1x8192x1544, .f32⟩
  | .hbm, ⟨4, _⟩ => ⟨S8192x1544, .f32⟩
  | .hbm, ⟨5, _⟩ => ⟨S_, .f32⟩
  | .hbm, ⟨6, _⟩ => ⟨S8192x120, .f32⟩
  | .hbm, ⟨7, _⟩ => ⟨S8192x1664, .f32⟩
  | .hbm, ⟨8, _⟩ => ⟨S4x512, .f32⟩
  | .hbm, ⟨9, _⟩ => ⟨S8192x512, .f32⟩
  | .hbm, ⟨10, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S4x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1032x512, .f32⟩
  | _, _ => ⟨S1x8192x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S1x8192x3592 : Shape := ⟨3, ![1, 8192, 3592]⟩
abbrev S1x4x512 : Shape := ⟨3, ![1, 4, 512]⟩
abbrev S1x512 : Shape := ⟨2, ![1, 512]⟩
abbrev S1x8192x256 : Shape := ⟨3, ![1, 8192, 256]⟩
abbrev S8192x256 : Shape := ⟨2, ![8192, 256]⟩
abbrev S8192x512 : Shape := ⟨2, ![8192, 512]⟩
abbrev S4x512 : Shape := ⟨2, ![4, 512]⟩
abbrev S512 : Shape := ⟨1, ![512]⟩
abbrev S_ : Shape := ⟨0, ![]⟩
abbrev S3x512 : Shape := ⟨2, ![3, 512]⟩
abbrev S8195x512 : Shape := ⟨2, ![8195, 512]⟩

abbrev nBuf : Space → Nat
  | .hbm => 52
  | .vmem => 0
  | .smem => 0
  | _ => 0

abbrev bufTy : (tb : Table) → Fin (tcTables nBuf tb) → BufTy
  | .hbm, ⟨0, _⟩ => ⟨S1x8192x3592, .f32⟩
  | .hbm, ⟨1, _⟩ => ⟨S1x4x512, .f32⟩
  | .hbm, ⟨2, _⟩ => ⟨S1x512, .f32⟩
  | .hbm, ⟨3, _⟩ => ⟨S1x8192x256, .f32⟩
  | .hbm, ⟨4, _⟩ => ⟨S8192x256, .f32⟩
  | .hbm, ⟨5, _⟩ => ⟨S1x8192x256, .f32⟩
  | .hbm, ⟨6, _⟩ => ⟨S8192x256, .f32⟩
  | .hbm, ⟨7, _⟩ => ⟨S8192x512, .f32⟩
  | .hbm, ⟨8, _⟩ => ⟨S4x512, .f32⟩
  | .hbm, ⟨9, _⟩ => ⟨S512, .f32⟩
  | .hbm, ⟨10, _⟩ => ⟨S_, .f32⟩
  | .hbm, ⟨11, _⟩ => ⟨S3x512, .f32⟩
  | .hbm, ⟨12, _⟩ => ⟨S8195x512, .f32⟩
  | .hbm, ⟨13, _⟩ => ⟨S8192x512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S1x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | _, _ => ⟨S1x8192x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel5.lean ====
abbrev S8192x1024 : Shape := ⟨2, ![8192, 1024]⟩
abbrev S1x1024x1024 : Shape := ⟨3, ![1, 1024, 1024]⟩
abbrev S1x1024 : Shape := ⟨2, ![1, 1024]⟩
abbrev S8192x512 : Shape := ⟨2, ![8192, 512]⟩
abbrev S1024x1024 : Shape := ⟨2, ![1024, 1024]⟩
abbrev S8192x1 : Shape := ⟨2, ![8192, 1]⟩
abbrev S1024x512 : Shape := ⟨2, ![1024, 512]⟩
abbrev S1024x1 : Shape := ⟨2, ![1024, 1]⟩
abbrev S512x1024 : Shape := ⟨2, ![512, 1024]⟩
abbrev S1024 : Shape := ⟨1, ![1024]⟩

abbrev nBuf : Space → Nat
  | .hbm => 14
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S8192x512, .bf16⟩
  | .hbm, ⟨7, _⟩ => ⟨S8192x512, .bf16⟩
  | .hbm, ⟨8, _⟩ => ⟨S1024x1024, .f32⟩
  | .hbm, ⟨9, _⟩ => ⟨S1024x1024, .bf16⟩
  | .hbm, ⟨10, _⟩ => ⟨S8192x1024, .f32⟩
  | .hbm, ⟨11, _⟩ => ⟨S8192x1024, .bf16⟩
  | .hbm, ⟨12, _⟩ => ⟨S8192x1, .f32⟩
  | .hbm, ⟨13, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1, .f32⟩
  | .local _ .vmem, ⟨14, _⟩ => ⟨S1024x1, .f32⟩
  | .local _ .vmem, ⟨15, _⟩ => ⟨S1024x1024, .bf16⟩
  | .local _ .vmem, ⟨16, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S8192x1024 : Shape := ⟨2, ![8192, 1024]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S1024 : Shape := ⟨1, ![1024]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel6.lean ====
abbrev S8192x1024 : Shape := ⟨2, ![8192, 1024]⟩
abbrev S1x1024x2816 : Shape := ⟨3, ![1, 1024, 2816]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 13
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024x2816, .f32⟩
  | .hbm, ⟨2, _⟩ => ⟨S1x1024x2816, .f32⟩
  | .hbm, ⟨3, _⟩ => ⟨S8192x1024, .bf16⟩
  | .hbm, ⟨4, _⟩ => ⟨S1024x2816, .f32⟩
  | .hbm, ⟨5, _⟩ => ⟨S2816x1024, .f32⟩
  | .hbm, ⟨6, _⟩ => ⟨S2816x1024, .bf16⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S8192x2816, .bf16⟩
  | .hbm, ⟨11, _⟩ => ⟨S8192x2816, .bf16⟩
  | .hbm, ⟨12, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x1024 : Shape := ⟨2, ![8192, 1024]⟩
abbrev S1x1024x2816 : Shape := ⟨3, ![1, 1024, 2816]⟩
abbrev S1024x2816 : Shape := ⟨2, ![1024, 2816]⟩
abbrev S8192x2816 : Shape := ⟨2, ![8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x2816, .f32⟩
  | .hbm, ⟨2, _⟩ => ⟨S1x1024x2816, .f32⟩
  | .hbm, ⟨3, _⟩ => ⟨S1024x2816, .f32⟩
  | .hbm, ⟨4, _⟩ => ⟨S8192x2816, .f32⟩
  | .hbm, ⟨5, _⟩ => ⟨S1024x2816, .f32⟩
  | .hbm, ⟨6, _⟩ => ⟨S8192x2816, .f32⟩
  | .hbm, ⟨7, _⟩ => ⟨S8192x2816, .bf16⟩
  | .hbm, ⟨8, _⟩ => ⟨S8192x2816, .bf16⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel7.lean ====
abbrev S8192x2816 : Shape := ⟨2, ![8192, 2816]⟩
abbrev S8192x1024 : Shape := ⟨2, ![8192, 1024]⟩
abbrev S1x2816x1024 : Shape := ⟨3, ![1, 2816, 1024]⟩
abbrev S1x1024 : Shape := ⟨2, ![1, 1024]⟩
abbrev S2816x1024 : Shape := ⟨2, ![2816, 1024]⟩
abbrev S8192x1 : Shape := ⟨2, ![8192, 1]⟩
abbrev S1024x2816 : Shape := ⟨2, ![1024, 2816]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S8192x2816, .bf16⟩
  | .hbm, ⟨6, _⟩ => ⟨S2816x1024, .f32⟩
  | .hbm, ⟨7, _⟩ => ⟨S2816x1024, .bf16⟩
  | .hbm, ⟨8, _⟩ => ⟨S8192x1024, .f32⟩
  | .hbm, ⟨9, _⟩ => ⟨S8192x1024, .bf16⟩
  | .hbm, ⟨10, _⟩ => ⟨S8192x1, .f32⟩
  | .hbm, ⟨11, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1, .f32⟩
  | .local _ .vmem, ⟨12, _⟩ => ⟨S1024x1, .f32⟩
  | .local _ .vmem, ⟨13, _⟩ => ⟨S1024x1024, .bf16⟩
  | .local _ .vmem, ⟨14, _⟩ => ⟨S1024x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8192x2816 : Shape := ⟨2, ![8192, 2816]⟩
abbrev S8192x1024 : Shape := ⟨2, ![8192, 1024]⟩
abbrev S1x2816x1024 : Shape := ⟨3, ![1, 2816, 1024]⟩
abbrev S1x1024 : Shape := ⟨2, ![1, 1024]⟩
abbrev S_ : Shape := ⟨0, ![]⟩
abbrev S2816x1024 : Shape := ⟨2, ![2816, 1024]⟩
abbrev S1024 : Shape := ⟨1, ![1024]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1x2816x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S2816x1024, .f32⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel8.lean ====
abbrev S8192x1024 : Shape := ⟨2, ![8192, 1024]⟩
abbrev S1x1024x3592 : Shape := ⟨3, ![1, 1024, 3592]⟩
abbrev S1x3592 : Shape := ⟨2, ![1, 3592]⟩
abbrev S1024x3592 : Shape := ⟨2, ![1024, 3592]⟩
abbrev S3592x1024 : Shape := ⟨2, ![3592, 1024]⟩
abbrev S2048x1024 : Shape := ⟨2, ![2048, 1024]⟩
abbrev S1544x1024 : Shape := ⟨2, ![1544, 1024]⟩
abbrev S_ : Shape := ⟨0, ![]⟩
abbrev S1664x1024 : Shape := ⟨2, ![1664, 1024]⟩
abbrev S1x2048 : Shape := ⟨2, ![1, 2048]⟩
abbrev S1x1544 : Shape := ⟨2, ![1, 1544]⟩
abbrev S1x1664 : Shape := ⟨2, ![1, 1664]⟩
abbrev S8192x2048 : Shape := ⟨2, ![8192, 2048]⟩
abbrev S8192x1664 : Shape := ⟨2, ![8192, 1664]⟩
abbrev S512x1024 : Shape := ⟨2, ![512, 1024]⟩
abbrev S512x2048 : Shape := ⟨2, ![512, 2048]⟩
abbrev S512x1664 : Shape := ⟨2, ![512, 1664]⟩

abbrev nBuf : Space → Nat
  | .hbm => 19
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024x3592, .f32⟩
  | .hbm, ⟨2, _⟩ => ⟨S1x3592, .f32⟩
  | .hbm, ⟨3, _⟩ => ⟨S1024x3592, .f32⟩
  | .hbm, ⟨4, _⟩ => ⟨S3592x1024, .f32⟩
  | .hbm, ⟨5, _⟩ => ⟨S3592x1024, .bf16⟩
  | .hbm, ⟨6, _⟩ => ⟨S2048x1024, .bf16⟩
  | .hbm, ⟨7, _⟩ => ⟨S1544x1024, .bf16⟩
  | .hbm, ⟨8, _⟩ => ⟨S_, .i32⟩
  | .hbm, ⟨9, _⟩ => ⟨S_, .bf16⟩
  | .hbm, ⟨10, _⟩ => ⟨S1664x1024, .bf16⟩
  | .hbm, ⟨11, _⟩ => ⟨S1x2048, .f32⟩
  | .hbm, ⟨12, _⟩ => ⟨S1x1544, .f32⟩
  | .hbm, ⟨13, _⟩ => ⟨S_, .i32⟩
  | .hbm, ⟨14, _⟩ => ⟨S_, .f32⟩
  | .hbm, ⟨15, _⟩ => ⟨S1x1664, .f32⟩
  | .hbm, ⟨16, _⟩ => ⟨S8192x2048, .f32⟩
  | .hbm, ⟨17, _⟩ => ⟨S8192x1664, .f32⟩
  | .hbm, ⟨18, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S1664x1024, .bf16⟩
  | .local _ .vmem, ⟨4, _⟩ => ⟨S1x2048, .f32⟩
  | .local _ .vmem, ⟨5, _⟩ => ⟨S1x1664, .f32⟩
  | .local _ .vmem, ⟨6, _⟩ => ⟨S512x2048, .f32⟩
  | .local _ .vmem, ⟨7, _⟩ => ⟨S512x2048, .f32⟩
  | .local _ .vmem, ⟨8, _⟩ => ⟨S512x1664, .f32⟩
  | .local _ .vmem, ⟨9, _⟩ => ⟨S512x1664, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1664x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1664 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8192x1024 : Shape := ⟨2, ![8192, 1024]⟩
abbrev S1x1024x3592 : Shape := ⟨3, ![1, 1024, 3592]⟩
abbrev S1x3592 : Shape := ⟨2, ![1, 3592]⟩
abbrev S1024x3592 : Shape := ⟨2, ![1024, 3592]⟩
abbrev S8192x3592 : Shape := ⟨2, ![8192, 3592]⟩
abbrev S3592 : Shape := ⟨1, ![3592]⟩
abbrev S8192x2048 : Shape := ⟨2, ![8192, 2048]⟩
abbrev S8192x1544 : Shape := ⟨2, ![8192, 1544]⟩
abbrev S_ : Shape := ⟨0, ![]⟩
abbrev S8192x120 : Shape := ⟨2, ![8192, 120]⟩
abbrev S8192x1664 : Shape := ⟨2, ![8192, 1664]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x3592, .f32⟩
  | .hbm, ⟨2, _⟩ => ⟨S1x3592, .f32⟩
  | .hbm, ⟨3, _⟩ => ⟨S1024x3592, .f32⟩
  | .hbm, ⟨4, _⟩ => ⟨S8192x3592, .f32⟩
  | .hbm, ⟨5, _⟩ => ⟨S3592, .f32⟩
  | .hbm, ⟨6, _⟩ => ⟨S1x3592, .f32⟩
  | .hbm, ⟨7, _⟩ => ⟨S8192x3592, .f32⟩
  | .hbm, ⟨8, _⟩ => ⟨S8192x3592, .f32⟩
  | .hbm, ⟨9, _⟩ => ⟨S8192x2048, .f32⟩
  | .hbm, ⟨10, _⟩ => ⟨S8192x1544, .f32⟩
  | .hbm, ⟨11, _⟩ => ⟨S_, .f32⟩
  | .hbm, ⟨12, _⟩ => ⟨S8192x120, .f32⟩
  | .hbm, ⟨13, _⟩ => ⟨S8192x1664, .f32⟩
  | .hbm, ⟨14, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel9.lean ====
abbrev S8192x1024 : Shape := ⟨2, ![8192, 1024]⟩
abbrev S8192x3592 : Shape := ⟨2, ![8192, 3592]⟩
abbrev S1x1024x3592 : Shape := ⟨3, ![1, 1024, 3592]⟩
abbrev S1024x3592 : Shape := ⟨2, ![1024, 3592]⟩
abbrev S3592x1024 : Shape := ⟨2, ![3592, 1024]⟩
abbrev S2048x1024 : Shape := ⟨2, ![2048, 1024]⟩
abbrev S1544x1024 : Shape := ⟨2, ![1544, 1024]⟩
abbrev S_ : Shape := ⟨0, ![]⟩
abbrev S1664x1024 : Shape := ⟨2, ![1664, 1024]⟩
abbrev S8192x8 : Shape := ⟨2, ![8192, 8]⟩
abbrev S8192x128 : Shape := ⟨2, ![8192, 128]⟩
abbrev S8192x2048 : Shape := ⟨2, ![8192, 2048]⟩
abbrev S8192x512 : Shape := ⟨2, ![8192, 512]⟩
abbrev S8192x1664 : Shape := ⟨2, ![8192, 1664]⟩
abbrev S512x1024 : Shape := ⟨2, ![512, 1024]⟩
abbrev S512x2048 : Shape := ⟨2, ![512, 2048]⟩
abbrev S512x512 : Shape := ⟨2, ![512, 512]⟩
abbrev S512x128 : Shape := ⟨2, ![512, 128]⟩
abbrev S512x1664 : Shape := ⟨2, ![512, 1664]⟩

abbrev nBuf : Space → Nat
  | .hbm => 22
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x3592, .f32⟩
  | .hbm, ⟨2, _⟩ => ⟨S1x1024x3592, .f32⟩
  | .hbm, ⟨3, _⟩ => ⟨S1024x3592, .f32⟩
  | .hbm, ⟨4, _⟩ => ⟨S3592x1024, .f32⟩
  | .hbm, ⟨5, _⟩ => ⟨S3592x1024, .bf16⟩
  | .hbm, ⟨6, _⟩ => ⟨S2048x1024, .bf16⟩
  | .hbm, ⟨7, _⟩ => ⟨S1544x1024, .bf16⟩
  | .hbm, ⟨8, _⟩ => ⟨S_, .i32⟩
  | .hbm, ⟨9, _⟩ => ⟨S_, .bf16⟩
  | .hbm, ⟨10, _⟩ => ⟨S1664x1024, .bf16⟩
  | .hbm, ⟨11, _⟩ => ⟨S8192x3592, .bf16⟩
  | .hbm, ⟨12, _⟩ => ⟨S8192x8, .bf16⟩
  | .hbm, ⟨13, _⟩ => ⟨S_, .i32⟩
  | .hbm, ⟨14, _⟩ => ⟨S_, .bf16⟩
  | .hbm, ⟨15, _⟩ => ⟨S8192x128, .bf16⟩
  | .hbm, ⟨16, _⟩ => ⟨S8192x2048, .bf16⟩
  | .hbm, ⟨17, _⟩ => ⟨S8192x512, .bf16⟩
  | .hbm, ⟨18, _⟩ => ⟨S8192x512, .bf16⟩
  | .hbm, ⟨19, _⟩ => ⟨S8192x512, .bf16⟩
  | .hbm, ⟨20, _⟩ => ⟨S8192x1024, .f32⟩
  | .hbm, ⟨21, _⟩ => ⟨S8192x1664, .bf16⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S2048x1024, .bf16⟩
  | .local _ .vmem, ⟨13, _⟩ => ⟨S1664x1024, .bf16⟩
  | .local _ .vmem, ⟨14, _⟩ => ⟨S512x1024, .f32⟩
  | .local _ .vmem, ⟨15, _⟩ => ⟨S512x1024, .f32⟩
  | .local _ .vmem, ⟨16, _⟩ => ⟨S512x1664, .bf16⟩
  | .local _ .vmem, ⟨17, _⟩ => ⟨S512x1664, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1664x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1664 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference9Ideal.lean ====
abbrev S8192x1024 : Shape := ⟨2, ![8192, 1024]⟩
abbrev S8192x3592 : Shape := ⟨2, ![8192, 3592]⟩
abbrev S1x1024x3592 : Shape := ⟨3, ![1, 1024, 3592]⟩
abbrev S_ : Shape := ⟨0, ![]⟩
abbrev S1024x3592 : Shape := ⟨2, ![1024, 3592]⟩
abbrev S8192x1544 : Shape := ⟨2, ![8192, 1544]⟩
abbrev S8192x120 : Shape := ⟨2, ![8192, 120]⟩
abbrev S8192x1664 : Shape := ⟨2, ![8192, 1664]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3592, .f32⟩
  | .hbm, ⟨2, _⟩ => ⟨S1x1024x3592, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S1024x3592, .f32⟩
  | .hbm, ⟨9, _⟩ => ⟨S8192x3592, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1544, .f32⟩
  | .hbm, ⟨16, _⟩ => ⟨S_, .f32⟩
  | .hbm, ⟨17, _⟩ => ⟨S8192x120, .f32⟩
  | .hbm, ⟨18, _⟩ => ⟨S8192x1664, .f32⟩
  | .hbm, ⟨19, _⟩ => ⟨S8192x1664, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel10.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S2816x1024, .f32⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S1x8192x3592 : Shape := ⟨3, ![1, 8192, 3592]⟩
abbrev S2x512 : Shape := ⟨2, ![2, 512]⟩
abbrev S1x512 : Shape := ⟨2, ![1, 512]⟩
abbrev S1x8192x2048 : Shape := ⟨3, ![1, 8192, 2048]⟩
abbrev S8192x2048 : Shape := ⟨2, ![8192, 2048]⟩
abbrev S8192x512 : Shape := ⟨2, ![8192, 512]⟩
abbrev S64x4x128x128 : Shape := ⟨4, ![64, 4, 128, 128]⟩
abbrev S512x2048 : Shape := ⟨2, ![512, 2048]⟩
abbrev S512x512 : Shape := ⟨2, ![512, 512]⟩
abbrev S4x4x128x128 : Shape := ⟨4, ![4, 4, 128, 128]⟩
abbrev S4x128x128 : Shape := ⟨3, ![4, 128, 128]⟩
abbrev S128x128 : Shape := ⟨2, ![128, 128]⟩
abbrev S1x128 : Shape := ⟨2, ![1, 128]⟩
abbrev S16x128 : Shape := ⟨2, ![16, 128]⟩
abbrev S1x128x128 : Shape := ⟨3, ![1, 128, 128]⟩
abbrev S1x1x128x128 : Shape := ⟨4, ![1, 1, 128, 128]⟩
abbrev S128 : Shape := ⟨1, ![128]⟩
abbrev S128x1 : Shape := ⟨2, ![128, 1]⟩

abbrev nBuf : Space → Nat
  | .hbm => 10
  | .vmem => 15
  | .smem => 0
  | _ => 0

abbrev bufTy : (tb : Table) → Fin (tcTables nBuf tb) → BufTy
  | .hbm, ⟨0, _⟩ => ⟨S1x8192x3592, .f32⟩
  | .hbm, ⟨1, _⟩ => ⟨S2x512, .f32⟩
  | .hbm, ⟨2, _⟩ => ⟨S1x512, .f32⟩
  | .hbm, ⟨3, _⟩ => ⟨S1x8192x2048, .f32⟩
  | .hbm, ⟨4, _⟩ => ⟨S8192x2048, .f32⟩
  | .hbm, ⟨5, _⟩ => ⟨S8192x512, .bf16⟩
  | .hbm, ⟨6, _⟩ => ⟨S64x4x128x128, .f32⟩
  | .hbm, ⟨7, _⟩ => ⟨S8192x512, .f32⟩
  | .hbm, ⟨8, _⟩ => ⟨S8192x512, .bf16⟩
  | .hbm, ⟨9, _⟩ => ⟨S8192x512, .f32⟩
  | .local _ .vmem, ⟨0, _⟩ => ⟨S512x2048, .f32⟩
  | .local _ .vmem, ⟨1, _⟩ => ⟨S512x2048, .f32⟩
  | .local _ .vmem, ⟨2, _⟩ => ⟨S2x512, .f32⟩
  | .local _ .vmem, ⟨3, _⟩ => ⟨S1x512, .f32⟩
  | .local _ .vmem, ⟨4, _⟩ => ⟨S512x512, .bf16⟩
  | .local _ .vmem, ⟨5, _⟩ => ⟨S512x512, .bf16⟩
  | .local _ .vmem, ⟨6, _⟩ => ⟨S4x4x128x128, .f32⟩
  | .local _ .vmem, ⟨7, _⟩ => ⟨S4x4x128x128, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S4x128x128, .f32⟩
  | _, _ => ⟨S1x8192x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def k0_mult1 : BitVec 32 :=
  let c0_i32_4 : BitVec 32 := 0#32
  let c128_i32 : BitVec 32 := 128#32
  let v19 : BitVec 32 := Scalar.muli c0_i32_4 c128_i32
  v19
def k0_off1 (c0_i32_4 : BitVec 32) : Fin 2 → Nat :=
  let c128_i32 : BitVec 32 := 128#32
  let v19 : BitVec 32 := Scalar.muli c0_i32_4 c128_i32
  let v20 : BitVec 32 := v19
  let v21 : Index := Scalar.indexCast v20
  let c1024 : Index := 1024#32
  ![v21.toNat, 1024]
def k0_off2 (c0_i32_4 : BitVec 32) : Fin 2 → Nat :=
  let c128_i32 : BitVec 32 := 128#32
  let v19 : BitVec 32 := Scalar.muli c0_i32_4 c128_i32
  let v20 : BitVec 32 := v19
  let v24 : Index := Scalar.indexCast v20
  let c1152 : Index := 1152#32
  ![v24.toNat, 1152]
def k0_off3 (c0_i32_4 : BitVec 32) : Fin 2 → Nat :=
  let c128_i32 : BitVec 32 := 128#32
  let v19 : BitVec 32 := Scalar.muli c0_i32_4 c128_i32
  let v20 : BitVec 32 := v19
  let v27 : Index := Scalar.indexCast v20
  let c1280 : Index := 1280#32
  ![v27.toNat, 1280]
def k0_off4 (c0_i32_4 : BitVec 32) : Fin 2 → Nat :=
  let c128_i32 : BitVec 32 := 128#32
  let v19 : BitVec 32 := Scalar.muli c0_i32_4 c128_i32
  let v20 : BitVec 32 := v19
  let v30 : Index := Scalar.indexCast v20
  let c1408 : Index := 1408#32
  ![v30.toNat, 1408]
def k0_off5 (c0_i32_4 : BitVec 32) : Fin 2 → Nat :=
  let c128_i32 : BitVec 32 := 128#32
  let v19 : BitVec 32 := Scalar.muli c0_i32_4 c128_i32
  let v20 : BitVec 32 := v19
  let v33 : Index := Scalar.indexCast v20
  let c0_5 : Index := 0#32
  ![v33.toNat, 0]
def k0_off6 (c0_i32_4 : BitVec 32) : Fin 2 → Nat :=
  let c128_i32 : BitVec 32 := 128#32
  let v19 : BitVec 32 := Scalar.muli c0_i32_4 c128_i32
  let v20 : BitVec 32 := v19
  let v36 : Index := Scalar.indexCast v20
  let c512 : Index := 512#32
  ![v36.toNat, 512]
def k0_off7 (c0_i32_4 : BitVec 32) : Fin 2 → Nat :=
  let c128_i32 : BitVec 32 := 128#32
  let v19 : BitVec 32 := Scalar.muli c0_i32_4 c128_i32
  let v20 : BitVec 32 := v19
  let v81 : Index := Scalar.indexCast v20
  let c128 : Index := 128#32
  ![v81.toNat, 128]
def k0_off8 (c0_i32_4 : BitVec 32) : Fin 2 → Nat :=
  let c128_i32 : BitVec 32 := 128#32
  let v19 : BitVec 32 := Scalar.muli c0_i32_4 c128_i32
  let v20 : BitVec 32 := v19
  let v84 : Index := Scalar.indexCast v20
  let c640 : Index := 640#32
  ![v84.toNat, 640]
def k0_off9 (c0_i32_4 : BitVec 32) : Fin 2 → Nat :=
  let c128_i32 : BitVec 32 := 128#32
  let v19 : BitVec 32 := Scalar.muli c0_i32_4 c128_i32
  let v20 : BitVec 32 := v19
  let v129 : Index := Scalar.indexCast v20
  let c256 : Index := 256#32
  ![v129.toNat, 256]
def k0_off10 (c0_i32_4 : BitVec 32) : Fin 2 → Nat :=
  let c128_i32 : BitVec 32 := 128#32
  let v19 : BitVec 32 := Scalar.muli c0_i32_4 c128_i32
  let v20 : BitVec 32 := v19
  let v132 : Index := Scalar.indexCast v20
  let c768 : Index := 768#32
  ![v132.toNat, 768]
def k0_off11 (c0_i32_4 : BitVec 32) : Fin 2 → Nat :=
  let c128_i32 : BitVec 32 := 128#32
  let v19 : BitVec 32 := Scalar.muli c0_i32_4 c128_i32
  let v20 : BitVec 32 := v19
  let v177 : Index := Scalar.indexCast v20
  let c384 : Index := 384#32
  ![v177.toNat, 384]
def k0_off12 (c0_i32_4 : BitVec 32) : Fin 2 → Nat :=
  let c128_i32 : BitVec 32 := 128#32
  let v19 : BitVec 32 := Scalar.muli c0_i32_4 c128_i32
  let v20 : BitVec 32 := v19
  let v180 : Index := Scalar.indexCast v20
  let c896 : Index := 896#32
  ![v180.toNat, 896]
def k0_off13 (c0_i32_4 : BitVec 32) : Fin 2 → Nat :=
  let c128_i32 : BitVec 32 := 128#32
  let v19 : BitVec 32 := Scalar.muli c0_i32_4 c128_i32
  let v20 : BitVec 32 := v19
  let v848 : Index := Scalar.indexCast v20
  let c0_153 : Index := 0#32
  ![v848.toNat, 0]
def k0_off14 (c0_i32_4 : BitVec 32) : Fin 2 → Nat :=
  let c128_i32 : BitVec 32 := 128#32
  let v19 : BitVec 32 := Scalar.muli c0_i32_4 c128_i32
  let v20 : BitVec 32 := v19
  let v855 : Index := Scalar.indexCast v20
  let c1536 : Index := 1536#32
  ![v855.toNat, 1536]
def k0_off15 (c0_i32_4 : BitVec 32) : Fin 2 → Nat :=
  let c128_i32 : BitVec 32 := 128#32
  let v19 : BitVec 32 := Scalar.muli c0_i32_4 c128_i32
  let v20 : BitVec 32 := v19
  let v890 : Index := Scalar.indexCast v20
  let c128_171 : Index := 128#32
  ![v890.toNat, 128]
def k0_off16 (c0_i32_4 : BitVec 32) : Fin 2 → Nat :=
  let c128_i32 : BitVec 32 := 128#32
  let v19 : BitVec 32 := Scalar.muli c0_i32_4 c128_i32
  let v20 : BitVec 32 := v19
  let v897 : Index := Scalar.indexCast v20
  let c1664 : Index := 1664#32
  ![v897.toNat, 1664]
def k0_off17 (c0_i32_4 : BitVec 32) : Fin 2 → Nat :=
  let c128_i32 : BitVec 32 := 128#32
  let v19 : BitVec 32 := Scalar.muli c0_i32_4 c128_i32
  let v20 : BitVec 32 := v19
  let v932 : Index := Scalar.indexCast v20
  let c256_189 : Index := 256#32
  ![v932.toNat, 256]
def k0_off18 (c0_i32_4 : BitVec 32) : Fin 2 → Nat :=
  let c128_i32 : BitVec 32 := 128#32
  let v19 : BitVec 32 := Scalar.muli c0_i32_4 c128_i32
  let v20 : BitVec 32 := v19
  let v939 : Index := Scalar.indexCast v20
  let c1792 : Index := 1792#32
  ![v939.toNat, 1792]
def k0_off19 (c0_i32_4 : BitVec 32) : Fin 2 → Nat :=
  let c128_i32 : BitVec 32 := 128#32
  let v19 : BitVec 32 := Scalar.muli c0_i32_4 c128_i32
  let v20 : BitVec 32 := v19
  let v974 : Index := Scalar.indexCast v20
  let c384_207 : Index := 384#32
  ![v974.toNat, 384]
def k0_off20 (c0_i32_4 : BitVec 32) : Fin 2 → Nat :=
  let c128_i32 : BitVec 32 := 128#32
  let v19 : BitVec 32 := Scalar.muli c0_i32_4 c128_i32
  let v20 : BitVec 32 := v19
  let v981 : Index := Scalar.indexCast v20
  let c1920 : Index := 1920#32
  ![v981.toNat, 1920]
def k0_mult2 : BitVec 32 :=
  let c1_i32 : BitVec 32 := 1#32
  let c128_i32_219 : BitVec 32 := 128#32
  let v1009 : BitVec 32 := Scalar.muli c1_i32 c128_i32_219
  v1009
def k0_mult3 : BitVec 32 :=
  let c2_i32 : BitVec 32 := 2#32
  let c128_i32_452 : BitVec 32 := 128#32
  let v1999 : BitVec 32 := Scalar.muli c2_i32 c128_i32_452
  v1999
def k0_mult4 : BitVec 32 :=
  let c3_i32 : BitVec 32 := 3#32
  let c128_i32_685 : BitVec 32 := 128#32
  let v2989 : BitVec 32 := Scalar.muli c3_i32 c128_i32_685
  v2989
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S1x8192x3592 : Shape := ⟨3, ![1, 8192, 3592]⟩
abbrev S2x512 : Shape := ⟨2, ![2, 512]⟩
abbrev S1x512 : Shape := ⟨2, ![1, 512]⟩
abbrev S1x8192x512 : Shape := ⟨3, ![1, 8192, 512]⟩
abbrev S8192x512 : Shape := ⟨2, ![8192, 512]⟩
abbrev S_ : Shape := ⟨0, ![]⟩
abbrev S512 : Shape := ⟨1, ![512]⟩
abbrev S8192x4x128 : Shape := ⟨3, ![8192, 4, 128]⟩
abbrev S4x128x128 : Shape := ⟨3, ![4, 128, 128]⟩
abbrev S1x4x128 : Shape := ⟨3, ![1, 4, 128]⟩
abbrev S4x128 : Shape := ⟨2, ![4, 128]⟩
abbrev S4x128x1 : Shape := ⟨3, ![4, 128, 1]⟩
abbrev S4x1x128 : Shape := ⟨3, ![4, 1, 128]⟩
abbrev S8192x4 : Shape := ⟨2, ![8192, 4]⟩
abbrev S8192x4x1 : Shape := ⟨3, ![8192, 4, 1]⟩

abbrev nBuf : Space → Nat
  | .hbm => 136
  | .vmem => 0
  | .smem => 0
  | _ => 0

abbrev hbmTy0_0 (i : Nat) : BufTy := match i % 128 with
  | 0 => ⟨S1x8192x3592, .f32⟩
  | 1 => ⟨S2x512, .f32⟩
  | 2 => ⟨S1x512, .f32⟩
  | 3 => ⟨S1x8192x512, .f32⟩
  | 4 => ⟨S8192x512, .f32⟩
  | 5 => ⟨S1x8192x512, .f32⟩
  | 6 => ⟨S8192x512, .f32⟩
  | 7 => ⟨S1x8192x512, .f32⟩
  | 8 => ⟨S8192x512, .f32⟩
  | 9 => ⟨S_, .f32⟩
  | 10 => ⟨S512, .f32⟩
  | 11 => ⟨S_, .f32⟩
  | 12 => ⟨S512, .f32⟩
  | 13 => ⟨S512, .f32⟩
  | 14 => ⟨S1x512, .f32⟩
  | 15 => ⟨S2x512, .f32⟩
  | 16 => ⟨S2x512, .f32⟩
  | 17 => ⟨S2x512, .f32⟩
  | 18 => ⟨S_, .f32⟩
  | 19 => ⟨S512, .f32⟩
  | 20 => ⟨S1x512, .f32⟩
  | 21 => ⟨S2x512, .f32⟩
  | 22 => ⟨S2x512, .f32⟩
  | 23 => ⟨S1x512, .f32⟩
  | 24 => ⟨S512, .f32⟩
  | 25 => ⟨S_, .f32⟩
  | 26 => ⟨S512, .f32⟩
  | 27 => ⟨S512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S1x512, .f32⟩
  | 37 => ⟨S8192x512, .f32⟩
  | 38 => ⟨S8192x512, .f32⟩
  | 39 => ⟨S1x512, .f32⟩
  | 40 => ⟨S8192x512, .f32⟩
  | 41 => ⟨S8192x512, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S8192x4x128, .f32⟩
  | 55 => ⟨S8192x4x128, .f32⟩
  | 56 => ⟨S8192x4x128, .f32⟩
  | 57 => ⟨S8192x4x128, .f32⟩
  | 58 => ⟨S_, .f32⟩
  | 59 => ⟨S4x128x128, .f32⟩
  | 60 => ⟨S_, .f32⟩
  | 61 => ⟨S8192x4x128, .f32⟩
  | 62 => ⟨S_, .i32⟩
  | 63 => ⟨S8192x4x128, .f32⟩
  | 64 => ⟨S8192x4x128, .f32⟩
  | 65 => ⟨S8192x4x128, .f32⟩
  | 66 => ⟨S8192x4x128, .f32⟩
  | 67 => ⟨S_, .i32⟩
  | 68 => ⟨S4x128x128, .f32⟩
  | 69 => ⟨S8192x4x128, .f32⟩
  | 70 => ⟨S_, .i32⟩
  | 71 => ⟨S_, .i1⟩
  | 72 => ⟨S_, .i32⟩
  | 73 => ⟨S_, .i32⟩
  | 74 => ⟨S1x4x128, .f32⟩
  | 75 => ⟨S4x128, .f32⟩
  | 76 => ⟨S_, .i32⟩
  | 77 => ⟨S_, .i32⟩
  | 78 => ⟨S1x4x128, .f32⟩
  | 79 => ⟨S4x128, .f32⟩
  | 80 => ⟨S_, .i32⟩
  | 81 => ⟨S_, .i32⟩
  | 82 => ⟨S1x4x128, .f32⟩
  | 83 => ⟨S4x128, .f32⟩
  | 84 => ⟨S_, .i32⟩
  | 85 => ⟨S_, .i32⟩
  | 86 => ⟨S1x4x128, .f32⟩
  | 87 => ⟨S4x128, .f32⟩
  | 88 => ⟨S4x128x1, .f32⟩
  | 89 => ⟨S4x128x128, .f32⟩
  | 90 => ⟨S4x128x128, .f32⟩
  | 91 => ⟨S4x128x1, .f32⟩
  | 92 => ⟨S4x1x128, .f32⟩
  | 93 => ⟨S4x128x128, .f32⟩
  | 94 => ⟨S4x128x128, .f32⟩
  | 95 => ⟨S4x128x128, .f32⟩
  | 96 => ⟨S4x128x128, .f32⟩
  | 97 => ⟨S4x128, .f32⟩
  | 98 => ⟨S1x4x128, .f32⟩
  | 99 => ⟨S_, .i32⟩
  | 100 => ⟨S_, .i32⟩
  | 101 => ⟨S8192x4x128, .f32⟩
  | 102 => ⟨S_, .i32⟩
  | 103 => ⟨S_, .i32⟩
  | 104 => ⟨S512, .f32⟩
  | 105 => ⟨S8192x4x128, .f32⟩
  | 106 => ⟨S_, .f32⟩
  | 107 => ⟨S8192x4, .f32⟩
  | 108 => ⟨S8192x4x1, .f32⟩
  | 109 => ⟨S_, .f32⟩
  | 110 => ⟨S8192x4x1, .f32⟩
  | 111 => ⟨S8192x4x1, .f32⟩
  | 112 => ⟨S_, .f32⟩
  | 113 => ⟨S8192x4x1, .f32⟩
  | 114 => ⟨S8192x4x1, .f32⟩
  | 115 => ⟨S8192x4x1, .f32⟩
  | 116 => ⟨S8192x4x128, .f32⟩
  | 117 => ⟨S8192x4x128, .f32⟩
  | 118 => ⟨S8192x512, .f32⟩
  | 119 => ⟨S1x512, .f32⟩
  | 120 => ⟨S8192x512, .f32⟩
  | 121 => ⟨S8192x512, .f32⟩
  | 122 => ⟨S1x8192x512, .f32⟩
  | 123 => ⟨S8192x512, .f32⟩
  | 124 => ⟨S8192x512, .f32⟩
  | 125 => ⟨S8192x512, .f32⟩
  | 126 => ⟨S_, .f32⟩
  | 127 => ⟨S8192x512, .f32⟩
  | _ => ⟨S1x8192x3592, .f32⟩

abbrev hbmTy0_1 (i : Nat) : BufTy := match i % 128 with
  | 0 => ⟨S8192x512, .f32⟩
  | 1 => ⟨S_, .f32⟩
  | 2 => ⟨S8192x512, .f32⟩
  | 3 => ⟨S8192x512, .f32⟩
  | 4 => ⟨S8192x512, .f32⟩
  | 5 => ⟨S8192x512, .f32⟩
  | 6 => ⟨S8192x512, .bf16⟩
  | 7 => ⟨S8192x512, .f32⟩
  | _ => ⟨S1x8192x3592, .f32⟩

abbrev hbmTy (i : Nat) : BufTy := match i / 128 with
  | 0 => hbmTy0_0 i
  | 1 => hbmTy0_1 i
  | _ => ⟨S1x8192x3592, .f32⟩

abbrev bufTy : (tb : Table) → Fin (tcTables nBuf tb) → BufTy
  | .hbm, ⟨i, _⟩ => hbmTy i
  | _, _ => ⟨S1x8192x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_c : Ref sig .tc := ⟨.hbm, 62, rfl⟩
abbrev main_v42_0 : Ref sig .tc := ⟨.hbm, 63, rfl⟩
abbrev main_v42_1 : Ref sig .tc := ⟨.hbm, 64, rfl⟩
abbrev main_v42_2 : Ref sig .tc := ⟨.hbm, 65, rfl⟩
abbrev main_v42_3 : Ref sig .tc := ⟨.hbm, 66, rfl⟩
abbrev main_v42_4 : Ref sig .tc := ⟨.hbm, 67, rfl⟩
abbrev main_v42_5 : Ref sig .tc := ⟨.hbm, 68, rfl⟩
abbrev main_v42_6 : Ref sig .tc := ⟨.hbm, 69, rfl⟩
abbrev main_while0c_c_17 : Ref sig .tc := ⟨.hbm, 70, rfl⟩
abbrev main_while0c_v64 : Ref sig .tc := ⟨.hbm, 71, rfl⟩
abbrev main_while0b_call1_c : Ref sig .tc := ⟨.hbm, 72, rfl⟩
abbrev main_while0b_call1_c_0 : Ref sig .tc := ⟨.hbm, 73, rfl⟩
abbrev main_while0b_call1_v0 : Ref sig .tc := ⟨.hbm, 74, rfl⟩
abbrev main_while0b_v64 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_v0 : Ref sig .tc := ⟨.hbm, 78, rfl⟩
abbrev main_while0b_v65 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_v0 : Ref sig .tc := ⟨.hbm, 82, rfl⟩
abbrev main_while0b_v66 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_v0 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_v71 : Ref sig .tc := ⟨.hbm, 91, rfl⟩
abbrev main_while0b_v72 : Ref sig .tc := ⟨.hbm, 92, rfl⟩
abbrev main_while0b_v73 : Ref sig .tc := ⟨.hbm, 93, rfl⟩
abbrev main_while0b_v74 : Ref sig .tc := ⟨.hbm, 94, rfl⟩
abbrev main_while0b_v75 : Ref sig .tc := ⟨.hbm, 95, rfl⟩
abbrev main_while0b_v76 : Ref sig .tc := ⟨.hbm, 96, rfl⟩
abbrev main_while0b_v77 : Ref sig .tc := ⟨.hbm, 97, rfl⟩
abbrev main_while0b_call5_v0 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_v78 : Ref sig .tc := ⟨.hbm, 101, rfl⟩
abbrev main_while0b_c_17 : Ref sig .tc := ⟨.hbm, 102, rfl⟩
abbrev main_while0b_v79 : Ref sig .tc := ⟨.hbm, 103, rfl⟩
abbrev main_v43 : Ref sig .tc := ⟨.hbm, 104, rfl⟩
abbrev main_v44 : Ref sig .tc := ⟨.hbm, 105, rfl⟩
abbrev main_cst_8 : Ref sig .tc := ⟨.hbm, 106, rfl⟩
abbrev main_v45 : Ref sig .tc := ⟨.hbm, 107, rfl⟩
abbrev main_v46 : Ref sig .tc := ⟨.hbm, 108, rfl⟩
abbrev main_cst_9 : Ref sig .tc := ⟨.hbm, 109, rfl⟩
abbrev main_v47 : Ref sig .tc := ⟨.hbm, 110, rfl⟩
abbrev main_v48 : Ref sig .tc := ⟨.hbm, 111, rfl⟩
abbrev main_cst_10 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_call6_v0 : Ref sig .tc := ⟨.hbm, 124, rfl⟩
abbrev main_call6_v1 : Ref sig .tc := ⟨.hbm, 125, rfl⟩
abbrev main_call6_cst : Ref sig .tc := ⟨.hbm, 126, rfl⟩
abbrev main_call6_v2 : Ref sig .tc := ⟨.hbm, 127, rfl⟩
abbrev main_call6_v3 : Ref sig .tc := ⟨.hbm, 128, rfl⟩
abbrev main_call6_cst_0 : Ref sig .tc := ⟨.hbm, 129, rfl⟩
abbrev main_call6_v4 : Ref sig .tc := ⟨.hbm, 130, rfl⟩
abbrev main_call6_v5 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩

abbrev nD : Nat := 1
abbrev τ : Topo := Topo.v7x

variable {F : FTy → Type} [FloatOps F]

abbrev main_while0_count : Scf.Loop 32 := ⟨0#32, 8192#32, 1#32⟩
-- ==== Kernel12.lean ====
abbrev S1x3592 : Shape := ⟨2, ![1, 3592]⟩
abbrev S2x512 : Shape := ⟨2, ![2, 512]⟩
abbrev S1x4x128 : Shape := ⟨3, ![1, 4, 128]⟩
abbrev S1x512 : Shape := ⟨2, ![1, 512]⟩
abbrev S1x1024 : Shape := ⟨2, ![1, 1024]⟩
abbrev S3592 : Shape := ⟨1, ![3592]⟩
abbrev S1024 : Shape := ⟨1, ![1024]⟩
abbrev S512 : Shape := ⟨1, ![512]⟩
abbrev S11784 : Shape := ⟨1, ![11784]⟩
abbrev S_ : Shape := ⟨0, ![]⟩
abbrev S16384 : Shape := ⟨1, ![16384]⟩
abbrev S16x1024 : Shape := ⟨2, ![16, 1024]⟩
abbrev S1x16x1024 : Shape := ⟨3, ![1, 16, 1024]⟩

abbrev nBuf : Space → Nat
  | .hbm => 182
  | .vmem => 8
  | .smem => 0
  | _ => 0

abbrev hbmTy0_0 (i : Nat) : BufTy := match i % 128 with
  | 0 => ⟨S1x3592, .f32⟩
  | 1 => ⟨S2x512, .f32⟩
  | 2 => ⟨S1x4x128, .f32⟩
  | 3 => ⟨S1x512, .f32⟩
  | 4 => ⟨S1x512, .f32⟩
  | 5 => ⟨S1x512, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x3592, .f32⟩
  | 12 => ⟨S2x512, .f32⟩
  | 13 => ⟨S1x4x128, .f32⟩
  | 14 => ⟨S1x512, .f32⟩
  | 15 => ⟨S1x512, .f32⟩
  | 16 => ⟨S1x512, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x3592, .f32⟩
  | 23 => ⟨S2x512, .f32⟩
  | 24 => ⟨S1x4x128, .f32⟩
  | 25 => ⟨S1x512, .f32⟩
  | 26 => ⟨S1x512, .f32⟩
  | 27 => ⟨S1x512, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x3592, .f32⟩
  | 34 => ⟨S2x512, .f32⟩
  | 35 => ⟨S1x4x128, .f32⟩
  | 36 => ⟨S1x512, .f32⟩
  | 37 => ⟨S1x512, .f32⟩
  | 38 => ⟨S1x512, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S3592, .f32⟩
  | 45 => ⟨S1024, .f32⟩
  | 46 => ⟨S512, .f32⟩
  | 47 => ⟨S512, .f32⟩
  | 48 => ⟨S512, .f32⟩
  | 49 => ⟨S512, .f32⟩
  | 50 => ⟨S1024, .f32⟩
  | 51 => ⟨S1024, .f32⟩
  | 52 => ⟨S1024, .f32⟩
  | 53 => ⟨S1024, .f32⟩
  | 54 => ⟨S1024, .f32⟩
  | 55 => ⟨S11784, .f32⟩
  | 56 => ⟨S_, .i32⟩
  | 57 => ⟨S_, .f32⟩
  | 58 => ⟨S16384, .f32⟩
  | 59 => ⟨S16x1024, .f32⟩
  | 60 => ⟨S3592, .f32⟩
  | 61 => ⟨S1024, .f32⟩
  | 62 => ⟨S512, .f32⟩
  | 63 => ⟨S512, .f32⟩
  | 64 => ⟨S512, .f32⟩
  | 65 => ⟨S512, .f32⟩
  | 66 => ⟨S1024, .f32⟩
  | 67 => ⟨S1024, .f32⟩
  | 68 => ⟨S1024, .f32⟩
  | 69 => ⟨S1024, .f32⟩
  | 70 => ⟨S1024, .f32⟩
  | 71 => ⟨S11784, .f32⟩
  | 72 => ⟨S_, .i32⟩
  | 73 => ⟨S_, .f32⟩
  | 74 => ⟨S16384, .f32⟩
  | 75 => ⟨S16x1024, .f32⟩
  | 76 => ⟨S3592, .f32⟩
  | 77 => ⟨S1024, .f32⟩
  | 78 => ⟨S512, .f32⟩
  | 79 => ⟨S512, .f32⟩
  | 80 => ⟨S512, .f32⟩
  | 81 => ⟨S512, .f32⟩
  | 82 => ⟨S1024, .f32⟩
  | 83 => ⟨S1024, .f32⟩
  | 84 => ⟨S1024, .f32⟩
  | 85 => ⟨S1024, .f32⟩
  | 86 => ⟨S1024, .f32⟩
  | 87 => ⟨S11784, .f32⟩
  | 88 => ⟨S_, .i32⟩
  | 89 => ⟨S_, .f32⟩
  | 90 => ⟨S16384, .f32⟩
  | 91 => ⟨S16x1024, .f32⟩
  | 92 => ⟨S3592, .f32⟩
  | 93 => ⟨S1024, .f32⟩
  | 94 => ⟨S512, .f32⟩
  | 95 => ⟨S512, .f32⟩
  | 96 => ⟨S512, .f32⟩
  | 97 => ⟨S512, .f32⟩
  | 98 => ⟨S1024, .f32⟩
  | 99 => ⟨S1024, .f32⟩
  | 100 => ⟨S1024, .f32⟩
  | 101 => ⟨S1024, .f32⟩
  | 102 => ⟨S1024, .f32⟩
  | 103 => ⟨S11784, .f32⟩
  | 104 => ⟨S_, .i32⟩
  | 105 => ⟨S_, .f32⟩
  | 106 => ⟨S16384, .f32⟩
  | 107 => ⟨S16x1024, .f32⟩
  | 108 => ⟨S1x16x1024, .f32⟩
  | 109 => ⟨S16x1024, .f32⟩
  | 110 => ⟨S16x1024, .f32⟩
  | 111 => ⟨S16x1024, .f32⟩
  | 112 => ⟨S16x1024, .f32⟩
  | 113 => ⟨S16384, .f32⟩
  | 114 => ⟨S3592, .f32⟩
  | 115 => ⟨S1x3592, .f32⟩
  | 116 => ⟨S1024, .f32⟩
  | 117 => ⟨S2x512, .f32⟩
  | 118 => ⟨S512, .f32⟩
  | 119 => ⟨S1x4x128, .f32⟩
  | 120 => ⟨S512, .f32⟩
  | 121 => ⟨S1x512, .f32⟩
  | 122 => ⟨S512, .f32⟩
  | 123 => ⟨S1x512, .f32⟩
  | 124 => ⟨S512, .f32⟩
  | 125 => ⟨S1x512, .f32⟩
  | 126 => ⟨S1024, .f32⟩
  | 127 => ⟨S1x1024, .f32⟩
  | _ => ⟨S1x3592, .f32⟩

abbrev hbmTy0_1 (i : Nat) : BufTy := match i % 128 with
  | 0 => ⟨S1024, .f32⟩
  | 1 => ⟨S1x1024, .f32⟩
  | 2 => ⟨S1024, .f32⟩
  | 3 => ⟨S1x1024, .f32⟩
  | 4 => ⟨S1024, .f32⟩
  | 5 => ⟨S1x1024, .f32⟩
  | 6 => ⟨S1024, .f32⟩
  | 7 => ⟨S1x1024, .f32⟩
  | 8 => ⟨S16384, .f32⟩
  | 9 => ⟨S3592, .f32⟩
  | 10 => ⟨S1x3592, .f32⟩
  | 11 => ⟨S1024, .f32⟩
  | 12 => ⟨S2x512, .f32⟩
  | 13 => ⟨S512, .f32⟩
  | 14 => ⟨S1x4x128, .f32⟩
  | 15 => ⟨S512, .f32⟩
  | 16 => ⟨S1x512, .f32⟩
  | 17 => ⟨S512, .f32⟩
  | 18 => ⟨S1x512, .f32⟩
  | 19 => ⟨S512, .f32⟩
  | 20 => ⟨S1x512, .f32⟩
  | 21 => ⟨S1024, .f32⟩
  | 22 => ⟨S1x1024, .f32⟩
  | 23 => ⟨S1024, .f32⟩
  | 24 => ⟨S1x1024, .f32⟩
  | 25 => ⟨S1024, .f32⟩
  | 26 => ⟨S1x1024, .f32⟩
  | 27 => ⟨S1024, .f32⟩
  | 28 => ⟨S1x1024, .f32⟩
  | 29 => ⟨S1024, .f32⟩
  | 30 => ⟨S1x1024, .f32⟩
  | 31 => ⟨S16384, .f32⟩
  | 32 => ⟨S3592, .f32⟩
  | 33 => ⟨S1x3592, .f32⟩
  | 34 => ⟨S1024, .f32⟩
  | 35 => ⟨S2x512, .f32⟩
  | 36 => ⟨S512, .f32⟩
  | 37 => ⟨S1x4x128, .f32⟩
  | 38 => ⟨S512, .f32⟩
  | 39 => ⟨S1x512, .f32⟩
  | 40 => ⟨S512, .f32⟩
  | 41 => ⟨S1x512, .f32⟩
  | 42 => ⟨S512, .f32⟩
  | 43 => ⟨S1x512, .f32⟩
  | 44 => ⟨S1024, .f32⟩
  | 45 => ⟨S1x1024, .f32⟩
  | 46 => ⟨S1024, .f32⟩
  | 47 => ⟨S1x1024, .f32⟩
  | 48 => ⟨S1024, .f32⟩
  | 49 => ⟨S1x1024, .f32⟩
  | 50 => ⟨S1024, .f32⟩
  | 51 => ⟨S1x1024, .f32⟩
  | 52 => ⟨S1024, .f32⟩
  | 53 => ⟨S1x1024, .f32⟩
  | _ => ⟨S1x3592, .f32⟩

abbrev hbmTy (i : Nat) : BufTy := match i / 128 with
  | 0 => hbmTy0_0 i
  | 1 => hbmTy0_1 i
  | _ => ⟨S1x3592, .f32⟩

abbrev bufTy : (tb : Table) → Fin (tcTables nBuf tb) → BufTy
  | .hbm, ⟨i, _⟩ => hbmTy i
  | .local _ .vmem, ⟨0, _⟩ => ⟨S1x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S1x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_c : Ref sig .tc := ⟨.hbm, 56, rfl⟩
abbrev main_call0_v0 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_c_0 : Ref sig .tc := ⟨.hbm, 72, rfl⟩
abbrev main_call1_v0 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_c_1 : Ref sig .tc := ⟨.hbm, 88, rfl⟩
abbrev main_call2_v0 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_c_2 : Ref sig .tc := ⟨.hbm, 104, rfl⟩
abbrev main_call3_v0 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57_0 : Ref sig .tc := ⟨.hbm, 109, rfl⟩
abbrev main_v57_1 : Ref sig .tc := ⟨.hbm, 110, rfl⟩
abbrev main_v57_2 : Ref sig .tc := ⟨.hbm, 111, rfl⟩
abbrev main_v57_3 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference12Ideal.lean ====
abbrev S1x3592 : Shape := ⟨2, ![1, 3592]⟩
abbrev S2x512 : Shape := ⟨2, ![2, 512]⟩
abbrev S1x4x128 : Shape := ⟨3, ![1, 4, 128]⟩
abbrev S1x512 : Shape := ⟨2, ![1, 512]⟩
abbrev S1x1024 : Shape := ⟨2, ![1, 1024]⟩
abbrev S_ : Shape := ⟨0, ![]⟩

abbrev nBuf : Space → Nat
  | .hbm => 407
  | .vmem => 0
  | .smem => 0
  | _ => 0

abbrev hbmTy0_0 (i : Nat) : BufTy := match i % 128 with
  | 0 => ⟨S1x3592, .f32⟩
  | 1 => ⟨S2x512, .f32⟩
  | 2 => ⟨S1x4x128, .f32⟩
  | 3 => ⟨S1x512, .f32⟩
  | 4 => ⟨S1x512, .f32⟩
  | 5 => ⟨S1x512, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x3592, .f32⟩
  | 12 => ⟨S2x512, .f32⟩
  | 13 => ⟨S1x4x128, .f32⟩
  | 14 => ⟨S1x512, .f32⟩
  | 15 => ⟨S1x512, .f32⟩
  | 16 => ⟨S1x512, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x3592, .f32⟩
  | 23 => ⟨S2x512, .f32⟩
  | 24 => ⟨S1x4x128, .f32⟩
  | 25 => ⟨S1x512, .f32⟩
  | 26 => ⟨S1x512, .f32⟩
  | 27 => ⟨S1x512, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x3592, .f32⟩
  | 34 => ⟨S2x512, .f32⟩
  | 35 => ⟨S1x4x128, .f32⟩
  | 36 => ⟨S1x512, .f32⟩
  | 37 => ⟨S1x512, .f32⟩
  | 38 => ⟨S1x512, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S_, .f32⟩
  | 45 => ⟨S1x3592, .f32⟩
  | 46 => ⟨S1x3592, .f32⟩
  | 47 => ⟨S_, .f32⟩
  | 48 => ⟨S1x3592, .f32⟩
  | 49 => ⟨S1x3592, .f32⟩
  | 50 => ⟨S1x3592, .f32⟩
  | 51 => ⟨S_, .f32⟩
  | 52 => ⟨S1x3592, .f32⟩
  | 53 => ⟨S1x3592, .f32⟩
  | 54 => ⟨S1x3592, .f32⟩
  | 55 => ⟨S_, .f32⟩
  | 56 => ⟨S1x3592, .f32⟩
  | 57 => ⟨S1x3592, .f32⟩
  | 58 => ⟨S1x3592, .f32⟩
  | 59 => ⟨S_, .f32⟩
  | 60 => ⟨S1x3592, .f32⟩
  | 61 => ⟨S1x3592, .f32⟩
  | 62 => ⟨S_, .f32⟩
  | 63 => ⟨S1x3592, .f32⟩
  | 64 => ⟨S1x3592, .f32⟩
  | 65 => ⟨S1x3592, .f32⟩
  | 66 => ⟨S_, .f32⟩
  | 67 => ⟨S1x3592, .f32⟩
  | 68 => ⟨S1x3592, .f32⟩
  | 69 => ⟨S1x3592, .f32⟩
  | 70 => ⟨S_, .f32⟩
  | 71 => ⟨S1x3592, .f32⟩
  | 72 => ⟨S1x3592, .f32⟩
  | 73 => ⟨S1x3592, .f32⟩
  | 74 => ⟨S_, .f32⟩
  | 75 => ⟨S1x3592, .f32⟩
  | 76 => ⟨S1x3592, .f32⟩
  | 77 => ⟨S_, .f32⟩
  | 78 => ⟨S2x512, .f32⟩
  | 79 => ⟨S2x512, .f32⟩
  | 80 => ⟨S_, .f32⟩
  | 81 => ⟨S2x512, .f32⟩
  | 82 => ⟨S2x512, .f32⟩
  | 83 => ⟨S2x512, .f32⟩
  | 84 => ⟨S_, .f32⟩
  | 85 => ⟨S2x512, .f32⟩
  | 86 => ⟨S2x512, .f32⟩
  | 87 => ⟨S2x512, .f32⟩
  | 88 => ⟨S_, .f32⟩
  | 89 => ⟨S2x512, .f32⟩
  | 90 => ⟨S2x512, .f32⟩
  | 91 => ⟨S2x512, .f32⟩
  | 92 => ⟨S_, .f32⟩
  | 93 => ⟨S2x512, .f32⟩
  | 94 => ⟨S2x512, .f32⟩
  | 95 => ⟨S_, .f32⟩
  | 96 => ⟨S2x512, .f32⟩
  | 97 => ⟨S2x512, .f32⟩
  | 98 => ⟨S2x512, .f32⟩
  | 99 => ⟨S_, .f32⟩
  | 100 => ⟨S2x512, .f32⟩
  | 101 => ⟨S2x512, .f32⟩
  | 102 => ⟨S2x512, .f32⟩
  | 103 => ⟨S_, .f32⟩
  | 104 => ⟨S2x512, .f32⟩
  | 105 => ⟨S2x512, .f32⟩
  | 106 => ⟨S2x512, .f32⟩
  | 107 => ⟨S_, .f32⟩
  | 108 => ⟨S2x512, .f32⟩
  | 109 => ⟨S2x512, .f32⟩
  | 110 => ⟨S_, .f32⟩
  | 111 => ⟨S1x4x128, .f32⟩
  | 112 => ⟨S1x4x128, .f32⟩
  | 113 => ⟨S_, .f32⟩
  | 114 => ⟨S1x4x128, .f32⟩
  | 115 => ⟨S1x4x128, .f32⟩
  | 116 => ⟨S1x4x128, .f32⟩
  | 117 => ⟨S_, .f32⟩
  | 118 => ⟨S1x4x128, .f32⟩
  | 119 => ⟨S1x4x128, .f32⟩
  | 120 => ⟨S1x4x128, .f32⟩
  | 121 => ⟨S_, .f32⟩
  | 122 => ⟨S1x4x128, .f32⟩
  | 123 => ⟨S1x4x128, .f32⟩
  | 124 => ⟨S1x4x128, .f32⟩
  | 125 => ⟨S_, .f32⟩
  | 126 => ⟨S1x4x128, .f32⟩
  | 127 => ⟨S1x4x128, .f32⟩
  | _ => ⟨S1x3592, .f32⟩

abbrev hbmTy0_1 (i : Nat) : BufTy := match i % 128 with
  | 0 => ⟨S_, .f32⟩
  | 1 => ⟨S1x4x128, .f32⟩
  | 2 => ⟨S1x4x128, .f32⟩
  | 3 => ⟨S1x4x128, .f32⟩
  | 4 => ⟨S_, .f32⟩
  | 5 => ⟨S1x4x128, .f32⟩
  | 6 => ⟨S1x4x128, .f32⟩
  | 7 => ⟨S1x4x128, .f32⟩
  | 8 => ⟨S_, .f32⟩
  | 9 => ⟨S1x4x128, .f32⟩
  | 10 => ⟨S1x4x128, .f32⟩
  | 11 => ⟨S1x4x128, .f32⟩
  | 12 => ⟨S_, .f32⟩
  | 13 => ⟨S1x4x128, .f32⟩
  | 14 => ⟨S1x4x128, .f32⟩
  | 15 => ⟨S_, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S1x512, .f32⟩
  | 30 => ⟨S_, .f32⟩
  | 31 => ⟨S1x512, .f32⟩
  | 32 => ⟨S1x512, .f32⟩
  | 33 => ⟨S_, .f32⟩
  | 34 => ⟨S1x512, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S_, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S1x512, .f32⟩
  | 55 => ⟨S_, .f32⟩
  | 56 => ⟨S1x512, .f32⟩
  | 57 => ⟨S1x512, .f32⟩
  | 58 => ⟨S1x512, .f32⟩
  | 59 => ⟨S_, .f32⟩
  | 60 => ⟨S1x512, .f32⟩
  | 61 => ⟨S1x512, .f32⟩
  | 62 => ⟨S1x512, .f32⟩
  | 63 => ⟨S_, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S1x512, .f32⟩
  | 70 => ⟨S_, .f32⟩
  | 71 => ⟨S1x512, .f32⟩
  | 72 => ⟨S1x512, .f32⟩
  | 73 => ⟨S1x512, .f32⟩
  | 74 => ⟨S_, .f32⟩
  | 75 => ⟨S1x512, .f32⟩
  | 76 => ⟨S1x512, .f32⟩
  | 77 => ⟨S1x512, .f32⟩
  | 78 => ⟨S_, .f32⟩
  | 79 => ⟨S1x512, .f32⟩
  | 80 => ⟨S1x512, .f32⟩
  | 81 => ⟨S_, .f32⟩
  | 82 => ⟨S1x512, .f32⟩
  | 83 => ⟨S1x512, .f32⟩
  | 84 => ⟨S_, .f32⟩
  | 85 => ⟨S1x512, .f32⟩
  | 86 => ⟨S1x512, .f32⟩
  | 87 => ⟨S1x512, .f32⟩
  | 88 => ⟨S_, .f32⟩
  | 89 => ⟨S1x512, .f32⟩
  | 90 => ⟨S1x512, .f32⟩
  | 91 => ⟨S1x512, .f32⟩
  | 92 => ⟨S_, .f32⟩
  | 93 => ⟨S1x512, .f32⟩
  | 94 => ⟨S1x512, .f32⟩
  | 95 => ⟨S1x512, .f32⟩
  | 96 => ⟨S_, .f32⟩
  | 97 => ⟨S1x512, .f32⟩
  | 98 => ⟨S1x512, .f32⟩
  | 99 => ⟨S_, .f32⟩
  | 100 => ⟨S1x512, .f32⟩
  | 101 => ⟨S1x512, .f32⟩
  | 102 => ⟨S1x512, .f32⟩
  | 103 => ⟨S_, .f32⟩
  | 104 => ⟨S1x512, .f32⟩
  | 105 => ⟨S1x512, .f32⟩
  | 106 => ⟨S1x512, .f32⟩
  | 107 => ⟨S_, .f32⟩
  | 108 => ⟨S1x512, .f32⟩
  | 109 => ⟨S1x512, .f32⟩
  | 110 => ⟨S1x512, .f32⟩
  | 111 => ⟨S_, .f32⟩
  | 112 => ⟨S1x512, .f32⟩
  | 113 => ⟨S1x512, .f32⟩
  | 114 => ⟨S_, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x3592, .f32⟩

abbrev hbmTy0_2 (i : Nat) : BufTy := match i % 128 with
  | 0 => ⟨S1x1024, .f32⟩
  | 1 => ⟨S_, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S_, .f32⟩
  | 122 => ⟨S1x1024, .f32⟩
  | 123 => ⟨S1x1024, .f32⟩
  | 124 => ⟨S1x1024, .f32⟩
  | 125 => ⟨S_, .f32⟩
  | 126 => ⟨S1x1024, .f32⟩
  | 127 => ⟨S1x1024, .f32⟩
  | _ => ⟨S1x3592, .f32⟩

abbrev hbmTy0_3 (i : Nat) : BufTy := match i % 128 with
  | 0 => ⟨S1x1024, .f32⟩
  | 1 => ⟨S_, .f32⟩
  | 2 => ⟨S1x1024, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S1x1024, .f32⟩
  | 20 => ⟨S_, .f32⟩
  | 21 => ⟨S1x1024, .f32⟩
  | 22 => ⟨S1x1024, .f32⟩
  | _ => ⟨S1x3592, .f32⟩

abbrev hbmTy (i : Nat) : BufTy := match i / 128 with
  | 0 => hbmTy0_0 i
  | 1 => hbmTy0_1 i
  | 2 => hbmTy0_2 i
  | 3 => hbmTy0_3 i
  | _ => ⟨S1x3592, .f32⟩

abbrev bufTy : (tb : Table) → Fin (tcTables nBuf tb) → BufTy
  | .hbm, ⟨i, _⟩ => hbmTy i
  | _, _ => ⟨S1x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩

abbrev nD : Nat := 1
abbrev τ : Topo := Topo.v7x

variable {F : FTy → Type} [FloatOps F]
-- ==== Kernel13.lean ====
abbrev S8x1x3592 : Shape := ⟨3, ![8, 1, 3592]⟩
abbrev S8x2x512 : Shape := ⟨3, ![8, 2, 512]⟩
abbrev S8x4x512 : Shape := ⟨3, ![8, 4, 512]⟩
abbrev S8x1x512 : Shape := ⟨3, ![8, 1, 512]⟩
abbrev S8x1x1024 : Shape := ⟨3, ![8, 1, 1024]⟩
abbrev S8x1x1 : Shape := ⟨3, ![8, 1, 1]⟩
abbrev S8x3592 : Shape := ⟨2, ![8, 3592]⟩
abbrev S8x1024 : Shape := ⟨2, ![8, 1024]⟩
abbrev S8x2048 : Shape := ⟨2, ![8, 2048]⟩
abbrev S8x512 : Shape := ⟨2, ![8, 512]⟩
abbrev S8x1 : Shape := ⟨2, ![8, 1]⟩
abbrev S8x13321 : Shape := ⟨2, ![8, 13321]⟩
abbrev S_ : Shape := ⟨0, ![]⟩
abbrev S8x16384 : Shape := ⟨2, ![8, 16384]⟩
abbrev S8x16x1024 : Shape := ⟨3, ![8, 16, 1024]⟩
abbrev S16x1024 : Shape := ⟨2, ![16, 1024]⟩
abbrev S1x16x1024 : Shape := ⟨3, ![1, 16, 1024]⟩
abbrev S16384 : Shape := ⟨1, ![16384]⟩
abbrev S3592 : Shape := ⟨1, ![3592]⟩
abbrev S1x3592 : Shape := ⟨2, ![1, 3592]⟩
abbrev S1024 : Shape := ⟨1, ![1024]⟩
abbrev S2x512 : Shape := ⟨2, ![2, 512]⟩
abbrev S2048 : Shape := ⟨1, ![2048]⟩
abbrev S4x512 : Shape := ⟨2, ![4, 512]⟩
abbrev S512 : Shape := ⟨1, ![512]⟩
abbrev S1x512 : Shape := ⟨2, ![1, 512]⟩
abbrev S1x1024 : Shape := ⟨2, ![1, 1024]⟩
abbrev S1 : Shape := ⟨1, ![1]⟩
abbrev S1x1 : Shape := ⟨2, ![1, 1]⟩

abbrev nBuf : Space → Nat
  | .hbm => 55
  | .vmem => 2
  | .smem => 0
  | _ => 0

abbrev bufTy : (tb : Table) → Fin (tcTables nBuf tb) → BufTy
  | .hbm, ⟨0, _⟩ => ⟨S8x1x3592, .f32⟩
  | .hbm, ⟨1, _⟩ => ⟨S8x2x512, .f32⟩
  | .hbm, ⟨2, _⟩ => ⟨S8x4x512, .f32⟩
  | .hbm, ⟨3, _⟩ => ⟨S8x1x512, .f32⟩
  | .hbm, ⟨4, _⟩ => ⟨S8x1x512, .f32⟩
  | .hbm, ⟨5, _⟩ => ⟨S8x1x512, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1, .f32⟩
  | .hbm, ⟨12, _⟩ => ⟨S8x3592, .f32⟩
  | .hbm, ⟨13, _⟩ => ⟨S8x1024, .f32⟩
  | .hbm, ⟨14, _⟩ => ⟨S8x2048, .f32⟩
  | .hbm, ⟨15, _⟩ => ⟨S8x512, .f32⟩
  | .hbm, ⟨16, _⟩ => ⟨S8x512, .f32⟩
  | .hbm, ⟨17, _⟩ => ⟨S8x512, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x1, .f32⟩
  | .hbm, ⟨24, _⟩ => ⟨S8x13321, .f32⟩
  | .hbm, ⟨25, _⟩ => ⟨S_, .i32⟩
  | .hbm, ⟨26, _⟩ => ⟨S_, .f32⟩
  | .hbm, ⟨27, _⟩ => ⟨S8x16384, .f32⟩
  | .hbm, ⟨28, _⟩ => ⟨S8x16x1024, .f32⟩
  | .hbm, ⟨29, _⟩ => ⟨S16x1024, .f32⟩
  | .hbm, ⟨30, _⟩ => ⟨S16384, .f32⟩
  | .hbm, ⟨31, _⟩ => ⟨S3592, .f32⟩
  | .hbm, ⟨32, _⟩ => ⟨S1x3592, .f32⟩
  | .hbm, ⟨33, _⟩ => ⟨S1024, .f32⟩
  | .hbm, ⟨34, _⟩ => ⟨S2x512, .f32⟩
  | .hbm, ⟨35, _⟩ => ⟨S2048, .f32⟩
  | .hbm, ⟨36, _⟩ => ⟨S4x512, .f32⟩
  | .hbm, ⟨37, _⟩ => ⟨S512, .f32⟩
  | .hbm, ⟨38, _⟩ => ⟨S1x512, .f32⟩
  | .hbm, ⟨39, _⟩ => ⟨S512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S1, .f32⟩
  | .hbm, ⟨54, _⟩ => ⟨S1x1, .f32⟩
  | .local _ .vmem, ⟨0, _⟩ => ⟨S8x16x1024, .f32⟩
  | .local _ .vmem, ⟨1, _⟩ => ⟨S16x1024, .f32⟩
  | _, _ => ⟨S8x1x3592, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference13Ideal.lean ====
abbrev S8x1x3592 : Shape := ⟨3, ![8, 1, 3592]⟩
abbrev S8x2x512 : Shape := ⟨3, ![8, 2, 512]⟩
abbrev S8x4x512 : Shape := ⟨3, ![8, 4, 512]⟩
abbrev S8x1x512 : Shape := ⟨3, ![8, 1, 512]⟩
abbrev S8x1x1024 : Shape := ⟨3, ![8, 1, 1024]⟩
abbrev S8x1x1 : Shape := ⟨3, ![8, 1, 1]⟩
abbrev S_ : Shape := ⟨0, ![]⟩
abbrev S1x3592 : Shape := ⟨2, ![1, 3592]⟩
abbrev S2x512 : Shape := ⟨2, ![2, 512]⟩
abbrev S4x512 : Shape := ⟨2, ![4, 512]⟩
abbrev S1x512 : Shape := ⟨2, ![1, 512]⟩
abbrev S1x1024 : Shape := ⟨2, ![1, 1024]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x1x3592, .f32⟩
  | .hbm, ⟨1, _⟩ => ⟨S8x2x512, .f32⟩
  | .hbm, ⟨2, _⟩ => ⟨S8x4x512, .f32⟩
  | .hbm, ⟨3, _⟩ => ⟨S8x1x512, .f32⟩
  | .hbm, ⟨4, _⟩ => ⟨S8x1x512, .f32⟩
  | .hbm, ⟨5, _⟩ => ⟨S8x1x512, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1, .f32⟩
  | .hbm, ⟨12, _⟩ => ⟨S_, .f32⟩
  | .hbm, ⟨13, _⟩ => ⟨S1x3592, .f32⟩
  | .hbm, ⟨14, _⟩ => ⟨S_, .f32⟩
  | .hbm, ⟨15, _⟩ => ⟨S2x512, .f32⟩
  | .hbm, ⟨16, _⟩ => ⟨S_, .f32⟩
  | .hbm, ⟨17, _⟩ => ⟨S4x512, .f32⟩
  | .hbm, ⟨18, _⟩ => ⟨S_, .f32⟩
  | .hbm, ⟨19, _⟩ => ⟨S1x512, .f32⟩
  | .hbm, ⟨20, _⟩ => ⟨S_, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S_, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S_, .f32⟩
  | .hbm, ⟨35, _⟩ => ⟨S1x1, .f32⟩
  | _, _ => ⟨S8x1x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_cst_3 : Ref sig .tc := ⟨.hbm, 20, rfl⟩
abbrev main_v4 : Ref sig .tc := ⟨.hbm, 21, rfl⟩
abbrev main_cst_4 : Ref sig .tc := ⟨.hbm, 22, rfl⟩
abbrev main_v5 : Ref sig .tc := ⟨.hbm, 23, rfl⟩
abbrev main_cst_5 : Ref sig .tc := ⟨.hbm, 24, rfl⟩
abbrev main_v6 : Ref sig .tc := ⟨.hbm, 25, rfl⟩
abbrev main_cst_6 : Ref sig .tc := ⟨.hbm, 26, rfl⟩
abbrev main_v7 : Ref sig .tc := ⟨.hbm, 27, rfl⟩
abbrev main_cst_7 : Ref sig .tc := ⟨.hbm, 28, rfl⟩
abbrev main_v8 : Ref sig .tc := ⟨.hbm, 29, rfl⟩
abbrev main_cst_8 : Ref sig .tc := ⟨.hbm, 30, rfl⟩
abbrev main_v9 : Ref sig .tc := ⟨.hbm, 31, rfl⟩
abbrev main_cst_9 : Ref sig .tc := ⟨.hbm, 32, rfl⟩
abbrev main_v10 : Ref sig .tc := ⟨.hbm, 33, rfl⟩
abbrev main_cst_10 : Ref sig .tc := ⟨.hbm, 34, rfl⟩
abbrev main_v11 : Ref sig .tc := ⟨.hbm, 35, rfl⟩

abbrev nD : Nat := 1
abbrev τ : Topo := Topo.v7x

variable {F : FTy → Type} [FloatOps F]
-- ==== Proof.Conv.Spec.lean ====
/-
  The gradient of the causal depthwise convolution with its silu, as formulas over the extended reals at one
  position: what both programs of the claim compute.

  The arrays are `u` (the projection, the convolution's channels at columns 2048 to 2559), the filter `w` of four
  taps, the bias `b` and the cotangent `d` of the silu's output. A row is a natural number, so that the rows before
  the sequence (zeros) and after its end (no gradient) need no side condition where a formula reads them.
-/
module

public import Idealize.ShloMosaic.PureOps.Ideal
public import Idealize.ShloMosaic.Lib.Pointwise

@[expose] public section
noncomputable section

namespace Cert.Conv
open Idealize.ShloMosaic

/-- The projection's shape. -/
abbrev SU : Shape := ⟨3, ![1, 8192, 3592]⟩
/-- The filter's shape. -/
abbrev SW : Shape := ⟨3, ![1, 4, 512]⟩
/-- The bias's shape. -/
abbrev SB : Shape := ⟨2, ![1, 512]⟩
/-- The cotangent's shape. -/
abbrev SD : Shape := ⟨2, ![8192, 512]⟩

variable (u : SU.Idx → EReal) (w : SW.Idx → EReal) (b : SB.Idx → EReal) (d : SD.Idx → EReal)

/-- The convolution's input behind three rows of zeros: row `J` is the sequence's row `J - 3`. -/
def padded (J : ℕ) (l : Fin 512) : EReal :=
  if h : 3 ≤ J ∧ J < 8195 then u (ix3 0 ⟨J - 3, by omega⟩ ⟨2048 + l.val, by omega⟩) else 0

/-- The pre-activation: four taps and the bias. -/
def preact (R : ℕ) (l : Fin 512) : EReal :=
  padded u R l * w (ix3 0 0 l) + padded u (R + 1) l * w (ix3 0 1 l) + padded u (R + 2) l * w (ix3 0 2 l)
    + padded u (R + 3) l * w (ix3 0 3 l) + b (ix2 0 l)

/-- The silu's derivative at `p` times the cotangent `d`, in the hand-written form `d · σ(p) · (1 + p (1 - σ(p)))`. -/
def siluGrad (d p : EReal) : EReal :=
  d * (Ideal.div 1 (1 + Ideal.exp (0 - p)) * (1 + p * (1 - Ideal.div 1 (1 + Ideal.exp (0 - p)))))

/-- The gradient of the pre-activation; past the sequence's end there is none. -/
def dpre (R : ℕ) (l : Fin 512) : EReal :=
  if h : R < 8192 then siluGrad (d (ix2 ⟨R, h⟩ l)) (preact u w b R l) else 0

/-- The gradient of the convolution's input: the taps run backwards over the rows that follow. -/
def dx (R : ℕ) (l : Fin 512) : EReal :=
  w (ix3 0 0 l) * dpre u w b d (R + 3) l + w (ix3 0 1 l) * dpre u w b d (R + 2) l
    + w (ix3 0 2 l) * dpre u w b d (R + 1) l + w (ix3 0 3 l) * dpre u w b d R l

/-- The gradient of tap `k`: the pre-activation's gradient against the input that tap reads. -/
def dw (k : ℕ) (l : Fin 512) : EReal := ∑ R : Fin 8192, dpre u w b d R.val l * padded u (R.val + k) l

/-- The gradient of the bias. -/
def db (l : Fin 512) : EReal := ∑ R : Fin 8192, dpre u w b d R.val l

/-- The product rule's form of the silu's derivative is the hand-written one where the cotangent is finite; `p` may be
    infinite. An infinite cotangent with a negative `p` tells the two apart (`⊤ + ⊥` against `⊤`). -/
theorem siluGrad_eq {d : EReal} (hd : d ≠ ⊤ ∧ d ≠ ⊥) (p : EReal) :
    d * Ideal.div 1 (1 + Ideal.exp (-p))
        + p * d * (Ideal.div 1 (1 + Ideal.exp (-p)) * (1 - Ideal.div 1 (1 + Ideal.exp (-p)))) = siluGrad d p := by
  unfold siluGrad
  lift d to ℝ using hd
  rw [zero_sub]
  induction p using EReal.rec with
  | bot =>
    have h1 : Ideal.div 1 (1 + Ideal.exp (-⊥)) = 0 := by
      rw [EReal.neg_bot, Ideal.exp_top, EReal.add_top_of_ne_bot (by decide)]; simp [Ideal.div]
    simp only [h1]
    simp
  | top =>
    have h1 : Ideal.div 1 (1 + Ideal.exp (-⊤)) = 1 := by simp [Ideal.div]
    have h2 : (1 : EReal) - 1 = 0 := by rw [← EReal.coe_one, ← EReal.coe_sub, sub_self, EReal.coe_zero]
    simp only [h1, h2]
    simp
  | coe p =>
    have hpos : (1 + Real.exp (-p)) ≠ 0 := by positivity
    have h1 : Ideal.div 1 (1 + Ideal.exp (-(p : EReal))) = ((1 / (1 + Real.exp (-p)) : ℝ) : EReal) := by
      rw [← EReal.coe_neg, Ideal.exp_coe, ← EReal.coe_one, ← EReal.coe_add, Ideal.div_coe hpos, ← EReal.coe_mul, one_mul]
    rw [h1]
    norm_cast
    ring

/-- Eight blocks of 1024 rows, walked from the last to the first, are all 8192 rows. -/
theorem sum_blocks (f : ℕ → EReal) :
    ∑ s ∈ Finset.range 8, ∑ r : Fin 1024, f ((7 - s) * 1024 + r.val) = ∑ R : Fin 8192, f R.val := by
  rw [Finset.sum_range_reflect (fun s => ∑ r : Fin 1024, f (s * 1024 + r.val)) 8,
    Finset.sum_range (fun s => ∑ r : Fin 1024, f (s * 1024 + r.val)),
    ← Fintype.sum_prod_type' (fun (s : Fin 8) (r : Fin 1024) => f (s.val * 1024 + r.val))]
  refine Fintype.sum_equiv (finProdFinEquiv (m := 8) (n := 1024)) _ (fun R : Fin 8192 => f R.val) fun x => ?_
  show f _ = f _
  congr 1
  show x.1.val * 1024 + x.2.val = x.2.val + 1024 * x.1.val
  omega

end Cert.Conv
end
-- ==== Proof.Conv.Kernel.lean ====
/-
  What the kernel leaves: the backward convolution over eight blocks of 1024 rows, walked from the last block to the
  first.

  The carried scratch holds, behind a block's pre-activation gradient, the first eight rows of the block that follows;
  the second scratch holds, before a block's input, the last eight rows of the block that precedes. So every tap reads
  one buffer at a shifted row, and the two sums (taps and bias) run over the blocks in their output's own buffer.
-/
module

public import proofs.«01_k».proof.Proof.Gen.KernelIdeal.Value
public import proofs.«01_k».proof.Proof.Conv.Spec
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section
set_option maxRecDepth 16384
noncomputable section
namespace Cert.KernelIdeal.ConvVal
open Cert.KernelIdeal Cert.KernelIdeal.Gen Idealize.ShloMosaic Idealize.ShloMosaic.TcCoe Idealize.SL.Sem
open Idealize.ShloMosaic.Pipeline (Dat)
open Cert.Conv (padded preact dpre dx dw db)
variable (m : (ℓ : Loc nD τ sig) → Buf (Elt Ideal) ℓ)

/-- The projection. -/
abbrev a0 (c : Dev nD) : S1x8192x3592.Idx → EReal := m ((c : Thread nD τ).loc main_arg0)
/-- The filter. -/
abbrev a1 (c : Dev nD) : S1x4x512.Idx → EReal := m ((c : Thread nD τ).loc main_arg1)
/-- The bias. -/
abbrev a2 (c : Dev nD) : S1x512.Idx → EReal := m ((c : Thread nD τ).loc main_arg2)
/-- The cotangent. -/
abbrev a3 (c : Dev nD) : S8192x512.Idx → EReal := m ((c : Thread nD τ).loc main_arg3)

/-! ## Bands of rows in a buffer -/

/-- A row inside the last band stored reads that band. -/
theorem canon_band {Val : EltTy → Type} [∀ e, Nonempty (Val e)] {e : EltTy} {M W C o : ℕ}
    (inb : ∀ a : Fin 2, (![o, 0] : Fin 2 → ℕ) a + (![W, C] : Fin 2 → ℕ) a ≤ (⟨2, ![M, C]⟩ : Shape).size a)
    (w : (Rect.unit (s := ⟨2, ![M, C]⟩) ![o, 0] ![W, C] inb).shape.Idx → Val e)
    (L : List (View.Piece Val (⟨2, ![M, C]⟩ : Shape) e))
    (r : Fin M) (l : Fin C) (r' : Fin W) (h : r.val = o + r'.val) :
    View.canon (⟨Rect.unit (s := ⟨2, ![M, C]⟩) ![o, 0] ![W, C] inb, w⟩ :: L) (ix2 r l) = w (ix2 r' l) := by
  have : (ix2 r l : (⟨2, ![M, C]⟩ : Shape).Idx) = (Rect.unit (s := ⟨2, ![M, C]⟩) ![o, 0] ![W, C] inb).emb (ix2 r' l) := by
    refine funext fun a => Fin.ext ?_
    match a with
    | ⟨0, _⟩ => show r.val = o + 1 * r'.val; omega
    | ⟨1, _⟩ => show l.val = 0 + 1 * l.val; omega
  rw [this]; exact View.canon_cons_emb _ w L _

/-- A row outside the last band stored reads what was there before it. -/
theorem canon_off {Val : EltTy → Type} [∀ e, Nonempty (Val e)] {e : EltTy} {M W C o : ℕ}
    (inb : ∀ a : Fin 2, (![o, 0] : Fin 2 → ℕ) a + (![W, C] : Fin 2 → ℕ) a ≤ (⟨2, ![M, C]⟩ : Shape).size a)
    (w : (Rect.unit (s := ⟨2, ![M, C]⟩) ![o, 0] ![W, C] inb).shape.Idx → Val e)
    (L : List (View.Piece Val (⟨2, ![M, C]⟩ : Shape) e))
    (r : Fin M) (l : Fin C) (h : r.val < o ∨ o + W ≤ r.val) :
    View.canon (⟨Rect.unit (s := ⟨2, ![M, C]⟩) ![o, 0] ![W, C] inb, w⟩ :: L) (ix2 r l) = View.canon L (ix2 r l) := by
  refine View.canon_cons_of_not_mem _ L ?_
  rw [Rect.mem_set_unit]; intro hall
  have h0 : o ≤ r.val ∧ r.val < o + W := hall (0 : Fin 2)
  omega

/-- A band's own row, in the buffer's rows. -/
theorem band_idx {M W C o : ℕ}
    (inb : ∀ a : Fin 2, (![o, 0] : Fin 2 → ℕ) a + (![W, C] : Fin 2 → ℕ) a ≤ (⟨2, ![M, C]⟩ : Shape).size a)
    (r : Fin W) (l : Fin C) (h : o + r.val < M) :
    (Rect.unit (s := ⟨2, ![M, C]⟩) ![o, 0] ![W, C] inb).toLoadRect.idx (ix2 r l) = (ix2 ⟨o + r.val, h⟩ l : (⟨2, ![M, C]⟩ : Shape).Idx) := by
  refine funext fun a => Fin.ext ?_
  match a with
  | ⟨0, _⟩ => show o + 1 * r.val = o + r.val; omega
  | ⟨1, _⟩ => show 0 + 1 * l.val = l.val; omega

/-! ## The arrays the region reads, as the host leaves them -/

/-- The filter without its leading axis. -/
theorem V_w (c : Dev nD) (k : Fin 4) (l : Fin 512) : (V m c main_v40 : S4x512.Idx → EReal) (ix2 k l) = a1 m c (ix3 0 k l) := by
  unfold V
  simp only [hostOps0, List.flatten_cons, List.flatten_nil, List.append_nil, List.cons_append, List.nil_append]
  after_results
  clean_types
  pointwise
/-- The mLSTM's columns of the projection; only the convolution's own are read. -/
theorem V_u (c : Dev nD) (R : Fin 8192) (l : Fin 1664) (h : l.val < 512) :
    (V m c main_v3 : S8192x1664.Idx → EReal) (ix2 R l) = a0 m c (ix3 0 R ⟨2048 + l.val, by omega⟩) := by
  unfold V
  simp only [hostOps0, List.flatten_cons, List.flatten_nil, List.append_nil, List.cons_append, List.nil_append]
  after_results
  clean_types
  pointwise
  rw [dif_pos (by omega)]
/-- A tap's input as the host pads it. -/
theorem tap_eq (u : S1x8192x3592.Idx → EReal) {l : Fin 512} (J J' : ℕ) (h : J = J') (hJ : J < 8195) :
    (if h : J < 3 then (0 : EReal) else u (ix3 0 ⟨J - 3, by omega⟩ ⟨2048 + l.val, by omega⟩)) = padded u J' l := by
  subst h
  unfold padded
  by_cases h : J < 3
  · rw [dif_pos h, dif_neg (by omega)]
  · rw [dif_neg h, dif_pos (by omega)]
/-- The last tap reads the row itself. -/
theorem tap_last (u : S1x8192x3592.Idx → EReal) (R : Fin 8192) (l : Fin 512) :
    u (ix3 0 R ⟨2048 + l.val, by omega⟩) = padded u (R.val + 3) l := by
  have hR := R.isLt
  rw [padded, dif_pos (by omega)]
  congr 2
/-- The pre-activation as the host writes it, tap by tap over the padded input. -/
theorem host_preact (u : S1x8192x3592.Idx → EReal) (w : S1x4x512.Idx → EReal) (b : S1x512.Idx → EReal) (R : Fin 8192) (l : Fin 512) :
    (if h : R.val < 3 then (0 : EReal) else u (ix3 0 ⟨R.val - 3, by omega⟩ ⟨2048 + l.val, by omega⟩)) * w (ix3 0 0 l)
      + (if h : 1 + R.val < 3 then (0 : EReal) else u (ix3 0 ⟨1 + R.val - 3, by omega⟩ ⟨2048 + l.val, by omega⟩)) * w (ix3 0 1 l)
      + (if h : 2 + R.val < 3 then (0 : EReal) else u (ix3 0 ⟨2 + R.val - 3, by omega⟩ ⟨2048 + l.val, by omega⟩)) * w (ix3 0 2 l)
      + u (ix3 0 R ⟨2048 + l.val, by omega⟩) * w (ix3 0 3 l) + b (ix2 0 l) = preact u w b R.val l := by
  rw [preact, ← tap_last, ← tap_eq u R.val _ rfl (by omega), ← tap_eq u (1 + R.val) (R.val + 1) (by omega) (by omega),
    ← tap_eq u (2 + R.val) (R.val + 2) (by omega) (by omega)]
/-- The pre-activation. -/
theorem V_pre (c : Dev nD) (R : Fin 8192) (l : Fin 512) :
    (V m c main_v39 : S8192x512.Idx → EReal) (ix2 R l) = preact (a0 m c) (a1 m c) (a2 m c) R.val l := by
  unfold V
  simp only [hostOps0, List.flatten_cons, List.flatten_nil, List.append_nil, List.cons_append, List.nil_append]
  after_results
  clean_types
  pointwise
  exact host_preact (a0 m c) (a1 m c) (a2 m c) R l

/-! ## The blocks at a grid point -/

/-- Which block each window is on: the row blocks run backwards, the halo eight rows before. -/
theorem idx0 : ∀ t : Fin cfg0.N, win0_0.index t = ![7 - t.val, 0] ∧ win0_3.index t = ![7 - t.val, 0]
    ∧ win0_4.index t = ![7 - t.val, 0] ∧ win0_5.index t = ![7 - t.val, 0] ∧ win0_2.index t = ![0, 0]
    ∧ win0_1.index t = ![(7 - t.val) * 128 - 1, 0] :=
  (by decide +kernel : ∀ t : Fin grid0.N, win0_0.index t = ![7 - t.val, 0] ∧ win0_3.index t = ![7 - t.val, 0]
    ∧ win0_4.index t = ![7 - t.val, 0] ∧ win0_5.index t = ![7 - t.val, 0] ∧ win0_2.index t = ![0, 0]
    ∧ win0_1.index t = ![(7 - t.val) * 128 - 1, 0])

/-- The block's input rows. -/
theorem x00 (c : Dev nD) (t : Fin cfg0.N) (r : Fin 1024) (l : Fin 512) :
    X0_0 m c t (ix2 r l) = (V m c main_v3 : S8192x1664.Idx → EReal) (ix2 ⟨(7 - t.val) * 1024 + r.val, by have := t.isLt; omega⟩ ⟨l.val, by omega⟩) := by
  unfold X0_0 Pipeline.Window.fill
  rw [dif_pos (moved0_0 t _)]
  blk_ext [iblk, (idx0 t).1]
/-- The eight rows before the block (of the first block: the block's own first rows). -/
theorem x01 (c : Dev nD) (t : Fin cfg0.N) (r : Fin 8) (l : Fin 512) :
    X0_1 m c t (ix2 r l) = (V m c main_v3 : S8192x1664.Idx → EReal) (ix2 ⟨((7 - t.val) * 128 - 1) * 8 + r.val, by have := t.isLt; omega⟩ ⟨l.val, by omega⟩) := by
  unfold X0_1 Pipeline.Window.fill
  rw [dif_pos (moved0_1 t _)]
  blk_ext [iblk, (idx0 t).2.2.2.2.2]
/-- The filter. -/
theorem x02 (c : Dev nD) (t : Fin cfg0.N) (r : Fin 4) (l : Fin 512) : iblk m c 2 t (ix2 r l) = a1 m c (ix3 0 r l) := by
  rw [← V_w m c]; blk_ext [iblk, (idx0 t).2.2.2.2.1]
/-- The block's pre-activation. -/
theorem x03 (c : Dev nD) (t : Fin cfg0.N) (r : Fin 1024) (l : Fin 512) :
    iblk m c 3 t (ix2 r l) = preact (a0 m c) (a1 m c) (a2 m c) ((7 - t.val) * 1024 + r.val) l := by
  rw [← V_pre m c ⟨(7 - t.val) * 1024 + r.val, by have := t.isLt; omega⟩ l]
  blk_ext [iblk, (idx0 t).2.1]
/-- The block's cotangent. -/
theorem x04 (c : Dev nD) (t : Fin cfg0.N) (r : Fin 1024) (l : Fin 512) :
    iblk m c 4 t (ix2 r l) = a3 m c (ix2 ⟨(7 - t.val) * 1024 + r.val, by have := t.isLt; omega⟩ l) := by
  unfold a3
  rw [← V_main_arg3 m c]
  blk_ext [iblk, (idx0 t).2.2.1]

/-- The block's pre-activation gradient. -/
theorem grad_block (c : Dev nD) (t : Fin cfg0.N) (r : Fin 1024) (l : Fin 512) :
    (k0_pay6 (F := Ideal) (iblk m c 3 t) (iblk m c 4 t) : S1024x512.Idx → EReal) (ix2 r l)
      = dpre (a0 m c) (a1 m c) (a2 m c) (a3 m c) ((7 - t.val) * 1024 + r.val) l := by
  have := t.isLt
  rw [dpre, dif_pos (by omega), ← x03, ← x04]
  generalize iblk m c 3 t = P
  generalize iblk m c 4 t = D
  revert P D
  intro (P : S1024x512.Idx → EReal) (D : S1024x512.Idx → EReal)
  pointwise [k0_pay6, Cert.Conv.siluGrad]

/-- The same, as it is stored in the carried scratch. -/
theorem grad_block8 (c : Dev nD) (t : Fin cfg0.N) (r : Fin 1024) (l : Fin 512) :
    (k0_pay8 (F := Ideal) (iblk m c 3 t) (iblk m c 4 t) : S1024x512.Idx → EReal) (ix2 r l)
      = dpre (a0 m c) (a1 m c) (a2 m c) (a3 m c) ((7 - t.val) * 1024 + r.val) l := by
  rw [← grad_block]; pointwise [k0_pay8]

/-! ## The two scratch buffers -/

/-- The carried scratch, after a point: the block's pre-activation gradient in its first 1024 rows. -/
theorem scratch_row (c : Dev nD) (t : Fin cfg0.N) (r : Fin 1024) (l : Fin 512) :
    (outsAt0 m c t.val t.isLt).2.2.2 (ix2 ⟨r.val, by omega⟩ l)
      = dpre (a0 m c) (a1 m c) (a2 m c) (a3 m c) ((7 - t.val) * 1024 + r.val) l := by
  rw [← grad_block8]
  by_cases h0 : t.val % 8 = 0
  · rw [outsAt0_A m c t h0]; frame_out; exact canon_band _ _ _ _ l r (by simp)
  · rw [outsAt0_B m c t h0]; frame_out; exact canon_band _ _ _ _ l r (by simp)

/-- Whether a block has rows before it: all but the first. -/
theorem has_prev : ∀ t : Fin cfg0.N,
    (Scalar.extui (Scalar.cmpi CmpIPredicate.slt (BitVec.ofNat 32 ((grid0.coords t) 0).val) 7#32) : BitVec 32).toInt = if t.val < 7 then 1 else 0 :=
  (by decide +kernel : ∀ t : Fin grid0.N,
    (Scalar.extui (Scalar.cmpi CmpIPredicate.slt (BitVec.ofNat 32 ((grid0.coords t) 0).val) 7#32) : BitVec 32).toInt = if t.val < 7 then 1 else 0)

/-- The input scratch: the block's rows behind the eight rows before them, zeros before the first block. -/
theorem xbuf (c : Dev nD) (t : Fin cfg0.N) (o k : ℕ) (ho : o = 5 + k) (hk : k < 4) (r : Fin 1024) (l : Fin 512)
    (inb : ∀ a : Fin 2, (![o, 0] : Fin 2 → ℕ) a + (![1024, 512] : Fin 2 → ℕ) a ≤ (⟨2, ![1032, 512]⟩ : Shape).size a)
    (i8 : ∀ a : Fin 2, (![8, 0] : Fin 2 → ℕ) a + (![1024, 512] : Fin 2 → ℕ) a ≤ (⟨2, ![1032, 512]⟩ : Shape).size a)
    (i0 : ∀ a : Fin 2, (![0, 0] : Fin 2 → ℕ) a + (![8, 512] : Fin 2 → ℕ) a ≤ (⟨2, ![1032, 512]⟩ : Shape).size a) :
    (View.whole cc0_scratch1).readCov (Val := Elt Ideal)
      [⟨Rect.unit (s := ⟨2, ![1032, 512]⟩) ![8, 0] ![1024, 512] i8, k0_pay11 (X0_0 m c t)⟩,
        ⟨Rect.unit (s := ⟨2, ![1032, 512]⟩) ![0, 0] ![8, 512] i0, k0_pay10 (k0_pay9 (grid0.coords t) (X0_1 m c t))⟩]
      (Rect.unit (s := ⟨2, ![1032, 512]⟩) ![o, 0] ![1024, 512] inb).toLoadRect (ix2 r l)
      = padded (a0 m c) ((7 - t.val) * 1024 + r.val + k) l := by
  have ht : t.val < 8 := t.isLt
  have hr := r.isLt
  rw [View.readCov_eq_canon']; beta_reduce; rw [band_idx inb r l (by omega)]
  by_cases h : 3 ≤ r.val + k
  · rw [canon_band i8 _ _ _ l ⟨r.val + k - 3, by omega⟩ (by show o + r.val = 8 + (r.val + k - 3); omega), padded, dif_pos (by omega)]
    have e : (k0_pay11 (F := Ideal) (X0_0 m c t) : S1024x512.Idx → EReal) = X0_0 m c t := by
      funext y; pointwise [k0_pay11]
    rw [e, x00, V_u m c _ _ l.isLt]
    congr 2
    exact Fin.ext (by dsimp only; omega)
  · rw [canon_off i8 _ _ _ l (by left; show o + r.val < 8; omega), canon_band i0 _ _ _ l ⟨5 + k + r.val, by omega⟩ (by show o + r.val = 0 + (5 + k + r.val); omega)]
    have e : (k0_pay10 (F := Ideal) (k0_pay9 (grid0.coords t) (X0_1 m c t)) : S8x512.Idx → EReal) (ix2 ⟨5 + k + r.val, by omega⟩ l)
        = a0 m c (ix3 0 ⟨((7 - t.val) * 128 - 1) * 8 + (5 + k + r.val), by omega⟩ ⟨2048 + l.val, by omega⟩)
          * ((if t.val < 7 then 1 else 0 : ℤ) : ℝ) := by
      rw [← V_u m c ⟨((7 - t.val) * 128 - 1) * 8 + (5 + k + r.val), by omega⟩ ⟨l.val, by omega⟩ l.isLt,
        ← x01 m c t ⟨5 + k + r.val, by omega⟩ l, ← has_prev]
      generalize X0_1 m c t = X
      revert X
      intro (X : S8x512.Idx → EReal)
      pointwise [k0_pay9, k0_pay10]
    rw [e, padded]
    by_cases h7 : t.val < 7
    · rw [if_pos h7, dif_pos (by omega), Int.cast_one, EReal.coe_one, mul_one]
      congr 2
      exact Fin.ext (by dsimp only; omega)
    · rw [if_neg h7, dif_neg (by omega), Int.cast_zero, EReal.coe_zero, mul_zero]

/-- The carried scratch with the rows that follow behind the block's own: a tap reads a shifted row. -/
theorem dbuf (c : Dev nD) (t : Fin cfg0.N) (o : ℕ) (ho : o < 4) (tail : S8x512.Idx → EReal)
    (htail : ∀ (j : Fin 8) (l : Fin 512), tail (ix2 j l) = dpre (a0 m c) (a1 m c) (a2 m c) (a3 m c) ((7 - t.val) * 1024 + 1024 + j.val) l)
    (L : List (View.Piece (Elt Ideal) (⟨2, ![1032, 512]⟩ : Shape) .f32)) (r : Fin 1024) (l : Fin 512)
    (inb : ∀ a : Fin 2, (![o, 0] : Fin 2 → ℕ) a + (![1024, 512] : Fin 2 → ℕ) a ≤ (⟨2, ![1032, 512]⟩ : Shape).size a)
    (i0 : ∀ a : Fin 2, (![0, 0] : Fin 2 → ℕ) a + (![1024, 512] : Fin 2 → ℕ) a ≤ (⟨2, ![1032, 512]⟩ : Shape).size a)
    (i8 : ∀ a : Fin 2, (![1024, 0] : Fin 2 → ℕ) a + (![8, 512] : Fin 2 → ℕ) a ≤ (⟨2, ![1032, 512]⟩ : Shape).size a) :
    (View.whole cc0_scratch0).readCov (Val := Elt Ideal)
      (⟨Rect.unit (s := ⟨2, ![1032, 512]⟩) ![0, 0] ![1024, 512] i0, k0_pay8 (iblk m c 3 t) (iblk m c 4 t)⟩
        :: ⟨Rect.unit (s := ⟨2, ![1032, 512]⟩) ![1024, 0] ![8, 512] i8, tail⟩ :: L)
      (Rect.unit (s := ⟨2, ![1032, 512]⟩) ![o, 0] ![1024, 512] inb).toLoadRect (ix2 r l)
      = dpre (a0 m c) (a1 m c) (a2 m c) (a3 m c) ((7 - t.val) * 1024 + r.val + o) l := by
  have ht : t.val < 8 := t.isLt
  have hr := r.isLt
  rw [View.readCov_eq_canon']; beta_reduce; rw [band_idx inb r l (by omega)]
  by_cases h : o + r.val < 1024
  · rw [canon_band i0 _ _ _ l ⟨o + r.val, by omega⟩ (by dsimp only; omega), grad_block8]
    congr 1; dsimp only; omega
  · rw [canon_off i0 _ _ _ l (by right; dsimp only; omega), canon_band i8 _ _ _ l ⟨o + r.val - 1024, by omega⟩ (by dsimp only; omega), htail]
    congr 1; dsimp only; omega

/-! ## The payloads at a position -/

/-- The input gradient's four taps. -/
theorem pay_dx (w0 w1 w2 w3 : S1x512.Idx → EReal) (d0 d1 d2 d3 : S1024x512.Idx → EReal) (r : Fin 1024) (l : Fin 512) :
    (k0_pay1 (F := Ideal) (k0_pay18 (k0_pay13 w0 d3 w1 d2) w2 d1 w3 d0) : S1024x512.Idx → EReal) (ix2 r l)
      = w0 (ix2 0 l) * d3 (ix2 r l) + w1 (ix2 0 l) * d2 (ix2 r l) + w2 (ix2 0 l) * d1 (ix2 r l) + w3 (ix2 0 l) * d0 (ix2 r l) := by
  pointwise [k0_pay1, k0_pay18, k0_pay13]

/-- The four taps' running sums. -/
theorem pay_dw (D X : S1024x512.Idx → EReal) (o : S1x512.Idx → EReal) (k : Fin 4) (l : Fin 512) :
    (![k0_pay12 (F := Ideal) D o X, k0_pay16 (k0_pay14 o) (k0_pay15 D X), k0_pay17 D o X, k0_pay19 D o X] k : S1x512.Idx → EReal) (ix2 0 l)
      = o (ix2 0 l) + ∑ r : Fin 1024, D (ix2 r l) * X (ix2 r l) := by
  match k with
  | ⟨0, _⟩ => show (k0_pay12 (F := Ideal) D o X : S1x512.Idx → EReal) (ix2 0 l) = _; pointwise [k0_pay12]
  | ⟨1, _⟩ => show (k0_pay16 (F := Ideal) (k0_pay14 o) (k0_pay15 D X) : S1x512.Idx → EReal) (ix2 0 l) = _; pointwise [k0_pay14, k0_pay15, k0_pay16]
  | ⟨2, _⟩ => show (k0_pay17 (F := Ideal) D o X : S1x512.Idx → EReal) (ix2 0 l) = _; pointwise [k0_pay17]
  | ⟨3, _⟩ => show (k0_pay19 (F := Ideal) D o X : S1x512.Idx → EReal) (ix2 0 l) = _; pointwise [k0_pay19]

/-! ## What a grid point leaves in the outputs -/

/-- The filter's row `k`, as a tap loads it. -/
theorem w_row (c : Dev nD) (t : Fin cfg0.N) (k : Fin 4) (l : Fin 512) (inb) :
    View.ld (Val := Elt Ideal) (iblk m c 2 t : S4x512.Idx → EReal) (Rect.unit (s := ⟨2, ![4, 512]⟩) ![k.val, 0] ![1, 512] inb) (ix2 0 l) = a1 m c (ix3 0 k l) := by
  rw [← x02 m c t]
  exact congrArg (iblk m c 2 t : S4x512.Idx → EReal) (band_idx inb 0 l (by have := k.isLt; omega))

/-- The input gradient's payload, its loads read. -/
theorem dx_taps (c : Dev nD) (R : ℕ) (r : Fin 1024) (l : Fin 512) (w0 w1 w2 w3 : S1x512.Idx → EReal) (d0 d1 d2 d3 : S1024x512.Idx → EReal)
    (e0 : w0 (ix2 0 l) = a1 m c (ix3 0 0 l)) (e1 : w1 (ix2 0 l) = a1 m c (ix3 0 1 l))
    (e2 : w2 (ix2 0 l) = a1 m c (ix3 0 2 l)) (e3 : w3 (ix2 0 l) = a1 m c (ix3 0 3 l))
    (f3 : d3 (ix2 r l) = dpre (a0 m c) (a1 m c) (a2 m c) (a3 m c) (R + 3) l) (f2 : d2 (ix2 r l) = dpre (a0 m c) (a1 m c) (a2 m c) (a3 m c) (R + 2) l)
    (f1 : d1 (ix2 r l) = dpre (a0 m c) (a1 m c) (a2 m c) (a3 m c) (R + 1) l) (f0 : d0 (ix2 r l) = dpre (a0 m c) (a1 m c) (a2 m c) (a3 m c) R l) :
    (k0_pay1 (F := Ideal) (k0_pay18 (k0_pay13 w0 d3 w1 d2) w2 d1 w3 d0) : S1024x512.Idx → EReal) (ix2 r l)
      = dx (a0 m c) (a1 m c) (a2 m c) (a3 m c) R l := by
  rw [pay_dx, e0, e1, e2, e3, f0, f1, f2, f3, dx]

/-- The input gradient's block. -/
theorem out_dx (c : Dev nD) (t : Fin cfg0.N) (r : Fin 1024) (l : Fin 512) :
    ((outsAt0 m c t.val t.isLt).1 (ix2 r l) : EReal) = dx (a0 m c) (a1 m c) (a2 m c) (a3 m c) ((7 - t.val) * 1024 + r.val) l := by
  have ht : t.val < 8 := t.isLt
  have pay7 : ∀ (X : S8x512.Idx → EReal) (j : Fin 8) (l : Fin 512), (k0_pay7 (F := Ideal) X : S8x512.Idx → EReal) (ix2 j l) = X (ix2 j l) := by
    intro X j l; pointwise [k0_pay7]
  by_cases h0 : t.val % 8 = 0
  · rw [outsAt0_A m c t h0]; frame_out
    have tail : ∀ (j : Fin 8) (l : Fin 512), (k0_pay7 (F := Ideal) ((View.whole cc0_scratch0).readCov (Val := Elt Ideal)
        [⟨Rect.unit (s := ⟨2, ![1032, 512]⟩) ![0, 0] ![1032, 512] inb_S1032x512_S1032x512_0_0, k0_pay3 (F := Ideal)⟩]
        (Rect.unit (s := ⟨2, ![1032, 512]⟩) ![0, 0] ![8, 512] inb_S1032x512_S8x512_0_0).toLoadRect) : S8x512.Idx → EReal) (ix2 j l)
        = dpre (a0 m c) (a1 m c) (a2 m c) (a3 m c) ((7 - t.val) * 1024 + 1024 + j.val) l := fun j l => by
      rw [dpre, dif_neg (by omega), pay7, View.readCov_eq_canon']; beta_reduce
      rw [band_idx inb_S1032x512_S8x512_0_0 j l (by omega), canon_band inb_S1032x512_S1032x512_0_0 _ _ _ l ⟨0 + j.val, by omega⟩ (Nat.zero_add _).symm]
      pointwise [k0_pay3]
    exact dx_taps m c _ r l _ _ _ _ _ _ _ _ (w_row m c t 0 l _) (w_row m c t 1 l _) (w_row m c t 2 l _) (w_row m c t 3 l _)
      (dbuf m c t 3 (by decide) _ tail _ r l _ _ _) (dbuf m c t 2 (by decide) _ tail _ r l _ _ _)
      (dbuf m c t 1 (by decide) _ tail _ r l _ _ _) (dbuf m c t 0 (by decide) _ tail _ r l _ _ _)
  · rw [outsAt0_B m c t h0]; frame_out
    have tail : ∀ (j : Fin 8) (l : Fin 512), (k0_pay7 (F := Ideal) (View.ld (Val := Elt Ideal)
        ((outsAt0 m c (t.val - 1) (by have := t.isLt; omega)).2.2.2 : S1032x512.Idx → EReal)
        (Rect.unit (s := ⟨2, ![1032, 512]⟩) ![0, 0] ![8, 512] inb_S1032x512_S8x512_0_0)) : S8x512.Idx → EReal) (ix2 j l)
        = dpre (a0 m c) (a1 m c) (a2 m c) (a3 m c) ((7 - t.val) * 1024 + 1024 + j.val) l := fun j l => by
      rw [pay7]
      refine (congrArg (outsAt0 m c (t.val - 1) (by have := t.isLt; omega)).2.2.2 (band_idx inb_S1032x512_S8x512_0_0 j l (by omega))).trans ?_
      refine (scratch_row m c ⟨t.val - 1, by have := t.isLt; omega⟩ ⟨0 + j.val, by omega⟩ l).trans ?_
      congr 1; dsimp only; omega
    rw [read_unread_whole]
    exact dx_taps m c _ r l _ _ _ _ _ _ _ _ (w_row m c t 0 l _) (w_row m c t 1 l _) (w_row m c t 2 l _) (w_row m c t 3 l _)
      (dbuf m c t 3 (by decide) _ tail _ r l _ _ _) (dbuf m c t 2 (by decide) _ tail _ r l _ _ _)
      (dbuf m c t 1 (by decide) _ tail _ r l _ _ _) (dbuf m c t 0 (by decide) _ tail _ r l _ _ _)

/-- The bias gradient's sum at the first point. -/
theorem out_db_A (c : Dev nD) (t : Fin cfg0.N) (h0 : t.val % 8 = 0) (l : Fin 512) :
    (outsAt0 m c t.val t.isLt).2.2.1 (ix2 0 l)
      = ∑ r : Fin 1024, dpre (a0 m c) (a1 m c) (a2 m c) (a3 m c) ((7 - t.val) * 1024 + r.val) l := by
  rw [outsAt0_A m c t h0]; frame_out
  simp only [← grad_block m c t]
  generalize k0_pay6 (F := Ideal) (iblk m c 3 t) (iblk m c 4 t) = D
  revert D
  intro (D : S1024x512.Idx → EReal)
  pointwise [k0_pay2, k0_pay5]

/-- The bias gradient's sum at a later point. -/
theorem out_db_B (c : Dev nD) (t : Fin cfg0.N) (h0 : ¬t.val % 8 = 0) (l : Fin 512) :
    ((outsAt0 m c t.val t.isLt).2.2.1 (ix2 0 l) : EReal)
      = ((outsAt0 m c (t.val - 1) (by have := t.isLt; omega)).2.2.1 (ix2 0 l) : EReal)
        + ∑ r : Fin 1024, dpre (a0 m c) (a1 m c) (a2 m c) (a3 m c) ((7 - t.val) * 1024 + r.val) l := by
  rw [outsAt0_B m c t h0]; frame_out
  simp only [← grad_block m c t]
  generalize (outsAt0 m c (t.val - 1) _).2.2.1 = O
  generalize k0_pay6 (F := Ideal) (iblk m c 3 t) (iblk m c 4 t) = D
  revert D O
  intro (O : S1x512.Idx → EReal) (D : S1024x512.Idx → EReal)
  pointwise [k0_pay2]

/-- A tap's gradient over one block. -/
def tapSum (c : Dev nD) (n : ℕ) (k : Fin 4) (l : Fin 512) : EReal :=
  ∑ r : Fin 1024, dpre (a0 m c) (a1 m c) (a2 m c) (a3 m c) ((7 - n) * 1024 + r.val) l * padded (a0 m c) ((7 - n) * 1024 + r.val + k.val) l

/-- What a tap adds at a point: its running sum plus its sum over the block. -/
theorem tap_step (c : Dev nD) (t : Fin cfg0.N) (k : Fin 4) (l : Fin 512) (o : S1x512.Idx → EReal) (X : S1024x512.Idx → EReal)
    (hX : ∀ r : Fin 1024, X (ix2 r l) = padded (a0 m c) ((7 - t.val) * 1024 + r.val + k.val) l) :
    (![k0_pay12 (F := Ideal) (k0_pay6 (iblk m c 3 t) (iblk m c 4 t)) o X,
      k0_pay16 (k0_pay14 o) (k0_pay15 (k0_pay6 (iblk m c 3 t) (iblk m c 4 t)) X),
      k0_pay17 (k0_pay6 (iblk m c 3 t) (iblk m c 4 t)) o X, k0_pay19 (k0_pay6 (iblk m c 3 t) (iblk m c 4 t)) o X] k : S1x512.Idx → EReal) (ix2 0 l)
      = o (ix2 0 l) + tapSum m c t.val k l := by
  refine (pay_dw _ _ _ k l).trans (congrArg _ (Finset.sum_congr rfl fun r _ => ?_))
  rw [grad_block, hX]

/-- A tap's gradient at the first point: its row was set to zero before. -/
theorem out_dw_A (c : Dev nD) (t : Fin cfg0.N) (h0 : t.val % 8 = 0) (k : Fin 4) (l : Fin 512) :
    ((outsAt0 m c t.val t.isLt).2.1 (ix2 k l) : EReal) = tapSum m c t.val k l := by
  have zero : ∀ k : Fin 4, (k0_pay4 (F := Ideal) : S4x512.Idx → EReal) (ix2 k l) = 0 := by intro k; pointwise [k0_pay4]
  rw [outsAt0_A m c t h0]; frame_out
  match k with
  | ⟨3, _⟩ =>
    refine (canon_band inb_S4x512_S1x512_3_0 _ _ _ l 0 rfl).trans
      ((tap_step m c t 3 l _ _ fun r => xbuf m c t _ 3 rfl (by decide) r l _ _ _).trans ((congrArg (· + _) ?_).trans (zero_add _)))
    rw [View.readCov_eq_canon']; beta_reduce
    rw [band_idx inb_S4x512_S1x512_3_0 0 l (by decide), canon_off inb_S4x512_S1x512_2_0 _ _ _ l (by simp),
      canon_off inb_S4x512_S1x512_1_0 _ _ _ l (by simp), canon_off inb_S4x512_S1x512_0_0 _ _ _ l (by simp),
      canon_band inb_S4x512_S4x512_0_0 _ _ _ l 3 rfl, zero]
  | ⟨2, _⟩ =>
    rw [canon_off inb_S4x512_S1x512_3_0 _ _ _ l (by simp)]
    refine (canon_band inb_S4x512_S1x512_2_0 _ _ _ l 0 rfl).trans
      ((tap_step m c t 2 l _ _ fun r => xbuf m c t _ 2 rfl (by decide) r l _ _ _).trans ((congrArg (· + _) ?_).trans (zero_add _)))
    rw [View.readCov_eq_canon']; beta_reduce
    rw [band_idx inb_S4x512_S1x512_2_0 0 l (by decide), canon_off inb_S4x512_S1x512_1_0 _ _ _ l (by simp),
      canon_off inb_S4x512_S1x512_0_0 _ _ _ l (by simp), canon_band inb_S4x512_S4x512_0_0 _ _ _ l 2 rfl, zero]
  | ⟨1, _⟩ =>
    rw [canon_off inb_S4x512_S1x512_3_0 _ _ _ l (by simp), canon_off inb_S4x512_S1x512_2_0 _ _ _ l (by simp)]
    refine (canon_band inb_S4x512_S1x512_1_0 _ _ _ l 0 rfl).trans
      ((tap_step m c t 1 l _ _ fun r => xbuf m c t _ 1 rfl (by decide) r l _ _ _).trans ((congrArg (· + _) ?_).trans (zero_add _)))
    rw [View.readCov_eq_canon']; beta_reduce
    rw [band_idx inb_S4x512_S1x512_1_0 0 l (by decide), canon_off inb_S4x512_S1x512_0_0 _ _ _ l (by simp),
      canon_band inb_S4x512_S4x512_0_0 _ _ _ l 1 rfl, zero]
  | ⟨0, _⟩ =>
    rw [canon_off inb_S4x512_S1x512_3_0 _ _ _ l (by simp), canon_off inb_S4x512_S1x512_2_0 _ _ _ l (by simp),
      canon_off inb_S4x512_S1x512_1_0 _ _ _ l (by simp)]
    refine (canon_band inb_S4x512_S1x512_0_0 _ _ _ l 0 rfl).trans
      ((tap_step m c t 0 l _ _ fun r => xbuf m c t _ 0 rfl (by decide) r l _ _ _).trans ((congrArg (· + _) ?_).trans (zero_add _)))
    rw [View.readCov_eq_canon']; beta_reduce
    rw [band_idx inb_S4x512_S1x512_0_0 0 l (by decide), canon_band inb_S4x512_S4x512_0_0 _ _ _ l 0 rfl, zero]

/-- A tap's gradient at a later point: what the point before left, plus the block's sum. -/
theorem out_dw_B (c : Dev nD) (t : Fin cfg0.N) (h0 : ¬t.val % 8 = 0) (k : Fin 4) (l : Fin 512) :
    ((outsAt0 m c t.val t.isLt).2.1 (ix2 k l) : EReal)
      = ((outsAt0 m c (t.val - 1) (by have := t.isLt; omega)).2.1 (ix2 k l) : EReal) + tapSum m c t.val k l := by
  rw [outsAt0_B m c t h0]; frame_out
  match k with
  | ⟨3, _⟩ =>
    refine (canon_band inb_S4x512_S1x512_3_0 _ _ _ l 0 rfl).trans
      ((tap_step m c t 3 l _ _ fun r => xbuf m c t _ 3 rfl (by decide) r l _ _ _).trans (congrArg (· + _) ?_))
    exact congrArg (outsAt0 m c (t.val - 1) (by have := t.isLt; omega)).2.1 (band_idx inb_S4x512_S1x512_3_0 0 l (by decide))
  | ⟨2, _⟩ =>
    rw [canon_off inb_S4x512_S1x512_3_0 _ _ _ l (by simp)]
    refine (canon_band inb_S4x512_S1x512_2_0 _ _ _ l 0 rfl).trans
      ((tap_step m c t 2 l _ _ fun r => xbuf m c t _ 2 rfl (by decide) r l _ _ _).trans (congrArg (· + _) ?_))
    exact congrArg (outsAt0 m c (t.val - 1) (by have := t.isLt; omega)).2.1 (band_idx inb_S4x512_S1x512_2_0 0 l (by decide))
  | ⟨1, _⟩ =>
    rw [canon_off inb_S4x512_S1x512_3_0 _ _ _ l (by simp), canon_off inb_S4x512_S1x512_2_0 _ _ _ l (by simp)]
    refine (canon_band inb_S4x512_S1x512_1_0 _ _ _ l 0 rfl).trans
      ((tap_step m c t 1 l _ _ fun r => xbuf m c t _ 1 rfl (by decide) r l _ _ _).trans (congrArg (· + _) ?_))
    exact congrArg (outsAt0 m c (t.val - 1) (by have := t.isLt; omega)).2.1 (band_idx inb_S4x512_S1x512_1_0 0 l (by decide))
  | ⟨0, _⟩ =>
    rw [canon_off inb_S4x512_S1x512_3_0 _ _ _ l (by simp), canon_off inb_S4x512_S1x512_2_0 _ _ _ l (by simp),
      canon_off inb_S4x512_S1x512_1_0 _ _ _ l (by simp)]
    refine (canon_band inb_S4x512_S1x512_0_0 _ _ _ l 0 rfl).trans
      ((tap_step m c t 0 l _ _ fun r => xbuf m c t _ 0 rfl (by decide) r l _ _ _).trans (congrArg (· + _) ?_))
    exact congrArg (outsAt0 m c (t.val - 1) (by have := t.isLt; omega)).2.1 (band_idx inb_S4x512_S1x512_0_0 0 l (by decide))

end Cert.KernelIdeal.ConvVal
end
-- ==== Proof.Conv.Final.lean ====
/-
  The kernel's three arrays after its run, and the run of both programs at those arrays.
-/
module

public import proofs.«01_k».proof.Proof.Conv.Kernel

@[expose] public section
set_option maxRecDepth 16384
noncomputable section
namespace Cert.KernelIdeal.ConvVal
open Cert.KernelIdeal Cert.KernelIdeal.Gen Idealize.ShloMosaic Idealize.ShloMosaic.TcCoe Idealize.SL.Sem
open Idealize.ShloMosaic.Pipeline (Dat)
open Cert.Conv (padded preact dpre dx dw db)
variable (m : (ℓ : Loc nD τ sig) → Buf (Elt Ideal) ℓ)

/-- The taps' running sums after point `n`: the blocks up to it. -/
theorem dw_upto (c : Dev nD) (k : Fin 4) (l : Fin 512) : ∀ n (h : n < cfg0.N),
    ((outsAt0 m c n h).2.1 (ix2 k l) : EReal) = ∑ s ∈ Finset.range (n + 1), tapSum m c s k l
  | 0, h => by
    rw [Finset.sum_range_one]
    exact out_dw_A m c ⟨0, h⟩ rfl k l
  | n + 1, h => by
    have h8 : n + 1 < 8 := h
    rw [Finset.sum_range_succ, ← dw_upto c k l n (by omega)]
    exact out_dw_B m c ⟨n + 1, h⟩ (by dsimp only; omega) k l

/-- The bias's running sum after point `n`: the blocks up to it. -/
theorem db_upto (c : Dev nD) (l : Fin 512) : ∀ n (h : n < cfg0.N),
    ((outsAt0 m c n h).2.2.1 (ix2 0 l) : EReal)
      = ∑ s ∈ Finset.range (n + 1), ∑ r : Fin 1024, dpre (a0 m c) (a1 m c) (a2 m c) (a3 m c) ((7 - s) * 1024 + r.val) l
  | 0, h => by
    rw [Finset.sum_range_one]
    exact out_db_A m c ⟨0, h⟩ rfl l
  | n + 1, h => by
    have h8 : n + 1 < 8 := h
    rw [Finset.sum_range_succ, ← db_upto c l n (by omega)]
    exact out_db_B m c ⟨n + 1, h⟩ (by dsimp only; omega) l

/-- The input gradient after the run. -/
theorem arr_dx (c : Dev nD) (R : Fin 8192) (l : Fin 512) :
    ((dats m 0 c).arrAt 5 cfg0.N (ix2 R l) : EReal) = dx (a0 m c) (a1 m c) (a2 m c) (a3 m c) R.val l := by
  suffices h : (dats m 0 c).arrAt 5 cfg0.N = fun i : S8192x512.Idx => dx (a0 m c) (a1 m c) (a2 m c) (a3 m c) (i 0).val (i 1) by
    exact congrFun h _
  refine (dats m 0 c).arrAt_eq_of_covers 5 _ (by decide +kernel) fun t hf y => ?_
  blk_simp
  rw [after0_5]
  have hj : y = ix2 (y 0) (y 1) := eq_ix2 y
  have h5 : win0_5.index t 0 = 7 - t.val := congrFun (idx0 t).2.2.2.1 0
  have e1 : (win0_5.blk t).view.emb y 1 = y 1 := by
    refine Fin.ext ?_
    have h1 : win0_5.index t 1 = 0 := congrFun (idx0 t).2.2.2.1 1
    blk_simp
    omega
  rw [h5, e1]
  exact (congrArg (outsAt0 m c t.val t.isLt).1 hj).trans (out_dx m c t (y 0) (y 1))

/-- The taps' gradients after the run. -/
theorem arr_dw (c : Dev nD) (k : Fin 4) (l : Fin 512) :
    ((dats m 0 c).arrAt 6 cfg0.N (ix2 k l) : EReal) = dw (a0 m c) (a1 m c) (a2 m c) (a3 m c) k.val l := by
  suffices h : (dats m 0 c).arrAt 6 cfg0.N = fun i : S4x512.Idx => dw (a0 m c) (a1 m c) (a2 m c) (a3 m c) (i 0).val (i 1) by
    exact congrFun h _
  refine (dats m 0 c).arrAt_eq_of_after_last 6 ⟨7, by decide⟩ (by decide +kernel) _ fun j => ?_
  refine (congrFun (after0_6 m c ⟨7, by decide⟩) _).trans ?_
  have e := dw_upto m c (j 0) (j 1) 7 (by decide)
  refine Eq.trans (congrArg _ (eq_ix2 _)) (e.trans ?_)
  blk_simp
  exact Cert.Conv.sum_blocks fun R => dpre (a0 m c) (a1 m c) (a2 m c) (a3 m c) R (j 1) * padded (a0 m c) (R + (j 0).val) (j 1)

/-- The bias's gradient after the run. -/
theorem arr_db (c : Dev nD) (l : Fin 512) :
    ((dats m 0 c).arrAt 7 cfg0.N (ix2 0 l) : EReal) = db (a0 m c) (a1 m c) (a2 m c) (a3 m c) l := by
  suffices h : (dats m 0 c).arrAt 7 cfg0.N = fun i : S1x512.Idx => db (a0 m c) (a1 m c) (a2 m c) (a3 m c) (i 1) by
    exact congrFun h _
  refine (dats m 0 c).arrAt_eq_of_after_last 7 ⟨7, by decide⟩ (by decide +kernel) _ fun j => ?_
  refine (congrFun (after0_7 m c ⟨7, by decide⟩) _).trans ?_
  have e := db_upto m c (j 1) 7 (by decide)
  have h0 : (fun a => ⟨(j a).val, (j a).isLt⟩ : S1x512.Idx) = ix2 0 (j 1) := by
    refine (eq_ix2 _).trans ?_
    congr 1
    exact Subsingleton.elim (α := Fin 1) _ _
  refine Eq.trans (congrArg _ h0) (e.trans ?_)
  blk_simp
  exact Cert.Conv.sum_blocks fun R => dpre (a0 m c) (a1 m c) (a2 m c) (a3 m c) R (j 1)

end Cert.KernelIdeal.ConvVal
end
-- ==== Proof.Conv.Reference.lean ====
/-
  What the reference leaves: jax's own derivative of the convolution and its silu, read at one position.
-/
module

public import proofs.«01_k».proof.Proof.Gen.ReferenceIdeal.Read
public import proofs.«01_k».proof.Proof.Conv.Spec
public import Idealize.ShloMosaic.Lib.Pointwise

@[expose] public section
set_option maxRecDepth 16384
noncomputable section
namespace Cert.ReferenceIdeal.ConvVal
open Cert.ReferenceIdeal Cert.ReferenceIdeal.Gen Cert.ReferenceIdeal.Read Idealize.ShloMosaic Idealize.ShloMosaic.TcCoe Idealize.SL.Sem
open Cert.Conv (padded preact dpre dx dw db)
variable (x0 : (⟨S1x8192x3592, .f32⟩ : BufTy).Contents (Elt Ideal)) (x1 : (⟨S1x4x512, .f32⟩ : BufTy).Contents (Elt Ideal))
  (x2 : (⟨S1x512, .f32⟩ : BufTy).Contents (Elt Ideal)) (x3 : (⟨S8192x512, .f32⟩ : BufTy).Contents (Elt Ideal))

/-- The padded input. -/
theorem rd_padded (J : Fin 8195) (l : Fin 512) : val_main_v8 x0 (ix2 J l) = padded x0 J.val l := by
  pointwise [val_main_v8, val_main_v7, val_main_cst, val_main_v4, val_main_v3, val_main_v2, val_main_v1, val_main_v0]
  unfold padded
  have := J.isLt
  by_cases hJ : J.val < 3
  · rw [dif_pos hJ, dif_neg (by omega)]
  · rw [dif_neg hJ, dif_pos (by omega : 3 ≤ J.val ∧ J.val < 8195)]
    split_ifs <;> first | rfl | (congr 2; exact Fin.ext (by simp only []; omega))

/-- The pre-activation. -/
theorem rd_preact (R : Fin 8192) (l : Fin 512) : val_main_v39 x0 x1 x2 (ix2 R l) = preact x0 x1 x2 R.val l := by
  pointwise [val_main_v39, val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v6,
    val_main_v5]
  simp only [rd_padded, preact, Nat.add_comm R.val]

/-- The pre-activation's gradient, where the cotangent is finite. -/
theorem rd_dpre (hd : ∀ R l, x3 (ix2 R l) ≠ (⊤ : EReal) ∧ x3 (ix2 R l) ≠ (⊥ : EReal)) (R : Fin 8192) (l : Fin 512) :
    val_main_v41 x0 x1 x2 x3 (ix2 R l) = dpre x0 x1 x2 x3 R.val l := by
  pointwise [val_main_v41, val_main_call1_v0, val_main_call1_v1, val_main_call1_v2, val_main_v40_2, val_main_v40_1,
    val_main_call0_v7, val_main_call0_v6, val_main_call0_v4, val_main_call0_v3, val_main_call0_v2, val_main_call0_v1,
    val_main_call0_v0, val_main_call0_cst, val_main_call0_cst_0, val_main_call0_cst_1]
  rw [rd_preact, Cert.Conv.siluGrad_eq (hd R l), dpre, dif_pos R.isLt]

/-- The bias's gradient. -/
theorem rd_db (hd : ∀ R l, x3 (ix2 R l) ≠ (⊤ : EReal) ∧ x3 (ix2 R l) ≠ (⊥ : EReal)) (l : Fin 512) :
    val_main_v90 x0 x1 x2 x3 (ix2 0 l) = db x0 x1 x2 x3 l := by
  pointwise [val_main_v90, val_main_v44, val_main_v43, val_main_v42, val_main_cst_1, val_main_cst_2]
  simp only [rd_dpre _ _ _ _ hd, db, Finset.univ_unique, Finset.sum_singleton]

/-- The input's gradient. -/
theorem rd_dx (hd : ∀ R l, x3 (ix2 R l) ≠ (⊤ : EReal) ∧ x3 (ix2 R l) ≠ (⊥ : EReal)) (R : Fin 8192) (l : Fin 512) :
    val_main_v89 x0 x1 x2 x3 (ix2 R l) = dx x0 x1 x2 x3 R.val l := by
  pointwise [val_main_v89, val_main_v88, val_main_v86, val_main_v85, val_main_v80, val_main_v79, val_main_v75,
    val_main_v74, val_main_v69, val_main_v68, val_main_v64, val_main_v63, val_main_v58, val_main_v57, val_main_v53,
    val_main_v49, val_main_v48, val_main_v33, val_main_v32, val_main_v31, val_main_v26, val_main_v25, val_main_v24,
    val_main_v19, val_main_v18, val_main_v17, val_main_v13, val_main_v12, val_main_v11, val_main_v5, val_main_cst_18,
    val_main_cst_14, val_main_cst_10, val_main_cst_6]
  simp only [rd_dpre _ _ _ _ hd]
  have hR := R.isLt
  have past : ∀ n, 8192 ≤ n → dpre x0 x1 x2 x3 n l = 0 := fun n hn => dif_neg (by omega)
  have tap : ∀ (n J : ℕ) (W : EReal) (P : Prop) [Decidable P], J = n → (P ↔ n < 8192) →
      (if P then dpre x0 x1 x2 x3 J l * W else 0) = W * dpre x0 x1 x2 x3 n l := by
    intro n J W P _ hJ hP
    subst hJ
    by_cases h : P
    · rw [if_pos h, mul_comm]
    · rw [if_neg h, past _ (by have := mt hP.mpr h; omega), mul_zero]
  simp only [dite_eq_ite]
  rw [tap (R.val + 1) _ _ _ (by omega) (by omega), tap (R.val + 2) _ _ _ (by omega) (by omega),
    tap (R.val + 3) _ _ _ (by omega) (by omega), mul_comm (dpre x0 x1 x2 x3 R.val l), dx]
  have turn : ∀ e f g h : EReal, e + f + g + h = h + g + f + e := fun e f g h => by abel
  exact turn _ _ _ _

/-- The gradient of a tap. -/
theorem rd_dw (hd : ∀ R l, x3 (ix2 R l) ≠ (⊤ : EReal) ∧ x3 (ix2 R l) ≠ (⊥ : EReal)) (k : Fin 4) (l : Fin 512) :
    val_main_v84 x0 x1 x2 x3 (ix2 k l) = dw x0 x1 x2 x3 k.val l := by
  pointwise [val_main_v84, val_main_v83, val_main_v82, val_main_v81, val_main_v78, val_main_v77, val_main_v76,
    val_main_v10, val_main_v73, val_main_v72, val_main_v71, val_main_v70, val_main_v67, val_main_v66, val_main_v65,
    val_main_v16, val_main_v62, val_main_v61, val_main_v60, val_main_v59, val_main_v56, val_main_v55, val_main_v54,
    val_main_v23, val_main_v52, val_main_v51, val_main_v50, val_main_v47, val_main_v46, val_main_v45, val_main_v30,
    val_main_cst_3, val_main_cst_4, val_main_cst_5, val_main_cst_7, val_main_cst_8, val_main_cst_9, val_main_cst_11,
    val_main_cst_12, val_main_cst_13, val_main_cst_15, val_main_cst_16, val_main_cst_17]
  simp only [rd_dpre _ _ _ _ hd, rd_padded]
  match k with
  | ⟨0, _⟩ => simp [dw, mul_comm]
  | ⟨1, _⟩ => simp [dw, mul_comm, add_comm]
  | ⟨2, _⟩ => simp [dw, mul_comm, add_comm]
  | ⟨3, _⟩ => simp [dw, mul_comm, add_comm]

end Cert.ReferenceIdeal.ConvVal
end
-- ==== Proof.Conv.Pre.lean ====
/-
  The precondition read: the cotangent is finite everywhere.
-/
module

public import proofs.«01_k».proof.Pre_finite_cotangent
public import Idealize.ShloMosaic.Lib.ReduceAll
public import Idealize.ShloMosaic.Lib.Pointwise

@[expose] public section
noncomputable section
namespace Cert.Pre_finite_cotangent
open Idealize.ShloMosaic

/-- The precondition's own side conditions. -/
instance facts : Facts := ⟨by decide, by decide, by decide⟩

/-- Where the precondition holds every element of the cotangent is finite. -/
theorem finite (x0 : FVec Ideal S1x8192x3592 .f32) (x1 : FVec Ideal S1x4x512 .f32) (x2 : FVec Ideal S1x512 .f32) (x3 : FVec Ideal S8192x512 .f32)
    (h : fn (F := Ideal) x0 x1 x2 x3 = fun _ => 1#1) (R : Fin 8192) (l : Fin 512) : (x3 (ix2 R l) : EReal) ≠ ⊤ ∧ (x3 (ix2 R l) : EReal) ≠ ⊥ := by
  have h1 := congrFun h (fun a => a.elim0)
  unfold fn at h1
  have hs : Subsingleton S_.Idx := ⟨fun a b => funext fun i => i.elim0⟩
  have h2 := Host.reduce_andi_all _ _ _ _ _ h1 (ix2 R l)
  pointwise at h2
  have h3 : max (x3 (ix2 R l) : EReal) (-x3 (ix2 R l)) < Ideal.ofBits FTy.f32 0x7F800000#32 := by
    by_contra hn
    rw [show (FloatOps.absf (x3 (ix2 R l)) : Ideal .f32) = max (x3 (ix2 R l) : EReal) (-x3 (ix2 R l)) from rfl, decide_eq_false hn] at h2
    exact absurd h2 (by decide)
  constructor
  · intro e
    rw [e, max_eq_left le_top] at h3
    exact not_top_lt h3
  · intro e
    rw [e, EReal.neg_bot, max_eq_right le_top] at h3
    exact not_top_lt h3

end Cert.Pre_finite_cotangent
end
-- ==== Proof.Conv.Claim.lean ====
/-
  The convolution's claims: the two programs' runs, and the equality of their three results.
-/
module

public import proofs.«01_k».proof.Defs
public import proofs.«01_k».proof.Proof.Conv.Final
public import proofs.«01_k».proof.Proof.Conv.Reference
public import proofs.«01_k».proof.Proof.Conv.Pre
public import proofs.«01_k».proof.Proof.Gen.ReferenceIdeal.Run
public import Idealize.ShloMosaic.Lib.Claim

@[expose] public section
set_option maxRecDepth 16384
noncomputable section
namespace Cert.Conv
open Idealize.ShloMosaic Idealize.ShloMosaic.TcCoe Idealize.SL.Sem
open Cert.KernelIdeal.ConvVal (a0 a1 a2 a3 arr_dx arr_dw arr_db)
open Cert.KernelIdeal.Gen (dats)
open Cert.ReferenceIdeal.Read (val_main_v89 val_main_v84 val_main_v90 val_main_v89_eq val_main_v84_eq val_main_v90_eq)

/-- The reference runs, leaves its arguments as they were and every counter at zero. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

section
variable (m : (ℓ : Loc Cert.KernelIdeal.nD Cert.KernelIdeal.τ Cert.KernelIdeal.sig) → Buf (Elt Ideal) ℓ) (c : Dev Cert.KernelIdeal.nD)
  (hd : ∀ R l, a3 m c (ix2 R l) ≠ ⊤ ∧ a3 m c (ix2 R l) ≠ ⊥)

include hd in
/-- The input gradients agree. -/
theorem agree_dx : val_main_v89 (F := Ideal) (a0 m c) (a1 m c) (a2 m c) (a3 m c) = (dats m 0 c).arrAt 5 Cert.KernelIdeal.cfg0.N := by
  funext i
  have hi : i = ix2 (i 0) (i 1) := eq_ix2 i
  rw [hi]
  exact (Cert.ReferenceIdeal.ConvVal.rd_dx _ _ _ _ hd (i 0) (i 1)).trans (arr_dx m c (i 0) (i 1)).symm

include hd in
/-- The taps' gradients agree. -/
theorem agree_dw : val_main_v84 (F := Ideal) (a0 m c) (a1 m c) (a2 m c) (a3 m c) = (dats m 0 c).arrAt 6 Cert.KernelIdeal.cfg0.N := by
  funext i
  have hi : i = ix2 (i 0) (i 1) := eq_ix2 i
  rw [hi]
  exact (Cert.ReferenceIdeal.ConvVal.rd_dw _ _ _ _ hd (i 0) (i 1)).trans (arr_dw m c (i 0) (i 1)).symm

include hd in
/-- The bias's gradients agree. -/
theorem agree_db : val_main_v90 (F := Ideal) (a0 m c) (a1 m c) (a2 m c) (a3 m c) = (dats m 0 c).arrAt 7 Cert.KernelIdeal.cfg0.N := by
  funext i
  have hi : i = ix2 0 (i 1) := (eq_ix2 i).trans (congrArg (fun z : Fin 1 => ix2 z (i 1)) (Subsingleton.elim _ _))
  rw [hi]
  exact (Cert.ReferenceIdeal.ConvVal.rd_db _ _ _ _ hd (i 1)).trans (arr_db m c (i 1)).symm
end

/-- The kernel and jax's derivative of the forward lines leave the same three arrays, where the cotangent is finite. -/
theorem algebraic : Cert.algebraic_KernelIdeal_ReferenceIdeal_pre_finite_cotangent := by
  intro m g m' g' hpre hargs
  have hd : ∀ c R l, a3 m c (ix2 R l) ≠ ⊤ ∧ a3 m c (ix2 R l) ≠ ⊥ := fun c R l => Cert.Pre_finite_cotangent.finite _ _ _ _ (hpre c) R l
  refine ⟨fun c => (dats m 0 c).arrAt 5 Cert.KernelIdeal.cfg0.N, fun c => (dats m 0 c).arrAt 6 Cert.KernelIdeal.cfg0.N,
    fun c => (dats m 0 c).arrAt 7 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨e0, e1, e2, e3⟩ := hargs c
  obtain ⟨h0, h1, h2, hk⟩ := h c
  refine ⟨h0.trans ?_, h1.trans ?_, h2.trans ?_, hk⟩
  · rw [val_main_v89_eq, e0, e1, e2, e3]; exact agree_dx m c (hd c)
  · rw [val_main_v84_eq, e0, e1, e2, e3]; exact agree_dw m c (hd c)
  · rw [val_main_v90_eq, e0, e1, e2, e3]; exact agree_db m c (hd c)

end Cert.Conv
end
-- ==== Proof.Head.Run.lean ====
/-
  The kernel program's run: every buffer that outlives the two calls ends at the contents named for the last boundary.
-/
module

public import proofs.«01_k».proof.Proof.Gen.Kernel2Ideal.Frame

@[expose] public section
noncomputable section
namespace Cert.Kernel2Ideal.HeadVal
open Cert.Kernel2Ideal Cert.Kernel2Ideal.Gen Idealize.ShloMosaic Idealize.ShloMosaic.TcCoe Idealize.SL Idealize.SL.Sem
open Idealize.ShloMosaic.Tactic Idealize.SL.RA Idealize.SL.BI
open scoped Idealize.SL.BI
open Idealize.SL.BI.BIBase Idealize.SL.BI.Laws Idealize.SL.ProofMode Idealize.ShloMosaic.Rounds
open Idealize.ShloMosaic.Pipeline (Dat Cfg Window BodyObligation cellOf)
variable {F : FTy → Type} [FloatOps F] (m : (ℓ : Loc nD τ sig) → Buf (Elt F) ℓ) (ρ : Dev nD → PrngReg)

set_option backward.isDefEq.respectTransparency.types false in
/-- From any memory with zero counters the run ends, and every such buffer holds the last boundary's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.Kernel2Ideal.HeadVal
end
-- ==== Proof.Real.Coe.lean ====
/-
  Extended reals that are reals: how the operations of the two programs act on them, and the float constants that the
  programs spell.
-/
module

public import Idealize.ShloMosaic.Lib.IdealHost
public import Idealize.ShloMosaic.Lib.Pointwise

@[expose] public section
noncomputable section
namespace Cert.Real
open Idealize.ShloMosaic

/-- The number of channels. -/
theorem bits_1024 : Ideal.ofBits .f32 0x44800000#32 = ((1024 : ℝ) : EReal) := by
  simp [Ideal.ofBits, Ideal.ieee, -EReal.coe_mul]; norm_num
/-- Its reciprocal. -/
theorem bits_inv : Ideal.ofBits .f32 0x3A800000#32 = ((1 / 1024 : ℝ) : EReal) := by
  simp [Ideal.ofBits, Ideal.ieee, -EReal.coe_mul]; norm_num
/-- One half. -/
theorem bits_half : Ideal.ofBits .f32 0x3F000000#32 = ((1 / 2 : ℝ) : EReal) := by
  simp [Ideal.ofBits, Ideal.ieee, -EReal.coe_mul]; norm_num
/-- Minus one half. -/
theorem bits_neg_half : Ideal.ofBits .f32 0xBF000000#32 = ((-1 / 2 : ℝ) : EReal) := by
  simp [Ideal.ofBits, Ideal.ieee, -EReal.coe_mul, -EReal.coe_neg]; norm_num
/-- Two. -/
theorem bits_two : Ideal.ofBits .f32 0x40000000#32 = ((2 : ℝ) : EReal) := by
  simp [Ideal.ofBits, Ideal.ieee, -EReal.coe_mul]; norm_num
/-- The residual's factor, the float nearest to the fourth root of two. -/
def alpha : ℝ := 9975792 / 8388608
theorem bits_alpha : Ideal.ofBits .f32 0x3F9837F0#32 = (alpha : EReal) := by
  unfold alpha; simp [Ideal.ofBits, Ideal.ieee, -EReal.coe_mul]; norm_num
/-- The variance's offset, the float nearest to 1e-5. -/
def eps : ℝ := 10995116 / 1099511627776
theorem bits_eps : Ideal.ofBits .f32 0x3727C5AC#32 = (eps : EReal) := by
  unfold eps; simp [Ideal.ofBits, Ideal.ieee, -EReal.coe_mul]; norm_num
theorem eps_pos : 0 < eps := by unfold eps; norm_num

/-- A sum of reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by one that is not zero. -/
theorem div_coe (x : ℝ) {y : ℝ} (h : y ≠ 0) : Ideal.div (x : EReal) (y : EReal) = ((x / y : ℝ) : EReal) := by
  rw [Ideal.div_coe h, ← EReal.coe_mul, mul_one_div]

/-- The mean over the channels. -/
theorem div_1024 (x : ℝ) : Ideal.div (x : EReal) ((1024 : ℝ) : EReal) = ((x / 1024 : ℝ) : EReal) := div_coe x (by norm_num)

/-- The reciprocal root of a positive real. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- The logistic function, of an infinite argument too. -/
def sig (z : EReal) : ℝ := (Ideal.div 1 (1 + Ideal.exp (-z))).toReal

/-- Its value is a real, whatever the argument. -/
theorem sig_eq (z : EReal) : Ideal.div 1 (1 + Ideal.exp (-z)) = (sig z : EReal) := by
  have h : ∃ r : ℝ, Ideal.div 1 (1 + Ideal.exp (-z)) = (r : EReal) := by
    induction z using EReal.rec with
    | bot =>
      refine ⟨0, ?_⟩
      rw [EReal.neg_bot, Ideal.exp_top, EReal.add_top_of_ne_bot (by decide)]
      simp [Ideal.div]
    | top => exact ⟨1, by simp [Ideal.div]⟩
    | coe p =>
      have hpos : (1 + Real.exp (-p)) ≠ 0 := by positivity
      exact ⟨_, by rw [← EReal.coe_neg, Ideal.exp_coe, ← EReal.coe_one, ← EReal.coe_add, div_coe _ hpos]⟩
  obtain ⟨r, hr⟩ := h
  unfold sig
  rw [hr, EReal.toReal_coe]

end Cert.Real
end
-- ==== Proof.Real.Norm.lean ====
/-
  The LayerNorm of one row of 1024 channels over the reals, and its gradient in the two forms that the programs compute.
-/
module

public import proofs.«01_k».proof.Proof.Real.Coe

@[expose] public section
noncomputable section
namespace Cert.Real

/-- A row less its mean. -/
def ctr (r : Fin 1024 → ℝ) (l : Fin 1024) : ℝ := r l - (∑ j, r j) / 1024
/-- The row's variance, with its offset. -/
def vr (r : Fin 1024 → ℝ) : ℝ := (∑ j, ctr r j * ctr r j) / 1024 + eps
/-- The reciprocal root of the variance. -/
def rs (r : Fin 1024 → ℝ) : ℝ := (Real.sqrt (vr r))⁻¹
/-- The normalised row. -/
def xh (r : Fin 1024 → ℝ) (l : Fin 1024) : ℝ := ctr r l * rs r
/-- The gradient of the row, for the gain `g` and the gradient `d` of the LayerNorm's result, in the hand-written form. -/
def lnBwd (g r d : Fin 1024 → ℝ) (l : Fin 1024) : ℝ :=
  rs r * (d l * g l - (∑ j, d j * g j) / 1024 - xh r l * ((∑ j, d j * g j * xh r j) / 1024))

theorem vr_pos (r : Fin 1024 → ℝ) : 0 < vr r := by
  have h : 0 ≤ ∑ j, ctr r j * ctr r j := Finset.sum_nonneg fun j _ => mul_self_nonneg _
  have := eps_pos
  unfold vr
  positivity

theorem rs_sq (r : Fin 1024 → ℝ) : rs r * rs r = 1 / vr r := by
  unfold rs
  rw [← mul_inv, Real.mul_self_sqrt (vr_pos r).le, one_div]

/-- The centred row sums to zero. -/
theorem sum_ctr (r : Fin 1024 → ℝ) : ∑ j, ctr r j = 0 := by
  unfold ctr
  rw [Finset.sum_sub_distrib, Finset.sum_const, Finset.card_univ, Fintype.card_fin, nsmul_eq_mul]
  push_cast
  ring

/-- The chain rule's form of the gradient, through the mean, the variance and the reciprocal root, is the hand-written one. -/
theorem lnBwd_chain (g r d : Fin 1024 → ℝ) (l : Fin 1024) :
    d l * g l * rs r + ((∑ j, ctr r j * (d j * g j)) * (-1 / 2 * (rs r / vr r)) / 1024) * (2 * ctr r l)
        + ((∑ j, -(d j * g j * rs r)) + ∑ j, -(((∑ k, ctr r k * (d k * g k)) * (-1 / 2 * (rs r / vr r)) / 1024) * (2 * ctr r j))) / 1024
      = lnBwd g r d l := by
  have h1 : ∀ C : ℝ, ∑ j, -(C * (2 * ctr r j)) = 0 := fun C => by
    rw [Finset.sum_neg_distrib, ← Finset.mul_sum, ← Finset.mul_sum, sum_ctr]; ring
  have h2 : ∑ j, -(d j * g j * rs r) = -((∑ j, d j * g j) * rs r) := by
    rw [Finset.sum_neg_distrib, Finset.sum_mul]
  have h3 : ∑ j, d j * g j * xh r j = (∑ j, ctr r j * (d j * g j)) * rs r := by
    rw [Finset.sum_mul]; exact Finset.sum_congr rfl fun j _ => by unfold xh; ring
  have h4 : rs r / vr r = rs r * (rs r * rs r) := by rw [rs_sq]; ring
  unfold lnBwd
  rw [h1, h2, h3, h4, xh]
  ring

end Cert.Real
end
-- ==== Proof.Head.Spec.lean ====
/-
  The second LayerNorm, the gated embedding and the loss over the reals, with their gradients: what the two programs of
  the pair compute.
-/
module

public import proofs.«01_k».proof.Proof.Real.Norm

@[expose] public section
noncomputable section
namespace Cert.Head
open Idealize.ShloMosaic Cert.Real

/-- The arguments as reals; the gate's bias may be infinite. -/
structure Data where
  X : Fin 8192 → Fin 1024 → ℝ
  A : Fin 8192 → Fin 2816 → ℝ
  D : Fin 2816 → Fin 1024 → ℝ
  g : Fin 1024 → ℝ
  b : Fin 1024 → ℝ
  p : Fin 8192 → Fin 256 → ℝ
  y : Fin 8192 → Fin 1024 → ℝ
  W : Fin 1024 → Fin 1024 → ℝ
  bp : Fin 1024 → EReal
  Q : Fin 256 → Fin 1024 → ℝ

variable (d : Data) (R : Fin 8192)

/-- The residual row that the LayerNorm takes. -/
def r (l : Fin 1024) : ℝ := alpha * d.X R l + ∑ k, d.A R k * d.D k l
/-- The LayerNorm's row. -/
def x2 (l : Fin 1024) : ℝ := xh (r d R) l * d.g l + d.b l
/-- The gate. -/
def sg (l : Fin 1024) : ℝ := sig (((∑ k, x2 d R k * d.W k l : ℝ) : EReal) + d.bp l)
/-- The embedding's product. -/
def e (l : Fin 1024) : ℝ := ∑ k, d.p R k * d.Q k l
/-- The result less the target. -/
def diff (l : Fin 1024) : ℝ := x2 d R l + sg d R l * e d R l - d.y R l
/-- The result's gradient. -/
def dy (l : Fin 1024) : ℝ := diff d R l * (1 / 1024)
/-- The gradient of the embedding's product. -/
def de (l : Fin 1024) : ℝ := dy d R l * sg d R l
/-- The gradient of the gate's input. -/
def dz (l : Fin 1024) : ℝ := dy d R l * e d R l * (sg d R l * (1 - sg d R l))
/-- The gradient of the LayerNorm's row. -/
def dx2 (l : Fin 1024) : ℝ := dy d R l + ∑ k, dz d R k * d.W l k
/-- The gradient of the residual row. -/
def dr (l : Fin 1024) : ℝ := lnBwd d.g (r d R) (dx2 d R) l
/-- One row's part of the loss, before the half. -/
def rowLoss : ℝ := (∑ l, diff d R l * diff d R l) / 1024
/-- The loss. -/
def loss : ℝ := 1 / 2 * ∑ R, rowLoss d R
/-- The gradient of the gate's bias. -/
def dbg (l : Fin 1024) : ℝ := ∑ R, dz d R l
/-- The gradient of the LayerNorm's gain. -/
def dg (l : Fin 1024) : ℝ := ∑ R, dx2 d R l * xh (r d R) l
/-- The gradient of the LayerNorm's offset. -/
def db (l : Fin 1024) : ℝ := ∑ R, dx2 d R l

end Cert.Head
end
-- ==== Proof.Head.Payload.lean ====
/-
  The kernel's arithmetic on one block of 1024 rows, read at one position over the reals; `f` says which row of the
  arrays a row of the block is.
-/
module

public import proofs.«01_k».proof.Proof.Gen.Kernel2Ideal.Frame
public import proofs.«01_k».proof.Proof.Head.Spec
public import Idealize.ShloMosaic.Lib.Pointwise

@[expose] public section
set_option maxRecDepth 16384
noncomputable section
namespace Cert.Kernel2Ideal.HeadVal
open Cert.Kernel2Ideal Cert.Kernel2Ideal.Gen Idealize.ShloMosaic Idealize.ShloMosaic.TcCoe Idealize.SL.Sem
open Cert.Real

variable {d : Cert.Head.Data} {f : Fin 1024 → Fin 8192}

/-! ## The forward call -/

section
variable {a : S1024x2816.Idx → EReal} {D : S2816x1024.Idx → EReal} {x : S1024x1024.Idx → EReal} {g b : S1x1024.Idx → EReal}
  (ha : ∀ r k, a (ix2 r k) = (d.A (f r) k : EReal)) (hD : ∀ k l, D (ix2 k l) = (d.D k l : EReal))
  (hx : ∀ r l, x (ix2 r l) = (d.X (f r) l : EReal)) (hg : ∀ l, g (ix2 0 l) = (d.g l : EReal)) (hb : ∀ l, b (ix2 0 l) = (d.b l : EReal))
  (r : Fin 1024) (l : Fin 1024)

include ha hD hx in
/-- The centred row. -/
theorem pay_ctr : (k0_pay1 (F := Ideal) a D x : S1024x1024.Idx → EReal) (ix2 r l) = (ctr (Cert.Head.r d (f r)) l : EReal) := by
  pointwise [k0_pay1]
  simp only [ha, hD, hx, bits_alpha, bits_1024, ← EReal.coe_mul, coe_sum, ← EReal.coe_add, div_1024, ← EReal.coe_sub]
  rfl

include ha hD hx in
/-- The reciprocal root of the variance. -/
theorem pay_rs : (k0_pay2 (F := Ideal) a D x : S1024x1.Idx → EReal) (ix2 r 0) = (rs (Cert.Head.r d (f r)) : EReal) := by
  pointwise [k0_pay2]
  simp only [pay_ctr ha hD hx, bits_eps, bits_1024, ← EReal.coe_mul, coe_sum, ← EReal.coe_add, div_1024]
  exact rsqrt_pos (vr_pos _)

include ha hD hx in
/-- The normalised row. -/
theorem pay_xh : (k0_pay3 (F := Ideal) a D x : S1024x1024.Idx → EReal) (ix2 r l) = (xh (Cert.Head.r d (f r)) l : EReal) := by
  pointwise [k0_pay3]
  simp only [pay_ctr ha hD hx, pay_rs ha hD hx, ← EReal.coe_mul]
  rfl

include ha hD hx in
/-- The same as it is stored. -/
theorem pay_xh' : (k0_pay6 (F := Ideal) a D x : S1024x1024.Idx → EReal) (ix2 r l) = (xh (Cert.Head.r d (f r)) l : EReal) := by
  pointwise [k0_pay6]
  exact pay_xh ha hD hx r l

include ha hD hx hg hb in
/-- The LayerNorm's row. -/
theorem pay_x2 : (k0_pay4 (F := Ideal) a D x g b : S1024x1024.Idx → EReal) (ix2 r l) = (Cert.Head.x2 d (f r) l : EReal) := by
  pointwise [k0_pay4]
  simp only [pay_xh ha hD hx, hg, hb, ← EReal.coe_mul, ← EReal.coe_add]
  rfl
end

/-! ## The backward call -/

section
variable {x h : S1024x1024.Idx → EReal} {s : S1024x1.Idx → EReal} {p : S1024x256.Idx → EReal} {y : S1024x1024.Idx → EReal}
  {W : S1024x1024.Idx → EReal} {bp g : S1x1024.Idx → EReal} {Q : S256x1024.Idx → EReal}
  (hx : ∀ r l, x (ix2 r l) = (Cert.Head.x2 d (f r) l : EReal)) (hh : ∀ r l, h (ix2 r l) = (xh (Cert.Head.r d (f r)) l : EReal))
  (hs : ∀ r, s (ix2 r 0) = (rs (Cert.Head.r d (f r)) : EReal)) (hp : ∀ r k, p (ix2 r k) = (d.p (f r) k : EReal))
  (hy : ∀ r l, y (ix2 r l) = (d.y (f r) l : EReal)) (hW : ∀ k l, W (ix2 k l) = (d.W k l : EReal))
  (hbp : ∀ l, bp (ix2 0 l) = d.bp l) (hQ : ∀ k l, Q (ix2 k l) = (d.Q k l : EReal)) (hg : ∀ l, g (ix2 0 l) = (d.g l : EReal))
  (r : Fin 1024) (l : Fin 1024)

include hp hQ in
/-- The embedding's product. -/
theorem pay_e : (k1_pay9 (F := Ideal) p Q : S1024x1024.Idx → EReal) (ix2 r l) = (Cert.Head.e d (f r) l : EReal) := by
  pointwise [k1_pay9]
  simp only [hp, hQ, ← EReal.coe_mul, coe_sum]
  rfl

include hx hW hbp in
/-- The gate. -/
theorem pay_sg : (k1_pay10 (F := Ideal) x W bp : S1024x1024.Idx → EReal) (ix2 r l) = (Cert.Head.sg d (f r) l : EReal) := by
  pointwise [k1_pay10, k1_pay8]
  simp only [hx, hW, hbp, ← EReal.coe_mul, coe_sum, zero_sub, sig_eq]
  rfl

include hx hW hbp hp hQ hy in
/-- The result less the target. -/
theorem pay_diff : (k1_pay11 (F := Ideal) x W bp p Q y : S1024x1024.Idx → EReal) (ix2 r l) = (Cert.Head.diff d (f r) l : EReal) := by
  pointwise [k1_pay11, k1_pay8]
  simp only [pay_e hp hQ, pay_sg hx hW hbp, hx, hy, ← EReal.coe_mul, ← EReal.coe_add, ← EReal.coe_sub]
  rfl

include hx hW hbp hp hQ hy in
/-- The row's part of the loss. -/
theorem pay_rowLoss : (k1_pay13 (F := Ideal) x W bp p Q y : S1024x1.Idx → EReal) (ix2 r 0) = (Cert.Head.rowLoss d (f r) : EReal) := by
  pointwise [k1_pay13]
  simp only [pay_diff hx hp hy hW hbp hQ, bits_1024, ← EReal.coe_mul, coe_sum, div_1024]
  rfl
end

section
variable {e g s Df : S1024x1024.Idx → EReal} {W : S1024x1024.Idx → EReal}
  (he : ∀ r l, e (ix2 r l) = (Cert.Head.e d (f r) l : EReal)) (hs : ∀ r l, s (ix2 r l) = (Cert.Head.sg d (f r) l : EReal))
  (hf : ∀ r l, Df (ix2 r l) = (Cert.Head.diff d (f r) l : EReal)) (hW : ∀ k l, W (ix2 k l) = (d.W k l : EReal))
  (r : Fin 1024) (l : Fin 1024)

include hf in
/-- The result's gradient. -/
theorem pay_dy : (k1_pay15 (F := Ideal) Df : S1024x1024.Idx → EReal) (ix2 r l) = (Cert.Head.dy d (f r) l : EReal) := by
  pointwise [k1_pay15]
  simp only [hf, bits_inv, ← EReal.coe_mul]
  rfl

include hf hs in
/-- The gradient of the embedding's product. -/
theorem pay_de : (k1_pay16 (F := Ideal) s Df : S1024x1024.Idx → EReal) (ix2 r l) = (Cert.Head.de d (f r) l : EReal) := by
  pointwise [k1_pay16]
  simp only [pay_dy hf, hs, ← EReal.coe_mul]
  rfl

include he hf hs in
/-- The gradient of the gate's input. -/
theorem pay_dz : (k1_pay17 (F := Ideal) e s Df : S1024x1024.Idx → EReal) (ix2 r l) = (Cert.Head.dz d (f r) l : EReal) := by
  pointwise [k1_pay17]
  simp only [pay_dy hf, hs, he, ← EReal.coe_one, ← EReal.coe_sub, ← EReal.coe_mul]
  rfl

include he hf hs in
/-- The same as it is stored. -/
theorem pay_dz' : (k1_pay18 (F := Ideal) e s Df : S1024x1024.Idx → EReal) (ix2 r l) = (Cert.Head.dz d (f r) l : EReal) := by
  pointwise [k1_pay18]
  exact pay_dz he hs hf r l

include he hf hs hW in
/-- The gradient of the LayerNorm's row. -/
theorem pay_dx2 : (k1_pay20 (F := Ideal) e s Df W : S1024x1024.Idx → EReal) (ix2 r l) = (Cert.Head.dx2 d (f r) l : EReal) := by
  pointwise [k1_pay20]
  simp only [pay_dy hf, pay_dz he hs hf, hW, ← EReal.coe_mul, coe_sum, ← EReal.coe_add]
  rfl
end

/-- The gate's bias, summed onto what is there. -/
theorem pay_dbg {e s Df : S1024x1024.Idx → EReal} (he : ∀ r l, e (ix2 r l) = (Cert.Head.e d (f r) l : EReal)) (hs : ∀ r l, s (ix2 r l) = (Cert.Head.sg d (f r) l : EReal))
    (hf : ∀ r l, Df (ix2 r l) = (Cert.Head.diff d (f r) l : EReal)) (o : S1x1024.Idx → EReal) (l : Fin 1024) :
    (k1_pay19 (F := Ideal) e s Df o : S1x1024.Idx → EReal) (ix2 0 l) = o (ix2 0 l) + ((∑ r, Cert.Head.dz d (f r) l : ℝ) : EReal) := by
  pointwise [k1_pay19]
  simp only [pay_dz he hs hf, coe_sum]

/-- The loss, summed onto what is there. -/
theorem pay_loss {L : S1024x1.Idx → EReal} (hL : ∀ r, L (ix2 r 0) = (Cert.Head.rowLoss d (f r) : EReal)) (o : S1x1.Idx → EReal) :
    (k1_pay14 (F := Ideal) (k1_pay12 o) L : S1x1.Idx → EReal) (ix2 0 0) = o (ix2 0 0) + ((1 / 2 * ∑ r, Cert.Head.rowLoss d (f r) : ℝ) : EReal) := by
  pointwise [k1_pay14, k1_pay12]
  simp only [hL, coe_sum, bits_half, ← EReal.coe_mul]

section
variable {v h : S1024x1024.Idx → EReal} (hv : ∀ r l, v (ix2 r l) = (Cert.Head.dx2 d (f r) l : EReal))
  (hh : ∀ r l, h (ix2 r l) = (xh (Cert.Head.r d (f r)) l : EReal)) (o : S1x1024.Idx → EReal)

include hv hh in
/-- The gain's gradient, summed onto what is there. -/
theorem pay_dg (l : Fin 1024) : (k1_pay1 (F := Ideal) v (k1_pay21 h) (k1_pay22 o) : S1x1024.Idx → EReal) (ix2 0 l)
    = o (ix2 0 l) + ((∑ r, Cert.Head.dx2 d (f r) l * xh (Cert.Head.r d (f r)) l : ℝ) : EReal) := by
  pointwise [k1_pay1, k1_pay21, k1_pay22]
  simp only [hv, hh, ← EReal.coe_mul, coe_sum]

include hv in
/-- The offset's gradient, summed onto what is there. -/
theorem pay_db (l : Fin 1024) : (k1_pay2 (F := Ideal) v o : S1x1024.Idx → EReal) (ix2 0 l) = o (ix2 0 l) + ((∑ r, Cert.Head.dx2 d (f r) l : ℝ) : EReal) := by
  pointwise [k1_pay2]
  simp only [hv, coe_sum]

include hv hh in
/-- The residual row's gradient. -/
theorem pay_dr {s : S1024x1.Idx → EReal} {g : S1x1024.Idx → EReal} (hs : ∀ r, s (ix2 r 0) = (rs (Cert.Head.r d (f r)) : EReal))
    (hg : ∀ l, g (ix2 0 l) = (d.g l : EReal)) (r l : Fin 1024) :
    (k1_pay3 (F := Ideal) v (k1_pay21 h) s g : S1024x1024.Idx → EReal) (ix2 r l) = (Cert.Head.dr d (f r) l : EReal) := by
  pointwise [k1_pay3, k1_pay21]
  simp only [hv, hh, hs, hg, bits_1024, ← EReal.coe_mul, coe_sum, div_1024, ← EReal.coe_sub]
  rfl
end

end Cert.Kernel2Ideal.HeadVal
end
-- ==== Proof.Head.Forward.lean ====
/-
  What the forward call leaves: the LayerNorm's row, the normalised row and the reciprocal root of the variance, block by
  block of 1024 rows.
-/
module

public import proofs.«01_k».proof.Proof.Head.Payload
public import Idealize.ShloMosaic.Lib.Pipeline.ValueKit
public import Idealize.ShloMosaic.Lib.Pipeline.ReadBack
public import Idealize.ShloMosaic.Lib.Tactic.CleanTypes

@[expose] public section
set_option maxRecDepth 16384
noncomputable section
namespace Cert.Kernel2Ideal.HeadVal
open Cert.Kernel2Ideal Cert.Kernel2Ideal.Gen Idealize.ShloMosaic Idealize.ShloMosaic.TcCoe Idealize.SL.Sem
open Idealize.ShloMosaic.Pipeline (Dat)
open Cert.Real
variable (m : (ℓ : Loc nD τ sig) → Buf (Elt Ideal) ℓ) (ρ : Dev nD → PrngReg)

/-- The arguments, in order. -/
abbrev a0 (c : Dev nD) : S8192x1024.Idx → EReal := m ((c : Thread nD τ).loc main_arg0)
abbrev a1 (c : Dev nD) : S8192x2816.Idx → EReal := m ((c : Thread nD τ).loc main_arg1)
abbrev a2 (c : Dev nD) : S1x2816x1024.Idx → EReal := m ((c : Thread nD τ).loc main_arg2)
abbrev a3 (c : Dev nD) : S1x1024.Idx → EReal := m ((c : Thread nD τ).loc main_arg3)
abbrev a4 (c : Dev nD) : S1x1024.Idx → EReal := m ((c : Thread nD τ).loc main_arg4)
abbrev a5 (c : Dev nD) : S8192x256.Idx → EReal := m ((c : Thread nD τ).loc main_arg5)
abbrev a6 (c : Dev nD) : S8192x1024.Idx → EReal := m ((c : Thread nD τ).loc main_arg6)
abbrev a7 (c : Dev nD) : S1x1024x1024.Idx → EReal := m ((c : Thread nD τ).loc main_arg7)
abbrev a8 (c : Dev nD) : S1x1024.Idx → EReal := m ((c : Thread nD τ).loc main_arg8)
abbrev a9 (c : Dev nD) : S1x256x1024.Idx → EReal := m ((c : Thread nD τ).loc main_arg9)

/-- The arguments' contents are the reals of `d`. -/
structure Holds (d : Cert.Head.Data) (c : Dev nD) : Prop where
  h0 : ∀ R l, a0 m c (ix2 R l) = (d.X R l : EReal)
  h1 : ∀ R l, a1 m c (ix2 R l) = (d.A R l : EReal)
  h2 : ∀ k l, a2 m c (ix3 0 k l) = (d.D k l : EReal)
  h3 : ∀ l, a3 m c (ix2 0 l) = (d.g l : EReal)
  h4 : ∀ l, a4 m c (ix2 0 l) = (d.b l : EReal)
  h5 : ∀ R l, a5 m c (ix2 R l) = (d.p R l : EReal)
  h6 : ∀ R l, a6 m c (ix2 R l) = (d.y R l : EReal)
  h7 : ∀ k l, a7 m c (ix3 0 k l) = (d.W k l : EReal)
  h8 : ∀ l, a8 m c (ix2 0 l) = d.bp l
  h9 : ∀ k l, a9 m c (ix3 0 k l) = (d.Q k l : EReal)

/-! ## The arrays the forward call reads -/

/-- The feed-forward's input. -/
theorem V1_a (c : Dev nD) (R : Fin 8192) (k : Fin 2816) : (V1 m ρ c main_v0 : S8192x2816.Idx → EReal) (ix2 R k) = a1 m c (ix2 R k) := by
  unfold V1 W1
  simp only [hostOps0, List.flatten_cons, List.flatten_nil, List.append_nil, List.cons_append, List.nil_append]
  after_results
  clean_types
  pointwise
/-- Its weights without the leading axis. -/
theorem V1_D (c : Dev nD) (k : Fin 2816) (l : Fin 1024) : (V1 m ρ c main_v2 : S2816x1024.Idx → EReal) (ix2 k l) = a2 m c (ix3 0 k l) := by
  unfold V1 W1
  simp only [hostOps0, List.flatten_cons, List.flatten_nil, List.append_nil, List.cons_append, List.nil_append]
  after_results
  clean_types
  pointwise

/-- Which block each window is on. -/
theorem idx0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] ∧ win0_7.index t = ![t.val, 0])

/-- A block's row in the array. -/
def row (t : ℕ) (ht : t < 8) (r : Fin 1024) : Fin 8192 := ⟨t * 1024 + r.val, by omega⟩

variable {d : Cert.Head.Data} {c : Dev nD} (h : Holds m d c)

include h in
theorem b00 (t : Fin cfg0.N) (r : Fin 1024) (k : Fin 2816) : (iblk0 (V1 m ρ) c 0 t : S1024x2816.Idx → EReal) (ix2 r k) = (d.A (row t.val t.isLt r) k : EReal) := by
  rw [← h.h1, ← V1_a m ρ c]; unfold row; blk_ext [iblk0, (idx0 t).1]
include h in
theorem b01 (t : Fin cfg0.N) (r l : Fin 1024) : (iblk0 (V1 m ρ) c 1 t : S1024x1024.Idx → EReal) (ix2 r l) = (d.X (row t.val t.isLt r) l : EReal) := by
  rw [← h.h0]; unfold row a0; rw [← W1_args m ρ c main_arg0 (by decide)]; blk_ext [iblk0, (idx0 t).2.1]
include h in
theorem b02 (t : Fin cfg0.N) (k : Fin 2816) (l : Fin 1024) : (iblk0 (V1 m ρ) c 2 t : S2816x1024.Idx → EReal) (ix2 k l) = (d.D k l : EReal) := by
  rw [← h.h2, ← V1_D m ρ c]; blk_ext [iblk0, (idx0 t).2.2.1]
include h in
theorem b03 (t : Fin cfg0.N) (l : Fin 1024) : (iblk0 (V1 m ρ) c 3 t : S1x1024.Idx → EReal) (ix2 0 l) = (d.g l : EReal) := by
  rw [← h.h3]; unfold a3; rw [← W1_args m ρ c main_arg3 (by decide)]; blk_ext [iblk0, (idx0 t).2.2.2.1]
include h in
theorem b04 (t : Fin cfg0.N) (l : Fin 1024) : (iblk0 (V1 m ρ) c 4 t : S1x1024.Idx → EReal) (ix2 0 l) = (d.b l : EReal) := by
  rw [← h.h4]; unfold a4; rw [← W1_args m ρ c main_arg4 (by decide)]; blk_ext [iblk0, (idx0 t).2.2.2.2.1]

/-! ## The arrays it leaves -/

include h in
/-- The LayerNorm's rows. -/
theorem arr_x2 : (dat0 (V1 m ρ) c).arrAt 5 cfg0.N = fun i : S8192x1024.Idx => (Cert.Head.x2 d (i 0) (i 1) : EReal) := by
  refine (dat0 (V1 m ρ) c).arrAt_eq_of_covers 5 _ (by decide +kernel) fun t hf y => ?_
  have e0 : (win0_5.blk t).view.emb y 0 = row t.val t.isLt (y 0) := by
    refine Fin.ext ?_
    have h0 : win0_5.index t 0 = t.val := congrFun (idx0 t).2.2.2.2.2.1 0
    blk_simp
    rw [h0]; rfl
  have e1 : (win0_5.blk t).view.emb y 1 = y 1 := by
    refine Fin.ext ?_
    have h1 : win0_5.index t 1 = 0 := congrFun (idx0 t).2.2.2.2.2.1 1
    blk_simp
    omega
  beta_reduce
  rw [after0_5, e0, e1]
  unfold out0_5
  frame_out
  exact (congrArg _ (eq_ix2 y)).trans (pay_x2 (b00 m ρ h t) (b02 m ρ h t) (b01 m ρ h t) (b03 m ρ h t) (b04 m ρ h t) (y 0) (y 1))

include h in
/-- The normalised rows. -/
theorem arr_xh : (dat0 (V1 m ρ) c).arrAt 6 cfg0.N = fun i : S8192x1024.Idx => (xh (Cert.Head.r d (i 0)) (i 1) : EReal) := by
  refine (dat0 (V1 m ρ) c).arrAt_eq_of_covers 6 _ (by decide +kernel) fun t hf y => ?_
  have e0 : (win0_6.blk t).view.emb y 0 = row t.val t.isLt (y 0) := by
    refine Fin.ext ?_
    have h0 : win0_6.index t 0 = t.val := congrFun (idx0 t).2.2.2.2.2.2.1 0
    blk_simp
    rw [h0]; rfl
  have e1 : (win0_6.blk t).view.emb y 1 = y 1 := by
    refine Fin.ext ?_
    have h1 : win0_6.index t 1 = 0 := congrFun (idx0 t).2.2.2.2.2.2.1 1
    blk_simp
    omega
  beta_reduce
  rw [after0_6, e0, e1]
  unfold out0_6
  frame_out
  exact (congrArg _ (eq_ix2 y)).trans (pay_xh' (b00 m ρ h t) (b02 m ρ h t) (b01 m ρ h t) (y 0) (y 1))

include h in
/-- The reciprocal roots. -/
theorem arr_rs : (dat0 (V1 m ρ) c).arrAt 7 cfg0.N = fun i : S8192x1.Idx => (rs (Cert.Head.r d (i 0)) : EReal) := by
  refine (dat0 (V1 m ρ) c).arrAt_eq_of_covers 7 _ (by decide +kernel) fun t hf y => ?_
  have e0 : (win0_7.blk t).view.emb y 0 = row t.val t.isLt (y 0) := by
    refine Fin.ext ?_
    have h0 : win0_7.index t 0 = t.val := congrFun (idx0 t).2.2.2.2.2.2.2 0
    blk_simp
    rw [h0]; rfl
  beta_reduce
  rw [after0_7, e0]
  unfold out0_7
  frame_out
  have hy : y = ix2 (y 0) 0 := (eq_ix2 y).trans (congrArg (fun z : Fin 1 => ix2 (y 0) z) (Subsingleton.elim _ _))
  exact (congrArg _ hy).trans (pay_rs (b00 m ρ h t) (b02 m ρ h t) (b01 m ρ h t) (y 0))

end Cert.Kernel2Ideal.HeadVal
end
-- ==== Proof.Real.Blocks.lean ====
/-
  A sum over the rows of an array, taken block by block.
-/
module

public import proofs.«01_k».proof.Proof.Real.Coe

@[expose] public section
noncomputable section
namespace Cert.Real

/-- The sum of `F` over the rows of block `n`, of `B` rows each. -/
def block {T : ℕ} (B : ℕ) (F : Fin T → ℝ) (n : ℕ) : ℝ := ∑ r : Fin B, if h : n * B + r.val < T then F ⟨n * B + r.val, h⟩ else 0

/-- The blocks together are all rows. -/
theorem sum_block {T : ℕ} (N B : ℕ) (e : N * B = T) (F : Fin T → ℝ) : ∑ n ∈ Finset.range N, block B F n = ∑ R, F R := by
  subst e
  unfold block
  rw [Finset.sum_range (fun n => ∑ r : Fin B, if h : n * B + r.val < N * B then F ⟨n * B + r.val, h⟩ else 0),
    ← Fintype.sum_prod_type' (fun (n : Fin N) (r : Fin B) => if h : n.val * B + r.val < N * B then F ⟨n.val * B + r.val, h⟩ else 0)]
  refine Fintype.sum_equiv finProdFinEquiv _ F fun x => ?_
  have hx : (finProdFinEquiv x).val = x.1.val * B + x.2.val := by
    show x.2.val + B * x.1.val = _
    rw [Nat.mul_comm, Nat.add_comm]
  have hlt : x.1.val * B + x.2.val < N * B := hx ▸ (finProdFinEquiv x).isLt
  rw [dif_pos hlt]
  exact congrArg F (Fin.ext hx.symm)

/-- A running sum that starts with the first block's and adds each later block's, at any block. -/
theorem running_at {T : ℕ} (N B : ℕ) (F : Fin T → ℝ) (S : ∀ n, n < N → EReal) (h0 : ∀ h : 0 < N, S 0 h = (block B F 0 : EReal))
    (hs : ∀ n (h : n + 1 < N), S (n + 1) h = S n (by omega) + (block B F (n + 1) : EReal)) (n : ℕ) (h : n < N) :
    S n h = ((∑ k ∈ Finset.range (n + 1), block B F k : ℝ) : EReal) := by
  induction n with
  | zero => rw [Finset.sum_range_one]; exact h0 h
  | succ n ih => rw [hs n h, ih (by omega), ← EReal.coe_add, ← Finset.sum_range_succ]

/-- After the last block it is the sum over all rows. -/
theorem running {T : ℕ} (N B : ℕ) (e : (N + 1) * B = T) (F : Fin T → ℝ) (S : ∀ n, n < N + 1 → EReal)
    (h0 : S 0 (by omega) = (block B F 0 : EReal))
    (hs : ∀ n (h : n + 1 < N + 1), S (n + 1) h = S n (by omega) + (block B F (n + 1) : EReal)) :
    S N (by omega) = ((∑ R, F R : ℝ) : EReal) := by
  rw [running_at (N + 1) B F S (fun _ => h0) hs, sum_block _ _ e]

end Cert.Real
end
-- ==== Proof.Head.Backward.lean ====
/-
  What the backward call leaves, block by block of 1024 rows: four sums run over the blocks in their output's own buffer.
-/
module

public import proofs.«01_k».proof.Proof.Head.Forward
public import proofs.«01_k».proof.Proof.Real.Blocks

@[expose] public section
set_option maxRecDepth 16384
noncomputable section
namespace Cert.Kernel2Ideal.HeadVal
open Cert.Kernel2Ideal Cert.Kernel2Ideal.Gen Idealize.ShloMosaic Idealize.ShloMosaic.TcCoe Idealize.SL.Sem
open Idealize.ShloMosaic.Pipeline (Dat)
open Cert.Real
variable (m : (ℓ : Loc nD τ sig) → Buf (Elt Ideal) ℓ) (ρ : Dev nD → PrngReg)

/-! ## The arrays the backward call reads -/

/-- The gate's weights without the leading axis. -/
theorem V3_W (c : Dev nD) (k l : Fin 1024) : (V3 m ρ c main_v5 : S1024x1024.Idx → EReal) (ix2 k l) = a7 m c (ix3 0 k l) := by
  have e := W2_args m ρ c main_arg7 (by decide)
  unfold V3 W3
  simp only [hostOps1, List.flatten_cons, List.flatten_nil, List.append_nil, List.cons_append, List.nil_append]
  after_results
  clean_types
  rw [e]
  pointwise
/-- The embedding's weights without the leading axis. -/
theorem V3_Q (c : Dev nD) (k : Fin 256) (l : Fin 1024) : (V3 m ρ c main_v7 : S256x1024.Idx → EReal) (ix2 k l) = a9 m c (ix3 0 k l) := by
  have e := W2_args m ρ c main_arg9 (by decide)
  unfold V3 W3
  simp only [hostOps1, List.flatten_cons, List.flatten_nil, List.append_nil, List.cons_append, List.nil_append]
  after_results
  clean_types
  rw [e]
  pointwise

variable {d : Cert.Head.Data} {c : Dev nD} (h : Holds m d c)

include h in
theorem V3_x2 (R : Fin 8192) (l : Fin 1024) : (V3 m ρ c main_v3_0 : S8192x1024.Idx → EReal) (ix2 R l) = (Cert.Head.x2 d R l : EReal) :=
  congrFun ((W3_of m ρ c main_v3_0 (by decide)).trans ((W2_arr m ρ c 5).trans (arr_x2 m ρ h))) (ix2 R l)
include h in
theorem V3_xh (R : Fin 8192) (l : Fin 1024) : (V3 m ρ c main_v3_1 : S8192x1024.Idx → EReal) (ix2 R l) = (xh (Cert.Head.r d R) l : EReal) :=
  congrFun ((W3_of m ρ c main_v3_1 (by decide)).trans ((W2_arr m ρ c 6).trans (arr_xh m ρ h))) (ix2 R l)
include h in
theorem V3_rs (R : Fin 8192) : (V3 m ρ c main_v3_2 : S8192x1.Idx → EReal) (ix2 R 0) = (rs (Cert.Head.r d R) : EReal) :=
  congrFun ((W3_of m ρ c main_v3_2 (by decide)).trans ((W2_arr m ρ c 7).trans (arr_rs m ρ h))) (ix2 R 0)

/-- Which block each window is on. -/
theorem idx1 : ∀ t : Fin cfg1.N, (win1_0.index t = ![t.val, 0] ∧ win1_1.index t = ![t.val, 0] ∧ win1_2.index t = ![t.val, 0]
    ∧ win1_3.index t = ![t.val, 0] ∧ win1_4.index t = ![t.val, 0]) ∧ (win1_5.index t = ![0, 0] ∧ win1_6.index t = ![0, 0] ∧ win1_7.index t = ![0, 0]
    ∧ win1_8.index t = ![0, 0]) ∧ win1_9.index t = ![t.val, 0] ∧ win1_10.index t = ![t.val, 0] ∧ win1_11.index t = ![t.val, 0] :=
  (by decide +kernel : ∀ t : Fin grid1.N, (win1_0.index t = ![t.val, 0] ∧ win1_1.index t = ![t.val, 0] ∧ win1_2.index t = ![t.val, 0]
    ∧ win1_3.index t = ![t.val, 0] ∧ win1_4.index t = ![t.val, 0]) ∧ (win1_5.index t = ![0, 0] ∧ win1_6.index t = ![0, 0] ∧ win1_7.index t = ![0, 0]
    ∧ win1_8.index t = ![0, 0]) ∧ win1_9.index t = ![t.val, 0] ∧ win1_10.index t = ![t.val, 0] ∧ win1_11.index t = ![t.val, 0])

include h in
theorem b10 (t : Fin cfg1.N) (r l : Fin 1024) : (iblk1 (V3 m ρ) c 0 t : S1024x1024.Idx → EReal) (ix2 r l) = (Cert.Head.x2 d (row t.val t.isLt r) l : EReal) := by
  rw [← V3_x2 m ρ h]; unfold row; blk_ext [iblk1, (idx1 t).1.1]
include h in
theorem b11 (t : Fin cfg1.N) (r l : Fin 1024) : (iblk1 (V3 m ρ) c 1 t : S1024x1024.Idx → EReal) (ix2 r l) = (xh (Cert.Head.r d (row t.val t.isLt r)) l : EReal) := by
  rw [← V3_xh m ρ h]; unfold row; blk_ext [iblk1, (idx1 t).1.2.1]
include h in
theorem b12 (t : Fin cfg1.N) (r : Fin 1024) : (iblk1 (V3 m ρ) c 2 t : S1024x1.Idx → EReal) (ix2 r 0) = (rs (Cert.Head.r d (row t.val t.isLt r)) : EReal) := by
  rw [← V3_rs m ρ h]; unfold row; blk_ext [iblk1, (idx1 t).1.2.2.1]
include h in
theorem b13 (t : Fin cfg1.N) (r : Fin 1024) (k : Fin 256) : (iblk1 (V3 m ρ) c 3 t : S1024x256.Idx → EReal) (ix2 r k) = (d.p (row t.val t.isLt r) k : EReal) := by
  rw [← h.h5]; unfold row a5; rw [← W3_args m ρ c main_arg5 (by decide)]; blk_ext [iblk1, (idx1 t).1.2.2.2.1]
include h in
theorem b14 (t : Fin cfg1.N) (r l : Fin 1024) : (iblk1 (V3 m ρ) c 4 t : S1024x1024.Idx → EReal) (ix2 r l) = (d.y (row t.val t.isLt r) l : EReal) := by
  rw [← h.h6]; unfold row a6; rw [← W3_args m ρ c main_arg6 (by decide)]; blk_ext [iblk1, (idx1 t).1.2.2.2.2]
include h in
theorem b15 (t : Fin cfg1.N) (k l : Fin 1024) : (iblk1 (V3 m ρ) c 5 t : S1024x1024.Idx → EReal) (ix2 k l) = (d.W k l : EReal) := by
  rw [← h.h7, ← V3_W m ρ c]; blk_ext [iblk1, (idx1 t).2.1.1]
include h in
theorem b16 (t : Fin cfg1.N) (l : Fin 1024) : (iblk1 (V3 m ρ) c 6 t : S1x1024.Idx → EReal) (ix2 0 l) = d.bp l := by
  rw [← h.h8]; unfold a8; rw [← W3_args m ρ c main_arg8 (by decide)]; blk_ext [iblk1, (idx1 t).2.1.2.1]
include h in
theorem b17 (t : Fin cfg1.N) (k : Fin 256) (l : Fin 1024) : (iblk1 (V3 m ρ) c 7 t : S256x1024.Idx → EReal) (ix2 k l) = (d.Q k l : EReal) := by
  rw [← h.h9, ← V3_Q m ρ c]; blk_ext [iblk1, (idx1 t).2.1.2.2.1]
include h in
theorem b18 (t : Fin cfg1.N) (l : Fin 1024) : (iblk1 (V3 m ρ) c 8 t : S1x1024.Idx → EReal) (ix2 0 l) = (d.g l : EReal) := by
  rw [← h.h3]; unfold a3; rw [← W3_args m ρ c main_arg3 (by decide)]; blk_ext [iblk1, (idx1 t).2.1.2.2.2]

/-! ## What a grid point leaves in the outputs -/

include h in
/-- The embedding's product over the block. -/
theorem blk_e (t : Fin cfg1.N) (r l : Fin 1024) : (k1_pay9 (F := Ideal) (iblk1 (V3 m ρ) c 3 t) (iblk1 (V3 m ρ) c 7 t) : S1024x1024.Idx → EReal) (ix2 r l)
    = (Cert.Head.e d (row t.val t.isLt r) l : EReal) := pay_e (b13 m ρ h t) (b17 m ρ h t) r l
include h in
/-- The gate over the block. -/
theorem blk_sg (t : Fin cfg1.N) (r l : Fin 1024) : (k1_pay10 (F := Ideal) (iblk1 (V3 m ρ) c 0 t) (iblk1 (V3 m ρ) c 5 t) (iblk1 (V3 m ρ) c 6 t) : S1024x1024.Idx → EReal) (ix2 r l)
    = (Cert.Head.sg d (row t.val t.isLt r) l : EReal) := pay_sg (b10 m ρ h t) (b15 m ρ h t) (b16 m ρ h t) r l
include h in
/-- The result less the target over the block. -/
theorem blk_diff (t : Fin cfg1.N) (r l : Fin 1024) : (k1_pay11 (F := Ideal) (iblk1 (V3 m ρ) c 0 t) (iblk1 (V3 m ρ) c 5 t) (iblk1 (V3 m ρ) c 6 t) (iblk1 (V3 m ρ) c 3 t)
      (iblk1 (V3 m ρ) c 7 t) (iblk1 (V3 m ρ) c 4 t) : S1024x1024.Idx → EReal) (ix2 r l)
    = (Cert.Head.diff d (row t.val t.isLt r) l : EReal) :=
  pay_diff (b10 m ρ h t) (b13 m ρ h t) (b14 m ρ h t) (b15 m ρ h t) (b16 m ρ h t) (b17 m ρ h t) r l

include h in
/-- The residual row's gradient. -/
theorem out_dr (t : Fin cfg1.N) (r l : Fin 1024) : ((outsAt1 (V3 m ρ) c t.val t.isLt).1 (ix2 r l) : EReal) = (Cert.Head.dr d (row t.val t.isLt r) l : EReal) := by
  by_cases h0 : t.val % 8 = 0
  · rw [outsAt1_A (V3 m ρ) c t h0]; frame_out
    exact pay_dr (pay_dx2 (blk_e m ρ h t) (blk_sg m ρ h t) (blk_diff m ρ h t) (b15 m ρ h t)) (b11 m ρ h t) (b12 m ρ h t) (b18 m ρ h t) r l
  · rw [outsAt1_B (V3 m ρ) c t h0]; frame_out
    exact pay_dr (pay_dx2 (blk_e m ρ h t) (blk_sg m ρ h t) (blk_diff m ρ h t) (b15 m ρ h t)) (b11 m ρ h t) (b12 m ρ h t) (b18 m ρ h t) r l

include h in
/-- The gradient of the embedding's product. -/
theorem out_de (t : Fin cfg1.N) (r l : Fin 1024) : ((outsAt1 (V3 m ρ) c t.val t.isLt).2.1 (ix2 r l) : EReal) = (Cert.Head.de d (row t.val t.isLt r) l : EReal) := by
  by_cases h0 : t.val % 8 = 0
  · rw [outsAt1_A (V3 m ρ) c t h0]; frame_out
    exact pay_de (blk_sg m ρ h t) (blk_diff m ρ h t) r l
  · rw [outsAt1_B (V3 m ρ) c t h0]; frame_out
    exact pay_de (blk_sg m ρ h t) (blk_diff m ρ h t) r l

include h in
/-- The gradient of the gate's input. -/
theorem out_dz (t : Fin cfg1.N) (r l : Fin 1024) : ((outsAt1 (V3 m ρ) c t.val t.isLt).2.2.1 (ix2 r l) : EReal) = (Cert.Head.dz d (row t.val t.isLt r) l : EReal) := by
  by_cases h0 : t.val % 8 = 0
  · rw [outsAt1_A (V3 m ρ) c t h0]; frame_out
    exact pay_dz' (blk_e m ρ h t) (blk_sg m ρ h t) (blk_diff m ρ h t) r l
  · rw [outsAt1_B (V3 m ρ) c t h0]; frame_out
    exact pay_dz' (blk_e m ρ h t) (blk_sg m ρ h t) (blk_diff m ρ h t) r l

/-- The sum over a block's own rows. -/
theorem block_row (F : Fin 8192 → ℝ) (t : ℕ) (ht : t < 8) : ∑ r : Fin 1024, F (row t ht r) = block 1024 F t := by
  refine Finset.sum_congr rfl fun r _ => ?_
  rw [dif_pos (by have := r.isLt; omega)]
  rfl

include h in
/-- The gradient of the LayerNorm's row over the block. -/
theorem blk_dx2 (t : Fin cfg1.N) (r l : Fin 1024) : (k1_pay20 (F := Ideal) (k1_pay9 (iblk1 (V3 m ρ) c 3 t) (iblk1 (V3 m ρ) c 7 t))
      (k1_pay10 (iblk1 (V3 m ρ) c 0 t) (iblk1 (V3 m ρ) c 5 t) (iblk1 (V3 m ρ) c 6 t))
      (k1_pay11 (iblk1 (V3 m ρ) c 0 t) (iblk1 (V3 m ρ) c 5 t) (iblk1 (V3 m ρ) c 6 t) (iblk1 (V3 m ρ) c 3 t) (iblk1 (V3 m ρ) c 7 t) (iblk1 (V3 m ρ) c 4 t))
      (iblk1 (V3 m ρ) c 5 t) : S1024x1024.Idx → EReal) (ix2 r l) = (Cert.Head.dx2 d (row t.val t.isLt r) l : EReal) :=
  pay_dx2 (blk_e m ρ h t) (blk_sg m ρ h t) (blk_diff m ρ h t) (b15 m ρ h t) r l
include h in
/-- The rows' losses over the block. -/
theorem blk_rowLoss (t : Fin cfg1.N) (r : Fin 1024) : (k1_pay13 (F := Ideal) (iblk1 (V3 m ρ) c 0 t) (iblk1 (V3 m ρ) c 5 t) (iblk1 (V3 m ρ) c 6 t) (iblk1 (V3 m ρ) c 3 t)
      (iblk1 (V3 m ρ) c 7 t) (iblk1 (V3 m ρ) c 4 t) : S1024x1.Idx → EReal) (ix2 r 0) = (Cert.Head.rowLoss d (row t.val t.isLt r) : EReal) :=
  pay_rowLoss (b10 m ρ h t) (b13 m ρ h t) (b14 m ρ h t) (b15 m ρ h t) (b16 m ρ h t) (b17 m ρ h t) r

/-- The sums start at zero. -/
theorem zero_loss : (k1_pay4 (F := Ideal) : S1x1.Idx → EReal) (ix2 0 0) = 0 := by pointwise [k1_pay4]
theorem zero_row (l : Fin 1024) : (k1_pay5 (F := Ideal) : S1x1024.Idx → EReal) (ix2 0 l) = 0 ∧ (k1_pay6 (F := Ideal) : S1x1024.Idx → EReal) (ix2 0 l) = 0
    ∧ (k1_pay7 (F := Ideal) : S1x1024.Idx → EReal) (ix2 0 l) = 0 := by
  refine ⟨?_, ?_, ?_⟩
  · pointwise [k1_pay5]
  · pointwise [k1_pay6]
  · pointwise [k1_pay7]

/-- No later point of the grid starts the sums again. -/
theorem later (n : ℕ) (hn : n + 1 < 8) : ¬(n + 1) % 8 = 0 := by omega

include h in
/-- The loss after the last point. -/
theorem acc_loss : ((outsAt1 (V3 m ρ) c 7 (by decide)).2.2.2.1 (ix2 0 0) : EReal) = (Cert.Head.loss d : EReal) := by
  have e := running 7 1024 rfl (fun R => 1 / 2 * Cert.Head.rowLoss d R) (fun n hn => ((outsAt1 (V3 m ρ) c n hn).2.2.2.1 (ix2 0 0) : EReal)) ?_ ?_
  · exact e.trans (by rw [← Finset.mul_sum]; rfl)
  · rw [outsAt1_A (V3 m ρ) c ⟨0, by decide⟩ rfl]; frame_out
    rw [pay_loss (blk_rowLoss m ρ h ⟨0, by decide⟩), zero_loss, zero_add, Finset.mul_sum]
    exact congrArg Real.toEReal (block_row (fun R => 1 / 2 * Cert.Head.rowLoss d R) 0 (by decide))
  · intro n hn
    rw [outsAt1_B (V3 m ρ) c ⟨n + 1, hn⟩ (later n hn)]; frame_out
    rw [pay_loss (blk_rowLoss m ρ h ⟨n + 1, hn⟩), Finset.mul_sum]
    exact congrArg (fun z : ℝ => _ + (z : EReal)) (block_row (fun R => 1 / 2 * Cert.Head.rowLoss d R) (n + 1) hn)

include h in
/-- The gate bias's gradient after the last point. -/
theorem acc_dbg (l : Fin 1024) : ((outsAt1 (V3 m ρ) c 7 (by decide)).2.2.2.2.1 (ix2 0 l) : EReal) = (Cert.Head.dbg d l : EReal) := by
  refine running 7 1024 rfl (fun R => Cert.Head.dz d R l) (fun n hn => ((outsAt1 (V3 m ρ) c n hn).2.2.2.2.1 (ix2 0 l) : EReal)) ?_ ?_
  · rw [outsAt1_A (V3 m ρ) c ⟨0, by decide⟩ rfl]; frame_out
    rw [pay_dbg (blk_e m ρ h ⟨0, by decide⟩) (blk_sg m ρ h ⟨0, by decide⟩) (blk_diff m ρ h ⟨0, by decide⟩), (zero_row l).1, zero_add]
    exact congrArg Real.toEReal (block_row (fun R => Cert.Head.dz d R l) 0 (by decide))
  · intro n hn
    rw [outsAt1_B (V3 m ρ) c ⟨n + 1, hn⟩ (later n hn)]; frame_out
    rw [pay_dbg (blk_e m ρ h ⟨n + 1, hn⟩) (blk_sg m ρ h ⟨n + 1, hn⟩) (blk_diff m ρ h ⟨n + 1, hn⟩)]
    exact congrArg (fun z : ℝ => _ + (z : EReal)) (block_row (fun R => Cert.Head.dz d R l) (n + 1) hn)

include h in
/-- The gain's gradient after the last point. -/
theorem acc_dg (l : Fin 1024) : ((outsAt1 (V3 m ρ) c 7 (by decide)).2.2.2.2.2.1 (ix2 0 l) : EReal) = (Cert.Head.dg d l : EReal) := by
  refine running 7 1024 rfl (fun R => Cert.Head.dx2 d R l * xh (Cert.Head.r d R) l)
    (fun n hn => ((outsAt1 (V3 m ρ) c n hn).2.2.2.2.2.1 (ix2 0 l) : EReal)) ?_ ?_
  · rw [outsAt1_A (V3 m ρ) c ⟨0, by decide⟩ rfl]; frame_out
    rw [pay_dg (blk_dx2 m ρ h ⟨0, by decide⟩) (b11 m ρ h ⟨0, by decide⟩), (zero_row l).2.1, zero_add]
    exact congrArg Real.toEReal (block_row (fun R => Cert.Head.dx2 d R l * xh (Cert.Head.r d R) l) 0 (by decide))
  · intro n hn
    rw [outsAt1_B (V3 m ρ) c ⟨n + 1, hn⟩ (later n hn)]; frame_out
    rw [pay_dg (blk_dx2 m ρ h ⟨n + 1, hn⟩) (b11 m ρ h ⟨n + 1, hn⟩)]
    exact congrArg (fun z : ℝ => _ + (z : EReal)) (block_row (fun R => Cert.Head.dx2 d R l * xh (Cert.Head.r d R) l) (n + 1) hn)

include h in
/-- The offset's gradient after the last point. -/
theorem acc_db (l : Fin 1024) : ((outsAt1 (V3 m ρ) c 7 (by decide)).2.2.2.2.2.2 (ix2 0 l) : EReal) = (Cert.Head.db d l : EReal) := by
  refine running 7 1024 rfl (fun R => Cert.Head.dx2 d R l) (fun n hn => ((outsAt1 (V3 m ρ) c n hn).2.2.2.2.2.2 (ix2 0 l) : EReal)) ?_ ?_
  · rw [outsAt1_A (V3 m ρ) c ⟨0, by decide⟩ rfl]; frame_out
    rw [pay_db (blk_dx2 m ρ h ⟨0, by decide⟩), (zero_row l).2.2, zero_add]
    exact congrArg Real.toEReal (block_row (fun R => Cert.Head.dx2 d R l) 0 (by decide))
  · intro n hn
    rw [outsAt1_B (V3 m ρ) c ⟨n + 1, hn⟩ (later n hn)]; frame_out
    rw [pay_db (blk_dx2 m ρ h ⟨n + 1, hn⟩)]
    exact congrArg (fun z : ℝ => _ + (z : EReal)) (block_row (fun R => Cert.Head.dx2 d R l) (n + 1) hn)

/-! ## The arrays after the run -/

include h in
/-- The residual's gradient. -/
theorem arr_dr : (dat1 (V3 m ρ) c).arrAt 9 cfg1.N = fun i : S8192x1024.Idx => (Cert.Head.dr d (i 0) (i 1) : EReal) := by
  refine (dat1 (V3 m ρ) c).arrAt_eq_of_covers 9 _ (by decide +kernel) fun t hf y => ?_
  have e0 : (win1_9.blk t).view.emb y 0 = row t.val t.isLt (y 0) := by
    refine Fin.ext ?_
    have h0 : win1_9.index t 0 = t.val := congrFun (idx1 t).2.2.1 0
    blk_simp
    rw [h0]; rfl
  have e1 : (win1_9.blk t).view.emb y 1 = y 1 := by
    refine Fin.ext ?_
    have h1 : win1_9.index t 1 = 0 := congrFun (idx1 t).2.2.1 1
    blk_simp
    omega
  beta_reduce
  rw [after1_9, e0, e1]
  exact (congrArg _ (eq_ix2 y)).trans (out_dr m ρ h t (y 0) (y 1))
include h in
/-- The gradient of the embedding's product. -/
theorem arr_de : (dat1 (V3 m ρ) c).arrAt 10 cfg1.N = fun i : S8192x1024.Idx => (Cert.Head.de d (i 0) (i 1) : EReal) := by
  refine (dat1 (V3 m ρ) c).arrAt_eq_of_covers 10 _ (by decide +kernel) fun t hf y => ?_
  have e0 : (win1_10.blk t).view.emb y 0 = row t.val t.isLt (y 0) := by
    refine Fin.ext ?_
    have h0 : win1_10.index t 0 = t.val := congrFun (idx1 t).2.2.2.1 0
    blk_simp
    rw [h0]; rfl
  have e1 : (win1_10.blk t).view.emb y 1 = y 1 := by
    refine Fin.ext ?_
    have h1 : win1_10.index t 1 = 0 := congrFun (idx1 t).2.2.2.1 1
    blk_simp
    omega
  beta_reduce
  rw [after1_10, e0, e1]
  exact (congrArg _ (eq_ix2 y)).trans (out_de m ρ h t (y 0) (y 1))
include h in
/-- The gradient of the gate's input. -/
theorem arr_dz : (dat1 (V3 m ρ) c).arrAt 11 cfg1.N = fun i : S8192x1024.Idx => (Cert.Head.dz d (i 0) (i 1) : EReal) := by
  refine (dat1 (V3 m ρ) c).arrAt_eq_of_covers 11 _ (by decide +kernel) fun t hf y => ?_
  have e0 : (win1_11.blk t).view.emb y 0 = row t.val t.isLt (y 0) := by
    refine Fin.ext ?_
    have h0 : win1_11.index t 0 = t.val := congrFun (idx1 t).2.2.2.2 0
    blk_simp
    rw [h0]; rfl
  have e1 : (win1_11.blk t).view.emb y 1 = y 1 := by
    refine Fin.ext ?_
    have h1 : win1_11.index t 1 = 0 := congrFun (idx1 t).2.2.2.2 1
    blk_simp
    omega
  beta_reduce
  rw [after1_11, e0, e1]
  exact (congrArg _ (eq_ix2 y)).trans (out_dz m ρ h t (y 0) (y 1))
/-- An index into a single row. -/
theorem one_row (j : S1x1024.Idx) : j = ix2 0 (j 1) := by
  refine (eq_ix2 _).trans ?_
  congr 1
  exact Subsingleton.elim (α := Fin 1) _ _

/-- The index into a single element. -/
theorem one_one (j : S1x1.Idx) : j = ix2 0 0 := by
  refine (eq_ix2 _).trans ?_
  congr 1
  · exact Subsingleton.elim (α := Fin 1) _ _
  · exact Subsingleton.elim (α := Fin 1) _ _

include h in
/-- The loss. -/
theorem arr_loss : (dat1 (V3 m ρ) c).arrAt 12 cfg1.N = fun _ : S1x1.Idx => (Cert.Head.loss d : EReal) := by
  refine (dat1 (V3 m ρ) c).arrAt_eq_of_after_last 12 ⟨7, by decide⟩ (by decide +kernel) _ fun j => ?_
  refine (congrFun (after1_12 (V3 m ρ) c ⟨7, by decide⟩) _).trans ?_
  exact Eq.trans (congrArg _ (one_one _)) (acc_loss m ρ h)
include h in
/-- The gate bias's gradient. -/
theorem arr_dbg : (dat1 (V3 m ρ) c).arrAt 13 cfg1.N = fun i : S1x1024.Idx => (Cert.Head.dbg d (i 1) : EReal) := by
  refine (dat1 (V3 m ρ) c).arrAt_eq_of_after_last 13 ⟨7, by decide⟩ (by decide +kernel) _ fun j => ?_
  refine (congrFun (after1_13 (V3 m ρ) c ⟨7, by decide⟩) _).trans ?_
  refine Eq.trans (congrArg _ (one_row _)) ((acc_dbg m ρ h (j 1)).trans ?_)
  blk_simp
include h in
/-- The gain's gradient. -/
theorem arr_dg : (dat1 (V3 m ρ) c).arrAt 14 cfg1.N = fun i : S1x1024.Idx => (Cert.Head.dg d (i 1) : EReal) := by
  refine (dat1 (V3 m ρ) c).arrAt_eq_of_after_last 14 ⟨7, by decide⟩ (by decide +kernel) _ fun j => ?_
  refine (congrFun (after1_14 (V3 m ρ) c ⟨7, by decide⟩) _).trans ?_
  refine Eq.trans (congrArg _ (one_row _)) ((acc_dg m ρ h (j 1)).trans ?_)
  blk_simp
include h in
/-- The offset's gradient. -/
theorem arr_db : (dat1 (V3 m ρ) c).arrAt 15 cfg1.N = fun i : S1x1024.Idx => (Cert.Head.db d (i 1) : EReal) := by
  refine (dat1 (V3 m ρ) c).arrAt_eq_of_after_last 15 ⟨7, by decide⟩ (by decide +kernel) _ fun j => ?_
  refine (congrFun (after1_15 (V3 m ρ) c ⟨7, by decide⟩) _).trans ?_
  refine Eq.trans (congrArg _ (one_row _)) ((acc_db m ρ h (j 1)).trans ?_)
  blk_simp

end Cert.Kernel2Ideal.HeadVal
end
-- ==== Proof.Head.Reference.lean ====
/-
  What the reference leaves: jax's own derivative of the loss, read at one position over the reals.
-/
module

public import proofs.«01_k».proof.Proof.Gen.Reference2Ideal.Read
public import proofs.«01_k».proof.Proof.Head.Spec
public import Idealize.ShloMosaic.Lib.Pointwise

@[expose] public section
set_option maxRecDepth 16384
noncomputable section
namespace Cert.Reference2Ideal.HeadVal
open Cert.Reference2Ideal Cert.Reference2Ideal.Gen Cert.Reference2Ideal.Read Idealize.ShloMosaic Idealize.ShloMosaic.TcCoe Idealize.SL.Sem
open Cert.Real

/-- The arguments' contents are the reals of `d`. -/
structure Reads (d : Cert.Head.Data)
    (x0 : (⟨S8192x1024, .f32⟩ : BufTy).Contents (Elt Ideal)) (x1 : (⟨S8192x2816, .f32⟩ : BufTy).Contents (Elt Ideal))
    (x2 : (⟨S1x2816x1024, .f32⟩ : BufTy).Contents (Elt Ideal)) (x3 x4 : (⟨S1x1024, .f32⟩ : BufTy).Contents (Elt Ideal))
    (x5 : (⟨S8192x256, .f32⟩ : BufTy).Contents (Elt Ideal)) (x6 : (⟨S8192x1024, .f32⟩ : BufTy).Contents (Elt Ideal))
    (x7 : (⟨S1x1024x1024, .f32⟩ : BufTy).Contents (Elt Ideal)) (x8 : (⟨S1x1024, .f32⟩ : BufTy).Contents (Elt Ideal))
    (x9 : (⟨S1x256x1024, .f32⟩ : BufTy).Contents (Elt Ideal)) : Prop where
  h0 : ∀ R l, x0 (ix2 R l) = (d.X R l : EReal)
  h1 : ∀ R l, x1 (ix2 R l) = (d.A R l : EReal)
  h2 : ∀ k l, x2 (ix3 0 k l) = (d.D k l : EReal)
  h3 : ∀ l, x3 (ix2 0 l) = (d.g l : EReal)
  h4 : ∀ l, x4 (ix2 0 l) = (d.b l : EReal)
  h5 : ∀ R l, x5 (ix2 R l) = (d.p R l : EReal)
  h6 : ∀ R l, x6 (ix2 R l) = (d.y R l : EReal)
  h7 : ∀ k l, x7 (ix3 0 k l) = (d.W k l : EReal)
  h8 : ∀ l, x8 (ix2 0 l) = d.bp l
  h9 : ∀ k l, x9 (ix3 0 k l) = (d.Q k l : EReal)

variable {d : Cert.Head.Data}
  {x0 : (⟨S8192x1024, .f32⟩ : BufTy).Contents (Elt Ideal)} {x1 : (⟨S8192x2816, .f32⟩ : BufTy).Contents (Elt Ideal)}
  {x2 : (⟨S1x2816x1024, .f32⟩ : BufTy).Contents (Elt Ideal)} {x3 x4 : (⟨S1x1024, .f32⟩ : BufTy).Contents (Elt Ideal)}
  {x5 : (⟨S8192x256, .f32⟩ : BufTy).Contents (Elt Ideal)} {x6 : (⟨S8192x1024, .f32⟩ : BufTy).Contents (Elt Ideal)}
  {x7 : (⟨S1x1024x1024, .f32⟩ : BufTy).Contents (Elt Ideal)} {x8 : (⟨S1x1024, .f32⟩ : BufTy).Contents (Elt Ideal)}
  {x9 : (⟨S1x256x1024, .f32⟩ : BufTy).Contents (Elt Ideal)}
  (h : Reads d x0 x1 x2 x3 x4 x5 x6 x7 x8 x9) (R : Fin 8192) (l : Fin 1024)

include h in
/-- The residual row. -/
theorem rd_r : val_main_v5 x0 x1 x2 (ix2 R l) = (Cert.Head.r d R l : EReal) := by
  pointwise [val_main_v5, val_main_v4, val_main_v3, val_main_cst_0, val_main_v1, val_main_v0]
  simp only [h.h0, h.h1, h.h2, bits_alpha, ← EReal.coe_mul, coe_sum, ← EReal.coe_add]
  rfl

include h in
/-- The centred row, as the normalised row reads it. -/
theorem rd_ctr : val_main_v22 x0 x1 x2 (ix2 R l) = (ctr (Cert.Head.r d R) l : EReal) := by
  pointwise [val_main_v22, val_main_v21, val_main_v11, val_main_v9, val_main_v8, val_main_v10, val_main_cst_1, val_main_cst_2]
  simp only [rd_r h, bits_1024, coe_sum, div_1024, ← EReal.coe_sub]
  rfl

include h in
/-- The centred row, as the variance reads it. -/
theorem rd_ctr' : val_main_v13 x0 x1 x2 (ix2 R l) = (ctr (Cert.Head.r d R) l : EReal) := by
  rw [← rd_ctr h R l]
  pointwise [val_main_v22, val_main_v21, val_main_v13, val_main_v12]

include h in
/-- The variance with its offset. -/
theorem rd_vr : val_main_v24 x0 x1 x2 (ix2 R 0) = (vr (Cert.Head.r d R) : EReal) := by
  pointwise [val_main_v24, val_main_v20, val_main_v18, val_main_v17, val_main_v19, val_main_v14, val_main_v23, val_main_cst_4, val_main_cst_5, val_main_cst_6]
  simp only [rd_ctr' h, bits_1024, bits_eps, ← EReal.coe_mul, coe_sum, div_1024, ← EReal.coe_add]
  rfl

include h in
/-- The reciprocal root. -/
theorem rd_rs : val_main_v25 x0 x1 x2 (ix2 R 0) = (rs (Cert.Head.r d R) : EReal) := by
  pointwise [val_main_v25]
  rw [rd_vr h, rsqrt_pos (vr_pos _)]
  rfl

include h in
/-- The normalised row. -/
theorem rd_xh : val_main_v30 x0 x1 x2 (ix2 R l) = (xh (Cert.Head.r d R) l : EReal) := by
  pointwise [val_main_v30, val_main_v29]
  rw [rd_ctr h, rd_rs h, ← EReal.coe_mul]
  rfl

include h in
/-- The LayerNorm's row. -/
theorem rd_x2 : val_main_v36 x0 x1 x2 x3 x4 (ix2 R l) = (Cert.Head.x2 d R l : EReal) := by
  pointwise [val_main_v36, val_main_v33, val_main_v32, val_main_v31, val_main_v6, val_main_v35, val_main_v34, val_main_v7]
  rw [rd_xh h, h.h3, h.h4, ← EReal.coe_mul, ← EReal.coe_add]
  rfl

include h in
/-- The gate. -/
theorem rd_sg : val_main_v49 x0 x1 x2 x3 x4 x7 x8 (ix2 R l) = (Cert.Head.sg d R l : EReal) := by
  pointwise [val_main_v49, val_main_v48, val_main_v47, val_main_v46, val_main_v45, val_main_v44, val_main_v43, val_main_v42, val_main_v41, val_main_v40, val_main_v39, val_main_v38, val_main_v37, val_main_v2, val_main_cst, val_main_cst_8, val_main_cst_9]
  simp only [rd_x2 h, h.h7, h.h8, ← EReal.coe_mul, coe_sum, add_zero, sig_eq]
  rfl

include h in
/-- The embedding's product. -/
theorem rd_e : val_main_v55 x5 x9 (ix2 R l) = (Cert.Head.e d R l : EReal) := by
  pointwise [val_main_v55, val_main_v54, val_main_v53, val_main_v2, val_main_cst]
  simp only [h.h5, h.h9, ← EReal.coe_mul, coe_sum, add_zero]
  rfl

include h in
/-- The result less the target. -/
theorem rd_diff : val_main_v58 x0 x1 x2 x3 x4 x5 x6 x7 x8 x9 (ix2 R l) = (Cert.Head.diff d R l : EReal) := by
  pointwise [val_main_v58, val_main_v57, val_main_v56]
  rw [rd_x2 h, rd_sg h, rd_e h, h.h6, ← EReal.coe_mul, ← EReal.coe_add, ← EReal.coe_sub]
  rfl

include h in
/-- The result's gradient. -/
theorem rd_dy : val_main_v72 x0 x1 x2 x3 x4 x5 x6 x7 x8 x9 (ix2 R l) = (Cert.Head.dy d R l : EReal) := by
  pointwise [val_main_v72, val_main_v71, val_main_v70, val_main_v69, val_main_v68, val_main_v67, val_main_v61, val_main_v60, val_main_cst_11, val_main_cst_16, val_main_cst_17, val_main_cst_18]
  simp only [rd_diff h, bits_half, bits_1024, bits_two, mul_one, div_1024, ← EReal.coe_mul]
  congr 1
  unfold Cert.Head.dy
  ring

include h in
/-- The gradient of the embedding's product. -/
theorem rd_de : val_main_v117 x0 x1 x2 x3 x4 x5 x6 x7 x8 x9 (ix2 R l) = (Cert.Head.de d R l : EReal) := by
  pointwise [val_main_v117, val_main_v73]
  rw [rd_sg h, rd_dy h, ← EReal.coe_mul, mul_comm]
  rfl

include h in
/-- The gradient of the gate's input. -/
theorem rd_dz' : val_main_v75 x0 x1 x2 x3 x4 x5 x6 x7 x8 x9 (ix2 R l) = (Cert.Head.dz d R l : EReal) := by
  pointwise [val_main_v75, val_main_v74, val_main_v52, val_main_v51, val_main_v50, val_main_cst_10]
  simp only [rd_dy h, rd_e h, rd_sg h, ← EReal.coe_one, ← EReal.coe_sub, ← EReal.coe_mul]
  rfl

include h in
theorem rd_dz : val_main_v118 x0 x1 x2 x3 x4 x5 x6 x7 x8 x9 (ix2 R l) = (Cert.Head.dz d R l : EReal) := by
  pointwise [val_main_v118]
  exact rd_dz' h R l

include h in
/-- The loss. -/
theorem rd_loss : val_main_v119 x0 x1 x2 x3 x4 x5 x6 x7 x8 x9 (ix2 0 0) = (Cert.Head.loss d : EReal) := by
  pointwise [val_main_v119, val_main_v66, val_main_v65, val_main_v64, val_main_v63, val_main_v62, val_main_v59, val_main_cst_12, val_main_cst_13, val_main_cst_14, val_main_cst_15]
  simp only [rd_diff h, bits_half, bits_1024, ← EReal.coe_mul, coe_sum, div_1024]
  rfl

include h in
/-- The gradient of the gate's bias. -/
theorem rd_dbg : val_main_v79 x0 x1 x2 x3 x4 x5 x6 x7 x8 x9 (ix2 0 l) = (Cert.Head.dbg d l : EReal) := by
  pointwise [val_main_v79, val_main_v78, val_main_v77, val_main_v76, val_main_cst_19, val_main_cst_20]
  simp only [rd_dz' h, coe_sum, Finset.univ_unique, Finset.sum_singleton]
  rfl

include h in
/-- The gradient of the LayerNorm's row. -/
theorem rd_dx2 : val_main_v81 x0 x1 x2 x3 x4 x5 x6 x7 x8 x9 (ix2 R l) = (Cert.Head.dx2 d R l : EReal) := by
  pointwise [val_main_v81, val_main_v80, val_main_v37]
  simp only [rd_dy h, rd_dz' h, h.h7, ← EReal.coe_mul, coe_sum, ← EReal.coe_add]
  rfl

include h in
/-- The gradient of the LayerNorm's offset. -/
theorem rd_db : val_main_v115 x0 x1 x2 x3 x4 x5 x6 x7 x8 x9 (ix2 0 l) = (Cert.Head.db d l : EReal) := by
  pointwise [val_main_v115, val_main_v84, val_main_v83, val_main_v82, val_main_cst_21, val_main_cst_22]
  simp only [rd_dx2 h, coe_sum, Finset.univ_unique, Finset.sum_singleton]
  rfl

include h in
/-- The gradient of the LayerNorm's gain. -/
theorem rd_dg : val_main_v116 x0 x1 x2 x3 x4 x5 x6 x7 x8 x9 (ix2 0 l) = (Cert.Head.dg d l : EReal) := by
  pointwise [val_main_v116, val_main_v90, val_main_v87, val_main_v86, val_main_v85, val_main_cst_23, val_main_cst_24]
  simp only [rd_xh h, rd_dx2 h, ← EReal.coe_mul, coe_sum, Finset.univ_unique, Finset.sum_singleton]
  congr 1
  exact Finset.sum_congr rfl fun R _ => mul_comm _ _

include h in
/-- The gradient of the LayerNorm's row, times the gain. -/
theorem rd_dxh : val_main_v89 x0 x1 x2 x3 x4 x5 x6 x7 x8 x9 (ix2 R l) = ((Cert.Head.dx2 d R l * d.g l : ℝ) : EReal) := by
  pointwise [val_main_v89, val_main_v88, val_main_v31, val_main_v6]
  rw [rd_dx2 h, h.h3, ← EReal.coe_mul]

include h in
/-- The part that reaches the row through the normalised row's factor. -/
theorem rd_direct : val_main_v95 x0 x1 x2 x3 x4 x5 x6 x7 x8 x9 (ix2 R l) = ((Cert.Head.dx2 d R l * d.g l * rs (Cert.Head.r d R) : ℝ) : EReal) := by
  pointwise [val_main_v95, val_main_v94]
  rw [rd_dxh h, rd_rs h, ← EReal.coe_mul]

include h in
/-- The part that reaches the row through the variance. -/
theorem rd_through : val_main_v104 x0 x1 x2 x3 x4 x5 x6 x7 x8 x9 (ix2 R l)
    = (((∑ j, ctr (Cert.Head.r d R) j * (Cert.Head.dx2 d R j * d.g j)) * (-1 / 2 * (rs (Cert.Head.r d R) / vr (Cert.Head.r d R))) / 1024
        * (2 * ctr (Cert.Head.r d R) l) : ℝ) : EReal) := by
  pointwise [val_main_v104, val_main_v103, val_main_v102, val_main_v101, val_main_v100, val_main_v96, val_main_v93, val_main_v92, val_main_v91,
    val_main_v28, val_main_v27, val_main_v26, val_main_v16, val_main_v15, val_main_cst_25, val_main_cst_27, val_main_cst_28, val_main_cst_7, val_main_cst_3]
  simp only [rd_dxh h, rd_ctr h, rd_ctr' h, rd_rs h, rd_vr h, div_coe _ (vr_pos _).ne', bits_neg_half, bits_two, bits_1024, ← EReal.coe_mul, coe_sum, div_1024,
    Finset.univ_unique, Finset.sum_singleton, Fin.default_eq_zero]

include h in
/-- The gradient of the residual row. -/
theorem rd_dr : val_main_v114 x0 x1 x2 x3 x4 x5 x6 x7 x8 x9 (ix2 R l) = (Cert.Head.dr d R l : EReal) := by
  pointwise [val_main_v114, val_main_v113, val_main_v112, val_main_v111, val_main_v110, val_main_v109, val_main_v108, val_main_v107, val_main_v106,
    val_main_v105, val_main_v99, val_main_v98, val_main_v97, val_main_cst_26, val_main_cst_29, val_main_cst_30, val_main_cst_31]
  simp only [rd_direct h, rd_through h, bits_1024, ← EReal.coe_neg, coe_sum, ← EReal.coe_add, div_1024, Finset.univ_unique, Finset.sum_singleton]
  exact congrArg _ (lnBwd_chain _ _ _ _)

end Cert.Reference2Ideal.HeadVal
end
-- ==== Proof.Real.Finite.lean ====
/-
  A precondition's test read: where "every absolute value is below infinity" holds, every element is a real number.
-/
module

public import Idealize.ShloMosaic.Lib.ReduceAll
public import Idealize.ShloMosaic.Lib.Pointwise
public import Idealize.ShloMosaic.Lib.StableHlo
public import Idealize.ShloMosaic.PureOps

@[expose] public section
noncomputable section
namespace Cert.Real
open Idealize.ShloMosaic

/-- Both sides of a true conjunction are true. -/
theorem and_split : ∀ a b : BitVec 1, a &&& b = 1#1 → a = 1#1 ∧ b = 1#1 := by decide

/-- An array that passes the test holds real numbers. -/
theorem all_finite {S : Shape} {axes : List (Fin S.rank)} (v : FVec Ideal S .f32) (hb : (⟨0, ![]⟩ : Shape).BroadcastsInDim S ![])
    (hr : S.ReducesTo axes ⟨0, ![]⟩) (hp : 0 < (⟨0, ![]⟩ : Shape).numel)
    (h : Host.reduce IntOp.andi (cmpf .olt (Host.absf v) (broadcastInDim S ![] hb (constant (F := Ideal) ⟨0, ![]⟩ .f32 0x7F800000#32)))
      (constantI ⟨0, ![]⟩ 1 1#1) hr hp (fun a => a.elim0) = 1#1) (i : S.Idx) : (v i : EReal) = ((v i : EReal).toReal : EReal) := by
  have hs : Subsingleton (⟨0, ![]⟩ : Shape).Idx := ⟨fun a b => funext fun i => i.elim0⟩
  have h2 := Host.reduce_andi_all _ _ _ _ _ h i
  pointwise at h2
  have h3 : max (v i : EReal) (-v i) < Ideal.ofBits FTy.f32 0x7F800000#32 := by
    by_contra hn
    rw [show (FloatOps.absf (v i) : Ideal .f32) = max (v i : EReal) (-v i) from rfl, decide_eq_false hn] at h2
    exact absurd h2 (by decide)
  refine (EReal.coe_toReal ?_ ?_).symm
  · intro e
    rw [e, max_eq_left le_top] at h3
    exact not_top_lt h3
  · intro e
    rw [e, EReal.neg_bot, max_eq_right le_top] at h3
    exact not_top_lt h3

end Cert.Real
end
-- ==== Proof.Head.Pre.lean ====
/-
  The precondition read: every argument but the gate's bias holds real numbers.
-/
module

public import proofs.«01_k».proof.Pre_finite_head
public import proofs.«01_k».proof.Proof.Real.Finite

@[expose] public section
noncomputable section
namespace Cert.Pre_finite_head
open Idealize.ShloMosaic Cert.Real

/-- The precondition's own side conditions. -/
instance facts : Facts := by constructor <;> decide

/-- Where the precondition holds the nine arrays hold real numbers. -/
theorem finite (x0 : FVec Ideal S8192x1024 .f32) (x1 : FVec Ideal S8192x2816 .f32) (x2 : FVec Ideal S1x2816x1024 .f32) (x3 x4 x8 : FVec Ideal S1x1024 .f32)
    (x5 : FVec Ideal S8192x256 .f32) (x6 : FVec Ideal S8192x1024 .f32) (x7 : FVec Ideal S1x1024x1024 .f32) (x9 : FVec Ideal S1x256x1024 .f32)
    (h : fn (F := Ideal) x0 x1 x2 x3 x4 x5 x6 x7 x8 x9 = fun _ => 1#1) :
    (∀ i, (x0 i : EReal) = ((x0 i : EReal).toReal : EReal)) ∧ (∀ i, (x1 i : EReal) = ((x1 i : EReal).toReal : EReal))
      ∧ (∀ i, (x2 i : EReal) = ((x2 i : EReal).toReal : EReal)) ∧ (∀ i, (x3 i : EReal) = ((x3 i : EReal).toReal : EReal))
      ∧ (∀ i, (x4 i : EReal) = ((x4 i : EReal).toReal : EReal)) ∧ (∀ i, (x5 i : EReal) = ((x5 i : EReal).toReal : EReal))
      ∧ (∀ i, (x6 i : EReal) = ((x6 i : EReal).toReal : EReal)) ∧ (∀ i, (x7 i : EReal) = ((x7 i : EReal).toReal : EReal))
      ∧ ∀ i, (x9 i : EReal) = ((x9 i : EReal).toReal : EReal) := by
  have h0 := congrFun h (fun a => a.elim0)
  unfold fn fn_part1 fn_part2 at h0
  obtain ⟨h0, h9⟩ := and_split _ _ h0
  obtain ⟨h0, h7⟩ := and_split _ _ h0
  obtain ⟨h0, h6⟩ := and_split _ _ h0
  obtain ⟨h0, h5⟩ := and_split _ _ h0
  obtain ⟨h0, h4⟩ := and_split _ _ h0
  obtain ⟨h0, h3⟩ := and_split _ _ h0
  obtain ⟨h0, h2⟩ := and_split _ _ h0
  obtain ⟨h0, h1⟩ := and_split _ _ h0
  exact ⟨all_finite _ _ _ _ h0, all_finite _ _ _ _ h1, all_finite _ _ _ _ h2, all_finite _ _ _ _ h3, all_finite _ _ _ _ h4, all_finite _ _ _ _ h5,
    all_finite _ _ _ _ h6, all_finite _ _ _ _ h7, all_finite _ _ _ _ h9⟩

end Cert.Pre_finite_head
end
-- ==== Proof.Head.Claim.lean ====
/-
  The head's claims: the two programs' runs, and the equality of their seven results.
-/
module

public import proofs.«01_k».proof.Defs
public import proofs.«01_k».proof.Proof.Head.Run
public import proofs.«01_k».proof.Proof.Head.Backward
public import proofs.«01_k».proof.Proof.Head.Reference
public import proofs.«01_k».proof.Proof.Head.Pre
public import proofs.«01_k».proof.Proof.Gen.Reference2Ideal.Run
public import Idealize.ShloMosaic.Lib.Claim

@[expose] public section
set_option maxRecDepth 16384
noncomputable section
namespace Cert.Head
open Idealize.ShloMosaic Idealize.ShloMosaic.TcCoe Idealize.SL.Sem
open Cert.Kernel2Ideal Cert.Kernel2Ideal.Gen Cert.Kernel2Ideal.HeadVal
open Cert.Reference2Ideal.HeadVal (Reads rd_dr rd_de rd_dz rd_loss rd_dbg rd_dg rd_db)
open Cert.Reference2Ideal.Read (val_main_v114 val_main_v117 val_main_v118 val_main_v119 val_main_v79 val_main_v116 val_main_v115
  val_main_v114_eq val_main_v117_eq val_main_v118_eq val_main_v119_eq val_main_v79_eq val_main_v116_eq val_main_v115_eq)

/-- The reference runs, leaves its arguments as they were and every counter at zero. -/
theorem frame_reference : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

variable (m : (ℓ : Loc nD τ sig) → Buf (Elt Ideal) ℓ) (ρ : Dev nD → PrngReg)

/-- The arguments as reals. -/
def data (c : Dev nD) : Data where
  X R l := (a0 m c (ix2 R l)).toReal
  A R l := (a1 m c (ix2 R l)).toReal
  D k l := (a2 m c (ix3 0 k l)).toReal
  g l := (a3 m c (ix2 0 l)).toReal
  b l := (a4 m c (ix2 0 l)).toReal
  p R k := (a5 m c (ix2 R k)).toReal
  y R l := (a6 m c (ix2 R l)).toReal
  W k l := (a7 m c (ix3 0 k l)).toReal
  bp l := a8 m c (ix2 0 l)
  Q k l := (a9 m c (ix3 0 k l)).toReal

/-- Where the precondition holds they are the arguments. -/
theorem holds (hpre : Cert.Pre_Kernel2Ideal_finite_head m) (c : Dev nD) : Holds m (data m c) c := by
  obtain ⟨h0, h1, h2, h3, h4, h5, h6, h7, h9⟩ := Cert.Pre_finite_head.finite _ _ _ _ _ _ _ _ _ _ (hpre c)
  exact ⟨fun R l => h0 _, fun R l => h1 _, fun k l => h2 _, fun l => h3 _, fun l => h4 _, fun R l => h5 _, fun R l => h6 _, fun k l => h7 _,
    fun l => rfl, fun k l => h9 _⟩

/-- The kernel program's run with its results named. -/
theorem run_results : θ_run defs (onTc (τ := τ) (main (F := Ideal))) ⟨m, fun _ => 0, ρ⟩ fun r => ∀ c : Dev nD,
    r.2.mem ((c : Thread nD τ).loc main_v8_0) = (dat1 (V3 m ρ) c).arrAt 9 cfg1.N
    ∧ r.2.mem ((c : Thread nD τ).loc main_v8_1) = (dat1 (V3 m ρ) c).arrAt 10 cfg1.N
    ∧ r.2.mem ((c : Thread nD τ).loc main_v8_2) = (dat1 (V3 m ρ) c).arrAt 11 cfg1.N
    ∧ r.2.mem ((c : Thread nD τ).loc main_v8_3) = (dat1 (V3 m ρ) c).arrAt 12 cfg1.N
    ∧ r.2.mem ((c : Thread nD τ).loc main_v8_4) = (dat1 (V3 m ρ) c).arrAt 13 cfg1.N
    ∧ r.2.mem ((c : Thread nD τ).loc main_v8_5) = (dat1 (V3 m ρ) c).arrAt 14 cfg1.N
    ∧ r.2.mem ((c : Thread nD τ).loc main_v8_6) = (dat1 (V3 m ρ) c).arrAt 15 cfg1.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) :=
  (θ_run defs _ _).mono (fun r h c =>
    have out : ∀ w : Fin cfg1.W, ∀ hw : Proc.devRef .tc (Pipeline.arrRef spec1 w) ∈ Pipeline.ucRefs τ sig,
        r.2.mem (((c : Thread nD τ)).1, Proc.devRef .tc (Pipeline.arrRef spec1 w)) = (dat1 (V3 m ρ) c).arrAt w cfg1.N :=
      fun w hw => (h c _ hw).trans (W4_arr m ρ c w)
    have arg : ∀ a ∈ argRefs, ∀ hw : Proc.devRef .tc a ∈ Pipeline.ucRefs τ sig, r.2.mem ((c : Thread nD τ).loc a) = m ((c : Thread nD τ).loc a) :=
      fun a ha hw => (h c _ hw).trans (W4_args m ρ c a ha)
    ⟨out 9 (mem_uc _ (by decide)), out 10 (mem_uc _ (by decide)), out 11 (mem_uc _ (by decide)), out 12 (mem_uc _ (by decide)),
      out 13 (mem_uc _ (by decide)), out 14 (mem_uc _ (by decide)), out 15 (mem_uc _ (by decide)),
      arg main_arg0 (by decide) (mem_uc _ (by decide)), arg main_arg1 (by decide) (mem_uc _ (by decide)),
      arg main_arg2 (by decide) (mem_uc _ (by decide)), arg main_arg3 (by decide) (mem_uc _ (by decide)),
      arg main_arg4 (by decide) (mem_uc _ (by decide)), arg main_arg5 (by decide) (mem_uc _ (by decide)),
      arg main_arg6 (by decide) (mem_uc _ (by decide)), arg main_arg7 (by decide) (mem_uc _ (by decide)),
      arg main_arg8 (by decide) (mem_uc _ (by decide)), arg main_arg9 (by decide) (mem_uc _ (by decide))⟩) (run_bufs m ρ)

/-- A function of two indices is read at its pairs. -/
theorem ext2 {a b : ℕ} {f : (⟨2, ![a, b]⟩ : Shape).Idx → EReal} {g : Fin a → Fin b → EReal} (h : ∀ i j, f (ix2 i j) = g i j) : f = fun i => g (i 0) (i 1) := by
  funext i
  exact (congrArg f (eq_ix2 i)).trans (h (i 0) (i 1))

/-- The kernel and jax's derivative of the forward lines leave the same seven arrays, where the arguments but the gate's bias are finite. -/
theorem algebraic : Cert.algebraic_Kernel2Ideal_Reference2Ideal_pre_finite_head := by
  intro m g m' g' hpre hargs
  refine ⟨fun c => (dat1 (V3 m g) c).arrAt 9 cfg1.N, fun c => (dat1 (V3 m g) c).arrAt 10 cfg1.N, fun c => (dat1 (V3 m g) c).arrAt 11 cfg1.N,
    fun c => (dat1 (V3 m g) c).arrAt 12 cfg1.N, fun c => (dat1 (V3 m g) c).arrAt 13 cfg1.N, fun c => (dat1 (V3 m g) c).arrAt 14 cfg1.N,
    fun c => (dat1 (V3 m g) c).arrAt 15 cfg1.N, run_results m g, ?_⟩
  refine (θ_run Cert.Reference2Ideal.defs _ _).mono (fun r h c => ?_) (Cert.Reference2Ideal.Value.run (F := Ideal) m' g')
  obtain ⟨e0, e1, e2, e3, e4, e5, e6, e7, e8, e9⟩ := hargs c
  obtain ⟨h0, h1, h2, h3, h4, h5, h6, hk⟩ := h c
  have hh := holds m hpre c
  have hr : Reads (data m c) (m' (c.tc.loc Cert.Reference2Ideal.main_arg0)) (m' (c.tc.loc Cert.Reference2Ideal.main_arg1))
      (m' (c.tc.loc Cert.Reference2Ideal.main_arg2)) (m' (c.tc.loc Cert.Reference2Ideal.main_arg3)) (m' (c.tc.loc Cert.Reference2Ideal.main_arg4))
      (m' (c.tc.loc Cert.Reference2Ideal.main_arg5)) (m' (c.tc.loc Cert.Reference2Ideal.main_arg6)) (m' (c.tc.loc Cert.Reference2Ideal.main_arg7))
      (m' (c.tc.loc Cert.Reference2Ideal.main_arg8)) (m' (c.tc.loc Cert.Reference2Ideal.main_arg9)) :=
    ⟨fun R l => (congrFun e0 _).trans (hh.h0 R l), fun R l => (congrFun e1 _).trans (hh.h1 R l), fun k l => (congrFun e2 _).trans (hh.h2 k l),
      fun l => (congrFun e3 _).trans (hh.h3 l), fun l => (congrFun e4 _).trans (hh.h4 l), fun R l => (congrFun e5 _).trans (hh.h5 R l),
      fun R l => (congrFun e6 _).trans (hh.h6 R l), fun k l => (congrFun e7 _).trans (hh.h7 k l), fun l => (congrFun e8 _).trans (hh.h8 l),
      fun k l => (congrFun e9 _).trans (hh.h9 k l)⟩
  refine ⟨h0.trans ?_, h1.trans ?_, h2.trans ?_, h3.trans ?_, h4.trans ?_, h5.trans ?_, h6.trans ?_, hk⟩
  · rw [val_main_v114_eq]
    exact (ext2 fun R l => rd_dr hr R l).trans (arr_dr m g hh).symm
  · rw [val_main_v117_eq]
    exact (ext2 fun R l => rd_de hr R l).trans (arr_de m g hh).symm
  · rw [val_main_v118_eq]
    exact (ext2 fun R l => rd_dz hr R l).trans (arr_dz m g hh).symm
  · rw [val_main_v119_eq]
    exact (funext fun i => (congrArg _ (one_one i)).trans (rd_loss hr)).trans (arr_loss m g hh).symm
  · rw [val_main_v79_eq]
    exact (funext fun i => (congrArg _ (one_row i)).trans (rd_dbg hr (i 1))).trans (arr_dbg m g hh).symm
  · rw [val_main_v116_eq]
    exact (funext fun i => (congrArg _ (one_row i)).trans (rd_dg hr (i 1))).trans (arr_dg m g hh).symm
  · rw [val_main_v115_eq]
    exact (funext fun i => (congrArg _ (one_row i)).trans (rd_db hr (i 1))).trans (arr_db m g hh).symm

end Cert.Head
end
-- ==== Proof.Ffn.Run.lean ====
/-
  The kernel program's run: every buffer that outlives the three calls ends at the contents named for the last boundary.
-/
module

public import proofs.«01_k».proof.Proof.Gen.Kernel3Ideal.Frame

@[expose] public section
noncomputable section
namespace Cert.Kernel3Ideal.FfnVal
open Cert.Kernel3Ideal Cert.Kernel3Ideal.Gen Idealize.ShloMosaic Idealize.ShloMosaic.TcCoe Idealize.SL Idealize.SL.Sem
open Idealize.ShloMosaic.Tactic Idealize.SL.RA Idealize.SL.BI
open scoped Idealize.SL.BI
open Idealize.SL.BI.BIBase Idealize.SL.BI.Laws Idealize.SL.ProofMode Idealize.ShloMosaic.Rounds
open Idealize.ShloMosaic.Pipeline (Dat Cfg Window BodyObligation cellOf)
variable {F : FTy → Type} [FloatOps F] (m : (ℓ : Loc nD τ sig) → Buf (Elt F) ℓ) (ρ : Dev nD → PrngReg)

set_option backward.isDefEq.respectTransparency.types false in
/-- From any memory with zero counters the run ends, and every such buffer holds the last boundary's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.Kernel3Ideal.FfnVal
end
-- ==== Proof.Ffn.Spec.lean ====
/-
  The first LayerNorm and the SwiGLU over the reals, with the gradients of the second residual's row pulled back through
  them: what the two programs of the pair compute.
-/
module

public import proofs.«01_k».proof.Proof.Real.Norm

@[expose] public section
noncomputable section
namespace Cert.Ffn
open Idealize.ShloMosaic Cert.Real

/-- The arguments as reals. -/
structure Data where
  O : Fin 8192 → Fin 1024 → ℝ
  X : Fin 8192 → Fin 1024 → ℝ
  Wo : Fin 1024 → Fin 1024 → ℝ
  g : Fin 1024 → ℝ
  b : Fin 1024 → ℝ
  Wg : Fin 1024 → Fin 2816 → ℝ
  Wu : Fin 1024 → Fin 2816 → ℝ
  Wd : Fin 2816 → Fin 1024 → ℝ
  C : Fin 8192 → Fin 1024 → ℝ

variable (d : Data) (R : Fin 8192)

/-- The first residual's row. -/
def r (l : Fin 1024) : ℝ := alpha * d.X R l + ∑ k, d.O R k * d.Wo k l
/-- The LayerNorm's row. -/
def x1 (l : Fin 1024) : ℝ := xh (r d R) l * d.g l + d.b l
/-- The gate's product. -/
def hg (f : Fin 2816) : ℝ := ∑ l, x1 d R l * d.Wg l f
/-- The other product. -/
def up (f : Fin 2816) : ℝ := ∑ l, x1 d R l * d.Wu l f
/-- The gate's logistic function. -/
def sg (f : Fin 2816) : ℝ := sig (hg d R f : EReal)
/-- The gradient of the activation. -/
def da (f : Fin 2816) : ℝ := ∑ l, d.C R l * d.Wd f l
/-- The gradient of the gate's product. -/
def dhg (f : Fin 2816) : ℝ := da d R f * up d R f * (sg d R f * (1 + hg d R f * (1 - sg d R f)))
/-- The gradient of the other product. -/
def dup (f : Fin 2816) : ℝ := da d R f * (hg d R f * sg d R f)
/-- The gradient of the LayerNorm's row. -/
def dx1 (l : Fin 1024) : ℝ := alpha * d.C R l + ∑ f, dhg d R f * d.Wg l f + ∑ f, dup d R f * d.Wu l f
/-- The gradient of the residual's row. -/
def dr (l : Fin 1024) : ℝ := lnBwd d.g (r d R) (dx1 d R) l
/-- The gradient of the mixers' output. -/
def dog (k : Fin 1024) : ℝ := ∑ l, dr d R l * d.Wo k l
/-- The gradient of the LayerNorm's gain. -/
def dg (l : Fin 1024) : ℝ := ∑ R, dx1 d R l * xh (r d R) l
/-- The gradient of the LayerNorm's offset. -/
def db (l : Fin 1024) : ℝ := ∑ R, dx1 d R l

/-- A column of the first mixer. -/
def lo (k : Fin 512) : Fin 1024 := ⟨k.val, by omega⟩
/-- A column of the second mixer. -/
def hi (k : Fin 512) : Fin 1024 := ⟨512 + k.val, by omega⟩

/-- A sum over both mixers' columns. -/
theorem sum_halves (F : Fin 1024 → ℝ) : ∑ k, F k = ∑ k, F (lo k) + ∑ k, F (hi k) :=
  Fin.sum_univ_add (a := 512) (b := 512) F

end Cert.Ffn
end
-- ==== Proof.Ffn.Payload.lean ====
/-
  The kernel's arithmetic on one block of rows, read at one position over the reals; `f` says which row of the arrays a
  row of the block is.
-/
module

public import proofs.«01_k».proof.Proof.Gen.Kernel3Ideal.Frame
public import proofs.«01_k».proof.Proof.Ffn.Spec
public import Idealize.ShloMosaic.Lib.Pointwise

@[expose] public section
set_option maxRecDepth 16384
noncomputable section
namespace Cert.Kernel3Ideal.FfnVal
open Cert.Kernel3Ideal Cert.Kernel3Ideal.Gen Idealize.ShloMosaic Idealize.ShloMosaic.TcCoe Idealize.SL.Sem
open Cert.Real

variable {d : Cert.Ffn.Data}

/-! ## The first LayerNorm -/

section
variable {f : Fin 1024 → Fin 8192} {a b : S1024x512.Idx → EReal} {v w : S512x1024.Idx → EReal} {x : S1024x1024.Idx → EReal} {g o : S1x1024.Idx → EReal}
  (ha : ∀ r k, a (ix2 r k) = (d.O (f r) (Cert.Ffn.lo k) : EReal)) (hv : ∀ k l, v (ix2 k l) = (d.Wo (Cert.Ffn.lo k) l : EReal))
  (hb : ∀ r k, b (ix2 r k) = (d.O (f r) (Cert.Ffn.hi k) : EReal)) (hw : ∀ k l, w (ix2 k l) = (d.Wo (Cert.Ffn.hi k) l : EReal))
  (hx : ∀ r l, x (ix2 r l) = (d.X (f r) l : EReal)) (hg : ∀ l, g (ix2 0 l) = (d.g l : EReal)) (ho : ∀ l, o (ix2 0 l) = (d.b l : EReal))
  (r : Fin 1024) (l : Fin 1024)

/-- The row from its two halves. -/
theorem row_halves (R : Fin 8192) : alpha * d.X R l + (∑ k, d.O R (Cert.Ffn.lo k) * d.Wo (Cert.Ffn.lo k) l
    + ∑ k, d.O R (Cert.Ffn.hi k) * d.Wo (Cert.Ffn.hi k) l) = Cert.Ffn.r d R l := by
  unfold Cert.Ffn.r
  rw [Cert.Ffn.sum_halves]

include ha hv hb hw hx in
/-- The centred row. -/
theorem pay_ctr : (k0_pay3 (F := Ideal) a v b w x : S1024x1024.Idx → EReal) (ix2 r l) = (ctr (Cert.Ffn.r d (f r)) l : EReal) := by
  pointwise [k0_pay3]
  simp only [ha, hv, hb, hw, hx, bits_alpha, bits_1024, ← EReal.coe_mul, coe_sum, ← EReal.coe_add, row_halves, div_1024, ← EReal.coe_sub]
  rfl

include ha hv hb hw hx in
/-- The reciprocal root of the variance. -/
theorem pay_rs : (k0_pay4 (F := Ideal) a v b w x : S1024x1.Idx → EReal) (ix2 r 0) = (rs (Cert.Ffn.r d (f r)) : EReal) := by
  pointwise [k0_pay4]
  simp only [pay_ctr ha hv hb hw hx, bits_eps, bits_1024, ← EReal.coe_mul, coe_sum, ← EReal.coe_add, div_1024]
  exact rsqrt_pos (vr_pos _)

include ha hv hb hw hx in
/-- The normalised row. -/
theorem pay_xh : (k0_pay5 (F := Ideal) a v b w x : S1024x1024.Idx → EReal) (ix2 r l) = (xh (Cert.Ffn.r d (f r)) l : EReal) := by
  pointwise [k0_pay5]
  simp only [pay_ctr ha hv hb hw hx, pay_rs ha hv hb hw hx, ← EReal.coe_mul]
  rfl

include ha hv hb hw hx in
/-- The same as it is stored. -/
theorem pay_xh' : (k0_pay2 (F := Ideal) (k0_pay5 (F := Ideal) a v b w x) : S1024x1024.Idx → EReal) (ix2 r l) = (xh (Cert.Ffn.r d (f r)) l : EReal) := by
  pointwise [k0_pay2]
  exact pay_xh ha hv hb hw hx r l

include ha hv hb hw hx hg ho in
/-- The LayerNorm's row as it is stored. -/
theorem pay_x1 : (k0_pay1 (F := Ideal) (k0_pay6 (F := Ideal) a v b w x g o) : S1024x1024.Idx → EReal) (ix2 r l) = (Cert.Ffn.x1 d (f r) l : EReal) := by
  pointwise [k0_pay1, k0_pay6]
  simp only [pay_xh ha hv hb hw hx, hg, ho, ← EReal.coe_mul, ← EReal.coe_add]
  rfl
end

/-! ## The two products -/

section
variable {f : Fin 512 → Fin 8192} {x : S512x1024.Idx → EReal} {w v : S2816x1024.Idx → EReal} (hx : ∀ r l, x (ix2 r l) = (Cert.Ffn.x1 d (f r) l : EReal))
  (hw : ∀ k l, w (ix2 k l) = (d.Wg l k : EReal)) (hv : ∀ k l, v (ix2 k l) = (d.Wu l k : EReal)) (r : Fin 512) (k : Fin 2816)

include hx hw in
/-- The gate's product as it is stored. -/
theorem pay_hg : (k1_pay4 (F := Ideal) x w : S512x2816.Idx → EReal) (ix2 r k) = (Cert.Ffn.hg d (f r) k : EReal) := by
  pointwise [k1_pay4, k1_pay2, k1_pay1]
  simp only [hx, hw, ← EReal.coe_mul, coe_sum]
  rfl

include hx hv in
/-- The other product as it is stored. -/
theorem pay_up : (k1_pay5 (F := Ideal) x v : S512x2816.Idx → EReal) (ix2 r k) = (Cert.Ffn.up d (f r) k : EReal) := by
  pointwise [k1_pay5, k1_pay3, k1_pay1]
  simp only [hx, hv, ← EReal.coe_mul, coe_sum]
  rfl
end

/-! ## The backward call -/

section
variable {f : Fin 256 → Fin 8192} {C : S256x1024.Idx → EReal} {Wd Wg Wu : S2816x1024.Idx → EReal} {p q : S256x2816.Idx → EReal}
  (hC : ∀ r l, C (ix2 r l) = (d.C (f r) l : EReal)) (hWd : ∀ k l, Wd (ix2 k l) = (d.Wd k l : EReal))
  (hp : ∀ r k, p (ix2 r k) = (Cert.Ffn.hg d (f r) k : EReal)) (hq : ∀ r k, q (ix2 r k) = (Cert.Ffn.up d (f r) k : EReal))
  (r : Fin 256) (k : Fin 2816)

include hC hWd in
/-- The gradient of the activation. -/
theorem pay_da : (k2_pay7 (F := Ideal) C Wd : S256x2816.Idx → EReal) (ix2 r k) = (Cert.Ffn.da d (f r) k : EReal) := by
  pointwise [k2_pay7]
  simp only [hC, hWd, ← EReal.coe_mul, coe_sum]
  rfl

include hp in
/-- The gate's product again. -/
theorem pay_hg' : (k2_pay8 (F := Ideal) p : S256x2816.Idx → EReal) (ix2 r k) = (Cert.Ffn.hg d (f r) k : EReal) := by
  pointwise [k2_pay8]
  exact hp r k

include hp in
/-- The gate's logistic function. -/
theorem pay_sg : (k2_pay9 (F := Ideal) p : S256x2816.Idx → EReal) (ix2 r k) = (Cert.Ffn.sg d (f r) k : EReal) := by
  pointwise [k2_pay9]
  simp only [pay_hg' hp, zero_sub, sig_eq]
  rfl

include hC hWd hp hq in
/-- The gradient of the gate's product. -/
theorem pay_dhg : (k2_pay10 (F := Ideal) C Wd p q : S256x2816.Idx → EReal) (ix2 r k) = (Cert.Ffn.dhg d (f r) k : EReal) := by
  pointwise [k2_pay10]
  simp only [pay_da hC hWd, pay_hg' hp, pay_sg hp, hq, ← EReal.coe_one, ← EReal.coe_sub, ← EReal.coe_mul, ← EReal.coe_add]
  rfl

include hC hWd hp in
/-- The gradient of the other product. -/
theorem pay_dup : (k2_pay11 (F := Ideal) C Wd p : S256x2816.Idx → EReal) (ix2 r k) = (Cert.Ffn.dup d (f r) k : EReal) := by
  pointwise [k2_pay11]
  simp only [pay_da hC hWd, pay_hg' hp, pay_sg hp, ← EReal.coe_mul]
  rfl

include hC hWd hp hq in
/-- The two as they are stored. -/
theorem pay_dhg' : (k2_pay12 (F := Ideal) C Wd p q : S256x2816.Idx → EReal) (ix2 r k) = (Cert.Ffn.dhg d (f r) k : EReal) := by
  pointwise [k2_pay12]
  exact pay_dhg hC hWd hp hq r k
include hC hWd hp in
theorem pay_dup' : (k2_pay13 (F := Ideal) C Wd p : S256x2816.Idx → EReal) (ix2 r k) = (Cert.Ffn.dup d (f r) k : EReal) := by
  pointwise [k2_pay13]
  exact pay_dup hC hWd hp r k
end

section
variable {f : Fin 256 → Fin 8192} {C : S256x1024.Idx → EReal} {Wg Wu : S2816x1024.Idx → EReal} {p q : S256x2816.Idx → EReal}
  (hC : ∀ r l, C (ix2 r l) = (d.C (f r) l : EReal)) (hp : ∀ r k, p (ix2 r k) = (Cert.Ffn.dhg d (f r) k : EReal))
  (hq : ∀ r k, q (ix2 r k) = (Cert.Ffn.dup d (f r) k : EReal)) (hWg : ∀ k l, Wg (ix2 k l) = (d.Wg l k : EReal))
  (hWu : ∀ k l, Wu (ix2 k l) = (d.Wu l k : EReal)) (r : Fin 256) (l : Fin 1024)

include hC hp hq hWg hWu in
/-- The gradient of the LayerNorm's row. -/
theorem pay_dx1 : (k2_pay14 (F := Ideal) C p q (Ideal.ofBits .f32 0x3F9837F0#32) Wg Wu : S256x1024.Idx → EReal) (ix2 r l) = (Cert.Ffn.dx1 d (f r) l : EReal) := by
  pointwise [k2_pay14]
  simp only [hC, hp, hq, hWg, hWu, bits_alpha, ← EReal.coe_mul, coe_sum, ← EReal.coe_add]
  rfl

variable {h : S256x1024.Idx → EReal} (hh : ∀ r l, h (ix2 r l) = (xh (Cert.Ffn.r d (f r)) l : EReal))

include hC hp hq hWg hWu hh in
/-- The gain's gradient, summed onto what is there. -/
theorem pay_dg (o : S1x1024.Idx → EReal) : (k2_pay16 (F := Ideal) C p q (Ideal.ofBits .f32 0x3F9837F0#32) Wg Wu h o : S1x1024.Idx → EReal) (ix2 0 l)
    = o (ix2 0 l) + ((∑ r, Cert.Ffn.dx1 d (f r) l * xh (Cert.Ffn.r d (f r)) l : ℝ) : EReal) := by
  pointwise [k2_pay16, k2_pay15]
  simp only [pay_dx1 hC hp hq hWg hWu, hh, ← EReal.coe_mul, coe_sum]

include hC hp hq hWg hWu in
/-- The offset's gradient, summed onto what is there. -/
theorem pay_db (o : S1x1024.Idx → EReal) : (k2_pay17 (F := Ideal) C p q (Ideal.ofBits .f32 0x3F9837F0#32) Wg Wu o : S1x1024.Idx → EReal) (ix2 0 l)
    = o (ix2 0 l) + ((∑ r, Cert.Ffn.dx1 d (f r) l : ℝ) : EReal) := by
  pointwise [k2_pay17]
  simp only [pay_dx1 hC hp hq hWg hWu, coe_sum]

variable {g : S1x1024.Idx → EReal} {s : S256x1.Idx → EReal} (hg : ∀ l, g (ix2 0 l) = (d.g l : EReal))
  (hs : ∀ r, s (ix2 r 0) = (rs (Cert.Ffn.r d (f r)) : EReal))

include hC hp hq hWg hWu hg in
/-- The gradient of the LayerNorm's row, times the gain. -/
theorem pay_dxh : (k2_pay19 (F := Ideal) C p q (Ideal.ofBits .f32 0x3F9837F0#32) Wg Wu g : S256x1024.Idx → EReal) (ix2 r l)
    = ((Cert.Ffn.dx1 d (f r) l * d.g l : ℝ) : EReal) := by
  pointwise [k2_pay19]
  simp only [pay_dx1 hC hp hq hWg hWu, hg, ← EReal.coe_mul]

include hC hp hq hWg hWu hg in
/-- Its sum over the channels. -/
theorem pay_sum : (k2_pay20 (F := Ideal) C p q (Ideal.ofBits .f32 0x3F9837F0#32) Wg Wu g : S256x1.Idx → EReal) (ix2 r 0)
    = ((∑ j, Cert.Ffn.dx1 d (f r) j * d.g j : ℝ) : EReal) := by
  pointwise [k2_pay20]
  simp only [pay_dxh hC hp hq hWg hWu _ _ hg, coe_sum]
end

section
variable {f : Fin 256 → Fin 8192} {h u : S256x1024.Idx → EReal} {s z : S256x1.Idx → EReal} {Wo : S1024x1024.Idx → EReal}
  (hh : ∀ r l, h (ix2 r l) = (xh (Cert.Ffn.r d (f r)) l : EReal)) (hs : ∀ r, s (ix2 r 0) = (rs (Cert.Ffn.r d (f r)) : EReal))
  (hu : ∀ r l, u (ix2 r l) = ((Cert.Ffn.dx1 d (f r) l * d.g l : ℝ) : EReal)) (hz : ∀ r, z (ix2 r 0) = ((∑ j, Cert.Ffn.dx1 d (f r) j * d.g j : ℝ) : EReal))
  (hWo : ∀ k l, Wo (ix2 k l) = (d.Wo k l : EReal)) (r : Fin 256) (l : Fin 1024) (k : Fin 512)

include hh hs hu hz in
/-- The gradient of the residual's row. -/
theorem pay_dr : (k2_pay1 (F := Ideal) (k2_pay15 h) (k2_pay18 s) u z : S256x1024.Idx → EReal) (ix2 r l) = (Cert.Ffn.dr d (f r) l : EReal) := by
  pointwise [k2_pay1, k2_pay15, k2_pay18]
  simp only [hh, hs, hu, hz, bits_1024, ← EReal.coe_mul, coe_sum, div_1024, ← EReal.coe_sub]
  rfl

include hh hs hu hz hWo in
/-- The gradient of the mixers' output. -/
theorem pay_dog : (k2_pay2 (F := Ideal) (k2_pay15 h) (k2_pay18 s) u z Wo : S256x1024.Idx → EReal) (ix2 r l) = (Cert.Ffn.dog d (f r) l : EReal) := by
  pointwise [k2_pay2]
  simp only [pay_dr hh hs hu hz, hWo, ← EReal.coe_mul, coe_sum]
  rfl

include hh hs hu hz hWo in
/-- The first mixer's columns of it. -/
theorem pay_lo : (k2_pay3 (F := Ideal) (k2_pay15 h) (k2_pay18 s) u z Wo : S256x512.Idx → EReal) (ix2 r k) = (Cert.Ffn.dog d (f r) (Cert.Ffn.lo k) : EReal) := by
  rw [← pay_dog hh hs hu hz hWo]
  pointwise [k2_pay3]
  rfl

include hh hs hu hz hWo in
/-- The second mixer's. -/
theorem pay_hi : (k2_pay4 (F := Ideal) (k2_pay15 h) (k2_pay18 s) u z Wo : S256x512.Idx → EReal) (ix2 r k) = (Cert.Ffn.dog d (f r) (Cert.Ffn.hi k) : EReal) := by
  rw [← pay_dog hh hs hu hz hWo]
  pointwise [k2_pay4]
  rfl
end

/-- The sums start at zero. -/
theorem zero_row (l : Fin 1024) : (k2_pay5 (F := Ideal) : S1x1024.Idx → EReal) (ix2 0 l) = 0 ∧ (k2_pay6 (F := Ideal) : S1x1024.Idx → EReal) (ix2 0 l) = 0 := by
  refine ⟨?_, ?_⟩
  · pointwise [k2_pay5]
  · pointwise [k2_pay6]

end Cert.Kernel3Ideal.FfnVal
end
-- ==== Proof.Ffn.Forward.lean ====
/-
  What the two forward calls leave: the LayerNorm's row, the normalised row and the reciprocal root of the variance, block
  by block of 1024 rows, and the two products, block by block of 512 rows.
-/
module

public import proofs.«01_k».proof.Proof.Ffn.Payload
public import Idealize.ShloMosaic.Lib.Pipeline.ValueKit
public import Idealize.ShloMosaic.Lib.Pipeline.ReadBack
public import Idealize.ShloMosaic.Lib.Tactic.CleanTypes

@[expose] public section
set_option maxRecDepth 16384
noncomputable section
namespace Cert.Kernel3Ideal.FfnVal
open Cert.Kernel3Ideal Cert.Kernel3Ideal.Gen Idealize.ShloMosaic Idealize.ShloMosaic.TcCoe Idealize.SL.Sem
open Idealize.ShloMosaic.Pipeline (Dat)
open Cert.Real
variable (m : (ℓ : Loc nD τ sig) → Buf (Elt Ideal) ℓ) (ρ : Dev nD → PrngReg)

/-- The arguments, in order. -/
abbrev a0 (c : Dev nD) : S8192x1024.Idx → EReal := m ((c : Thread nD τ).loc main_arg0)
abbrev a1 (c : Dev nD) : S8192x1024.Idx → EReal := m ((c : Thread nD τ).loc main_arg1)
abbrev a2 (c : Dev nD) : S1x1024x1024.Idx → EReal := m ((c : Thread nD τ).loc main_arg2)
abbrev a3 (c : Dev nD) : S1x1024.Idx → EReal := m ((c : Thread nD τ).loc main_arg3)
abbrev a4 (c : Dev nD) : S1x1024.Idx → EReal := m ((c : Thread nD τ).loc main_arg4)
abbrev a5 (c : Dev nD) : S1x1024x2816.Idx → EReal := m ((c : Thread nD τ).loc main_arg5)
abbrev a6 (c : Dev nD) : S1x1024x2816.Idx → EReal := m ((c : Thread nD τ).loc main_arg6)
abbrev a7 (c : Dev nD) : S1x2816x1024.Idx → EReal := m ((c : Thread nD τ).loc main_arg7)
abbrev a8 (c : Dev nD) : S8192x1024.Idx → EReal := m ((c : Thread nD τ).loc main_arg8)

/-- The arguments' contents are the reals of `d`. -/
structure Holds (d : Cert.Ffn.Data) (c : Dev nD) : Prop where
  h0 : ∀ R l, a0 m c (ix2 R l) = (d.O R l : EReal)
  h1 : ∀ R l, a1 m c (ix2 R l) = (d.X R l : EReal)
  h2 : ∀ k l, a2 m c (ix3 0 k l) = (d.Wo k l : EReal)
  h3 : ∀ l, a3 m c (ix2 0 l) = (d.g l : EReal)
  h4 : ∀ l, a4 m c (ix2 0 l) = (d.b l : EReal)
  h5 : ∀ l f, a5 m c (ix3 0 l f) = (d.Wg l f : EReal)
  h6 : ∀ l f, a6 m c (ix3 0 l f) = (d.Wu l f : EReal)
  h7 : ∀ f l, a7 m c (ix3 0 f l) = (d.Wd f l : EReal)
  h8 : ∀ R l, a8 m c (ix2 R l) = (d.C R l : EReal)

/-! ## The arrays the host writes -/

/-- The first mixer's columns. -/
theorem V1_lo (c : Dev nD) (R : Fin 8192) (k : Fin 512) : (V1 m ρ c main_v11 : S8192x512.Idx → EReal) (ix2 R k) = a0 m c (ix2 R (Cert.Ffn.lo k)) := by
  unfold V1 W1
  simp only [hostOps0, List.flatten_cons, List.flatten_nil, List.append_nil, List.cons_append, List.nil_append]
  after_results
  clean_types
  pointwise
  rfl
/-- The second mixer's. -/
theorem V1_hi (c : Dev nD) (R : Fin 8192) (k : Fin 512) : (V1 m ρ c main_v12 : S8192x512.Idx → EReal) (ix2 R k) = a0 m c (ix2 R (Cert.Ffn.hi k)) := by
  unfold V1 W1
  simp only [hostOps0, List.flatten_cons, List.flatten_nil, List.append_nil, List.cons_append, List.nil_append]
  after_results
  clean_types
  pointwise
  rfl
/-- The mixers' output weights without the leading axis. -/
theorem V1_Wo (c : Dev nD) (k l : Fin 1024) : (V1 m ρ c main_v2 : S1024x1024.Idx → EReal) (ix2 k l) = a2 m c (ix3 0 k l) := by
  unfold V1 W1
  simp only [hostOps0, List.flatten_cons, List.flatten_nil, List.append_nil, List.cons_append, List.nil_append]
  after_results
  clean_types
  pointwise
/-- The gate's weights, transposed. -/
theorem V1_Wg (c : Dev nD) (f : Fin 2816) (l : Fin 1024) : (V1 m ρ c main_v5 : S2816x1024.Idx → EReal) (ix2 f l) = a5 m c (ix3 0 l f) := by
  unfold V1 W1
  simp only [hostOps0, List.flatten_cons, List.flatten_nil, List.append_nil, List.cons_append, List.nil_append]
  after_results
  clean_types
  pointwise
/-- The other weights, transposed. -/
theorem V1_Wu (c : Dev nD) (f : Fin 2816) (l : Fin 1024) : (V1 m ρ c main_v8 : S2816x1024.Idx → EReal) (ix2 f l) = a6 m c (ix3 0 l f) := by
  unfold V1 W1
  simp only [hostOps0, List.flatten_cons, List.flatten_nil, List.append_nil, List.cons_append, List.nil_append]
  after_results
  clean_types
  pointwise
/-- The down weights without the leading axis. -/
theorem V1_Wd (c : Dev nD) (f : Fin 2816) (l : Fin 1024) : (V1 m ρ c main_v10 : S2816x1024.Idx → EReal) (ix2 f l) = a7 m c (ix3 0 f l) := by
  unfold V1 W1
  simp only [hostOps0, List.flatten_cons, List.flatten_nil, List.append_nil, List.cons_append, List.nil_append]
  after_results
  clean_types
  pointwise

/-! ## The first LayerNorm -/

/-- Which block each window is on. -/
theorem idx0 : ∀ t : Fin cfg0.N, (win0_0.index t = ![t.val, 0] ∧ win0_1.index t = ![t.val, 0] ∧ win0_2.index t = ![t.val, 0])
    ∧ (win0_3.index t = ![0, 0] ∧ win0_4.index t = ![0, 0] ∧ win0_5.index t = ![0, 0]) ∧ win0_7.index t = ![t.val, 0] ∧ win0_8.index t = ![t.val, 0]
    ∧ win0_9.index t = ![t.val, 0] :=
  (by decide +kernel : ∀ t : Fin grid0.N, (win0_0.index t = ![t.val, 0] ∧ win0_1.index t = ![t.val, 0] ∧ win0_2.index t = ![t.val, 0])
    ∧ (win0_3.index t = ![0, 0] ∧ win0_4.index t = ![0, 0] ∧ win0_5.index t = ![0, 0]) ∧ win0_7.index t = ![t.val, 0] ∧ win0_8.index t = ![t.val, 0]
    ∧ win0_9.index t = ![t.val, 0])

/-- A block's row in the array. -/
def row0 (t : ℕ) (ht : t < 8) (r : Fin 1024) : Fin 8192 := ⟨t * 1024 + r.val, by omega⟩

variable {d : Cert.Ffn.Data} {c : Dev nD} (h : Holds m d c)

include h in
theorem b00 (t : Fin cfg0.N) (r : Fin 1024) (k : Fin 512) : (iblk0 (V1 m ρ) c 0 t : S1024x512.Idx → EReal) (ix2 r k)
    = (d.O (row0 t.val t.isLt r) (Cert.Ffn.lo k) : EReal) := by
  rw [← h.h0, ← V1_lo m ρ c]; unfold row0; blk_ext [iblk0, (idx0 t).1.1]
include h in
theorem b01 (t : Fin cfg0.N) (r : Fin 1024) (k : Fin 512) : (iblk0 (V1 m ρ) c 1 t : S1024x512.Idx → EReal) (ix2 r k)
    = (d.O (row0 t.val t.isLt r) (Cert.Ffn.hi k) : EReal) := by
  rw [← h.h0, ← V1_hi m ρ c]; unfold row0; blk_ext [iblk0, (idx0 t).1.2.1]
include h in
theorem b02 (t : Fin cfg0.N) (r l : Fin 1024) : (iblk0 (V1 m ρ) c 2 t : S1024x1024.Idx → EReal) (ix2 r l) = (d.X (row0 t.val t.isLt r) l : EReal) := by
  rw [← h.h1]; unfold row0 a1; rw [← W1_args m ρ c main_arg1 (by decide)]; blk_ext [iblk0, (idx0 t).1.2.2]
include h in
theorem b03 (t : Fin cfg0.N) (k l : Fin 1024) : (iblk0 (V1 m ρ) c 3 t : S1024x1024.Idx → EReal) (ix2 k l) = (d.Wo k l : EReal) := by
  rw [← h.h2, ← V1_Wo m ρ c]; blk_ext [iblk0, (idx0 t).2.1.1]
include h in
theorem b04 (t : Fin cfg0.N) (l : Fin 1024) : (iblk0 (V1 m ρ) c 4 t : S1x1024.Idx → EReal) (ix2 0 l) = (d.g l : EReal) := by
  rw [← h.h3]; unfold a3; rw [← W1_args m ρ c main_arg3 (by decide)]; blk_ext [iblk0, (idx0 t).2.1.2.1]
include h in
theorem b05 (t : Fin cfg0.N) (l : Fin 1024) : (iblk0 (V1 m ρ) c 5 t : S1x1024.Idx → EReal) (ix2 0 l) = (d.b l : EReal) := by
  rw [← h.h4]; unfold a4; rw [← W1_args m ρ c main_arg4 (by decide)]; blk_ext [iblk0, (idx0 t).2.1.2.2]

/-- The upper rows of the output weights, as the call loads them. -/
theorem ld_lo {W : S1024x1024.Idx → EReal} (hW : ∀ k l, W (ix2 k l) = (d.Wo k l : EReal)) (k : Fin 512) (l : Fin 1024) :
    (View.ld (Val := Elt Ideal) (e' := .bf16) W r0_1 : S512x1024.Idx → EReal) (ix2 k l) = (d.Wo (Cert.Ffn.lo k) l : EReal) := by
  rw [← hW]
  blk_ext [View.ld, Cert.Ffn.lo]
  · show 0 + 1 * k.val = k.val; omega
  · show 0 + 1 * l.val = l.val; omega
/-- The lower rows. -/
theorem ld_hi {W : S1024x1024.Idx → EReal} (hW : ∀ k l, W (ix2 k l) = (d.Wo k l : EReal)) (k : Fin 512) (l : Fin 1024) :
    (View.ld (Val := Elt Ideal) (e' := .bf16) W r0_2 : S512x1024.Idx → EReal) (ix2 k l) = (d.Wo (Cert.Ffn.hi k) l : EReal) := by
  rw [← hW]
  blk_ext [View.ld, Cert.Ffn.hi]
  · show 512 + 1 * k.val = 512 + k.val; omega
  · show 0 + 1 * l.val = l.val; omega

/-! ## The arrays it leaves -/

include h in
/-- The normalised rows. -/
theorem arr_xh : (dat0 (V1 m ρ) c).arrAt 7 cfg0.N = fun i : S8192x1024.Idx => (xh (Cert.Ffn.r d (i 0)) (i 1) : EReal) := by
  refine (dat0 (V1 m ρ) c).arrAt_eq_of_covers 7 _ (by decide +kernel) fun t hf y => ?_
  have e0 : (win0_7.blk t).view.emb y 0 = row0 t.val t.isLt (y 0) := by
    refine Fin.ext ?_
    have h0 : win0_7.index t 0 = t.val := congrFun (idx0 t).2.2.1 0
    blk_simp
    rw [h0]; rfl
  have e1 : (win0_7.blk t).view.emb y 1 = y 1 := by
    refine Fin.ext ?_
    have h1 : win0_7.index t 1 = 0 := congrFun (idx0 t).2.2.1 1
    blk_simp
    omega
  beta_reduce
  rw [after0_7, e0, e1]
  unfold out0_7
  frame_out
  exact (congrArg _ (eq_ix2 y)).trans (pay_xh' (b00 m ρ h t) (ld_lo (b03 m ρ h t)) (b01 m ρ h t) (ld_hi (b03 m ρ h t)) (b02 m ρ h t) (y 0) (y 1))

include h in
/-- The reciprocal roots. -/
theorem arr_rs : (dat0 (V1 m ρ) c).arrAt 8 cfg0.N = fun i : S8192x1.Idx => (rs (Cert.Ffn.r d (i 0)) : EReal) := by
  refine (dat0 (V1 m ρ) c).arrAt_eq_of_covers 8 _ (by decide +kernel) fun t hf y => ?_
  have e0 : (win0_8.blk t).view.emb y 0 = row0 t.val t.isLt (y 0) := by
    refine Fin.ext ?_
    have h0 : win0_8.index t 0 = t.val := congrFun (idx0 t).2.2.2.1 0
    blk_simp
    rw [h0]; rfl
  beta_reduce
  rw [after0_8, e0]
  unfold out0_8
  frame_out
  have hy : y = ix2 (y 0) 0 := (eq_ix2 y).trans (congrArg (fun z : Fin 1 => ix2 (y 0) z) (Subsingleton.elim _ _))
  exact (congrArg _ hy).trans (pay_rs (b00 m ρ h t) (ld_lo (b03 m ρ h t)) (b01 m ρ h t) (ld_hi (b03 m ρ h t)) (b02 m ρ h t) (y 0))

include h in
/-- The LayerNorm's rows. -/
theorem arr_x1 : (dat0 (V1 m ρ) c).arrAt 9 cfg0.N = fun i : S8192x1024.Idx => (Cert.Ffn.x1 d (i 0) (i 1) : EReal) := by
  refine (dat0 (V1 m ρ) c).arrAt_eq_of_covers 9 _ (by decide +kernel) fun t hf y => ?_
  have e0 : (win0_9.blk t).view.emb y 0 = row0 t.val t.isLt (y 0) := by
    refine Fin.ext ?_
    have h0 : win0_9.index t 0 = t.val := congrFun (idx0 t).2.2.2.2 0
    blk_simp
    rw [h0]; rfl
  have e1 : (win0_9.blk t).view.emb y 1 = y 1 := by
    refine Fin.ext ?_
    have h1 : win0_9.index t 1 = 0 := congrFun (idx0 t).2.2.2.2 1
    blk_simp
    omega
  beta_reduce
  rw [after0_9, e0, e1]
  unfold out0_9 k0_pay7
  frame_out
  exact (congrArg _ (eq_ix2 y)).trans
    (pay_x1 (b00 m ρ h t) (ld_lo (b03 m ρ h t)) (b01 m ρ h t) (ld_hi (b03 m ρ h t)) (b02 m ρ h t) (b04 m ρ h t) (b05 m ρ h t) (y 0) (y 1))

/-! ## The two products -/

include h in
theorem V2_x1 (R : Fin 8192) (l : Fin 1024) : (V2 m ρ c main_v13_3 : S8192x1024.Idx → EReal) (ix2 R l) = (Cert.Ffn.x1 d R l : EReal) :=
  congrFun ((W2_arr m ρ c 9).trans (arr_x1 m ρ h)) (ix2 R l)
include h in
theorem V2_Wg (f : Fin 2816) (l : Fin 1024) : (V2 m ρ c main_v5 : S2816x1024.Idx → EReal) (ix2 f l) = (d.Wg l f : EReal) :=
  (congrFun (W2_of m ρ c main_v5 (by decide)) (ix2 f l)).trans ((V1_Wg m ρ c f l).trans (h.h5 l f))
include h in
theorem V2_Wu (f : Fin 2816) (l : Fin 1024) : (V2 m ρ c main_v8 : S2816x1024.Idx → EReal) (ix2 f l) = (d.Wu l f : EReal) :=
  (congrFun (W2_of m ρ c main_v8 (by decide)) (ix2 f l)).trans ((V1_Wu m ρ c f l).trans (h.h6 l f))

/-- Which block each window is on. -/
theorem idx1 : ∀ t : Fin cfg1.N, (win1_0.index t = ![t.val, 0] ∧ win1_1.index t = ![0, 0] ∧ win1_2.index t = ![0, 0])
    ∧ win1_3.index t = ![t.val, 0] ∧ win1_4.index t = ![t.val, 0] :=
  (by decide +kernel : ∀ t : Fin grid1.N, (win1_0.index t = ![t.val, 0] ∧ win1_1.index t = ![0, 0] ∧ win1_2.index t = ![0, 0])
    ∧ win1_3.index t = ![t.val, 0] ∧ win1_4.index t = ![t.val, 0])

/-- A block's row in the array. -/
def row1 (t : ℕ) (ht : t < 16) (r : Fin 512) : Fin 8192 := ⟨t * 512 + r.val, by omega⟩

include h in
theorem b10 (t : Fin cfg1.N) (r : Fin 512) (l : Fin 1024) : (iblk1 (V2 m ρ) c 0 t : S512x1024.Idx → EReal) (ix2 r l)
    = (Cert.Ffn.x1 d (row1 t.val t.isLt r) l : EReal) := by
  rw [← V2_x1 m ρ h]; unfold row1; blk_ext [iblk1, (idx1 t).1.1]
include h in
theorem b11 (t : Fin cfg1.N) (f : Fin 2816) (l : Fin 1024) : (iblk1 (V2 m ρ) c 1 t : S2816x1024.Idx → EReal) (ix2 f l) = (d.Wg l f : EReal) := by
  rw [← V2_Wg m ρ h]; blk_ext [iblk1, (idx1 t).1.2.1]
include h in
theorem b12 (t : Fin cfg1.N) (f : Fin 2816) (l : Fin 1024) : (iblk1 (V2 m ρ) c 2 t : S2816x1024.Idx → EReal) (ix2 f l) = (d.Wu l f : EReal) := by
  rw [← V2_Wu m ρ h]; blk_ext [iblk1, (idx1 t).1.2.2]

include h in
/-- The gate's product. -/
theorem arr_hg : (dat1 (V2 m ρ) c).arrAt 3 cfg1.N = fun i : S8192x2816.Idx => (Cert.Ffn.hg d (i 0) (i 1) : EReal) := by
  refine (dat1 (V2 m ρ) c).arrAt_eq_of_covers 3 _ (by decide +kernel) fun t hf y => ?_
  have e0 : (win1_3.blk t).view.emb y 0 = row1 t.val t.isLt (y 0) := by
    refine Fin.ext ?_
    have h0 : win1_3.index t 0 = t.val := congrFun (idx1 t).2.1 0
    blk_simp
    rw [h0]; rfl
  have e1 : (win1_3.blk t).view.emb y 1 = y 1 := by
    refine Fin.ext ?_
    have h1 : win1_3.index t 1 = 0 := congrFun (idx1 t).2.1 1
    blk_simp
    omega
  beta_reduce
  rw [after1_3, e0, e1]
  unfold out1_3
  frame_out
  exact (congrArg _ (eq_ix2 y)).trans (pay_hg (b10 m ρ h t) (b11 m ρ h t) (y 0) (y 1))

include h in
/-- The other product. -/
theorem arr_up : (dat1 (V2 m ρ) c).arrAt 4 cfg1.N = fun i : S8192x2816.Idx => (Cert.Ffn.up d (i 0) (i 1) : EReal) := by
  refine (dat1 (V2 m ρ) c).arrAt_eq_of_covers 4 _ (by decide +kernel) fun t hf y => ?_
  have e0 : (win1_4.blk t).view.emb y 0 = row1 t.val t.isLt (y 0) := by
    refine Fin.ext ?_
    have h0 : win1_4.index t 0 = t.val := congrFun (idx1 t).2.2 0
    blk_simp
    rw [h0]; rfl
  have e1 : (win1_4.blk t).view.emb y 1 = y 1 := by
    refine Fin.ext ?_
    have h1 : win1_4.index t 1 = 0 := congrFun (idx1 t).2.2 1
    blk_simp
    omega
  beta_reduce
  rw [after1_4, e0, e1]
  unfold out1_4
  frame_out
  exact (congrArg _ (eq_ix2 y)).trans (pay_up (b10 m ρ h t) (b12 m ρ h t) (y 0) (y 1))

end Cert.Kernel3Ideal.FfnVal
end
-- ==== Proof.Ffn.Backward.lean ====
/-
  What the backward call leaves, block by block of 256 rows: two sums run over the blocks in their output's own buffer.
-/
module

public import proofs.«01_k».proof.Proof.Ffn.Forward
public import proofs.«01_k».proof.Proof.Real.Blocks

@[expose] public section
set_option maxRecDepth 16384
noncomputable section
namespace Cert.Kernel3Ideal.FfnVal
open Cert.Kernel3Ideal Cert.Kernel3Ideal.Gen Idealize.ShloMosaic Idealize.ShloMosaic.TcCoe Idealize.SL.Sem
open Idealize.ShloMosaic.Pipeline (Dat)
open Cert.Real
variable (m : (ℓ : Loc nD τ sig) → Buf (Elt Ideal) ℓ) (ρ : Dev nD → PrngReg)

/-! ## The arrays the backward call reads -/

/-- A host-written array the first two calls leave alone. -/
theorem V3_host (c : Dev nD) (b : Ref sig .tc) (h0 : ∀ w : Fin cfg0.W, Pipeline.arrRef spec0 w = b → (cfg0.win w).isOut = false)
    (h1 : ∀ w : Fin cfg1.W, Pipeline.arrRef spec1 w = b → (cfg1.win w).isOut = false) : V3 m ρ c b = V1 m ρ c b := (W3_of m ρ c b h1).trans (W2_of m ρ c b h0)

variable {d : Cert.Ffn.Data} {c : Dev nD} (h : Holds m d c)

include h in
theorem V3_xh (R : Fin 8192) (l : Fin 1024) : (V3 m ρ c main_v13_1 : S8192x1024.Idx → EReal) (ix2 R l) = (xh (Cert.Ffn.r d R) l : EReal) :=
  congrFun ((W3_of m ρ c main_v13_1 (by decide)).trans ((W2_arr m ρ c 7).trans (arr_xh m ρ h))) (ix2 R l)
include h in
theorem V3_rs (R : Fin 8192) : (V3 m ρ c main_v13_2 : S8192x1.Idx → EReal) (ix2 R 0) = (rs (Cert.Ffn.r d R) : EReal) :=
  congrFun ((W3_of m ρ c main_v13_2 (by decide)).trans ((W2_arr m ρ c 8).trans (arr_rs m ρ h))) (ix2 R 0)
include h in
theorem V3_hg (R : Fin 8192) (k : Fin 2816) : (V3 m ρ c main_v14_0 : S8192x2816.Idx → EReal) (ix2 R k) = (Cert.Ffn.hg d R k : EReal) :=
  congrFun ((W3_arr m ρ c 3).trans (arr_hg m ρ h)) (ix2 R k)
include h in
theorem V3_up (R : Fin 8192) (k : Fin 2816) : (V3 m ρ c main_v14_1 : S8192x2816.Idx → EReal) (ix2 R k) = (Cert.Ffn.up d R k : EReal) :=
  congrFun ((W3_arr m ρ c 4).trans (arr_up m ρ h)) (ix2 R k)

/-- Which block each window is on. -/
theorem idx2 : ∀ t : Fin cfg2.N, (win2_0.index t = ![t.val, 0] ∧ win2_1.index t = ![t.val, 0] ∧ win2_2.index t = ![t.val, 0]
    ∧ win2_3.index t = ![t.val, 0] ∧ win2_4.index t = ![t.val, 0]) ∧ (win2_5.index t = ![0, 0] ∧ win2_6.index t = ![0, 0] ∧ win2_7.index t = ![0, 0]
    ∧ win2_8.index t = ![0, 0] ∧ win2_9.index t = ![0, 0]) ∧ win2_10.index t = ![t.val, 0] ∧ win2_11.index t = ![t.val, 0] ∧ win2_12.index t = ![t.val, 0]
    ∧ win2_15.index t = ![t.val, 0] ∧ win2_16.index t = ![t.val, 0] :=
  (by decide +kernel : ∀ t : Fin grid2.N, (win2_0.index t = ![t.val, 0] ∧ win2_1.index t = ![t.val, 0] ∧ win2_2.index t = ![t.val, 0]
    ∧ win2_3.index t = ![t.val, 0] ∧ win2_4.index t = ![t.val, 0]) ∧ (win2_5.index t = ![0, 0] ∧ win2_6.index t = ![0, 0] ∧ win2_7.index t = ![0, 0]
    ∧ win2_8.index t = ![0, 0] ∧ win2_9.index t = ![0, 0]) ∧ win2_10.index t = ![t.val, 0] ∧ win2_11.index t = ![t.val, 0] ∧ win2_12.index t = ![t.val, 0]
    ∧ win2_15.index t = ![t.val, 0] ∧ win2_16.index t = ![t.val, 0])

/-- A block's row in the array. -/
def row2 (t : ℕ) (ht : t < 32) (r : Fin 256) : Fin 8192 := ⟨t * 256 + r.val, by omega⟩

include h in
theorem b20 (t : Fin cfg2.N) (r : Fin 256) (l : Fin 1024) : (iblk2 (V3 m ρ) c 0 t : S256x1024.Idx → EReal) (ix2 r l) = (d.C (row2 t.val t.isLt r) l : EReal) := by
  rw [← h.h8]; unfold row2 a8; rw [← W3_args m ρ c main_arg8 (by decide)]
  blk_ext [iblk2, (idx2 t).1.1]
include h in
theorem b21 (t : Fin cfg2.N) (r : Fin 256) (k : Fin 2816) : (iblk2 (V3 m ρ) c 1 t : S256x2816.Idx → EReal) (ix2 r k)
    = (Cert.Ffn.hg d (row2 t.val t.isLt r) k : EReal) := by
  rw [← V3_hg m ρ h]; unfold row2; blk_ext [iblk2, (idx2 t).1.2.1]
include h in
theorem b22 (t : Fin cfg2.N) (r : Fin 256) (k : Fin 2816) : (iblk2 (V3 m ρ) c 2 t : S256x2816.Idx → EReal) (ix2 r k)
    = (Cert.Ffn.up d (row2 t.val t.isLt r) k : EReal) := by
  rw [← V3_up m ρ h]; unfold row2; blk_ext [iblk2, (idx2 t).1.2.2.1]
include h in
theorem b23 (t : Fin cfg2.N) (r : Fin 256) (l : Fin 1024) : (iblk2 (V3 m ρ) c 3 t : S256x1024.Idx → EReal) (ix2 r l)
    = (xh (Cert.Ffn.r d (row2 t.val t.isLt r)) l : EReal) := by
  rw [← V3_xh m ρ h]; unfold row2; blk_ext [iblk2, (idx2 t).1.2.2.2.1]
include h in
theorem b24 (t : Fin cfg2.N) (r : Fin 256) : (iblk2 (V3 m ρ) c 4 t : S256x1.Idx → EReal) (ix2 r 0) = (rs (Cert.Ffn.r d (row2 t.val t.isLt r)) : EReal) := by
  rw [← V3_rs m ρ h]; unfold row2; blk_ext [iblk2, (idx2 t).1.2.2.2.2]
include h in
theorem b25 (t : Fin cfg2.N) (k : Fin 2816) (l : Fin 1024) : (iblk2 (V3 m ρ) c 5 t : S2816x1024.Idx → EReal) (ix2 k l) = (d.Wd k l : EReal) := by
  rw [← h.h7, ← V1_Wd m ρ c, ← V3_host m ρ c main_v10 (by decide) (by decide)]; blk_ext [iblk2, (idx2 t).2.1.1]
include h in
theorem b26 (t : Fin cfg2.N) (k : Fin 2816) (l : Fin 1024) : (iblk2 (V3 m ρ) c 6 t : S2816x1024.Idx → EReal) (ix2 k l) = (d.Wg l k : EReal) := by
  rw [← h.h5, ← V1_Wg m ρ c, ← V3_host m ρ c main_v5 (by decide) (by decide)]; blk_ext [iblk2, (idx2 t).2.1.2.1]
include h in
theorem b27 (t : Fin cfg2.N) (k : Fin 2816) (l : Fin 1024) : (iblk2 (V3 m ρ) c 7 t : S2816x1024.Idx → EReal) (ix2 k l) = (d.Wu l k : EReal) := by
  rw [← h.h6, ← V1_Wu m ρ c, ← V3_host m ρ c main_v8 (by decide) (by decide)]; blk_ext [iblk2, (idx2 t).2.1.2.2.1]
include h in
theorem b28 (t : Fin cfg2.N) (l : Fin 1024) : (iblk2 (V3 m ρ) c 8 t : S1x1024.Idx → EReal) (ix2 0 l) = (d.g l : EReal) := by
  rw [← h.h3]; unfold a3; rw [← W3_args m ρ c main_arg3 (by decide)]
  blk_ext [iblk2, (idx2 t).2.1.2.2.2.1]
include h in
theorem b29 (t : Fin cfg2.N) (k l : Fin 1024) : (iblk2 (V3 m ρ) c 9 t : S1024x1024.Idx → EReal) (ix2 k l) = (d.Wo k l : EReal) := by
  rw [← h.h2, ← V1_Wo m ρ c, ← V3_host m ρ c main_v2 (by decide) (by decide)]; blk_ext [iblk2, (idx2 t).2.1.2.2.2.2]

/-! ## What a grid point leaves in the outputs -/

include h in
/-- The two products' gradients over the block. -/
theorem blk_dhg (t : Fin cfg2.N) (r : Fin 256) (k : Fin 2816) : (k2_pay10 (F := Ideal) (iblk2 (V3 m ρ) c 0 t) (iblk2 (V3 m ρ) c 5 t) (iblk2 (V3 m ρ) c 1 t) (iblk2 (V3 m ρ) c 2 t)
    : S256x2816.Idx → EReal) (ix2 r k) = (Cert.Ffn.dhg d (row2 t.val t.isLt r) k : EReal) :=
  pay_dhg (b20 m ρ h t) (b25 m ρ h t) (b21 m ρ h t) (b22 m ρ h t) r k
include h in
theorem blk_dup (t : Fin cfg2.N) (r : Fin 256) (k : Fin 2816) : (k2_pay11 (F := Ideal) (iblk2 (V3 m ρ) c 0 t) (iblk2 (V3 m ρ) c 5 t) (iblk2 (V3 m ρ) c 1 t)
    : S256x2816.Idx → EReal) (ix2 r k) = (Cert.Ffn.dup d (row2 t.val t.isLt r) k : EReal) :=
  pay_dup (b20 m ρ h t) (b25 m ρ h t) (b21 m ρ h t) r k
include h in
/-- The gradient of the LayerNorm's row, times the gain, over the block. -/
theorem blk_dxh (t : Fin cfg2.N) (r : Fin 256) (l : Fin 1024) : (k2_pay19 (F := Ideal) (iblk2 (V3 m ρ) c 0 t) (k2_pay10 (iblk2 (V3 m ρ) c 0 t) (iblk2 (V3 m ρ) c 5 t) (iblk2 (V3 m ρ) c 1 t) (iblk2 (V3 m ρ) c 2 t)) (k2_pay11 (iblk2 (V3 m ρ) c 0 t) (iblk2 (V3 m ρ) c 5 t) (iblk2 (V3 m ρ) c 1 t))
    (Ideal.ofBits .f32 0x3F9837F0#32) (iblk2 (V3 m ρ) c 6 t) (iblk2 (V3 m ρ) c 7 t) (iblk2 (V3 m ρ) c 8 t) : S256x1024.Idx → EReal) (ix2 r l)
    = ((Cert.Ffn.dx1 d (row2 t.val t.isLt r) l * d.g l : ℝ) : EReal) :=
  pay_dxh (b20 m ρ h t) (blk_dhg m ρ h t) (blk_dup m ρ h t) (b26 m ρ h t) (b27 m ρ h t) r l (b28 m ρ h t)
include h in
/-- Its sum over the channels. -/
theorem blk_sum (t : Fin cfg2.N) (r : Fin 256) : (k2_pay20 (F := Ideal) (iblk2 (V3 m ρ) c 0 t) (k2_pay10 (iblk2 (V3 m ρ) c 0 t) (iblk2 (V3 m ρ) c 5 t) (iblk2 (V3 m ρ) c 1 t) (iblk2 (V3 m ρ) c 2 t)) (k2_pay11 (iblk2 (V3 m ρ) c 0 t) (iblk2 (V3 m ρ) c 5 t) (iblk2 (V3 m ρ) c 1 t))
    (Ideal.ofBits .f32 0x3F9837F0#32) (iblk2 (V3 m ρ) c 6 t) (iblk2 (V3 m ρ) c 7 t) (iblk2 (V3 m ρ) c 8 t) : S256x1.Idx → EReal) (ix2 r 0)
    = ((∑ j, Cert.Ffn.dx1 d (row2 t.val t.isLt r) j * d.g j : ℝ) : EReal) :=
  pay_sum (b20 m ρ h t) (blk_dhg m ρ h t) (blk_dup m ρ h t) (b26 m ρ h t) (b27 m ρ h t) r (b28 m ρ h t)

include h in
/-- The residual row's gradient. -/
theorem out_dr (t : Fin cfg2.N) (r : Fin 256) (l : Fin 1024) : ((outsAt2 (V3 m ρ) c t.val t.isLt).1 (ix2 r l) : EReal)
    = (Cert.Ffn.dr d (row2 t.val t.isLt r) l : EReal) := by
  by_cases h0 : t.val % 32 = 0
  · rw [outsAt2_A (V3 m ρ) c t h0]; frame_out
    exact pay_dr (b23 m ρ h t) (b24 m ρ h t) (blk_dxh m ρ h t) (blk_sum m ρ h t) r l
  · rw [outsAt2_B (V3 m ρ) c t h0]; frame_out
    exact pay_dr (b23 m ρ h t) (b24 m ρ h t) (blk_dxh m ρ h t) (blk_sum m ρ h t) r l

include h in
/-- The gradient of the gate's product. -/
theorem out_dhg (t : Fin cfg2.N) (r : Fin 256) (k : Fin 2816) : ((outsAt2 (V3 m ρ) c t.val t.isLt).2.1 (ix2 r k) : EReal)
    = (Cert.Ffn.dhg d (row2 t.val t.isLt r) k : EReal) := by
  by_cases h0 : t.val % 32 = 0
  · rw [outsAt2_A (V3 m ρ) c t h0]; frame_out
    exact pay_dhg' (b20 m ρ h t) (b25 m ρ h t) (b21 m ρ h t) (b22 m ρ h t) r k
  · rw [outsAt2_B (V3 m ρ) c t h0]; frame_out
    exact pay_dhg' (b20 m ρ h t) (b25 m ρ h t) (b21 m ρ h t) (b22 m ρ h t) r k

include h in
/-- The gradient of the other product. -/
theorem out_dup (t : Fin cfg2.N) (r : Fin 256) (k : Fin 2816) : ((outsAt2 (V3 m ρ) c t.val t.isLt).2.2.1 (ix2 r k) : EReal)
    = (Cert.Ffn.dup d (row2 t.val t.isLt r) k : EReal) := by
  by_cases h0 : t.val % 32 = 0
  · rw [outsAt2_A (V3 m ρ) c t h0]; frame_out
    exact pay_dup' (b20 m ρ h t) (b25 m ρ h t) (b21 m ρ h t) r k
  · rw [outsAt2_B (V3 m ρ) c t h0]; frame_out
    exact pay_dup' (b20 m ρ h t) (b25 m ρ h t) (b21 m ρ h t) r k

include h in
/-- The gradient of the first mixer's columns. -/
theorem out_lo (t : Fin cfg2.N) (r : Fin 256) (k : Fin 512) : ((outsAt2 (V3 m ρ) c t.val t.isLt).2.2.2.2.2.1 (ix2 r k) : EReal)
    = (Cert.Ffn.dog d (row2 t.val t.isLt r) (Cert.Ffn.lo k) : EReal) := by
  by_cases h0 : t.val % 32 = 0
  · rw [outsAt2_A (V3 m ρ) c t h0]; frame_out
    exact pay_lo (b23 m ρ h t) (b24 m ρ h t) (blk_dxh m ρ h t) (blk_sum m ρ h t) (b29 m ρ h t) r k
  · rw [outsAt2_B (V3 m ρ) c t h0]; frame_out
    exact pay_lo (b23 m ρ h t) (b24 m ρ h t) (blk_dxh m ρ h t) (blk_sum m ρ h t) (b29 m ρ h t) r k

include h in
/-- The gradient of the second mixer's columns. -/
theorem out_hi (t : Fin cfg2.N) (r : Fin 256) (k : Fin 512) : ((outsAt2 (V3 m ρ) c t.val t.isLt).2.2.2.2.2.2 (ix2 r k) : EReal)
    = (Cert.Ffn.dog d (row2 t.val t.isLt r) (Cert.Ffn.hi k) : EReal) := by
  by_cases h0 : t.val % 32 = 0
  · rw [outsAt2_A (V3 m ρ) c t h0]; frame_out
    exact pay_hi (b23 m ρ h t) (b24 m ρ h t) (blk_dxh m ρ h t) (blk_sum m ρ h t) (b29 m ρ h t) r k
  · rw [outsAt2_B (V3 m ρ) c t h0]; frame_out
    exact pay_hi (b23 m ρ h t) (b24 m ρ h t) (blk_dxh m ρ h t) (blk_sum m ρ h t) (b29 m ρ h t) r k

/-- The sum over a block's own rows. -/
theorem block_row (F : Fin 8192 → ℝ) (t : ℕ) (ht : t < 32) : ∑ r : Fin 256, F (row2 t ht r) = block 256 F t := by
  refine Finset.sum_congr rfl fun r _ => ?_
  rw [dif_pos (by have := r.isLt; omega)]
  rfl

/-- No later point of the grid starts the sums again. -/
theorem later (n : ℕ) (hn : n + 1 < 32) : ¬(n + 1) % 32 = 0 := by omega

include h in
/-- The gain's gradient after the last point. -/
theorem acc_dg (t : Fin cfg2.N) (ht : t.val = 31) (l : Fin 1024) : ((outsAt2 (V3 m ρ) c t.val t.isLt).2.2.2.1 (ix2 0 l) : EReal)
    = (Cert.Ffn.dg d l : EReal) := by
  have e := running_at 32 256 (fun R => Cert.Ffn.dx1 d R l * xh (Cert.Ffn.r d R) l) (fun n hn => ((outsAt2 (V3 m ρ) c n hn).2.2.2.1 (ix2 0 l) : EReal)) ?_ ?_ t.val t.isLt
  · refine e.trans ?_
    rw [ht, sum_block 32 256 rfl]
    rfl
  · intro _
    rw [outsAt2_A (V3 m ρ) c ⟨0, by decide⟩ rfl]; frame_out
    refine (pay_dg (b20 m ρ h ⟨0, by decide⟩) (blk_dhg m ρ h ⟨0, by decide⟩) (blk_dup m ρ h ⟨0, by decide⟩) (b26 m ρ h ⟨0, by decide⟩) (b27 m ρ h ⟨0, by decide⟩) l (b23 m ρ h ⟨0, by decide⟩) _).trans ?_
    rw [(zero_row l).1, zero_add]
    exact congrArg Real.toEReal (block_row (fun R => Cert.Ffn.dx1 d R l * xh (Cert.Ffn.r d R) l) 0 (by decide))
  · intro n hn
    rw [outsAt2_B (V3 m ρ) c ⟨n + 1, hn⟩ (later n hn)]; frame_out
    refine (pay_dg (b20 m ρ h ⟨n + 1, hn⟩) (blk_dhg m ρ h ⟨n + 1, hn⟩) (blk_dup m ρ h ⟨n + 1, hn⟩) (b26 m ρ h ⟨n + 1, hn⟩) (b27 m ρ h ⟨n + 1, hn⟩) l (b23 m ρ h ⟨n + 1, hn⟩) _).trans ?_
    exact congrArg (fun z : ℝ => _ + (z : EReal)) (block_row (fun R => Cert.Ffn.dx1 d R l * xh (Cert.Ffn.r d R) l) (n + 1) hn)

include h in
/-- The offset's gradient after the last point. -/
theorem acc_db (t : Fin cfg2.N) (ht : t.val = 31) (l : Fin 1024) : ((outsAt2 (V3 m ρ) c t.val t.isLt).2.2.2.2.1 (ix2 0 l) : EReal)
    = (Cert.Ffn.db d l : EReal) := by
  have e := running_at 32 256 (fun R => Cert.Ffn.dx1 d R l) (fun n hn => ((outsAt2 (V3 m ρ) c n hn).2.2.2.2.1 (ix2 0 l) : EReal)) ?_ ?_ t.val t.isLt
  · refine e.trans ?_
    rw [ht, sum_block 32 256 rfl]
    rfl
  · intro _
    rw [outsAt2_A (V3 m ρ) c ⟨0, by decide⟩ rfl]; frame_out
    refine (pay_db (b20 m ρ h ⟨0, by decide⟩) (blk_dhg m ρ h ⟨0, by decide⟩) (blk_dup m ρ h ⟨0, by decide⟩) (b26 m ρ h ⟨0, by decide⟩) (b27 m ρ h ⟨0, by decide⟩) l _).trans ?_
    rw [(zero_row l).2, zero_add]
    exact congrArg Real.toEReal (block_row (fun R => Cert.Ffn.dx1 d R l) 0 (by decide))
  · intro n hn
    rw [outsAt2_B (V3 m ρ) c ⟨n + 1, hn⟩ (later n hn)]; frame_out
    refine (pay_db (b20 m ρ h ⟨n + 1, hn⟩) (blk_dhg m ρ h ⟨n + 1, hn⟩) (blk_dup m ρ h ⟨n + 1, hn⟩) (b26 m ρ h ⟨n + 1, hn⟩) (b27 m ρ h ⟨n + 1, hn⟩) l _).trans ?_
    exact congrArg (fun z : ℝ => _ + (z : EReal)) (block_row (fun R => Cert.Ffn.dx1 d R l) (n + 1) hn)

/-! ## The arrays after the run -/

include h in
/-- The residual row's gradient. -/
theorem arr_dr : (dat2 (V3 m ρ) c).arrAt 10 cfg2.N = fun i : S8192x1024.Idx => (Cert.Ffn.dr d (i 0) (i 1) : EReal) := by
  refine (dat2 (V3 m ρ) c).arrAt_eq_of_covers 10 _ (by decide +kernel) fun t hf y => ?_
  have e0 : (win2_10.blk t).view.emb y 0 = row2 t.val t.isLt (y 0) := by
    refine Fin.ext ?_
    have h0 : win2_10.index t 0 = t.val := congrFun (idx2 t).2.2.1 0
    blk_simp
    rw [h0]; rfl
  have e1 : (win2_10.blk t).view.emb y 1 = y 1 := by
    refine Fin.ext ?_
    have h1 : win2_10.index t 1 = 0 := congrFun (idx2 t).2.2.1 1
    blk_simp
    omega
  beta_reduce
  rw [after2_10, e0, e1]
  exact (congrArg _ (eq_ix2 y)).trans (out_dr m ρ h t (y 0) (y 1))
include h in
/-- The gradient of the gate's product. -/
theorem arr_dhg : (dat2 (V3 m ρ) c).arrAt 11 cfg2.N = fun i : S8192x2816.Idx => (Cert.Ffn.dhg d (i 0) (i 1) : EReal) := by
  refine (dat2 (V3 m ρ) c).arrAt_eq_of_covers 11 _ (by decide +kernel) fun t hf y => ?_
  have e0 : (win2_11.blk t).view.emb y 0 = row2 t.val t.isLt (y 0) := by
    refine Fin.ext ?_
    have h0 : win2_11.index t 0 = t.val := congrFun (idx2 t).2.2.2.1 0
    blk_simp
    rw [h0]; rfl
  have e1 : (win2_11.blk t).view.emb y 1 = y 1 := by
    refine Fin.ext ?_
    have h1 : win2_11.index t 1 = 0 := congrFun (idx2 t).2.2.2.1 1
    blk_simp
    omega
  beta_reduce
  rw [after2_11, e0, e1]
  exact (congrArg _ (eq_ix2 y)).trans (out_dhg m ρ h t (y 0) (y 1))
include h in
/-- The gradient of the other product. -/
theorem arr_dup : (dat2 (V3 m ρ) c).arrAt 12 cfg2.N = fun i : S8192x2816.Idx => (Cert.Ffn.dup d (i 0) (i 1) : EReal) := by
  refine (dat2 (V3 m ρ) c).arrAt_eq_of_covers 12 _ (by decide +kernel) fun t hf y => ?_
  have e0 : (win2_12.blk t).view.emb y 0 = row2 t.val t.isLt (y 0) := by
    refine Fin.ext ?_
    have h0 : win2_12.index t 0 = t.val := congrFun (idx2 t).2.2.2.2.1 0
    blk_simp
    rw [h0]; rfl
  have e1 : (win2_12.blk t).view.emb y 1 = y 1 := by
    refine Fin.ext ?_
    have h1 : win2_12.index t 1 = 0 := congrFun (idx2 t).2.2.2.2.1 1
    blk_simp
    omega
  beta_reduce
  rw [after2_12, e0, e1]
  exact (congrArg _ (eq_ix2 y)).trans (out_dup m ρ h t (y 0) (y 1))
include h in
/-- The gradient of the first mixer's columns. -/
theorem arr_lo : (dat2 (V3 m ρ) c).arrAt 15 cfg2.N = fun i : S8192x512.Idx => (Cert.Ffn.dog d (i 0) (Cert.Ffn.lo (i 1)) : EReal) := by
  refine (dat2 (V3 m ρ) c).arrAt_eq_of_covers 15 _ (by decide +kernel) fun t hf y => ?_
  have e0 : (win2_15.blk t).view.emb y 0 = row2 t.val t.isLt (y 0) := by
    refine Fin.ext ?_
    have h0 : win2_15.index t 0 = t.val := congrFun (idx2 t).2.2.2.2.2.1 0
    blk_simp
    rw [h0]; rfl
  have e1 : (win2_15.blk t).view.emb y 1 = y 1 := by
    refine Fin.ext ?_
    have h1 : win2_15.index t 1 = 0 := congrFun (idx2 t).2.2.2.2.2.1 1
    blk_simp
    omega
  beta_reduce
  rw [after2_15, e0, e1]
  exact (congrArg _ (eq_ix2 y)).trans (out_lo m ρ h t (y 0) (y 1))
include h in
/-- The gradient of the second mixer's columns. -/
theorem arr_hi : (dat2 (V3 m ρ) c).arrAt 16 cfg2.N = fun i : S8192x512.Idx => (Cert.Ffn.dog d (i 0) (Cert.Ffn.hi (i 1)) : EReal) := by
  refine (dat2 (V3 m ρ) c).arrAt_eq_of_covers 16 _ (by decide +kernel) fun t hf y => ?_
  have e0 : (win2_16.blk t).view.emb y 0 = row2 t.val t.isLt (y 0) := by
    refine Fin.ext ?_
    have h0 : win2_16.index t 0 = t.val := congrFun (idx2 t).2.2.2.2.2.2 0
    blk_simp
    rw [h0]; rfl
  have e1 : (win2_16.blk t).view.emb y 1 = y 1 := by
    refine Fin.ext ?_
    have h1 : win2_16.index t 1 = 0 := congrFun (idx2 t).2.2.2.2.2.2 1
    blk_simp
    omega
  beta_reduce
  rw [after2_16, e0, e1]
  exact (congrArg _ (eq_ix2 y)).trans (out_hi m ρ h t (y 0) (y 1))
/-- An index into a single row. -/
theorem one_row (j : S1x1024.Idx) : j = ix2 0 (j 1) := by
  refine (eq_ix2 _).trans ?_
  congr 1
  exact Subsingleton.elim (α := Fin 1) _ _

/-- The last point leaves all of either sum. -/
theorem last13 (t : Fin cfg2.N) (ht : t.val = 31) : (cfg2.win 13).WholeAt t := by
  obtain rfl : t = ⟨31, by decide⟩ := Fin.ext ht
  decide +kernel
theorem last14 (t : Fin cfg2.N) (ht : t.val = 31) : (cfg2.win 14).WholeAt t := by
  obtain rfl : t = ⟨31, by decide⟩ := Fin.ext ht
  decide +kernel

include h in
/-- The gain's gradient. -/
theorem arr_dg : (dat2 (V3 m ρ) c).arrAt 13 cfg2.N = fun i : S1x1024.Idx => (Cert.Ffn.dg d (i 1) : EReal) := by
  obtain ⟨t, ht⟩ : ∃ t : Fin cfg2.N, t.val = 31 := ⟨⟨31, by decide⟩, rfl⟩
  refine (dat2 (V3 m ρ) c).arrAt_eq_of_after_last 13 t (last13 t ht) _ fun j => ?_
  refine (congrFun (after2_13 (V3 m ρ) c t) _).trans ?_
  refine Eq.trans (congrArg _ (one_row _)) ((acc_dg m ρ h t ht (j 1)).trans ?_)
  blk_simp
include h in
/-- The offset's gradient. -/
theorem arr_db : (dat2 (V3 m ρ) c).arrAt 14 cfg2.N = fun i : S1x1024.Idx => (Cert.Ffn.db d (i 1) : EReal) := by
  obtain ⟨t, ht⟩ : ∃ t : Fin cfg2.N, t.val = 31 := ⟨⟨31, by decide⟩, rfl⟩
  refine (dat2 (V3 m ρ) c).arrAt_eq_of_after_last 14 t (last14 t ht) _ fun j => ?_
  refine (congrFun (after2_14 (V3 m ρ) c t) _).trans ?_
  refine Eq.trans (congrArg _ (one_row _)) ((acc_db m ρ h t ht (j 1)).trans ?_)
  blk_simp

end Cert.Kernel3Ideal.FfnVal
end
-- ==== Proof.Ffn.Reference.lean ====
/-
  What the reference leaves: jax's own derivative of the LayerNorm and the SwiGLU, read at one position over the reals.
-/
module

public import proofs.«01_k».proof.Proof.Gen.Reference3Ideal.Read
public import proofs.«01_k».proof.Proof.Ffn.Spec
public import Idealize.ShloMosaic.Lib.Pointwise

@[expose] public section
set_option maxRecDepth 16384
noncomputable section
namespace Cert.Reference3Ideal.FfnVal
open Cert.Reference3Ideal Cert.Reference3Ideal.Gen Cert.Reference3Ideal.Read Idealize.ShloMosaic Idealize.ShloMosaic.TcCoe Idealize.SL.Sem
open Cert.Real

/-- The arguments' contents are the reals of `d`. -/
structure Reads (d : Cert.Ffn.Data) (x0 x1 : (⟨S8192x1024, .f32⟩ : BufTy).Contents (Elt Ideal))
    (x2 : (⟨S1x1024x1024, .f32⟩ : BufTy).Contents (Elt Ideal)) (x3 x4 : (⟨S1x1024, .f32⟩ : BufTy).Contents (Elt Ideal))
    (x5 x6 : (⟨S1x1024x2816, .f32⟩ : BufTy).Contents (Elt Ideal)) (x7 : (⟨S1x2816x1024, .f32⟩ : BufTy).Contents (Elt Ideal))
    (x8 : (⟨S8192x1024, .f32⟩ : BufTy).Contents (Elt Ideal)) : Prop where
  h0 : ∀ R l, x0 (ix2 R l) = (d.O R l : EReal)
  h1 : ∀ R l, x1 (ix2 R l) = (d.X R l : EReal)
  h2 : ∀ k l, x2 (ix3 0 k l) = (d.Wo k l : EReal)
  h3 : ∀ l, x3 (ix2 0 l) = (d.g l : EReal)
  h4 : ∀ l, x4 (ix2 0 l) = (d.b l : EReal)
  h5 : ∀ l f, x5 (ix3 0 l f) = (d.Wg l f : EReal)
  h6 : ∀ l f, x6 (ix3 0 l f) = (d.Wu l f : EReal)
  h7 : ∀ f l, x7 (ix3 0 f l) = (d.Wd f l : EReal)
  h8 : ∀ R l, x8 (ix2 R l) = (d.C R l : EReal)

variable {d : Cert.Ffn.Data} {x0 x1 : (⟨S8192x1024, .f32⟩ : BufTy).Contents (Elt Ideal)}
  {x2 : (⟨S1x1024x1024, .f32⟩ : BufTy).Contents (Elt Ideal)} {x3 x4 : (⟨S1x1024, .f32⟩ : BufTy).Contents (Elt Ideal)}
  {x5 x6 : (⟨S1x1024x2816, .f32⟩ : BufTy).Contents (Elt Ideal)} {x7 : (⟨S1x2816x1024, .f32⟩ : BufTy).Contents (Elt Ideal)}
  {x8 : (⟨S8192x1024, .f32⟩ : BufTy).Contents (Elt Ideal)}
  (h : Reads d x0 x1 x2 x3 x4 x5 x6 x7 x8) (R : Fin 8192) (l : Fin 1024) (f : Fin 2816)

include h in
/-- The first residual's row. -/
theorem rd_r : val_main_v7 x0 x1 x2 (ix2 R l) = (Cert.Ffn.r d R l : EReal) := by
  pointwise [val_main_v7, val_main_v6, val_main_v5, val_main_v4, val_main_v3, val_main_v2, val_main_v0, val_main_cst, val_main_cst_1]
  simp only [h.h0, h.h1, h.h2, bits_alpha, ← EReal.coe_mul, coe_sum, ← EReal.coe_add, add_zero]
  rfl

include h in
/-- The centred row, as the normalised row reads it. -/
theorem rd_ctr : val_main_v24 x0 x1 x2 (ix2 R l) = (ctr (Cert.Ffn.r d R) l : EReal) := by
  pointwise [val_main_v24, val_main_v23, val_main_v13, val_main_v11, val_main_v10, val_main_v12, val_main_cst_2, val_main_cst_3]
  simp only [rd_r h, bits_1024, coe_sum, div_1024, ← EReal.coe_sub]
  rfl

include h in
/-- The centred row, as the variance reads it. -/
theorem rd_ctr' : val_main_v15 x0 x1 x2 (ix2 R l) = (ctr (Cert.Ffn.r d R) l : EReal) := by
  rw [← rd_ctr h R l]
  pointwise [val_main_v24, val_main_v23, val_main_v15, val_main_v14]

include h in
/-- The variance with its offset. -/
theorem rd_vr : val_main_v26 x0 x1 x2 (ix2 R 0) = (vr (Cert.Ffn.r d R) : EReal) := by
  pointwise [val_main_v26, val_main_v22, val_main_v20, val_main_v19, val_main_v21, val_main_v16, val_main_v25, val_main_cst_5, val_main_cst_6, val_main_cst_7]
  simp only [rd_ctr' h, bits_1024, bits_eps, ← EReal.coe_mul, coe_sum, div_1024, ← EReal.coe_add]
  rfl

include h in
/-- The reciprocal root. -/
theorem rd_rs : val_main_v27 x0 x1 x2 (ix2 R 0) = (rs (Cert.Ffn.r d R) : EReal) := by
  pointwise [val_main_v27]
  rw [rd_vr h, rsqrt_pos (vr_pos _)]
  rfl

include h in
/-- The normalised row. -/
theorem rd_xh : val_main_v32 x0 x1 x2 (ix2 R l) = (xh (Cert.Ffn.r d R) l : EReal) := by
  pointwise [val_main_v32, val_main_v31]
  rw [rd_ctr h, rd_rs h, ← EReal.coe_mul]
  rfl

include h in
/-- The LayerNorm's row. -/
theorem rd_x1 : val_main_v38 x0 x1 x2 x3 x4 (ix2 R l) = (Cert.Ffn.x1 d R l : EReal) := by
  pointwise [val_main_v38, val_main_v35, val_main_v34, val_main_v33, val_main_v8, val_main_v37, val_main_v36, val_main_v9]
  rw [rd_xh h, h.h3, h.h4, ← EReal.coe_mul, ← EReal.coe_add]
  rfl

include h in
/-- The gate's product. -/
theorem rd_hg : val_main_v43 x0 x1 x2 x3 x4 x5 (ix2 R f) = (Cert.Ffn.hg d R f : EReal) := by
  pointwise [val_main_v43, val_main_v42, val_main_v41, val_main_v1, val_main_cst_0]
  simp only [rd_x1 h, h.h5, ← EReal.coe_mul, coe_sum, add_zero]
  rfl

include h in
/-- The other product. -/
theorem rd_up : val_main_v47 x0 x1 x2 x3 x4 x6 (ix2 R f) = (Cert.Ffn.up d R f : EReal) := by
  pointwise [val_main_v47, val_main_v46, val_main_v45, val_main_v1, val_main_cst_0]
  simp only [rd_x1 h, h.h6, ← EReal.coe_mul, coe_sum, add_zero]
  rfl

include h in
/-- The gate's logistic function. -/
theorem rd_sg : val_main_v44_2 x0 x1 x2 x3 x4 x5 (ix2 R f) = (Cert.Ffn.sg d R f : EReal) := by
  pointwise [val_main_v44_2, val_main_call0_v4, val_main_call0_v3, val_main_call0_v2, val_main_call0_v1, val_main_call0_v0, val_main_call0_cst,
    val_main_call0_cst_0]
  rw [rd_hg h, sig_eq]
  rfl

include h in
/-- The gradient of the activation. -/
theorem rd_da : val_main_v54 x7 x8 (ix2 R f) = (Cert.Ffn.da d R f : EReal) := by
  pointwise [val_main_v54, val_main_v53, val_main_v49]
  simp only [h.h7, h.h8, ← EReal.coe_mul, coe_sum]
  rfl

include h in
/-- The gradient of the other product. -/
theorem rd_dup : val_main_v55 x0 x1 x2 x3 x4 x5 x7 x8 (ix2 R f) = (Cert.Ffn.dup d R f : EReal) := by
  pointwise [val_main_v55, val_main_v44_0]
  rw [rd_hg h, rd_sg h, rd_da h, ← EReal.coe_mul, ← EReal.coe_mul, mul_comm]
  rfl

include h in
/-- The gradient of the gate's product: the two terms of the product rule are the hand-written factor. -/
theorem rd_dhg : val_main_v58 x0 x1 x2 x3 x4 x5 x6 x7 x8 (ix2 R f) = (Cert.Ffn.dhg d R f : EReal) := by
  pointwise [val_main_v58, val_main_call1_v2, val_main_call1_v1, val_main_call1_v0, val_main_v56, val_main_v44_1, val_main_call0_v7, val_main_call0_v6,
    val_main_call0_cst_1]
  simp only [rd_hg h, rd_sg h, rd_da h, rd_up h, ← EReal.coe_one, ← EReal.coe_sub, ← EReal.coe_mul, ← EReal.coe_add]
  refine congrArg _ ?_
  unfold Cert.Ffn.dhg
  ring

include h in
/-- The two gradients as they are stored. -/
theorem rd_dhg' : val_main_v100 x0 x1 x2 x3 x4 x5 x6 x7 x8 (ix2 R f) = (Cert.Ffn.dhg d R f : EReal) := by
  pointwise [val_main_v100]
  exact rd_dhg h R f
include h in
theorem rd_dup' : val_main_v101 x0 x1 x2 x3 x4 x5 x7 x8 (ix2 R f) = (Cert.Ffn.dup d R f : EReal) := by
  pointwise [val_main_v101]
  exact rd_dup h R f

include h in
/-- The gradient of the LayerNorm's row. -/
theorem rd_dx1 : val_main_v63 x0 x1 x2 x3 x4 x5 x6 x7 x8 (ix2 R l) = (Cert.Ffn.dx1 d R l : EReal) := by
  pointwise [val_main_v63, val_main_v62, val_main_v61, val_main_v60, val_main_v59, val_main_v57, val_main_v52, val_main_v45, val_main_v41, val_main_cst_10]
  simp only [rd_dhg h, rd_dup h, h.h5, h.h6, h.h8, bits_alpha, ← EReal.coe_mul, coe_sum, ← EReal.coe_add]
  refine congrArg _ ?_
  unfold Cert.Ffn.dx1
  ring

include h in
/-- The gradient of the LayerNorm's offset. -/
theorem rd_db : val_main_v97 x0 x1 x2 x3 x4 x5 x6 x7 x8 (ix2 0 l) = (Cert.Ffn.db d l : EReal) := by
  pointwise [val_main_v97, val_main_v66, val_main_v65, val_main_v64, val_main_cst_11, val_main_cst_12]
  simp only [rd_dx1 h, coe_sum, Finset.univ_unique, Finset.sum_singleton]
  rfl

include h in
/-- The gradient of the LayerNorm's gain. -/
theorem rd_dg : val_main_v98 x0 x1 x2 x3 x4 x5 x6 x7 x8 (ix2 0 l) = (Cert.Ffn.dg d l : EReal) := by
  pointwise [val_main_v98, val_main_v72, val_main_v69, val_main_v68, val_main_v67, val_main_cst_13, val_main_cst_14]
  simp only [rd_xh h, rd_dx1 h, ← EReal.coe_mul, coe_sum, Finset.univ_unique, Finset.sum_singleton]
  congr 1
  exact Finset.sum_congr rfl fun R _ => mul_comm _ _

include h in
/-- The gradient of the LayerNorm's row, times the gain. -/
theorem rd_dxh : val_main_v71 x0 x1 x2 x3 x4 x5 x6 x7 x8 (ix2 R l) = ((Cert.Ffn.dx1 d R l * d.g l : ℝ) : EReal) := by
  pointwise [val_main_v71, val_main_v70, val_main_v33, val_main_v8]
  rw [rd_dx1 h, h.h3, ← EReal.coe_mul]

include h in
/-- The part that reaches the row through the normalised row's factor. -/
theorem rd_direct : val_main_v77 x0 x1 x2 x3 x4 x5 x6 x7 x8 (ix2 R l) = ((Cert.Ffn.dx1 d R l * d.g l * rs (Cert.Ffn.r d R) : ℝ) : EReal) := by
  pointwise [val_main_v77, val_main_v76]
  rw [rd_dxh h, rd_rs h, ← EReal.coe_mul]

include h in
/-- The part that reaches the row through the variance. -/
theorem rd_through : val_main_v86 x0 x1 x2 x3 x4 x5 x6 x7 x8 (ix2 R l)
    = (((∑ j, ctr (Cert.Ffn.r d R) j * (Cert.Ffn.dx1 d R j * d.g j)) * (-1 / 2 * (rs (Cert.Ffn.r d R) / vr (Cert.Ffn.r d R))) / 1024
        * (2 * ctr (Cert.Ffn.r d R) l) : ℝ) : EReal) := by
  pointwise [val_main_v86, val_main_v85, val_main_v84, val_main_v83, val_main_v82, val_main_v78, val_main_v75, val_main_v74, val_main_v73,
    val_main_v30, val_main_v29, val_main_v28, val_main_v18, val_main_v17, val_main_cst_15, val_main_cst_17, val_main_cst_18, val_main_cst_8, val_main_cst_4]
  simp only [rd_dxh h, rd_ctr h, rd_ctr' h, rd_rs h, rd_vr h, div_coe _ (vr_pos _).ne', bits_neg_half, bits_two, bits_1024, ← EReal.coe_mul, coe_sum, div_1024,
    Finset.univ_unique, Finset.sum_singleton, Fin.default_eq_zero]

include h in
/-- The gradient of the residual's row. -/
theorem rd_dr : val_main_v96 x0 x1 x2 x3 x4 x5 x6 x7 x8 (ix2 R l) = (Cert.Ffn.dr d R l : EReal) := by
  pointwise [val_main_v96, val_main_v95, val_main_v94, val_main_v93, val_main_v92, val_main_v91, val_main_v90, val_main_v89, val_main_v88,
    val_main_v87, val_main_v81, val_main_v80, val_main_v79, val_main_cst_16, val_main_cst_19, val_main_cst_20, val_main_cst_21]
  simp only [rd_direct h, rd_through h, bits_1024, ← EReal.coe_neg, coe_sum, ← EReal.coe_add, div_1024, Finset.univ_unique, Finset.sum_singleton]
  exact congrArg _ (lnBwd_chain _ _ _ _)

include h in
/-- The gradient of the mixers' output. -/
theorem rd_dog : val_main_v99 x0 x1 x2 x3 x4 x5 x6 x7 x8 (ix2 R l) = (Cert.Ffn.dog d R l : EReal) := by
  pointwise [val_main_v99, val_main_v4]
  simp only [rd_dr h, h.h2, ← EReal.coe_mul, coe_sum]
  rfl

include h in
/-- The first mixer's columns of it. -/
theorem rd_lo (k : Fin 512) : val_main_v102 x0 x1 x2 x3 x4 x5 x6 x7 x8 (ix2 R k) = (Cert.Ffn.dog d R (Cert.Ffn.lo k) : EReal) := by
  rw [← rd_dog h]
  pointwise [val_main_v102]
  rfl
include h in
/-- The second mixer's. -/
theorem rd_hi (k : Fin 512) : val_main_v103 x0 x1 x2 x3 x4 x5 x6 x7 x8 (ix2 R k) = (Cert.Ffn.dog d R (Cert.Ffn.hi k) : EReal) := by
  rw [← rd_dog h]
  pointwise [val_main_v103]
  rfl

end Cert.Reference3Ideal.FfnVal
end
-- ==== Proof.Ffn.Pre.lean ====
/-
  The precondition read: every argument holds real numbers.
-/
module

public import proofs.«01_k».proof.Pre_finite_ffn
public import proofs.«01_k».proof.Proof.Real.Finite

@[expose] public section
noncomputable section
namespace Cert.Pre_finite_ffn
open Idealize.ShloMosaic Cert.Real

/-- The precondition's own side conditions. -/
instance facts : Facts := by constructor <;> decide

/-- Where the precondition holds the nine arrays hold real numbers. -/
theorem finite (x0 x1 x8 : FVec Ideal S8192x1024 .f32) (x2 : FVec Ideal S1x1024x1024 .f32) (x3 x4 : FVec Ideal S1x1024 .f32)
    (x5 x6 : FVec Ideal S1x1024x2816 .f32) (x7 : FVec Ideal S1x2816x1024 .f32) (h : fn (F := Ideal) x0 x1 x2 x3 x4 x5 x6 x7 x8 = fun _ => 1#1) :
    (∀ i, (x0 i : EReal) = ((x0 i : EReal).toReal : EReal))
      ∧ (∀ i, (x1 i : EReal) = ((x1 i : EReal).toReal : EReal))
      ∧ (∀ i, (x2 i : EReal) = ((x2 i : EReal).toReal : EReal))
      ∧ (∀ i, (x3 i : EReal) = ((x3 i : EReal).toReal : EReal))
      ∧ (∀ i, (x4 i : EReal) = ((x4 i : EReal).toReal : EReal))
      ∧ (∀ i, (x5 i : EReal) = ((x5 i : EReal).toReal : EReal))
      ∧ (∀ i, (x6 i : EReal) = ((x6 i : EReal).toReal : EReal))
      ∧ (∀ i, (x7 i : EReal) = ((x7 i : EReal).toReal : EReal))
      ∧ (∀ i, (x8 i : EReal) = ((x8 i : EReal).toReal : EReal)) := by
  have h0 := congrFun h (fun a => a.elim0)
  unfold fn fn_part1 at h0
  obtain ⟨h0, h8⟩ := and_split _ _ h0
  obtain ⟨h0, h7⟩ := and_split _ _ h0
  obtain ⟨h0, h6⟩ := and_split _ _ h0
  obtain ⟨h0, h5⟩ := and_split _ _ h0
  obtain ⟨h0, h4⟩ := and_split _ _ h0
  obtain ⟨h0, h3⟩ := and_split _ _ h0
  obtain ⟨h0, h2⟩ := and_split _ _ h0
  obtain ⟨h0, h1⟩ := and_split _ _ h0
  exact ⟨all_finite _ _ _ _ h0, all_finite _ _ _ _ h1, all_finite _ _ _ _ h2, all_finite _ _ _ _ h3, all_finite _ _ _ _ h4, all_finite _ _ _ _ h5, all_finite _ _ _ _ h6, all_finite _ _ _ _ h7, all_finite _ _ _ _ h8⟩

end Cert.Pre_finite_ffn
end
-- ==== Proof.Ffn.Claim.lean ====
/-
  The feed-forward backward call's claims: the two programs' runs, and the equality of their seven results.
-/
module

public import proofs.«01_k».proof.Defs
public import proofs.«01_k».proof.Proof.Ffn.Run
public import proofs.«01_k».proof.Proof.Ffn.Backward
public import proofs.«01_k».proof.Proof.Ffn.Reference
public import proofs.«01_k».proof.Proof.Ffn.Pre
public import proofs.«01_k».proof.Proof.Gen.Reference3Ideal.Run
public import Idealize.ShloMosaic.Lib.Claim

@[expose] public section
set_option maxRecDepth 16384
noncomputable section
namespace Cert.Ffn
open Idealize.ShloMosaic Idealize.ShloMosaic.TcCoe Idealize.SL.Sem
open Cert.Kernel3Ideal Cert.Kernel3Ideal.Gen Cert.Kernel3Ideal.FfnVal
open Cert.Reference3Ideal.FfnVal (Reads rd_dr rd_dhg' rd_dup' rd_dg rd_db rd_lo rd_hi)
open Cert.Reference3Ideal.Read (val_main_v96 val_main_v100 val_main_v101 val_main_v98 val_main_v97 val_main_v102 val_main_v103
  val_main_v96_eq val_main_v100_eq val_main_v101_eq val_main_v98_eq val_main_v97_eq val_main_v102_eq val_main_v103_eq)

/-- The reference runs, leaves its arguments as they were and every counter at zero. -/
theorem frame_reference : Cert.quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

variable (m : (ℓ : Loc nD τ sig) → Buf (Elt Ideal) ℓ) (ρ : Dev nD → PrngReg)

/-- The arguments as reals. -/
def data (c : Dev nD) : Data where
  O R l := (a0 m c (ix2 R l)).toReal
  X R l := (a1 m c (ix2 R l)).toReal
  Wo k l := (a2 m c (ix3 0 k l)).toReal
  g l := (a3 m c (ix2 0 l)).toReal
  b l := (a4 m c (ix2 0 l)).toReal
  Wg l f := (a5 m c (ix3 0 l f)).toReal
  Wu l f := (a6 m c (ix3 0 l f)).toReal
  Wd f l := (a7 m c (ix3 0 f l)).toReal
  C R l := (a8 m c (ix2 R l)).toReal

/-- Where the precondition holds they are the arguments. -/
theorem holds (hpre : Cert.Pre_Kernel3Ideal_finite_ffn m) (c : Dev nD) : Holds m (data m c) c := by
  obtain ⟨h0, h1, h2, h3, h4, h5, h6, h7, h8⟩ := Cert.Pre_finite_ffn.finite _ _ _ _ _ _ _ _ _ (hpre c)
  exact ⟨fun R l => h0 _, fun R l => h1 _, fun k l => h2 _, fun l => h3 _, fun l => h4 _, fun l f => h5 _, fun l f => h6 _, fun f l => h7 _,
    fun R l => h8 _⟩

/-- The kernel program's run with its results named. -/
theorem run_results : θ_run defs (onTc (τ := τ) (main (F := Ideal))) ⟨m, fun _ => 0, ρ⟩ fun r => ∀ c : Dev nD,
    r.2.mem ((c : Thread nD τ).loc main_v15_0) = (dat2 (V3 m ρ) c).arrAt 10 cfg2.N
    ∧ r.2.mem ((c : Thread nD τ).loc main_v15_1) = (dat2 (V3 m ρ) c).arrAt 11 cfg2.N
    ∧ r.2.mem ((c : Thread nD τ).loc main_v15_2) = (dat2 (V3 m ρ) c).arrAt 12 cfg2.N
    ∧ r.2.mem ((c : Thread nD τ).loc main_v15_3) = (dat2 (V3 m ρ) c).arrAt 13 cfg2.N
    ∧ r.2.mem ((c : Thread nD τ).loc main_v15_4) = (dat2 (V3 m ρ) c).arrAt 14 cfg2.N
    ∧ r.2.mem ((c : Thread nD τ).loc main_v15_5) = (dat2 (V3 m ρ) c).arrAt 15 cfg2.N
    ∧ r.2.mem ((c : Thread nD τ).loc main_v15_6) = (dat2 (V3 m ρ) c).arrAt 16 cfg2.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  (θ_run defs _ _).mono (fun r h c =>
    have out : ∀ w : Fin cfg2.W, ∀ hw : Proc.devRef .tc (Pipeline.arrRef spec2 w) ∈ Pipeline.ucRefs τ sig,
        r.2.mem (((c : Thread nD τ)).1, Proc.devRef .tc (Pipeline.arrRef spec2 w)) = (dat2 (V3 m ρ) c).arrAt w cfg2.N :=
      fun w hw => (h c _ hw).trans (W4_arr m ρ c w)
    have arg : ∀ a ∈ argRefs, ∀ hw : Proc.devRef .tc a ∈ Pipeline.ucRefs τ sig, r.2.mem ((c : Thread nD τ).loc a) = m ((c : Thread nD τ).loc a) :=
      fun a ha hw => (h c _ hw).trans (W4_args m ρ c a ha)
    ⟨out 10 (mem_uc _ (by decide)), out 11 (mem_uc _ (by decide)), out 12 (mem_uc _ (by decide)), out 13 (mem_uc _ (by decide)),
      out 14 (mem_uc _ (by decide)), out 15 (mem_uc _ (by decide)), out 16 (mem_uc _ (by decide)),
      arg main_arg0 (by decide) (mem_uc _ (by decide)), arg main_arg1 (by decide) (mem_uc _ (by decide)),
      arg main_arg2 (by decide) (mem_uc _ (by decide)), arg main_arg3 (by decide) (mem_uc _ (by decide)),
      arg main_arg4 (by decide) (mem_uc _ (by decide)), arg main_arg5 (by decide) (mem_uc _ (by decide)),
      arg main_arg6 (by decide) (mem_uc _ (by decide)), arg main_arg7 (by decide) (mem_uc _ (by decide)),
      arg main_arg8 (by decide) (mem_uc _ (by decide))⟩) (run_bufs m ρ)

/-- A function of two indices is read at its pairs. -/
theorem ext2 {a b : ℕ} {f : (⟨2, ![a, b]⟩ : Shape).Idx → EReal} {g : Fin a → Fin b → EReal} (h : ∀ i j, f (ix2 i j) = g i j) : f = fun i => g (i 0) (i 1) := by
  funext i
  exact (congrArg f (eq_ix2 i)).trans (h (i 0) (i 1))

/-- The kernel and jax's derivative of the forward lines leave the same seven arrays, where the arguments are finite. -/
theorem algebraic : Cert.algebraic_Kernel3Ideal_Reference3Ideal_pre_finite_ffn := by
  intro m g m' g' hpre hargs
  refine ⟨fun c => (dat2 (V3 m g) c).arrAt 10 cfg2.N, fun c => (dat2 (V3 m g) c).arrAt 11 cfg2.N, fun c => (dat2 (V3 m g) c).arrAt 12 cfg2.N,
    fun c => (dat2 (V3 m g) c).arrAt 13 cfg2.N, fun c => (dat2 (V3 m g) c).arrAt 14 cfg2.N, fun c => (dat2 (V3 m g) c).arrAt 15 cfg2.N, fun c => (dat2 (V3 m g) c).arrAt 16 cfg2.N,
    run_results m g, ?_⟩
  refine (θ_run Cert.Reference3Ideal.defs _ _).mono (fun r h c => ?_) (Cert.Reference3Ideal.Value.run (F := Ideal) m' g')
  obtain ⟨e0, e1, e2, e3, e4, e5, e6, e7, e8⟩ := hargs c
  obtain ⟨h0, h1, h2, h3, h4, h5, h6, hk⟩ := h c
  have hh := holds m hpre c
  have hr : Reads (data m c) (m' (c.tc.loc Cert.Reference3Ideal.main_arg0)) (m' (c.tc.loc Cert.Reference3Ideal.main_arg1))
      (m' (c.tc.loc Cert.Reference3Ideal.main_arg2)) (m' (c.tc.loc Cert.Reference3Ideal.main_arg3)) (m' (c.tc.loc Cert.Reference3Ideal.main_arg4))
      (m' (c.tc.loc Cert.Reference3Ideal.main_arg5)) (m' (c.tc.loc Cert.Reference3Ideal.main_arg6)) (m' (c.tc.loc Cert.Reference3Ideal.main_arg7))
      (m' (c.tc.loc Cert.Reference3Ideal.main_arg8)) :=
    ⟨fun R l => (congrFun e0 _).trans (hh.h0 R l), fun R l => (congrFun e1 _).trans (hh.h1 R l), fun k l => (congrFun e2 _).trans (hh.h2 k l), fun l => (congrFun e3 _).trans (hh.h3 l),
      fun l => (congrFun e4 _).trans (hh.h4 l), fun l f => (congrFun e5 _).trans (hh.h5 l f), fun l f => (congrFun e6 _).trans (hh.h6 l f), fun f l => (congrFun e7 _).trans (hh.h7 f l), fun R l => (congrFun e8 _).trans (hh.h8 R l)⟩
  refine ⟨h0.trans ?_, h1.trans ?_, h2.trans ?_, h3.trans ?_, h4.trans ?_, h5.trans ?_, h6.trans ?_, hk⟩
  · rw [val_main_v96_eq]
    exact (ext2 fun R l => rd_dr hr R l).trans (arr_dr m g hh).symm
  · rw [val_main_v100_eq]
    exact (ext2 fun R l => rd_dhg' hr R l).trans (arr_dhg m g hh).symm
  · rw [val_main_v101_eq]
    exact (ext2 fun R l => rd_dup' hr R l).trans (arr_dup m g hh).symm
  · rw [val_main_v98_eq]
    exact (funext fun i => (congrArg _ (one_row i)).trans (rd_dg hr (i 1))).trans (arr_dg m g hh).symm
  · rw [val_main_v97_eq]
    exact (funext fun i => (congrArg _ (one_row i)).trans (rd_db hr (i 1))).trans (arr_db m g hh).symm
  · rw [val_main_v102_eq]
    exact (ext2 fun R l => rd_lo hr R l).trans (arr_lo m g hh).symm
  · rw [val_main_v103_eq]
    exact (ext2 fun R l => rd_hi hr R l).trans (arr_hi m g hh).symm

end Cert.Ffn
end
-- ==== Proof.Fwd.Conv.lean ====
/-
  The forward call of the causal depthwise convolution and its silu, walked over eight blocks of 1024 rows with the last
  eight rows of a block carried to the next, and the reference's lines at the same position. The formulas are over the
  extended reals, so no argument has to be finite.
-/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Conv.Kernel
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise

@[expose] public section
set_option maxRecDepth 16384
noncomputable section
namespace Cert.Conv
open Idealize.ShloMosaic

/-- The silu. -/
def silu (p : EReal) : EReal := p * Ideal.div 1 (1 + Ideal.exp (-p))

end Cert.Conv

namespace Cert.Kernel4Ideal.ConvVal
open Cert.Kernel4Ideal Cert.Kernel4Ideal.Gen Idealize.ShloMosaic Idealize.ShloMosaic.TcCoe Idealize.SL.Sem
open Idealize.ShloMosaic.Pipeline (Dat)
open Cert.Conv (padded preact silu)
open Cert.KernelIdeal.ConvVal (canon_band canon_off band_idx)
variable (m : (ℓ : Loc nD τ sig) → Buf (Elt Ideal) ℓ) (c : Dev nD)

/-- The projection, the filter and the bias. -/
abbrev a0 : S1x8192x3592.Idx → EReal := m ((c : Thread nD τ).loc main_arg0)
abbrev a1 : S1x4x512.Idx → EReal := m ((c : Thread nD τ).loc main_arg1)
abbrev a2 : S1x512.Idx → EReal := m ((c : Thread nD τ).loc main_arg2)

/-! ## The arrays the host writes -/

/-- The filter without its leading axis. -/
theorem V_w (k : Fin 4) (l : Fin 512) : (V m c main_v4 : S4x512.Idx → EReal) (ix2 k l) = a1 m c (ix3 0 k l) := by
  unfold V
  simp only [hostOps0, List.flatten_cons, List.flatten_nil, List.append_nil, List.cons_append, List.nil_append]
  after_results
  clean_types
  pointwise
/-- The mLSTM's columns of the projection; only the convolution's own are read. -/
theorem V_u (R : Fin 8192) (l : Fin 1664) (h : l.val < 512) :
    (V m c main_v3 : S8192x1664.Idx → EReal) (ix2 R l) = a0 m c (ix3 0 R ⟨2048 + l.val, by omega⟩) := by
  unfold V
  simp only [hostOps0, List.flatten_cons, List.flatten_nil, List.append_nil, List.cons_append, List.nil_append]
  after_results
  clean_types
  pointwise
  rw [dif_pos (by omega)]
/-- The bias is the argument itself. -/
theorem V_b : V m c main_arg2 = m ((c : Thread nD τ).loc main_arg2) := by
  unfold V
  simp only [hostOps0, List.flatten_cons, List.flatten_nil, List.append_nil, List.cons_append, List.nil_append]
  after_results

/-! ## A grid point's blocks -/

/-- Which block each window is on. -/
theorem idx0 : ∀ t : Fin cfg0.N, (win0_0.index t = ![t.val, 0] ∧ win0_1.index t = ![0, 0] ∧ win0_2.index t = ![0, 0])
    ∧ win0_3.index t = ![t.val, 0] ∧ win0_4.index t = ![t.val, 0] :=
  (by decide +kernel : ∀ t : Fin grid0.N, (win0_0.index t = ![t.val, 0] ∧ win0_1.index t = ![0, 0] ∧ win0_2.index t = ![0, 0])
    ∧ win0_3.index t = ![t.val, 0] ∧ win0_4.index t = ![t.val, 0])

/-- The block's input rows, as they are stored in the carried scratch. -/
theorem blk_u (t : Fin cfg0.N) (r : Fin 1024) (l : Fin 512) :
    (k0_pay5 (F := Ideal) (X0_0 m c t) : S1024x512.Idx → EReal) (ix2 r l) = padded (a0 m c) (t.val * 1024 + r.val + 3) l := by
  have ht : t.val < 8 := t.isLt
  have hr := r.isLt
  have e : X0_0 m c t (ix2 r l) = (V m c main_v3 : S8192x1664.Idx → EReal) (ix2 ⟨t.val * 1024 + r.val, by omega⟩ ⟨l.val, by omega⟩) := by
    unfold X0_0 Pipeline.Window.fill
    rw [dif_pos (moved0_0 t _)]
    blk_ext [iblk, (idx0 t).1.1]
  rw [V_u m c _ _ l.isLt] at e
  rw [padded, dif_pos (by omega)]
  refine Eq.trans ?_ e
  generalize X0_0 m c t = X
  revert X
  intro (X : S1024x512.Idx → EReal)
  pointwise [k0_pay5]
/-- The filter. -/
theorem blk_w (t : Fin cfg0.N) (k : Fin 4) (l : Fin 512) : iblk m c 1 t (ix2 k l) = a1 m c (ix3 0 k l) := by
  rw [← V_w m c]; blk_ext [iblk, (idx0 t).1.2.1]
/-- The bias. -/
theorem blk_b (t : Fin cfg0.N) (l : Fin 512) : iblk m c 2 t (ix2 0 l) = a2 m c (ix2 0 l) := by
  unfold a2; rw [← V_b m c]; blk_ext [iblk, (idx0 t).1.2.2]
/-- The filter's row `k`, as a tap loads it. -/
theorem w_row (t : Fin cfg0.N) (k : Fin 4) (l : Fin 512) (inb) :
    View.ld (Val := Elt Ideal) (iblk m c 1 t : S4x512.Idx → EReal) (Rect.unit (s := ⟨2, ![4, 512]⟩) ![k.val, 0] ![1, 512] inb) (ix2 0 l) = a1 m c (ix3 0 k l) := by
  rw [← blk_w m c t]
  exact congrArg (iblk m c 1 t : S4x512.Idx → EReal) (band_idx inb 0 l (by have := k.isLt; omega))

/-! ## The carried scratch -/

/-- The scratch after a point: the block's rows behind eight rows of the block before. -/
theorem scratch_row (t : Fin cfg0.N) (r : Fin 1024) (l : Fin 512) :
    (outsAt0 m c t.val t.isLt).2.2 (ix2 ⟨8 + r.val, by omega⟩ l) = padded (a0 m c) (t.val * 1024 + r.val + 3) l := by
  rw [← blk_u]
  by_cases h0 : t.val % 8 = 0
  · rw [outsAt0_A m c t h0]; frame_out; exact canon_band _ _ _ _ l r rfl
  · rw [outsAt0_B m c t h0]; frame_out; exact canon_band _ _ _ _ l r rfl

/-- A tap reads the scratch at a shifted row: the block's own rows, or the rows before them. -/
theorem tap (t : Fin cfg0.N) (o k : ℕ) (ho : o = 5 + k) (hk : k < 4) (head : S8x512.Idx → EReal)
    (hh : ∀ (j : Fin 8) (l : Fin 512), 5 ≤ j.val → head (ix2 j l) = padded (a0 m c) (t.val * 1024 + j.val - 5) l)
    (L : List (View.Piece (Elt Ideal) (⟨2, ![1032, 512]⟩ : Shape) .f32)) (r : Fin 1024) (l : Fin 512)
    (inb : ∀ a : Fin 2, (![o, 0] : Fin 2 → ℕ) a + (![1024, 512] : Fin 2 → ℕ) a ≤ (⟨2, ![1032, 512]⟩ : Shape).size a)
    (i8 : ∀ a : Fin 2, (![8, 0] : Fin 2 → ℕ) a + (![1024, 512] : Fin 2 → ℕ) a ≤ (⟨2, ![1032, 512]⟩ : Shape).size a)
    (i0 : ∀ a : Fin 2, (![0, 0] : Fin 2 → ℕ) a + (![8, 512] : Fin 2 → ℕ) a ≤ (⟨2, ![1032, 512]⟩ : Shape).size a) :
    (View.whole cc0_scratch0).readCov (Val := Elt Ideal)
      (⟨Rect.unit (s := ⟨2, ![1032, 512]⟩) ![8, 0] ![1024, 512] i8, k0_pay5 (X0_0 m c t)⟩
        :: ⟨Rect.unit (s := ⟨2, ![1032, 512]⟩) ![0, 0] ![8, 512] i0, head⟩ :: L)
      (Rect.unit (s := ⟨2, ![1032, 512]⟩) ![o, 0] ![1024, 512] inb).toLoadRect (ix2 r l)
      = padded (a0 m c) (t.val * 1024 + r.val + k) l := by
  have ht : t.val < 8 := t.isLt
  have hr := r.isLt
  rw [View.readCov_eq_canon']; beta_reduce; rw [band_idx inb r l (by omega)]
  by_cases h : 3 ≤ r.val + k
  · rw [canon_band i8 _ _ _ l ⟨r.val + k - 3, by omega⟩ (by show o + r.val = 8 + (r.val + k - 3); omega), blk_u]
    congr 1; dsimp only; omega
  · rw [canon_off i8 _ _ _ l (by left; show o + r.val < 8; omega),
      canon_band i0 _ _ _ l ⟨o + r.val, by omega⟩ (by show o + r.val = 0 + (o + r.val); omega), hh _ _ (by show 5 ≤ o + r.val; omega)]
    congr 1; dsimp only; omega

/-- The pre-activation's payload, its loads read. -/
theorem pay_pre (R : ℕ) (r : Fin 1024) (l : Fin 512) (b w0 w1 w2 w3 : S1x512.Idx → EReal) (d0 d1 d2 d3 : S1024x512.Idx → EReal)
    (eb : b (ix2 0 l) = a2 m c (ix2 0 l)) (e0 : w0 (ix2 0 l) = a1 m c (ix3 0 0 l)) (e1 : w1 (ix2 0 l) = a1 m c (ix3 0 1 l))
    (e2 : w2 (ix2 0 l) = a1 m c (ix3 0 2 l)) (e3 : w3 (ix2 0 l) = a1 m c (ix3 0 3 l))
    (f0 : d0 (ix2 r l) = padded (a0 m c) (R + 0) l) (f1 : d1 (ix2 r l) = padded (a0 m c) (R + 1) l)
    (f2 : d2 (ix2 r l) = padded (a0 m c) (R + 2) l) (f3 : d3 (ix2 r l) = padded (a0 m c) (R + 3) l) :
    (k0_pay1 (F := Ideal) (k0_pay6 b w0 d0 w1 d1) (k0_pay7 w2) d2 w3 d3 : S1024x512.Idx → EReal) (ix2 r l)
      = preact (a0 m c) (a1 m c) (a2 m c) R l := by
  pointwise [k0_pay1, k0_pay6, k0_pay7]
  rw [eb, e0, e1, e2, e3, f0, f1, f2, f3, preact]
  simp only [add_zero, Nat.add_zero, mul_comm (a1 m c _)]
  ac_rfl

/-- The silu's payload from the pre-activation's. -/
theorem pay_act (p : EReal) (r : Fin 1024) (l : Fin 512) (A : S1024x512.Idx → EReal) (w2 w3 : S1x512.Idx → EReal) (d2 d3 : S1024x512.Idx → EReal)
    (h : (k0_pay1 (F := Ideal) A w2 d2 w3 d3 : S1024x512.Idx → EReal) (ix2 r l) = p) :
    (k0_pay2 (F := Ideal) A w2 d2 w3 d3 : S1024x512.Idx → EReal) (ix2 r l) = silu p := by
  subst h
  pointwise [k0_pay2]
  simp only [zero_sub]
  rfl

/-- The eight rows before the first block are zeros. -/
theorem head_A (t : Fin cfg0.N) (h0 : t.val % 8 = 0) (j : Fin 8) (l : Fin 512) (hj : 5 ≤ j.val) :
    (k0_pay4 (F := Ideal) ((View.whole cc0_scratch0).readCov (Val := Elt Ideal)
      [⟨Rect.unit (s := ⟨2, ![1032, 512]⟩) ![0, 0] ![1032, 512] inb_S1032x512_S1032x512_0_0, k0_pay3 (F := Ideal)⟩]
      (Rect.unit (s := ⟨2, ![1032, 512]⟩) ![1024, 0] ![8, 512] inb_S1032x512_S8x512_1024_0).toLoadRect) : S8x512.Idx → EReal) (ix2 j l)
      = padded (a0 m c) (t.val * 1024 + j.val - 5) l := by
  have ht : t.val < 8 := t.isLt
  have hl := j.isLt
  have p4 : ∀ (X : S8x512.Idx → EReal), (k0_pay4 (F := Ideal) X : S8x512.Idx → EReal) (ix2 j l) = X (ix2 j l) := by
    intro X; pointwise [k0_pay4]
  rw [padded, dif_neg (by omega), p4, View.readCov_eq_canon']; beta_reduce
  rw [band_idx inb_S1032x512_S8x512_1024_0 j l (by omega), canon_band inb_S1032x512_S1032x512_0_0 _ _ _ l ⟨1024 + j.val, by omega⟩ (Nat.zero_add _).symm]
  pointwise [k0_pay3]
/-- The eight rows before a later block are the last of the block before it. -/
theorem head_B (t : Fin cfg0.N) (h0 : ¬t.val % 8 = 0) (j : Fin 8) (l : Fin 512) (hj : 5 ≤ j.val) :
    (k0_pay4 (F := Ideal) (View.ld (Val := Elt Ideal) ((outsAt0 m c (t.val - 1) (by have := t.isLt; omega)).2.2 : S1032x512.Idx → EReal)
      (Rect.unit (s := ⟨2, ![1032, 512]⟩) ![1024, 0] ![8, 512] inb_S1032x512_S8x512_1024_0)) : S8x512.Idx → EReal) (ix2 j l)
      = padded (a0 m c) (t.val * 1024 + j.val - 5) l := by
  have ht : t.val < 8 := t.isLt
  have hl := j.isLt
  have p4 : ∀ (X : S8x512.Idx → EReal), (k0_pay4 (F := Ideal) X : S8x512.Idx → EReal) (ix2 j l) = X (ix2 j l) := by
    intro X; pointwise [k0_pay4]
  rw [p4]
  refine (congrArg (outsAt0 m c (t.val - 1) (by have := t.isLt; omega)).2.2 (band_idx inb_S1032x512_S8x512_1024_0 j l (by omega))).trans ?_
  have e : (⟨1024 + j.val, by omega⟩ : Fin 1032) = ⟨8 + (1016 + j.val), by omega⟩ := Fin.ext (by dsimp only; omega)
  rw [e]
  refine (scratch_row m c ⟨t.val - 1, by have := t.isLt; omega⟩ ⟨1016 + j.val, by omega⟩ l).trans ?_
  congr 1; dsimp only; omega

/-! ## The two arrays -/

/-- A block's pre-activation and its silu. -/
theorem out_both (t : Fin cfg0.N) (r : Fin 1024) (l : Fin 512) :
    ((outsAt0 m c t.val t.isLt).1 (ix2 r l) : EReal) = preact (a0 m c) (a1 m c) (a2 m c) (t.val * 1024 + r.val) l
      ∧ ((outsAt0 m c t.val t.isLt).2.1 (ix2 r l) : EReal) = silu (preact (a0 m c) (a1 m c) (a2 m c) (t.val * 1024 + r.val) l) := by
  by_cases h0 : t.val % 8 = 0
  · rw [outsAt0_A m c t h0]
    have hd := head_A m c t h0
    refine ⟨?_, ?_⟩ <;> frame_out
    · exact pay_pre m c _ r l _ _ _ _ _ _ _ _ _ (blk_b m c t l) (w_row m c t 0 l _) (w_row m c t 1 l _) (w_row m c t 2 l _) (w_row m c t 3 l _)
        (tap m c t 5 0 rfl (by decide) _ hd _ r l _ _ _) (tap m c t 6 1 rfl (by decide) _ hd _ r l _ _ _)
        (tap m c t 7 2 rfl (by decide) _ hd _ r l _ _ _) (tap m c t 8 3 rfl (by decide) _ hd _ r l _ _ _)
    · exact pay_act _ r l _ _ _ _ _ (pay_pre m c _ r l _ _ _ _ _ _ _ _ _ (blk_b m c t l) (w_row m c t 0 l _) (w_row m c t 1 l _) (w_row m c t 2 l _)
        (w_row m c t 3 l _) (tap m c t 5 0 rfl (by decide) _ hd _ r l _ _ _) (tap m c t 6 1 rfl (by decide) _ hd _ r l _ _ _)
        (tap m c t 7 2 rfl (by decide) _ hd _ r l _ _ _) (tap m c t 8 3 rfl (by decide) _ hd _ r l _ _ _))
  · rw [outsAt0_B m c t h0]
    have hd := head_B m c t h0
    refine ⟨?_, ?_⟩ <;> frame_out <;> rw [read_unread_whole]
    · exact pay_pre m c _ r l _ _ _ _ _ _ _ _ _ (blk_b m c t l) (w_row m c t 0 l _) (w_row m c t 1 l _) (w_row m c t 2 l _) (w_row m c t 3 l _)
        (tap m c t 5 0 rfl (by decide) _ hd _ r l _ _ _) (tap m c t 6 1 rfl (by decide) _ hd _ r l _ _ _)
        (tap m c t 7 2 rfl (by decide) _ hd _ r l _ _ _) (tap m c t 8 3 rfl (by decide) _ hd _ r l _ _ _)
    · exact pay_act _ r l _ _ _ _ _ (pay_pre m c _ r l _ _ _ _ _ _ _ _ _ (blk_b m c t l) (w_row m c t 0 l _) (w_row m c t 1 l _) (w_row m c t 2 l _)
        (w_row m c t 3 l _) (tap m c t 5 0 rfl (by decide) _ hd _ r l _ _ _) (tap m c t 6 1 rfl (by decide) _ hd _ r l _ _ _)
        (tap m c t 7 2 rfl (by decide) _ hd _ r l _ _ _) (tap m c t 8 3 rfl (by decide) _ hd _ r l _ _ _))

/-- The pre-activation. -/
theorem arr_pre : (dats m 0 c).arrAt 3 cfg0.N = fun i : S8192x512.Idx => preact (a0 m c) (a1 m c) (a2 m c) (i 0).val (i 1) := by
  refine (dats m 0 c).arrAt_eq_of_covers 3 _ (by decide +kernel) fun t hf y => ?_
  have e0 : ((win0_3.blk t).view.emb y 0).val = t.val * 1024 + (y 0).val := by
    have h0 : win0_3.index t 0 = t.val := congrFun (idx0 t).2.1 0
    blk_simp
    rw [h0]
  have e1 : (win0_3.blk t).view.emb y 1 = y 1 := by
    refine Fin.ext ?_
    have h1 : win0_3.index t 1 = 0 := congrFun (idx0 t).2.1 1
    blk_simp
    omega
  beta_reduce
  rw [after0_3, e0, e1]
  exact (congrArg _ (eq_ix2 y)).trans (out_both m c t (y 0) (y 1)).1
/-- The silu. -/
theorem arr_act : (dats m 0 c).arrAt 4 cfg0.N = fun i : S8192x512.Idx => silu (preact (a0 m c) (a1 m c) (a2 m c) (i 0).val (i 1)) := by
  refine (dats m 0 c).arrAt_eq_of_covers 4 _ (by decide +kernel) fun t hf y => ?_
  have e0 : ((win0_4.blk t).view.emb y 0).val = t.val * 1024 + (y 0).val := by
    have h0 : win0_4.index t 0 = t.val := congrFun (idx0 t).2.2 0
    blk_simp
    rw [h0]
  have e1 : (win0_4.blk t).view.emb y 1 = y 1 := by
    refine Fin.ext ?_
    have h1 : win0_4.index t 1 = 0 := congrFun (idx0 t).2.2 1
    blk_simp
    omega
  beta_reduce
  rw [after0_4, e0, e1]
  exact (congrArg _ (eq_ix2 y)).trans (out_both m c t (y 0) (y 1)).2

end Cert.Kernel4Ideal.ConvVal

namespace Cert.ConvFwd
open Idealize.ShloMosaic Idealize.ShloMosaic.TcCoe Idealize.SL.Sem
open Cert.Reference4Ideal Cert.Reference4Ideal.Read
open Cert.Conv (padded preact silu)
open Cert.Kernel4Ideal.ConvVal (a0 a1 a2 arr_pre arr_act)
open Cert.Kernel4Ideal.Gen (dats)

/-! ## The reference's lines -/

section
variable (x0 : (⟨S1x8192x3592, .f32⟩ : BufTy).Contents (Elt Ideal)) (x1 : (⟨S1x4x512, .f32⟩ : BufTy).Contents (Elt Ideal))
  (x2 : (⟨S1x512, .f32⟩ : BufTy).Contents (Elt Ideal))

/-- The padded input. -/
theorem rd_padded (J : Fin 8195) (l : Fin 512) : val_main_v8 x0 (ix2 J l) = padded x0 J.val l := by
  pointwise [val_main_v8, val_main_v7, val_main_cst, val_main_v4, val_main_v3, val_main_v2, val_main_v1, val_main_v0]
  unfold padded
  have := J.isLt
  by_cases hJ : J.val < 3
  · rw [dif_pos hJ, dif_neg (by omega)]
  · rw [dif_neg hJ, dif_pos (by omega : 3 ≤ J.val ∧ J.val < 8195)]
    split_ifs <;> first | rfl | (congr 2; exact Fin.ext (by simp only []; omega))

/-- The pre-activation. -/
theorem rd_pre (R : Fin 8192) (l : Fin 512) : val_main_v38 x0 x1 x2 (ix2 R l) = preact x0 x1 x2 R.val l := by
  pointwise [val_main_v38, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9, val_main_v6,
    val_main_v5]
  simp only [rd_padded, preact, Nat.add_comm R.val]
/-- The silu. -/
theorem rd_act (R : Fin 8192) (l : Fin 512) : val_main_v39 x0 x1 x2 (ix2 R l) = silu (preact x0 x1 x2 R.val l) := by
  pointwise [val_main_v39, val_main_call0_v5, val_main_call0_v4, val_main_call0_v3, val_main_call0_v2, val_main_call0_v1,
    val_main_call0_v0, val_main_call0_cst, val_main_call0_cst_0]
  rw [rd_pre]
  rfl
end

/-- The reference runs, leaves its arguments as they were and every counter at zero. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

section
variable (m : (ℓ : Loc Cert.Kernel4Ideal.nD Cert.Kernel4Ideal.τ Cert.Kernel4Ideal.sig) → Buf (Elt Ideal) ℓ) (c : Dev Cert.Kernel4Ideal.nD)

/-- The pre-activations agree. -/
theorem agree_pre : val_main_v38 (F := Ideal) (a0 m c) (a1 m c) (a2 m c) = (dats m 0 c).arrAt 3 Cert.Kernel4Ideal.cfg0.N := by
  rw [arr_pre]
  funext i
  exact (congrArg _ (eq_ix2 i)).trans (rd_pre _ _ _ (i 0) (i 1))
/-- The silus agree. -/
theorem agree_act : val_main_v39 (F := Ideal) (a0 m c) (a1 m c) (a2 m c) = (dats m 0 c).arrAt 4 Cert.Kernel4Ideal.cfg0.N := by
  rw [arr_act]
  funext i
  exact (congrArg _ (eq_ix2 i)).trans (rd_act _ _ _ (i 0) (i 1))
end

/-- The kernel and reference.py's lines leave the same two arrays. -/
theorem algebraic : Cert.algebraic_Kernel4Ideal_Reference4Ideal := by
  intro m g m' g' _ hargs
  refine ⟨fun c => (dats m 0 c).arrAt 3 Cert.Kernel4Ideal.cfg0.N, fun c => (dats m 0 c).arrAt 4 Cert.Kernel4Ideal.cfg0.N,
    Cert.Kernel4Ideal.Value.run_blocks m g, ?_⟩
  refine (θ_run Cert.Reference4Ideal.defs _ _).mono (fun r h c => ?_) (Cert.Reference4Ideal.Value.run (F := Ideal) m' g')
  obtain ⟨e0, e1, e2⟩ := hargs c
  obtain ⟨h0, h1, hk⟩ := h c
  refine ⟨h0.trans ?_, h1.trans ?_, hk⟩
  · rw [val_main_v38_eq, e0, e1, e2]; exact agree_pre m c
  · rw [val_main_v39_eq, e0, e1, e2]; exact agree_act m c

end Cert.ConvFwd
end
-- ==== Proof.Fwd.Norm.lean ====
/-
  The LayerNorm of a row over the extended reals, by the two programs' own operations: nothing has to be finite for the
  two to agree.
-/
module

public import Idealize.ShloMosaic.Lib.Pointwise

@[expose] public section
noncomputable section
namespace Cert.Norm
open Idealize.ShloMosaic

/-- A residual's row: `ALPHA` times the row `x`, plus the product `p`. -/
def res (x p : EReal) : EReal := Ideal.ofBits .f32 0x3F9837F0#32 * x + p
/-- The row minus its mean. -/
def ctr (z : Fin 1024 → EReal) (l : Fin 1024) : EReal := z l - Ideal.div (∑ j, z j) (Ideal.ofBits .f32 0x44800000#32)
/-- The reciprocal root of the variance with its offset. -/
def rs (z : Fin 1024 → EReal) : EReal :=
  Ideal.rsqrt (Ideal.div (∑ j, ctr z j * ctr z j) (Ideal.ofBits .f32 0x44800000#32) + Ideal.ofBits .f32 0x3727C5AC#32)
/-- The normalised row. -/
def xh (z : Fin 1024 → EReal) (l : Fin 1024) : EReal := ctr z l * rs z
/-- The normalised row times the gain `g`, plus the offset `b`. -/
def out (z : Fin 1024 → EReal) (g b : EReal) (l : Fin 1024) : EReal := xh z l * g + b

end Cert.Norm
end
-- ==== Proof.Fwd.Mix.lean ====
/-
  The forward call of the mixers' output projection and the first LayerNorm, block by block of 1024 rows, and the reference's
  lines at the same position. The formulas are over the extended reals, so no argument has to be finite.
-/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Fwd.Norm
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise

@[expose] public section
set_option maxRecDepth 16384
noncomputable section
namespace Cert.Mix
open Idealize.ShloMosaic

/-- A channel of the first mixer, and of the second. -/
abbrev lo (k : Fin 512) : Fin 1024 := ⟨k.val, by omega⟩
abbrev hi (k : Fin 512) : Fin 1024 := ⟨512 + k.val, by omega⟩

/-- A sum over the channels is the sum of the two mixers' sums. -/
theorem sum_halves (F : Fin 1024 → EReal) : ∑ k : Fin 512, F (lo k) + ∑ k : Fin 512, F (hi k) = ∑ j, F j :=
  (Fin.sum_univ_add (a := 512) (b := 512) F).symm

/-- The first residual's row. -/
def r (o x : (⟨2, ![8192, 1024]⟩ : Shape).Idx → EReal) (w : (⟨3, ![1, 1024, 1024]⟩ : Shape).Idx → EReal) (R : Fin 8192) (l : Fin 1024) : EReal :=
  Cert.Norm.res (x (ix2 R l)) (∑ k : Fin 1024, o (ix2 R k) * w (ix3 0 k l))

end Cert.Mix

namespace Cert.Kernel5Ideal.MixVal
open Cert.Kernel5Ideal Cert.Kernel5Ideal.Gen Idealize.ShloMosaic Idealize.ShloMosaic.TcCoe Idealize.SL.Sem
open Idealize.ShloMosaic.Pipeline (Dat)
open Cert.Mix (r)
open Cert.Norm
variable (m : (ℓ : Loc nD τ sig) → Buf (Elt Ideal) ℓ) (c : Dev nD)

/-- The arguments: the mixers' outputs, the input, the weights, the gain and the offset. -/
abbrev a0 : S8192x1024.Idx → EReal := m ((c : Thread nD τ).loc main_arg0)
abbrev a1 : S8192x1024.Idx → EReal := m ((c : Thread nD τ).loc main_arg1)
abbrev a2 : S1x1024x1024.Idx → EReal := m ((c : Thread nD τ).loc main_arg2)
abbrev a3 : S1x1024.Idx → EReal := m ((c : Thread nD τ).loc main_arg3)
abbrev a4 : S1x1024.Idx → EReal := m ((c : Thread nD τ).loc main_arg4)

/-! ## The arrays the host writes -/

/-- The first mixer's columns. -/
theorem V_lo (R : Fin 8192) (k : Fin 512) : (V m c main_v1 : S8192x512.Idx → EReal) (ix2 R k) = a0 m c (ix2 R (Cert.Mix.lo k)) := by
  unfold V
  simp only [hostOps0, List.flatten_cons, List.flatten_nil, List.append_nil, List.cons_append, List.nil_append]
  after_results
  clean_types
  pointwise
/-- The second mixer's. -/
theorem V_hi (R : Fin 8192) (k : Fin 512) : (V m c main_v2 : S8192x512.Idx → EReal) (ix2 R k) = a0 m c (ix2 R (Cert.Mix.hi k)) := by
  unfold V
  simp only [hostOps0, List.flatten_cons, List.flatten_nil, List.append_nil, List.cons_append, List.nil_append]
  after_results
  clean_types
  pointwise
/-- The weights without the leading axis. -/
theorem V_w (k l : Fin 1024) : (V m c main_v4 : S1024x1024.Idx → EReal) (ix2 k l) = a2 m c (ix3 0 k l) := by
  unfold V
  simp only [hostOps0, List.flatten_cons, List.flatten_nil, List.append_nil, List.cons_append, List.nil_append]
  after_results
  clean_types
  pointwise

/-! ## A grid point's blocks -/

/-- Which block each window is on. -/
theorem idx0 : ∀ t : Fin cfg0.N, ((win0_0.index t = ![t.val, 0] ∧ win0_1.index t = ![t.val, 0] ∧ win0_2.index t = ![t.val, 0])
    ∧ win0_3.index t = ![0, 0] ∧ win0_4.index t = ![0, 0] ∧ win0_5.index t = ![0, 0])
    ∧ win0_6.index t = ![t.val, 0] ∧ win0_7.index t = ![t.val, 0] ∧ win0_8.index t = ![t.val, 0] ∧ win0_9.index t = ![t.val, 0] :=
  (by decide +kernel : ∀ t : Fin grid0.N, ((win0_0.index t = ![t.val, 0] ∧ win0_1.index t = ![t.val, 0] ∧ win0_2.index t = ![t.val, 0])
    ∧ win0_3.index t = ![0, 0] ∧ win0_4.index t = ![0, 0] ∧ win0_5.index t = ![0, 0])
    ∧ win0_6.index t = ![t.val, 0] ∧ win0_7.index t = ![t.val, 0] ∧ win0_8.index t = ![t.val, 0] ∧ win0_9.index t = ![t.val, 0])

/-- A block's row in the array. -/
def row (t : ℕ) (ht : t < 8) (i : Fin 1024) : Fin 8192 := ⟨t * 1024 + i.val, by omega⟩

variable (t : Fin cfg0.N) (i l : Fin 1024) (k : Fin 512)

theorem blk_lo : (iblk m c 0 t : S1024x512.Idx → EReal) (ix2 i k) = a0 m c (ix2 (row t.val t.isLt i) (Cert.Mix.lo k)) := by
  rw [← V_lo m c]; unfold row; blk_ext [iblk, (idx0 t).1.1.1]
theorem blk_hi : (iblk m c 1 t : S1024x512.Idx → EReal) (ix2 i k) = a0 m c (ix2 (row t.val t.isLt i) (Cert.Mix.hi k)) := by
  rw [← V_hi m c]; unfold row; blk_ext [iblk, (idx0 t).1.1.2.1]
theorem blk_x : (iblk m c 2 t : S1024x1024.Idx → EReal) (ix2 i l) = a1 m c (ix2 (row t.val t.isLt i) l) := by
  unfold a1; rw [← V_main_arg1 m c]; unfold row; blk_ext [iblk, (idx0 t).1.1.2.2]
theorem blk_w (j : Fin 1024) : (iblk m c 3 t : S1024x1024.Idx → EReal) (ix2 j l) = a2 m c (ix3 0 j l) := by
  rw [← V_w m c]; blk_ext [iblk, (idx0 t).1.2.1]
theorem blk_g : (iblk m c 4 t : S1x1024.Idx → EReal) (ix2 0 l) = a3 m c (ix2 0 l) := by
  unfold a3; rw [← V_main_arg3 m c]; blk_ext [iblk, (idx0 t).1.2.2.1]
theorem blk_b : (iblk m c 5 t : S1x1024.Idx → EReal) (ix2 0 l) = a4 m c (ix2 0 l) := by
  unfold a4; rw [← V_main_arg4 m c]; blk_ext [iblk, (idx0 t).1.2.2.2]

/-- The residual's row of a block's row. -/
abbrev z : Fin 1024 → EReal := r (a0 m c) (a1 m c) (a2 m c) (row t.val t.isLt i)

/-- The residual's row from its two halves. -/
theorem row_halves : Ideal.ofBits .f32 0x3F9837F0#32 * a1 m c (ix2 (row t.val t.isLt i) l)
    + (∑ k, a0 m c (ix2 (row t.val t.isLt i) (Cert.Mix.lo k)) * a2 m c (ix3 0 (Cert.Mix.lo k) l)
      + ∑ k, a0 m c (ix2 (row t.val t.isLt i) (Cert.Mix.hi k)) * a2 m c (ix3 0 (Cert.Mix.hi k) l)) = z m c t i l := by
  rw [Cert.Mix.sum_halves fun j => a0 m c (ix2 (row t.val t.isLt i) j) * a2 m c (ix3 0 j l)]
  rfl

/-- The centred row of a block. -/
theorem pay_ctr : (k0_pay3 (F := Ideal) (iblk m c 0 t) (View.ld (iblk m c 3 t) r0_1) (iblk m c 1 t) (View.ld (iblk m c 3 t) r0_2) (iblk m c 2 t)
    : S1024x1024.Idx → EReal) (ix2 i l) = ctr (z m c t i) l := by
  pointwise [k0_pay3]
  simp only [blk_lo, blk_hi, blk_x, blk_w]
  simp only [row_halves]
  rfl
/-- The reciprocal root. -/
theorem pay_rs : (k0_pay4 (F := Ideal) (iblk m c 0 t) (View.ld (iblk m c 3 t) r0_1) (iblk m c 1 t) (View.ld (iblk m c 3 t) r0_2) (iblk m c 2 t)
    : S1024x1.Idx → EReal) (ix2 i 0) = rs (z m c t i) := by
  pointwise [k0_pay4]
  simp only [pay_ctr]
  rfl
/-- The normalised row. -/
theorem pay_xh : (k0_pay5 (F := Ideal) (iblk m c 0 t) (View.ld (iblk m c 3 t) r0_1) (iblk m c 1 t) (View.ld (iblk m c 3 t) r0_2) (iblk m c 2 t)
    : S1024x1024.Idx → EReal) (ix2 i l) = xh (z m c t i) l := by
  pointwise [k0_pay5]
  rw [pay_ctr, pay_rs]
  rfl
/-- The LayerNorm's row. -/
theorem pay_out : (k0_pay6 (F := Ideal) (iblk m c 0 t) (View.ld (iblk m c 3 t) r0_1) (iblk m c 1 t) (View.ld (iblk m c 3 t) r0_2) (iblk m c 2 t)
    (iblk m c 4 t) (iblk m c 5 t) : S1024x1024.Idx → EReal) (ix2 i l) = out (z m c t i) (a3 m c (ix2 0 l)) (a4 m c (ix2 0 l)) l := by
  pointwise [k0_pay6]
  rw [pay_xh, blk_g, blk_b]
  rfl

/-! ## The four arrays -/

/-- The first LayerNorm. -/
theorem arr_out : (dats m 0 c).arrAt 6 cfg0.N
    = fun i : S8192x1024.Idx => out (r (a0 m c) (a1 m c) (a2 m c) (i 0)) (a3 m c (ix2 0 (i 1))) (a4 m c (ix2 0 (i 1))) (i 1) := by
  refine (dats m 0 c).arrAt_eq_of_covers 6 _ (by decide +kernel) fun t hf y => ?_
  have e0 : (win0_6.blk t).view.emb y 0 = row t.val t.isLt (y 0) := by
    refine Fin.ext ?_
    have h0 : win0_6.index t 0 = t.val := congrFun (idx0 t).2.1 0
    blk_simp
    rw [h0]; rfl
  have e1 : (win0_6.blk t).view.emb y 1 = y 1 := by
    refine Fin.ext ?_
    have h1 : win0_6.index t 1 = 0 := congrFun (idx0 t).2.1 1
    blk_simp
    omega
  beta_reduce
  rw [after0_6, e0, e1]
  unfold out0_6 k0_pay7
  frame_out
  exact (congrArg _ (eq_ix2 y)).trans (pay_out m c t (y 0) (y 1))
/-- The normalised rows. -/
theorem arr_xh : (dats m 0 c).arrAt 7 cfg0.N = fun i : S8192x1024.Idx => xh (r (a0 m c) (a1 m c) (a2 m c) (i 0)) (i 1) := by
  refine (dats m 0 c).arrAt_eq_of_covers 7 _ (by decide +kernel) fun t hf y => ?_
  have e0 : (win0_7.blk t).view.emb y 0 = row t.val t.isLt (y 0) := by
    refine Fin.ext ?_
    have h0 : win0_7.index t 0 = t.val := congrFun (idx0 t).2.2.1 0
    blk_simp
    rw [h0]; rfl
  have e1 : (win0_7.blk t).view.emb y 1 = y 1 := by
    refine Fin.ext ?_
    have h1 : win0_7.index t 1 = 0 := congrFun (idx0 t).2.2.1 1
    blk_simp
    omega
  beta_reduce
  rw [after0_7, e0, e1]
  unfold out0_7
  frame_out
  pointwise [k0_pay2]
  exact (congrArg _ (eq_ix2 y)).trans (pay_xh m c t (y 0) (y 1))
/-- The reciprocal roots. -/
theorem arr_rs : (dats m 0 c).arrAt 8 cfg0.N = fun i : S8192x1.Idx => rs (r (a0 m c) (a1 m c) (a2 m c) (i 0)) := by
  refine (dats m 0 c).arrAt_eq_of_covers 8 _ (by decide +kernel) fun t hf y => ?_
  have e0 : (win0_8.blk t).view.emb y 0 = row t.val t.isLt (y 0) := by
    refine Fin.ext ?_
    have h0 : win0_8.index t 0 = t.val := congrFun (idx0 t).2.2.2.1 0
    blk_simp
    rw [h0]; rfl
  beta_reduce
  rw [after0_8, e0]
  unfold out0_8
  frame_out
  have hy : y = ix2 (y 0) 0 := (eq_ix2 y).trans (congrArg (fun z : Fin 1 => ix2 (y 0) z) (Subsingleton.elim _ _))
  exact (congrArg _ hy).trans (pay_rs m c t (y 0))
/-- The first LayerNorm again, rounded. -/
theorem arr_low : (dats m 0 c).arrAt 9 cfg0.N
    = fun i : S8192x1024.Idx => out (r (a0 m c) (a1 m c) (a2 m c) (i 0)) (a3 m c (ix2 0 (i 1))) (a4 m c (ix2 0 (i 1))) (i 1) := by
  refine (dats m 0 c).arrAt_eq_of_covers 9 _ (by decide +kernel) fun t hf y => ?_
  have e0 : (win0_9.blk t).view.emb y 0 = row t.val t.isLt (y 0) := by
    refine Fin.ext ?_
    have h0 : win0_9.index t 0 = t.val := congrFun (idx0 t).2.2.2.2 0
    blk_simp
    rw [h0]; rfl
  have e1 : (win0_9.blk t).view.emb y 1 = y 1 := by
    refine Fin.ext ?_
    have h1 : win0_9.index t 1 = 0 := congrFun (idx0 t).2.2.2.2 1
    blk_simp
    omega
  beta_reduce
  rw [after0_9, e0, e1]
  unfold out0_9 k0_pay7
  frame_out
  pointwise [k0_pay1]
  exact (congrArg _ (eq_ix2 y)).trans (pay_out m c t (y 0) (y 1))

end Cert.Kernel5Ideal.MixVal

namespace Cert.Mix
open Idealize.ShloMosaic Idealize.ShloMosaic.TcCoe Idealize.SL.Sem
open Cert.Reference5Ideal Cert.Reference5Ideal.Read Cert.Norm
open Cert.Kernel5Ideal.MixVal (a0 a1 a2 a3 a4 arr_out arr_xh arr_rs arr_low)
open Cert.Kernel5Ideal.Gen (dats)

/-! ## The reference's lines -/

section
variable (x0 x1 : (⟨S8192x1024, .f32⟩ : BufTy).Contents (Elt Ideal))
  (x2 : (⟨S1x1024x1024, .f32⟩ : BufTy).Contents (Elt Ideal)) (x3 x4 : (⟨S1x1024, .f32⟩ : BufTy).Contents (Elt Ideal)) (R : Fin 8192) (l : Fin 1024)

/-- The residual's row. -/
theorem rd_r : val_main_v4 x0 x1 x2 (ix2 R l) = r x0 x1 x2 R l := by
  pointwise [val_main_v4, val_main_v3, val_main_v2, val_main_v1, val_main_v0, val_main_cst]
  rfl
/-- The centred row, as the variance reads it. -/
theorem rd_ctr : val_main_v12 x0 x1 x2 (ix2 R l) = ctr (r x0 x1 x2 R) l := by
  pointwise [val_main_v12, val_main_v11, val_main_v10, val_main_v9, val_main_v8, val_main_v7, val_main_cst_0, val_main_cst_1]
  simp only [rd_r]
  rfl
/-- The reciprocal root. -/
theorem rd_rs : val_main_v20 x0 x1 x2 (ix2 R 0) = rs (r x0 x1 x2 R) := by
  pointwise [val_main_v20, val_main_v19, val_main_v18, val_main_v17, val_main_v16, val_main_v15, val_main_v14, val_main_v13, val_main_cst_2, val_main_cst_3, val_main_cst_4]
  simp only [rd_ctr]
  rfl
/-- The normalised row. -/
theorem rd_xh : val_main_v24 x0 x1 x2 (ix2 R l) = xh (r x0 x1 x2 R) l := by
  have e : val_main_v22 x0 x1 x2 (ix2 R l) = ctr (r x0 x1 x2 R) l := by
    rw [← rd_ctr]
    pointwise [val_main_v22, val_main_v21, val_main_v12, val_main_v11]
  pointwise [val_main_v24, val_main_v23]
  rw [e, rd_rs]
  rfl
/-- The LayerNorm's row. -/
theorem rd_out : val_main_v30 x0 x1 x2 x3 x4 (ix2 R l) = out (r x0 x1 x2 R) (x3 (ix2 0 l)) (x4 (ix2 0 l)) l := by
  pointwise [val_main_v30, val_main_v29, val_main_v28, val_main_v27, val_main_v26, val_main_v25, val_main_v6, val_main_v5]
  rw [rd_xh]
  rfl
end

/-- The reference runs, leaves its arguments as they were and every counter at zero. -/
theorem frame_reference : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

section
variable (m : (ℓ : Loc Cert.Kernel5Ideal.nD Cert.Kernel5Ideal.τ Cert.Kernel5Ideal.sig) → Buf (Elt Ideal) ℓ) (c : Dev Cert.Kernel5Ideal.nD)

/-- The LayerNorms agree. -/
theorem agree_out : val_main_v30 (F := Ideal) (a0 m c) (a1 m c) (a2 m c) (a3 m c) (a4 m c) = (dats m 0 c).arrAt 6 Cert.Kernel5Ideal.cfg0.N := by
  rw [arr_out]
  funext i
  exact (congrArg _ (eq_ix2 i)).trans (rd_out _ _ _ _ _ (i 0) (i 1))
/-- The normalised rows agree. -/
theorem agree_xh : val_main_v31 (F := Ideal) (a0 m c) (a1 m c) (a2 m c) = (dats m 0 c).arrAt 7 Cert.Kernel5Ideal.cfg0.N := by
  rw [arr_xh]
  funext i
  pointwise [val_main_v31]
  exact (congrArg _ (eq_ix2 i)).trans (rd_xh _ _ _ (i 0) (i 1))
/-- The reciprocal roots agree. -/
theorem agree_rs : val_main_v20 (F := Ideal) (a0 m c) (a1 m c) (a2 m c) = (dats m 0 c).arrAt 8 Cert.Kernel5Ideal.cfg0.N := by
  rw [arr_rs]
  funext i
  have hi : i = ix2 (i 0) 0 := (eq_ix2 i).trans (congrArg (fun z : Fin 1 => ix2 (i 0) z) (Subsingleton.elim _ _))
  exact (congrArg _ hi).trans (rd_rs _ _ _ (i 0))
/-- The rounded LayerNorms agree. -/
theorem agree_low : val_main_v32 (F := Ideal) (a0 m c) (a1 m c) (a2 m c) (a3 m c) (a4 m c) = (dats m 0 c).arrAt 9 Cert.Kernel5Ideal.cfg0.N := by
  rw [arr_low]
  funext i
  pointwise [val_main_v32]
  exact (congrArg _ (eq_ix2 i)).trans (rd_out _ _ _ _ _ (i 0) (i 1))
end

/-- The kernel and reference.py's lines leave the same four arrays. -/
theorem algebraic : Cert.algebraic_Kernel5Ideal_Reference5Ideal := by
  intro m g m' g' _ hargs
  refine ⟨fun c => (dats m 0 c).arrAt 6 Cert.Kernel5Ideal.cfg0.N, fun c => (dats m 0 c).arrAt 7 Cert.Kernel5Ideal.cfg0.N,
    fun c => (dats m 0 c).arrAt 8 Cert.Kernel5Ideal.cfg0.N, fun c => (dats m 0 c).arrAt 9 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨e0, e1, e2, e3, e4⟩ := hargs c
  obtain ⟨h0, h1, h2, h3, hk⟩ := h c
  refine ⟨h0.trans ?_, h1.trans ?_, h2.trans ?_, h3.trans ?_, hk⟩
  · rw [val_main_v30_eq, e0, e1, e2, e3, e4]; exact agree_out m c
  · rw [val_main_v31_eq, e0, e1, e2]; exact agree_xh m c
  · rw [val_main_v20_eq, e0, e1, e2]; exact agree_rs m c
  · rw [val_main_v32_eq, e0, e1, e2, e3, e4]; exact agree_low m c

end Cert.Mix
end
-- ==== Proof.Fwd.Up.lean ====
/-
  The SwiGLU's forward call: two products of the LayerNorm's rows and the activation, block by block of 512 rows, and the
  reference's lines at the same position. The formulas are over the extended reals, so no argument has to be finite.
-/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise

@[expose] public section
set_option maxRecDepth 16384
noncomputable section
namespace Cert.Up
open Idealize.ShloMosaic

/-- A row against a column of weights. -/
def prod (x : (⟨2, ![8192, 1024]⟩ : Shape).Idx → EReal) (w : (⟨3, ![1, 1024, 2816]⟩ : Shape).Idx → EReal) (R : Fin 8192) (f : Fin 2816) : EReal :=
  ∑ l : Fin 1024, x (ix2 R l) * w (ix3 0 l f)

/-- The activation of the gate's product `h` times the other product `u`. -/
def act (h u : EReal) : EReal := h * Ideal.div 1 (1 + Ideal.exp (-h)) * u

end Cert.Up

namespace Cert.Kernel6Ideal.UpVal
open Cert.Kernel6Ideal Cert.Kernel6Ideal.Gen Idealize.ShloMosaic Idealize.ShloMosaic.TcCoe Idealize.SL.Sem
open Idealize.ShloMosaic.Pipeline (Dat)
open Cert.Up (prod act)
variable (m : (ℓ : Loc nD τ sig) → Buf (Elt Ideal) ℓ) (c : Dev nD)

/-- The LayerNorm's rows. -/
abbrev a0 : S8192x1024.Idx → EReal := m ((c : Thread nD τ).loc main_arg0)
/-- The gate's weights. -/
abbrev a1 : S1x1024x2816.Idx → EReal := m ((c : Thread nD τ).loc main_arg1)
/-- The other weights. -/
abbrev a2 : S1x1024x2816.Idx → EReal := m ((c : Thread nD τ).loc main_arg2)

/-! ## The arrays the host writes -/

/-- The rows, rounded. -/
theorem V_x (R : Fin 8192) (l : Fin 1024) : (V m c main_v0 : S8192x1024.Idx → EReal) (ix2 R l) = a0 m c (ix2 R l) := by
  unfold V
  simp only [hostOps0, List.flatten_cons, List.flatten_nil, List.append_nil, List.cons_append, List.nil_append]
  after_results
  clean_types
  pointwise
/-- The gate's weights, transposed. -/
theorem V_wg (f : Fin 2816) (l : Fin 1024) : (V m c main_v3 : S2816x1024.Idx → EReal) (ix2 f l) = a1 m c (ix3 0 l f) := by
  unfold V
  simp only [hostOps0, List.flatten_cons, List.flatten_nil, List.append_nil, List.cons_append, List.nil_append]
  after_results
  clean_types
  pointwise
/-- The other weights, transposed. -/
theorem V_wu (f : Fin 2816) (l : Fin 1024) : (V m c main_v6 : S2816x1024.Idx → EReal) (ix2 f l) = a2 m c (ix3 0 l f) := by
  unfold V
  simp only [hostOps0, List.flatten_cons, List.flatten_nil, List.append_nil, List.cons_append, List.nil_append]
  after_results
  clean_types
  pointwise

/-! ## A grid point's blocks -/

/-- Which block each window is on. -/
theorem idx0 : ∀ t : Fin cfg0.N, (win0_0.index t = ![t.val, 0] ∧ win0_1.index t = ![0, 0] ∧ win0_2.index t = ![0, 0])
    ∧ win0_3.index t = ![t.val, 0] ∧ win0_4.index t = ![t.val, 0] ∧ win0_5.index t = ![t.val, 0] :=
  (by decide +kernel : ∀ t : Fin grid0.N, (win0_0.index t = ![t.val, 0] ∧ win0_1.index t = ![0, 0] ∧ win0_2.index t = ![0, 0])
    ∧ win0_3.index t = ![t.val, 0] ∧ win0_4.index t = ![t.val, 0] ∧ win0_5.index t = ![t.val, 0])

/-- A block's row in the array. -/
def row (t : ℕ) (ht : t < 16) (r : Fin 512) : Fin 8192 := ⟨t * 512 + r.val, by omega⟩

theorem blk_x (t : Fin cfg0.N) (r : Fin 512) (l : Fin 1024) :
    (iblk m c 0 t : S512x1024.Idx → EReal) (ix2 r l) = a0 m c (ix2 (row t.val t.isLt r) l) := by
  rw [← V_x m c]; unfold row; blk_ext [iblk, (idx0 t).1.1]
theorem blk_wg (t : Fin cfg0.N) (f : Fin 2816) (l : Fin 1024) :
    (iblk m c 1 t : S2816x1024.Idx → EReal) (ix2 f l) = a1 m c (ix3 0 l f) := by
  rw [← V_wg m c]; blk_ext [iblk, (idx0 t).1.2.1]
theorem blk_wu (t : Fin cfg0.N) (f : Fin 2816) (l : Fin 1024) :
    (iblk m c 2 t : S2816x1024.Idx → EReal) (ix2 f l) = a2 m c (ix3 0 l f) := by
  rw [← V_wu m c]; blk_ext [iblk, (idx0 t).1.2.2]

/-- The gate's product of a block. -/
theorem pay_hg (t : Fin cfg0.N) (r : Fin 512) (f : Fin 2816) :
    (k0_pay2 (F := Ideal) (iblk m c 0 t) (iblk m c 1 t) : S512x2816.Idx → EReal) (ix2 r f) = prod (a0 m c) (a1 m c) (row t.val t.isLt r) f := by
  pointwise [k0_pay2, k0_pay1]
  simp only [blk_x, blk_wg]
  rfl
/-- The other product of a block. -/
theorem pay_up (t : Fin cfg0.N) (r : Fin 512) (f : Fin 2816) :
    (k0_pay3 (F := Ideal) (iblk m c 0 t) (iblk m c 2 t) : S512x2816.Idx → EReal) (ix2 r f) = prod (a0 m c) (a2 m c) (row t.val t.isLt r) f := by
  pointwise [k0_pay3, k0_pay1]
  simp only [blk_x, blk_wu]
  rfl
/-- The activation of a block. -/
theorem pay_act (t : Fin cfg0.N) (r : Fin 512) (f : Fin 2816) :
    (k0_pay6 (F := Ideal) (iblk m c 0 t) (iblk m c 1 t) (iblk m c 2 t) : S512x2816.Idx → EReal) (ix2 r f)
      = act (prod (a0 m c) (a1 m c) (row t.val t.isLt r) f) (prod (a0 m c) (a2 m c) (row t.val t.isLt r) f) := by
  pointwise [k0_pay6]
  simp only [pay_hg, pay_up, zero_sub]
  rfl

/-! ## The three arrays -/

/-- The gate's product. -/
theorem arr_hg : (dats m 0 c).arrAt 3 cfg0.N = fun i : S8192x2816.Idx => prod (a0 m c) (a1 m c) (i 0) (i 1) := by
  refine (dats m 0 c).arrAt_eq_of_covers 3 _ (by decide +kernel) fun t hf y => ?_
  have e0 : (win0_3.blk t).view.emb y 0 = row t.val t.isLt (y 0) := by
    refine Fin.ext ?_
    have h0 : win0_3.index t 0 = t.val := congrFun (idx0 t).2.1 0
    blk_simp
    rw [h0]; rfl
  have e1 : (win0_3.blk t).view.emb y 1 = y 1 := by
    refine Fin.ext ?_
    have h1 : win0_3.index t 1 = 0 := congrFun (idx0 t).2.1 1
    blk_simp
    omega
  beta_reduce
  rw [after0_3, e0, e1]
  unfold out0_3
  frame_out
  pointwise [k0_pay4]
  exact (congrArg _ (eq_ix2 y)).trans (pay_hg m c t (y 0) (y 1))
/-- The other product. -/
theorem arr_up : (dats m 0 c).arrAt 4 cfg0.N = fun i : S8192x2816.Idx => prod (a0 m c) (a2 m c) (i 0) (i 1) := by
  refine (dats m 0 c).arrAt_eq_of_covers 4 _ (by decide +kernel) fun t hf y => ?_
  have e0 : (win0_4.blk t).view.emb y 0 = row t.val t.isLt (y 0) := by
    refine Fin.ext ?_
    have h0 : win0_4.index t 0 = t.val := congrFun (idx0 t).2.2.1 0
    blk_simp
    rw [h0]; rfl
  have e1 : (win0_4.blk t).view.emb y 1 = y 1 := by
    refine Fin.ext ?_
    have h1 : win0_4.index t 1 = 0 := congrFun (idx0 t).2.2.1 1
    blk_simp
    omega
  beta_reduce
  rw [after0_4, e0, e1]
  unfold out0_4
  frame_out
  pointwise [k0_pay5]
  exact (congrArg _ (eq_ix2 y)).trans (pay_up m c t (y 0) (y 1))
/-- The activation. -/
theorem arr_act : (dats m 0 c).arrAt 5 cfg0.N
    = fun i : S8192x2816.Idx => act (prod (a0 m c) (a1 m c) (i 0) (i 1)) (prod (a0 m c) (a2 m c) (i 0) (i 1)) := by
  refine (dats m 0 c).arrAt_eq_of_covers 5 _ (by decide +kernel) fun t hf y => ?_
  have e0 : (win0_5.blk t).view.emb y 0 = row t.val t.isLt (y 0) := by
    refine Fin.ext ?_
    have h0 : win0_5.index t 0 = t.val := congrFun (idx0 t).2.2.2 0
    blk_simp
    rw [h0]; rfl
  have e1 : (win0_5.blk t).view.emb y 1 = y 1 := by
    refine Fin.ext ?_
    have h1 : win0_5.index t 1 = 0 := congrFun (idx0 t).2.2.2 1
    blk_simp
    omega
  beta_reduce
  rw [after0_5, e0, e1]
  unfold out0_5
  frame_out
  exact (congrArg _ (eq_ix2 y)).trans (pay_act m c t (y 0) (y 1))

end Cert.Kernel6Ideal.UpVal

namespace Cert.Up
open Idealize.ShloMosaic Idealize.ShloMosaic.TcCoe Idealize.SL.Sem
open Cert.Reference6Ideal Cert.Reference6Ideal.Read
open Cert.Kernel6Ideal.UpVal (a0 a1 a2 arr_hg arr_up arr_act)
open Cert.Kernel6Ideal.Gen (dats)

/-! ## The reference's lines -/

theorem rd_hg (x0 : (⟨S8192x1024, .f32⟩ : BufTy).Contents (Elt Ideal)) (x1 : (⟨S1x1024x2816, .f32⟩ : BufTy).Contents (Elt Ideal)) (R : Fin 8192) (f : Fin 2816) :
    val_main_v1 x0 x1 (ix2 R f) = prod x0 x1 R f := by
  pointwise [val_main_v1, val_main_v0]
  rfl
theorem rd_up (x0 : (⟨S8192x1024, .f32⟩ : BufTy).Contents (Elt Ideal)) (x2 : (⟨S1x1024x2816, .f32⟩ : BufTy).Contents (Elt Ideal)) (R : Fin 8192) (f : Fin 2816) :
    val_main_v3 x0 x2 (ix2 R f) = prod x0 x2 R f := by
  pointwise [val_main_v3, val_main_v2]
  rfl
theorem rd_act (x0 : (⟨S8192x1024, .f32⟩ : BufTy).Contents (Elt Ideal)) (x1 x2 : (⟨S1x1024x2816, .f32⟩ : BufTy).Contents (Elt Ideal)) (R : Fin 8192) (f : Fin 2816) :
    val_main_v8 x0 x1 x2 (ix2 R f) = act (prod x0 x1 R f) (prod x0 x2 R f) := by
  pointwise [val_main_v8, val_main_v7, val_main_v6, val_main_call0_v5, val_main_call0_v4, val_main_call0_v3, val_main_call0_v2, val_main_call0_v1,
    val_main_call0_v0, val_main_call0_cst, val_main_call0_cst_0]
  rw [rd_hg, rd_up]
  rfl

/-- The reference runs, leaves its arguments as they were and every counter at zero. -/
theorem frame_reference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

section
variable (m : (ℓ : Loc Cert.Kernel6Ideal.nD Cert.Kernel6Ideal.τ Cert.Kernel6Ideal.sig) → Buf (Elt Ideal) ℓ) (c : Dev Cert.Kernel6Ideal.nD)

/-- The gate's products agree. -/
theorem agree_hg : val_main_v4 (F := Ideal) (a0 m c) (a1 m c) = (dats m 0 c).arrAt 3 Cert.Kernel6Ideal.cfg0.N := by
  rw [arr_hg]
  funext i
  pointwise [val_main_v4]
  exact (congrArg _ (eq_ix2 i)).trans (rd_hg _ _ (i 0) (i 1))
/-- The other products agree. -/
theorem agree_up : val_main_v5 (F := Ideal) (a0 m c) (a2 m c) = (dats m 0 c).arrAt 4 Cert.Kernel6Ideal.cfg0.N := by
  rw [arr_up]
  funext i
  pointwise [val_main_v5]
  exact (congrArg _ (eq_ix2 i)).trans (rd_up _ _ (i 0) (i 1))
/-- The activations agree. -/
theorem agree_act : val_main_v8 (F := Ideal) (a0 m c) (a1 m c) (a2 m c) = (dats m 0 c).arrAt 5 Cert.Kernel6Ideal.cfg0.N := by
  rw [arr_act]
  funext i
  exact (congrArg _ (eq_ix2 i)).trans (rd_act _ _ _ (i 0) (i 1))
end

/-- The kernel and reference.py's lines leave the same three arrays. -/
theorem algebraic : Cert.algebraic_Kernel6Ideal_Reference6Ideal := by
  intro m g m' g' _ hargs
  refine ⟨fun c => (dats m 0 c).arrAt 3 Cert.Kernel6Ideal.cfg0.N, fun c => (dats m 0 c).arrAt 4 Cert.Kernel6Ideal.cfg0.N,
    fun c => (dats m 0 c).arrAt 5 Cert.Kernel6Ideal.cfg0.N, Cert.Kernel6Ideal.Value.run_blocks m g, ?_⟩
  refine (θ_run Cert.Reference6Ideal.defs _ _).mono (fun r h c => ?_) (Cert.Reference6Ideal.Value.run (F := Ideal) m' g')
  obtain ⟨e0, e1, e2⟩ := hargs c
  obtain ⟨h0, h1, h2, hk⟩ := h c
  refine ⟨h0.trans ?_, h1.trans ?_, h2.trans ?_, hk⟩
  · rw [val_main_v4_eq, e0, e1]; exact agree_hg m c
  · rw [val_main_v5_eq, e0, e2]; exact agree_up m c
  · rw [val_main_v8_eq, e0, e1, e2]; exact agree_act m c

end Cert.Up
end
-- ==== Proof.Fwd.Down.lean ====
/-
  The forward call of the SwiGLU's last product and the second LayerNorm, block by block of 1024 rows, and the reference's
  lines at the same position. The formulas are over the extended reals, so no argument has to be finite.
-/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Fwd.Norm
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise

@[expose] public section
set_option maxRecDepth 16384
noncomputable section
namespace Cert.Down
open Idealize.ShloMosaic

/-- The second residual's row. -/
def r (a : (⟨2, ![8192, 2816]⟩ : Shape).Idx → EReal) (x : (⟨2, ![8192, 1024]⟩ : Shape).Idx → EReal)
    (w : (⟨3, ![1, 2816, 1024]⟩ : Shape).Idx → EReal) (R : Fin 8192) (l : Fin 1024) : EReal :=
  Cert.Norm.res (x (ix2 R l)) (∑ f : Fin 2816, a (ix2 R f) * w (ix3 0 f l))

end Cert.Down

namespace Cert.Kernel7Ideal.DownVal
open Cert.Kernel7Ideal Cert.Kernel7Ideal.Gen Idealize.ShloMosaic Idealize.ShloMosaic.TcCoe Idealize.SL.Sem
open Idealize.ShloMosaic.Pipeline (Dat)
open Cert.Down (r)
open Cert.Norm
variable (m : (ℓ : Loc nD τ sig) → Buf (Elt Ideal) ℓ) (c : Dev nD)

/-- The arguments: the activation, the first LayerNorm's rows, the weights, the gain and the offset. -/
abbrev a0 : S8192x2816.Idx → EReal := m ((c : Thread nD τ).loc main_arg0)
abbrev a1 : S8192x1024.Idx → EReal := m ((c : Thread nD τ).loc main_arg1)
abbrev a2 : S1x2816x1024.Idx → EReal := m ((c : Thread nD τ).loc main_arg2)
abbrev a3 : S1x1024.Idx → EReal := m ((c : Thread nD τ).loc main_arg3)
abbrev a4 : S1x1024.Idx → EReal := m ((c : Thread nD τ).loc main_arg4)

/-! ## The arrays the host writes -/

/-- The activation, rounded. -/
theorem V_a (R : Fin 8192) (f : Fin 2816) : (V m c main_v0 : S8192x2816.Idx → EReal) (ix2 R f) = a0 m c (ix2 R f) := by
  unfold V
  simp only [hostOps0, List.flatten_cons, List.flatten_nil, List.append_nil, List.cons_append, List.nil_append]
  after_results
  clean_types
  pointwise
/-- The weights without the leading axis. -/
theorem V_w (f : Fin 2816) (l : Fin 1024) : (V m c main_v2 : S2816x1024.Idx → EReal) (ix2 f l) = a2 m c (ix3 0 f l) := by
  unfold V
  simp only [hostOps0, List.flatten_cons, List.flatten_nil, List.append_nil, List.cons_append, List.nil_append]
  after_results
  clean_types
  pointwise

/-! ## A grid point's blocks -/

/-- Which block each window is on. -/
theorem idx0 : ∀ t : Fin cfg0.N, (win0_0.index t = ![t.val, 0] ∧ win0_1.index t = ![t.val, 0] ∧ win0_2.index t = ![0, 0] ∧ win0_3.index t = ![0, 0]
    ∧ win0_4.index t = ![0, 0]) ∧ win0_5.index t = ![t.val, 0] ∧ win0_6.index t = ![t.val, 0] ∧ win0_7.index t = ![t.val, 0] ∧ win0_8.index t = ![t.val, 0] :=
  (by decide +kernel : ∀ t : Fin grid0.N, (win0_0.index t = ![t.val, 0] ∧ win0_1.index t = ![t.val, 0] ∧ win0_2.index t = ![0, 0] ∧ win0_3.index t = ![0, 0]
    ∧ win0_4.index t = ![0, 0]) ∧ win0_5.index t = ![t.val, 0] ∧ win0_6.index t = ![t.val, 0] ∧ win0_7.index t = ![t.val, 0] ∧ win0_8.index t = ![t.val, 0])

/-- A block's row in the array. -/
def row (t : ℕ) (ht : t < 8) (i : Fin 1024) : Fin 8192 := ⟨t * 1024 + i.val, by omega⟩

variable (t : Fin cfg0.N) (i l : Fin 1024) (f : Fin 2816)

theorem blk_a : (iblk m c 0 t : S1024x2816.Idx → EReal) (ix2 i f) = a0 m c (ix2 (row t.val t.isLt i) f) := by
  rw [← V_a m c]; unfold row; blk_ext [iblk, (idx0 t).1.1]
theorem blk_x : (iblk m c 1 t : S1024x1024.Idx → EReal) (ix2 i l) = a1 m c (ix2 (row t.val t.isLt i) l) := by
  unfold a1; rw [← V_main_arg1 m c]; unfold row; blk_ext [iblk, (idx0 t).1.2.1]
theorem blk_w : (iblk m c 2 t : S2816x1024.Idx → EReal) (ix2 f l) = a2 m c (ix3 0 f l) := by
  rw [← V_w m c]; blk_ext [iblk, (idx0 t).1.2.2.1]
theorem blk_g : (iblk m c 3 t : S1x1024.Idx → EReal) (ix2 0 l) = a3 m c (ix2 0 l) := by
  unfold a3; rw [← V_main_arg3 m c]; blk_ext [iblk, (idx0 t).1.2.2.2.1]
theorem blk_b : (iblk m c 4 t : S1x1024.Idx → EReal) (ix2 0 l) = a4 m c (ix2 0 l) := by
  unfold a4; rw [← V_main_arg4 m c]; blk_ext [iblk, (idx0 t).1.2.2.2.2]

/-- The residual's row of a block's row. -/
abbrev z : Fin 1024 → EReal := r (a0 m c) (a1 m c) (a2 m c) (row t.val t.isLt i)

/-- The centred row of a block. -/
theorem pay_ctr : (k0_pay1 (F := Ideal) (iblk m c 0 t) (iblk m c 2 t) (iblk m c 1 t) : S1024x1024.Idx → EReal) (ix2 i l) = ctr (z m c t i) l := by
  pointwise [k0_pay1]
  simp only [blk_a, blk_x, blk_w]
  rfl
/-- The reciprocal root. -/
theorem pay_rs : (k0_pay2 (F := Ideal) (iblk m c 0 t) (iblk m c 2 t) (iblk m c 1 t) : S1024x1.Idx → EReal) (ix2 i 0) = rs (z m c t i) := by
  pointwise [k0_pay2]
  simp only [pay_ctr]
  rfl
/-- The normalised row. -/
theorem pay_xh : (k0_pay3 (F := Ideal) (iblk m c 0 t) (iblk m c 2 t) (iblk m c 1 t) : S1024x1024.Idx → EReal) (ix2 i l) = xh (z m c t i) l := by
  pointwise [k0_pay3]
  rw [pay_ctr, pay_rs]
  rfl
/-- The LayerNorm's row. -/
theorem pay_out : (k0_pay4 (F := Ideal) (iblk m c 0 t) (iblk m c 2 t) (iblk m c 1 t) (iblk m c 3 t) (iblk m c 4 t) : S1024x1024.Idx → EReal) (ix2 i l)
    = out (z m c t i) (a3 m c (ix2 0 l)) (a4 m c (ix2 0 l)) l := by
  pointwise [k0_pay4]
  rw [pay_xh, blk_g, blk_b]
  rfl

/-! ## The four arrays -/

/-- The second LayerNorm. -/
theorem arr_out : (dats m 0 c).arrAt 5 cfg0.N
    = fun i : S8192x1024.Idx => out (r (a0 m c) (a1 m c) (a2 m c) (i 0)) (a3 m c (ix2 0 (i 1))) (a4 m c (ix2 0 (i 1))) (i 1) := by
  refine (dats m 0 c).arrAt_eq_of_covers 5 _ (by decide +kernel) fun t hf y => ?_
  have e0 : (win0_5.blk t).view.emb y 0 = row t.val t.isLt (y 0) := by
    refine Fin.ext ?_
    have h0 : win0_5.index t 0 = t.val := congrFun (idx0 t).2.1 0
    blk_simp
    rw [h0]; rfl
  have e1 : (win0_5.blk t).view.emb y 1 = y 1 := by
    refine Fin.ext ?_
    have h1 : win0_5.index t 1 = 0 := congrFun (idx0 t).2.1 1
    blk_simp
    omega
  beta_reduce
  rw [after0_5, e0, e1]
  unfold out0_5
  frame_out
  exact (congrArg _ (eq_ix2 y)).trans (pay_out m c t (y 0) (y 1))
/-- The normalised rows. -/
theorem arr_xh : (dats m 0 c).arrAt 6 cfg0.N = fun i : S8192x1024.Idx => xh (r (a0 m c) (a1 m c) (a2 m c) (i 0)) (i 1) := by
  refine (dats m 0 c).arrAt_eq_of_covers 6 _ (by decide +kernel) fun t hf y => ?_
  have e0 : (win0_6.blk t).view.emb y 0 = row t.val t.isLt (y 0) := by
    refine Fin.ext ?_
    have h0 : win0_6.index t 0 = t.val := congrFun (idx0 t).2.2.1 0
    blk_simp
    rw [h0]; rfl
  have e1 : (win0_6.blk t).view.emb y 1 = y 1 := by
    refine Fin.ext ?_
    have h1 : win0_6.index t 1 = 0 := congrFun (idx0 t).2.2.1 1
    blk_simp
    omega
  beta_reduce
  rw [after0_6, e0, e1]
  unfold out0_6
  frame_out
  pointwise [k0_pay6]
  exact (congrArg _ (eq_ix2 y)).trans (pay_xh m c t (y 0) (y 1))
/-- The reciprocal roots. -/
theorem arr_rs : (dats m 0 c).arrAt 7 cfg0.N = fun i : S8192x1.Idx => rs (r (a0 m c) (a1 m c) (a2 m c) (i 0)) := by
  refine (dats m 0 c).arrAt_eq_of_covers 7 _ (by decide +kernel) fun t hf y => ?_
  have e0 : (win0_7.blk t).view.emb y 0 = row t.val t.isLt (y 0) := by
    refine Fin.ext ?_
    have h0 : win0_7.index t 0 = t.val := congrFun (idx0 t).2.2.2.1 0
    blk_simp
    rw [h0]; rfl
  beta_reduce
  rw [after0_7, e0]
  unfold out0_7
  frame_out
  have hy : y = ix2 (y 0) 0 := (eq_ix2 y).trans (congrArg (fun z : Fin 1 => ix2 (y 0) z) (Subsingleton.elim _ _))
  exact (congrArg _ hy).trans (pay_rs m c t (y 0))
/-- The second LayerNorm again, rounded. -/
theorem arr_low : (dats m 0 c).arrAt 8 cfg0.N
    = fun i : S8192x1024.Idx => out (r (a0 m c) (a1 m c) (a2 m c) (i 0)) (a3 m c (ix2 0 (i 1))) (a4 m c (ix2 0 (i 1))) (i 1) := by
  refine (dats m 0 c).arrAt_eq_of_covers 8 _ (by decide +kernel) fun t hf y => ?_
  have e0 : (win0_8.blk t).view.emb y 0 = row t.val t.isLt (y 0) := by
    refine Fin.ext ?_
    have h0 : win0_8.index t 0 = t.val := congrFun (idx0 t).2.2.2.2 0
    blk_simp
    rw [h0]; rfl
  have e1 : (win0_8.blk t).view.emb y 1 = y 1 := by
    refine Fin.ext ?_
    have h1 : win0_8.index t 1 = 0 := congrFun (idx0 t).2.2.2.2 1
    blk_simp
    omega
  beta_reduce
  rw [after0_8, e0, e1]
  unfold out0_8
  frame_out
  pointwise [k0_pay5]
  exact (congrArg _ (eq_ix2 y)).trans (pay_out m c t (y 0) (y 1))

end Cert.Kernel7Ideal.DownVal

namespace Cert.Down
open Idealize.ShloMosaic Idealize.ShloMosaic.TcCoe Idealize.SL.Sem
open Cert.Reference7Ideal Cert.Reference7Ideal.Read Cert.Norm
open Cert.Kernel7Ideal.DownVal (a0 a1 a2 a3 a4 arr_out arr_xh arr_rs arr_low)
open Cert.Kernel7Ideal.Gen (dats)

/-! ## The reference's lines -/

section
variable (x0 : (⟨S8192x2816, .f32⟩ : BufTy).Contents (Elt Ideal)) (x1 : (⟨S8192x1024, .f32⟩ : BufTy).Contents (Elt Ideal))
  (x2 : (⟨S1x2816x1024, .f32⟩ : BufTy).Contents (Elt Ideal)) (x3 x4 : (⟨S1x1024, .f32⟩ : BufTy).Contents (Elt Ideal)) (R : Fin 8192) (l : Fin 1024)

/-- The residual's row. -/
theorem rd_r : val_main_v4 x0 x1 x2 (ix2 R l) = r x0 x1 x2 R l := by
  pointwise [val_main_v4, val_main_v3, val_main_v2, val_main_v1, val_main_v0, val_main_cst]
  rfl
/-- The centred row, as the variance reads it. -/
theorem rd_ctr : val_main_v12 x0 x1 x2 (ix2 R l) = ctr (r x0 x1 x2 R) l := by
  pointwise [val_main_v12, val_main_v11, val_main_v10, val_main_v9, val_main_v8, val_main_v7, val_main_cst_0, val_main_cst_1]
  simp only [rd_r]
  rfl
/-- The reciprocal root. -/
theorem rd_rs : val_main_v20 x0 x1 x2 (ix2 R 0) = rs (r x0 x1 x2 R) := by
  pointwise [val_main_v20, val_main_v19, val_main_v18, val_main_v17, val_main_v16, val_main_v15, val_main_v14, val_main_v13, val_main_cst_2, val_main_cst_3, val_main_cst_4]
  simp only [rd_ctr]
  rfl
/-- The normalised row. -/
theorem rd_xh : val_main_v24 x0 x1 x2 (ix2 R l) = xh (r x0 x1 x2 R) l := by
  have e : val_main_v22 x0 x1 x2 (ix2 R l) = ctr (r x0 x1 x2 R) l := by
    rw [← rd_ctr]
    pointwise [val_main_v22, val_main_v21, val_main_v12, val_main_v11]
  pointwise [val_main_v24, val_main_v23]
  rw [e, rd_rs]
  rfl
/-- The LayerNorm's row. -/
theorem rd_out : val_main_v30 x0 x1 x2 x3 x4 (ix2 R l) = out (r x0 x1 x2 R) (x3 (ix2 0 l)) (x4 (ix2 0 l)) l := by
  pointwise [val_main_v30, val_main_v29, val_main_v28, val_main_v27, val_main_v26, val_main_v25, val_main_v6, val_main_v5]
  rw [rd_xh]
  rfl
end

/-- The reference runs, leaves its arguments as they were and every counter at zero. -/
theorem frame_reference : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

section
variable (m : (ℓ : Loc Cert.Kernel7Ideal.nD Cert.Kernel7Ideal.τ Cert.Kernel7Ideal.sig) → Buf (Elt Ideal) ℓ) (c : Dev Cert.Kernel7Ideal.nD)

/-- The LayerNorms agree. -/
theorem agree_out : val_main_v30 (F := Ideal) (a0 m c) (a1 m c) (a2 m c) (a3 m c) (a4 m c) = (dats m 0 c).arrAt 5 Cert.Kernel7Ideal.cfg0.N := by
  rw [arr_out]
  funext i
  exact (congrArg _ (eq_ix2 i)).trans (rd_out _ _ _ _ _ (i 0) (i 1))
/-- The normalised rows agree. -/
theorem agree_xh : val_main_v31 (F := Ideal) (a0 m c) (a1 m c) (a2 m c) = (dats m 0 c).arrAt 6 Cert.Kernel7Ideal.cfg0.N := by
  rw [arr_xh]
  funext i
  pointwise [val_main_v31]
  exact (congrArg _ (eq_ix2 i)).trans (rd_xh _ _ _ (i 0) (i 1))
/-- The reciprocal roots agree. -/
theorem agree_rs : val_main_v20 (F := Ideal) (a0 m c) (a1 m c) (a2 m c) = (dats m 0 c).arrAt 7 Cert.Kernel7Ideal.cfg0.N := by
  rw [arr_rs]
  funext i
  have hi : i = ix2 (i 0) 0 := (eq_ix2 i).trans (congrArg (fun z : Fin 1 => ix2 (i 0) z) (Subsingleton.elim _ _))
  exact (congrArg _ hi).trans (rd_rs _ _ _ (i 0))
/-- The rounded LayerNorms agree. -/
theorem agree_low : val_main_v32 (F := Ideal) (a0 m c) (a1 m c) (a2 m c) (a3 m c) (a4 m c) = (dats m 0 c).arrAt 8 Cert.Kernel7Ideal.cfg0.N := by
  rw [arr_low]
  funext i
  pointwise [val_main_v32]
  exact (congrArg _ (eq_ix2 i)).trans (rd_out _ _ _ _ _ (i 0) (i 1))
end

/-- The kernel and reference.py's lines leave the same four arrays. -/
theorem algebraic : Cert.algebraic_Kernel7Ideal_Reference7Ideal := by
  intro m g m' g' _ hargs
  refine ⟨fun c => (dats m 0 c).arrAt 5 Cert.Kernel7Ideal.cfg0.N, fun c => (dats m 0 c).arrAt 6 Cert.Kernel7Ideal.cfg0.N,
    fun c => (dats m 0 c).arrAt 7 Cert.Kernel7Ideal.cfg0.N, fun c => (dats m 0 c).arrAt 8 Cert.Kernel7Ideal.cfg0.N, Cert.Kernel7Ideal.Value.run_blocks m g, ?_⟩
  refine (θ_run Cert.Reference7Ideal.defs _ _).mono (fun r h c => ?_) (Cert.Reference7Ideal.Value.run (F := Ideal) m' g')
  obtain ⟨e0, e1, e2, e3, e4⟩ := hargs c
  obtain ⟨h0, h1, h2, h3, hk⟩ := h c
  refine ⟨h0.trans ?_, h1.trans ?_, h2.trans ?_, h3.trans ?_, hk⟩
  · rw [val_main_v30_eq, e0, e1, e2, e3, e4]; exact agree_out m c
  · rw [val_main_v31_eq, e0, e1, e2]; exact agree_xh m c
  · rw [val_main_v20_eq, e0, e1, e2]; exact agree_rs m c
  · rw [val_main_v32_eq, e0, e1, e2, e3, e4]; exact agree_low m c

end Cert.Down
end
-- ==== Proof.Fwd.In.lean ====
/-
  The forward call of the input projection, block by block of 512 rows and in two column groups, the second with zero
  columns behind it, and the reference's lines at the same position. The formulas are over the extended reals, so no
  argument has to be finite.
-/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise

@[expose] public section
set_option maxRecDepth 16384
noncomputable section
namespace Cert.Kernel8Ideal.InVal
open Cert.Kernel8Ideal Cert.Kernel8Ideal.Gen Idealize.ShloMosaic Idealize.ShloMosaic.TcCoe Idealize.SL.Sem
open Idealize.ShloMosaic.Pipeline (Dat)
variable (m : (ℓ : Loc nD τ sig) → Buf (Elt Ideal) ℓ) (c : Dev nD)

/-- The arguments: the layer's input, the projection's weights and its bias. -/
abbrev a0 : S8192x1024.Idx → EReal := m ((c : Thread nD τ).loc main_arg0)
abbrev a1 : S1x1024x3592.Idx → EReal := m ((c : Thread nD τ).loc main_arg1)
abbrev a2 : S1x3592.Idx → EReal := m ((c : Thread nD τ).loc main_arg2)

/-- The projection. -/
def u (x : (⟨2, ![8192, 1024]⟩ : Shape).Idx → EReal) (w : (⟨3, ![1, 1024, 3592]⟩ : Shape).Idx → EReal) (b : (⟨2, ![1, 3592]⟩ : Shape).Idx → EReal)
    (R : Fin 8192) (j : Fin 3592) : EReal := (∑ k : Fin 1024, x (ix2 R k) * w (ix3 0 k j)) + b (ix2 0 j)

/-! ## The arrays the host writes -/

/-- The integer zero the host pads with is zero as a float. -/
theorem fill (φ : FTy) : (FloatOps.sitofp (F := Ideal) φ 0#32 : EReal) = 0 := by
  show (((0#32).toInt : ℝ) : EReal) = 0
  norm_num

/-- The HGRN2's columns of the weights, transposed. -/
theorem V_whg (j : Fin 2048) (k : Fin 1024) : (V m c main_v3 : S2048x1024.Idx → EReal) (ix2 j k) = a1 m c (ix3 0 k ⟨j.val, by omega⟩) := by
  unfold V
  simp only [hostOps0, List.flatten_cons, List.flatten_nil, List.append_nil, List.cons_append, List.nil_append]
  after_results
  clean_types
  pointwise
/-- The mLSTM's columns of the weights, transposed, with zero rows behind them. -/
theorem V_wml (j : Fin 1664) (k : Fin 1024) : (V m c main_v5 : S1664x1024.Idx → EReal) (ix2 j k)
    = if h : j.val < 1544 then a1 m c (ix3 0 k ⟨2048 + j.val, by omega⟩) else 0 := by
  unfold V
  simp only [hostOps0, List.flatten_cons, List.flatten_nil, List.append_nil, List.cons_append, List.nil_append]
  after_results
  simp only [StableHlo.TRef.ofBuf, StableHlo.TRef.toBuf, cast_eq, cast_cast]
  clean_types
  pointwise
  simp only [fill]
/-- The HGRN2's columns of the bias. -/
theorem V_bhg (j : Fin 2048) : (V m c main_v6 : S1x2048.Idx → EReal) (ix2 0 j) = a2 m c (ix2 0 ⟨j.val, by omega⟩) := by
  unfold V
  simp only [hostOps0, List.flatten_cons, List.flatten_nil, List.append_nil, List.cons_append, List.nil_append]
  after_results
  clean_types
  pointwise
/-- The mLSTM's columns of the bias, with zeros behind them. -/
theorem V_bml (j : Fin 1664) : (V m c main_v8 : S1x1664.Idx → EReal) (ix2 0 j)
    = if h : j.val < 1544 then a2 m c (ix2 0 ⟨2048 + j.val, by omega⟩) else 0 := by
  unfold V
  simp only [hostOps0, List.flatten_cons, List.flatten_nil, List.append_nil, List.cons_append, List.nil_append]
  after_results
  simp only [StableHlo.TRef.ofBuf, StableHlo.TRef.toBuf, cast_eq, cast_cast]
  clean_types
  pointwise
  simp only [fill]

/-! ## A grid point's blocks -/

/-- Which block each window is on. -/
theorem idx0 : ∀ t : Fin cfg0.N, (win0_0.index t = ![t.val, 0] ∧ win0_1.index t = ![0, 0] ∧ win0_2.index t = ![0, 0] ∧ win0_3.index t = ![0, 0]
    ∧ win0_4.index t = ![0, 0]) ∧ win0_5.index t = ![t.val, 0] ∧ win0_6.index t = ![t.val, 0] ∧ win0_7.index t = ![t.val, 0] :=
  (by decide +kernel : ∀ t : Fin grid0.N, (win0_0.index t = ![t.val, 0] ∧ win0_1.index t = ![0, 0] ∧ win0_2.index t = ![0, 0] ∧ win0_3.index t = ![0, 0]
    ∧ win0_4.index t = ![0, 0]) ∧ win0_5.index t = ![t.val, 0] ∧ win0_6.index t = ![t.val, 0] ∧ win0_7.index t = ![t.val, 0])

/-- A block's row in the array. -/
def row (t : ℕ) (ht : t < 16) (i : Fin 512) : Fin 8192 := ⟨t * 512 + i.val, by omega⟩

variable (t : Fin cfg0.N) (i : Fin 512) (k : Fin 1024)

theorem blk_x : (iblk m c 0 t : S512x1024.Idx → EReal) (ix2 i k) = a0 m c (ix2 (row t.val t.isLt i) k) := by
  unfold a0; rw [← V_main_arg0 m c]; unfold row; blk_ext [iblk, (idx0 t).1.1]
theorem blk_whg (j : Fin 2048) : (iblk m c 1 t : S2048x1024.Idx → EReal) (ix2 j k) = a1 m c (ix3 0 k ⟨j.val, by omega⟩) := by
  rw [← V_whg m c]; blk_ext [iblk, (idx0 t).1.2.1]
theorem blk_wml (j : Fin 1664) : (iblk m c 2 t : S1664x1024.Idx → EReal) (ix2 j k)
    = if h : j.val < 1544 then a1 m c (ix3 0 k ⟨2048 + j.val, by omega⟩) else 0 := by
  rw [← V_wml m c]; blk_ext [iblk, (idx0 t).1.2.2.1]
theorem blk_bhg (j : Fin 2048) : (iblk m c 3 t : S1x2048.Idx → EReal) (ix2 0 j) = a2 m c (ix2 0 ⟨j.val, by omega⟩) := by
  rw [← V_bhg m c]; blk_ext [iblk, (idx0 t).1.2.2.2.1]
theorem blk_bml (j : Fin 1664) : (iblk m c 4 t : S1x1664.Idx → EReal) (ix2 0 j)
    = if h : j.val < 1544 then a2 m c (ix2 0 ⟨2048 + j.val, by omega⟩) else 0 := by
  rw [← V_bml m c]; blk_ext [iblk, (idx0 t).1.2.2.2.2]

/-- The HGRN2's columns of the projection. -/
theorem pay_hg (j : Fin 2048) : (k0_pay2 (F := Ideal) (iblk m c 0 t) (iblk m c 1 t) (iblk m c 3 t) : S512x2048.Idx → EReal) (ix2 i j)
    = u (a0 m c) (a1 m c) (a2 m c) (row t.val t.isLt i) ⟨j.val, by omega⟩ := by
  pointwise [k0_pay2, k0_pay1]
  simp only [blk_x, blk_whg, blk_bhg]
  rfl
/-- The mLSTM's columns of the projection, with zeros behind them. -/
theorem pay_ml (j : Fin 1664) : (k0_pay3 (F := Ideal) (iblk m c 0 t) (iblk m c 2 t) (iblk m c 4 t) : S512x1664.Idx → EReal) (ix2 i j)
    = if h : j.val < 1544 then u (a0 m c) (a1 m c) (a2 m c) (row t.val t.isLt i) ⟨2048 + j.val, by omega⟩ else 0 := by
  pointwise [k0_pay3, k0_pay1]
  simp only [blk_x, blk_wml, blk_bml]
  by_cases h : j.val < 1544
  · simp only [dif_pos h]
    rfl
  · simp only [dif_neg h, mul_zero, Finset.sum_const_zero, add_zero]

/-! ## The three arrays -/

/-- The HGRN2's columns. -/
theorem arr_hg : (dats m 0 c).arrAt 5 cfg0.N = fun i : S8192x2048.Idx => u (a0 m c) (a1 m c) (a2 m c) (i 0) ⟨(i 1).val, lt_trans (i 1).isLt (by decide)⟩ := by
  refine (dats m 0 c).arrAt_eq_of_covers 5 _ (by decide +kernel) fun t hf y => ?_
  have e0 : (win0_5.blk t).view.emb y 0 = row t.val t.isLt (y 0) := by
    refine Fin.ext ?_
    have h0 : win0_5.index t 0 = t.val := congrFun (idx0 t).2.1 0
    blk_simp
    rw [h0]; rfl
  have e1 : (win0_5.blk t).view.emb y 1 = y 1 := by
    refine Fin.ext ?_
    have h1 : win0_5.index t 1 = 0 := congrFun (idx0 t).2.1 1
    blk_simp
    omega
  beta_reduce
  rw [after0_5, e0]
  simp only [e1]
  unfold out0_5
  frame_out
  exact (congrArg _ (eq_ix2 y)).trans (pay_hg m c t (y 0) (y 1))
/-- The mLSTM's columns. -/
theorem arr_ml : (dats m 0 c).arrAt 6 cfg0.N
    = fun i : S8192x1664.Idx => if h : (i 1).val < 1544 then u (a0 m c) (a1 m c) (a2 m c) (i 0) ⟨2048 + (i 1).val, by omega⟩ else 0 := by
  refine (dats m 0 c).arrAt_eq_of_covers 6 _ (by decide +kernel) fun t hf y => ?_
  have e0 : (win0_6.blk t).view.emb y 0 = row t.val t.isLt (y 0) := by
    refine Fin.ext ?_
    have h0 : win0_6.index t 0 = t.val := congrFun (idx0 t).2.2.1 0
    blk_simp
    rw [h0]; rfl
  have e1 : (win0_6.blk t).view.emb y 1 = y 1 := by
    refine Fin.ext ?_
    have h1 : win0_6.index t 1 = 0 := congrFun (idx0 t).2.2.1 1
    blk_simp
    omega
  beta_reduce
  rw [after0_6, e0]
  simp only [e1]
  unfold out0_6
  frame_out
  exact (congrArg _ (eq_ix2 y)).trans (pay_ml m c t (y 0) (y 1))
/-- The layer's input, rounded. -/
theorem arr_x : (dats m 0 c).arrAt 7 cfg0.N = a0 m c := by
  refine (dats m 0 c).arrAt_eq_of_covers 7 _ (by decide +kernel) fun t hf y => ?_
  have e0 : (win0_7.blk t).view.emb y 0 = row t.val t.isLt (y 0) := by
    refine Fin.ext ?_
    have h0 : win0_7.index t 0 = t.val := congrFun (idx0 t).2.2.2 0
    blk_simp
    rw [h0]; rfl
  have e1 : (win0_7.blk t).view.emb y 1 = y 1 := by
    refine Fin.ext ?_
    have h1 : win0_7.index t 1 = 0 := congrFun (idx0 t).2.2.2 1
    blk_simp
    omega
  have e : (win0_7.blk t).view.emb y = ix2 (row t.val t.isLt (y 0)) (y 1) := by
    rw [← e0, ← e1]; exact eq_ix2 _
  rw [after0_7, e]
  unfold out0_7
  frame_out
  pointwise [k0_pay1]
  exact (congrArg _ (eq_ix2 y)).trans (blk_x m c t (y 0) (y 1))

end Cert.Kernel8Ideal.InVal

namespace Cert.In
open Idealize.ShloMosaic Idealize.ShloMosaic.TcCoe Idealize.SL.Sem
open Cert.Reference8Ideal Cert.Reference8Ideal.Read
open Cert.Kernel8Ideal.InVal (u a0 a1 a2 arr_hg arr_ml arr_x)
open Cert.Kernel8Ideal.Gen (dats)

/-! ## The reference's lines -/

section
variable (x0 : (⟨S8192x1024, .f32⟩ : BufTy).Contents (Elt Ideal)) (x1 : (⟨S1x1024x3592, .f32⟩ : BufTy).Contents (Elt Ideal))
  (x2 : (⟨S1x3592, .f32⟩ : BufTy).Contents (Elt Ideal)) (R : Fin 8192)

/-- The projection. -/
theorem rd_u (j : Fin 3592) : val_main_v5 x0 x1 x2 (ix2 R j) = u x0 x1 x2 R j := by
  pointwise [val_main_v5, val_main_v4, val_main_v3, val_main_v2, val_main_v1, val_main_v0]
  rfl
/-- The HGRN2's columns. -/
theorem rd_hg (j : Fin 2048) : val_main_v6 x0 x1 x2 (ix2 R j) = u x0 x1 x2 R ⟨j.val, by omega⟩ := by
  rw [← rd_u]
  pointwise [val_main_v6]
/-- The mLSTM's columns, with zeros behind them. -/
theorem rd_ml (j : Fin 1664) : val_main_v9 x0 x1 x2 (ix2 R j) = if h : j.val < 1544 then u x0 x1 x2 R ⟨2048 + j.val, by omega⟩ else 0 := by
  pointwise [val_main_v9, val_main_v8, val_main_v7, val_main_cst]
  simp only [rd_u]
end

/-- The reference runs, leaves its arguments as they were and every counter at zero. -/
theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

section
variable (m : (ℓ : Loc Cert.Kernel8Ideal.nD Cert.Kernel8Ideal.τ Cert.Kernel8Ideal.sig) → Buf (Elt Ideal) ℓ) (c : Dev Cert.Kernel8Ideal.nD)

/-- The HGRN2's columns agree. -/
theorem agree_hg : val_main_v6 (F := Ideal) (a0 m c) (a1 m c) (a2 m c) = (dats m 0 c).arrAt 5 Cert.Kernel8Ideal.cfg0.N := by
  rw [arr_hg]
  funext i
  exact (congrArg _ (eq_ix2 i)).trans (rd_hg _ _ _ (i 0) (i 1))
/-- The mLSTM's columns agree. -/
theorem agree_ml : val_main_v9 (F := Ideal) (a0 m c) (a1 m c) (a2 m c) = (dats m 0 c).arrAt 6 Cert.Kernel8Ideal.cfg0.N := by
  rw [arr_ml]
  funext i
  exact (congrArg _ (eq_ix2 i)).trans (rd_ml _ _ _ (i 0) (i 1))
/-- The rounded inputs agree. -/
theorem agree_x : val_main_v10 (F := Ideal) (a0 m c) = (dats m 0 c).arrAt 7 Cert.Kernel8Ideal.cfg0.N := by
  rw [arr_x]
  funext i
  pointwise [val_main_v10]
end

/-- The kernel and reference.py's lines leave the same three arrays. -/
theorem algebraic : Cert.algebraic_Kernel8Ideal_Reference8Ideal := by
  intro m g m' g' _ hargs
  refine ⟨fun c => (dats m 0 c).arrAt 5 Cert.Kernel8Ideal.cfg0.N, fun c => (dats m 0 c).arrAt 6 Cert.Kernel8Ideal.cfg0.N,
    fun c => (dats m 0 c).arrAt 7 Cert.Kernel8Ideal.cfg0.N, Cert.Kernel8Ideal.Value.run_blocks m g, ?_⟩
  refine (θ_run Cert.Reference8Ideal.defs _ _).mono (fun r h c => ?_) (Cert.Reference8Ideal.Value.run (F := Ideal) m' g')
  obtain ⟨e0, e1, e2⟩ := hargs c
  obtain ⟨h0, h1, h2, hk⟩ := h c
  refine ⟨h0.trans ?_, h1.trans ?_, h2.trans ?_, hk⟩
  · rw [val_main_v6_eq, e0, e1, e2]; exact agree_hg m c
  · rw [val_main_v9_eq, e0, e1, e2]; exact agree_ml m c
  · rw [val_main_v10_eq, e0]; exact agree_x m c

end Cert.In
end
-- ==== Proof.Step.InBwd.lean ====
/-
  The backward call of the input projection, block by block of 512 rows, on the column groups of the projection's gradient,
  and the vjp of the reference's lines at the same position. The formulas are over the extended reals, so no argument has
  to be finite.
-/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Fwd.In
public import proofs.«01_k».proof.Proof.Fwd.Norm
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise

@[expose] public section
set_option maxRecDepth 16384
noncomputable section
namespace Cert.InBwd
open Idealize.ShloMosaic

/-- The mLSTM's columns of the projection's gradient, with zeros behind them. -/
def dml (d : (⟨2, ![8192, 3592]⟩ : Shape).Idx → EReal) (R : Fin 8192) (j : Fin 1664) : EReal :=
  if h : j.val < 1544 then d (ix2 R ⟨2048 + j.val, by omega⟩) else 0

/-- The gradient of the layer's input. -/
def gx (r : (⟨2, ![8192, 1024]⟩ : Shape).Idx → EReal) (d : (⟨2, ![8192, 3592]⟩ : Shape).Idx → EReal) (w : (⟨3, ![1, 1024, 3592]⟩ : Shape).Idx → EReal)
    (R : Fin 8192) (l : Fin 1024) : EReal := Cert.Norm.res (r (ix2 R l)) (∑ j : Fin 3592, d (ix2 R j) * w (ix3 0 l j))

/-- The sum over all columns is the sum over the HGRN2's and the sum over the mLSTM's, padded with zeros. -/
theorem split (d : (⟨2, ![8192, 3592]⟩ : Shape).Idx → EReal) (w : (⟨3, ![1, 1024, 3592]⟩ : Shape).Idx → EReal) (R : Fin 8192) (l : Fin 1024) :
    (∑ j : Fin 2048, d (ix2 R ⟨j.val, by omega⟩) * w (ix3 0 l ⟨j.val, by omega⟩))
      + (∑ j : Fin 1664, dml d R j * (if h : j.val < 1544 then w (ix3 0 l ⟨2048 + j.val, by omega⟩) else 0))
      = ∑ j : Fin 3592, d (ix2 R j) * w (ix3 0 l j) := by
  have e1 : (∑ j : Fin 1664, dml d R j * (if h : j.val < 1544 then w (ix3 0 l ⟨2048 + j.val, by omega⟩) else 0))
      = ∑ j : Fin 1544, d (ix2 R ⟨2048 + j.val, by omega⟩) * w (ix3 0 l ⟨2048 + j.val, by omega⟩) := by
    refine (Fin.sum_univ_add (a := 1544) (b := 120) _).trans ?_
    rw [Finset.sum_eq_zero (s := (Finset.univ : Finset (Fin 120))) fun j _ => ?_, add_zero]
    · refine Finset.sum_congr rfl fun j _ => ?_
      have hj : (Fin.castAdd 120 j).val < 1544 := j.isLt
      unfold dml
      rw [dif_pos hj, dif_pos hj]
      rfl
    · have hj : ¬(Fin.natAdd 1544 j).val < 1544 := by show ¬(1544 + j.val < 1544); omega
      rw [dif_neg hj, mul_zero]
  rw [e1]
  exact (Fin.sum_univ_add (a := 2048) (b := 1544) fun j : Fin 3592 => d (ix2 R j) * w (ix3 0 l j)).symm

end Cert.InBwd

namespace Cert.Kernel9Ideal.InBwdVal
open Cert.Kernel9Ideal Cert.Kernel9Ideal.Gen Idealize.ShloMosaic Idealize.ShloMosaic.TcCoe Idealize.SL.Sem
open Idealize.ShloMosaic.Pipeline (Dat)
open Cert.InBwd (dml gx split)
open Cert.Kernel8Ideal.InVal (fill)
variable (m : (ℓ : Loc nD τ sig) → Buf (Elt Ideal) ℓ) (c : Dev nD)

/-- The arguments: the first residual's gradient, the projection's gradient and the projection's weights. -/
abbrev a0 : S8192x1024.Idx → EReal := m ((c : Thread nD τ).loc main_arg0)
abbrev a1 : S8192x3592.Idx → EReal := m ((c : Thread nD τ).loc main_arg1)
abbrev a2 : S1x1024x3592.Idx → EReal := m ((c : Thread nD τ).loc main_arg2)

/-! ## The arrays the host writes -/

/-- The HGRN2's columns of the gradient. -/
theorem V_hg (R : Fin 8192) (j : Fin 2048) : (V m c main_v9 : S8192x2048.Idx → EReal) (ix2 R j) = a1 m c (ix2 R ⟨j.val, by omega⟩) := by
  unfold V
  simp only [hostOps0, List.flatten_cons, List.flatten_nil, List.append_nil, List.cons_append, List.nil_append]
  after_results
  clean_types
  pointwise
/-- The first group of the mLSTM's columns. -/
theorem V_qk (R : Fin 8192) (j : Fin 512) : (V m c main_v10 : S8192x512.Idx → EReal) (ix2 R j) = a1 m c (ix2 R ⟨2048 + j.val, by omega⟩) := by
  unfold V
  simp only [hostOps0, List.flatten_cons, List.flatten_nil, List.append_nil, List.cons_append, List.nil_append]
  after_results
  clean_types
  pointwise
/-- The second group. -/
theorem V_mv (R : Fin 8192) (j : Fin 512) : (V m c main_v11 : S8192x512.Idx → EReal) (ix2 R j) = a1 m c (ix2 R ⟨2560 + j.val, by omega⟩) := by
  unfold V
  simp only [hostOps0, List.flatten_cons, List.flatten_nil, List.append_nil, List.cons_append, List.nil_append]
  after_results
  clean_types
  pointwise
/-- The third group. -/
theorem V_mo (R : Fin 8192) (j : Fin 512) : (V m c main_v12 : S8192x512.Idx → EReal) (ix2 R j) = a1 m c (ix2 R ⟨3072 + j.val, by omega⟩) := by
  unfold V
  simp only [hostOps0, List.flatten_cons, List.flatten_nil, List.append_nil, List.cons_append, List.nil_append]
  after_results
  clean_types
  pointwise
/-- The gates' columns, with zeros behind them. -/
theorem V_gt (R : Fin 8192) (j : Fin 128) : (V m c main_v8 : S8192x128.Idx → EReal) (ix2 R j)
    = if h : j.val < 8 then a1 m c (ix2 R ⟨3584 + j.val, by omega⟩) else 0 := by
  unfold V
  simp only [hostOps0, List.flatten_cons, List.flatten_nil, List.append_nil, List.cons_append, List.nil_append]
  after_results
  simp only [StableHlo.TRef.ofBuf, StableHlo.TRef.toBuf, cast_eq, cast_cast]
  clean_types
  pointwise
  simp only [fill]
/-- The HGRN2's columns of the weights, transposed. -/
theorem V_whg (j : Fin 2048) (k : Fin 1024) : (V m c main_v3 : S2048x1024.Idx → EReal) (ix2 j k) = a2 m c (ix3 0 k ⟨j.val, by omega⟩) := by
  unfold V
  simp only [hostOps0, List.flatten_cons, List.flatten_nil, List.append_nil, List.cons_append, List.nil_append]
  after_results
  clean_types
  pointwise
/-- The mLSTM's columns of the weights, transposed, with zero rows behind them. -/
theorem V_wml (j : Fin 1664) (k : Fin 1024) : (V m c main_v5 : S1664x1024.Idx → EReal) (ix2 j k)
    = if h : j.val < 1544 then a2 m c (ix3 0 k ⟨2048 + j.val, by omega⟩) else 0 := by
  unfold V
  simp only [hostOps0, List.flatten_cons, List.flatten_nil, List.append_nil, List.cons_append, List.nil_append]
  after_results
  simp only [StableHlo.TRef.ofBuf, StableHlo.TRef.toBuf, cast_eq, cast_cast]
  clean_types
  pointwise
  simp only [fill]

/-! ## A grid point's blocks -/

/-- Which block each window is on. -/
theorem idx0 : ∀ t : Fin cfg0.N, (win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0])
    ∧ win0_8.index t = ![t.val, 0] ∧ win0_9.index t = ![t.val, 0] :=
  (by decide +kernel : ∀ t : Fin grid0.N, (win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0])
    ∧ win0_8.index t = ![t.val, 0] ∧ win0_9.index t = ![t.val, 0])

/-- A block's row in the array. -/
def row (t : ℕ) (ht : t < 16) (i : Fin 512) : Fin 8192 := ⟨t * 512 + i.val, by omega⟩

variable (t : Fin cfg0.N) (i : Fin 512) (k : Fin 1024)

theorem blk_r : (iblk m c 0 t : S512x1024.Idx → EReal) (ix2 i k) = a0 m c (ix2 (row t.val t.isLt i) k) := by
  unfold a0; rw [← V_main_arg0 m c]; unfold row; blk_ext [iblk, (idx0 t).1.1]
theorem blk_hg (j : Fin 2048) : (iblk m c 1 t : S512x2048.Idx → EReal) (ix2 i j) = a1 m c (ix2 (row t.val t.isLt i) ⟨j.val, by omega⟩) := by
  rw [← V_hg m c]; unfold row; blk_ext [iblk, (idx0 t).1.2.1]
theorem blk_qk (j : Fin 512) : (iblk m c 2 t : S512x512.Idx → EReal) (ix2 i j) = a1 m c (ix2 (row t.val t.isLt i) ⟨2048 + j.val, by omega⟩) := by
  rw [← V_qk m c]; unfold row; blk_ext [iblk, (idx0 t).1.2.2.1]
theorem blk_mv (j : Fin 512) : (iblk m c 3 t : S512x512.Idx → EReal) (ix2 i j) = a1 m c (ix2 (row t.val t.isLt i) ⟨2560 + j.val, by omega⟩) := by
  rw [← V_mv m c]; unfold row; blk_ext [iblk, (idx0 t).1.2.2.2.1]
theorem blk_mo (j : Fin 512) : (iblk m c 4 t : S512x512.Idx → EReal) (ix2 i j) = a1 m c (ix2 (row t.val t.isLt i) ⟨3072 + j.val, by omega⟩) := by
  rw [← V_mo m c]; unfold row; blk_ext [iblk, (idx0 t).1.2.2.2.2.1]
theorem blk_gt (j : Fin 128) : (iblk m c 5 t : S512x128.Idx → EReal) (ix2 i j)
    = if h : j.val < 8 then a1 m c (ix2 (row t.val t.isLt i) ⟨3584 + j.val, by omega⟩) else 0 := by
  rw [← V_gt m c]; unfold row; blk_ext [iblk, (idx0 t).1.2.2.2.2.2.1]
theorem blk_whg (j : Fin 2048) : (iblk m c 6 t : S2048x1024.Idx → EReal) (ix2 j k) = a2 m c (ix3 0 k ⟨j.val, by omega⟩) := by
  rw [← V_whg m c]; blk_ext [iblk, (idx0 t).1.2.2.2.2.2.2.1]
theorem blk_wml (j : Fin 1664) : (iblk m c 7 t : S1664x1024.Idx → EReal) (ix2 j k)
    = if h : j.val < 1544 then a2 m c (ix3 0 k ⟨2048 + j.val, by omega⟩) else 0 := by
  rw [← V_wml m c]; blk_ext [iblk, (idx0 t).1.2.2.2.2.2.2.2]

/-- The column groups side by side. -/
theorem pay_dml (j : Fin 1664) : (k0_pay1 (F := Ideal) (iblk m c 2 t) (iblk m c 3 t) (iblk m c 4 t) (iblk m c 5 t) : S512x1664.Idx → EReal) (ix2 i j)
    = dml (a1 m c) (row t.val t.isLt i) j := by
  have hj := j.isLt
  pointwise [k0_pay1]
  simp only [blk_qk, blk_mv, blk_mo, blk_gt]
  unfold dml
  split_ifs <;> first
    | rfl
    | (rw [dif_pos (by omega)]; done)
    | (rw [dif_pos (by omega)]; refine congrArg (fun z => a1 m c (ix2 (row t.val t.isLt i) z)) (Fin.ext ?_); dsimp only; omega)
    | omega
/-- The gradient of the layer's input. -/
theorem pay_gx : (k0_pay2 (F := Ideal) (iblk m c 2 t) (iblk m c 3 t) (iblk m c 4 t) (iblk m c 5 t) (iblk m c 0 t) (iblk m c 1 t) (iblk m c 6 t) (iblk m c 7 t)
    : S512x1024.Idx → EReal) (ix2 i k) = gx (a0 m c) (a1 m c) (a2 m c) (row t.val t.isLt i) k := by
  pointwise [k0_pay2]
  simp only [pay_dml, blk_r, blk_hg, blk_whg, blk_wml]
  rw [add_assoc, split]
  rfl

/-! ## The two arrays -/

/-- The gradient of the layer's input. -/
theorem arr_gx : (dats m 0 c).arrAt 8 cfg0.N = fun i : S8192x1024.Idx => gx (a0 m c) (a1 m c) (a2 m c) (i 0) (i 1) := by
  refine (dats m 0 c).arrAt_eq_of_covers 8 _ (by decide +kernel) fun t hf y => ?_
  have e0 : (win0_8.blk t).view.emb y 0 = row t.val t.isLt (y 0) := by
    refine Fin.ext ?_
    have h0 : win0_8.index t 0 = t.val := congrFun (idx0 t).2.1 0
    blk_simp
    rw [h0]; rfl
  have e1 : (win0_8.blk t).view.emb y 1 = y 1 := by
    refine Fin.ext ?_
    have h1 : win0_8.index t 1 = 0 := congrFun (idx0 t).2.1 1
    blk_simp
    omega
  beta_reduce
  rw [after0_8, e0, e1]
  unfold out0_8
  frame_out
  exact (congrArg _ (eq_ix2 y)).trans (pay_gx m c t (y 0) (y 1))
/-- The mLSTM's columns, rounded. -/
theorem arr_dml : (dats m 0 c).arrAt 9 cfg0.N = fun i : S8192x1664.Idx => dml (a1 m c) (i 0) (i 1) := by
  refine (dats m 0 c).arrAt_eq_of_covers 9 _ (by decide +kernel) fun t hf y => ?_
  have e0 : (win0_9.blk t).view.emb y 0 = row t.val t.isLt (y 0) := by
    refine Fin.ext ?_
    have h0 : win0_9.index t 0 = t.val := congrFun (idx0 t).2.2 0
    blk_simp
    rw [h0]; rfl
  have e1 : (win0_9.blk t).view.emb y 1 = y 1 := by
    refine Fin.ext ?_
    have h1 : win0_9.index t 1 = 0 := congrFun (idx0 t).2.2 1
    blk_simp
    omega
  beta_reduce
  rw [after0_9, e0, e1]
  unfold out0_9
  frame_out
  exact (congrArg _ (eq_ix2 y)).trans (pay_dml m c t (y 0) (y 1))

end Cert.Kernel9Ideal.InBwdVal

namespace Cert.InBwd
open Idealize.ShloMosaic Idealize.ShloMosaic.TcCoe Idealize.SL.Sem
open Cert.Reference9Ideal Cert.Reference9Ideal.Read
open Cert.Kernel9Ideal.InBwdVal (a0 a1 a2 arr_gx arr_dml)
open Cert.Kernel9Ideal.Gen (dats)

/-! ## The reference's lines -/

section
variable (x0 : (⟨S8192x1024, .f32⟩ : BufTy).Contents (Elt Ideal)) (x1 : (⟨S8192x3592, .f32⟩ : BufTy).Contents (Elt Ideal))
  (x2 : (⟨S1x1024x3592, .f32⟩ : BufTy).Contents (Elt Ideal)) (R : Fin 8192)

/-- The gradient of the layer's input. -/
theorem rd_gx (l : Fin 1024) : val_main_v8 x0 x1 x2 (ix2 R l) = gx x0 x1 x2 R l := by
  pointwise [val_main_v8, val_main_v7, val_main_v6, val_main_v5, val_main_v3, val_main_cst_1]
  rw [add_comm]
  rfl
/-- The mLSTM's columns, rounded. -/
theorem rd_dml (j : Fin 1664) : val_main_v12 x1 (ix2 R j) = dml x1 R j := by
  pointwise [val_main_v12, val_main_v11, val_main_v10, val_main_v9, val_main_cst_2]
  rfl
end

/-- The reference runs, leaves its arguments as they were and every counter at zero. -/
theorem frame_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

section
variable (m : (ℓ : Loc Cert.Kernel9Ideal.nD Cert.Kernel9Ideal.τ Cert.Kernel9Ideal.sig) → Buf (Elt Ideal) ℓ) (c : Dev Cert.Kernel9Ideal.nD)

/-- The gradients of the layer's input agree. -/
theorem agree_gx : val_main_v8 (F := Ideal) (a0 m c) (a1 m c) (a2 m c) = (dats m 0 c).arrAt 8 Cert.Kernel9Ideal.cfg0.N := by
  rw [arr_gx]
  funext i
  exact (congrArg _ (eq_ix2 i)).trans (rd_gx _ _ _ (i 0) (i 1))
/-- The mLSTM's columns agree. -/
theorem agree_dml : val_main_v12 (F := Ideal) (a1 m c) = (dats m 0 c).arrAt 9 Cert.Kernel9Ideal.cfg0.N := by
  rw [arr_dml]
  funext i
  exact (congrArg _ (eq_ix2 i)).trans (rd_dml _ (i 0) (i 1))
end

/-- The kernel and the vjp of reference.py's lines leave the same two arrays. -/
theorem algebraic : Cert.algebraic_Kernel9Ideal_Reference9Ideal := by
  intro m g m' g' _ hargs
  refine ⟨fun c => (dats m 0 c).arrAt 8 Cert.Kernel9Ideal.cfg0.N, fun c => (dats m 0 c).arrAt 9 Cert.Kernel9Ideal.cfg0.N,
    Cert.Kernel9Ideal.Value.run_blocks m g, ?_⟩
  refine (θ_run Cert.Reference9Ideal.defs _ _).mono (fun r h c => ?_) (Cert.Reference9Ideal.Value.run (F := Ideal) m' g')
  obtain ⟨e0, e1, e2⟩ := hargs c
  obtain ⟨h0, h1, hk⟩ := h c
  refine ⟨h0.trans ?_, h1.trans ?_, hk⟩
  · rw [val_main_v8_eq, e0, e1, e2]; exact agree_gx m c
  · rw [val_main_v12_eq, e1]; exact agree_dml m c

end Cert.InBwd
end
-- ==== Proof.Step.Wgrad.lean ====
/-
  The product for the gradient of the SwiGLU's last weights, accumulated over four blocks of 2048 rows and rounded at the
  last, and the vjp of the reference's product. Sums over the extended reals, so no argument has to be finite.
-/
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise

@[expose] public section
set_option maxRecDepth 16384
noncomputable section
namespace Cert.Wgrad
open Idealize.ShloMosaic

/-- The part of the product a block of 2048 rows gives. -/
def part (a : (⟨2, ![8192, 2816]⟩ : Shape).Idx → EReal) (b : (⟨2, ![8192, 1024]⟩ : Shape).Idx → EReal) (s : ℕ) (f : Fin 2816) (l : Fin 1024) : EReal :=
  ∑ r : Fin 2048, if h : s * 2048 + r.val < 8192 then a (ix2 ⟨s * 2048 + r.val, h⟩ f) * b (ix2 ⟨s * 2048 + r.val, h⟩ l) else 0

/-- The four blocks together are all rows. -/
theorem sum_part (a : (⟨2, ![8192, 2816]⟩ : Shape).Idx → EReal) (b : (⟨2, ![8192, 1024]⟩ : Shape).Idx → EReal) (f : Fin 2816) (l : Fin 1024) :
    ∑ s ∈ Finset.range 4, part a b s f l = ∑ R : Fin 8192, a (ix2 R f) * b (ix2 R l) := by
  rw [Finset.sum_range (fun s => part a b s f l)]
  unfold part
  rw [← Fintype.sum_prod_type' (fun (s : Fin 4) (r : Fin 2048) =>
    if h : s.val * 2048 + r.val < 8192 then a (ix2 ⟨s.val * 2048 + r.val, h⟩ f) * b (ix2 ⟨s.val * 2048 + r.val, h⟩ l) else 0)]
  refine Fintype.sum_equiv (finProdFinEquiv (m := 4) (n := 2048)) _ (fun R : Fin 8192 => a (ix2 R f) * b (ix2 R l)) fun x => ?_
  have hx : (finProdFinEquiv x).val = x.1.val * 2048 + x.2.val := by
    show x.2.val + 2048 * x.1.val = _
    rw [Nat.mul_comm, Nat.add_comm]
  have hlt : x.1.val * 2048 + x.2.val < 8192 := by have := x.1.isLt; have := x.2.isLt; omega
  have e : (⟨x.1.val * 2048 + x.2.val, hlt⟩ : Fin 8192) = finProdFinEquiv x := Fin.ext hx.symm
  rw [dif_pos hlt, e]

end Cert.Wgrad

namespace Cert.Kernel10Ideal.WgradVal
open Cert.Kernel10Ideal Cert.Kernel10Ideal.Gen Idealize.ShloMosaic Idealize.ShloMosaic.TcCoe Idealize.SL.Sem
open Idealize.ShloMosaic.Pipeline (Dat)
open Cert.Wgrad (part sum_part)
variable (m : (ℓ : Loc nD τ sig) → Buf (Elt Ideal) ℓ) (c : Dev nD)

/-- The arguments: the activation and the residual's gradient. -/
abbrev a0 : S8192x2816.Idx → EReal := m ((c : Thread nD τ).loc main_arg0)
abbrev a1 : S8192x1024.Idx → EReal := m ((c : Thread nD τ).loc main_arg1)

/-- The activation, rounded. -/
theorem V_a (R : Fin 8192) (f : Fin 2816) : (V m c main_v0 : S8192x2816.Idx → EReal) (ix2 R f) = a0 m c (ix2 R f) := by
  unfold V
  simp only [hostOps0, List.flatten_cons, List.flatten_nil, List.append_nil, List.cons_append, List.nil_append]
  after_results
  clean_types
  pointwise

/-- Which block each window is on. -/
theorem idx0 : ∀ t : Fin cfg0.N, (win0_0.index t = ![t.val % 4, t.val / 4] ∧ win0_1.index t = ![t.val % 4, 0])
    ∧ win0_2.index t = ![t.val / 4, 0] ∧ win0_3.index t = ![t.val / 4, 0] :=
  (by decide +kernel : ∀ t : Fin grid0.N, (win0_0.index t = ![t.val % 4, t.val / 4] ∧ win0_1.index t = ![t.val % 4, 0])
    ∧ win0_2.index t = ![t.val / 4, 0] ∧ win0_3.index t = ![t.val / 4, 0])

/-- A block's row and column in the arrays. -/
def row (n : ℕ) (r : Fin 2048) : Fin 8192 := ⟨n % 4 * 2048 + r.val, by omega⟩
def col (n : ℕ) (h : n < 8) (f : Fin 1408) : Fin 2816 := ⟨n / 4 * 1408 + f.val, by omega⟩

theorem blk_a (t : Fin cfg0.N) (r : Fin 2048) (f : Fin 1408) : (iblk m c 0 t : S2048x1408.Idx → EReal) (ix2 r f) = a0 m c (ix2 (row t.val r) (col t.val t.isLt f)) := by
  rw [← V_a m c]; unfold row col; blk_ext [iblk, (idx0 t).1.1]
theorem blk_b (t : Fin cfg0.N) (r : Fin 2048) (l : Fin 1024) : (iblk m c 1 t : S2048x1024.Idx → EReal) (ix2 r l) = a1 m c (ix2 (row t.val r) l) := by
  unfold a1; rw [← V_main_arg1 m c]; unfold row; blk_ext [iblk, (idx0 t).1.2]

/-- A point adds its block's part to what the buffer held. -/
theorem pay_acc (t : Fin cfg0.N) (A : S1408x1024.Idx → EReal) (f : Fin 1408) (l : Fin 1024) :
    (k0_pay2 (F := Ideal) (iblk m c 0 t) A (iblk m c 1 t) : S1408x1024.Idx → EReal) (ix2 f l)
      = A (ix2 f l) + part (a0 m c) (a1 m c) (t.val % 4) (col t.val t.isLt f) l := by
  pointwise [k0_pay2]
  simp only [blk_a, blk_b]
  refine congrArg (fun z => A (ix2 f l) + z) (Finset.sum_congr rfl fun r _ => ?_)
  rw [dif_pos (by have := r.isLt; omega)]
  rfl

/-- The product's running sum after a point: the row blocks up to it. -/
theorem acc (f : Fin 1408) (l : Fin 1024) : ∀ n (h : n < cfg0.N),
    ((outsAt0 m c n h).1 (ix2 f l) : EReal) = ∑ s ∈ Finset.range (n % 4 + 1), part (a0 m c) (a1 m c) s (col n h f) l := by
  have hA : ∀ t : Fin cfg0.N, t.val % 4 = 0 → ((outsAt0 m c t.val t.isLt).1 (ix2 f l) : EReal)
      = ∑ s ∈ Finset.range (t.val % 4 + 1), part (a0 m c) (a1 m c) s (col t.val t.isLt f) l := by
    intro t h0
    rw [outsAt0_A m c t h0 (by omega)]
    frame_out
    refine (pay_acc m c t _ f l).trans ?_
    rw [h0, Finset.sum_range_one]
    rw [show (k0_pay1 (F := Ideal) : S1408x1024.Idx → EReal) (ix2 f l) = 0 by pointwise [k0_pay1], zero_add]
  have hs : ∀ t : Fin cfg0.N, ¬t.val % 4 = 0 → ((outsAt0 m c t.val t.isLt).1 (ix2 f l) : EReal)
      = (outsAt0 m c (t.val - 1) (by have := t.isLt; omega)).1 (ix2 f l) + part (a0 m c) (a1 m c) (t.val % 4) (col t.val t.isLt f) l := by
    intro t h0
    by_cases h1 : t.val % 4 = 3
    · rw [outsAt0_C m c t h0 h1]
      frame_out
      exact pay_acc m c t _ f l
    · rw [outsAt0_B m c t h0 h1]
      frame_out
      exact pay_acc m c t _ f l
  intro n
  induction n with
  | zero => exact fun h => hA ⟨0, h⟩ rfl
  | succ n ih =>
    intro h
    have h8 : n + 1 < 8 := h
    by_cases h0 : (n + 1) % 4 = 0
    · exact hA ⟨n + 1, h⟩ h0
    · have e : (n + 1) % 4 = n % 4 + 1 := by omega
      have ec : col (n + 1) h f = col n (by omega) f := Fin.ext (by unfold col; dsimp only; omega)
      rw [e, Finset.sum_range_succ, ec, ← ih (by omega)]
      refine (hs ⟨n + 1, h⟩ h0).trans ?_
      dsimp only
      rw [ec, e]
      rfl

/-- The rounded product is the product of the last row block's point. -/
theorem low (t : Fin cfg0.N) (h : t.val % 4 = 3) (f : Fin 1408) (l : Fin 1024) :
    ((outsAt0 m c t.val t.isLt).2 (ix2 f l) : EReal) = (outsAt0 m c t.val t.isLt).1 (ix2 f l) := by
  rw [outsAt0_C m c t (by omega) h]
  frame_out
  pointwise [k0_pay3]

/-- The product a column block's last point leaves. -/
theorem last (t : Fin cfg0.N) (h : t.val % 4 = 3) (f : Fin 1408) (l : Fin 1024) :
    ((outsAt0 m c t.val t.isLt).1 (ix2 f l) : EReal) = ∑ R : Fin 8192, a0 m c (ix2 R (col t.val t.isLt f)) * a1 m c (ix2 R l) := by
  rw [acc, h, sum_part]

/-- The gradient. -/
theorem arr_w : (dats m 0 c).arrAt 2 cfg0.N = fun i : S2816x1024.Idx => ∑ R : Fin 8192, a0 m c (ix2 R (i 0)) * a1 m c (ix2 R (i 1)) := by
  refine (dats m 0 c).arrAt_eq_of_covers 2 _ (by decide +kernel) fun t hf y => ?_
  have e0 : (win0_2.blk t).view.emb y 0 = col t.val t.isLt (y 0) := by
    refine Fin.ext ?_
    have h0 : win0_2.index t 0 = t.val / 4 := congrFun (idx0 t).2.1 0
    blk_simp
    rw [h0]; rfl
  have e1 : (win0_2.blk t).view.emb y 1 = y 1 := by
    refine Fin.ext ?_
    have h1 : win0_2.index t 1 = 0 := congrFun (idx0 t).2.1 1
    blk_simp
    omega
  beta_reduce
  rw [after0_2, e0, e1]
  exact (congrArg _ (eq_ix2 y)).trans (last m c t ((flush0_2 t).mp hf) (y 0) (y 1))
/-- The gradient, rounded. -/
theorem arr_low : (dats m 0 c).arrAt 3 cfg0.N = fun i : S2816x1024.Idx => ∑ R : Fin 8192, a0 m c (ix2 R (i 0)) * a1 m c (ix2 R (i 1)) := by
  refine (dats m 0 c).arrAt_eq_of_covers 3 _ (by decide +kernel) fun t hf y => ?_
  have e0 : (win0_3.blk t).view.emb y 0 = col t.val t.isLt (y 0) := by
    refine Fin.ext ?_
    have h0 : win0_3.index t 0 = t.val / 4 := congrFun (idx0 t).2.2 0
    blk_simp
    rw [h0]; rfl
  have e1 : (win0_3.blk t).view.emb y 1 = y 1 := by
    refine Fin.ext ?_
    have h1 : win0_3.index t 1 = 0 := congrFun (idx0 t).2.2 1
    blk_simp
    omega
  have h3 := (flush0_3 t).mp hf
  beta_reduce
  rw [after0_3, e0, e1]
  exact (congrArg _ (eq_ix2 y)).trans ((low m c t h3 (y 0) (y 1)).trans (last m c t h3 (y 0) (y 1)))

end Cert.Kernel10Ideal.WgradVal

namespace Cert.Wgrad
open Idealize.ShloMosaic Idealize.ShloMosaic.TcCoe Idealize.SL.Sem
open Cert.Reference10Ideal Cert.Reference10Ideal.Read
open Cert.Kernel10Ideal.WgradVal (a0 a1 arr_w arr_low)
open Cert.Kernel10Ideal.Gen (dats)

/-- The reference's gradient. -/
theorem rd_w (x0 : (⟨S8192x2816, .f32⟩ : BufTy).Contents (Elt Ideal)) (x1 : (⟨S8192x1024, .f32⟩ : BufTy).Contents (Elt Ideal)) (f : Fin 2816) (l : Fin 1024) :
    val_main_v3 x0 x1 (ix2 f l) = ∑ R : Fin 8192, x0 (ix2 R f) * x1 (ix2 R l) := by
  pointwise [val_main_v3, val_main_v2]
  exact Finset.sum_congr rfl fun R _ => mul_comm _ _

/-- The reference runs, leaves its arguments as they were and every counter at zero. -/
theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

section
variable (m : (ℓ : Loc Cert.Kernel10Ideal.nD Cert.Kernel10Ideal.τ Cert.Kernel10Ideal.sig) → Buf (Elt Ideal) ℓ) (c : Dev Cert.Kernel10Ideal.nD)

/-- The gradients agree. -/
theorem agree_w : val_main_v3 (F := Ideal) (a0 m c) (a1 m c) = (dats m 0 c).arrAt 2 Cert.Kernel10Ideal.cfg0.N := by
  rw [arr_w]
  funext i
  exact (congrArg _ (eq_ix2 i)).trans (rd_w _ _ (i 0) (i 1))
/-- The rounded gradients agree. -/
theorem agree_low : val_main_v4 (F := Ideal) (a0 m c) (a1 m c) = (dats m 0 c).arrAt 3 Cert.Kernel10Ideal.cfg0.N := by
  rw [arr_low]
  funext i
  pointwise [val_main_v4]
  exact (congrArg _ (eq_ix2 i)).trans (rd_w _ _ (i 0) (i 1))
end

/-- The kernel and the vjp of reference.py's product leave the same two arrays. -/
theorem algebraic : Cert.algebraic_Kernel10Ideal_Reference10Ideal := by
  intro m g m' g' _ hargs
  refine ⟨fun c => (dats m 0 c).arrAt 2 Cert.Kernel10Ideal.cfg0.N, fun c => (dats m 0 c).arrAt 3 Cert.Kernel10Ideal.cfg0.N,
    Cert.Kernel10Ideal.Value.run_blocks m g, ?_⟩
  refine (θ_run Cert.Reference10Ideal.defs _ _).mono (fun r h c => ?_) (Cert.Reference10Ideal.Value.run (F := Ideal) m' g')
  obtain ⟨e0, e1⟩ := hargs c
  obtain ⟨h0, h1, hk⟩ := h c
  refine ⟨h0.trans ?_, h1.trans ?_, hk⟩
  · rw [val_main_v3_eq, e0, e1]; exact agree_w m c
  · rw [val_main_v4_eq, e0, e1]; exact agree_low m c

end Cert.Wgrad
end
-- ==== Proof.Hgrn.Real.lean ====
/-
  The recurrence of the first mixer over the real numbers, one channel and one value column at a time, and what a chunk of 128
  steps adds up to: the decays of a chunk are carried as sums of logarithms.
-/
module

public import Mathlib.Analysis.SpecialFunctions.Log.Basic
public import Mathlib.Algebra.BigOperators.Fin
public import proofs.«01_k».proof.Proof.Real.Norm

@[expose] public section
noncomputable section
namespace Cert.Hgrn

/-- One entry of the state: it decays by `f` and takes in `k * v` at every step. -/
def S (f k v : ℕ → ℝ) : ℕ → ℝ
  | 0 => 0
  | t + 1 => f t * S f k v t + k t * v t

/-- The logarithm of the decay over `n` steps from `s` on. -/
def L (f : ℕ → ℝ) (s n : ℕ) : ℝ := ∑ j ∈ Finset.range n, Real.log (f (s + j))

theorem L_succ (f : ℕ → ℝ) (s n : ℕ) : L f s (n + 1) = L f s n + Real.log (f (s + n)) := Finset.sum_range_succ _ _

/-- The state `n` steps later: what was there has decayed, and every step's share has decayed from its step on. -/
theorem S_add (f k v : ℕ → ℝ) (hf : ∀ t, 0 < f t) (s n : ℕ) :
    S f k v (s + n) = Real.exp (L f s n) * S f k v s + ∑ j ∈ Finset.range n, Real.exp (L f s n - L f s (j + 1)) * (k (s + j) * v (s + j)) := by
  induction n with
  | zero => simp [L]
  | succ n ih =>
    have he : ∀ a : ℝ, Real.exp (L f s n + Real.log (f (s + n)) - a) = f (s + n) * Real.exp (L f s n - a) := fun a => by
      rw [show L f s n + Real.log (f (s + n)) - a = Real.log (f (s + n)) + (L f s n - a) by ring, Real.exp_add, Real.exp_log (hf _)]
    rw [← Nat.add_assoc, show S f k v (s + n + 1) = f (s + n) * S f k v (s + n) + k (s + n) * v (s + n) from rfl, ih, Finset.sum_range_succ,
      L_succ, sub_self, Real.exp_zero, one_mul, Real.exp_add, Real.exp_log (hf _)]
    simp only [he]
    rw [mul_add, Finset.mul_sum]
    simp only [mul_assoc]
    ring

/-- The state at the end of a chunk. -/
theorem S_chunk (f k v : ℕ → ℝ) (hf : ∀ t, 0 < f t) (s : ℕ) :
    S f k v s * Real.exp (L f s 128) + ∑ j : Fin 128, v (s + j.val) * (k (s + j.val) * Real.exp (L f s 128 - L f s (j.val + 1)))
      = S f k v (s + 128) := by
  rw [S_add f k v hf s 128, Finset.sum_range (n := 128) (fun j => Real.exp (L f s 128 - L f s (j + 1)) * (k (s + j) * v (s + j))), mul_comm]
  congr 1
  exact Finset.sum_congr rfl fun j _ => by ring

/-- The output of step `i` of a chunk: the pairs of steps of the chunk, and what came in with the state. -/
theorem out_chunk (q f k : ℕ → Fin 128 → ℝ) (v : ℕ → ℝ) (hf : ∀ t d, 0 < f t d) (s : ℕ) (i : Fin 128) :
    (∑ j : Fin 128, (if j.val ≤ i.val then ∑ d, q (s + i.val) d * (k (s + j.val) d
        * Real.exp (L (fun t => f t d) s (i.val + 1) - L (fun t => f t d) s (j.val + 1))) else 0) * v (s + j.val))
      + ∑ d, q (s + i.val) d * Real.exp (L (fun t => f t d) s (i.val + 1)) * S (fun t => f t d) (fun t => k t d) v s
      = ∑ d, q (s + i.val) d * S (fun t => f t d) (fun t => k t d) v (s + i.val + 1) := by
  have h : ∀ d, S (fun t => f t d) (fun t => k t d) v (s + i.val + 1) = Real.exp (L (fun t => f t d) s (i.val + 1)) * S (fun t => f t d) (fun t => k t d) v s
      + ∑ j : Fin 128, if j.val ≤ i.val then Real.exp (L (fun t => f t d) s (i.val + 1) - L (fun t => f t d) s (j.val + 1)) * (k (s + j.val) d * v (s + j.val)) else 0 := by
    intro d
    rw [Nat.add_assoc, S_add _ _ _ (fun t => hf t d) s (i.val + 1)]
    congr 1
    rw [← Finset.sum_range (n := 128) (fun j => if j ≤ i.val then Real.exp (L (fun t => f t d) s (i.val + 1) - L (fun t => f t d) s (j + 1)) * (k (s + j) d * v (s + j)) else 0),
      ← Finset.sum_filter]
    refine Finset.sum_congr ?_ fun j _ => rfl
    ext j
    simp only [Finset.mem_range, Finset.mem_filter]
    have := i.isLt
    omega
  simp only [h, mul_add, Finset.sum_add_distrib, Finset.mul_sum]
  rw [Finset.sum_comm (s := Finset.univ) (t := Finset.univ) (f := fun (d : Fin 128) (j : Fin 128) => q (s + i.val) d * (if j.val ≤ i.val then _ else 0)), add_comm]
  congr 1
  · exact Finset.sum_congr rfl fun d _ => by ring
  · refine Finset.sum_congr rfl fun j _ => ?_
    by_cases hj : j.val ≤ i.val
    · simp only [if_pos hj, Finset.sum_mul]
      exact Finset.sum_congr rfl fun d _ => by ring
    · simp only [if_neg hj, zero_mul, mul_zero, Finset.sum_const_zero]

/-- A chunk's sums of logarithms fall. -/
theorem L_anti (f : ℕ → ℝ) (h0 : ∀ t, 0 < f t) (h1 : ∀ t, f t ≤ 1) (s : ℕ) {a b : ℕ} (h : a ≤ b) : L f s b ≤ L f s a := by
  induction h with
  | refl => exact le_rfl
  | @step n _ ih =>
    show L f s (n + 1) ≤ L f s a
    rw [L_succ]; exact (add_le_of_nonpos_right (Real.log_nonpos (h0 (s + n)).le (h1 (s + n)))).trans ih

/-- and by at most five a step, where the decay is at least `exp (-5)`. -/
theorem L_drop (f : ℕ → ℝ) (h0 : ∀ t, Real.exp (-5) ≤ f t) (s a n : ℕ) : L f s a - L f s (a + n) ≤ 5 * n := by
  induction n with
  | zero => simp
  | succ n ih =>
    rw [← Nat.add_assoc, L_succ]
    have := (Real.le_log_iff_exp_le ((Real.exp_pos _).trans_le (h0 (s + (a + n))))).mpr (h0 (s + (a + n)))
    push_cast; linarith

/-- Seen from the start of its block of sixteen steps, no step of the block has decayed by more than `exp 80`: the cap is not met. -/
theorem L_cap (f : ℕ → ℝ) (h0 : ∀ t, Real.exp (-5) ≤ f t) (h1 : ∀ t, f t ≤ 1) (s o j : ℕ) (h : j < o + 16) : L f s o - L f s (j + 1) ≤ 80 := by
  by_cases hj : j + 1 ≤ o
  · have := L_anti f (fun t => (Real.exp_pos _).trans_le (h0 t)) h1 s hj
    linarith
  · obtain ⟨n, hn'⟩ : ∃ n, j + 1 = o + n := ⟨j + 1 - o, by omega⟩
    have := L_drop f h0 s o n
    have hn : (n : ℝ) ≤ 16 := by exact_mod_cast (by omega : n ≤ 16)
    rw [hn']
    linarith

/-! ## The gates -/

open Idealize.ShloMosaic

/-- The logistic function of a real. -/
def sr (x : ℝ) : ℝ := 1 / (1 + Real.exp (-x))

theorem one_exp_pos (x : ℝ) : 0 < 1 + Real.exp (-x) := by positivity

theorem sr_pos (x : ℝ) : 0 < sr x := by unfold sr; positivity
theorem sr_lt (x : ℝ) : sr x < 1 := by
  unfold sr; rw [div_lt_one (one_exp_pos x)]; linarith [Real.exp_pos (-x)]

theorem sr_coe' (x : ℝ) : Ideal.div 1 (1 + Ideal.exp (-(x : EReal))) = (sr x : EReal) := by
  rw [← EReal.coe_neg, Ideal.exp_coe, ← EReal.coe_one, ← EReal.coe_add, Cert.Real.div_coe _ (one_exp_pos x).ne']; rfl

theorem sr_coe (x : ℝ) : Ideal.div 1 (1 + Ideal.exp (0 - (x : EReal))) = (sr x : EReal) := by
  rw [zero_sub, sr_coe']

/-- The logarithm of a positive real. -/
theorem log_coe {x : ℝ} (h : 0 < x) : Ideal.log (x : EReal) = (Real.log x : EReal) := by
  rw [Ideal.log_coe, if_neg (not_le.mpr h)]

/-! ## A head whose columns start at `a`: its queries, decays, keys and values, of the rows `U` and the lower bounds `l` -/

variable (U : ℕ → ℕ → ℝ) (l : ℕ → ℝ) (a : ℕ)

def qr (t : ℕ) (d : Fin 128) : ℝ := U t (a + d.val) * sr (U t (a + d.val))
def fr (t : ℕ) (d : Fin 128) : ℝ := l (a + d.val) + (1 - l (a + d.val)) * sr (U t (512 + (a + d.val)))
def kr (t : ℕ) (d : Fin 128) : ℝ := (1 - l (a + d.val)) * (1 - sr (U t (512 + (a + d.val))))
def vr (t : ℕ) (e : Fin 128) : ℝ := U t (1024 + (a + e.val))

/-- The head's state before step `t`, for the value column `e` and the channel `d`. -/
def St (e d : Fin 128) (t : ℕ) : ℝ := S (fun t => fr U l a t d) (fun t => kr U l a t d) (fun t => vr U a t e) t

/-- The head's output of step `t`. -/
def Out (t : ℕ) (e : Fin 128) : ℝ := ∑ d, qr U a t d * St U l a e d (t + 1)

/-- The outputs of all heads, side by side. -/
def All (t n : ℕ) : ℝ := Out U l (n / 128 * 128) t ⟨n % 128, Nat.mod_lt _ (by norm_num)⟩

theorem All_eq (t n : ℕ) (e : Fin 128) (h : n = a + e.val) (ha : a % 128 = 0) : All U l t n = Out U l a t e := by
  have he := e.isLt
  have h1 : n / 128 * 128 = a := by omega
  have h2 : (⟨n % 128, Nat.mod_lt _ (by norm_num)⟩ : Fin 128) = e := Fin.ext (by dsimp only; omega)
  unfold All; rw [h1, h2]

theorem fr_ge (l0 : ∀ n, Real.exp (-5) ≤ l n) (l1 : ∀ n, l n ≤ 1) (t : ℕ) (d : Fin 128) : Real.exp (-5) ≤ fr U l a t d :=
  (l0 _).trans (le_add_of_nonneg_right (mul_nonneg (sub_nonneg.mpr (l1 _)) (sr_pos _).le))

theorem fr_pos (l0 : ∀ n, Real.exp (-5) ≤ l n) (l1 : ∀ n, l n ≤ 1) (t : ℕ) (d : Fin 128) : 0 < fr U l a t d :=
  (Real.exp_pos _).trans_le (fr_ge U l a l0 l1 t d)

theorem fr_le (l1 : ∀ n, l n ≤ 1) (t : ℕ) (d : Fin 128) : fr U l a t d ≤ 1 := by
  have := mul_le_of_le_one_right (sub_nonneg.mpr (l1 (a + d.val))) (sr_lt (U t (512 + (a + d.val)))).le
  unfold fr; linarith

/-- A row of a head's outputs, normed, scaled and gated. -/
def gated (o : Fin 128 → EReal) (g gn : EReal) (e : Fin 128) : EReal :=
  o e * Ideal.rsqrt (Ideal.div (∑ x, o x * o x) (Ideal.ofBits .f32 0x43000000#32) + Ideal.ofBits .f32 0x358637BD#32) * gn
    * (g * Ideal.div 1 (1 + Ideal.exp (0 - g)))

end Cert.Hgrn
end
-- ==== Proof.Hgrn.Args.lean ====
/-
  The arguments of the first mixer as reals: the rows that the recurrence reads, and the lower bounds of its decays.
-/
module

public import proofs.«01_k».proof.Proof.Hgrn.Real
public import Idealize.ShloMosaic.Lib.Pointwise

@[expose] public section
noncomputable section
namespace Cert.Hgrn
open Idealize.ShloMosaic

theorem bits_one : Ideal.ofBits .f32 0x3F800000#32 = 1 := by
  simp [Ideal.ofBits, Ideal.ieee, -EReal.coe_mul]; norm_num
theorem bits_bot : Ideal.ofBits .f32 0xFF800000#32 = ⊥ := by
  simp [Ideal.ofBits, Ideal.ieee]

variable (x0 : (⟨3, ![1, 8192, 3592]⟩ : Shape).Idx → EReal) (x1 : (⟨2, ![2, 512]⟩ : Shape).Idx → EReal)

/-- The rows as reals. -/
def Ur (t j : ℕ) : ℝ := if h : t < 8192 ∧ j < 3592 then (x0 (ix3 (0 : Fin 1) ⟨t, h.1⟩ ⟨j, h.2⟩)).toReal else 0

/-- The lower bounds: the softmax of the two rows of logits, its first row. -/
def lr (n : ℕ) : ℝ := if h : n < 512 then sr ((x1 (ix2 (0 : Fin 2) ⟨n, h⟩)).toReal - (x1 (ix2 (1 : Fin 2) ⟨n, h⟩)).toReal) else 1

/-- What is asked of the arguments: the columns that the recurrence reads and the logits are finite, and no lower bound of a decay is
    below `exp (-5)`. -/
structure Ok : Prop where
  u : ∀ (t : Fin 8192) (j : Fin 3592), j.val < 1536 → x0 (ix3 (0 : Fin 1) t j) ≠ ⊤ ∧ x0 (ix3 (0 : Fin 1) t j) ≠ ⊥
  l : ∀ (i : Fin 2) (j : Fin 512), x1 (ix2 i j) ≠ ⊤ ∧ x1 (ix2 i j) ≠ ⊥
  d : ∀ j : Fin 512, (x1 (ix2 (1 : Fin 2) j)).toReal - (x1 (ix2 (0 : Fin 2) j)).toReal ≤ 39 / 8

theorem lr_eq (j : Fin 512) : lr x1 j.val = sr ((x1 (ix2 (0 : Fin 2) j)).toReal - (x1 (ix2 (1 : Fin 2) j)).toReal) := by
  unfold lr; rw [dif_pos j.isLt]

theorem lr_le (n : ℕ) : lr x1 n ≤ 1 := by
  unfold lr; split
  · exact (sr_lt _).le
  · exact le_refl _

/-- The logistic function at `-39/8` is above `exp (-5)`. -/
theorem sr_ge {x : ℝ} (h : -x ≤ 39 / 8) : Real.exp (-5) ≤ sr x := by
  have h1 : Real.exp (-x) ≤ Real.exp (39 / 8) := Real.exp_le_exp.mpr h
  have h2 : 1 + 39 / 8 + (39 / 8 : ℝ) ^ 2 / 2 ≤ Real.exp (39 / 8) := Real.quadratic_le_exp_of_nonneg (by norm_num)
  have h3 : (1 / 8 : ℝ) + 1 ≤ Real.exp (1 / 8) := Real.add_one_le_exp _
  have h4 : Real.exp 5 = Real.exp (39 / 8) * Real.exp (1 / 8) := by rw [← Real.exp_add]; norm_num
  have h5 : 1 + Real.exp (-x) ≤ Real.exp 5 := by
    rw [h4]
    nlinarith [Real.exp_pos (39 / 8 : ℝ)]
  unfold sr
  rw [Real.exp_neg, ← one_div]
  exact one_div_le_one_div_of_le (one_exp_pos x) h5

variable {x0 x1}

theorem Ok.U_eq (H : Ok x0 x1) (t : Fin 8192) (j : Fin 3592) (hj : j.val < 1536) : x0 (ix3 (0 : Fin 1) t j) = (Ur x0 t.val j.val : EReal) := by
  unfold Ur
  rw [dif_pos ⟨t.isLt, j.isLt⟩]
  exact (EReal.coe_toReal (H.u t j hj).1 (H.u t j hj).2).symm

theorem Ok.l_eq (H : Ok x0 x1) (i : Fin 2) (j : Fin 512) : x1 (ix2 i j) = ((x1 (ix2 i j)).toReal : EReal) :=
  (EReal.coe_toReal (H.l i j).1 (H.l i j).2).symm

theorem Ok.lr_ge (H : Ok x0 x1) (n : ℕ) : Real.exp (-5) ≤ lr x1 n := by
  unfold lr; split
  · rename_i h
    exact sr_ge (by have := H.d ⟨n, h⟩; linarith)
  · exact Real.exp_le_one_iff.mpr (by norm_num)

/-- A softmax of two reals with any real subtracted from both. -/
theorem two (a b M : ℝ) : Ideal.div (Ideal.exp ((a : EReal) - (M : EReal))) (0 + (Ideal.exp ((a : EReal) - (M : EReal)) + Ideal.exp ((b : EReal) - (M : EReal)))) = (sr (a - b) : EReal) := by
  rw [← EReal.coe_sub, ← EReal.coe_sub, Ideal.exp_coe, Ideal.exp_coe, zero_add, ← EReal.coe_add, Cert.Real.div_coe _ (by positivity)]
  refine congrArg _ ?_
  unfold sr
  have h : Real.exp (b - M) = Real.exp (a - M) * Real.exp (-(a - b)) := by rw [← Real.exp_add]; ring_nf
  rw [h, ← mul_one_add, div_mul_eq_div_div, div_self (Real.exp_pos _).ne']

/-- The softmax of the two rows of logits, its first row. -/
theorem softmax (H : Ok x0 x1) (j : Fin 512) :
    Ideal.div (Ideal.exp (x1 (ix2 0 j) - max ⊥ (Finset.fold max ⊥ (fun x => x1 (ix2 x j)) Finset.univ)))
      (0 + ∑ y, Ideal.exp (x1 (ix2 y j) - max ⊥ (Finset.fold max ⊥ (fun x => x1 (ix2 x j)) Finset.univ)))
      = (sr ((x1 (ix2 (0 : Fin 2) j)).toReal - (x1 (ix2 (1 : Fin 2) j)).toReal) : EReal) := by
  have hM : max ⊥ (Finset.fold max ⊥ (fun x : Fin 2 => x1 (ix2 x j)) Finset.univ)
      = ((max (x1 (ix2 (0 : Fin 2) j)).toReal (x1 (ix2 (1 : Fin 2) j)).toReal : ℝ) : EReal) := by
    rw [EReal.coe_strictMono.monotone.map_max, ← H.l_eq 0 j, ← H.l_eq 1 j, show (Finset.univ : Finset (Fin 2)) = {0, 1} from rfl]
    simp
  rw [hM, Fin.sum_univ_two]
  refine Eq.trans ?_ (two _ _ (max (x1 (ix2 (0 : Fin 2) j)).toReal (x1 (ix2 (1 : Fin 2) j)).toReal))
  rw [← H.l_eq 0 j, ← H.l_eq 1 j]

end Cert.Hgrn
end
-- ==== Proof.Hgrn.Chunk.lean ====
/-
  One head's chunk of 128 steps, as the forward call of the first mixer computes it, and its value over the real numbers.
-/
module

public import proofs.«01_k».proof.Proof.Gen.Kernel11Ideal.Skeleton
public import proofs.«01_k».proof.Proof.Hgrn.Real
public import Idealize.ShloMosaic.Lib.Claim
public import Idealize.ShloMosaic.Lib.Pipeline.ValueKit
public import Idealize.ShloMosaic.Lib.Pointwise

@[expose] public section
set_option maxRecDepth 16384
noncomputable section
namespace Cert.Kernel11Ideal.HgrnVal
open Cert.Kernel11Ideal Cert.Kernel11Ideal.Gen Idealize.ShloMosaic Idealize.SL.Sem

abbrev Sq := FVec Ideal S128x128 .f32

/-- The logistic function. -/
def sgV (x : Sq) : Sq :=
  divf (broadcast S128x128 (Scalar.ofBits .f32 0x3F800000#32)) (addf (broadcast S128x128 (Scalar.ofBits .f32 0x3F800000#32))
    (exp (subf (broadcast S128x128 (Scalar.ofBits .f32 0x00000000#32)) x)))

/-- The query. -/
def qV (x : Sq) : Sq := mulf x (sgV x)

/-- What the lower bound leaves. -/
def omV (lb : FVec Ideal S1x128 .f32) : FVec Ideal S1x128 .f32 := subf (broadcast S1x128 (Scalar.ofBits .f32 0x3F800000#32)) lb

/-- The logarithm of the decay. -/
def lfV (lb : FVec Ideal S1x128 .f32) (x : Sq) : Sq :=
  log (addf (broadcastTo S128x128 lb broadcasts_S1x128_S128x128) (mulf (broadcastTo S128x128 (omV lb) broadcasts_S1x128_S128x128) (sgV x)))

/-- The key. -/
def kV (lb : FVec Ideal S1x128 .f32) (x : Sq) : Sq :=
  mulf (broadcastTo S128x128 (omV lb) broadcasts_S1x128_S128x128) (subf (broadcast S128x128 (Scalar.ofBits .f32 0x3F800000#32)) (sgV x))

/-- The part of a row that the narrow format leaves. -/
def loV (x : Sq) : Sq := subf x (extf .f32 (truncf .bf16 x bitsLt_bf16_f32) bitsLt_bf16_f32)

/-- The sums of the rows up to each row, in three parts. -/
def bV (x : Sq) : Sq :=
  addf (addf (addf (broadcast S128x128 (Scalar.ofBits .f32 0x00000000#32))
    (matmul dot_S128x128_S128x128_S128x128_1_0_0_1_n_n none (truncf .bf16 (k0_pay4 (F := Ideal)) bitsLt_bf16_f32) (truncf .bf16 x bitsLt_bf16_f32) (constant S128x128 .f32 0x00000000#32)))
    (matmul dot_S128x128_S128x128_S128x128_1_0_0_1_n_n none (truncf .bf16 (k0_pay4 (F := Ideal)) bitsLt_bf16_f32) (truncf .bf16 (loV x) bitsLt_bf16_f32) (constant S128x128 .f32 0x00000000#32)))
    (matmul dot_S128x128_S128x128_S128x128_1_0_0_1_n_n none (truncf .bf16 (k0_pay4 (F := Ideal)) bitsLt_bf16_f32) (truncf .bf16 (loV (loV x)) bitsLt_bf16_f32) (constant S128x128 .f32 0x00000000#32))

/-- One block of sixteen rows of the pairs: queries from the row `r` on, keys seen from the row before it. -/
def rowsV (qs bs : FVec Ideal S16x128 .f32) (k b : Sq) (r : FVec Ideal S1x128 .f32) : FVec Ideal S16x128 .f32 :=
  matmul dot_S16x128_S128x128_S16x128_1_1_0_0_n_n none
    (truncf .bf16 (mulf qs (exp (subf bs (broadcastTo S16x128 r broadcasts_S1x128_S16x128)))) bitsLt_bf16_f32)
    (truncf .bf16 (mulf k (exp (minimumf (subf (broadcastTo S128x128 r broadcasts_S1x128_S128x128) b)
      (broadcast S128x128 (Scalar.ofBits .f32 0x42A00000#32))))) bitsLt_bf16_f32)
    (constant S16x128 .f32 0x00000000#32)

/-- The pairs of steps. -/
def aV (q k b : Sq) : Sq :=
  select k0_pay3 (concatenate S128x128 0
    [⟨S16x128, rowsV (extractStridedSlice S16x128 ![0, 0] q slices_S128x128_o0_0_S16x128) (extractStridedSlice S16x128 ![0, 0] b slices_S128x128_o0_0_S16x128) k b (broadcast S1x128 (Scalar.ofBits .f32 0x00000000#32))⟩,
     ⟨S16x128, rowsV (extractStridedSlice S16x128 ![16, 0] q slices_S128x128_o16_0_S16x128) (extractStridedSlice S16x128 ![16, 0] b slices_S128x128_o16_0_S16x128) k b (extractStridedSlice S1x128 ![15, 0] b slices_S128x128_o15_0_S1x128)⟩,
     ⟨S16x128, rowsV (extractStridedSlice S16x128 ![32, 0] q slices_S128x128_o32_0_S16x128) (extractStridedSlice S16x128 ![32, 0] b slices_S128x128_o32_0_S16x128) k b (extractStridedSlice S1x128 ![31, 0] b slices_S128x128_o31_0_S1x128)⟩,
     ⟨S16x128, rowsV (extractStridedSlice S16x128 ![48, 0] q slices_S128x128_o48_0_S16x128) (extractStridedSlice S16x128 ![48, 0] b slices_S128x128_o48_0_S16x128) k b (extractStridedSlice S1x128 ![47, 0] b slices_S128x128_o47_0_S1x128)⟩,
     ⟨S16x128, rowsV (extractStridedSlice S16x128 ![64, 0] q slices_S128x128_o64_0_S16x128) (extractStridedSlice S16x128 ![64, 0] b slices_S128x128_o64_0_S16x128) k b (extractStridedSlice S1x128 ![63, 0] b slices_S128x128_o63_0_S1x128)⟩,
     ⟨S16x128, rowsV (extractStridedSlice S16x128 ![80, 0] q slices_S128x128_o80_0_S16x128) (extractStridedSlice S16x128 ![80, 0] b slices_S128x128_o80_0_S16x128) k b (extractStridedSlice S1x128 ![79, 0] b slices_S128x128_o79_0_S1x128)⟩,
     ⟨S16x128, rowsV (extractStridedSlice S16x128 ![96, 0] q slices_S128x128_o96_0_S16x128) (extractStridedSlice S16x128 ![96, 0] b slices_S128x128_o96_0_S16x128) k b (extractStridedSlice S1x128 ![95, 0] b slices_S128x128_o95_0_S1x128)⟩,
     ⟨S16x128, rowsV (extractStridedSlice S16x128 ![112, 0] q slices_S128x128_o112_0_S16x128) (extractStridedSlice S16x128 ![112, 0] b slices_S128x128_o112_0_S16x128) k b (extractStridedSlice S1x128 ![111, 0] b slices_S128x128_o111_0_S1x128)⟩]
    concatenates_S16x128_S16x128_S16x128_S16x128_S16x128_S16x128_S16x128_S16x128_S128x128_d0)
    (broadcast S128x128 (Scalar.ofBits .f32 0x00000000#32))

/-- The chunk's outputs, from its pairs, its values and the state before it. -/
def oV (q k b v st : Sq) : Sq :=
  addf (matmul dot_S128x128_S128x128_S128x128_1_0_0_1_n_n none (truncf .bf16 (aV q k b) bitsLt_bf16_f32) (truncf .bf16 v bitsLt_bf16_f32) (constant S128x128 .f32 0x00000000#32))
    (matmul dot_S128x128_S128x128_S128x128_1_1_0_0_n_n none (truncf .bf16 (mulf q (exp b)) bitsLt_bf16_f32) (truncf .bf16 st bitsLt_bf16_f32) (constant S128x128 .f32 0x00000000#32))

/-- The state after the chunk. -/
def nV (k b v st : Sq) : Sq :=
  addf (mulf st (broadcastTo S128x128 (exp (extractStridedSlice S1x128 ![127, 0] b slices_S128x128_o127_0_S1x128)) broadcasts_S1x128_S128x128))
    (matmul dot_S128x128_S128x128_S128x128_0_0_1_1_n_n none (truncf .bf16 v bitsLt_bf16_f32)
      (truncf .bf16 (mulf k (exp (subf (broadcastTo S128x128 (extractStridedSlice S1x128 ![127, 0] b slices_S128x128_o127_0_S1x128) broadcasts_S1x128_S128x128) b))) bitsLt_bf16_f32)
      (constant S128x128 .f32 0x00000000#32))

/-- The gated outputs. -/
def ogV (o g : Sq) (gn : FVec Ideal S1x128 .f32) : FVec Ideal S128x128 .bf16 :=
  truncf .bf16 (mulf (mulf (mulf o (broadcastTo S128x128 (rsqrt (addf (divf (shapeCast S128x1 (multiReduction .add [1] S128 (mulf o o) 0x00000000#32 reduces_S128x128_S128 (.inl rfl) rfl) shapeCasts_S128_S128x1)
      (broadcast S128x1 (Scalar.ofBits .f32 0x43000000#32))) (broadcast S128x1 (Scalar.ofBits .f32 0x358637BD#32)))) broadcasts_S128x1_S128x128))
      (broadcastTo S128x128 gn broadcasts_S1x128_S128x128)) (qV g)) bitsLt_bf16_f32

/-! ## Over the real numbers -/

open Cert.Hgrn (sr sr_coe log_coe)

theorem sgV_real {x : Sq} {u : Fin 128 → Fin 128 → ℝ} (hx : ∀ i j, (x : S128x128.Idx → EReal) (ix2 i j) = (u i j : EReal)) (i j : Fin 128) :
    (sgV x : S128x128.Idx → EReal) (ix2 i j) = (sr (u i j) : EReal) := by
  pointwise [sgV]
  rw [hx, sr_coe]

theorem qV_real {x : Sq} {u : Fin 128 → Fin 128 → ℝ} (hx : ∀ i j, (x : S128x128.Idx → EReal) (ix2 i j) = (u i j : EReal)) (i j : Fin 128) :
    (qV x : S128x128.Idx → EReal) (ix2 i j) = (u i j * sr (u i j) : ℝ) := by
  pointwise [qV]
  rw [sgV_real hx, hx, EReal.coe_mul]

theorem lfV_real {lb : FVec Ideal S1x128 .f32} {x : Sq} {l : Fin 128 → ℝ} {u : Fin 128 → Fin 128 → ℝ}
    (hl : ∀ j, (lb : S1x128.Idx → EReal) (ix2 0 j) = (l j : EReal)) (hx : ∀ i j, (x : S128x128.Idx → EReal) (ix2 i j) = (u i j : EReal))
    (hf : ∀ i j, 0 < l j + (1 - l j) * sr (u i j)) (i j : Fin 128) :
    (lfV lb x : S128x128.Idx → EReal) (ix2 i j) = (Real.log (l j + (1 - l j) * sr (u i j)) : ℝ) := by
  pointwise [lfV, omV]
  rw [sgV_real hx, hl, ← EReal.coe_one, ← EReal.coe_sub, ← EReal.coe_mul, ← EReal.coe_add, log_coe (hf i j)]

theorem kV_real {lb : FVec Ideal S1x128 .f32} {x : Sq} {l : Fin 128 → ℝ} {u : Fin 128 → Fin 128 → ℝ}
    (hl : ∀ j, (lb : S1x128.Idx → EReal) (ix2 0 j) = (l j : EReal)) (hx : ∀ i j, (x : S128x128.Idx → EReal) (ix2 i j) = (u i j : EReal)) (i j : Fin 128) :
    (kV lb x : S128x128.Idx → EReal) (ix2 i j) = ((1 - l j) * (1 - sr (u i j)) : ℝ) := by
  pointwise [kV, omV]
  rw [sgV_real hx, hl, ← EReal.coe_one, ← EReal.coe_sub, ← EReal.coe_sub, ← EReal.coe_mul]

theorem sle_rows : ∀ i j : Fin 128, IntOp.cmpi CmpIPredicate.sle (BitVec.ofNat 32 j.val) (BitVec.ofNat 32 i.val) = if j.val ≤ i.val then 1#1 else 0#1 := by
  decide +kernel

theorem tri_coe (i j : Fin 128) : (FloatOps.sitofp FTy.f32 (BitVec.setWidth 32 (IntOp.cmpi CmpIPredicate.sle (BitVec.ofNat 32 j.val) (BitVec.ofNat 32 i.val))) : Ideal .f32)
    = ((if j.val ≤ i.val then 1 else 0 : ℝ) : EReal) := by
  rw [sle_rows]
  by_cases h : j.val ≤ i.val
  · rw [if_pos h, if_pos h]; show ((((BitVec.setWidth 32 1#1).toInt : ℤ) : ℝ) : EReal) = _; norm_num
  · rw [if_neg h, if_neg h]; show ((((BitVec.setWidth 32 0#1).toInt : ℤ) : ℝ) : EReal) = _; norm_num

/-- The sums of logarithms, over a chunk from step `s` on. -/
theorem bV_real {x : Sq} {f : ℕ → Fin 128 → ℝ} {s : ℕ}
    (hx : ∀ i j, (x : S128x128.Idx → EReal) (ix2 i j) = (Real.log (f (s + i.val) j) : EReal)) (i j : Fin 128) :
    (bV x : S128x128.Idx → EReal) (ix2 i j) = (Cert.Hgrn.L (fun t => f t j) s (i.val + 1) : ℝ) := by
  pointwise [bV, loV, k0_pay4, k0_pay3]
  simp only [tri_coe, hx, ← EReal.coe_sub, ← EReal.coe_mul, Cert.Real.coe_sum, ← EReal.coe_add]
  congr 1
  simp only [sub_self, mul_zero, Finset.sum_const_zero, add_zero, ite_mul, one_mul, zero_mul]
  rw [← Finset.sum_range (n := 128) (fun t => if t ≤ i.val then Real.log (f (s + t) j) else 0), ← Finset.sum_filter]
  refine Finset.sum_congr ?_ fun t _ => rfl
  ext t
  simp only [Finset.mem_range, Finset.mem_filter]
  have := i.isLt
  omega

theorem bits_80 : Ideal.ofBits .f32 0x42A00000#32 = ((80 : ℝ) : EReal) := by
  simp [Ideal.ofBits, Ideal.ieee, -EReal.coe_mul]; norm_num

theorem min_coe (a b : ℝ) : min (a : EReal) (b : EReal) = ((min a b : ℝ) : EReal) := (EReal.coe_strictMono.monotone.map_min).symm

/-- A row of pairs, seen from the start of its block of sixteen. -/
theorem rowsV_real {qs bs : FVec Ideal S16x128 .f32} {k b : Sq} {r : FVec Ideal S1x128 .f32} {q f κ : ℕ → Fin 128 → ℝ} {s n : ℕ}
    (f0 : ∀ t d, Real.exp (-5) ≤ f t d) (f1 : ∀ t d, f t d ≤ 1)
    (hk : ∀ i d, (k : S128x128.Idx → EReal) (ix2 i d) = (κ (s + i.val) d : EReal))
    (hb : ∀ i d, (b : S128x128.Idx → EReal) (ix2 i d) = (Cert.Hgrn.L (fun t => f t d) s (i.val + 1) : EReal))
    (i : Fin 16) (R : ℕ) (hR : R = 16 * n + i.val)
    (hq : ∀ d, (qs : S16x128.Idx → EReal) (ix2 i d) = (q (s + R) d : EReal))
    (hbs : ∀ d, (bs : S16x128.Idx → EReal) (ix2 i d) = (Cert.Hgrn.L (fun t => f t d) s (R + 1) : EReal))
    (hr : ∀ d, (r : S1x128.Idx → EReal) (ix2 0 d) = (Cert.Hgrn.L (fun t => f t d) s (16 * n) : EReal))
    (j : Fin 128) (hj : j.val ≤ R) :
    (rowsV qs bs k b r : S16x128.Idx → EReal) (ix2 i j)
      = (∑ d, q (s + R) d * (κ (s + j.val) d * Real.exp (Cert.Hgrn.L (fun t => f t d) s (R + 1) - Cert.Hgrn.L (fun t => f t d) s (j.val + 1))) : ℝ) := by
  pointwise [rowsV]
  simp only [hk, hb, hq, hbs, hr, bits_80, ← EReal.coe_sub, min_coe, Ideal.exp_coe, ← EReal.coe_mul, Cert.Real.coe_sum]
  congr 1
  refine Finset.sum_congr rfl fun d _ => ?_
  have hi := i.isLt
  rw [min_eq_left (Cert.Hgrn.L_cap (fun t => f t d) (fun t => f0 t d) (fun t => f1 t d) s (16 * n) j.val (by omega)),
    show ∀ a b c e g : ℝ, a * b * (c * e) = a * (c * (b * e)) from fun a b c e g => by ring, ← Real.exp_add]
  · congr 3; ring
  · exact 0

/-- The pairs of steps. -/
theorem aV_real {Q k b : Sq} {q f κ : ℕ → Fin 128 → ℝ} {s : ℕ}
    (f0 : ∀ t d, Real.exp (-5) ≤ f t d) (f1 : ∀ t d, f t d ≤ 1)
    (hq : ∀ i d, (Q : S128x128.Idx → EReal) (ix2 i d) = (q (s + i.val) d : EReal))
    (hk : ∀ i d, (k : S128x128.Idx → EReal) (ix2 i d) = (κ (s + i.val) d : EReal))
    (hb : ∀ i d, (b : S128x128.Idx → EReal) (ix2 i d) = (Cert.Hgrn.L (fun t => f t d) s (i.val + 1) : EReal)) (i j : Fin 128) :
    (aV Q k b : S128x128.Idx → EReal) (ix2 i j)
      = (if j.val ≤ i.val then ∑ d, q (s + i.val) d * (κ (s + j.val) d
          * Real.exp (Cert.Hgrn.L (fun t => f t d) s (i.val + 1) - Cert.Hgrn.L (fun t => f t d) s (j.val + 1))) else 0 : ℝ) := by
  have hq' : ∀ (R : ℕ) (i : Fin 128) (d), i.val = R → (Q : S128x128.Idx → EReal) (ix2 i d) = (q (s + R) d : EReal) := by
    rintro _ i d rfl; exact hq i d
  have hb' : ∀ (R : ℕ) (i : Fin 128) (d), i.val + 1 = R → (b : S128x128.Idx → EReal) (ix2 i d) = (Cert.Hgrn.L (fun t => f t d) s R : EReal) := by
    rintro _ i d rfl; exact hb i d
  pointwise [aV, k0_pay3]
  rw [sle_rows]
  by_cases h : j.val ≤ i.val
  · rw [if_pos h, if_pos h]
    have hi := i.isLt
    rw [show ∀ a b : EReal, Scalar.select (1#1) a b = a from fun _ _ => rfl]
    split_ifs with h0 h1 h2 h3 h4 h5 h6
    · refine rowsV_real (n := 0) f0 f1 hk hb _ i.val (by simp) (fun d => ?_) (fun d => ?_) (fun d => ?_) j h
      · pointwise; exact hq' _ _ _ rfl
      · pointwise; exact hb' _ _ _ rfl
      · pointwise; simp [Cert.Hgrn.L]
    all_goals try (exfalso; omega)
    all_goals
      first
      | refine rowsV_real (n := 1) f0 f1 hk hb _ i.val (by dsimp only; omega) (fun d => ?_) (fun d => ?_) (fun d => ?_) j h
      | refine rowsV_real (n := 2) f0 f1 hk hb _ i.val (by dsimp only; omega) (fun d => ?_) (fun d => ?_) (fun d => ?_) j h
      | refine rowsV_real (n := 3) f0 f1 hk hb _ i.val (by dsimp only; omega) (fun d => ?_) (fun d => ?_) (fun d => ?_) j h
      | refine rowsV_real (n := 4) f0 f1 hk hb _ i.val (by dsimp only; omega) (fun d => ?_) (fun d => ?_) (fun d => ?_) j h
      | refine rowsV_real (n := 5) f0 f1 hk hb _ i.val (by dsimp only; omega) (fun d => ?_) (fun d => ?_) (fun d => ?_) j h
      | refine rowsV_real (n := 6) f0 f1 hk hb _ i.val (by dsimp only; omega) (fun d => ?_) (fun d => ?_) (fun d => ?_) j h
      | refine rowsV_real (n := 7) f0 f1 hk hb _ i.val (by dsimp only; omega) (fun d => ?_) (fun d => ?_) (fun d => ?_) j h
      · pointwise; exact hq' _ _ _ (by dsimp only; omega)
      · pointwise; exact hb' _ _ _ (by dsimp only; omega)
      · pointwise; exact hb' _ _ _ (by rfl)
  · rw [if_neg h, if_neg h]; rfl

/-- The chunk's outputs. -/
theorem oV_real {Q k b v st : Sq} {q f κ ν : ℕ → Fin 128 → ℝ} {s : ℕ}
    (f0 : ∀ t d, Real.exp (-5) ≤ f t d) (f1 : ∀ t d, f t d ≤ 1)
    (hq : ∀ i d, (Q : S128x128.Idx → EReal) (ix2 i d) = (q (s + i.val) d : EReal))
    (hk : ∀ i d, (k : S128x128.Idx → EReal) (ix2 i d) = (κ (s + i.val) d : EReal))
    (hb : ∀ i d, (b : S128x128.Idx → EReal) (ix2 i d) = (Cert.Hgrn.L (fun t => f t d) s (i.val + 1) : EReal))
    (hv : ∀ i d, (v : S128x128.Idx → EReal) (ix2 i d) = (ν (s + i.val) d : EReal))
    (hs : ∀ e d, (st : S128x128.Idx → EReal) (ix2 e d) = (Cert.Hgrn.S (fun t => f t d) (fun t => κ t d) (fun t => ν t e) s : EReal)) (i e : Fin 128) :
    (oV Q k b v st : S128x128.Idx → EReal) (ix2 i e)
      = (∑ d, q (s + i.val) d * Cert.Hgrn.S (fun t => f t d) (fun t => κ t d) (fun t => ν t e) (s + i.val + 1) : ℝ) := by
  pointwise [oV]
  simp only [aV_real f0 f1 hq hk hb, hq, hb, hv, hs, Ideal.exp_coe, ← EReal.coe_mul, Cert.Real.coe_sum, ← EReal.coe_add]
  rw [Cert.Hgrn.out_chunk q f κ (fun t => ν t e) (fun t d => (Real.exp_pos _).trans_le (f0 t d)) s i]

/-- The state after the chunk. -/
theorem nV_real {k b v st : Sq} {f κ ν : ℕ → Fin 128 → ℝ} {s : ℕ}
    (f0 : ∀ t d, Real.exp (-5) ≤ f t d)
    (hk : ∀ i d, (k : S128x128.Idx → EReal) (ix2 i d) = (κ (s + i.val) d : EReal))
    (hb : ∀ i d, (b : S128x128.Idx → EReal) (ix2 i d) = (Cert.Hgrn.L (fun t => f t d) s (i.val + 1) : EReal))
    (hv : ∀ i d, (v : S128x128.Idx → EReal) (ix2 i d) = (ν (s + i.val) d : EReal))
    (hs : ∀ e d, (st : S128x128.Idx → EReal) (ix2 e d) = (Cert.Hgrn.S (fun t => f t d) (fun t => κ t d) (fun t => ν t e) s : EReal)) (e d : Fin 128) :
    (nV k b v st : S128x128.Idx → EReal) (ix2 e d) = (Cert.Hgrn.S (fun t => f t d) (fun t => κ t d) (fun t => ν t e) (s + 128) : ℝ) := by
  pointwise [nV]
  simp only [hk, hb, hv, hs, ← EReal.coe_sub, Ideal.exp_coe, ← EReal.coe_mul, Cert.Real.coe_sum, ← EReal.coe_add]
  rw [← Cert.Hgrn.S_chunk _ _ _ (fun t => (Real.exp_pos _).trans_le (f0 t d)) s]
  rfl

/-! ## A chunk of a block: its loads, the state before it, and what it leaves -/

section
variable {U : ℕ → ℕ → ℝ} {l : ℕ → ℝ} {base : ℕ} {B : S512x2048.Idx → EReal} {X : S2x512.Idx → EReal}

/-- A load of a head's columns of a chunk's rows. -/
theorem ld_eq {r a : ℕ}
    (inb : ∀ x : Fin 2, (![r, a] : Fin 2 → ℕ) x + (![128, 128] : Fin 2 → ℕ) x ≤ S512x2048.size x) (i j : Fin 128) :
    (shapeCast S128x128 (View.ld (Val := Elt Ideal) (e' := .f32) B (Rect.unit (s := S512x2048) ![r, a] ![128, 128] inb)) shapeCasts_S128x128_S128x128 : S128x128.Idx → EReal) (ix2 i j)
      = B (ix2 ⟨r + i.val, Nat.lt_of_lt_of_le (Nat.add_lt_add_left i.isLt r) (inb 0)⟩ ⟨a + j.val, Nat.lt_of_lt_of_le (Nat.add_lt_add_left j.isLt a) (inb 1)⟩) := by
  generalize hY : View.ld (Val := Elt Ideal) (e' := .f32) B (Rect.unit (s := S512x2048) ![r, a] ![128, 128] inb) = Y
  have : (shapeCast S128x128 Y shapeCasts_S128x128_S128x128 : S128x128.Idx → EReal) (ix2 i j) = (Y : S128x128.Idx → EReal) (ix2 i j) := by
    revert Y; intro (Y : S128x128.Idx → EReal) _; pointwise
  rw [this, ← hY]
  refine congrArg B (funext fun x => Fin.ext ?_)
  match x with
  | ⟨0, _⟩ => simp [Rect.unit, Rect.emb, ix2]
  | ⟨1, _⟩ => simp [Rect.unit, Rect.emb, ix2]

/-- A head's columns of a chunk's rows, over the reals. -/
theorem ld_real (hB : ∀ (i : Fin 512) (j : Fin 2048), j.val < 1536 → B (ix2 i j) = (U (base + i.val) j.val : EReal)) {r a : ℕ} (ha : a + 128 ≤ 1536)
    (inb : ∀ x : Fin 2, (![r, a] : Fin 2 → ℕ) x + (![128, 128] : Fin 2 → ℕ) x ≤ S512x2048.size x) (i j : Fin 128) :
    (shapeCast S128x128 (View.ld (Val := Elt Ideal) (e' := .f32) B (Rect.unit (s := S512x2048) ![r, a] ![128, 128] inb)) shapeCasts_S128x128_S128x128 : S128x128.Idx → EReal) (ix2 i j)
      = (U (base + r + i.val) (a + j.val) : EReal) := by
  rw [ld_eq inb, hB _ _ (by have := j.isLt; dsimp only; omega), Nat.add_assoc]

/-- A head's lower bounds. -/
theorem lb_real (hX : ∀ j : Fin 512, (k0_pay2 (F := Ideal) X : S1x512.Idx → EReal) (ix2 0 j) = (l j.val : EReal)) {a : ℕ}
    (hs : S1x512.Slices ![0, a] S1x128) (j : Fin 128) :
    (extractStridedSlice S1x128 ![0, a] (k0_pay2 (F := Ideal) X) hs : S1x128.Idx → EReal) (ix2 0 j) = (l (a + j.val) : EReal) := by
  have e1 : a + 128 ≤ 512 := hs.2 1
  have hc : (extractStridedSlice S1x128 ![0, a] (k0_pay2 (F := Ideal) X) hs : S1x128.Idx → EReal) (ix2 0 j)
      = (k0_pay2 (F := Ideal) X : S1x512.Idx → EReal) (ix2 0 ⟨a + j.val, by omega⟩) := by
    refine congrArg (k0_pay2 (F := Ideal) X) (funext fun x => Fin.ext ?_)
    match x with
    | ⟨0, _⟩ => rfl
    | ⟨1, _⟩ => rfl
  rw [hc, hX]

/-- The outputs of a head's chunk. -/
theorem o_blk (l0 : ∀ n, Real.exp (-5) ≤ l n) (l1 : ∀ n, l n ≤ 1)
    (hB : ∀ (i : Fin 512) (j : Fin 2048), j.val < 1536 → B (ix2 i j) = (U (base + i.val) j.val : EReal))
    (hX : ∀ j : Fin 512, (k0_pay2 (F := Ideal) X : S1x512.Idx → EReal) (ix2 0 j) = (l j.val : EReal)) {r a a' a'' : ℕ}
    {i0 : ∀ x : Fin 2, (![r, a] : Fin 2 → ℕ) x + (![128, 128] : Fin 2 → ℕ) x ≤ S512x2048.size x}
    {i1 : ∀ x : Fin 2, (![r, a'] : Fin 2 → ℕ) x + (![128, 128] : Fin 2 → ℕ) x ≤ S512x2048.size x}
    {i2 : ∀ x : Fin 2, (![r, a''] : Fin 2 → ℕ) x + (![128, 128] : Fin 2 → ℕ) x ≤ S512x2048.size x}
    {hs : S1x512.Slices ![0, a] S1x128} {st : Sq}
    (h' : a' = 512 + a) (h'' : a'' = 1024 + a)
    (hst : ∀ e d, (st : S128x128.Idx → EReal) (ix2 e d) = (Cert.Hgrn.St U l a e d (base + r) : EReal)) (i e : Fin 128) :
    (oV (qV (shapeCast S128x128 (View.ld (Val := Elt Ideal) (e' := .f32) B (Rect.unit (s := S512x2048) ![r, a] ![128, 128] i0)) shapeCasts_S128x128_S128x128))
      (kV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128))
      (bV (lfV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128)))
      (shapeCast S128x128 (View.ld (Val := Elt Ideal) (e' := .f32) B (Rect.unit (s := S512x2048) ![r, a''] ![128, 128] i2)) shapeCasts_S128x128_S128x128) st : S128x128.Idx → EReal) (ix2 i e)
      = (Cert.Hgrn.Out U l a (base + r + i.val) e : EReal) := by
  subst h' h''
  have e1 : a + 128 ≤ 512 := hs.2 1
  exact oV_real (fun t d => Cert.Hgrn.fr_ge U l a l0 l1 t d) (fun t d => Cert.Hgrn.fr_le U l a l1 t d)
    (qV_real (fun i j => ld_real hB (by omega) i0 i j)) (kV_real (fun j => lb_real hX hs j) (fun i j => by rw [ld_real hB (by omega) i1 i j, Nat.add_assoc 512]))
    (bV_real (lfV_real (fun j => lb_real hX hs j) (fun i j => by rw [ld_real hB (by omega) i1 i j, Nat.add_assoc 512]) (fun i j => Cert.Hgrn.fr_pos U l a l0 l1 _ _)))
    (fun i j => by rw [ld_real hB (by omega) i2 i j, Nat.add_assoc 1024]; rfl) hst i e

/-- The state that a head's chunk leaves, as it is read back. -/
theorem n_blk (l0 : ∀ n, Real.exp (-5) ≤ l n) (l1 : ∀ n, l n ≤ 1)
    (hB : ∀ (i : Fin 512) (j : Fin 2048), j.val < 1536 → B (ix2 i j) = (U (base + i.val) j.val : EReal))
    (hX : ∀ j : Fin 512, (k0_pay2 (F := Ideal) X : S1x512.Idx → EReal) (ix2 0 j) = (l j.val : EReal)) {r a a' a'' : ℕ}
    {i1 : ∀ x : Fin 2, (![r, a'] : Fin 2 → ℕ) x + (![128, 128] : Fin 2 → ℕ) x ≤ S512x2048.size x}
    {i2 : ∀ x : Fin 2, (![r, a''] : Fin 2 → ℕ) x + (![128, 128] : Fin 2 → ℕ) x ≤ S512x2048.size x}
    {hs : S1x512.Slices ![0, a] S1x128} {st : Sq}
    (h' : a' = 512 + a) (h'' : a'' = 1024 + a)
    (hst : ∀ e d, (st : S128x128.Idx → EReal) (ix2 e d) = (Cert.Hgrn.St U l a e d (base + r) : EReal)) (e d : Fin 128) :
    (nV (kV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128))
      (bV (lfV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128)))
      (shapeCast S128x128 (View.ld (Val := Elt Ideal) (e' := .f32) B (Rect.unit (s := S512x2048) ![r, a''] ![128, 128] i2)) shapeCasts_S128x128_S128x128) st : S128x128.Idx → EReal) (ix2 e d)
      = (Cert.Hgrn.St U l a e d (base + (r + 128)) : EReal) := by
  subst h' h''
  have e1 : a + 128 ≤ 512 := hs.2 1
  rw [← Nat.add_assoc]
  exact nV_real (fun t d => Cert.Hgrn.fr_ge U l a l0 l1 t d)
    (kV_real (fun j => lb_real hX hs j) (fun i j => by rw [ld_real hB (by omega) i1 i j, Nat.add_assoc 512]))
    (bV_real (lfV_real (fun j => lb_real hX hs j) (fun i j => by rw [ld_real hB (by omega) i1 i j, Nat.add_assoc 512]) (fun i j => Cert.Hgrn.fr_pos U l a l0 l1 _ _)))
    (fun i j => by rw [ld_real hB (by omega) i2 i j, Nat.add_assoc 1024]; rfl) hst e d

/-- A state stored for a head and read back is the state. -/
theorem back (N : Sq) (e d : Fin 128) :
    (shapeCast S128x128 (shapeCast S1x128x128 N shapeCasts_S128x128_S1x128x128) shapeCasts_S1x128x128_S128x128 : S128x128.Idx → EReal) (ix2 e d)
      = (N : S128x128.Idx → EReal) (ix2 e d) := by
  pointwise

/-- The gated outputs of a chunk. -/
theorem og_blk (o g : Sq) (gn : FVec Ideal S1x128 .f32) (i e : Fin 128) :
    (ogV o g gn : S128x128.Idx → EReal) (ix2 i e)
      = Cert.Hgrn.gated (fun e => (o : S128x128.Idx → EReal) (ix2 i e)) ((g : S128x128.Idx → EReal) (ix2 i e)) ((gn : S1x128.Idx → EReal) (ix2 0 e)) e := by
  pointwise [ogV, qV, sgV]
  rfl

end
end Cert.Kernel11Ideal.HgrnVal
end
-- ==== Proof.Hgrn.Kernel.lean ====
/-
  The forward call of the first mixer, block by block of 512 steps.
-/
module

public import proofs.«01_k».proof.Proof.Gen.Kernel11Ideal.Value
public import proofs.«01_k».proof.Proof.Hgrn.Chunk
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise

@[expose] public section
set_option maxRecDepth 16384
noncomputable section
namespace Cert.Kernel11Ideal.HgrnVal
open Cert.Kernel11Ideal Cert.Kernel11Ideal.Gen Idealize.ShloMosaic Idealize.ShloMosaic.TcCoe Idealize.SL.Sem
open Idealize.ShloMosaic.Pipeline (Dat)

/-- What is read where the last store was made is what was stored. -/
theorem read_hit {Val : EltTy → Type} [∀ e, Nonempty (Val e)] {κ : Kind} {sp : Space} {e : EltTy} {S : Shape} (v : View sig κ sp S e)
    (off size : Fin S.rank → ℕ) (i i' : ∀ a, off a + size a ≤ S.size a) (w : (Rect.unit off size i).shape.Idx → Val e) (L : List (View.Piece Val S e)) :
    v.readCov (⟨Rect.unit off size i, w⟩ :: L) (Rect.unit off size i').toLoadRect = w := by
  rw [View.readCov_eq_canon']
  exact funext fun y => View.canon_cons_emb _ w L y

/-- A store of another head is not seen. -/
theorem read_miss {Val : EltTy → Type} [∀ e, Nonempty (Val e)] {κ : Kind} {sp : Space} {e : EltTy} (v : View sig κ sp S4x128x128 e)
    (h h' : ℕ) (hne : h ≠ h') (i : ∀ a, (![h, 0, 0] : Fin 3 → ℕ) a + (![1, 128, 128] : Fin 3 → ℕ) a ≤ S4x128x128.size a)
    (i' : ∀ a, (![h', 0, 0] : Fin 3 → ℕ) a + (![1, 128, 128] : Fin 3 → ℕ) a ≤ S4x128x128.size a)
    (w : (Rect.unit (s := S4x128x128) ![h, 0, 0] ![1, 128, 128] i).shape.Idx → Val e) (L : List (View.Piece Val S4x128x128 e)) :
    v.readCov (⟨Rect.unit (s := S4x128x128) ![h, 0, 0] ![1, 128, 128] i, w⟩ :: L) (Rect.unit (s := S4x128x128) ![h', 0, 0] ![1, 128, 128] i').toLoadRect
      = v.readCov L (Rect.unit (s := S4x128x128) ![h', 0, 0] ![1, 128, 128] i').toLoadRect := by
  rw [View.readCov_eq_canon', View.readCov_eq_canon']
  refine funext fun y => View.canon_cons_of_not_mem _ L ?_
  rw [Rect.mem_set_unit]; intro hall
  have h0 : h ≤ h' + 1 * (y 0).val ∧ h' + 1 * (y 0).val < h + 1 := hall (0 : Fin 3)
  have h1 : (y 0).val < 1 := (y 0).isLt
  omega

section
variable {U : ℕ → ℕ → ℝ} {l : ℕ → ℝ} {base : ℕ} {B : S512x2048.Idx → EReal} {X : S2x512.Idx → EReal}

/-- A tile of the outputs. -/
theorem o_tile (l0 : ∀ n, Real.exp (-5) ≤ l n) (l1 : ∀ n, l n ≤ 1)
    (hB : ∀ (i : Fin 512) (j : Fin 2048), j.val < 1536 → B (ix2 i j) = (U (base + i.val) j.val : EReal))
    (hX : ∀ j : Fin 512, (k0_pay2 (F := Ideal) X : S1x512.Idx → EReal) (ix2 0 j) = (l j.val : EReal)) {r a a' a'' : ℕ}
    {i0 : ∀ x : Fin 2, (![r, a] : Fin 2 → ℕ) x + (![128, 128] : Fin 2 → ℕ) x ≤ S512x2048.size x}
    {i1 : ∀ x : Fin 2, (![r, a'] : Fin 2 → ℕ) x + (![128, 128] : Fin 2 → ℕ) x ≤ S512x2048.size x}
    {i2 : ∀ x : Fin 2, (![r, a''] : Fin 2 → ℕ) x + (![128, 128] : Fin 2 → ℕ) x ≤ S512x2048.size x}
    {hs : S1x512.Slices ![0, a] S1x128} {st : Sq}
    (h' : a' = 512 + a) (h'' : a'' = 1024 + a)
    (hst : ∀ e d, (st : S128x128.Idx → EReal) (ix2 e d) = (Cert.Hgrn.St U l a e d (base + r) : EReal))
    {T n : ℕ} (x : S128x128.Idx) (hT : T = base + r + (x 0).val) (hn : n = a + (x 1).val) (ha : a % 128 = 0) :
    (oV (qV (shapeCast S128x128 (View.ld (Val := Elt Ideal) (e' := .f32) B (Rect.unit (s := S512x2048) ![r, a] ![128, 128] i0)) shapeCasts_S128x128_S128x128))
      (kV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128))
      (bV (lfV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128)))
      (shapeCast S128x128 (View.ld (Val := Elt Ideal) (e' := .f32) B (Rect.unit (s := S512x2048) ![r, a''] ![128, 128] i2)) shapeCasts_S128x128_S128x128) st : S128x128.Idx → EReal) x
      = (Cert.Hgrn.All U l T n : EReal) := by
  have hx : x = ix2 (x 0) (x 1) := funext fun b => match b with | ⟨0, _⟩ => rfl | ⟨1, _⟩ => rfl
  rw [Cert.Hgrn.All_eq U l a T n (x 1) hn ha, hT]
  rw [hx]
  exact o_blk l0 l1 hB hX h' h'' hst (x 0) (x 1)

/-- The state that a head's chunk leaves, as the next chunk reads it. -/
theorem n_tile (l0 : ∀ n, Real.exp (-5) ≤ l n) (l1 : ∀ n, l n ≤ 1)
    (hB : ∀ (i : Fin 512) (j : Fin 2048), j.val < 1536 → B (ix2 i j) = (U (base + i.val) j.val : EReal))
    (hX : ∀ j : Fin 512, (k0_pay2 (F := Ideal) X : S1x512.Idx → EReal) (ix2 0 j) = (l j.val : EReal)) {r r' a a' a'' : ℕ}
    {i1 : ∀ x : Fin 2, (![r, a'] : Fin 2 → ℕ) x + (![128, 128] : Fin 2 → ℕ) x ≤ S512x2048.size x}
    {i2 : ∀ x : Fin 2, (![r, a''] : Fin 2 → ℕ) x + (![128, 128] : Fin 2 → ℕ) x ≤ S512x2048.size x}
    {hs : S1x512.Slices ![0, a] S1x128} {st : Sq}
    (h' : a' = 512 + a) (h'' : a'' = 1024 + a) (hr : r' = r + 128)
    (hst : ∀ e d, (st : S128x128.Idx → EReal) (ix2 e d) = (Cert.Hgrn.St U l a e d (base + r) : EReal)) (e d : Fin 128) :
    (shapeCast S128x128 (shapeCast S1x128x128 (nV (kV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128))
      (bV (lfV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128)))
      (shapeCast S128x128 (View.ld (Val := Elt Ideal) (e' := .f32) B (Rect.unit (s := S512x2048) ![r, a''] ![128, 128] i2)) shapeCasts_S128x128_S128x128) st) shapeCasts_S128x128_S1x128x128) shapeCasts_S1x128x128_S128x128 : S128x128.Idx → EReal) (ix2 e d)
      = (Cert.Hgrn.St U l a e d (base + r') : EReal) := by
  subst hr
  exact (back _ e d).trans (n_blk l0 l1 hB hX h' h'' hst e d)

/-- A head's slab of the states, its leading axis dropped. -/
theorem unslab (Y : S1x128x128.Idx → EReal) (e d : Fin 128) :
    (shapeCast S128x128 Y shapeCasts_S1x128x128_S128x128 : S128x128.Idx → EReal) (ix2 e d) = Y (ix3 (0 : Fin 1) e d) := by
  pointwise

/-- The state left by the block before. -/
theorem prev_tile {P : S4x128x128.Idx → EReal} (hw : (Memref.whole cc0_scratch0).IsWhole)
    (hP : ∀ (h : Fin 4) (e d : Fin 128), P (ix3 h e d) = (Cert.Hgrn.St U l (128 * h.val) e d base : EReal)) {h a : ℕ}
    {i : ∀ x : Fin 3, (![h, 0, 0] : Fin 3 → ℕ) x + (![1, 128, 128] : Fin 3 → ℕ) x ≤ S4x128x128.size x} (ha : a = 128 * h) (e d : Fin 128) :
    (shapeCast S128x128 (View.ld (Val := Elt Ideal) (e' := .f32) (View.read (Elt Ideal) (View.whole cc0_scratch0) (hw.unread P)) (Rect.unit (s := S4x128x128) ![h, 0, 0] ![1, 128, 128] i)) shapeCasts_S1x128x128_S128x128 : S128x128.Idx → EReal) (ix2 e d)
      = (Cert.Hgrn.St U l a e d (base + 0) : EReal) := by
  subst ha
  have hh : h < 4 := i 0
  rw [show View.read (Elt Ideal) (View.whole cc0_scratch0) (hw.unread P) = P from read_unread_whole (Val := Elt Ideal) cc0_scratch0 hw P]
  refine (unslab _ e d).trans ?_
  exact (View.ld_unit_apply_of (Val := Elt Ideal) (e := .f32) P _ _ i (ix3 (0 : Fin 1) e d) (ix3 ⟨h, hh⟩ e d) (fun x => match x with
    | ⟨0, _⟩ => rfl
    | ⟨1, _⟩ => (Nat.zero_add _).symm
    | ⟨2, _⟩ => (Nat.zero_add _).symm)).trans (hP ⟨h, hh⟩ e d)

/-- The state before the first block is zero. -/
theorem zero_tile (hb : base = 0) {h a : ℕ} {i i'} (v : View sig .tc .vmem S4x128x128 .f32) (e d : Fin 128) :
    (shapeCast S128x128 (v.readCov (Val := Elt Ideal) [⟨Rect.unit (s := S4x128x128) ![0, 0, 0] ![4, 128, 128] i', k0_pay1 (F := Ideal)⟩]
      (Rect.unit (s := S4x128x128) ![h, 0, 0] ![1, 128, 128] i).toLoadRect) shapeCasts_S1x128x128_S128x128 : S128x128.Idx → EReal) (ix2 e d)
      = (Cert.Hgrn.St U l a e d (base + 0) : EReal) := by
  subst hb
  have hz : k0_pay1 (F := Ideal) = fun _ => (0 : EReal) := by
    funext y; pointwise [k0_pay1]
  rw [View.readCov_fill v i' _ _ _ (fun x => match x with | ⟨0, _⟩ => rfl | ⟨1, _⟩ => rfl | ⟨2, _⟩ => rfl), hz]
  exact (unslab _ e d)

/-- The state that a block leaves. -/
theorem n_slab (l0 : ∀ n, Real.exp (-5) ≤ l n) (l1 : ∀ n, l n ≤ 1)
    (hB : ∀ (i : Fin 512) (j : Fin 2048), j.val < 1536 → B (ix2 i j) = (U (base + i.val) j.val : EReal))
    (hX : ∀ j : Fin 512, (k0_pay2 (F := Ideal) X : S1x512.Idx → EReal) (ix2 0 j) = (l j.val : EReal)) {r r' a a' a'' : ℕ}
    {i1 : ∀ x : Fin 2, (![r, a'] : Fin 2 → ℕ) x + (![128, 128] : Fin 2 → ℕ) x ≤ S512x2048.size x}
    {i2 : ∀ x : Fin 2, (![r, a''] : Fin 2 → ℕ) x + (![128, 128] : Fin 2 → ℕ) x ≤ S512x2048.size x}
    {hs : S1x512.Slices ![0, a] S1x128} {st : Sq}
    (h' : a' = 512 + a) (h'' : a'' = 1024 + a) (hr : r' = r + 128)
    (hst : ∀ e d, (st : S128x128.Idx → EReal) (ix2 e d) = (Cert.Hgrn.St U l a e d (base + r) : EReal)) (e d : Fin 128) :
    (shapeCast S1x128x128 (nV (kV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128))
      (bV (lfV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128)))
      (shapeCast S128x128 (View.ld (Val := Elt Ideal) (e' := .f32) B (Rect.unit (s := S512x2048) ![r, a''] ![128, 128] i2)) shapeCasts_S128x128_S128x128) st) shapeCasts_S128x128_S1x128x128 : S1x128x128.Idx → EReal) (ix3 (0 : Fin 1) e d)
      = (Cert.Hgrn.St U l a e d (base + r') : EReal) := by
  rw [← n_tile l0 l1 hB hX h' h'' hr hst e d]
  exact (unslab _ e d).symm

/-- A tile of the gated outputs. -/
theorem og_tile (l0 : ∀ n, Real.exp (-5) ≤ l n) (l1 : ∀ n, l n ≤ 1)
    (hB : ∀ (i : Fin 512) (j : Fin 2048), j.val < 1536 → B (ix2 i j) = (U (base + i.val) j.val : EReal))
    (hX : ∀ j : Fin 512, (k0_pay2 (F := Ideal) X : S1x512.Idx → EReal) (ix2 0 j) = (l j.val : EReal)) {r a a' a'' a3 : ℕ}
    {i0 : ∀ x : Fin 2, (![r, a] : Fin 2 → ℕ) x + (![128, 128] : Fin 2 → ℕ) x ≤ S512x2048.size x}
    {i1 : ∀ x : Fin 2, (![r, a'] : Fin 2 → ℕ) x + (![128, 128] : Fin 2 → ℕ) x ≤ S512x2048.size x}
    {i2 : ∀ x : Fin 2, (![r, a''] : Fin 2 → ℕ) x + (![128, 128] : Fin 2 → ℕ) x ≤ S512x2048.size x}
    {i3 : ∀ x : Fin 2, (![r, a3] : Fin 2 → ℕ) x + (![128, 128] : Fin 2 → ℕ) x ≤ S512x2048.size x}
    {i4 : ∀ x : Fin 2, (![0, a] : Fin 2 → ℕ) x + (![1, 128] : Fin 2 → ℕ) x ≤ S1x512.size x} {G : S1x512.Idx → EReal}
    {hs : S1x512.Slices ![0, a] S1x128} {st : Sq}
    (h' : a' = 512 + a) (h'' : a'' = 1024 + a) (h3 : a3 = 1536 + a)
    (hst : ∀ e d, (st : S128x128.Idx → EReal) (ix2 e d) = (Cert.Hgrn.St U l a e d (base + r) : EReal))
    {T : ℕ} {n i5 : Fin 512} (x : S128x128.Idx) (hT : T = base + r + (x 0).val) (h5 : i5.val = r + (x 0).val) (hn : n.val = a + (x 1).val) (ha : a % 128 = 0) :
    (ogV
    (oV (qV (shapeCast S128x128 (View.ld (Val := Elt Ideal) (e' := .f32) B (Rect.unit (s := S512x2048) ![r, a] ![128, 128] i0)) shapeCasts_S128x128_S128x128))
      (kV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128))
      (bV (lfV (extractStridedSlice S1x128 ![0, a] (k0_pay2 (F := Ideal) X) hs) (shapeCast S128x128 (View.ld (Val := Elt Ideal) (e' := .f32) B (Rect.unit (s := S512x2048) ![r, a'] ![128, 128] i1)) shapeCasts_S128x128_S128x128)))
      (shapeCast S128x128 (View.ld (Val := Elt Ideal) (e' := .f32) B (Rect.unit (s := S512x2048) ![r, a''] ![128, 128] i2)) shapeCasts_S128x128_S128x128) st)
      (shapeCast S128x128 (View.ld (Val := Elt Ideal) (e' := .f32) B (Rect.unit (s := S512x2048) ![r, a3] ![128, 128] i3)) shapeCasts_S128x128_S128x128)
      (View.ld (Val := Elt Ideal) (e' := .f32) G (Rect.unit (s := S1x512) ![0, a] ![1, 128] i4)) : S128x128.Idx → EReal) x
      = Cert.Hgrn.gated (fun e => (Cert.Hgrn.Out U l (n.val / 128 * 128) T e : EReal)) (B (ix2 i5 ⟨1536 + n.val, by omega⟩)) (G (ix2 0 n)) ⟨n.val % 128, Nat.mod_lt _ (by norm_num)⟩ := by
  have hx : x = ix2 (x 0) (x 1) := funext fun b => match b with | ⟨0, _⟩ => rfl | ⟨1, _⟩ => rfl
  have hlt : (x 1).val < 128 := (x 1).isLt
  have hA : n.val / 128 * 128 = a := by omega
  have hE : (⟨n.val % 128, Nat.mod_lt _ (by norm_num)⟩ : Fin 128) = x 1 := Fin.ext (by dsimp only; omega)
  rw [hA, hE, hT]
  refine (congrArg (ogV _ _ _ : S128x128.Idx → EReal) hx).trans ((og_blk _ _ _ (x 0) (x 1)).trans ?_)
  congr 1
  · exact funext fun e => o_blk l0 l1 hB hX h' h'' hst (x 0) e
  · rw [ld_eq i3 (x 0) (x 1)]
    exact congrArg B (congr (congrArg ix2 (Fin.ext h5.symm)) (Fin.ext (by dsimp only; omega)))
  · exact View.ld_unit_apply_of (Val := Elt Ideal) (e := .f32) G _ _ i4 (ix2 (0 : Fin 1) (x 1)) (ix2 0 n) (fun b => match b with
      | ⟨0, _⟩ => rfl
      | ⟨1, _⟩ => hn)

end

/-- The head whose slab was stored last. -/
theorem canon_hit {Val : EltTy → Type} [∀ e, Nonempty (Val e)] {e' : EltTy} {h : ℕ} {H : Fin 4} (hH : H.val = h)
    (i : ∀ a, (![h, 0, 0] : Fin 3 → ℕ) a + (![1, 128, 128] : Fin 3 → ℕ) a ≤ S4x128x128.size a)
    (w : S1x128x128.Idx → Val e') (L : List (View.Piece Val S4x128x128 e')) (e d : Fin 128) :
    View.canon (⟨Rect.unit (s := S4x128x128) ![h, 0, 0] ![1, 128, 128] i, w⟩ :: L) (ix3 H e d) = w (ix3 (0 : Fin 1) e d) := by
  subst hH
  have := View.canon_cons_emb (Rect.unit (s := S4x128x128) ![H.val, 0, 0] ![1, 128, 128] i) w L (ix3 (0 : Fin 1) e d)
  rw [← this]
  refine congrArg _ (funext fun a => Fin.ext ?_)
  have hv := Rect.idx_unit_val (s := S4x128x128) ![H.val, 0, 0] ![1, 128, 128] i (ix3 (0 : Fin 1) e d)
  match a with
  | ⟨0, _⟩ => exact (hv (0 : Fin 3)).symm
  | ⟨1, _⟩ => exact ((hv (1 : Fin 3)).trans (Nat.zero_add e.val)).symm
  | ⟨2, _⟩ => exact ((hv (2 : Fin 3)).trans (Nat.zero_add d.val)).symm

/-- A head whose slab was not stored last. -/
theorem canon_miss {Val : EltTy → Type} [∀ e, Nonempty (Val e)] {e' : EltTy} {h : ℕ} {H : Fin 4} (hH : h ≠ H.val)
    (i : ∀ a, (![h, 0, 0] : Fin 3 → ℕ) a + (![1, 128, 128] : Fin 3 → ℕ) a ≤ S4x128x128.size a)
    (w : S1x128x128.Idx → Val e') (L : List (View.Piece Val S4x128x128 e')) (e d : Fin 128) :
    View.canon (⟨Rect.unit (s := S4x128x128) ![h, 0, 0] ![1, 128, 128] i, w⟩ :: L) (ix3 H e d) = View.canon L (ix3 H e d) := by
  refine View.canon_cons_of_not_mem _ L ?_
  rw [Rect.mem_set_unit]; intro hall
  have h0 : h ≤ H.val ∧ H.val < h + 1 := hall (0 : Fin 3)
  omega

end Cert.Kernel11Ideal.HgrnVal
-- ==== Proof.Hgrn.Block.lean ====
/-
  The forward call of the first mixer: one block of 512 steps, its sixteen tiles put together.
-/
module

public import proofs.«01_k».proof.Proof.Gen.Kernel11Ideal.Value
public import proofs.«01_k».proof.Proof.Hgrn.Kernel
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise

@[expose] public section
set_option maxRecDepth 16384
noncomputable section
namespace Cert.Kernel11Ideal.HgrnVal
open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-! ## A block: its outputs, its gated outputs and the state it leaves -/

section
variable (t : Fin cfg0.N) {U : ℕ → ℕ → ℝ} {l : ℕ → ℝ} (l0 : ∀ n, Real.exp (-5) ≤ l n) (l1 : ∀ n, l n ≤ 1)
  (hB : ∀ (i : Fin 512) (j : Fin 2048), j.val < 1536 → (iblk m c 0 t : S512x2048.Idx → EReal) (ix2 i j) = (U (512 * t.val + i.val) j.val : EReal))
  (hX : ∀ j : Fin 512, (k0_pay2 (F := Ideal) (iblk m c 1 t) : S1x512.Idx → EReal) (ix2 0 j) = (l j.val : EReal))
  (hP : ¬ t.val % 16 = 0 → ∀ (h : Fin 4) (e d : Fin 128), ((outsAt0 m c (t.val - 1) (lt_of_le_of_lt (Nat.sub_le _ _) t.isLt)).2.2.2.2.2 : S4x128x128.Idx → EReal) (ix3 h e d) = (Cert.Hgrn.St U l (128 * h.val) e d (512 * t.val) : EReal))
include l0 l1 hB hX hP

set_option maxHeartbeats 4000000 in
/-- The outputs that a block writes. -/
theorem blk_o (y : S512x512.Idx) :
    (outsAt0 m c t.val t.isLt).2.2.2.2.1 y = (Cert.Hgrn.All U l (512 * t.val + (y 0).val) (y 1).val : EReal) := by
  by_cases h0 : t.val % 16 = 0 <;> (first | rw [outsAt0_A m c t h0] | rw [outsAt0_B m c t h0]) <;> frame_out <;> canon_tiles x h
  all_goals
    try simp (disch := decide) only [↓read_hit, ↓read_miss]
    refine o_tile (hs := by decide) l0 l1 hB hX ?_ ?_ ?_ x ?_ ?_ ?_
    · rfl
    · rfl
    · repeat (first | exact prev_tile _ (hP ‹_›) rfl | exact zero_tile (base := 512 * t.val) (by have : t.val < 16 := t.isLt; omega) _ | refine n_tile (hs := by decide) l0 l1 hB hX rfl rfl rfl ?_)
    · omega
    · omega
    · rfl

set_option maxHeartbeats 4000000 in
/-- The states that a block leaves. -/
theorem blk_s (H : Fin 4) (e d : Fin 128) :
    ((outsAt0 m c t.val t.isLt).2.2.2.2.2 : S4x128x128.Idx → EReal) (ix3 H e d) = (Cert.Hgrn.St U l (128 * H.val) e d (512 * t.val + 512) : EReal) := by
  by_cases h0 : t.val % 16 = 0 <;> (first | rw [outsAt0_A m c t h0] | rw [outsAt0_B m c t h0]) <;> frame_out <;> fin_cases H
  all_goals
    simp (disch := decide) only [↓canon_hit, ↓canon_miss, ↓read_hit, ↓read_miss]
    refine n_slab (hs := by decide) l0 l1 hB hX rfl rfl rfl ?_ e d
    repeat (first | exact prev_tile _ (hP ‹_›) rfl | exact zero_tile (base := 512 * t.val) (by have : t.val < 16 := t.isLt; omega) _ | refine n_tile (hs := by decide) l0 l1 hB hX rfl rfl rfl ?_)

set_option maxHeartbeats 4000000 in
/-- The gated outputs that a block writes. -/
theorem blk_og (y : S512x512.Idx) :
    (outsAt0 m c t.val t.isLt).1 y = Cert.Hgrn.gated (fun e => (Cert.Hgrn.Out U l ((y 1).val / 128 * 128) (512 * t.val + (y 0).val) e : EReal))
      ((iblk m c 0 t : S512x2048.Idx → EReal) (ix2 (y 0) ⟨1536 + (y 1).val, Nat.add_lt_add_left (y 1).isLt 1536⟩)) ((iblk m c 2 t : S1x512.Idx → EReal) (ix2 0 (y 1))) ⟨(y 1).val % 128, Nat.mod_lt _ (by norm_num)⟩ := by
  by_cases h0 : t.val % 16 = 0 <;> (first | rw [outsAt0_A m c t h0] | rw [outsAt0_B m c t h0]) <;> frame_out <;> canon_tiles x h
  all_goals
    try simp (disch := decide) only [↓read_hit, ↓read_miss]
    refine og_tile (hs := by decide) l0 l1 hB hX ?_ ?_ ?_ ?_ x ?_ ?_ ?_ ?_
    · rfl
    · rfl
    · rfl
    · repeat (first | exact prev_tile _ (hP ‹_›) rfl | exact zero_tile (base := 512 * t.val) (by have : t.val < 16 := t.isLt; omega) _ | refine n_tile (hs := by decide) l0 l1 hB hX rfl rfl rfl ?_)
    · omega
    · omega
    · omega
    · rfl

end
end Cert.Kernel11Ideal.HgrnVal
-- ==== Proof.Hgrn.Grid.lean ====
/-
  The forward call of the first mixer: its arrays after the run over the sixteen blocks.
-/
module

public import proofs.«01_k».proof.Proof.Hgrn.Args
public import proofs.«01_k».proof.Proof.Hgrn.Block

@[expose] public section
set_option maxRecDepth 16384
noncomputable section
namespace Cert.Kernel11Ideal.HgrnVal
open Cert.Kernel11Ideal Cert.Kernel11Ideal.Gen Idealize.ShloMosaic Idealize.ShloMosaic.TcCoe Idealize.SL.Sem
open Idealize.ShloMosaic.Pipeline (Dat)
open Cert.Hgrn (Ur lr Ok St Out All gated)

variable (m : (ℓ : Loc nD τ sig) → Buf (Elt Ideal) ℓ) (c : Dev nD)

/-- The arguments: the rows, the logits and the norm's gain. -/
abbrev a0 : S1x8192x3592.Idx → EReal := m ((c : Thread nD τ).loc main_arg0)
abbrev a1 : S2x512.Idx → EReal := m ((c : Thread nD τ).loc main_arg1)
abbrev a2 : S1x512.Idx → EReal := m ((c : Thread nD τ).loc main_arg2)

/-- The rows' first 2048 columns. -/
theorem V_u (R : Fin 8192) (k : Fin 2048) : (V m c main_v1 : S8192x2048.Idx → EReal) (ix2 R k) = a0 m c (ix3 (0 : Fin 1) R ⟨k.val, by omega⟩) := by
  unfold V
  simp only [hostOps0, List.flatten_cons, List.flatten_nil, List.append_nil, List.cons_append, List.nil_append]
  after_results
  clean_types
  pointwise

/-- Which block each window is on. -/
theorem idx0 : ∀ t : Fin cfg0.N, (win0_0.index t = ![t.val, 0] ∧ win0_1.index t = ![0, 0] ∧ win0_2.index t = ![0, 0])
    ∧ win0_3.index t = ![t.val, 0] ∧ win0_7.index t = ![t.val, 0] :=
  (by decide +kernel : ∀ t : Fin grid0.N, (win0_0.index t = ![t.val, 0] ∧ win0_1.index t = ![0, 0] ∧ win0_2.index t = ![0, 0])
    ∧ win0_3.index t = ![t.val, 0] ∧ win0_7.index t = ![t.val, 0])

/-- A block's row in the array. -/
def row (t : ℕ) (ht : t < 16) (i : Fin 512) : Fin 8192 := ⟨t * 512 + i.val, by omega⟩

theorem row_val (t : Fin cfg0.N) (i : Fin 512) : (row t.val t.isLt i).val = 512 * t.val + i.val := by
  unfold row; dsimp only; omega

variable (t : Fin cfg0.N)

theorem blk_u (i : Fin 512) (k : Fin 2048) : (iblk m c 0 t : S512x2048.Idx → EReal) (ix2 i k) = a0 m c (ix3 (0 : Fin 1) (row t.val t.isLt i) ⟨k.val, by omega⟩) := by
  rw [← V_u m c]; unfold row; blk_ext [iblk, (idx0 t).1.1]
theorem blk_l (i : Fin 2) (k : Fin 512) : (iblk m c 1 t : S2x512.Idx → EReal) (ix2 i k) = a1 m c (ix2 i k) := by
  unfold a1; rw [← V_main_arg1 m c]; blk_ext [iblk, (idx0 t).1.2.1]
theorem blk_n (k : Fin 512) : (iblk m c 2 t : S1x512.Idx → EReal) (ix2 0 k) = a2 m c (ix2 0 k) := by
  unfold a2; rw [← V_main_arg2 m c]; blk_ext [iblk, (idx0 t).1.2.2]

variable {m c}
variable (H : Ok (a0 m c) (a1 m c))
include H

/-- A block's rows as reals. -/
theorem hB (i : Fin 512) (j : Fin 2048) (hj : j.val < 1536) : (iblk m c 0 t : S512x2048.Idx → EReal) (ix2 i j) = (Ur (a0 m c) (512 * t.val + i.val) j.val : EReal) := by
  rw [blk_u, H.U_eq _ ⟨j.val, by omega⟩ hj, row_val]

/-- The lower bounds that a block computes. -/
theorem hX (j : Fin 512) : (k0_pay2 (F := Ideal) (iblk m c 1 t) : S1x512.Idx → EReal) (ix2 0 j) = (lr (a1 m c) j.val : EReal) := by
  pointwise [k0_pay2]
  simp only [blk_l]
  rw [H.l_eq 0 j, H.l_eq 1 j, Cert.Hgrn.lr_eq, ← EReal.coe_sub]
  exact Cert.Hgrn.sr_coe _

/-- The states after block `n`. -/
theorem state : ∀ (n : ℕ) (hn : n < cfg0.N) (h : Fin 4) (e d : Fin 128),
    ((outsAt0 m c n hn).2.2.2.2.2 : S4x128x128.Idx → EReal) (ix3 h e d) = (St (Ur (a0 m c)) (lr (a1 m c)) (128 * h.val) e d (512 * n + 512) : EReal)
  | 0, hn, h, e, d => blk_s m c ⟨0, hn⟩ H.lr_ge (Cert.Hgrn.lr_le _) (hB ⟨0, hn⟩ H) (hX ⟨0, hn⟩ H) (fun h0 => absurd rfl h0) h e d
  | n + 1, hn, h, e, d => blk_s m c ⟨n + 1, hn⟩ H.lr_ge (Cert.Hgrn.lr_le _) (hB ⟨n + 1, hn⟩ H) (hX ⟨n + 1, hn⟩ H) (fun _ h e d => state n (by omega) h e d) h e d

/-- The states before block `t`. -/
theorem before (h0 : ¬ t.val % 16 = 0) (h : Fin 4) (e d : Fin 128) :
    ((outsAt0 m c (t.val - 1) (lt_of_le_of_lt (Nat.sub_le _ _) t.isLt)).2.2.2.2.2 : S4x128x128.Idx → EReal) (ix3 h e d) = (St (Ur (a0 m c)) (lr (a1 m c)) (128 * h.val) e d (512 * t.val) : EReal) := by
  have ht : 512 * (t.val - 1) + 512 = 512 * t.val := by omega
  rw [state H (t.val - 1) (by omega) h e d, ht]

/-- The outputs after the run. -/
theorem arr_o : (dats m 0 c).arrAt 7 cfg0.N = fun i : S8192x512.Idx => (All (Ur (a0 m c)) (lr (a1 m c)) (i 0).val (i 1).val : EReal) := by
  refine (dats m 0 c).arrAt_eq_of_covers 7 _ (by decide +kernel) fun t hf y => ?_
  have e0 : (win0_7.blk t).view.emb y 0 = row t.val t.isLt (y 0) := by
    refine Fin.ext ?_
    have h0 : win0_7.index t 0 = t.val := congrFun (idx0 t).2.2 0
    blk_simp
    rw [h0]; rfl
  have e1 : (win0_7.blk t).view.emb y 1 = y 1 := by
    refine Fin.ext ?_
    have h1 : win0_7.index t 1 = 0 := congrFun (idx0 t).2.2 1
    blk_simp
    omega
  beta_reduce
  rw [after0_7, e0, e1]
  exact (blk_o m c t H.lr_ge (Cert.Hgrn.lr_le _) (hB t H) (hX t H) (before t H) y).trans
    (congrArg (fun r : ℕ => (All (Ur (a0 m c)) (lr (a1 m c)) r (y 1).val : EReal)) (row_val t (y 0)).symm)

/-- A block's gated outputs. -/
theorem og_at (i j : Fin 512) : (outsAt0 m c t.val t.isLt).1 (ix2 i j)
    = gated (fun e => (Out (Ur (a0 m c)) (lr (a1 m c)) (j.val / 128 * 128) (512 * t.val + i.val) e : EReal))
      (a0 m c (ix3 (0 : Fin 1) (row t.val t.isLt i) ⟨1536 + j.val, by omega⟩)) (a2 m c (ix2 0 j)) ⟨j.val % 128, Nat.mod_lt _ (by norm_num)⟩ := by
  refine (blk_og m c t H.lr_ge (Cert.Hgrn.lr_le _) (hB t H) (hX t H) (before t H) (ix2 i j)).trans ?_
  exact congrArg₂ (fun a b => gated (fun e => (Out (Ur (a0 m c)) (lr (a1 m c)) (j.val / 128 * 128) (512 * t.val + i.val) e : EReal)) a b ⟨j.val % 128, Nat.mod_lt _ (by norm_num)⟩)
    (blk_u m c t i ⟨1536 + j.val, by omega⟩) (blk_n m c t j)

/-- The gated outputs after the run. -/
theorem arr_og : (dats m 0 c).arrAt 3 cfg0.N = fun i : S8192x512.Idx =>
    gated (fun e => (Out (Ur (a0 m c)) (lr (a1 m c)) ((i 1).val / 128 * 128) (i 0).val e : EReal))
      (a0 m c (ix3 (0 : Fin 1) (i 0) ⟨1536 + (i 1).val, Nat.lt_of_lt_of_le (Nat.add_lt_add_left (i 1).isLt 1536) (by decide)⟩)) (a2 m c (ix2 0 (i 1))) ⟨(i 1).val % 128, Nat.mod_lt _ (by norm_num)⟩ := by
  refine (dats m 0 c).arrAt_eq_of_covers 3 _ (by decide +kernel) fun t hf y => ?_
  have e0 : (win0_3.blk t).view.emb y 0 = row t.val t.isLt (y 0) := by
    refine Fin.ext ?_
    have h0 : win0_3.index t 0 = t.val := congrFun (idx0 t).2.1 0
    blk_simp
    rw [h0]; rfl
  have e1 : (win0_3.blk t).view.emb y 1 = y 1 := by
    refine Fin.ext ?_
    have h1 : win0_3.index t 1 = 0 := congrFun (idx0 t).2.1 1
    blk_simp
    omega
  beta_reduce
  rw [after0_3, e0, e1]
  exact ((congrArg _ (eq_ix2 y)).trans (og_at t H (y 0) (y 1))).trans
    (congrArg (fun r : ℕ => gated (fun e => (Out (Ur (a0 m c)) (lr (a1 m c)) ((y 1).val / 128 * 128) r e : EReal)) _ _ _) (row_val t (y 0)).symm)

end Cert.Kernel11Ideal.HgrnVal
end
-- ==== Proof.Hgrn.Loop.lean ====
/-
  The reference's loop for the first mixer: after `k` trips the carried state is the recurrence's state before step `k`, and the
  first `k` rows of the outputs are the recurrence's.
-/
module

public import proofs.«01_k».proof.Proof.Gen.Reference11Ideal.Run
public import proofs.«01_k».proof.Proof.Hgrn.Real
public import Idealize.ShloMosaic.Lib.DynamicIndex
public import Idealize.ShloMosaic.Lib.WordCmp
public import Idealize.ShloMosaic.Lib.Tactic.CleanTypes
public import Idealize.ShloMosaic.Lib.Pointwise

@[expose] public section
set_option maxRecDepth 16384
noncomputable section
namespace Cert.Reference11Ideal.HgrnRef
open Cert.Reference11Ideal Cert.Reference11Ideal.Gen Cert.Reference11Ideal.Value Idealize.ShloMosaic Idealize.ShloMosaic.TcCoe
open Cert.Hgrn (qr fr kr vr St Out)

/-- A row's leading axis dropped. -/
theorem unrow (Y : S1x4x128.Idx → EReal) (h : Fin 4) (d : Fin 128) :
    (shapeCast S4x128 Y shapeCasts_S1x4x128_S4x128 : S4x128.Idx → EReal) (ix2 h d) = Y (ix3 (0 : Fin 1) h d) := by
  pointwise

/-- The start of trip `k`'s row. -/
theorem start_eq {C : S_.Idx → BitVec 32} {k : ℕ} (hk : k < 8192) (hC : C = fun _ => BitVec.ofNat 32 k) (a : Fin 3) :
    (((![C, constantI S_ 32 0#32, constantI S_ 32 0#32] : Fin 3 → S_.Idx → BitVec 32)) a (Shape.Idx.first h_S_)).toInt = ((![k, 0, 0] : Fin 3 → ℕ) a : ℤ) := by
  subst hC
  match a with
  | ⟨0, _⟩ =>
    show (BitVec.ofNat 32 k).toInt = (k : ℤ)
    rw [BitVec.toInt_ofNat', Int.bmod_eq_of_le (by omega) (by omega)]
  | ⟨1, _⟩ => rfl
  | ⟨2, _⟩ => rfl

theorem fits {k : ℕ} (hk : k < 8192) : S8192x4x128.Slices ![k, 0, 0] S1x4x128 :=
  ⟨rfl, fun a => match a with
    | ⟨0, _⟩ => by show k + 1 ≤ 8192; omega
    | ⟨1, _⟩ => Nat.le_refl 4
    | ⟨2, _⟩ => Nat.le_refl 128⟩

/-- Trip `k` reads row `k`. -/
theorem row_eq (X : S8192x4x128.Idx → EReal) {C : S_.Idx → BitVec 32} {k : ℕ} (hk : k < 8192) (hC : C = fun _ => BitVec.ofNat 32 k) (h : Fin 4) (d : Fin 128) :
    (shapeCast S4x128 (Host.dynamicSlice S1x4x128 X (fun a => (((![C, constantI S_ 32 0#32, constantI S_ 32 0#32] : Fin 3 → S_.Idx → BitVec 32)) a (Shape.Idx.first h_S_)).toInt)
      sliceFits_S8192x4x128_S1x4x128) shapeCasts_S1x4x128_S4x128 : S4x128.Idx → EReal) (ix2 h d) = X (ix3 ⟨k, hk⟩ h d) := by
  rw [Host.dynamicSlice_eq_extractStridedSlice S1x4x128 X _ ![k, 0, 0] _ (fits hk) (start_eq hk hC), unrow]
  refine congrArg X (funext fun x => Fin.ext ?_)
  match x with
  | ⟨0, _⟩ => rfl
  | ⟨1, _⟩ => exact Nat.zero_add h.val
  | ⟨2, _⟩ => exact Nat.zero_add d.val

/-- Trip `k` writes row `k` and no other. -/
theorem upd_eq (X : S8192x4x128.Idx → EReal) (Y : S1x4x128.Idx → EReal) {C : S_.Idx → BitVec 32} {k : ℕ} (hk : k < 8192) (hC : C = fun _ => BitVec.ofNat 32 k)
    (t : Fin 8192) (h : Fin 4) (d : Fin 128) :
    Host.dynamicUpdateSlice X Y (fun a => (((![C, constantI S_ 32 0#32, constantI S_ 32 0#32] : Fin 3 → S_.Idx → BitVec 32)) a (Shape.Idx.first h_S_)).toInt)
      updateFits_S8192x4x128_S1x4x128 (ix3 t h d) = if t.val = k then Y (ix3 (0 : Fin 1) h d) else X (ix3 t h d) := by
  rw [WordCmp.dynamicUpdateSlice_eq_update X Y _ _ ![k, 0, 0] (fits hk) (start_eq hk hC)]
  unfold updateSlice
  by_cases ht : t.val = k
  · rw [if_pos ht, dif_pos (fun a => match a with
      | ⟨0, _⟩ => ⟨by show k ≤ t.val; omega, by show t.val < k + 1; omega⟩
      | ⟨1, _⟩ => ⟨Nat.zero_le _, by show h.val < 0 + 4; omega⟩
      | ⟨2, _⟩ => ⟨Nat.zero_le _, by show d.val < 0 + 128; omega⟩)]
    refine congrArg Y (funext fun x => Fin.ext ?_)
    match x with
    | ⟨0, _⟩ => show t.val - k = 0; omega
    | ⟨1, _⟩ => rfl
    | ⟨2, _⟩ => rfl
  · rw [if_neg ht, dif_neg (fun hin => ht (by
      have h0 := hin ⟨0, by decide⟩
      have h1 : k ≤ t.val := h0.1
      have h2 : t.val < k + 1 := h0.2
      omega))]

variable (V0 : Valuation τ sig (Elt Ideal))

/-- The carried arrays: the queries, decays, keys, values, the state and the outputs. -/
abbrev cq : S8192x4x128.Idx → EReal := V0 (Proc.devRef .tc main_v42_0)
abbrev cf : S8192x4x128.Idx → EReal := V0 (Proc.devRef .tc main_v42_1)
abbrev ck : S8192x4x128.Idx → EReal := V0 (Proc.devRef .tc main_v42_2)
abbrev cv : S8192x4x128.Idx → EReal := V0 (Proc.devRef .tc main_v42_3)
abbrev cn : S_.Idx → BitVec 32 := V0 (Proc.devRef .tc main_v42_4)
abbrev cs : S4x128x128.Idx → EReal := V0 (Proc.devRef .tc main_v42_5)
abbrev co : S8192x4x128.Idx → EReal := V0 (Proc.devRef .tc main_v42_6)

/-- A trip's state. -/
theorem trip_s {k : ℕ} (hk : k < 8192) (hC : cn V0 = fun _ => BitVec.ofNat 32 k) (h : Fin 4) (d e : Fin 128) :
    (res_main_while0b_v76 V0 : S4x128x128.Idx → EReal) (ix3 h d e)
      = cf V0 (ix3 ⟨k, hk⟩ h d) * cs V0 (ix3 h d e) + ck V0 (ix3 ⟨k, hk⟩ h d) * cv V0 (ix3 ⟨k, hk⟩ h e) := by
  rw [← row_eq (cf V0) hk hC h d, ← row_eq (ck V0) hk hC h d, ← row_eq (cv V0) hk hC h e]
  unfold res_main_while0b_v76 cf ck cv cs cn
  generalize shapeCast S4x128 (Host.dynamicSlice S1x4x128 (V0 (Proc.devRef .tc main_v42_1)) _ _) _ = Fv
  generalize shapeCast S4x128 (Host.dynamicSlice S1x4x128 (V0 (Proc.devRef .tc main_v42_2)) _ _) _ = Kv
  generalize shapeCast S4x128 (Host.dynamicSlice S1x4x128 (V0 (Proc.devRef .tc main_v42_3)) _ _) _ = Vv
  pointwise

/-- A trip's outputs: row `k` is the queries against the new state. -/
theorem trip_o {k : ℕ} (hk : k < 8192) (hC : cn V0 = fun _ => BitVec.ofNat 32 k) (t : Fin 8192) (h : Fin 4) (e : Fin 128) :
    (step_main_v42_6 V0 : S8192x4x128.Idx → EReal) (ix3 t h e)
      = if t.val = k then ∑ d : Fin 128, cq V0 (ix3 ⟨k, hk⟩ h d) * (res_main_while0b_v76 V0 : S4x128x128.Idx → EReal) (ix3 h d e) else co V0 (ix3 t h e) := by
  refine (upd_eq (co V0) _ hk hC t h e).trans ?_
  simp only [← row_eq (cq V0) hk hC h]
  unfold cq cn
  generalize shapeCast S4x128 (Host.dynamicSlice S1x4x128 (V0 (Proc.devRef .tc main_v42_0)) _ _) _ = Qv
  generalize res_main_while0b_v76 V0 = R
  refine congrArg (fun z : EReal => if t.val = k then z else co V0 (ix3 t h e)) ?_
  pointwise

/-! ## The loop's invariant -/

/-- Before trip `k`, of the rows `U` and the lower bounds `l`. -/
structure At (U : ℕ → ℕ → ℝ) (l : ℕ → ℝ) (k : ℕ) : Prop where
  q : ∀ (t : Fin 8192) (h : Fin 4) (d : Fin 128), cq V0 (ix3 t h d) = (qr U (128 * h.val) t.val d : EReal)
  f : ∀ (t : Fin 8192) (h : Fin 4) (d : Fin 128), cf V0 (ix3 t h d) = (fr U l (128 * h.val) t.val d : EReal)
  key : ∀ (t : Fin 8192) (h : Fin 4) (d : Fin 128), ck V0 (ix3 t h d) = (kr U l (128 * h.val) t.val d : EReal)
  v : ∀ (t : Fin 8192) (h : Fin 4) (d : Fin 128), cv V0 (ix3 t h d) = (vr U (128 * h.val) t.val d : EReal)
  n : cn V0 = fun _ => BitVec.ofNat 32 k
  s : ∀ (h : Fin 4) (d e : Fin 128), cs V0 (ix3 h d e) = (St U l (128 * h.val) e d k : EReal)
  o : ∀ (t : Fin 8192) (h : Fin 4) (e : Fin 128), t.val < k → co V0 (ix3 t h e) = (Out U l (128 * h.val) t.val e : EReal)

variable {V0} {U : ℕ → ℕ → ℝ} {l : ℕ → ℝ}

/-- A trip's state is the recurrence's next. -/
theorem next_s {k : ℕ} (hk : k < 8192) (H : At V0 U l k) (h : Fin 4) (d e : Fin 128) :
    (res_main_while0b_v76 V0 : S4x128x128.Idx → EReal) (ix3 h d e) = (St U l (128 * h.val) e d (k + 1) : EReal) := by
  rw [trip_s V0 hk H.n, H.f, H.key, H.v, H.s]
  exact_mod_cast rfl

/-- One trip keeps the invariant. -/
theorem next {k : ℕ} (hk : k < 8192) (H : At V0 U l k) : At (STEP V0) U l (k + 1) where
  q t h d := (congrFun (STEP_main_v42_0 V0) (ix3 t h d)).trans (H.q t h d)
  f t h d := (congrFun (STEP_main_v42_1 V0) (ix3 t h d)).trans (H.f t h d)
  key t h d := (congrFun (STEP_main_v42_2 V0) (ix3 t h d)).trans (H.key t h d)
  v t h d := (congrFun (STEP_main_v42_3 V0) (ix3 t h d)).trans (H.v t h d)
  n := (STEP_main_v42_4 V0).trans (by
    unfold step_main_v42_4
    rw [show V0 (Proc.devRef .tc main_v42_4) = _ from H.n]
    funext x
    exact (BitVec.ofNat_add k 1).symm)
  s h d e := (congrFun (STEP_main_v42_5 V0) (ix3 h d e)).trans (next_s hk H h d e)
  o t h e ht := (congrFun (STEP_main_v42_6 V0) (ix3 t h e)).trans ((trip_o V0 hk H.n t h e).trans (by
    by_cases hc : t.val = k
    · rw [if_pos hc, hc]
      simp only [next_s hk H, H.q]
      unfold Out
      exact (Finset.sum_congr rfl fun d _ => (EReal.coe_mul _ _).symm).trans (Cert.Real.coe_sum _ _)
    · rw [if_neg hc]
      exact H.o t h e (by omega)))

/-- The invariant at every trip. -/
theorem at_all {V : Valuation τ sig (Elt Ideal)} (H : At V U l 0) : ∀ k, k ≤ 8192 → At (STEP^[k] V) U l k
  | 0, _ => H
  | k + 1, hk => by
    rw [Function.iterate_succ_apply']
    exact next hk (at_all H k (by omega))

end Cert.Reference11Ideal.HgrnRef
end
-- ==== Proof.Hgrn.Entry.lean ====
/-
  What the reference's loop starts from: the queries, decays, keys and values of the arguments, and a zero state.
-/
module

public import proofs.«01_k».proof.Proof.Gen.Reference11Ideal.Step
public import proofs.«01_k».proof.Proof.Hgrn.Loop
public import proofs.«01_k».proof.Proof.Hgrn.Args

@[expose] public section
set_option maxRecDepth 65536
noncomputable section
namespace Cert.Reference11Ideal.HgrnRef
open Cert.Reference11Ideal Cert.Reference11Ideal.Gen Cert.Reference11Ideal.Value Idealize.ShloMosaic Idealize.ShloMosaic.TcCoe Idealize.ShloMosaic.StableHlo
open Cert.Reference11Ideal.Step
open Cert.Hgrn (qr fr kr vr St Out sr sr_coe')

section Host
variable (m : (ℓ : Loc nD τ sig) → Buf (Elt Ideal) ℓ) (c : Dev nD)

set_option maxHeartbeats 1000000 in
theorem e_q : entryContents preI m c (Proc.devRef .tc main_v42_0) = A_main_v36 (F := Ideal) (m ((c.tc : Thread nD τ).loc main_arg0)) (m ((c.tc : Thread nD τ).loc main_arg1)) := by
  simp only [entryContents, afterL_cons, afterL_nil]
  after_reads_simp
  rfl
set_option maxHeartbeats 1000000 in
theorem e_f : entryContents preI m c (Proc.devRef .tc main_v42_1) = A_main_v37 (F := Ideal) (m ((c.tc : Thread nD τ).loc main_arg0)) (m ((c.tc : Thread nD τ).loc main_arg1)) := by
  simp only [entryContents, afterL_cons, afterL_nil]
  after_reads_simp
  rfl
set_option maxHeartbeats 1000000 in
theorem e_k : entryContents preI m c (Proc.devRef .tc main_v42_2) = A_main_v38 (F := Ideal) (m ((c.tc : Thread nD τ).loc main_arg0)) (m ((c.tc : Thread nD τ).loc main_arg1)) := by
  simp only [entryContents, afterL_cons, afterL_nil]
  after_reads_simp
  rfl
set_option maxHeartbeats 1000000 in
theorem e_v : entryContents preI m c (Proc.devRef .tc main_v42_3) = A_main_v39 (F := Ideal) (m ((c.tc : Thread nD τ).loc main_arg0)) (m ((c.tc : Thread nD τ).loc main_arg1)) := by
  simp only [entryContents, afterL_cons, afterL_nil]
  after_reads_simp
  rfl
set_option maxHeartbeats 1000000 in
theorem e_s : entryContents preI m c (Proc.devRef .tc main_v42_5) = K_main_v40 (F := Ideal) := by
  simp only [entryContents, afterL_cons, afterL_nil]
  after_reads_simp
  rfl
end Host

variable (x0 : S1x8192x3592.Idx → EReal) (x1 : S2x512.Idx → EReal)

/-- A row of heads, channel by channel. -/
theorem heads (Y : S8192x512.Idx → EReal) (t : Fin 8192) (h : Fin 4) (d : Fin 128) :
    (shapeCast S8192x4x128 Y shapeCasts_S8192x512_S8192x4x128 : S8192x4x128.Idx → EReal) (ix3 t h d) = Y (ix2 t ⟨128 * h.val + d.val, by omega⟩) := by
  pointwise
  exact congrArg Y (congrArg (ix2 t) (Fin.ext (by dsimp only; omega)))

theorem v1_apply (t : Fin 8192) (j : Fin 512) : (A_main_v1 (F := Ideal) x0 x1 : S8192x512.Idx → EReal) (ix2 t j) = x0 (ix3 (0 : Fin 1) t ⟨j.val, by omega⟩) := by
  pointwise [A_main_v1, A_main_v0]

theorem v3_apply (t : Fin 8192) (j : Fin 512) : (A_main_v3 (F := Ideal) x0 x1 : S8192x512.Idx → EReal) (ix2 t j) = x0 (ix3 (0 : Fin 1) t ⟨512 + j.val, by omega⟩) := by
  pointwise [A_main_v3, A_main_v2]

theorem v5_apply (t : Fin 8192) (j : Fin 512) : (A_main_v5 (F := Ideal) x0 x1 : S8192x512.Idx → EReal) (ix2 t j) = x0 (ix3 (0 : Fin 1) t ⟨1024 + j.val, by omega⟩) := by
  pointwise [A_main_v5, A_main_v4]

theorem v33_apply (t : Fin 8192) (j : Fin 512) : (A_main_v33 (F := Ideal) x0 x1 : S8192x512.Idx → EReal) (ix2 t j)
    = (A_main_v1 (F := Ideal) x0 x1 : S8192x512.Idx → EReal) (ix2 t j) * Ideal.div 1 (1 + Ideal.exp (-(A_main_v1 (F := Ideal) x0 x1 : S8192x512.Idx → EReal) (ix2 t j))) := by
  unfold A_main_v33 A_main_call0_v5 A_main_call0_v3 A_main_call0_v1 A_main_call0_v0
  generalize A_main_v1 (F := Ideal) x0 x1 = Y
  pointwise [K_main_call0_v2, K_main_call0_v4, K_main_call0_cst, K_main_call0_cst_0]

theorem v32_apply (t : Fin 8192) (j : Fin 512) : (A_main_v32 (F := Ideal) x0 x1 : S8192x512.Idx → EReal) (ix2 t j)
    = (A_main_v18 (F := Ideal) x0 x1 : S512.Idx → EReal) (ix1 j) + (1 - (A_main_v18 (F := Ideal) x0 x1 : S512.Idx → EReal) (ix1 j))
      * Ideal.div 1 (1 + Ideal.exp (-(A_main_v3 (F := Ideal) x0 x1 : S8192x512.Idx → EReal) (ix2 t j))) := by
  unfold A_main_v32 A_main_v31 A_main_v30 A_main_v29 A_main_v28 A_main_v27 A_main_v26 A_main_v24 A_main_v22 A_main_v21 A_main_v20
  generalize A_main_v3 (F := Ideal) x0 x1 = Y
  generalize A_main_v18 (F := Ideal) x0 x1 = Z
  pointwise [K_main_v19, K_main_v23, K_main_v25, K_main_cst_2, K_main_cst_3, K_main_cst_4]

theorem v18_apply (j : Fin 512) : (A_main_v18 (F := Ideal) x0 x1 : S512.Idx → EReal) (ix1 j)
    = Ideal.div (Ideal.exp (x1 (ix2 0 j) - max ⊥ (Finset.fold max ⊥ (fun x => x1 (ix2 x j)) Finset.univ)))
      (0 + ∑ y, Ideal.exp (x1 (ix2 y j) - max ⊥ (Finset.fold max ⊥ (fun x => x1 (ix2 x j)) Finset.univ))) := by
  pointwise [A_main_v18, A_main_v17, A_main_v16, A_main_v15, A_main_v14, A_main_v13, A_main_v12, A_main_v11, A_main_v10, A_main_v9, A_main_v8, A_main_v6,
    K_main_v7, K_main_cst, K_main_cst_0, K_main_cst_1]
  simp only [Cert.Hgrn.bits_bot, Ideal.ofBits_zero]

variable {x0 x1}

/-- The lower bound of a channel. -/
theorem lb_eq (H : Cert.Hgrn.Ok x0 x1) (j : Fin 512) : (A_main_v18 (F := Ideal) x0 x1 : S512.Idx → EReal) (ix1 j) = (Cert.Hgrn.lr x1 j.val : EReal) := by
  rw [v18_apply, Cert.Hgrn.softmax H, Cert.Hgrn.lr_eq]

/-- The decay of a step and a channel. -/
theorem dec_eq (H : Cert.Hgrn.Ok x0 x1) (t : Fin 8192) (j : Fin 512) : (A_main_v32 (F := Ideal) x0 x1 : S8192x512.Idx → EReal) (ix2 t j)
    = ((Cert.Hgrn.lr x1 j.val + (1 - Cert.Hgrn.lr x1 j.val) * sr (Cert.Hgrn.Ur x0 t.val (512 + j.val)) : ℝ) : EReal) := by
  rw [v32_apply, lb_eq H, v3_apply, H.U_eq t ⟨512 + j.val, by omega⟩ (by dsimp only; omega), sr_coe']
  exact_mod_cast rfl

variable (m : (ℓ : Loc nD τ sig) → Buf (Elt Ideal) ℓ) (c : Dev nD)
set_option maxHeartbeats 1000000 in
/-- What the loop starts from. -/
theorem entry (H : Cert.Hgrn.Ok (m ((c.tc : Thread nD τ).loc main_arg0)) (m ((c.tc : Thread nD τ).loc main_arg1))) :
    At (entryContents preI m c) (Cert.Hgrn.Ur (m ((c.tc : Thread nD τ).loc main_arg0))) (Cert.Hgrn.lr (m ((c.tc : Thread nD τ).loc main_arg1))) 0 where
  q t h d := (congrFun (e_q m c) (ix3 t h d)).trans ((heads _ t h d).trans (by
    rw [v33_apply, v1_apply, H.U_eq t ⟨128 * h.val + d.val, by omega⟩ (by dsimp only; omega), sr_coe']
    exact (EReal.coe_mul _ _).symm))
  f t h d := (congrFun (e_f m c) (ix3 t h d)).trans ((heads _ t h d).trans (by rw [dec_eq H]; rfl))
  key t h d := (congrFun (e_k m c) (ix3 t h d)).trans ((heads _ t h d).trans (by
    unfold A_main_v35
    refine (show _ = (K_main_v34 (F := Ideal) : S8192x512.Idx → EReal) (ix2 t ⟨128 * h.val + d.val, by omega⟩) - (A_main_v32 (F := Ideal) _ _ : S8192x512.Idx → EReal) (ix2 t ⟨128 * h.val + d.val, by omega⟩) from rfl).trans ?_
    rw [dec_eq H]
    pointwise [K_main_v34, K_main_cst_5]
    rw [← EReal.coe_one, ← EReal.coe_sub]
    refine congrArg _ ?_
    unfold kr
    ring))
  v t h d := (congrFun (e_v m c) (ix3 t h d)).trans ((heads _ t h d).trans (by
    rw [v5_apply, H.U_eq t ⟨1024 + (128 * h.val + d.val), by omega⟩ (by dsimp only; omega)]; rfl))
  n := ctr_entry m c
  s h d e := (congrFun (e_s m c) (ix3 h d e)).trans (by
    pointwise [K_main_v40, K_main_cst_6]
    rfl)
  o t h e ht := absurd ht (by omega)

/-! ## The results -/

/-- The outputs, head by head, after the loop. -/
theorem rd_o {V : Valuation τ sig (Elt Ideal)} {U : ℕ → ℕ → ℝ} {l : ℕ → ℝ} (H : At V U l 8192) (t : Fin 8192) (n : Fin 512) :
    (out_main_v63 V : S8192x512.Idx → EReal) (ix2 t n) = (Cert.Hgrn.All U l t.val n.val : EReal) := by
  have e := H.o t ⟨n.val / 128, by omega⟩ ⟨n.val % 128, Nat.mod_lt _ (by norm_num)⟩ t.isLt
  unfold out_main_v63
  unfold co at e
  revert e
  generalize V (Proc.devRef .tc main_v42_6) = O
  intro e
  pointwise
  refine e.trans ?_
  unfold Cert.Hgrn.All
  rw [Nat.mul_comm]

/-- The gated outputs after the loop. -/
theorem rd_og {V : Valuation τ sig (Elt Ideal)} {U : ℕ → ℕ → ℝ} {l : ℕ → ℝ} (H : At V U l 8192) (t : Fin 8192) (n : Fin 512) :
    (out_main_v62 V : S8192x512.Idx → EReal) (ix2 t n) = Cert.Hgrn.gated (fun e => (Out U l (n.val / 128 * 128) t.val e : EReal))
      ((V (Proc.devRef .tc main_arg0) : S1x8192x3592.Idx → EReal) (ix3 (0 : Fin 1) t ⟨1536 + n.val, by omega⟩)) ((V (Proc.devRef .tc main_arg2) : S1x512.Idx → EReal) (ix2 (0 : Fin 1) n)) ⟨n.val % 128, Nat.mod_lt _ (by norm_num)⟩ := by
  have e : ∀ x, co V (ix3 t ⟨n.val / 128, by omega⟩ x) = (Out U l (n.val / 128 * 128) t.val x : EReal) := fun x => by
    rw [Nat.mul_comm]
    exact H.o t ⟨n.val / 128, by omega⟩ x t.isLt
  unfold out_main_v62
  unfold co at e
  revert e
  generalize V (Proc.devRef .tc main_v42_6) = O
  generalize V (Proc.devRef .tc main_arg0) = X
  generalize V (Proc.devRef .tc main_arg2) = G
  intro e
  pointwise
  unfold Cert.Hgrn.gated
  simp only [e, zero_sub]

end Cert.Reference11Ideal.HgrnRef
end
-- ==== Proof.Hgrn.Pre.lean ====
/-
  The precondition read: the columns that the recurrence reads and the logits hold real numbers, and no second logit is above its first
  by more than 39/8.
-/
module

public import proofs.«01_k».proof.Pre_bounded_decays
public import proofs.«01_k».proof.Proof.Real.Finite
public import proofs.«01_k».proof.Proof.Hgrn.Args

@[expose] public section
noncomputable section
namespace Cert.Pre_bounded_decays
open Idealize.ShloMosaic Cert.Real

/-- The precondition's own side conditions. -/
instance facts : Facts := by constructor <;> decide

/-- The bound on the logits' difference. -/
theorem bits_bound : Ideal.ofBits .f32 0x409C0000#32 = ((39 / 8 : ℝ) : EReal) := by
  simp [Ideal.ofBits, Ideal.ieee, -EReal.coe_mul]; norm_num

/-- An extended real equal to a real is neither infinity. -/
theorem ne_of_eq {x : EReal} (h : x = (x.toReal : EReal)) : x ≠ ⊤ ∧ x ≠ ⊥ := by
  rw [h]; exact ⟨EReal.coe_ne_top _, EReal.coe_ne_bot _⟩

/-- Where the precondition holds the arguments are as the recurrence's proof asks. -/
theorem bounded (x0 : FVec Ideal S1x8192x3592 .f32) (x1 : FVec Ideal S2x512 .f32) (x2 : FVec Ideal S1x512 .f32)
    (h : fn (F := Ideal) x0 x1 x2 = fun _ => 1#1) : Cert.Hgrn.Ok x0 x1 := by
  have h0 := congrFun h (fun a => a.elim0)
  unfold fn fn_part1 at h0
  obtain ⟨h0, h2⟩ := and_split _ _ h0
  obtain ⟨h0, h1⟩ := and_split _ _ h0
  have f0 := all_finite _ _ _ _ h0
  have f1 := all_finite _ _ _ _ h1
  have hs : Subsingleton S_.Idx := ⟨fun a b => funext fun i => i.elim0⟩
  refine ⟨fun t j hj => ?_, fun i j => ne_of_eq (f1 (ix2 i j)), fun j => ?_⟩
  · have e := f0 (ix2 t ⟨j.val, hj⟩)
    pointwise at e
    exact ne_of_eq e
  · have e := Host.reduce_andi_all _ _ _ _ _ h2 (ix1 j)
    pointwise at e
    have e' : x1 (ix2 (1 : Fin 2) j) - x1 (ix2 (0 : Fin 2) j) ≤ Ideal.ofBits FTy.f32 0x409C0000#32 := by
      by_contra hn
      rw [decide_eq_false hn] at e
      exact absurd e (by decide)
    rw [bits_bound, show x1 (ix2 (1 : Fin 2) j) = _ from f1 (ix2 1 j), show x1 (ix2 (0 : Fin 2) j) = _ from f1 (ix2 0 j), ← EReal.coe_sub] at e'
    exact EReal.coe_le_coe_iff.mp e'

end Cert.Pre_bounded_decays
end
-- ==== Proof.Fwd.Hgrn.lean ====
/-
  The forward call of the first mixer, the HGRN2 recurrence: the kernel, by chunks of 128 steps and sub-chunks of 16, with products of decays as exponentials of sums,
  and the reference, step by step, leave the same outputs.
-/
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Hgrn.Grid
public import proofs.«01_k».proof.Proof.Hgrn.Entry
public import proofs.«01_k».proof.Proof.Hgrn.Pre
public import Idealize.ShloMosaic.Lib.Claim

@[expose] public section
set_option maxRecDepth 16384
noncomputable section
namespace Cert.Hgrn
open Idealize.ShloMosaic Idealize.ShloMosaic.TcCoe Idealize.ShloMosaic.StableHlo Idealize.SL.Sem
open Cert.Reference11Ideal Cert.Reference11Ideal.Gen Cert.Reference11Ideal.Value
open Cert.Kernel11Ideal.HgrnVal (a0 a1 a2 arr_o arr_og)
open Cert.Kernel11Ideal.Gen (dats)

/-- The reference runs, leaves its arguments as they were and every counter at zero. -/
theorem frame_reference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

section
variable (m : (ℓ : Loc Cert.Kernel11Ideal.nD Cert.Kernel11Ideal.τ Cert.Kernel11Ideal.sig) → Buf (Elt Ideal) ℓ) (c : Dev Cert.Kernel11Ideal.nD)
  (m' : (ℓ : Loc nD τ sig) → Buf (Elt Ideal) ℓ) (H : Ok (a0 m c) (a1 m c))
  (e0 : m' ((c.tc : Thread nD τ).loc main_arg0) = a0 m c) (e1 : m' ((c.tc : Thread nD τ).loc main_arg1) = a1 m c) (e2 : m' ((c.tc : Thread nD τ).loc main_arg2) = a2 m c)
include H e0 e1

/-- The reference's loop, run to its end. -/
theorem done : Cert.Reference11Ideal.HgrnRef.At (STEP^[8192] (entryContents preI m' c)) (Ur (a0 m c)) (lr (a1 m c)) 8192 := by
  have h := Cert.Reference11Ideal.HgrnRef.entry m' c (by rw [e0, e1]; exact H)
  rw [e0, e1] at h
  exact Cert.Reference11Ideal.HgrnRef.at_all h 8192 (Nat.le_refl _)

/-- The outputs agree. -/
theorem agree_o : out_main_v63 (STEP^[8192] (entryContents preI m' c)) = (dats m 0 c).arrAt 7 Cert.Kernel11Ideal.cfg0.N := by
  rw [arr_o H]
  funext i
  exact (congrArg _ (eq_ix2 i)).trans (Cert.Reference11Ideal.HgrnRef.rd_o (done m c m' H e0 e1) (i 0) (i 1))

include e2
/-- The gated outputs agree. -/
theorem agree_og : out_main_v62 (STEP^[8192] (entryContents preI m' c)) = (dats m 0 c).arrAt 3 Cert.Kernel11Ideal.cfg0.N := by
  rw [arr_og H]
  funext i
  refine (congrArg _ (eq_ix2 i)).trans ((Cert.Reference11Ideal.HgrnRef.rd_og (done m c m' H e0 e1) (i 0) (i 1)).trans ?_)
  rw [iter_main_arg0, iter_main_arg2, e0, e2]
end

/-- The kernel and reference.py's recurrence leave the same two arrays. -/
theorem algebraic : Cert.algebraic_Kernel11Ideal_Reference11Ideal_pre_bounded_decays := by
  intro m g m' g' hpre hargs
  have H : ∀ c, Ok (a0 m c) (a1 m c) := fun c => Cert.Pre_bounded_decays.bounded _ _ _ (hpre c)
  refine ⟨fun c => (dats m 0 c).arrAt 3 Cert.Kernel11Ideal.cfg0.N, fun c => (dats m 0 c).arrAt 7 Cert.Kernel11Ideal.cfg0.N,
    (θ_run Cert.Kernel11Ideal.defs _ _).mono (fun r h c => ?_) (Cert.Kernel11Ideal.Value.run_blocks m g), ?_⟩
  · obtain ⟨h3, -, -, -, h7, hk⟩ := h c
    exact ⟨h3, h7, hk⟩
  refine (θ_run Cert.Reference11Ideal.defs _ _).mono (fun r h c => ?_) (Cert.Reference11Ideal.Value.run (F := Ideal) m' g')
  obtain ⟨e0, e1, e2⟩ := hargs c
  obtain ⟨h0, h1, hk⟩ := h c
  exact ⟨h0.trans (agree_og m c m' (H c) e0 e1 e2), h1.trans (agree_o m c m' (H c) e0 e1), hk⟩

end Cert.Hgrn
end
-- ==== Proof.Step.AdamwPack.lean ====
/-
  The optimiser's update of the eleven small parameters: the version packs them, side by side, into one array of
  16 rows of 1024, updates the pack in one call and cuts the results out again; the reference updates each by itself.
-/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise
public import Idealize.ShloMosaic.Lib.KernelVsHost

@[expose] public section
set_option maxRecDepth 65536
noncomputable section
namespace Cert.Adamw
open Idealize.ShloMosaic Idealize.ShloMosaic.TcCoe Idealize.SL.Sem

/-! ## The update of one array -/

section Update
variable {s : Shape}

/-- The new first moment: nine tenths of the old one and a tenth of the gradient. -/
def newM (g m : FVec Ideal s .f32) : FVec Ideal s .f32 :=
  addf (mulf (broadcast s (Scalar.ofBits .f32 0x3F666666#32)) m) (mulf (broadcast s (Scalar.ofBits .f32 0x3DCCCCCD#32)) g)

/-- The new second moment: 0.999 of the old one and a thousandth of the gradient's square. -/
def newV (g v : FVec Ideal s .f32) : FVec Ideal s .f32 :=
  addf (mulf (broadcast s (Scalar.ofBits .f32 0x3F7FBE77#32)) v)
    (mulf (broadcast s (Scalar.ofBits .f32 0x3A83126F#32)) (mulf g g))

/-- The step: the corrected first moment over the root of the corrected second moment, with the weights' decay, times
    minus the learning rate. -/
def delta (g w m v : FVec Ideal s .f32) : FVec Ideal s .f32 :=
  mulf (broadcast s (Scalar.ofBits .f32 0xBA83126F#32))
    (addf (divf (divf (newM g m) (broadcast s (Scalar.ofBits .f32 0x3F26BD02#32)))
        (addf (sqrt (divf (newV g v) (broadcast s (Scalar.ofBits .f32 0x3C231ACC#32))))
          (broadcast s (Scalar.ofBits .f32 0x322BCC77#32))))
      (mulf (broadcast s (Scalar.ofBits .f32 0x3C23D70A#32)) w))

end Update

/-! ## The pack -/

section Pack
open Cert.Kernel12Ideal Cert.Kernel12Ideal.Gen

/-- A flat array of `n` entries. -/
abbrev Flat (n : Nat) := FVec Ideal ⟨1, ![n]⟩ .f32

/-- Flat pieces joined, padded to 16384 entries with `z` and cut again at the place where one of them starts: that piece. -/
theorem slice_piece (xs : List ((s : Shape) × FVec Ideal s .f32)) (h : Shape.Concatenates (xs.map (·.1)) S11784 0)
    (z : FVec Ideal S_ .f32) (k n o : Nat) (x : Flat n) (hk : k < xs.length) (hx : xs[k] = ⟨⟨1, ![n]⟩, x⟩)
    (ho : (((xs.take k).map (·.1)).map fun s => if h : s.rank = S11784.rank then s.size ((0 : Fin 1).cast h.symm) else 0).sum = o)
    (hon : o + n ≤ 11784) (hs : S16384.Slices ![o] ⟨1, ![n]⟩) :
    extractStridedSlice ⟨1, ![n]⟩ ![o] (pad S16384 ![0] ![4600] ![0] (concatenate S11784 0 xs h) z
      pads_S11784_S16384_046000 h_S_) hs = x := by
  funext j
  have hj : (j 0).val < n := (j 0).isLt
  refine (extractStridedSlice_apply _ _ hs j (ix1 (⟨o + (j 0).val, by omega⟩ : Fin 16384)) ?_).trans ?_
  · intro a; match a with | 0 => rfl
  refine (pad_apply_of_inside _ _ _ _ z _ _ _ (ix1 (⟨o + (j 0).val, by omega⟩ : Fin 11784)) ?_).trans ?_
  · intro a; match a with | 0 => show o + (j 0).val = 0 + (o + (j 0).val) * (0 + 1); omega
  exact concatenate_apply_piece _ xs h _ k hk _ x hx rfl o ho j (fun b hb => absurd (Subsingleton.elim _ _) hb) rfl

/-- The eleven arrays in one: each made flat, joined, padded with zeros to 16384 entries and cut into 16 rows. -/
def pack (a0 : FVec Ideal S1x3592 .f32) (a1 : FVec Ideal S2x512 .f32) (a2 : FVec Ideal S1x4x128 .f32)
    (a3 a4 a5 : FVec Ideal S1x512 .f32) (a6 a7 a8 a9 a10 : FVec Ideal S1x1024 .f32) : FVec Ideal S16x1024 .f32 :=
  shapeCast S16x1024 (pad S16384 ![0] ![4600] ![0] (concatenate S11784 0
      [⟨S3592, shapeCast S3592 a0 shapeCasts_S1x3592_S3592⟩, ⟨S1024, shapeCast S1024 a1 shapeCasts_S2x512_S1024⟩,
        ⟨S512, shapeCast S512 a2 shapeCasts_S1x4x128_S512⟩, ⟨S512, shapeCast S512 a3 shapeCasts_S1x512_S512⟩,
        ⟨S512, shapeCast S512 a4 shapeCasts_S1x512_S512⟩, ⟨S512, shapeCast S512 a5 shapeCasts_S1x512_S512⟩,
        ⟨S1024, shapeCast S1024 a6 shapeCasts_S1x1024_S1024⟩, ⟨S1024, shapeCast S1024 a7 shapeCasts_S1x1024_S1024⟩,
        ⟨S1024, shapeCast S1024 a8 shapeCasts_S1x1024_S1024⟩, ⟨S1024, shapeCast S1024 a9 shapeCasts_S1x1024_S1024⟩,
        ⟨S1024, shapeCast S1024 a10 shapeCasts_S1x1024_S1024⟩]
      concatenates_S3592_S1024_S512_S512_S512_S512_S1024_S1024_S1024_S1024_S1024_S11784_d0)
    (sitofp .f32 (constantI S_ 32 0#32)) pads_S11784_S16384_046000 h_S_) shapeCasts_S16384_S16x1024

/-- The `n` entries of a pack from entry `o` on, as an array of shape `t`. -/
def cut {t : Shape} {n o : Nat} (hs : S16384.Slices ![o] ⟨1, ![n]⟩) (ht : (⟨1, ![n]⟩ : Shape).ShapeCasts t)
    (p : FVec Ideal S16x1024 .f32) : FVec Ideal t .f32 :=
  shapeCast t (extractStridedSlice ⟨1, ![n]⟩ ![o] (shapeCast S16384 p shapeCasts_S16x1024_S16384) hs) ht

abbrev cut0 := cut slices_S16384_S3592_0 shapeCasts_S3592_S1x3592
abbrev cut1 := cut slices_S16384_S1024_3592 shapeCasts_S1024_S2x512
abbrev cut2 := cut slices_S16384_S512_4616 shapeCasts_S512_S1x4x128
abbrev cut3 := cut slices_S16384_S512_5128 shapeCasts_S512_S1x512
abbrev cut4 := cut slices_S16384_S512_5640 shapeCasts_S512_S1x512
abbrev cut5 := cut slices_S16384_S512_6152 shapeCasts_S512_S1x512
abbrev cut6 := cut slices_S16384_S1024_6664 shapeCasts_S1024_S1x1024
abbrev cut7 := cut slices_S16384_S1024_7688 shapeCasts_S1024_S1x1024
abbrev cut8 := cut slices_S16384_S1024_8712 shapeCasts_S1024_S1x1024
abbrev cut9 := cut slices_S16384_S1024_9736 shapeCasts_S1024_S1x1024
abbrev cut10 := cut slices_S16384_S1024_10760 shapeCasts_S1024_S1x1024

set_option maxHeartbeats 4000000 in
/-- Each cut of a pack is the array that was packed there. -/
theorem cut_pack (a0 : FVec Ideal S1x3592 .f32) (a1 : FVec Ideal S2x512 .f32) (a2 : FVec Ideal S1x4x128 .f32)
    (a3 a4 a5 : FVec Ideal S1x512 .f32) (a6 a7 a8 a9 a10 : FVec Ideal S1x1024 .f32) :
    let p := pack a0 a1 a2 a3 a4 a5 a6 a7 a8 a9 a10
    cut0 p = a0 ∧ cut1 p = a1 ∧ cut2 p = a2 ∧ cut3 p = a3 ∧ cut4 p = a4 ∧ cut5 p = a5 ∧ cut6 p = a6 ∧ cut7 p = a7
      ∧ cut8 p = a8 ∧ cut9 p = a9 ∧ cut10 p = a10 := by
  have back : ∀ {s t : Shape} (x : FVec Ideal s .f32) (h : s.ShapeCasts t) (h' : t.ShapeCasts s) (y : FVec Ideal t .f32),
      y = shapeCast t x h → shapeCast s y h' = x := fun x h h' y e => by
    rw [e]; exact shapeCast_shapeCast x h h'
  have flat : ∀ (q : Flat 16384) (n o : Nat) (hs : S16384.Slices ![o] ⟨1, ![n]⟩) (y : Flat n),
      extractStridedSlice ⟨1, ![n]⟩ ![o] q hs = y → extractStridedSlice ⟨1, ![n]⟩ ![o]
        (shapeCast S16384 (shapeCast S16x1024 q shapeCasts_S16384_S16x1024) shapeCasts_S16x1024_S16384) hs = y :=
    fun q n o hs y e => by rw [shapeCast_shapeCast]; exact e
  refine ⟨back _ _ _ _ (flat _ _ _ _ _ (slice_piece _ _ _ 0 _ _ _ ?_ rfl ?_ ?_ _)),
    back _ _ _ _ (flat _ _ _ _ _ (slice_piece _ _ _ 1 _ _ _ ?_ rfl ?_ ?_ _)),
    back _ _ _ _ (flat _ _ _ _ _ (slice_piece _ _ _ 2 _ _ _ ?_ rfl ?_ ?_ _)),
    back _ _ _ _ (flat _ _ _ _ _ (slice_piece _ _ _ 3 _ _ _ ?_ rfl ?_ ?_ _)),
    back _ _ _ _ (flat _ _ _ _ _ (slice_piece _ _ _ 4 _ _ _ ?_ rfl ?_ ?_ _)),
    back _ _ _ _ (flat _ _ _ _ _ (slice_piece _ _ _ 5 _ _ _ ?_ rfl ?_ ?_ _)),
    back _ _ _ _ (flat _ _ _ _ _ (slice_piece _ _ _ 6 _ _ _ ?_ rfl ?_ ?_ _)),
    back _ _ _ _ (flat _ _ _ _ _ (slice_piece _ _ _ 7 _ _ _ ?_ rfl ?_ ?_ _)),
    back _ _ _ _ (flat _ _ _ _ _ (slice_piece _ _ _ 8 _ _ _ ?_ rfl ?_ ?_ _)),
    back _ _ _ _ (flat _ _ _ _ _ (slice_piece _ _ _ 9 _ _ _ ?_ rfl ?_ ?_ _)),
    back _ _ _ _ (flat _ _ _ _ _ (slice_piece _ _ _ 10 _ _ _ ?_ rfl ?_ ?_ _))⟩
  all_goals first | decide | rfl | simp

section
variable {t : Shape} {n o : Nat} (hs : S16384.Slices ![o] ⟨1, ![n]⟩) (ht : (⟨1, ![n]⟩ : Shape).ShapeCasts t)
  (g w m v : FVec Ideal S16x1024 .f32)

/-- A cut of an updated pack is the update of the cuts: the step. -/
theorem cut_delta : cut hs ht (delta g w m v) = delta (cut hs ht g) (cut hs ht w) (cut hs ht m) (cut hs ht v) := rfl
/-- The new first moment. -/
theorem cut_newM : cut hs ht (newM g m) = newM (cut hs ht g) (cut hs ht m) := rfl
/-- The new second moment. -/
theorem cut_newV : cut hs ht (newV g v) = newV (cut hs ht g) (cut hs ht v) := rfl

end

/-- After the host operations that follow the call, each result is a cut of one of the call's last three arrays. -/
theorem results (W : Valuation τ sig (Elt Ideal)) :
    let W1 := fun b : Ref sig .tc => StableHlo.after hostOps1 W (Proc.devRef .tc b)
    W1 main_v60 = cut0 (W (Proc.devRef .tc main_v57_1)) ∧ W1 main_v62 = cut1 (W (Proc.devRef .tc main_v57_1))
      ∧ W1 main_v64 = cut2 (W (Proc.devRef .tc main_v57_1)) ∧ W1 main_v66 = cut3 (W (Proc.devRef .tc main_v57_1))
      ∧ W1 main_v68 = cut4 (W (Proc.devRef .tc main_v57_1)) ∧ W1 main_v70 = cut5 (W (Proc.devRef .tc main_v57_1))
      ∧ W1 main_v72 = cut6 (W (Proc.devRef .tc main_v57_1)) ∧ W1 main_v74 = cut7 (W (Proc.devRef .tc main_v57_1))
      ∧ W1 main_v76 = cut8 (W (Proc.devRef .tc main_v57_1)) ∧ W1 main_v78 = cut9 (W (Proc.devRef .tc main_v57_1))
      ∧ W1 main_v80 = cut10 (W (Proc.devRef .tc main_v57_1)) ∧ W1 main_v83 = cut0 (W (Proc.devRef .tc main_v57_2))
      ∧ W1 main_v85 = cut1 (W (Proc.devRef .tc main_v57_2)) ∧ W1 main_v87 = cut2 (W (Proc.devRef .tc main_v57_2))
      ∧ W1 main_v89 = cut3 (W (Proc.devRef .tc main_v57_2)) ∧ W1 main_v91 = cut4 (W (Proc.devRef .tc main_v57_2))
      ∧ W1 main_v93 = cut5 (W (Proc.devRef .tc main_v57_2)) ∧ W1 main_v95 = cut6 (W (Proc.devRef .tc main_v57_2))
      ∧ W1 main_v97 = cut7 (W (Proc.devRef .tc main_v57_2)) ∧ W1 main_v99 = cut8 (W (Proc.devRef .tc main_v57_2))
      ∧ W1 main_v101 = cut9 (W (Proc.devRef .tc main_v57_2)) ∧ W1 main_v103 = cut10 (W (Proc.devRef .tc main_v57_2))
      ∧ W1 main_v106 = cut0 (W (Proc.devRef .tc main_v57_3)) ∧ W1 main_v108 = cut1 (W (Proc.devRef .tc main_v57_3))
      ∧ W1 main_v110 = cut2 (W (Proc.devRef .tc main_v57_3)) ∧ W1 main_v112 = cut3 (W (Proc.devRef .tc main_v57_3))
      ∧ W1 main_v114 = cut4 (W (Proc.devRef .tc main_v57_3)) ∧ W1 main_v116 = cut5 (W (Proc.devRef .tc main_v57_3))
      ∧ W1 main_v118 = cut6 (W (Proc.devRef .tc main_v57_3)) ∧ W1 main_v120 = cut7 (W (Proc.devRef .tc main_v57_3))
      ∧ W1 main_v122 = cut8 (W (Proc.devRef .tc main_v57_3)) ∧ W1 main_v124 = cut9 (W (Proc.devRef .tc main_v57_3))
      ∧ W1 main_v126 = cut10 (W (Proc.devRef .tc main_v57_3)) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    after_reads_simp
    rfl

variable (m : (ℓ : Loc nD τ sig) → Buf (Elt Ideal) ℓ) (c : Dev nD)

/-- The pack of the gradients. -/
def packG : FVec Ideal S16x1024 .f32 :=
  pack (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))
/-- The pack of the weights. -/
def packW : FVec Ideal S16x1024 .f32 :=
  pack (m ((c : Thread nD τ).loc main_arg11)) (m ((c : Thread nD τ).loc main_arg12)) (m ((c : Thread nD τ).loc main_arg13))
    (m ((c : Thread nD τ).loc main_arg14)) (m ((c : Thread nD τ).loc main_arg15)) (m ((c : Thread nD τ).loc main_arg16))
    (m ((c : Thread nD τ).loc main_arg17)) (m ((c : Thread nD τ).loc main_arg18)) (m ((c : Thread nD τ).loc main_arg19))
    (m ((c : Thread nD τ).loc main_arg20)) (m ((c : Thread nD τ).loc main_arg21))
/-- The pack of the first moments. -/
def packM : FVec Ideal S16x1024 .f32 :=
  pack (m ((c : Thread nD τ).loc main_arg22)) (m ((c : Thread nD τ).loc main_arg23)) (m ((c : Thread nD τ).loc main_arg24))
    (m ((c : Thread nD τ).loc main_arg25)) (m ((c : Thread nD τ).loc main_arg26)) (m ((c : Thread nD τ).loc main_arg27))
    (m ((c : Thread nD τ).loc main_arg28)) (m ((c : Thread nD τ).loc main_arg29)) (m ((c : Thread nD τ).loc main_arg30))
    (m ((c : Thread nD τ).loc main_arg31)) (m ((c : Thread nD τ).loc main_arg32))
/-- The pack of the second moments. -/
def packV : FVec Ideal S16x1024 .f32 :=
  pack (m ((c : Thread nD τ).loc main_arg33)) (m ((c : Thread nD τ).loc main_arg34)) (m ((c : Thread nD τ).loc main_arg35))
    (m ((c : Thread nD τ).loc main_arg36)) (m ((c : Thread nD τ).loc main_arg37)) (m ((c : Thread nD τ).loc main_arg38))
    (m ((c : Thread nD τ).loc main_arg39)) (m ((c : Thread nD τ).loc main_arg40)) (m ((c : Thread nD τ).loc main_arg41))
    (m ((c : Thread nD τ).loc main_arg42)) (m ((c : Thread nD τ).loc main_arg43))

/-- The cuts of the gradients' pack. -/
theorem cut_packG : let p := packG m c
    let a := fun b : Ref sig .tc => m ((c : Thread nD τ).loc b)
    cut0 p = a main_arg0 ∧ cut1 p = a main_arg1 ∧ cut2 p = a main_arg2 ∧ cut3 p = a main_arg3
      ∧ cut4 p = a main_arg4 ∧ cut5 p = a main_arg5 ∧ cut6 p = a main_arg6 ∧ cut7 p = a main_arg7
      ∧ cut8 p = a main_arg8 ∧ cut9 p = a main_arg9 ∧ cut10 p = a main_arg10 :=
  cut_pack _ _ _ _ _ _ _ _ _ _ _
/-- The cuts of the weights' pack. -/
theorem cut_packW : let p := packW m c
    let a := fun b : Ref sig .tc => m ((c : Thread nD τ).loc b)
    cut0 p = a main_arg11 ∧ cut1 p = a main_arg12 ∧ cut2 p = a main_arg13 ∧ cut3 p = a main_arg14
      ∧ cut4 p = a main_arg15 ∧ cut5 p = a main_arg16 ∧ cut6 p = a main_arg17 ∧ cut7 p = a main_arg18
      ∧ cut8 p = a main_arg19 ∧ cut9 p = a main_arg20 ∧ cut10 p = a main_arg21 :=
  cut_pack _ _ _ _ _ _ _ _ _ _ _
/-- The cuts of the first moments' pack. -/
theorem cut_packM : let p := packM m c
    let a := fun b : Ref sig .tc => m ((c : Thread nD τ).loc b)
    cut0 p = a main_arg22 ∧ cut1 p = a main_arg23 ∧ cut2 p = a main_arg24 ∧ cut3 p = a main_arg25
      ∧ cut4 p = a main_arg26 ∧ cut5 p = a main_arg27 ∧ cut6 p = a main_arg28 ∧ cut7 p = a main_arg29
      ∧ cut8 p = a main_arg30 ∧ cut9 p = a main_arg31 ∧ cut10 p = a main_arg32 :=
  cut_pack _ _ _ _ _ _ _ _ _ _ _
/-- The cuts of the second moments' pack. -/
theorem cut_packV : let p := packV m c
    let a := fun b : Ref sig .tc => m ((c : Thread nD τ).loc b)
    cut0 p = a main_arg33 ∧ cut1 p = a main_arg34 ∧ cut2 p = a main_arg35 ∧ cut3 p = a main_arg36
      ∧ cut4 p = a main_arg37 ∧ cut5 p = a main_arg38 ∧ cut6 p = a main_arg39 ∧ cut7 p = a main_arg40
      ∧ cut8 p = a main_arg41 ∧ cut9 p = a main_arg42 ∧ cut10 p = a main_arg43 :=
  cut_pack _ _ _ _ _ _ _ _ _ _ _

set_option maxHeartbeats 8000000 in
/-- The call finds the four packs. -/
theorem entry : V m c main_v56 = broadcastInDim S1x16x1024 ![1, 2] bcast_S16x1024_S1x16x1024_1_2 (packG m c)
    ∧ V m c main_v27 = packW m c ∧ V m c main_v41 = packM m c ∧ V m c main_v55 = packV m c := by
  refine ⟨?_, ?_, ?_, ?_⟩
  all_goals
    simp only [V, V0]
    after_reads_simp
    rfl

end Pack
end Cert.Adamw
end
-- ==== Proof.Step.Adamw.lean ====
/-
  The optimiser's update of the eleven small parameters: the arrays the call leaves, and the run of both programs at
  the eleven updates.
-/
module

public import proofs.«01_k».proof.Proof.Step.AdamwPack
public import Idealize.ShloMosaic.Lib.Pipeline.ValueKit
public import Idealize.ShloMosaic.Lib.Pipeline.ReadBack

@[expose] public section
set_option maxRecDepth 65536
noncomputable section
namespace Cert.Adamw
open Idealize.ShloMosaic Idealize.ShloMosaic.TcCoe Idealize.SL.Sem

section Kernel
open Cert.Kernel12Ideal Cert.Kernel12Ideal.Gen
open Idealize.ShloMosaic.Pipeline (Dat)
variable (m : (ℓ : Loc nD τ sig) → Buf (Elt Ideal) ℓ) (c : Dev nD)

/-- Every window's one block is the whole array. -/
theorem idx : ∀ t : Fin cfg0.N, win0_0.index t = ![0, 0, 0] ∧ win0_1.index t = ![0, 0] ∧ win0_2.index t = ![0, 0]
    ∧ win0_3.index t = ![0, 0] ∧ win0_5.index t = ![0, 0] ∧ win0_6.index t = ![0, 0] ∧ win0_7.index t = ![0, 0] := by
  decide +kernel

/-- An entry of a window's one block is the same entry of the array. -/
theorem embs (t : Fin cfg0.N) : (∀ y, (win0_0.blk t).view.emb y = y) ∧ (∀ y, (win0_1.blk t).view.emb y = y)
    ∧ (∀ y, (win0_2.blk t).view.emb y = y) ∧ (∀ y, (win0_3.blk t).view.emb y = y) ∧ (∀ y, (win0_5.blk t).view.emb y = y)
    ∧ (∀ y, (win0_6.blk t).view.emb y = y) ∧ (∀ y, (win0_7.blk t).view.emb y = y) := by
  obtain ⟨i0, i1, i2, i3, i5, i6, i7⟩ := idx t
  refine ⟨fun y => funext fun a => Fin.ext ?_, fun y => funext fun a => Fin.ext ?_, fun y => funext fun a => Fin.ext ?_,
    fun y => funext fun a => Fin.ext ?_, fun y => funext fun a => Fin.ext ?_, fun y => funext fun a => Fin.ext ?_,
    fun y => funext fun a => Fin.ext ?_⟩
  all_goals
    blk_simp
    first | rw [i0] | rw [i1] | rw [i2] | rw [i3] | rw [i5] | rw [i6] | rw [i7]
  · match a with | 0 => simp | 1 => simp | 2 => simp
  all_goals match a with | 0 => simp | 1 => simp

/-- The blocks the body reads are the four packs. -/
theorem blocks (t : Fin cfg0.N) :
    (iblk m c 0 t : FVec Ideal S1x16x1024 .f32) = broadcastInDim S1x16x1024 ![1, 2] bcast_S16x1024_S1x16x1024_1_2 (packG m c)
      ∧ (iblk m c 1 t : FVec Ideal S16x1024 .f32) = packW m c ∧ (iblk m c 2 t : FVec Ideal S16x1024 .f32) = packM m c
      ∧ (iblk m c 3 t : FVec Ideal S16x1024 .f32) = packV m c := by
  have e := entry m c
  unfold iblk
  generalize V m c = X at e ⊢
  generalize broadcastInDim S1x16x1024 ![1, 2] bcast_S16x1024_S1x16x1024_1_2 (packG m c) = g at e ⊢
  generalize packW m c = w at e ⊢
  generalize packM m c = p at e ⊢
  generalize packV m c = v at e ⊢
  obtain ⟨e0, e1, e2, e3⟩ := e
  obtain ⟨i0, i1, i2, i3, -⟩ := embs t
  exact ⟨(funext fun y => congrArg (X main_v56) (i0 y)).trans e0, (funext fun y => congrArg (X main_v27) (i1 y)).trans e1,
    (funext fun y => congrArg (X main_v41) (i2 y)).trans e2, (funext fun y => congrArg (X main_v55) (i3 y)).trans e3⟩

/-- What the body stores, from the blocks it reads. -/
theorem payloads (x0 : FVec Ideal S1x16x1024 .f32) (x1 x2 x3 : FVec Ideal S16x1024 .f32) :
    let g := shapeCast S16x1024 x0 shapeCasts_S1x16x1024_S16x1024
    k0_pay1 (F := Ideal) (k0_pay5 x0 x2 x3) (k0_pay6 x1) = delta g x1 x2 x3 ∧ k0_pay3 (F := Ideal) x0 x2 = newM g x2
      ∧ k0_pay4 (F := Ideal) x0 x3 = newV g x3 := by
  unfold k0_pay1 k0_pay5 k0_pay6 k0_pay3 k0_pay4 k0_pay2
  simp only [shapeCast_self]
  exact ⟨rfl, rfl, rfl⟩

/-- What the body leaves in its last three blocks, from the blocks it reads. -/
theorem outs (x0 : FVec Ideal S1x16x1024 .f32) (x1 x2 x3 : FVec Ideal S16x1024 .f32) :
    let g := shapeCast S16x1024 x0 shapeCasts_S1x16x1024_S16x1024
    out0_5 (F := Ideal) x0 x1 x2 x3 = delta g x1 x2 x3 ∧ out0_6 (F := Ideal) x0 x1 x2 x3 = newM g x2
      ∧ out0_7 (F := Ideal) x0 x1 x2 x3 = newV g x3 := by
  obtain ⟨p5, p6, p7⟩ := payloads x0 x1 x2 x3
  refine ⟨?_, ?_, ?_⟩
  · rw [← p5]; unfold out0_5; frame_out
  · rw [← p6]; unfold out0_6; frame_out
  · rw [← p7]; unfold out0_7; frame_out

/-- A pack under one leading index, and again without. -/
theorem unlead (g : FVec Ideal S16x1024 .f32) : shapeCast S16x1024
    (broadcastInDim S1x16x1024 ![1, 2] bcast_S16x1024_S1x16x1024_1_2 g) shapeCasts_S1x16x1024_S16x1024 = g := by
  funext y
  rw [eq_ix2 y]
  pointwise []

/-- An array whose one block the body leaves as `f` ends as `f`. -/
theorem arrays_of (f5 f6 f7 : FVec Ideal S16x1024 .f32)
    (h : ∀ t, out0_5 (iblk m c 0 t) (iblk m c 1 t) (iblk m c 2 t) (iblk m c 3 t) = f5
      ∧ out0_6 (iblk m c 0 t) (iblk m c 1 t) (iblk m c 2 t) (iblk m c 3 t) = f6
      ∧ out0_7 (iblk m c 0 t) (iblk m c 1 t) (iblk m c 2 t) (iblk m c 3 t) = f7) :
    (dats m 0 c).arrAt 5 cfg0.N = f5 ∧ (dats m 0 c).arrAt 6 cfg0.N = f6 ∧ (dats m 0 c).arrAt 7 cfg0.N = f7 := by
  refine ⟨(dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  · rw [after0_5, (h t).1]; exact (congrArg f5 ((embs t).2.2.2.2.1 y)).symm
  · rw [after0_6, (h t).2.1]; exact (congrArg f6 ((embs t).2.2.2.2.2.1 y)).symm
  · rw [after0_7, (h t).2.2]; exact (congrArg f7 ((embs t).2.2.2.2.2.2 y)).symm

/-- The call's last three arrays: the steps and the new moments of the packs. -/
theorem arrays : (dats m 0 c).arrAt 5 cfg0.N = delta (packG m c) (packW m c) (packM m c) (packV m c)
    ∧ (dats m 0 c).arrAt 6 cfg0.N = newM (packG m c) (packM m c)
    ∧ (dats m 0 c).arrAt 7 cfg0.N = newV (packG m c) (packV m c) := by
  refine arrays_of m c _ _ _ fun t => ?_
  obtain ⟨b0, b1, b2, b3⟩ := blocks m c t
  rw [b0, b1, b2, b3]
  have o := outs (broadcastInDim S1x16x1024 ![1, 2] bcast_S16x1024_S1x16x1024_1_2 (packG m c)) (packW m c) (packM m c) (packV m c)
  rw [unlead] at o
  exact o

/-- A result of the kernel: a buffer after the host operations that follow the call. -/
abbrev res (c : Dev nD) (b : Ref sig .tc) : Buf (Elt Ideal) ((c : Thread nD τ).loc b) :=
  Pipeline.afterTail₀ cfgs (dats m) 0 (V0 m) [hostOps1] c b

/-- The kernel's results: each parameter's own update. -/
theorem final : let o := res m c
    let a := fun b : Ref sig .tc => m ((c : Thread nD τ).loc b)
    o main_v60 = delta (s := S1x3592) (a main_arg0) (a main_arg11) (a main_arg22) (a main_arg33)
      ∧ o main_v62 = delta (s := S2x512) (a main_arg1) (a main_arg12) (a main_arg23) (a main_arg34)
      ∧ o main_v64 = delta (s := S1x4x128) (a main_arg2) (a main_arg13) (a main_arg24) (a main_arg35)
      ∧ o main_v66 = delta (s := S1x512) (a main_arg3) (a main_arg14) (a main_arg25) (a main_arg36)
      ∧ o main_v68 = delta (s := S1x512) (a main_arg4) (a main_arg15) (a main_arg26) (a main_arg37)
      ∧ o main_v70 = delta (s := S1x512) (a main_arg5) (a main_arg16) (a main_arg27) (a main_arg38)
      ∧ o main_v72 = delta (s := S1x1024) (a main_arg6) (a main_arg17) (a main_arg28) (a main_arg39)
      ∧ o main_v74 = delta (s := S1x1024) (a main_arg7) (a main_arg18) (a main_arg29) (a main_arg40)
      ∧ o main_v76 = delta (s := S1x1024) (a main_arg8) (a main_arg19) (a main_arg30) (a main_arg41)
      ∧ o main_v78 = delta (s := S1x1024) (a main_arg9) (a main_arg20) (a main_arg31) (a main_arg42)
      ∧ o main_v80 = delta (s := S1x1024) (a main_arg10) (a main_arg21) (a main_arg32) (a main_arg43)
      ∧ o main_v83 = newM (s := S1x3592) (a main_arg0) (a main_arg22)
      ∧ o main_v85 = newM (s := S2x512) (a main_arg1) (a main_arg23)
      ∧ o main_v87 = newM (s := S1x4x128) (a main_arg2) (a main_arg24)
      ∧ o main_v89 = newM (s := S1x512) (a main_arg3) (a main_arg25)
      ∧ o main_v91 = newM (s := S1x512) (a main_arg4) (a main_arg26)
      ∧ o main_v93 = newM (s := S1x512) (a main_arg5) (a main_arg27)
      ∧ o main_v95 = newM (s := S1x1024) (a main_arg6) (a main_arg28)
      ∧ o main_v97 = newM (s := S1x1024) (a main_arg7) (a main_arg29)
      ∧ o main_v99 = newM (s := S1x1024) (a main_arg8) (a main_arg30)
      ∧ o main_v101 = newM (s := S1x1024) (a main_arg9) (a main_arg31)
      ∧ o main_v103 = newM (s := S1x1024) (a main_arg10) (a main_arg32)
      ∧ o main_v106 = newV (s := S1x3592) (a main_arg0) (a main_arg33)
      ∧ o main_v108 = newV (s := S2x512) (a main_arg1) (a main_arg34)
      ∧ o main_v110 = newV (s := S1x4x128) (a main_arg2) (a main_arg35)
      ∧ o main_v112 = newV (s := S1x512) (a main_arg3) (a main_arg36)
      ∧ o main_v114 = newV (s := S1x512) (a main_arg4) (a main_arg37)
      ∧ o main_v116 = newV (s := S1x512) (a main_arg5) (a main_arg38)
      ∧ o main_v118 = newV (s := S1x1024) (a main_arg6) (a main_arg39)
      ∧ o main_v120 = newV (s := S1x1024) (a main_arg7) (a main_arg40)
      ∧ o main_v122 = newV (s := S1x1024) (a main_arg8) (a main_arg41)
      ∧ o main_v124 = newV (s := S1x1024) (a main_arg9) (a main_arg42)
      ∧ o main_v126 = newV (s := S1x1024) (a main_arg10) (a main_arg43) := by
  intro o a
  have e5 : Pipeline.withArrays spec0 c (V0 m c) (fun w => (dats m 0 c).arrAt w cfg0.N) (Proc.devRef .tc main_v57_1)
      = delta (packG m c) (packW m c) (packM m c) (packV m c) :=
    (Pipeline.withArrays_arr spec0 (by decide +kernel) c _ _ 5).trans (arrays m c).1
  have e6 : Pipeline.withArrays spec0 c (V0 m c) (fun w => (dats m 0 c).arrAt w cfg0.N) (Proc.devRef .tc main_v57_2)
      = newM (packG m c) (packM m c) := (Pipeline.withArrays_arr spec0 (by decide +kernel) c _ _ 6).trans (arrays m c).2.1
  have e7 : Pipeline.withArrays spec0 c (V0 m c) (fun w => (dats m 0 c).arrAt w cfg0.N) (Proc.devRef .tc main_v57_3)
      = newV (packG m c) (packV m c) := (Pipeline.withArrays_arr spec0 (by decide +kernel) c _ _ 7).trans (arrays m c).2.2
  have r := results (Pipeline.withArrays spec0 c (V0 m c) fun w => (dats m 0 c).arrAt w cfg0.N)
  obtain ⟨g0, g1, g2, g3, g4, g5, g6, g7, g8, g9, g10⟩ := cut_packG m c
  obtain ⟨w0, w1, w2, w3, w4, w5, w6, w7, w8, w9, w10⟩ := cut_packW m c
  obtain ⟨p0, p1, p2, p3, p4, p5, p6, p7, p8, p9, p10⟩ := cut_packM m c
  obtain ⟨v0, v1, v2, v3, v4, v5, v6, v7, v8, v9, v10⟩ := cut_packV m c
  simp only [e5, e6, e7, cut_delta, cut_newM, cut_newV, g0, g1, g2, g3, g4, g5, g6, g7, g8, g9, g10,
    w0, w1, w2, w3, w4, w5, w6, w7, w8, w9, w10,
    p0, p1, p2, p3, p4, p5, p6, p7, p8, p9, p10,
    v0, v1, v2, v3, v4, v5, v6, v7, v8, v9, v10] at r
  exact r

end Kernel
/-! ## The reference's lines -/

section Host
open Cert.Reference12Ideal
variable {s : Shape} (hb : S_.BroadcastsInDim s ![]) (g w m v : FVec Ideal s .f32)

/-- The reference's line of the new first moment. -/
theorem newM_host : addf (mulf (broadcastInDim s ![] hb (constant S_ .f32 0x3F666666#32)) m)
    (mulf (broadcastInDim s ![] hb (constant S_ .f32 0x3DCCCCCD#32)) g) = newM g m := rfl

/-- The reference's line of the new second moment. -/
theorem newV_host : addf (mulf (broadcastInDim s ![] hb (constant S_ .f32 0x3F7FBE77#32)) v)
    (mulf (broadcastInDim s ![] hb (constant S_ .f32 0x3A83126F#32)) (mulf g g)) = newV g v := rfl

/-- The reference's lines of the step. -/
theorem delta_host : mulf (broadcastInDim s ![] hb (constant S_ .f32 0xBA83126F#32))
    (addf (Host.divf (Host.divf (addf (mulf (broadcastInDim s ![] hb (constant S_ .f32 0x3F666666#32)) m)
          (mulf (broadcastInDim s ![] hb (constant S_ .f32 0x3DCCCCCD#32)) g))
        (broadcastInDim s ![] hb (constant S_ .f32 0x3F26BD02#32)))
      (addf (Host.sqrt (Host.divf (addf (mulf (broadcastInDim s ![] hb (constant S_ .f32 0x3F7FBE77#32)) v)
            (mulf (broadcastInDim s ![] hb (constant S_ .f32 0x3A83126F#32)) (mulf g g)))
          (broadcastInDim s ![] hb (constant S_ .f32 0x3C231ACC#32))))
        (broadcastInDim s ![] hb (constant S_ .f32 0x322BCC77#32))))
      (mulf (broadcastInDim s ![] hb (constant S_ .f32 0x3C23D70A#32)) w)) = delta g w m v := rfl

end Host

/-- The reference leaves its arguments. -/
theorem frame_reference : Cert.quiescent_Reference12Ideal := fun m ρ _ =>
  (θ_run Cert.Reference12Ideal.defs _ _).mono (fun r h => ⟨fun c => (h c).2.2.2.2.2.2.2.2.2.2.2.2.2.2.2.2.2.2.2.2.2.2.2.2.2.2.2.2.2.2.2.2.2, sem_eq_zero_of_no_sems (by decide) r.2⟩)
    (Cert.Reference12Ideal.Value.run (F := Ideal) m ρ)

section Kernel
open Cert.Kernel12Ideal Cert.Kernel12Ideal.Gen

set_option maxHeartbeats 4000000 in
/-- The packed update and the eleven plain ones leave the same steps and the same moments. -/
theorem algebraic : Cert.algebraic_Kernel12Ideal_Reference12Ideal := by
  intro m g m' g' _ hargs
  refine ⟨fun c => res m c main_v60, fun c => res m c main_v62, fun c => res m c main_v64, fun c => res m c main_v66,
    fun c => res m c main_v68, fun c => res m c main_v70, fun c => res m c main_v72, fun c => res m c main_v74,
    fun c => res m c main_v76, fun c => res m c main_v78, fun c => res m c main_v80, fun c => res m c main_v83,
    fun c => res m c main_v85, fun c => res m c main_v87, fun c => res m c main_v89, fun c => res m c main_v91,
    fun c => res m c main_v93, fun c => res m c main_v95, fun c => res m c main_v97, fun c => res m c main_v99,
    fun c => res m c main_v101, fun c => res m c main_v103, fun c => res m c main_v106, fun c => res m c main_v108,
    fun c => res m c main_v110, fun c => res m c main_v112, fun c => res m c main_v114, fun c => res m c main_v116,
    fun c => res m c main_v118, fun c => res m c main_v120, fun c => res m c main_v122, fun c => res m c main_v124,
    fun c => res m c main_v126, ?_, ?_⟩
  · refine (θ_run Cert.Kernel12Ideal.defs _ _).mono (fun r h c => ?_) (θ_run_and (run_main m g) (unchanged m g))
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, h.2 c⟩
    all_goals exact (h.1 c).2 _ (Pipeline.mem_restRefs_of _ (by decide) (by decide))
  refine (θ_run Cert.Reference12Ideal.defs _ _).mono (fun r h c => ?_) (Cert.Reference12Ideal.Value.run (F := Ideal) m' g')
  obtain ⟨e0, e1, e2, e3, e4, e5, e6, e7, e8, e9, e10, e11, e12, e13, e14, e15, e16, e17, e18, e19, e20, e21,
    e22, e23, e24, e25, e26, e27, e28, e29, e30, e31, e32, e33, e34, e35, e36, e37, e38, e39, e40, e41, e42, e43⟩ := hargs c
  have f := final m c
  simp only [← e0, ← e1, ← e2, ← e3, ← e4, ← e5, ← e6, ← e7, ← e8, ← e9, ← e10, ← e11, ← e12, ← e13, ← e14, ← e15, ← e16, ← e17, ← e18, ← e19, ← e20, ← e21,
    ← e22, ← e23, ← e24, ← e25, ← e26, ← e27, ← e28, ← e29, ← e30, ← e31, ← e32, ← e33, ← e34, ← e35, ← e36, ← e37, ← e38, ← e39, ← e40, ← e41, ← e42, ← e43] at f
  obtain ⟨f0, f1, f2, f3, f4, f5, f6, f7, f8, f9, f10, f11, f12, f13, f14, f15, f16, f17, f18, f19, f20, f21, f22, f23, f24, f25, f26, f27, f28, f29, f30, f31, f32⟩ := f
  obtain ⟨h0, h1, h2, h3, h4, h5, h6, h7, h8, h9, h10, h11, h12, h13, h14, h15, h16, h17, h18, h19, h20, h21, h22, h23, h24, h25, h26, h27, h28, h29, h30, h31, h32, hk⟩ := h c
  exact ⟨h0.trans ((delta_host ..).trans f0.symm), h1.trans ((delta_host ..).trans f1.symm),
    h2.trans ((delta_host ..).trans f2.symm), h3.trans ((delta_host ..).trans f3.symm),
    h4.trans ((delta_host ..).trans f4.symm), h5.trans ((delta_host ..).trans f5.symm),
    h6.trans ((delta_host ..).trans f6.symm), h7.trans ((delta_host ..).trans f7.symm),
    h8.trans ((delta_host ..).trans f8.symm), h9.trans ((delta_host ..).trans f9.symm),
    h10.trans ((delta_host ..).trans f10.symm), h11.trans ((newM_host ..).trans f11.symm),
    h12.trans ((newM_host ..).trans f12.symm), h13.trans ((newM_host ..).trans f13.symm),
    h14.trans ((newM_host ..).trans f14.symm), h15.trans ((newM_host ..).trans f15.symm),
    h16.trans ((newM_host ..).trans f16.symm), h17.trans ((newM_host ..).trans f17.symm),
    h18.trans ((newM_host ..).trans f18.symm), h19.trans ((newM_host ..).trans f19.symm),
    h20.trans ((newM_host ..).trans f20.symm), h21.trans ((newM_host ..).trans f21.symm),
    h22.trans ((newV_host ..).trans f22.symm), h23.trans ((newV_host ..).trans f23.symm),
    h24.trans ((newV_host ..).trans f24.symm), h25.trans ((newV_host ..).trans f25.symm),
    h26.trans ((newV_host ..).trans f26.symm), h27.trans ((newV_host ..).trans f27.symm),
    h28.trans ((newV_host ..).trans f28.symm), h29.trans ((newV_host ..).trans f29.symm),
    h30.trans ((newV_host ..).trans f30.symm), h31.trans ((newV_host ..).trans f31.symm),
    h32.trans ((newV_host ..).trans f32.symm), hk⟩

end Kernel
end Cert.Adamw
end
-- ==== Proof.Step.Sums.lean ====
/-
  The sum over the eight devices of the small gradients and of the loss: the version packs every device's twelve
  arrays, side by side, into one slot of 16 rows of 1024, adds the eight slots in one call and cuts the sums out again;
  the reference sums each array by itself.
-/
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import Idealize.ShloMosaic.Lib.Claim
public import Idealize.ShloMosaic.Lib.Pipeline.ValueKit
public import Idealize.ShloMosaic.Lib.Pipeline.ReadBack
public import Idealize.ShloMosaic.Lib.Tactic.CleanTypes
public import Idealize.ShloMosaic.Lib.Pointwise
public import Idealize.ShloMosaic.Lib.KernelVsHost

@[expose] public section
set_option maxRecDepth 65536
noncomputable section
namespace Cert.Sums
open Idealize.ShloMosaic Idealize.ShloMosaic.TcCoe Idealize.SL.Sem

/-- Eight arrays of `p` rows and `q` columns, one per device. -/
abbrev Eight (p q : Nat) := FVec Ideal ⟨3, ![8, p, q]⟩ .f32

/-- The sum of the eight arrays. -/
def total {p q : Nat} (a : Eight p q) : FVec Ideal ⟨2, ![p, q]⟩ .f32 :=
  fun j => ∑ d : Fin 8, a (ix3 d (j 0 : Fin p) (j 1 : Fin q))

/-! ## The pack -/

section Pack
open Cert.Kernel13Ideal Cert.Kernel13Ideal.Gen

/-- One device's row of eight flat arrays. -/
def row {n : Nat} (d : Fin 8) (x : FVec Ideal ⟨2, ![8, n]⟩ .f32) : FVec Ideal ⟨1, ![n]⟩ .f32 :=
  fun e => x (ix2 d (e 0 : Fin n))

/-- A row of the eight arrays made flat, back in the arrays' shape: that device's array. -/
theorem row_flat {p q n : Nat} (hn : n = p * q) (d : Fin 8) (a : Eight p q)
    (h : (⟨3, ![8, p, q]⟩ : Shape).ShapeCasts ⟨2, ![8, n]⟩) (h' : (⟨1, ![n]⟩ : Shape).ShapeCasts ⟨2, ![p, q]⟩)
    (j : (⟨2, ![p, q]⟩ : Shape).Idx) :
    shapeCast ⟨2, ![p, q]⟩ (row d (shapeCast ⟨2, ![8, n]⟩ a h)) h' j = a (ix3 d (j 0 : Fin p) (j 1 : Fin q)) := by
  have h0 : (j 0).val < p := (j 0).isLt
  have h1 : (j 1).val < q := (j 1).isLt
  have hlt : (j 0).val * q + (j 1).val < n := by
    have : ((j 0).val + 1) * q ≤ p * q := Nat.mul_le_mul_right q h0
    rw [Nat.add_mul] at this; omega
  refine (shapeCast_apply _ h' j (ix1 (⟨(j 0).val * q + (j 1).val, hlt⟩ : Fin n)) ?_).trans ?_
  · rw [Shape.rowMajor_val_one, Shape.rowMajor_val_two]; rfl
  refine shapeCast_apply a h _ (ix3 d (j 0 : Fin p) (j 1 : Fin q)) ?_
  rw [Shape.rowMajor_val_two, Shape.rowMajor_val_three]
  show (d.val * p + (j 0).val) * q + (j 1).val = d.val * n + ((j 0).val * q + (j 1).val)
  rw [hn, Nat.add_mul, Nat.mul_assoc]; omega

/-- A row of pieces joined, padded to 16384 entries with `z`, and cut again where one of the pieces starts: that
    piece's row. -/
theorem slice_row (xs : List ((s : Shape) × FVec Ideal s .f32)) (h : Shape.Concatenates (xs.map (·.1)) S8x13321 1)
    (z : FVec Ideal S_ .f32) (d : Fin 8) (k n o : Nat) (x : FVec Ideal ⟨2, ![8, n]⟩ .f32) (hk : k < xs.length)
    (hx : xs[k] = ⟨⟨2, ![8, n]⟩, x⟩)
    (ho : (((xs.take k).map (·.1)).map fun s => if h : s.rank = S8x13321.rank then s.size ((1 : Fin 2).cast h.symm) else 0).sum = o)
    (hon : o + n ≤ 13321) (hs : S16384.Slices ![o] ⟨1, ![n]⟩) :
    extractStridedSlice ⟨1, ![n]⟩ ![o] (row d (pad S8x16384 ![0, 0] ![0, 3063] ![0, 0] (concatenate S8x13321 1 xs h) z
      pads_S8x13321_S8x16384_000_030630 h_S_)) hs = row d x := by
  funext j
  have hj : (j 0).val < n := (j 0).isLt
  refine (extractStridedSlice_apply _ _ hs j (ix1 (⟨o + (j 0).val, by omega⟩ : Fin 16384)) ?_).trans ?_
  · intro a; match a with | 0 => rfl
  refine (pad_apply_of_inside _ _ _ _ z _ _ _ (ix2 d (⟨o + (j 0).val, by omega⟩ : Fin 13321)) ?_).trans ?_
  · intro a
    match a with
    | 0 => show d.val = 0 + d.val * (0 + 1); omega
    | 1 => show o + (j 0).val = 0 + (o + (j 0).val) * (0 + 1); omega
  refine concatenate_apply_piece _ xs h _ k hk _ x hx rfl o ho (ix2 d (j 0 : Fin n)) (fun b hb => ?_) rfl
  match b with
  | 0 => rfl
  | 1 => exact absurd rfl hb

/-- The sum of the eight slots, flat, is the sum of the eight rows. -/
theorem total_flat (x : FVec Ideal S8x16384 .f32) :
    shapeCast S16384 (total (p := 16) (q := 1024) (shapeCast S8x16x1024 x shapeCasts_S8x16384_S8x16x1024)) shapeCasts_S16x1024_S16384
      = fun e => ∑ d : Fin 8, row d x e := by
  funext e
  have he : (e 0).val < 16384 := (e 0).isLt
  refine (shapeCast_apply _ _ e (ix2 (⟨(e 0).val / 1024, by omega⟩ : Fin 16) (⟨(e 0).val % 1024, by omega⟩ : Fin 1024)) ?_).trans ?_
  · rw [Shape.rowMajor_val_one, Shape.rowMajor_val_two]
    show (e 0).val / 1024 * 1024 + (e 0).val % 1024 = (e 0).val
    omega
  refine Finset.sum_congr rfl fun d _ => shapeCast_apply x _ _ (ix2 d (⟨(e 0).val, he⟩ : Fin 16384)) ?_
  rw [Shape.rowMajor_val_two, Shape.rowMajor_val_three]
  show d.val * 16384 + (e 0).val = (d.val * 16 + (e 0).val / 1024) * 1024 + (e 0).val % 1024
  omega

/-- The `n` entries of a pack from entry `o` on, as an array of shape `t`. -/
def cut {t : Shape} {n o : Nat} (hs : S16384.Slices ![o] ⟨1, ![n]⟩) (ht : (⟨1, ![n]⟩ : Shape).ShapeCasts t)
    (p : FVec Ideal S16x1024 .f32) : FVec Ideal t .f32 :=
  shapeCast t (extractStridedSlice ⟨1, ![n]⟩ ![o] (shapeCast S16384 p shapeCasts_S16x1024_S16384) hs) ht

/-- The eight slots of pieces: joined side by side, padded to 16384 entries with zeros and cut into 16 rows. -/
def slots (xs : List ((s : Shape) × FVec Ideal s .f32)) (h : Shape.Concatenates (xs.map (·.1)) S8x13321 1) :
    FVec Ideal S8x16x1024 .f32 :=
  shapeCast S8x16x1024 (pad S8x16384 ![0, 0] ![0, 3063] ![0, 0] (concatenate S8x13321 1 xs h)
    (sitofp .f32 (constantI S_ 32 0#32)) pads_S8x13321_S8x16384_000_030630 h_S_) shapeCasts_S8x16384_S8x16x1024

/-- Cutting a sum of rows is summing the rows' cuts. -/
theorem cut_rows {t : Shape} {n o : Nat} (hs : S16384.Slices ![o] ⟨1, ![n]⟩) (ht : (⟨1, ![n]⟩ : Shape).ShapeCasts t)
    (x : FVec Ideal S8x16384 .f32) (j : t.Idx) :
    shapeCast t (extractStridedSlice ⟨1, ![n]⟩ ![o] ((fun e => ∑ d : Fin 8, row d x e) : FVec Ideal S16384 .f32) hs) ht j
      = ∑ d : Fin 8, shapeCast t (extractStridedSlice ⟨1, ![n]⟩ ![o] (row d x) hs) ht j := rfl

/-- Cut from the sum of the slots where one piece starts: the sum of that piece's eight arrays. -/
theorem cut_slots {p q n o : Nat} (xs : List ((s : Shape) × FVec Ideal s .f32))
    (h : Shape.Concatenates (xs.map (·.1)) S8x13321 1) (k : Nat) (a : Eight p q)
    (hf : (⟨3, ![8, p, q]⟩ : Shape).ShapeCasts ⟨2, ![8, n]⟩)
    (hs : S16384.Slices ![o] ⟨1, ![n]⟩) (ht : (⟨1, ![n]⟩ : Shape).ShapeCasts ⟨2, ![p, q]⟩)
    (hn : n = p * q) (hk : k < xs.length) (hx : xs[k] = ⟨⟨2, ![8, n]⟩, shapeCast ⟨2, ![8, n]⟩ a hf⟩)
    (ho : (((xs.take k).map (·.1)).map fun s => if h : s.rank = S8x13321.rank then s.size ((1 : Fin 2).cast h.symm) else 0).sum = o)
    (hon : o + n ≤ 13321) :
    cut hs ht (total (p := 16) (q := 1024) (slots xs h)) = total a := by
  unfold cut slots
  rw [total_flat]
  funext j
  have e (d : Fin 8) := (congrArg (fun r => shapeCast ⟨2, ![p, q]⟩ r ht j) (slice_row xs h (sitofp .f32 (constantI S_ 32 0#32))
    d k n o _ hk hx ho hon hs)).trans (row_flat hn d a hf ht j)
  exact (cut_rows hs ht _ j).trans (Finset.sum_congr rfl fun d _ => e d)

/-- The slots of the twelve arrays. -/
def pack (a0 : FVec Ideal S8x1x3592 .f32) (a1 : FVec Ideal S8x2x512 .f32) (a2 : FVec Ideal S8x4x512 .f32)
    (a3 a4 a5 : FVec Ideal S8x1x512 .f32) (a6 a7 a8 a9 a10 : FVec Ideal S8x1x1024 .f32) (a11 : FVec Ideal S8x1x1 .f32) :
    FVec Ideal S8x16x1024 .f32 :=
  slots [⟨S8x3592, shapeCast S8x3592 a0 shapeCasts_S8x1x3592_S8x3592⟩, ⟨S8x1024, shapeCast S8x1024 a1 shapeCasts_S8x2x512_S8x1024⟩,
      ⟨S8x2048, shapeCast S8x2048 a2 shapeCasts_S8x4x512_S8x2048⟩, ⟨S8x512, shapeCast S8x512 a3 shapeCasts_S8x1x512_S8x512⟩,
      ⟨S8x512, shapeCast S8x512 a4 shapeCasts_S8x1x512_S8x512⟩, ⟨S8x512, shapeCast S8x512 a5 shapeCasts_S8x1x512_S8x512⟩,
      ⟨S8x1024, shapeCast S8x1024 a6 shapeCasts_S8x1x1024_S8x1024⟩, ⟨S8x1024, shapeCast S8x1024 a7 shapeCasts_S8x1x1024_S8x1024⟩,
      ⟨S8x1024, shapeCast S8x1024 a8 shapeCasts_S8x1x1024_S8x1024⟩, ⟨S8x1024, shapeCast S8x1024 a9 shapeCasts_S8x1x1024_S8x1024⟩,
      ⟨S8x1024, shapeCast S8x1024 a10 shapeCasts_S8x1x1024_S8x1024⟩, ⟨S8x1, shapeCast S8x1 a11 shapeCasts_S8x1x1_S8x1⟩]
    concatenates_S8x3592_S8x1024_S8x2048_S8x512_S8x512_S8x512_S8x1024_S8x1024_S8x1024_S8x1024_S8x1024_S8x1_S8x13321_d1

abbrev cut0 := cut slices_S16384_S3592_0 shapeCasts_S3592_S1x3592
abbrev cut1 := cut slices_S16384_S1024_3592 shapeCasts_S1024_S2x512
abbrev cut2 := cut slices_S16384_S2048_4616 shapeCasts_S2048_S4x512
abbrev cut3 := cut slices_S16384_S512_6664 shapeCasts_S512_S1x512
abbrev cut4 := cut slices_S16384_S512_7176 shapeCasts_S512_S1x512
abbrev cut5 := cut slices_S16384_S512_7688 shapeCasts_S512_S1x512
abbrev cut6 := cut slices_S16384_S1024_8200 shapeCasts_S1024_S1x1024
abbrev cut7 := cut slices_S16384_S1024_9224 shapeCasts_S1024_S1x1024
abbrev cut8 := cut slices_S16384_S1024_10248 shapeCasts_S1024_S1x1024
abbrev cut9 := cut slices_S16384_S1024_11272 shapeCasts_S1024_S1x1024
abbrev cut10 := cut slices_S16384_S1024_12296 shapeCasts_S1024_S1x1024
abbrev cut11 := cut slices_S16384_S1_13320 shapeCasts_S1_S1x1

set_option maxHeartbeats 4000000 in
/-- Each cut of the sum of the slots is the sum of the array that was packed there. -/
theorem cut_pack (a0 : FVec Ideal S8x1x3592 .f32) (a1 : FVec Ideal S8x2x512 .f32) (a2 : FVec Ideal S8x4x512 .f32)
    (a3 a4 a5 : FVec Ideal S8x1x512 .f32) (a6 a7 a8 a9 a10 : FVec Ideal S8x1x1024 .f32) (a11 : FVec Ideal S8x1x1 .f32) :
    let t := total (p := 16) (q := 1024) (pack a0 a1 a2 a3 a4 a5 a6 a7 a8 a9 a10 a11)
    cut0 t = total (p := 1) (q := 3592) a0 ∧ cut1 t = total (p := 2) (q := 512) a1 ∧ cut2 t = total (p := 4) (q := 512) a2
      ∧ cut3 t = total (p := 1) (q := 512) a3 ∧ cut4 t = total (p := 1) (q := 512) a4 ∧ cut5 t = total (p := 1) (q := 512) a5
      ∧ cut6 t = total (p := 1) (q := 1024) a6 ∧ cut7 t = total (p := 1) (q := 1024) a7
      ∧ cut8 t = total (p := 1) (q := 1024) a8 ∧ cut9 t = total (p := 1) (q := 1024) a9
      ∧ cut10 t = total (p := 1) (q := 1024) a10 ∧ cut11 t = total (p := 1) (q := 1) a11 := by
  refine ⟨cut_slots _ _ 0 a0 _ _ _ rfl ?_ rfl ?_ ?_, cut_slots _ _ 1 a1 _ _ _ rfl ?_ rfl ?_ ?_,
    cut_slots _ _ 2 a2 _ _ _ rfl ?_ rfl ?_ ?_, cut_slots _ _ 3 a3 _ _ _ rfl ?_ rfl ?_ ?_,
    cut_slots _ _ 4 a4 _ _ _ rfl ?_ rfl ?_ ?_, cut_slots _ _ 5 a5 _ _ _ rfl ?_ rfl ?_ ?_,
    cut_slots _ _ 6 a6 _ _ _ rfl ?_ rfl ?_ ?_, cut_slots _ _ 7 a7 _ _ _ rfl ?_ rfl ?_ ?_,
    cut_slots _ _ 8 a8 _ _ _ rfl ?_ rfl ?_ ?_, cut_slots _ _ 9 a9 _ _ _ rfl ?_ rfl ?_ ?_,
    cut_slots _ _ 10 a10 _ _ _ rfl ?_ rfl ?_ ?_, cut_slots _ _ 11 a11 _ _ _ rfl ?_ rfl ?_ ?_⟩
  all_goals first | decide | rfl | simp

/-- After the host operations that follow the call, each result is a cut of the call's array. -/
theorem results (W : Valuation τ sig (Elt Ideal)) :
    let W1 := fun b : Ref sig .tc => StableHlo.after hostOps1 W (Proc.devRef .tc b)
    let t := W (Proc.devRef .tc main_v15)
    W1 main_v18 = cut0 t ∧ W1 main_v20 = cut1 t ∧ W1 main_v22 = cut2 t ∧ W1 main_v24 = cut3 t ∧ W1 main_v26 = cut4 t
      ∧ W1 main_v28 = cut5 t ∧ W1 main_v30 = cut6 t ∧ W1 main_v32 = cut7 t ∧ W1 main_v34 = cut8 t
      ∧ W1 main_v36 = cut9 t ∧ W1 main_v38 = cut10 t ∧ W1 main_v40 = cut11 t := by
  refine ⟨?_, ?_, ?_, ?_, ?_, ?_, ?_, ?_, ?_, ?_, ?_, ?_⟩
  all_goals
    after_reads_simp
    rfl

/-! ## The call -/

open Idealize.ShloMosaic.Pipeline (Dat)
variable (m : (ℓ : Loc nD τ sig) → Buf (Elt Ideal) ℓ) (c : Dev nD)

/-- The slots of the twelve arguments. -/
def packed : FVec Ideal S8x16x1024 .f32 :=
  pack (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

set_option maxHeartbeats 8000000 in
/-- The call finds the slots. -/
theorem entry : V m c main_v14 = packed m c := by
  simp only [V, V0]
  after_reads_simp
  rfl

/-- Both windows' one block is the whole array. -/
theorem idx : ∀ t : Fin cfg0.N, win0_0.index t = ![0, 0, 0] ∧ win0_1.index t = ![0, 0] := by
  decide +kernel

/-- An entry of a window's one block is the same entry of the array. -/
theorem embs (t : Fin cfg0.N) : (∀ y, (win0_0.blk t).view.emb y = y) ∧ (∀ y, (win0_1.blk t).view.emb y = y) := by
  obtain ⟨i0, i1⟩ := idx t
  refine ⟨fun y => funext fun a => Fin.ext ?_, fun y => funext fun a => Fin.ext ?_⟩
  all_goals
    blk_simp
    first | rw [i0] | rw [i1]
  · match a with | 0 => simp | 1 => simp | 2 => simp
  · match a with | 0 => simp | 1 => simp

/-- The block the body reads is the slots. -/
theorem block (t : Fin cfg0.N) : (iblk m c 0 t : FVec Ideal S8x16x1024 .f32) = packed m c := by
  have e := entry m c
  unfold iblk
  generalize V m c = X at e ⊢
  generalize packed m c = g at e ⊢
  exact (funext fun y => congrArg (X main_v14) ((embs t).1 y)).trans e

/-- A slot read from the block, without its leading index. -/
theorem slot (x : FVec Ideal S8x16x1024 .f32) (d : Fin 8) (inb) (y : S16x1024.Idx) :
    shapeCast S16x1024 (View.ld (Val := Elt Ideal) (e' := .f32) x (Rect.unit (s := S8x16x1024) ![d.val, 0, 0] S1x16x1024.size inb))
      shapeCasts_S1x16x1024_S16x1024 y = x (ix3 d (y 0 : Fin 16) (y 1 : Fin 1024)) := by
  refine (shapeCast_apply _ _ y (ix3 (0 : Fin 1) (y 0 : Fin 16) (y 1 : Fin 1024)) ?_).trans ?_
  · rw [Shape.rowMajor_val_two, Shape.rowMajor_val_three]
    show (0 * 16 + (y 0).val) * 1024 + (y 1).val = (y 0).val * 1024 + (y 1).val
    omega
  refine View.ld_unit_apply_of (Val := Elt Ideal) (e := .f32) x _ _ inb _ (ix3 d (y 0 : Fin 16) (y 1 : Fin 1024)) fun a => ?_
  match a with
  | 0 => rfl
  | 1 => exact (Nat.zero_add _).symm
  | 2 => exact (Nat.zero_add _).symm

/-- What the body stores, from the block it reads: the sum of the eight slots. -/
theorem out (x : FVec Ideal S8x16x1024 .f32) : out0_1 (F := Ideal) x = total (p := 16) (q := 1024) x := by
  have e : k0_pay1 (F := Ideal) (View.ld x r0_0) (View.ld x r0_1) (View.ld x r0_2) (View.ld x r0_3) (View.ld x r0_4)
      (View.ld x r0_5) (View.ld x r0_6) (View.ld x r0_7) = total (p := 16) (q := 1024) x := by
    funext y
    refine Eq.trans ?_ (Fin.sum_univ_eight fun d : Fin 8 => x (ix3 d (y 0 : Fin 16) (y 1 : Fin 1024))).symm
    rw [← slot x 0 inb_S8x16x1024_S1x16x1024_0_0_0 y, ← slot x 1 inb_S8x16x1024_S1x16x1024_1_0_0 y,
      ← slot x 2 inb_S8x16x1024_S1x16x1024_2_0_0 y, ← slot x 3 inb_S8x16x1024_S1x16x1024_3_0_0 y,
      ← slot x 4 inb_S8x16x1024_S1x16x1024_4_0_0 y, ← slot x 5 inb_S8x16x1024_S1x16x1024_5_0_0 y,
      ← slot x 6 inb_S8x16x1024_S1x16x1024_6_0_0 y, ← slot x 7 inb_S8x16x1024_S1x16x1024_7_0_0 y]
    rfl
  rw [← e]; unfold out0_1; frame_out

/-- An array whose one block the body leaves as `f` ends as `f`. -/
theorem array_of (f : FVec Ideal S16x1024 .f32) (h : ∀ t, out0_1 (iblk m c 0 t) = f) : (dats m 0 c).arrAt 1 cfg0.N = f := by
  refine (dats m 0 c).arrAt_eq_of_covers 1 _ (by decide +kernel) fun t hf y => ?_
  rw [after0_1, h t]; exact (congrArg f ((embs t).2 y)).symm

/-- The call's array: the sum of the slots. -/
theorem array : (dats m 0 c).arrAt 1 cfg0.N = total (p := 16) (q := 1024) (packed m c) := by
  refine array_of m c _ fun t => ?_
  rw [block m c t]
  exact out _

/-- A result of the kernel: a buffer after the host operations that follow the call. -/
abbrev res (c : Dev nD) (b : Ref sig .tc) : Buf (Elt Ideal) ((c : Thread nD τ).loc b) :=
  Pipeline.afterTail₀ cfgs (dats m) 0 (V0 m) [hostOps1] c b

/-- The kernel's results: each argument's own sum over the devices. -/
theorem final : let o := res m c
    let a := fun b : Ref sig .tc => m ((c : Thread nD τ).loc b)
    o main_v18 = total (p := 1) (q := 3592) (a main_arg0) ∧ o main_v20 = total (p := 2) (q := 512) (a main_arg1)
      ∧ o main_v22 = total (p := 4) (q := 512) (a main_arg2) ∧ o main_v24 = total (p := 1) (q := 512) (a main_arg3)
      ∧ o main_v26 = total (p := 1) (q := 512) (a main_arg4) ∧ o main_v28 = total (p := 1) (q := 512) (a main_arg5)
      ∧ o main_v30 = total (p := 1) (q := 1024) (a main_arg6) ∧ o main_v32 = total (p := 1) (q := 1024) (a main_arg7)
      ∧ o main_v34 = total (p := 1) (q := 1024) (a main_arg8) ∧ o main_v36 = total (p := 1) (q := 1024) (a main_arg9)
      ∧ o main_v38 = total (p := 1) (q := 1024) (a main_arg10) ∧ o main_v40 = total (p := 1) (q := 1) (a main_arg11) := by
  intro o a
  have e : Pipeline.withArrays spec0 c (V0 m c) (fun w => (dats m 0 c).arrAt w cfg0.N) (Proc.devRef .tc main_v15)
      = total (p := 16) (q := 1024) (packed m c) :=
    (Pipeline.withArrays_arr spec0 (by decide +kernel) c _ _ 1).trans (array m c)
  have r := results (Pipeline.withArrays spec0 c (V0 m c) fun w => (dats m 0 c).arrAt w cfg0.N)
  obtain ⟨g0, g1, g2, g3, g4, g5, g6, g7, g8, g9, g10, g11⟩ := cut_pack (a main_arg0) (a main_arg1) (a main_arg2) (a main_arg3)
    (a main_arg4) (a main_arg5) (a main_arg6) (a main_arg7) (a main_arg8) (a main_arg9) (a main_arg10) (a main_arg11)
  simp only [e] at r
  obtain ⟨r0, r1, r2, r3, r4, r5, r6, r7, r8, r9, r10, r11⟩ := r
  exact ⟨r0.trans g0, r1.trans g1, r2.trans g2, r3.trans g3, r4.trans g4, r5.trans g5, r6.trans g6, r7.trans g7,
    r8.trans g8, r9.trans g9, r10.trans g10, r11.trans g11⟩

end Pack

/-! ## The reference's sums -/

/-- The reference's line of one sum: from zero over the leading axis. -/
theorem total_host {p q : Nat} (h : (⟨3, ![8, p, q]⟩ : Shape).ReducesTo [0] ⟨2, ![p, q]⟩) (a : Eight p q)
    (hS : 0 < Cert.Reference13Ideal.S_.numel) :
    Host.reduceAdd a (constant Cert.Reference13Ideal.S_ .f32 0x00000000#32) h hS = total a := by
  funext j
  have h' : (⟨3, ![8, p, q]⟩ : Shape).Reduces [0] ⟨2, ![p, q]⟩ :=
    ⟨rfl, Nat.zero_lt_two, fun b => match b with | 0 => rfl | 1 => rfl⟩
  simp only [Host.reduceAdd, Ideal.hostReduceAdd_def]
  rw [Ideal.hostReduceAdd_single h h']
  refine (congrArg (· + _) Ideal.ofBits_zero_f32).trans ((zero_add _).trans ?_)
  refine Finset.sum_congr rfl fun d _ => congrArg a (funext fun b => Fin.ext ?_)
  match b with
  | 0 => rfl
  | 1 => rfl
  | 2 => rfl

/-- The reference leaves its arguments. -/
theorem frame_reference : Cert.quiescent_Reference13Ideal := fun m ρ _ =>
  (θ_run Cert.Reference13Ideal.defs _ _).mono (fun r h => ⟨fun c => (h c).2.2.2.2.2.2.2.2.2.2.2.2,
    sem_eq_zero_of_no_sems (by decide) r.2⟩) (Cert.Reference13Ideal.Value.run (F := Ideal) m ρ)

section Pack
open Cert.Kernel13Ideal Cert.Kernel13Ideal.Gen

set_option maxHeartbeats 4000000 in
/-- The packed sum and the twelve plain ones leave the same arrays. -/
theorem algebraic : Cert.algebraic_Kernel13Ideal_Reference13Ideal := by
  intro m g m' g' _ hargs
  refine ⟨fun c => res m c main_v18, fun c => res m c main_v20, fun c => res m c main_v22, fun c => res m c main_v24,
    fun c => res m c main_v26, fun c => res m c main_v28, fun c => res m c main_v30, fun c => res m c main_v32,
    fun c => res m c main_v34, fun c => res m c main_v36, fun c => res m c main_v38, fun c => res m c main_v40, ?_, ?_⟩
  · refine (θ_run Cert.Kernel13Ideal.defs _ _).mono (fun r h c => ?_) (θ_run_and (run_main m g) (unchanged m g))
    refine ⟨?_, ?_, ?_, ?_, ?_, ?_, ?_, ?_, ?_, ?_, ?_, ?_, h.2 c⟩
    all_goals exact (h.1 c).2 _ (Pipeline.mem_restRefs_of _ (by decide) (by decide))
  refine (θ_run Cert.Reference13Ideal.defs _ _).mono (fun r h c => ?_) (Cert.Reference13Ideal.Value.run (F := Ideal) m' g')
  obtain ⟨e0, e1, e2, e3, e4, e5, e6, e7, e8, e9, e10, e11⟩ := hargs c
  have f := final m c
  simp only [← e0, ← e1, ← e2, ← e3, ← e4, ← e5, ← e6, ← e7, ← e8, ← e9, ← e10, ← e11] at f
  obtain ⟨f0, f1, f2, f3, f4, f5, f6, f7, f8, f9, f10, f11⟩ := f
  obtain ⟨h0, h1, h2, h3, h4, h5, h6, h7, h8, h9, h10, h11, hk⟩ := h c
  exact ⟨h0.trans ((total_host _ _ _).trans f0.symm), h1.trans ((total_host _ _ _).trans f1.symm),
    h2.trans ((total_host _ _ _).trans f2.symm), h3.trans ((total_host _ _ _).trans f3.symm),
    h4.trans ((total_host _ _ _).trans f4.symm), h5.trans ((total_host _ _ _).trans f5.symm),
    h6.trans ((total_host _ _ _).trans f6.symm), h7.trans ((total_host _ _ _).trans f7.symm),
    h8.trans ((total_host _ _ _).trans f8.symm), h9.trans ((total_host _ _ _).trans f9.symm),
    h10.trans ((total_host _ _ _).trans f10.symm), h11.trans ((total_host _ _ _).trans f11.symm), hk⟩

end Pack
end Cert.Sums
end
-- ==== Proof.lean ====
/-
  The certificate of the training step's backward calls: the claims of the statement, put together from the modules under
  Proof/.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Conv.Claim
public import proofs.«01_k».proof.Proof.Head.Claim
public import proofs.«01_k».proof.Proof.Ffn.Claim
public import proofs.«01_k».proof.Proof.Fwd.Conv
public import proofs.«01_k».proof.Proof.Fwd.Mix
public import proofs.«01_k».proof.Proof.Fwd.Up
public import proofs.«01_k».proof.Proof.Fwd.Down
public import proofs.«01_k».proof.Proof.Fwd.In
public import proofs.«01_k».proof.Proof.Step.InBwd
public import proofs.«01_k».proof.Proof.Step.Wgrad
public import proofs.«01_k».proof.Proof.Fwd.Hgrn
public import proofs.«01_k».proof.Proof.Step.Adamw
public import proofs.«01_k».proof.Proof.Step.Sums

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite_cotangent.facts, Cert.Pre_finite_head.facts, Cert.Pre_finite_ffn.facts, Cert.Pre_bounded_decays.facts,
  fun m ρ _ => Cert.Kernel.Gen.frame m ρ, fun m ρ _ => Cert.KernelIdeal.Gen.frame m ρ, fun m ρ _ => Cert.KernelIdeal.Gen.frame m ρ,
  Cert.Conv.frame_reference, fun m ρ _ => Cert.Conv.frame_reference m ρ trivial,
  fun m ρ _ => Cert.Kernel2.Gen.frame m ρ, fun m ρ _ => Cert.Kernel2Ideal.Gen.frame m ρ, fun m ρ _ => Cert.Kernel2Ideal.Gen.frame m ρ,
  Cert.Head.frame_reference, fun m ρ _ => Cert.Head.frame_reference m ρ trivial,
  fun m ρ _ => Cert.Kernel3.Gen.frame m ρ, fun m ρ _ => Cert.Kernel3Ideal.Gen.frame m ρ, fun m ρ _ => Cert.Kernel3Ideal.Gen.frame m ρ,
  Cert.Ffn.frame_reference, fun m ρ _ => Cert.Ffn.frame_reference m ρ trivial,
  fun m ρ _ => Cert.Kernel4.Gen.frame m ρ, fun m ρ _ => Cert.Kernel4Ideal.Gen.frame m ρ, Cert.ConvFwd.frame_reference,
  fun m ρ _ => Cert.Kernel5.Gen.frame m ρ, fun m ρ _ => Cert.Kernel5Ideal.Gen.frame m ρ, Cert.Mix.frame_reference,
  fun m ρ _ => Cert.Kernel6.Gen.frame m ρ, fun m ρ _ => Cert.Kernel6Ideal.Gen.frame m ρ, Cert.Up.frame_reference,
  fun m ρ _ => Cert.Kernel7.Gen.frame m ρ, fun m ρ _ => Cert.Kernel7Ideal.Gen.frame m ρ, Cert.Down.frame_reference,
  fun m ρ _ => Cert.Kernel8.Gen.frame m ρ, fun m ρ _ => Cert.Kernel8Ideal.Gen.frame m ρ, Cert.In.frame_reference,
  fun m ρ _ => Cert.Kernel9.Gen.frame m ρ, fun m ρ _ => Cert.Kernel9Ideal.Gen.frame m ρ, Cert.InBwd.frame_reference,
  fun m ρ _ => Cert.Kernel10.Gen.frame m ρ, fun m ρ _ => Cert.Kernel10Ideal.Gen.frame m ρ, Cert.Wgrad.frame_reference,
  fun m ρ _ => Cert.Kernel11.Gen.frame m ρ, fun m ρ _ => Cert.Kernel11Ideal.Gen.frame m ρ, fun m ρ _ => Cert.Kernel11Ideal.Gen.frame m ρ,
  Cert.Hgrn.frame_reference, fun m ρ _ => Cert.Hgrn.frame_reference m ρ trivial,
  fun m ρ _ => Cert.Kernel12.Gen.frame m ρ, fun m ρ _ => Cert.Kernel12Ideal.Gen.frame m ρ, Cert.Adamw.frame_reference,
  fun m ρ _ => Cert.Kernel13.Gen.frame m ρ, fun m ρ _ => Cert.Kernel13Ideal.Gen.frame m ρ, Cert.Sums.frame_reference,
  trivial, Cert.Conv.algebraic, trivial, Cert.Head.algebraic, trivial, Cert.Ffn.algebraic,
  trivial, Cert.ConvFwd.algebraic, trivial, Cert.Mix.algebraic, trivial, Cert.Up.algebraic, trivial, Cert.Down.algebraic, trivial, Cert.In.algebraic, trivial, Cert.InBwd.algebraic, trivial, Cert.Wgrad.algebraic, trivial, Cert.Hgrn.algebraic, trivial, Cert.Adamw.algebraic, trivial, Cert.Sums.algebraic⟩

end Cert.Proof

end
